-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v11_0)) (v1 : (c : Dev Cert.KernelIdeal.nD) → Buf (Elt Ideal) ((c.tc : Thread Cert.KernelIdeal.nD Cert.KernelIdeal.τ).loc Cert.KernelIdeal.main_v11_1)) (v2 : (c : Dev Cert.KernelIdeal.nD) → Buf (Elt Ideal) ((c.tc : Thread Cert.KernelIdeal.nD Cert.KernelIdeal.τ).loc Cert.KernelIdeal.main_v11_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11_0) = v0 c
          ∧ r.2.mem ((c.tc : Thread Cert.KernelIdeal.nD Cert.KernelIdeal.τ).loc Cert.KernelIdeal.main_v11_1) = v1 c
          ∧ r.2.mem ((c.tc : Thread Cert.KernelIdeal.nD Cert.KernelIdeal.τ).loc Cert.KernelIdeal.main_v11_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14_0) = v0 c
          ∧ r.2.mem ((c.tc : Thread Cert.ReferenceIdeal.nD Cert.ReferenceIdeal.τ).loc Cert.ReferenceIdeal.main_v14_1) = v1 c
          ∧ r.2.mem ((c.tc : Thread Cert.ReferenceIdeal.nD Cert.ReferenceIdeal.τ).loc Cert.ReferenceIdeal.main_v14_2) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4x1x7680 : Shape := ⟨3, ![4, 1, 7680]⟩
abbrev S4x1x6x160 : Shape := ⟨4, ![4, 1, 6, 160]⟩
abbrev S4x32768x6x160 : Shape := ⟨4, ![4, 32768, 6, 160]⟩
abbrev S4x6x160 : Shape := ⟨3, ![4, 6, 160]⟩
abbrev S4 : Shape := ⟨1, ![4]⟩
abbrev S24x8x160 : Shape := ⟨3, ![24, 8, 160]⟩
abbrev S4x6x160x32768 : Shape := ⟨4, ![4, 6, 160, 32768]⟩
abbrev S24x160x32768 : Shape := ⟨3, ![24, 160, 32768]⟩
abbrev S1x6x4x160 : Shape := ⟨4, ![1, 6, 4, 160]⟩
abbrev S6x4x160 : Shape := ⟨3, ![6, 4, 160]⟩
abbrev S_ : Shape := ⟨0, ![]⟩
abbrev S6x160x4096 : Shape := ⟨3, ![6, 160, 4096]⟩
abbrev S8x160x4096 : Shape := ⟨3, ![8, 160, 4096]⟩
abbrev S16x8x4096 : Shape := ⟨3, ![16, 8, 4096]⟩
abbrev S8x128 : Shape := ⟨2, ![8, 128]⟩
abbrev S24x8x128 : Shape := ⟨3, ![24, 8, 128]⟩
abbrev S8x160 : Shape := ⟨2, ![8, 160]⟩
abbrev S6 : Shape := ⟨1, ![6]⟩
abbrev S8 : Shape := ⟨1, ![8]⟩
abbrev S1 : Shape := ⟨1, ![1]⟩
abbrev S1x8x160 : Shape := ⟨3, ![1, 8, 160]⟩
abbrev S1x160x4096 : Shape := ⟨3, ![1, 160, 4096]⟩
abbrev S160x4096 : Shape := ⟨2, ![160, 4096]⟩
abbrev S8x4096 : Shape := ⟨2, ![8, 4096]⟩
abbrev S1x8x4096 : Shape := ⟨3, ![1, 8, 4096]⟩
abbrev S1x8x128 : Shape := ⟨3, ![1, 8, 128]⟩
abbrev S8x1 : Shape := ⟨2, ![8, 1]⟩
abbrev S1x1x160 : Shape := ⟨3, ![1, 1, 160]⟩
abbrev S1x160 : Shape := ⟨2, ![1, 160]⟩

abbrev nBuf : Space → Nat
  | .hbm => 28
  | .vmem => 16
  | .smem => 1
  | _ => 0

abbrev bufTy : (tb : Table) → Fin (tcTables nBuf tb) → BufTy
  | .hbm, ⟨0, _⟩ => ⟨S4x1x7680, .bf16⟩
  | .hbm, ⟨1, _⟩ => ⟨S4x1x6x160, .bf16⟩
  | .hbm, ⟨2, _⟩ => ⟨S4x1x6x160, .bf16⟩
  | .hbm, ⟨3, _⟩ => ⟨S4x32768x6x160, .bf16⟩
  | .hbm, ⟨4, _⟩ => ⟨S4x32768x6x160, .fp8e4m3⟩
  | .hbm, ⟨5, _⟩ => ⟨S4x6x160, .f32⟩
  | .hbm, ⟨6, _⟩ => ⟨S4, .i32⟩
  | .hbm, ⟨7, _⟩ => ⟨S24x8x160, .bf16⟩
  | .hbm, ⟨8, _⟩ => ⟨S4x6x160x32768, .bf16⟩
  | .hbm, ⟨9, _⟩ => ⟨S24x160x32768, .bf16⟩
  | .hbm, ⟨10, _⟩ => ⟨S4x6x160x32768, .fp8e4m3⟩
  | .hbm, ⟨11, _⟩ => ⟨S24x160x32768, .fp8e4m3⟩
  | .hbm, ⟨12, _⟩ => ⟨S1x6x4x160, .bf16⟩
  | .hbm, ⟨13, _⟩ => ⟨S6x4x160, .bf16⟩
  | .hbm, ⟨14, _⟩ => ⟨S1x6x4x160, .bf16⟩
  | .hbm, ⟨15, _⟩ => ⟨S6x4x160, .bf16⟩
  | .hbm, ⟨16, _⟩ => ⟨S6x4x160, .f32⟩
  | .hbm, ⟨17, _⟩ => ⟨S_, .i32⟩
  | .hbm, ⟨18, _⟩ => ⟨S_, .i32⟩
  | .hbm, ⟨19, _⟩ => ⟨S_, .i32⟩
  | .hbm, ⟨20, _⟩ => ⟨S4, .i32⟩
  | .hbm, ⟨21, _⟩ => ⟨S4, .i32⟩
  | .hbm, ⟨22, _⟩ => ⟨S_, .i32⟩
  | .hbm, ⟨23, _⟩ => ⟨S4, .i32⟩
  | .hbm, ⟨24, _⟩ => ⟨S4, .i32⟩
  | .hbm, ⟨25, _⟩ => ⟨S24x8x160, .bf16⟩
  | .hbm, ⟨26, _⟩ => ⟨S24x8x160, .f32⟩
  | .hbm, ⟨27, _⟩ => ⟨S6x4x160, .fp8e4m3⟩
  | .local _ .vmem, ⟨0, _⟩ => ⟨S24x8x160, .bf16⟩
  | .local _ .vmem, ⟨1, _⟩ => ⟨S6x4x160, .bf16⟩
  | .local _ .vmem, ⟨2, _⟩ => ⟨S6x4x160, .bf16⟩
  | .local _ .vmem, ⟨3, _⟩ => ⟨S6x4x160, .f32⟩
  | .local _ .vmem, ⟨4, _⟩ => ⟨S24x8x160, .bf16⟩
  | .local _ .vmem, ⟨5, _⟩ => ⟨S24x8x160, .f32⟩
  | .local _ .vmem, ⟨6, _⟩ => ⟨S6x4x160, .fp8e4m3⟩
  | .local _ .vmem, ⟨7, _⟩ => ⟨S6x160x4096, .bf16⟩
  | .local _ .vmem, ⟨8, _⟩ => ⟨S8x160x4096, .fp8e4m3⟩
  | .local _ .vmem, ⟨9, _⟩ => ⟨S16x8x4096, .f32⟩
  | .local _ .vmem, ⟨10, _⟩ => ⟨S8x128, .f32⟩
  | .local _ .vmem, ⟨11, _⟩ => ⟨S24x8x128, .f32⟩
  | .local _ .vmem, ⟨12, _⟩ => ⟨S8x128, .f32⟩
  | .local _ .vmem, ⟨13, _⟩ => ⟨S8x160, .f32⟩
  | .local _ .vmem, ⟨14, _⟩ => ⟨S6x4x160, .f32⟩
  | .local _ .vmem, ⟨15, _⟩ => ⟨S6x4x160, .f32⟩
  | .local _ .smem, ⟨0, _⟩ => ⟨S4, .i32⟩
  | _, _ => ⟨S4x1x7680, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .smem, ⟨0, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_c : Ref sig .tc := ⟨.hbm, 17, rfl⟩
abbrev main_c_0 : Ref sig .tc := ⟨.hbm, 18, rfl⟩
abbrev main_call0_v0 : Ref sig .tc := ⟨.hbm, 19, rfl⟩
abbrev main_call0_v1 : Ref sig .tc := ⟨.hbm, 20, rfl⟩
abbrev main_call0_v2 : Ref sig .tc := ⟨.hbm, 21, rfl⟩
abbrev main_call0_v3 : Ref sig .tc := ⟨.hbm, 22, rfl⟩
abbrev main_call0_v4 : Ref sig .tc := ⟨.hbm, 23, rfl⟩
abbrev main_v10 : Ref sig .tc := ⟨.hbm, 24, rfl⟩
abbrev main_v11_0 : Ref sig .tc := ⟨.hbm, 25, rfl⟩
abbrev main_v11_1 : Ref sig .tc := ⟨.hbm, 26, rfl⟩
abbrev main_v11_2 : Ref sig .tc := ⟨.hbm, 27, rfl⟩
abbrev cc0_stg1_0 : Ref sig .tc := ⟨.vmem, 0, rfl⟩
abbrev cc0_stg2_0 : Ref sig .tc := ⟨.vmem, 1, rfl⟩
abbrev cc0_stg3_0 : Ref sig .tc := ⟨.vmem, 2, rfl⟩
abbrev cc0_stg4_0 : Ref sig .tc := ⟨.vmem, 3, rfl⟩
abbrev cc0_stg5_0 : Ref sig .tc := ⟨.vmem, 4, rfl⟩
abbrev cc0_stg6_0 : Ref sig .tc := ⟨.vmem, 5, rfl⟩
abbrev cc0_stg7_0 : Ref sig .tc := ⟨.vmem, 6, rfl⟩
abbrev cc0_scratch0 : Ref sig .tc := ⟨.vmem, 7, rfl⟩
abbrev cc0_scratch1 : Ref sig .tc := ⟨.vmem, 8, rfl⟩
abbrev cc0_scratch2 : Ref sig .tc := ⟨.vmem, 9, rfl⟩
abbrev cc0_scratch3 : Ref sig .tc := ⟨.vmem, 10, rfl⟩
abbrev cc0_scratch4 : Ref sig .tc := ⟨.vmem, 11, rfl⟩
abbrev cc0_scratch5 : Ref sig .tc := ⟨.vmem, 12, rfl⟩
abbrev cc0_scratch6 : Ref sig .tc := ⟨.vmem, 13, rfl⟩
abbrev cc0_scratch7 : Ref sig .tc := ⟨.vmem, 14, rfl⟩
abbrev cc0_scratch8 : Ref sig .tc := ⟨.vmem, 15, rfl⟩
abbrev cc0_stg0_0 : Ref sig .tc := ⟨.smem, 0, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := .none

@[reducible] def k0_t1_loop : Scf.Loop 32 :=
  let c0_i32_2 : BitVec 32 := 0#32
  let c6_i32 : BitVec 32 := 6#32
  let v0 : BitVec 32 := Scalar.addi c0_i32_2 c6_i32
  let c1_i32 : BitVec 32 := 1#32
  ⟨c0_i32_2, v0, c1_i32⟩
def k0_off1 (arg22 : BitVec 32) : Fin 1 → Nat :=
  let c3_i32_58 : BitVec 32 := 3#32
  let v72 : BitVec 32 := Scalar.minsi arg22 c3_i32_58
  let v73 : Index := Scalar.indexCast v72
  ![v73.toNat]
def k0_cond1 (arg22 : BitVec 32) : BitVec 1 :=
  let c4_i32 : BitVec 32 := 4#32
  let v34 : BitVec 1 := Scalar.cmpi .slt arg22 c4_i32
  let v35 : BitVec 32 := Scalar.extui v34
  let c0_i32_45 : BitVec 32 := 0#32
  let v36 : BitVec 1 := Scalar.cmpi .ne v35 c0_i32_45
  v36

def k0_mult1 (arg24 : BitVec 32) (v74 : BitVec 32) : BitVec 32 :=
  let c32_i32 : BitVec 32 := 32#32
  let c1_i32_66 : BitVec 32 := 1#32
  let c4096_i32_59 : BitVec 32 := 4096#32
  let v75 : BitVec 32 := Scalar.muli arg24 c4096_i32_59
  let v76 : BitVec 32 := Scalar.subi v74 v75
  let c127_i32 : BitVec 32 := 127#32
  let v77 : BitVec 32 := Scalar.addi v76 c127_i32
  let c0_i32_60 : BitVec 32 := 0#32
  let v79 : BitVec 1 := Scalar.cmpi .sgt v77 c0_i32_60
  let v80 : BitVec 32 := Scalar.extui v79
  let c0_i32_61 : BitVec 32 := 0#32
  let v81 : BitVec 1 := Scalar.cmpi .slt v77 c0_i32_61
  let v82 : BitVec 32 := Scalar.extui v81
  let v83 : BitVec 32 := Scalar.subi v80 v82
  let c128_i32 : BitVec 32 := 128#32
  let c0_i32_62 : BitVec 32 := 0#32
  let v84 : BitVec 1 := Scalar.cmpi .sgt c128_i32 c0_i32_62
  let v85 : BitVec 32 := Scalar.extui v84
  let c0_i32_63 : BitVec 32 := 0#32
  let v86 : BitVec 1 := Scalar.cmpi .slt c128_i32 c0_i32_63
  let v87 : BitVec 32 := Scalar.extui v86
  let v88 : BitVec 32 := Scalar.subi v85 v87
  let v89 : BitVec 1 := Scalar.cmpi .ne v83 v88
  let v90 : BitVec 32 := Scalar.remsi v77 c128_i32
  let c0_i32_64 : BitVec 32 := 0#32
  let v91 : BitVec 1 := Scalar.cmpi .ne v90 c0_i32_64
  let v92 : BitVec 1 := Scalar.andi v89 v91
  let v78 : BitVec 32 := Scalar.divsi v77 c128_i32
  let c1_i32_65 : BitVec 32 := 1#32
  let v93 : BitVec 32 := Scalar.subi v78 c1_i32_65
  let v94 : BitVec 32 := Scalar.select v92 v93 v78
  let v95 : BitVec 32 := Scalar.maxsi c1_i32_66 v94
  let v96 : BitVec 32 := Scalar.minsi c32_i32 v95
  let c128_i32_67 : BitVec 32 := 128#32
  let v97 : BitVec 32 := Scalar.muli v96 c128_i32_67
  v97

def k0_mult2 (arg24 : BitVec 32) : BitVec 32 :=
  let c4096_i32_68 : BitVec 32 := 4096#32
  let v99 : BitVec 32 := Scalar.muli arg24 c4096_i32_68
  v99

def k0_chk3 (arg22 : BitVec 32) (arg24 : BitVec 32) : Prop :=
  (∀ (k0_h1 : k0_cond1 arg22 = 1#1), 128 ∣ (k0_mult2 arg24).toNat)
theorem k0_mult2_dvd : ∀ (arg22 : BitVec 32) (arg24 : BitVec 32) (k0_hw3 : k0_chk3 arg22 arg24), ∀ (k0_h1 : k0_cond1 arg22 = 1#1), 128 ∣ (k0_mult2 arg24).toNat := fun arg22 arg24 k0_hw3 k0_h1 => k0_hw3 k0_h1

def k0_off2 (k0_t1 : Fin k0_t1_loop.trips) : Fin 1 → Nat :=
  let c0_i32_2 : BitVec 32 := 0#32
  let c1_i32 : BitVec 32 := 1#32
  let arg21 : BitVec 32 := Scf.iv c0_i32_2 c1_i32 k0_t1
  ![arg21.toNat]
def k0_off3 (k0_t1 : Fin k0_t1_loop.trips) (arg24 : BitVec 32) (v74 : BitVec 32) : (Fin 3 → Nat) × (Fin 3 → Nat) :=
  let c0_i32_2 : BitVec 32 := 0#32
  let c1_i32 : BitVec 32 := 1#32
  let arg21 : BitVec 32 := Scf.iv c0_i32_2 c1_i32 k0_t1
  let c0_i32_70 : BitVec 32 := 0#32
  let c0_i32_71 : BitVec 32 := 0#32
  let c32_i32 : BitVec 32 := 32#32
  let c1_i32_66 : BitVec 32 := 1#32
  let c4096_i32_59 : BitVec 32 := 4096#32
  let v75 : BitVec 32 := Scalar.muli arg24 c4096_i32_59
  let v76 : BitVec 32 := Scalar.subi v74 v75
  let c127_i32 : BitVec 32 := 127#32
  let v77 : BitVec 32 := Scalar.addi v76 c127_i32
  let c0_i32_60 : BitVec 32 := 0#32
  let v79 : BitVec 1 := Scalar.cmpi .sgt v77 c0_i32_60
  let v80 : BitVec 32 := Scalar.extui v79
  let c0_i32_61 : BitVec 32 := 0#32
  let v81 : BitVec 1 := Scalar.cmpi .slt v77 c0_i32_61
  let v82 : BitVec 32 := Scalar.extui v81
  let v83 : BitVec 32 := Scalar.subi v80 v82
  let c128_i32 : BitVec 32 := 128#32
  let c0_i32_62 : BitVec 32 := 0#32
  let v84 : BitVec 1 := Scalar.cmpi .sgt c128_i32 c0_i32_62
  let v85 : BitVec 32 := Scalar.extui v84
  let c0_i32_63 : BitVec 32 := 0#32
  let v86 : BitVec 1 := Scalar.cmpi .slt c128_i32 c0_i32_63
  let v87 : BitVec 32 := Scalar.extui v86
  let v88 : BitVec 32 := Scalar.subi v85 v87
  let v89 : BitVec 1 := Scalar.cmpi .ne v83 v88
  let v90 : BitVec 32 := Scalar.remsi v77 c128_i32
  let c0_i32_64 : BitVec 32 := 0#32
  let v91 : BitVec 1 := Scalar.cmpi .ne v90 c0_i32_64
  let v92 : BitVec 1 := Scalar.andi v89 v91
  let v78 : BitVec 32 := Scalar.divsi v77 c128_i32
  let c1_i32_65 : BitVec 32 := 1#32
  let v93 : BitVec 32 := Scalar.subi v78 c1_i32_65
  let v94 : BitVec 32 := Scalar.select v92 v93 v78
  let v95 : BitVec 32 := Scalar.maxsi c1_i32_66 v94
  let v96 : BitVec 32 := Scalar.minsi c32_i32 v95
  let c128_i32_67 : BitVec 32 := 128#32
  let v97 : BitVec 32 := Scalar.muli v96 c128_i32_67
  let v98 : BitVec 32 := v97
  ⟨![arg21.toNat, 0, 0], ![1, 160, v98.toNat]⟩
def k0_sz1 (arg24 : BitVec 32) (v74 : BitVec 32) : Fin 2 → Nat :=
  let c32_i32 : BitVec 32 := 32#32
  let c1_i32_66 : BitVec 32 := 1#32
  let c4096_i32_59 : BitVec 32 := 4096#32
  let v75 : BitVec 32 := Scalar.muli arg24 c4096_i32_59
  let v76 : BitVec 32 := Scalar.subi v74 v75
  let c127_i32 : BitVec 32 := 127#32
  let v77 : BitVec 32 := Scalar.addi v76 c127_i32
  let c0_i32_60 : BitVec 32 := 0#32
  let v79 : BitVec 1 := Scalar.cmpi .sgt v77 c0_i32_60
  let v80 : BitVec 32 := Scalar.extui v79
  let c0_i32_61 : BitVec 32 := 0#32
  let v81 : BitVec 1 := Scalar.cmpi .slt v77 c0_i32_61
  let v82 : BitVec 32 := Scalar.extui v81
  let v83 : BitVec 32 := Scalar.subi v80 v82
  let c128_i32 : BitVec 32 := 128#32
  let c0_i32_62 : BitVec 32 := 0#32
  let v84 : BitVec 1 := Scalar.cmpi .sgt c128_i32 c0_i32_62
  let v85 : BitVec 32 := Scalar.extui v84
  let c0_i32_63 : BitVec 32 := 0#32
  let v86 : BitVec 1 := Scalar.cmpi .slt c128_i32 c0_i32_63
  let v87 : BitVec 32 := Scalar.extui v86
  let v88 : BitVec 32 := Scalar.subi v85 v87
  let v89 : BitVec 1 := Scalar.cmpi .ne v83 v88
  let v90 : BitVec 32 := Scalar.remsi v77 c128_i32
  let c0_i32_64 : BitVec 32 := 0#32
  let v91 : BitVec 1 := Scalar.cmpi .ne v90 c0_i32_64
  let v92 : BitVec 1 := Scalar.andi v89 v91
  let v78 : BitVec 32 := Scalar.divsi v77 c128_i32
  let c1_i32_65 : BitVec 32 := 1#32
  let v93 : BitVec 32 := Scalar.subi v78 c1_i32_65
  let v94 : BitVec 32 := Scalar.select v92 v93 v78
  let v95 : BitVec 32 := Scalar.maxsi c1_i32_66 v94
  let v96 : BitVec 32 := Scalar.minsi c32_i32 v95
  let c128_i32_67 : BitVec 32 := 128#32
  let v97 : BitVec 32 := Scalar.muli v96 c128_i32_67
  let v98 : BitVec 32 := v97
  ![160, v98.toNat]
def k0_off4 (arg22 : BitVec 32) (arg23 : BitVec 32) (arg24 : BitVec 32) (v74 : BitVec 32) : (Fin 3 → Nat) × (Fin 3 → Nat) :=
  let c6_i32_69 : BitVec 32 := 6#32
  let v101 : BitVec 32 := Scalar.muli arg22 c6_i32_69
  let v102 : BitVec 32 := Scalar.addi v101 arg23
  let c0_i32_72 : BitVec 32 := 0#32
  let c4096_i32_68 : BitVec 32 := 4096#32
  let v99 : BitVec 32 := Scalar.muli arg24 c4096_i32_68
  let v100 : BitVec 32 := v99
  let c32_i32 : BitVec 32 := 32#32
  let c1_i32_66 : BitVec 32 := 1#32
  let c4096_i32_59 : BitVec 32 := 4096#32
  let v75 : BitVec 32 := Scalar.muli arg24 c4096_i32_59
  let v76 : BitVec 32 := Scalar.subi v74 v75
  let c127_i32 : BitVec 32 := 127#32
  let v77 : BitVec 32 := Scalar.addi v76 c127_i32
  let c0_i32_60 : BitVec 32 := 0#32
  let v79 : BitVec 1 := Scalar.cmpi .sgt v77 c0_i32_60
  let v80 : BitVec 32 := Scalar.extui v79
  let c0_i32_61 : BitVec 32 := 0#32
  let v81 : BitVec 1 := Scalar.cmpi .slt v77 c0_i32_61
  let v82 : BitVec 32 := Scalar.extui v81
  let v83 : BitVec 32 := Scalar.subi v80 v82
  let c128_i32 : BitVec 32 := 128#32
  let c0_i32_62 : BitVec 32 := 0#32
  let v84 : BitVec 1 := Scalar.cmpi .sgt c128_i32 c0_i32_62
  let v85 : BitVec 32 := Scalar.extui v84
  let c0_i32_63 : BitVec 32 := 0#32
  let v86 : BitVec 1 := Scalar.cmpi .slt c128_i32 c0_i32_63
  let v87 : BitVec 32 := Scalar.extui v86
  let v88 : BitVec 32 := Scalar.subi v85 v87
  let v89 : BitVec 1 := Scalar.cmpi .ne v83 v88
  let v90 : BitVec 32 := Scalar.remsi v77 c128_i32
  let c0_i32_64 : BitVec 32 := 0#32
  let v91 : BitVec 1 := Scalar.cmpi .ne v90 c0_i32_64
  let v92 : BitVec 1 := Scalar.andi v89 v91
  let v78 : BitVec 32 := Scalar.divsi v77 c128_i32
  let c1_i32_65 : BitVec 32 := 1#32
  let v93 : BitVec 32 := Scalar.subi v78 c1_i32_65
  let v94 : BitVec 32 := Scalar.select v92 v93 v78
  let v95 : BitVec 32 := Scalar.maxsi c1_i32_66 v94
  let v96 : BitVec 32 := Scalar.minsi c32_i32 v95
  let c128_i32_67 : BitVec 32 := 128#32
  let v97 : BitVec 32 := Scalar.muli v96 c128_i32_67
  let v98 : BitVec 32 := v97
  ⟨![v102.toNat, 0, v100.toNat], ![1, 160, v98.toNat]⟩
def k0_sz2 (arg24 : BitVec 32) (v74 : BitVec 32) : Fin 2 → Nat :=
  let c32_i32 : BitVec 32 := 32#32
  let c1_i32_66 : BitVec 32 := 1#32
  let c4096_i32_59 : BitVec 32 := 4096#32
  let v75 : BitVec 32 := Scalar.muli arg24 c4096_i32_59
  let v76 : BitVec 32 := Scalar.subi v74 v75
  let c127_i32 : BitVec 32 := 127#32
  let v77 : BitVec 32 := Scalar.addi v76 c127_i32
  let c0_i32_60 : BitVec 32 := 0#32
  let v79 : BitVec 1 := Scalar.cmpi .sgt v77 c0_i32_60
  let v80 : BitVec 32 := Scalar.extui v79
  let c0_i32_61 : BitVec 32 := 0#32
  let v81 : BitVec 1 := Scalar.cmpi .slt v77 c0_i32_61
  let v82 : BitVec 32 := Scalar.extui v81
  let v83 : BitVec 32 := Scalar.subi v80 v82
  let c128_i32 : BitVec 32 := 128#32
  let c0_i32_62 : BitVec 32 := 0#32
  let v84 : BitVec 1 := Scalar.cmpi .sgt c128_i32 c0_i32_62
  let v85 : BitVec 32 := Scalar.extui v84
  let c0_i32_63 : BitVec 32 := 0#32
  let v86 : BitVec 1 := Scalar.cmpi .slt c128_i32 c0_i32_63
  let v87 : BitVec 32 := Scalar.extui v86
  let v88 : BitVec 32 := Scalar.subi v85 v87
  let v89 : BitVec 1 := Scalar.cmpi .ne v83 v88
  let v90 : BitVec 32 := Scalar.remsi v77 c128_i32
  let c0_i32_64 : BitVec 32 := 0#32
  let v91 : BitVec 1 := Scalar.cmpi .ne v90 c0_i32_64
  let v92 : BitVec 1 := Scalar.andi v89 v91
  let v78 : BitVec 32 := Scalar.divsi v77 c128_i32
  let c1_i32_65 : BitVec 32 := 1#32
  let v93 : BitVec 32 := Scalar.subi v78 c1_i32_65
  let v94 : BitVec 32 := Scalar.select v92 v93 v78
  let v95 : BitVec 32 := Scalar.maxsi c1_i32_66 v94
  let v96 : BitVec 32 := Scalar.minsi c32_i32 v95
  let c128_i32_67 : BitVec 32 := 128#32
  let v97 : BitVec 32 := Scalar.muli v96 c128_i32_67
  let v98 : BitVec 32 := v97
  ![160, v98.toNat]

def k0_chk2 (k0_t1 : Fin k0_t1_loop.trips) (arg22 : BitVec 32) (arg23 : BitVec 32) (arg24 : BitVec 32) (v74 : BitVec 32) : Prop :=
  (∀ (k0_h1 : k0_cond1 arg22 = 1#1), 128 ∣ (k0_mult1 arg24 v74).toNat) ∧
  (∀ (k0_h1 : k0_cond1 arg22 = 1#1), ∀ a, (k0_off3 k0_t1 arg24 v74).2 a = 0 ∨ (k0_off3 k0_t1 arg24 v74).1 a + (k0_off3 k0_t1 arg24 v74).2 a ≤ S6x160x4096.size a) ∧
  (∀ (k0_h1 : k0_cond1 arg22 = 1#1), (⟨3, (k0_off3 k0_t1 arg24 v74).2⟩ : Shape).Squeezes ⟨2, k0_sz1 arg24 v74⟩) ∧
  (∀ (k0_h1 : k0_cond1 arg22 = 1#1), ∀ a, (k0_off4 arg22 arg23 arg24 v74).2 a = 0 ∨ (k0_off4 arg22 arg23 arg24 v74).1 a + (k0_off4 arg22 arg23 arg24 v74).2 a ≤ S24x160x32768.size a) ∧
  (∀ (k0_h1 : k0_cond1 arg22 = 1#1), (⟨3, (k0_off4 arg22 arg23 arg24 v74).2⟩ : Shape).Squeezes ⟨2, k0_sz2 arg24 v74⟩) ∧
  (∀ (k0_h1 : k0_cond1 arg22 = 1#1), ∀ (hinb : ∀ a, (k0_off4 arg22 arg23 arg24 v74).2 a = 0 ∨ (k0_off4 arg22 arg23 arg24 v74).1 a + (k0_off4 arg22 arg23 arg24 v74).2 a ≤ S24x160x32768.size a), (Rect.unitDyn (s := S24x160x32768) (k0_off4 arg22 arg23 arg24 v74).1 (k0_off4 arg22 arg23 arg24 v74).2 hinb).WholeWords (EltTy.packing .bf16)) ∧
  (∀ (k0_h1 : k0_cond1 arg22 = 1#1), ∀ (hinb : ∀ a, (k0_off3 k0_t1 arg24 v74).2 a = 0 ∨ (k0_off3 k0_t1 arg24 v74).1 a + (k0_off3 k0_t1 arg24 v74).2 a ≤ S6x160x4096.size a), (Rect.unitDyn (s := S6x160x4096) (k0_off3 k0_t1 arg24 v74).1 (k0_off3 k0_t1 arg24 v74).2 hinb).WholeWords (EltTy.packing .bf16))
theorem k0_mult1_dvd : ∀ (k0_t1 : Fin k0_t1_loop.trips) (arg22 : BitVec 32) (arg23 : BitVec 32) (arg24 : BitVec 32) (v74 : BitVec 32) (k0_hw2 : k0_chk2 k0_t1 arg22 arg23 arg24 v74), ∀ (k0_h1 : k0_cond1 arg22 = 1#1), 128 ∣ (k0_mult1 arg24 v74).toNat := fun k0_t1 arg22 arg23 arg24 v74 k0_hw2 k0_h1 => k0_hw2.1 k0_h1
theorem k0_off3_inb : ∀ (k0_t1 : Fin k0_t1_loop.trips) (arg22 : BitVec 32) (arg23 : BitVec 32) (arg24 : BitVec 32) (v74 : BitVec 32) (k0_hw2 : k0_chk2 k0_t1 arg22 arg23 arg24 v74), ∀ (k0_h1 : k0_cond1 arg22 = 1#1), ∀ a, (k0_off3 k0_t1 arg24 v74).2 a = 0 ∨ (k0_off3 k0_t1 arg24 v74).1 a + (k0_off3 k0_t1 arg24 v74).2 a ≤ S6x160x4096.size a := fun k0_t1 arg22 arg23 arg24 v74 k0_hw2 k0_h1 => k0_hw2.2.1 k0_h1
theorem k0_sz1_squeezes : ∀ (k0_t1 : Fin k0_t1_loop.trips) (arg22 : BitVec 32) (arg23 : BitVec 32) (arg24 : BitVec 32) (v74 : BitVec 32) (k0_hw2 : k0_chk2 k0_t1 arg22 arg23 arg24 v74), ∀ (k0_h1 : k0_cond1 arg22 = 1#1), (⟨3, (k0_off3 k0_t1 arg24 v74).2⟩ : Shape).Squeezes ⟨2, k0_sz1 arg24 v74⟩ := fun k0_t1 arg22 arg23 arg24 v74 k0_hw2 k0_h1 => k0_hw2.2.2.1 k0_h1
theorem k0_off4_inb : ∀ (k0_t1 : Fin k0_t1_loop.trips) (arg22 : BitVec 32) (arg23 : BitVec 32) (arg24 : BitVec 32) (v74 : BitVec 32) (k0_hw2 : k0_chk2 k0_t1 arg22 arg23 arg24 v74), ∀ (k0_h1 : k0_cond1 arg22 = 1#1), ∀ a, (k0_off4 arg22 arg23 arg24 v74).2 a = 0 ∨ (k0_off4 arg22 arg23 arg24 v74).1 a + (k0_off4 arg22 arg23 arg24 v74).2 a ≤ S24x160x32768.size a := fun k0_t1 arg22 arg23 arg24 v74 k0_hw2 k0_h1 => k0_hw2.2.2.2.1 k0_h1
theorem k0_sz2_squeezes : ∀ (k0_t1 : Fin k0_t1_loop.trips) (arg22 : BitVec 32) (arg23 : BitVec 32) (arg24 : BitVec 32) (v74 : BitVec 32) (k0_hw2 : k0_chk2 k0_t1 arg22 arg23 arg24 v74), ∀ (k0_h1 : k0_cond1 arg22 = 1#1), (⟨3, (k0_off4 arg22 arg23 arg24 v74).2⟩ : Shape).Squeezes ⟨2, k0_sz2 arg24 v74⟩ := fun k0_t1 arg22 arg23 arg24 v74 k0_hw2 k0_h1 => k0_hw2.2.2.2.2.1 k0_h1
theorem k0_off4_wordsbf16 : ∀ (k0_t1 : Fin k0_t1_loop.trips) (arg22 : BitVec 32) (arg23 : BitVec 32) (arg24 : BitVec 32) (v74 : BitVec 32) (k0_hw2 : k0_chk2 k0_t1 arg22 arg23 arg24 v74), ∀ (k0_h1 : k0_cond1 arg22 = 1#1), (Rect.unitDyn (s := S24x160x32768) (k0_off4 arg22 arg23 arg24 v74).1 (k0_off4 arg22 arg23 arg24 v74).2 (k0_off4_inb k0_t1 arg22 arg23 arg24 v74 k0_hw2 k0_h1)).WholeWords (EltTy.packing .bf16) := fun k0_t1 arg22 arg23 arg24 v74 k0_hw2 k0_h1 => k0_hw2.2.2.2.2.2.1 k0_h1 (k0_off4_inb k0_t1 arg22 arg23 arg24 v74 k0_hw2 k0_h1)
theorem k0_off3_wordsbf16 : ∀ (k0_t1 : Fin k0_t1_loop.trips) (arg22 : BitVec 32) (arg23 : BitVec 32) (arg24 : BitVec 32) (v74 : BitVec 32) (k0_hw2 : k0_chk2 k0_t1 arg22 arg23 arg24 v74), ∀ (k0_h1 : k0_cond1 arg22 = 1#1), (Rect.unitDyn (s := S6x160x4096) (k0_off3 k0_t1 arg24 v74).1 (k0_off3 k0_t1 arg24 v74).2 (k0_off3_inb k0_t1 arg22 arg23 arg24 v74 k0_hw2 k0_h1)).WholeWords (EltTy.packing .bf16) := fun k0_t1 arg22 arg23 arg24 v74 k0_hw2 k0_h1 => k0_hw2.2.2.2.2.2.2 k0_h1 (k0_off3_inb k0_t1 arg22 arg23 arg24 v74 k0_hw2 k0_h1)

def k0_off5 (arg22 : BitVec 32) : Fin 1 → Nat :=
  let c3_i32 : BitVec 32 := 3#32
  let v38 : BitVec 32 := Scalar.minsi arg22 c3_i32
  let v39 : Index := Scalar.indexCast v38
  ![v39.toNat]

def k0_chk1 (arg22 : BitVec 32) : Prop :=
  (∀ (k0_h1 : k0_cond1 arg22 = 1#1), ∀ a, (k0_off1 arg22) a + S1.size a ≤ S4.size a) ∧
  (∀ a, (k0_off5 arg22) a + S1.size a ≤ S4.size a)
theorem k0_off1_inb : ∀ (arg22 : BitVec 32) (k0_hw1 : k0_chk1 arg22), ∀ (k0_h1 : k0_cond1 arg22 = 1#1), ∀ a, (k0_off1 arg22) a + S1.size a ≤ S4.size a := fun arg22 k0_hw1 k0_h1 => k0_hw1.1 k0_h1
theorem k0_off5_inb : ∀ (arg22 : BitVec 32) (k0_hw1 : k0_chk1 arg22), ∀ a, (k0_off5 arg22) a + S1.size a ≤ S4.size a := fun arg22 k0_hw1 => k0_hw1.2

@[reducible] def k0_t2_loop : Scf.Loop 32 :=
  let c0_i32_9 : BitVec 32 := 0#32
  let c8_i32 : BitVec 32 := 8#32
  let v6 : BitVec 32 := Scalar.addi c0_i32_9 c8_i32
  let c1_i32_10 : BitVec 32 := 1#32
  ⟨c0_i32_9, v6, c1_i32_10⟩
def k0_off6 (arg22 : BitVec 32) : Fin 1 → Nat :=
  let c3_i32_58 : BitVec 32 := 3#32
  let v72 : BitVec 32 := Scalar.minsi arg22 c3_i32_58
  let v73 : Index := Scalar.indexCast v72
  ![v73.toNat]
def k0_cond2 (arg22 : BitVec 32) : BitVec 1 :=
  let c4_i32 : BitVec 32 := 4#32
  let v34 : BitVec 1 := Scalar.cmpi .slt arg22 c4_i32
  let v35 : BitVec 32 := Scalar.extui v34
  let c0_i32_45 : BitVec 32 := 0#32
  let v36 : BitVec 1 := Scalar.cmpi .ne v35 c0_i32_45
  v36

def k0_mult3 (arg24 : BitVec 32) (v74 : BitVec 32) : BitVec 32 :=
  let c32_i32 : BitVec 32 := 32#32
  let c1_i32_66 : BitVec 32 := 1#32
  let c4096_i32_59 : BitVec 32 := 4096#32
  let v75 : BitVec 32 := Scalar.muli arg24 c4096_i32_59
  let v76 : BitVec 32 := Scalar.subi v74 v75
  let c127_i32 : BitVec 32 := 127#32
  let v77 : BitVec 32 := Scalar.addi v76 c127_i32
  let c0_i32_60 : BitVec 32 := 0#32
  let v79 : BitVec 1 := Scalar.cmpi .sgt v77 c0_i32_60
  let v80 : BitVec 32 := Scalar.extui v79
  let c0_i32_61 : BitVec 32 := 0#32
  let v81 : BitVec 1 := Scalar.cmpi .slt v77 c0_i32_61
  let v82 : BitVec 32 := Scalar.extui v81
  let v83 : BitVec 32 := Scalar.subi v80 v82
  let c128_i32 : BitVec 32 := 128#32
  let c0_i32_62 : BitVec 32 := 0#32
  let v84 : BitVec 1 := Scalar.cmpi .sgt c128_i32 c0_i32_62
  let v85 : BitVec 32 := Scalar.extui v84
  let c0_i32_63 : BitVec 32 := 0#32
  let v86 : BitVec 1 := Scalar.cmpi .slt c128_i32 c0_i32_63
  let v87 : BitVec 32 := Scalar.extui v86
  let v88 : BitVec 32 := Scalar.subi v85 v87
  let v89 : BitVec 1 := Scalar.cmpi .ne v83 v88
  let v90 : BitVec 32 := Scalar.remsi v77 c128_i32
  let c0_i32_64 : BitVec 32 := 0#32
  let v91 : BitVec 1 := Scalar.cmpi .ne v90 c0_i32_64
  let v92 : BitVec 1 := Scalar.andi v89 v91
  let v78 : BitVec 32 := Scalar.divsi v77 c128_i32
  let c1_i32_65 : BitVec 32 := 1#32
  let v93 : BitVec 32 := Scalar.subi v78 c1_i32_65
  let v94 : BitVec 32 := Scalar.select v92 v93 v78
  let v95 : BitVec 32 := Scalar.maxsi c1_i32_66 v94
  let v96 : BitVec 32 := Scalar.minsi c32_i32 v95
  let c128_i32_67 : BitVec 32 := 128#32
  let v97 : BitVec 32 := Scalar.muli v96 c128_i32_67
  v97

def k0_mult4 (arg24 : BitVec 32) : BitVec 32 :=
  let c4096_i32_68 : BitVec 32 := 4096#32
  let v99 : BitVec 32 := Scalar.muli arg24 c4096_i32_68
  v99

def k0_chk6 (arg22 : BitVec 32) (arg24 : BitVec 32) : Prop :=
  (∀ (k0_h2 : k0_cond2 arg22 = 1#1), 128 ∣ (k0_mult4 arg24).toNat)
theorem k0_mult4_dvd : ∀ (arg22 : BitVec 32) (arg24 : BitVec 32) (k0_hw6 : k0_chk6 arg22 arg24), ∀ (k0_h2 : k0_cond2 arg22 = 1#1), 128 ∣ (k0_mult4 arg24).toNat := fun arg22 arg24 k0_hw6 k0_h2 => k0_hw6 k0_h2

def k0_off7 (k0_t2 : Fin k0_t2_loop.trips) : Fin 1 → Nat :=
  let c0_i32_9 : BitVec 32 := 0#32
  let c1_i32_10 : BitVec 32 := 1#32
  let arg21 : BitVec 32 := Scf.iv c0_i32_9 c1_i32_10 k0_t2
  ![arg21.toNat]
def k0_off8 (k0_t2 : Fin k0_t2_loop.trips) (arg24 : BitVec 32) (v74 : BitVec 32) : (Fin 3 → Nat) × (Fin 3 → Nat) :=
  let c0_i32_9 : BitVec 32 := 0#32
  let c1_i32_10 : BitVec 32 := 1#32
  let arg21 : BitVec 32 := Scf.iv c0_i32_9 c1_i32_10 k0_t2
  let c0_i32_70 : BitVec 32 := 0#32
  let c0_i32_71 : BitVec 32 := 0#32
  let c32_i32 : BitVec 32 := 32#32
  let c1_i32_66 : BitVec 32 := 1#32
  let c4096_i32_59 : BitVec 32 := 4096#32
  let v75 : BitVec 32 := Scalar.muli arg24 c4096_i32_59
  let v76 : BitVec 32 := Scalar.subi v74 v75
  let c127_i32 : BitVec 32 := 127#32
  let v77 : BitVec 32 := Scalar.addi v76 c127_i32
  let c0_i32_60 : BitVec 32 := 0#32
  let v79 : BitVec 1 := Scalar.cmpi .sgt v77 c0_i32_60
  let v80 : BitVec 32 := Scalar.extui v79
  let c0_i32_61 : BitVec 32 := 0#32
  let v81 : BitVec 1 := Scalar.cmpi .slt v77 c0_i32_61
  let v82 : BitVec 32 := Scalar.extui v81
  let v83 : BitVec 32 := Scalar.subi v80 v82
  let c128_i32 : BitVec 32 := 128#32
  let c0_i32_62 : BitVec 32 := 0#32
  let v84 : BitVec 1 := Scalar.cmpi .sgt c128_i32 c0_i32_62
  let v85 : BitVec 32 := Scalar.extui v84
  let c0_i32_63 : BitVec 32 := 0#32
  let v86 : BitVec 1 := Scalar.cmpi .slt c128_i32 c0_i32_63
  let v87 : BitVec 32 := Scalar.extui v86
  let v88 : BitVec 32 := Scalar.subi v85 v87
  let v89 : BitVec 1 := Scalar.cmpi .ne v83 v88
  let v90 : BitVec 32 := Scalar.remsi v77 c128_i32
  let c0_i32_64 : BitVec 32 := 0#32
  let v91 : BitVec 1 := Scalar.cmpi .ne v90 c0_i32_64
  let v92 : BitVec 1 := Scalar.andi v89 v91
  let v78 : BitVec 32 := Scalar.divsi v77 c128_i32
  let c1_i32_65 : BitVec 32 := 1#32
  let v93 : BitVec 32 := Scalar.subi v78 c1_i32_65
  let v94 : BitVec 32 := Scalar.select v92 v93 v78
  let v95 : BitVec 32 := Scalar.maxsi c1_i32_66 v94
  let v96 : BitVec 32 := Scalar.minsi c32_i32 v95
  let c128_i32_67 : BitVec 32 := 128#32
  let v97 : BitVec 32 := Scalar.muli v96 c128_i32_67
  let v98 : BitVec 32 := v97
  ⟨![arg21.toNat, 0, 0], ![1, 160, v98.toNat]⟩
def k0_sz3 (arg24 : BitVec 32) (v74 : BitVec 32) : Fin 2 → Nat :=
  let c32_i32 : BitVec 32 := 32#32
  let c1_i32_66 : BitVec 32 := 1#32
  let c4096_i32_59 : BitVec 32 := 4096#32
  let v75 : BitVec 32 := Scalar.muli arg24 c4096_i32_59
  let v76 : BitVec 32 := Scalar.subi v74 v75
  let c127_i32 : BitVec 32 := 127#32
  let v77 : BitVec 32 := Scalar.addi v76 c127_i32
  let c0_i32_60 : BitVec 32 := 0#32
  let v79 : BitVec 1 := Scalar.cmpi .sgt v77 c0_i32_60
  let v80 : BitVec 32 := Scalar.extui v79
  let c0_i32_61 : BitVec 32 := 0#32
  let v81 : BitVec 1 := Scalar.cmpi .slt v77 c0_i32_61
  let v82 : BitVec 32 := Scalar.extui v81
  let v83 : BitVec 32 := Scalar.subi v80 v82
  let c128_i32 : BitVec 32 := 128#32
  let c0_i32_62 : BitVec 32 := 0#32
  let v84 : BitVec 1 := Scalar.cmpi .sgt c128_i32 c0_i32_62
  let v85 : BitVec 32 := Scalar.extui v84
  let c0_i32_63 : BitVec 32 := 0#32
  let v86 : BitVec 1 := Scalar.cmpi .slt c128_i32 c0_i32_63
  let v87 : BitVec 32 := Scalar.extui v86
  let v88 : BitVec 32 := Scalar.subi v85 v87
  let v89 : BitVec 1 := Scalar.cmpi .ne v83 v88
  let v90 : BitVec 32 := Scalar.remsi v77 c128_i32
  let c0_i32_64 : BitVec 32 := 0#32
  let v91 : BitVec 1 := Scalar.cmpi .ne v90 c0_i32_64
  let v92 : BitVec 1 := Scalar.andi v89 v91
  let v78 : BitVec 32 := Scalar.divsi v77 c128_i32
  let c1_i32_65 : BitVec 32 := 1#32
  let v93 : BitVec 32 := Scalar.subi v78 c1_i32_65
  let v94 : BitVec 32 := Scalar.select v92 v93 v78
  let v95 : BitVec 32 := Scalar.maxsi c1_i32_66 v94
  let v96 : BitVec 32 := Scalar.minsi c32_i32 v95
  let c128_i32_67 : BitVec 32 := 128#32
  let v97 : BitVec 32 := Scalar.muli v96 c128_i32_67
  let v98 : BitVec 32 := v97
  ![160, v98.toNat]
def k0_off9 (arg22 : BitVec 32) (arg23 : BitVec 32) (arg24 : BitVec 32) (v74 : BitVec 32) : (Fin 3 → Nat) × (Fin 3 → Nat) :=
  let c6_i32_69 : BitVec 32 := 6#32
  let v101 : BitVec 32 := Scalar.muli arg22 c6_i32_69
  let v102 : BitVec 32 := Scalar.addi v101 arg23
  let c0_i32_72 : BitVec 32 := 0#32
  let c4096_i32_68 : BitVec 32 := 4096#32
  let v99 : BitVec 32 := Scalar.muli arg24 c4096_i32_68
  let v100 : BitVec 32 := v99
  let c32_i32 : BitVec 32 := 32#32
  let c1_i32_66 : BitVec 32 := 1#32
  let c4096_i32_59 : BitVec 32 := 4096#32
  let v75 : BitVec 32 := Scalar.muli arg24 c4096_i32_59
  let v76 : BitVec 32 := Scalar.subi v74 v75
  let c127_i32 : BitVec 32 := 127#32
  let v77 : BitVec 32 := Scalar.addi v76 c127_i32
  let c0_i32_60 : BitVec 32 := 0#32
  let v79 : BitVec 1 := Scalar.cmpi .sgt v77 c0_i32_60
  let v80 : BitVec 32 := Scalar.extui v79
  let c0_i32_61 : BitVec 32 := 0#32
  let v81 : BitVec 1 := Scalar.cmpi .slt v77 c0_i32_61
  let v82 : BitVec 32 := Scalar.extui v81
  let v83 : BitVec 32 := Scalar.subi v80 v82
  let c128_i32 : BitVec 32 := 128#32
  let c0_i32_62 : BitVec 32 := 0#32
  let v84 : BitVec 1 := Scalar.cmpi .sgt c128_i32 c0_i32_62
  let v85 : BitVec 32 := Scalar.extui v84
  let c0_i32_63 : BitVec 32 := 0#32
  let v86 : BitVec 1 := Scalar.cmpi .slt c128_i32 c0_i32_63
  let v87 : BitVec 32 := Scalar.extui v86
  let v88 : BitVec 32 := Scalar.subi v85 v87
  let v89 : BitVec 1 := Scalar.cmpi .ne v83 v88
  let v90 : BitVec 32 := Scalar.remsi v77 c128_i32
  let c0_i32_64 : BitVec 32 := 0#32
  let v91 : BitVec 1 := Scalar.cmpi .ne v90 c0_i32_64
  let v92 : BitVec 1 := Scalar.andi v89 v91
  let v78 : BitVec 32 := Scalar.divsi v77 c128_i32
  let c1_i32_65 : BitVec 32 := 1#32
  let v93 : BitVec 32 := Scalar.subi v78 c1_i32_65
  let v94 : BitVec 32 := Scalar.select v92 v93 v78
  let v95 : BitVec 32 := Scalar.maxsi c1_i32_66 v94
  let v96 : BitVec 32 := Scalar.minsi c32_i32 v95
  let c128_i32_67 : BitVec 32 := 128#32
  let v97 : BitVec 32 := Scalar.muli v96 c128_i32_67
  let v98 : BitVec 32 := v97
  ⟨![v102.toNat, 0, v100.toNat], ![1, 160, v98.toNat]⟩
def k0_sz4 (arg24 : BitVec 32) (v74 : BitVec 32) : Fin 2 → Nat :=
  let c32_i32 : BitVec 32 := 32#32
  let c1_i32_66 : BitVec 32 := 1#32
  let c4096_i32_59 : BitVec 32 := 4096#32
  let v75 : BitVec 32 := Scalar.muli arg24 c4096_i32_59
  let v76 : BitVec 32 := Scalar.subi v74 v75
  let c127_i32 : BitVec 32 := 127#32
  let v77 : BitVec 32 := Scalar.addi v76 c127_i32
  let c0_i32_60 : BitVec 32 := 0#32
  let v79 : BitVec 1 := Scalar.cmpi .sgt v77 c0_i32_60
  let v80 : BitVec 32 := Scalar.extui v79
  let c0_i32_61 : BitVec 32 := 0#32
  let v81 : BitVec 1 := Scalar.cmpi .slt v77 c0_i32_61
  let v82 : BitVec 32 := Scalar.extui v81
  let v83 : BitVec 32 := Scalar.subi v80 v82
  let c128_i32 : BitVec 32 := 128#32
  let c0_i32_62 : BitVec 32 := 0#32
  let v84 : BitVec 1 := Scalar.cmpi .sgt c128_i32 c0_i32_62
  let v85 : BitVec 32 := Scalar.extui v84
  let c0_i32_63 : BitVec 32 := 0#32
  let v86 : BitVec 1 := Scalar.cmpi .slt c128_i32 c0_i32_63
  let v87 : BitVec 32 := Scalar.extui v86
  let v88 : BitVec 32 := Scalar.subi v85 v87
  let v89 : BitVec 1 := Scalar.cmpi .ne v83 v88
  let v90 : BitVec 32 := Scalar.remsi v77 c128_i32
  let c0_i32_64 : BitVec 32 := 0#32
  let v91 : BitVec 1 := Scalar.cmpi .ne v90 c0_i32_64
  let v92 : BitVec 1 := Scalar.andi v89 v91
  let v78 : BitVec 32 := Scalar.divsi v77 c128_i32
  let c1_i32_65 : BitVec 32 := 1#32
  let v93 : BitVec 32 := Scalar.subi v78 c1_i32_65
  let v94 : BitVec 32 := Scalar.select v92 v93 v78
  let v95 : BitVec 32 := Scalar.maxsi c1_i32_66 v94
  let v96 : BitVec 32 := Scalar.minsi c32_i32 v95
  let c128_i32_67 : BitVec 32 := 128#32
  let v97 : BitVec 32 := Scalar.muli v96 c128_i32_67
  let v98 : BitVec 32 := v97
  ![160, v98.toNat]

def k0_chk5 (k0_t2 : Fin k0_t2_loop.trips) (arg22 : BitVec 32) (arg23 : BitVec 32) (arg24 : BitVec 32) (v74 : BitVec 32) : Prop :=
  (∀ (k0_h2 : k0_cond2 arg22 = 1#1), 128 ∣ (k0_mult3 arg24 v74).toNat) ∧
  (∀ (k0_h2 : k0_cond2 arg22 = 1#1), ∀ a, (k0_off8 k0_t2 arg24 v74).2 a = 0 ∨ (k0_off8 k0_t2 arg24 v74).1 a + (k0_off8 k0_t2 arg24 v74).2 a ≤ S8x160x4096.size a) ∧
  (∀ (k0_h2 : k0_cond2 arg22 = 1#1), (⟨3, (k0_off8 k0_t2 arg24 v74).2⟩ : Shape).Squeezes ⟨2, k0_sz3 arg24 v74⟩) ∧
  (∀ (k0_h2 : k0_cond2 arg22 = 1#1), ∀ a, (k0_off9 arg22 arg23 arg24 v74).2 a = 0 ∨ (k0_off9 arg22 arg23 arg24 v74).1 a + (k0_off9 arg22 arg23 arg24 v74).2 a ≤ S24x160x32768.size a) ∧
  (∀ (k0_h2 : k0_cond2 arg22 = 1#1), (⟨3, (k0_off9 arg22 arg23 arg24 v74).2⟩ : Shape).Squeezes ⟨2, k0_sz4 arg24 v74⟩) ∧
  (∀ (k0_h2 : k0_cond2 arg22 = 1#1), ∀ (hinb : ∀ a, (k0_off9 arg22 arg23 arg24 v74).2 a = 0 ∨ (k0_off9 arg22 arg23 arg24 v74).1 a + (k0_off9 arg22 arg23 arg24 v74).2 a ≤ S24x160x32768.size a), (Rect.unitDyn (s := S24x160x32768) (k0_off9 arg22 arg23 arg24 v74).1 (k0_off9 arg22 arg23 arg24 v74).2 hinb).WholeWords (EltTy.packing .fp8e4m3)) ∧
  (∀ (k0_h2 : k0_cond2 arg22 = 1#1), ∀ (hinb : ∀ a, (k0_off8 k0_t2 arg24 v74).2 a = 0 ∨ (k0_off8 k0_t2 arg24 v74).1 a + (k0_off8 k0_t2 arg24 v74).2 a ≤ S8x160x4096.size a), (Rect.unitDyn (s := S8x160x4096) (k0_off8 k0_t2 arg24 v74).1 (k0_off8 k0_t2 arg24 v74).2 hinb).WholeWords (EltTy.packing .fp8e4m3))
theorem k0_mult3_dvd : ∀ (k0_t2 : Fin k0_t2_loop.trips) (arg22 : BitVec 32) (arg23 : BitVec 32) (arg24 : BitVec 32) (v74 : BitVec 32) (k0_hw5 : k0_chk5 k0_t2 arg22 arg23 arg24 v74), ∀ (k0_h2 : k0_cond2 arg22 = 1#1), 128 ∣ (k0_mult3 arg24 v74).toNat := fun k0_t2 arg22 arg23 arg24 v74 k0_hw5 k0_h2 => k0_hw5.1 k0_h2
theorem k0_off8_inb : ∀ (k0_t2 : Fin k0_t2_loop.trips) (arg22 : BitVec 32) (arg23 : BitVec 32) (arg24 : BitVec 32) (v74 : BitVec 32) (k0_hw5 : k0_chk5 k0_t2 arg22 arg23 arg24 v74), ∀ (k0_h2 : k0_cond2 arg22 = 1#1), ∀ a, (k0_off8 k0_t2 arg24 v74).2 a = 0 ∨ (k0_off8 k0_t2 arg24 v74).1 a + (k0_off8 k0_t2 arg24 v74).2 a ≤ S8x160x4096.size a := fun k0_t2 arg22 arg23 arg24 v74 k0_hw5 k0_h2 => k0_hw5.2.1 k0_h2
theorem k0_sz3_squeezes : ∀ (k0_t2 : Fin k0_t2_loop.trips) (arg22 : BitVec 32) (arg23 : BitVec 32) (arg24 : BitVec 32) (v74 : BitVec 32) (k0_hw5 : k0_chk5 k0_t2 arg22 arg23 arg24 v74), ∀ (k0_h2 : k0_cond2 arg22 = 1#1), (⟨3, (k0_off8 k0_t2 arg24 v74).2⟩ : Shape).Squeezes ⟨2, k0_sz3 arg24 v74⟩ := fun k0_t2 arg22 arg23 arg24 v74 k0_hw5 k0_h2 => k0_hw5.2.2.1 k0_h2
theorem k0_off9_inb : ∀ (k0_t2 : Fin k0_t2_loop.trips) (arg22 : BitVec 32) (arg23 : BitVec 32) (arg24 : BitVec 32) (v74 : BitVec 32) (k0_hw5 : k0_chk5 k0_t2 arg22 arg23 arg24 v74), ∀ (k0_h2 : k0_cond2 arg22 = 1#1), ∀ a, (k0_off9 arg22 arg23 arg24 v74).2 a = 0 ∨ (k0_off9 arg22 arg23 arg24 v74).1 a + (k0_off9 arg22 arg23 arg24 v74).2 a ≤ S24x160x32768.size a := fun k0_t2 arg22 arg23 arg24 v74 k0_hw5 k0_h2 => k0_hw5.2.2.2.1 k0_h2
theorem k0_sz4_squeezes : ∀ (k0_t2 : Fin k0_t2_loop.trips) (arg22 : BitVec 32) (arg23 : BitVec 32) (arg24 : BitVec 32) (v74 : BitVec 32) (k0_hw5 : k0_chk5 k0_t2 arg22 arg23 arg24 v74), ∀ (k0_h2 : k0_cond2 arg22 = 1#1), (⟨3, (k0_off9 arg22 arg23 arg24 v74).2⟩ : Shape).Squeezes ⟨2, k0_sz4 arg24 v74⟩ := fun k0_t2 arg22 arg23 arg24 v74 k0_hw5 k0_h2 => k0_hw5.2.2.2.2.1 k0_h2
theorem k0_off9_wordsfp8e4m3 : ∀ (k0_t2 : Fin k0_t2_loop.trips) (arg22 : BitVec 32) (arg23 : BitVec 32) (arg24 : BitVec 32) (v74 : BitVec 32) (k0_hw5 : k0_chk5 k0_t2 arg22 arg23 arg24 v74), ∀ (k0_h2 : k0_cond2 arg22 = 1#1), (Rect.unitDyn (s := S24x160x32768) (k0_off9 arg22 arg23 arg24 v74).1 (k0_off9 arg22 arg23 arg24 v74).2 (k0_off9_inb k0_t2 arg22 arg23 arg24 v74 k0_hw5 k0_h2)).WholeWords (EltTy.packing .fp8e4m3) := fun k0_t2 arg22 arg23 arg24 v74 k0_hw5 k0_h2 => k0_hw5.2.2.2.2.2.1 k0_h2 (k0_off9_inb k0_t2 arg22 arg23 arg24 v74 k0_hw5 k0_h2)
theorem k0_off8_wordsfp8e4m3 : ∀ (k0_t2 : Fin k0_t2_loop.trips) (arg22 : BitVec 32) (arg23 : BitVec 32) (arg24 : BitVec 32) (v74 : BitVec 32) (k0_hw5 : k0_chk5 k0_t2 arg22 arg23 arg24 v74), ∀ (k0_h2 : k0_cond2 arg22 = 1#1), (Rect.unitDyn (s := S8x160x4096) (k0_off8 k0_t2 arg24 v74).1 (k0_off8 k0_t2 arg24 v74).2 (k0_off8_inb k0_t2 arg22 arg23 arg24 v74 k0_hw5 k0_h2)).WholeWords (EltTy.packing .fp8e4m3) := fun k0_t2 arg22 arg23 arg24 v74 k0_hw5 k0_h2 => k0_hw5.2.2.2.2.2.2 k0_h2 (k0_off8_inb k0_t2 arg22 arg23 arg24 v74 k0_hw5 k0_h2)

def k0_off10 (arg22 : BitVec 32) : Fin 1 → Nat :=
  let c3_i32 : BitVec 32 := 3#32
  let v38 : BitVec 32 := Scalar.minsi arg22 c3_i32
  let v39 : Index := Scalar.indexCast v38
  ![v39.toNat]

def k0_chk4 (arg22 : BitVec 32) : Prop :=
  (∀ (k0_h2 : k0_cond2 arg22 = 1#1), ∀ a, (k0_off6 arg22) a + S1.size a ≤ S4.size a) ∧
  (∀ a, (k0_off10 arg22) a + S1.size a ≤ S4.size a)
theorem k0_off6_inb : ∀ (arg22 : BitVec 32) (k0_hw4 : k0_chk4 arg22), ∀ (k0_h2 : k0_cond2 arg22 = 1#1), ∀ a, (k0_off6 arg22) a + S1.size a ≤ S4.size a := fun arg22 k0_hw4 k0_h2 => k0_hw4.1 k0_h2
theorem k0_off10_inb : ∀ (arg22 : BitVec 32) (k0_hw4 : k0_chk4 arg22), ∀ a, (k0_off10 arg22) a + S1.size a ≤ S4.size a := fun arg22 k0_hw4 => k0_hw4.2

def k0_off11 (arg21 : BitVec 32) : Fin 1 → Nat :=
  let c3_i32_153 : BitVec 32 := 3#32
  let v280 : BitVec 32 := Scalar.minsi arg21 c3_i32_153
  let v281 : Index := Scalar.indexCast v280
  ![v281.toNat]
def k0_cond3 (arg21 : BitVec 32) : BitVec 1 :=
  let c4_i32 : BitVec 32 := 4#32
  let v34 : BitVec 1 := Scalar.cmpi .slt arg21 c4_i32
  let v40 : BitVec 32 := Scalar.extui v34
  let c0_i32_47 : BitVec 32 := 0#32
  let v41 : BitVec 1 := Scalar.cmpi .ne v40 c0_i32_47
  v41

def k0_mult5 (arg23 : BitVec 32) (v282 : BitVec 32) : BitVec 32 :=
  let c32_i32 : BitVec 32 := 32#32
  let c1_i32_161 : BitVec 32 := 1#32
  let c4096_i32_154 : BitVec 32 := 4096#32
  let v283 : BitVec 32 := Scalar.muli arg23 c4096_i32_154
  let v284 : BitVec 32 := Scalar.subi v282 v283
  let c127_i32 : BitVec 32 := 127#32
  let v285 : BitVec 32 := Scalar.addi v284 c127_i32
  let c0_i32_155 : BitVec 32 := 0#32
  let v287 : BitVec 1 := Scalar.cmpi .sgt v285 c0_i32_155
  let v288 : BitVec 32 := Scalar.extui v287
  let c0_i32_156 : BitVec 32 := 0#32
  let v289 : BitVec 1 := Scalar.cmpi .slt v285 c0_i32_156
  let v290 : BitVec 32 := Scalar.extui v289
  let v291 : BitVec 32 := Scalar.subi v288 v290
  let c128_i32 : BitVec 32 := 128#32
  let c0_i32_157 : BitVec 32 := 0#32
  let v292 : BitVec 1 := Scalar.cmpi .sgt c128_i32 c0_i32_157
  let v293 : BitVec 32 := Scalar.extui v292
  let c0_i32_158 : BitVec 32 := 0#32
  let v294 : BitVec 1 := Scalar.cmpi .slt c128_i32 c0_i32_158
  let v295 : BitVec 32 := Scalar.extui v294
  let v296 : BitVec 32 := Scalar.subi v293 v295
  let v297 : BitVec 1 := Scalar.cmpi .ne v291 v296
  let v298 : BitVec 32 := Scalar.remsi v285 c128_i32
  let c0_i32_159 : BitVec 32 := 0#32
  let v299 : BitVec 1 := Scalar.cmpi .ne v298 c0_i32_159
  let v300 : BitVec 1 := Scalar.andi v297 v299
  let v286 : BitVec 32 := Scalar.divsi v285 c128_i32
  let c1_i32_160 : BitVec 32 := 1#32
  let v301 : BitVec 32 := Scalar.subi v286 c1_i32_160
  let v302 : BitVec 32 := Scalar.select v300 v301 v286
  let v303 : BitVec 32 := Scalar.maxsi c1_i32_161 v302
  let v304 : BitVec 32 := Scalar.minsi c32_i32 v303
  let c128_i32_162 : BitVec 32 := 128#32
  let v305 : BitVec 32 := Scalar.muli v304 c128_i32_162
  v305

def k0_mult6 (arg23 : BitVec 32) : BitVec 32 :=
  let c4096_i32_163 : BitVec 32 := 4096#32
  let v307 : BitVec 32 := Scalar.muli arg23 c4096_i32_163
  v307

def k0_chk9 (arg21 : BitVec 32) (arg23 : BitVec 32) : Prop :=
  (∀ (k0_h3 : k0_cond3 arg21 = 1#1), 128 ∣ (k0_mult6 arg23).toNat)
theorem k0_mult6_dvd : ∀ (arg21 : BitVec 32) (arg23 : BitVec 32) (k0_hw9 : k0_chk9 arg21 arg23), ∀ (k0_h3 : k0_cond3 arg21 = 1#1), 128 ∣ (k0_mult6 arg23).toNat := fun arg21 arg23 k0_hw9 k0_h3 => k0_hw9 k0_h3

def k0_off12 (arg33 : BitVec 32) : Fin 1 → Nat :=
  ![arg33.toNat]

def k0_off13 (arg23 : BitVec 32) (arg33 : BitVec 32) (v282 : BitVec 32) : (Fin 3 → Nat) × (Fin 3 → Nat) :=
  let c0_i32_165 : BitVec 32 := 0#32
  let c0_i32_166 : BitVec 32 := 0#32
  let c32_i32 : BitVec 32 := 32#32
  let c1_i32_161 : BitVec 32 := 1#32
  let c4096_i32_154 : BitVec 32 := 4096#32
  let v283 : BitVec 32 := Scalar.muli arg23 c4096_i32_154
  let v284 : BitVec 32 := Scalar.subi v282 v283
  let c127_i32 : BitVec 32 := 127#32
  let v285 : BitVec 32 := Scalar.addi v284 c127_i32
  let c0_i32_155 : BitVec 32 := 0#32
  let v287 : BitVec 1 := Scalar.cmpi .sgt v285 c0_i32_155
  let v288 : BitVec 32 := Scalar.extui v287
  let c0_i32_156 : BitVec 32 := 0#32
  let v289 : BitVec 1 := Scalar.cmpi .slt v285 c0_i32_156
  let v290 : BitVec 32 := Scalar.extui v289
  let v291 : BitVec 32 := Scalar.subi v288 v290
  let c128_i32 : BitVec 32 := 128#32
  let c0_i32_157 : BitVec 32 := 0#32
  let v292 : BitVec 1 := Scalar.cmpi .sgt c128_i32 c0_i32_157
  let v293 : BitVec 32 := Scalar.extui v292
  let c0_i32_158 : BitVec 32 := 0#32
  let v294 : BitVec 1 := Scalar.cmpi .slt c128_i32 c0_i32_158
  let v295 : BitVec 32 := Scalar.extui v294
  let v296 : BitVec 32 := Scalar.subi v293 v295
  let v297 : BitVec 1 := Scalar.cmpi .ne v291 v296
  let v298 : BitVec 32 := Scalar.remsi v285 c128_i32
  let c0_i32_159 : BitVec 32 := 0#32
  let v299 : BitVec 1 := Scalar.cmpi .ne v298 c0_i32_159
  let v300 : BitVec 1 := Scalar.andi v297 v299
  let v286 : BitVec 32 := Scalar.divsi v285 c128_i32
  let c1_i32_160 : BitVec 32 := 1#32
  let v301 : BitVec 32 := Scalar.subi v286 c1_i32_160
  let v302 : BitVec 32 := Scalar.select v300 v301 v286
  let v303 : BitVec 32 := Scalar.maxsi c1_i32_161 v302
  let v304 : BitVec 32 := Scalar.minsi c32_i32 v303
  let c128_i32_162 : BitVec 32 := 128#32
  let v305 : BitVec 32 := Scalar.muli v304 c128_i32_162
  let v306 : BitVec 32 := v305
  ⟨![arg33.toNat, 0, 0], ![1, 160, v306.toNat]⟩

def k0_sz5 (arg23 : BitVec 32) (v282 : BitVec 32) : Fin 2 → Nat :=
  let c32_i32 : BitVec 32 := 32#32
  let c1_i32_161 : BitVec 32 := 1#32
  let c4096_i32_154 : BitVec 32 := 4096#32
  let v283 : BitVec 32 := Scalar.muli arg23 c4096_i32_154
  let v284 : BitVec 32 := Scalar.subi v282 v283
  let c127_i32 : BitVec 32 := 127#32
  let v285 : BitVec 32 := Scalar.addi v284 c127_i32
  let c0_i32_155 : BitVec 32 := 0#32
  let v287 : BitVec 1 := Scalar.cmpi .sgt v285 c0_i32_155
  let v288 : BitVec 32 := Scalar.extui v287
  let c0_i32_156 : BitVec 32 := 0#32
  let v289 : BitVec 1 := Scalar.cmpi .slt v285 c0_i32_156
  let v290 : BitVec 32 := Scalar.extui v289
  let v291 : BitVec 32 := Scalar.subi v288 v290
  let c128_i32 : BitVec 32 := 128#32
  let c0_i32_157 : BitVec 32 := 0#32
  let v292 : BitVec 1 := Scalar.cmpi .sgt c128_i32 c0_i32_157
  let v293 : BitVec 32 := Scalar.extui v292
  let c0_i32_158 : BitVec 32 := 0#32
  let v294 : BitVec 1 := Scalar.cmpi .slt c128_i32 c0_i32_158
  let v295 : BitVec 32 := Scalar.extui v294
  let v296 : BitVec 32 := Scalar.subi v293 v295
  let v297 : BitVec 1 := Scalar.cmpi .ne v291 v296
  let v298 : BitVec 32 := Scalar.remsi v285 c128_i32
  let c0_i32_159 : BitVec 32 := 0#32
  let v299 : BitVec 1 := Scalar.cmpi .ne v298 c0_i32_159
  let v300 : BitVec 1 := Scalar.andi v297 v299
  let v286 : BitVec 32 := Scalar.divsi v285 c128_i32
  let c1_i32_160 : BitVec 32 := 1#32
  let v301 : BitVec 32 := Scalar.subi v286 c1_i32_160
  let v302 : BitVec 32 := Scalar.select v300 v301 v286
  let v303 : BitVec 32 := Scalar.maxsi c1_i32_161 v302
  let v304 : BitVec 32 := Scalar.minsi c32_i32 v303
  let c128_i32_162 : BitVec 32 := 128#32
  let v305 : BitVec 32 := Scalar.muli v304 c128_i32_162
  let v306 : BitVec 32 := v305
  ![160, v306.toNat]
def k0_off14 (arg21 : BitVec 32) (arg22 : BitVec 32) (arg23 : BitVec 32) (v282 : BitVec 32) : (Fin 3 → Nat) × (Fin 3 → Nat) :=
  let c6_i32_164 : BitVec 32 := 6#32
  let v309 : BitVec 32 := Scalar.muli arg21 c6_i32_164
  let v310 : BitVec 32 := Scalar.addi v309 arg22
  let c0_i32_167 : BitVec 32 := 0#32
  let c4096_i32_163 : BitVec 32 := 4096#32
  let v307 : BitVec 32 := Scalar.muli arg23 c4096_i32_163
  let v308 : BitVec 32 := v307
  let c32_i32 : BitVec 32 := 32#32
  let c1_i32_161 : BitVec 32 := 1#32
  let c4096_i32_154 : BitVec 32 := 4096#32
  let v283 : BitVec 32 := Scalar.muli arg23 c4096_i32_154
  let v284 : BitVec 32 := Scalar.subi v282 v283
  let c127_i32 : BitVec 32 := 127#32
  let v285 : BitVec 32 := Scalar.addi v284 c127_i32
  let c0_i32_155 : BitVec 32 := 0#32
  let v287 : BitVec 1 := Scalar.cmpi .sgt v285 c0_i32_155
  let v288 : BitVec 32 := Scalar.extui v287
  let c0_i32_156 : BitVec 32 := 0#32
  let v289 : BitVec 1 := Scalar.cmpi .slt v285 c0_i32_156
  let v290 : BitVec 32 := Scalar.extui v289
  let v291 : BitVec 32 := Scalar.subi v288 v290
  let c128_i32 : BitVec 32 := 128#32
  let c0_i32_157 : BitVec 32 := 0#32
  let v292 : BitVec 1 := Scalar.cmpi .sgt c128_i32 c0_i32_157
  let v293 : BitVec 32 := Scalar.extui v292
  let c0_i32_158 : BitVec 32 := 0#32
  let v294 : BitVec 1 := Scalar.cmpi .slt c128_i32 c0_i32_158
  let v295 : BitVec 32 := Scalar.extui v294
  let v296 : BitVec 32 := Scalar.subi v293 v295
  let v297 : BitVec 1 := Scalar.cmpi .ne v291 v296
  let v298 : BitVec 32 := Scalar.remsi v285 c128_i32
  let c0_i32_159 : BitVec 32 := 0#32
  let v299 : BitVec 1 := Scalar.cmpi .ne v298 c0_i32_159
  let v300 : BitVec 1 := Scalar.andi v297 v299
  let v286 : BitVec 32 := Scalar.divsi v285 c128_i32
  let c1_i32_160 : BitVec 32 := 1#32
  let v301 : BitVec 32 := Scalar.subi v286 c1_i32_160
  let v302 : BitVec 32 := Scalar.select v300 v301 v286
  let v303 : BitVec 32 := Scalar.maxsi c1_i32_161 v302
  let v304 : BitVec 32 := Scalar.minsi c32_i32 v303
  let c128_i32_162 : BitVec 32 := 128#32
  let v305 : BitVec 32 := Scalar.muli v304 c128_i32_162
  let v306 : BitVec 32 := v305
  ⟨![v310.toNat, 0, v308.toNat], ![1, 160, v306.toNat]⟩

def k0_sz6 (arg23 : BitVec 32) (v282 : BitVec 32) : Fin 2 → Nat :=
  let c32_i32 : BitVec 32 := 32#32
  let c1_i32_161 : BitVec 32 := 1#32
  let c4096_i32_154 : BitVec 32 := 4096#32
  let v283 : BitVec 32 := Scalar.muli arg23 c4096_i32_154
  let v284 : BitVec 32 := Scalar.subi v282 v283
  let c127_i32 : BitVec 32 := 127#32
  let v285 : BitVec 32 := Scalar.addi v284 c127_i32
  let c0_i32_155 : BitVec 32 := 0#32
  let v287 : BitVec 1 := Scalar.cmpi .sgt v285 c0_i32_155
  let v288 : BitVec 32 := Scalar.extui v287
  let c0_i32_156 : BitVec 32 := 0#32
  let v289 : BitVec 1 := Scalar.cmpi .slt v285 c0_i32_156
  let v290 : BitVec 32 := Scalar.extui v289
  let v291 : BitVec 32 := Scalar.subi v288 v290
  let c128_i32 : BitVec 32 := 128#32
  let c0_i32_157 : BitVec 32 := 0#32
  let v292 : BitVec 1 := Scalar.cmpi .sgt c128_i32 c0_i32_157
  let v293 : BitVec 32 := Scalar.extui v292
  let c0_i32_158 : BitVec 32 := 0#32
  let v294 : BitVec 1 := Scalar.cmpi .slt c128_i32 c0_i32_158
  let v295 : BitVec 32 := Scalar.extui v294
  let v296 : BitVec 32 := Scalar.subi v293 v295
  let v297 : BitVec 1 := Scalar.cmpi .ne v291 v296
  let v298 : BitVec 32 := Scalar.remsi v285 c128_i32
  let c0_i32_159 : BitVec 32 := 0#32
  let v299 : BitVec 1 := Scalar.cmpi .ne v298 c0_i32_159
  let v300 : BitVec 1 := Scalar.andi v297 v299
  let v286 : BitVec 32 := Scalar.divsi v285 c128_i32
  let c1_i32_160 : BitVec 32 := 1#32
  let v301 : BitVec 32 := Scalar.subi v286 c1_i32_160
  let v302 : BitVec 32 := Scalar.select v300 v301 v286
  let v303 : BitVec 32 := Scalar.maxsi c1_i32_161 v302
  let v304 : BitVec 32 := Scalar.minsi c32_i32 v303
  let c128_i32_162 : BitVec 32 := 128#32
  let v305 : BitVec 32 := Scalar.muli v304 c128_i32_162
  let v306 : BitVec 32 := v305
  ![160, v306.toNat]

def k0_chk8 (arg21 : BitVec 32) (arg22 : BitVec 32) (arg23 : BitVec 32) (arg33 : BitVec 32) (v282 : BitVec 32) : Prop :=
  (∀ (k0_h3 : k0_cond3 arg21 = 1#1), 128 ∣ (k0_mult5 arg23 v282).toNat) ∧
  (∀ (k0_h3 : k0_cond3 arg21 = 1#1), (⟨3, (k0_off13 arg23 arg33 v282).2⟩ : Shape).Squeezes ⟨2, k0_sz5 arg23 v282⟩) ∧
  (∀ (k0_h3 : k0_cond3 arg21 = 1#1), (⟨3, (k0_off14 arg21 arg22 arg23 v282).2⟩ : Shape).Squeezes ⟨2, k0_sz6 arg23 v282⟩)
theorem k0_mult5_dvd : ∀ (arg21 : BitVec 32) (arg22 : BitVec 32) (arg23 : BitVec 32) (arg33 : BitVec 32) (v282 : BitVec 32) (k0_hw8 : k0_chk8 arg21 arg22 arg23 arg33 v282), ∀ (k0_h3 : k0_cond3 arg21 = 1#1), 128 ∣ (k0_mult5 arg23 v282).toNat := fun arg21 arg22 arg23 arg33 v282 k0_hw8 k0_h3 => k0_hw8.1 k0_h3
theorem k0_sz5_squeezes : ∀ (arg21 : BitVec 32) (arg22 : BitVec 32) (arg23 : BitVec 32) (arg33 : BitVec 32) (v282 : BitVec 32) (k0_hw8 : k0_chk8 arg21 arg22 arg23 arg33 v282), ∀ (k0_h3 : k0_cond3 arg21 = 1#1), (⟨3, (k0_off13 arg23 arg33 v282).2⟩ : Shape).Squeezes ⟨2, k0_sz5 arg23 v282⟩ := fun arg21 arg22 arg23 arg33 v282 k0_hw8 k0_h3 => k0_hw8.2.1 k0_h3
theorem k0_sz6_squeezes : ∀ (arg21 : BitVec 32) (arg22 : BitVec 32) (arg23 : BitVec 32) (arg33 : BitVec 32) (v282 : BitVec 32) (k0_hw8 : k0_chk8 arg21 arg22 arg23 arg33 v282), ∀ (k0_h3 : k0_cond3 arg21 = 1#1), (⟨3, (k0_off14 arg21 arg22 arg23 v282).2⟩ : Shape).Squeezes ⟨2, k0_sz6 arg23 v282⟩ := fun arg21 arg22 arg23 arg33 v282 k0_hw8 k0_h3 => k0_hw8.2.2 k0_h3

def k0_off15 (arg24 : BitVec 32) : Fin 1 → Nat :=
  let c3_i32_153 : BitVec 32 := 3#32
  let v280 : BitVec 32 := Scalar.minsi arg24 c3_i32_153
  let v281 : Index := Scalar.indexCast v280
  ![v281.toNat]
def k0_cond4 (arg21 : BitVec 32) (arg22 : BitVec 32) (arg24 : BitVec 32) (arg25 : BitVec 32) : BitVec 1 :=
  let c6_i32_45 : BitVec 32 := 6#32
  let v35 : BitVec 32 := Scalar.muli arg21 c6_i32_45
  let v36 : BitVec 32 := Scalar.addi v35 arg22
  let c6_i32_46 : BitVec 32 := 6#32
  let v37 : BitVec 32 := Scalar.muli arg24 c6_i32_46
  let v38 : BitVec 32 := Scalar.addi v37 arg25
  let v39 : BitVec 1 := Scalar.cmpi .sgt v36 v38
  let v42 : BitVec 32 := Scalar.extui v39
  let c0_i32_48 : BitVec 32 := 0#32
  let v43 : BitVec 1 := Scalar.cmpi .ne v42 c0_i32_48
  v43

def k0_mult7 (arg26 : BitVec 32) (v282 : BitVec 32) : BitVec 32 :=
  let c32_i32 : BitVec 32 := 32#32
  let c1_i32_161 : BitVec 32 := 1#32
  let c4096_i32_154 : BitVec 32 := 4096#32
  let v283 : BitVec 32 := Scalar.muli arg26 c4096_i32_154
  let v284 : BitVec 32 := Scalar.subi v282 v283
  let c127_i32 : BitVec 32 := 127#32
  let v285 : BitVec 32 := Scalar.addi v284 c127_i32
  let c0_i32_155 : BitVec 32 := 0#32
  let v287 : BitVec 1 := Scalar.cmpi .sgt v285 c0_i32_155
  let v288 : BitVec 32 := Scalar.extui v287
  let c0_i32_156 : BitVec 32 := 0#32
  let v289 : BitVec 1 := Scalar.cmpi .slt v285 c0_i32_156
  let v290 : BitVec 32 := Scalar.extui v289
  let v291 : BitVec 32 := Scalar.subi v288 v290
  let c128_i32 : BitVec 32 := 128#32
  let c0_i32_157 : BitVec 32 := 0#32
  let v292 : BitVec 1 := Scalar.cmpi .sgt c128_i32 c0_i32_157
  let v293 : BitVec 32 := Scalar.extui v292
  let c0_i32_158 : BitVec 32 := 0#32
  let v294 : BitVec 1 := Scalar.cmpi .slt c128_i32 c0_i32_158
  let v295 : BitVec 32 := Scalar.extui v294
  let v296 : BitVec 32 := Scalar.subi v293 v295
  let v297 : BitVec 1 := Scalar.cmpi .ne v291 v296
  let v298 : BitVec 32 := Scalar.remsi v285 c128_i32
  let c0_i32_159 : BitVec 32 := 0#32
  let v299 : BitVec 1 := Scalar.cmpi .ne v298 c0_i32_159
  let v300 : BitVec 1 := Scalar.andi v297 v299
  let v286 : BitVec 32 := Scalar.divsi v285 c128_i32
  let c1_i32_160 : BitVec 32 := 1#32
  let v301 : BitVec 32 := Scalar.subi v286 c1_i32_160
  let v302 : BitVec 32 := Scalar.select v300 v301 v286
  let v303 : BitVec 32 := Scalar.maxsi c1_i32_161 v302
  let v304 : BitVec 32 := Scalar.minsi c32_i32 v303
  let c128_i32_162 : BitVec 32 := 128#32
  let v305 : BitVec 32 := Scalar.muli v304 c128_i32_162
  v305

def k0_mult8 (arg26 : BitVec 32) : BitVec 32 :=
  let c4096_i32_163 : BitVec 32 := 4096#32
  let v307 : BitVec 32 := Scalar.muli arg26 c4096_i32_163
  v307

def k0_chk13 (arg21 : BitVec 32) (arg22 : BitVec 32) (arg24 : BitVec 32) (arg25 : BitVec 32) (arg26 : BitVec 32) : Prop :=
  (∀ (k0_h4 : k0_cond4 arg21 arg22 arg24 arg25 = 1#1), 128 ∣ (k0_mult8 arg26).toNat)
theorem k0_mult8_dvd : ∀ (arg21 : BitVec 32) (arg22 : BitVec 32) (arg24 : BitVec 32) (arg25 : BitVec 32) (arg26 : BitVec 32) (k0_hw13 : k0_chk13 arg21 arg22 arg24 arg25 arg26), ∀ (k0_h4 : k0_cond4 arg21 arg22 arg24 arg25 = 1#1), 128 ∣ (k0_mult8 arg26).toNat := fun arg21 arg22 arg24 arg25 arg26 k0_hw13 k0_h4 => k0_hw13 k0_h4

def k0_off16 (arg34 : BitVec 32) : Fin 1 → Nat :=
  ![arg34.toNat]

def k0_off17 (arg26 : BitVec 32) (arg34 : BitVec 32) (v282 : BitVec 32) : (Fin 3 → Nat) × (Fin 3 → Nat) :=
  let c0_i32_165 : BitVec 32 := 0#32
  let c0_i32_166 : BitVec 32 := 0#32
  let c32_i32 : BitVec 32 := 32#32
  let c1_i32_161 : BitVec 32 := 1#32
  let c4096_i32_154 : BitVec 32 := 4096#32
  let v283 : BitVec 32 := Scalar.muli arg26 c4096_i32_154
  let v284 : BitVec 32 := Scalar.subi v282 v283
  let c127_i32 : BitVec 32 := 127#32
  let v285 : BitVec 32 := Scalar.addi v284 c127_i32
  let c0_i32_155 : BitVec 32 := 0#32
  let v287 : BitVec 1 := Scalar.cmpi .sgt v285 c0_i32_155
  let v288 : BitVec 32 := Scalar.extui v287
  let c0_i32_156 : BitVec 32 := 0#32
  let v289 : BitVec 1 := Scalar.cmpi .slt v285 c0_i32_156
  let v290 : BitVec 32 := Scalar.extui v289
  let v291 : BitVec 32 := Scalar.subi v288 v290
  let c128_i32 : BitVec 32 := 128#32
  let c0_i32_157 : BitVec 32 := 0#32
  let v292 : BitVec 1 := Scalar.cmpi .sgt c128_i32 c0_i32_157
  let v293 : BitVec 32 := Scalar.extui v292
  let c0_i32_158 : BitVec 32 := 0#32
  let v294 : BitVec 1 := Scalar.cmpi .slt c128_i32 c0_i32_158
  let v295 : BitVec 32 := Scalar.extui v294
  let v296 : BitVec 32 := Scalar.subi v293 v295
  let v297 : BitVec 1 := Scalar.cmpi .ne v291 v296
  let v298 : BitVec 32 := Scalar.remsi v285 c128_i32
  let c0_i32_159 : BitVec 32 := 0#32
  let v299 : BitVec 1 := Scalar.cmpi .ne v298 c0_i32_159
  let v300 : BitVec 1 := Scalar.andi v297 v299
  let v286 : BitVec 32 := Scalar.divsi v285 c128_i32
  let c1_i32_160 : BitVec 32 := 1#32
  let v301 : BitVec 32 := Scalar.subi v286 c1_i32_160
  let v302 : BitVec 32 := Scalar.select v300 v301 v286
  let v303 : BitVec 32 := Scalar.maxsi c1_i32_161 v302
  let v304 : BitVec 32 := Scalar.minsi c32_i32 v303
  let c128_i32_162 : BitVec 32 := 128#32
  let v305 : BitVec 32 := Scalar.muli v304 c128_i32_162
  let v306 : BitVec 32 := v305
  ⟨![arg34.toNat, 0, 0], ![1, 160, v306.toNat]⟩

def k0_sz7 (arg26 : BitVec 32) (v282 : BitVec 32) : Fin 2 → Nat :=
  let c32_i32 : BitVec 32 := 32#32
  let c1_i32_161 : BitVec 32 := 1#32
  let c4096_i32_154 : BitVec 32 := 4096#32
  let v283 : BitVec 32 := Scalar.muli arg26 c4096_i32_154
  let v284 : BitVec 32 := Scalar.subi v282 v283
  let c127_i32 : BitVec 32 := 127#32
  let v285 : BitVec 32 := Scalar.addi v284 c127_i32
  let c0_i32_155 : BitVec 32 := 0#32
  let v287 : BitVec 1 := Scalar.cmpi .sgt v285 c0_i32_155
  let v288 : BitVec 32 := Scalar.extui v287
  let c0_i32_156 : BitVec 32 := 0#32
  let v289 : BitVec 1 := Scalar.cmpi .slt v285 c0_i32_156
  let v290 : BitVec 32 := Scalar.extui v289
  let v291 : BitVec 32 := Scalar.subi v288 v290
  let c128_i32 : BitVec 32 := 128#32
  let c0_i32_157 : BitVec 32 := 0#32
  let v292 : BitVec 1 := Scalar.cmpi .sgt c128_i32 c0_i32_157
  let v293 : BitVec 32 := Scalar.extui v292
  let c0_i32_158 : BitVec 32 := 0#32
  let v294 : BitVec 1 := Scalar.cmpi .slt c128_i32 c0_i32_158
  let v295 : BitVec 32 := Scalar.extui v294
  let v296 : BitVec 32 := Scalar.subi v293 v295
  let v297 : BitVec 1 := Scalar.cmpi .ne v291 v296
  let v298 : BitVec 32 := Scalar.remsi v285 c128_i32
  let c0_i32_159 : BitVec 32 := 0#32
  let v299 : BitVec 1 := Scalar.cmpi .ne v298 c0_i32_159
  let v300 : BitVec 1 := Scalar.andi v297 v299
  let v286 : BitVec 32 := Scalar.divsi v285 c128_i32
  let c1_i32_160 : BitVec 32 := 1#32
  let v301 : BitVec 32 := Scalar.subi v286 c1_i32_160
  let v302 : BitVec 32 := Scalar.select v300 v301 v286
  let v303 : BitVec 32 := Scalar.maxsi c1_i32_161 v302
  let v304 : BitVec 32 := Scalar.minsi c32_i32 v303
  let c128_i32_162 : BitVec 32 := 128#32
  let v305 : BitVec 32 := Scalar.muli v304 c128_i32_162
  let v306 : BitVec 32 := v305
  ![160, v306.toNat]
def k0_off18 (arg24 : BitVec 32) (arg25 : BitVec 32) (arg26 : BitVec 32) (v282 : BitVec 32) : (Fin 3 → Nat) × (Fin 3 → Nat) :=
  let c6_i32_164 : BitVec 32 := 6#32
  let v309 : BitVec 32 := Scalar.muli arg24 c6_i32_164
  let v310 : BitVec 32 := Scalar.addi v309 arg25
  let c0_i32_167 : BitVec 32 := 0#32
  let c4096_i32_163 : BitVec 32 := 4096#32
  let v307 : BitVec 32 := Scalar.muli arg26 c4096_i32_163
  let v308 : BitVec 32 := v307
  let c32_i32 : BitVec 32 := 32#32
  let c1_i32_161 : BitVec 32 := 1#32
  let c4096_i32_154 : BitVec 32 := 4096#32
  let v283 : BitVec 32 := Scalar.muli arg26 c4096_i32_154
  let v284 : BitVec 32 := Scalar.subi v282 v283
  let c127_i32 : BitVec 32 := 127#32
  let v285 : BitVec 32 := Scalar.addi v284 c127_i32
  let c0_i32_155 : BitVec 32 := 0#32
  let v287 : BitVec 1 := Scalar.cmpi .sgt v285 c0_i32_155
  let v288 : BitVec 32 := Scalar.extui v287
  let c0_i32_156 : BitVec 32 := 0#32
  let v289 : BitVec 1 := Scalar.cmpi .slt v285 c0_i32_156
  let v290 : BitVec 32 := Scalar.extui v289
  let v291 : BitVec 32 := Scalar.subi v288 v290
  let c128_i32 : BitVec 32 := 128#32
  let c0_i32_157 : BitVec 32 := 0#32
  let v292 : BitVec 1 := Scalar.cmpi .sgt c128_i32 c0_i32_157
  let v293 : BitVec 32 := Scalar.extui v292
  let c0_i32_158 : BitVec 32 := 0#32
  let v294 : BitVec 1 := Scalar.cmpi .slt c128_i32 c0_i32_158
  let v295 : BitVec 32 := Scalar.extui v294
  let v296 : BitVec 32 := Scalar.subi v293 v295
  let v297 : BitVec 1 := Scalar.cmpi .ne v291 v296
  let v298 : BitVec 32 := Scalar.remsi v285 c128_i32
  let c0_i32_159 : BitVec 32 := 0#32
  let v299 : BitVec 1 := Scalar.cmpi .ne v298 c0_i32_159
  let v300 : BitVec 1 := Scalar.andi v297 v299
  let v286 : BitVec 32 := Scalar.divsi v285 c128_i32
  let c1_i32_160 : BitVec 32 := 1#32
  let v301 : BitVec 32 := Scalar.subi v286 c1_i32_160
  let v302 : BitVec 32 := Scalar.select v300 v301 v286
  let v303 : BitVec 32 := Scalar.maxsi c1_i32_161 v302
  let v304 : BitVec 32 := Scalar.minsi c32_i32 v303
  let c128_i32_162 : BitVec 32 := 128#32
  let v305 : BitVec 32 := Scalar.muli v304 c128_i32_162
  let v306 : BitVec 32 := v305
  ⟨![v310.toNat, 0, v308.toNat], ![1, 160, v306.toNat]⟩

def k0_sz8 (arg26 : BitVec 32) (v282 : BitVec 32) : Fin 2 → Nat :=
  let c32_i32 : BitVec 32 := 32#32
  let c1_i32_161 : BitVec 32 := 1#32
  let c4096_i32_154 : BitVec 32 := 4096#32
  let v283 : BitVec 32 := Scalar.muli arg26 c4096_i32_154
  let v284 : BitVec 32 := Scalar.subi v282 v283
  let c127_i32 : BitVec 32 := 127#32
  let v285 : BitVec 32 := Scalar.addi v284 c127_i32
  let c0_i32_155 : BitVec 32 := 0#32
  let v287 : BitVec 1 := Scalar.cmpi .sgt v285 c0_i32_155
  let v288 : BitVec 32 := Scalar.extui v287
  let c0_i32_156 : BitVec 32 := 0#32
  let v289 : BitVec 1 := Scalar.cmpi .slt v285 c0_i32_156
  let v290 : BitVec 32 := Scalar.extui v289
  let v291 : BitVec 32 := Scalar.subi v288 v290
  let c128_i32 : BitVec 32 := 128#32
  let c0_i32_157 : BitVec 32 := 0#32
  let v292 : BitVec 1 := Scalar.cmpi .sgt c128_i32 c0_i32_157
  let v293 : BitVec 32 := Scalar.extui v292
  let c0_i32_158 : BitVec 32 := 0#32
  let v294 : BitVec 1 := Scalar.cmpi .slt c128_i32 c0_i32_158
  let v295 : BitVec 32 := Scalar.extui v294
  let v296 : BitVec 32 := Scalar.subi v293 v295
  let v297 : BitVec 1 := Scalar.cmpi .ne v291 v296
  let v298 : BitVec 32 := Scalar.remsi v285 c128_i32
  let c0_i32_159 : BitVec 32 := 0#32
  let v299 : BitVec 1 := Scalar.cmpi .ne v298 c0_i32_159
  let v300 : BitVec 1 := Scalar.andi v297 v299
  let v286 : BitVec 32 := Scalar.divsi v285 c128_i32
  let c1_i32_160 : BitVec 32 := 1#32
  let v301 : BitVec 32 := Scalar.subi v286 c1_i32_160
  let v302 : BitVec 32 := Scalar.select v300 v301 v286
  let v303 : BitVec 32 := Scalar.maxsi c1_i32_161 v302
  let v304 : BitVec 32 := Scalar.minsi c32_i32 v303
  let c128_i32_162 : BitVec 32 := 128#32
  let v305 : BitVec 32 := Scalar.muli v304 c128_i32_162
  let v306 : BitVec 32 := v305
  ![160, v306.toNat]

def k0_chk12 (arg21 : BitVec 32) (arg22 : BitVec 32) (arg24 : BitVec 32) (arg25 : BitVec 32) (arg26 : BitVec 32) (arg34 : BitVec 32) (v282 : BitVec 32) : Prop :=
  (∀ (k0_h4 : k0_cond4 arg21 arg22 arg24 arg25 = 1#1), 128 ∣ (k0_mult7 arg26 v282).toNat) ∧
  (∀ (k0_h4 : k0_cond4 arg21 arg22 arg24 arg25 = 1#1), (⟨3, (k0_off17 arg26 arg34 v282).2⟩ : Shape).Squeezes ⟨2, k0_sz7 arg26 v282⟩) ∧
  (∀ (k0_h4 : k0_cond4 arg21 arg22 arg24 arg25 = 1#1), (⟨3, (k0_off18 arg24 arg25 arg26 v282).2⟩ : Shape).Squeezes ⟨2, k0_sz8 arg26 v282⟩)
theorem k0_mult7_dvd : ∀ (arg21 : BitVec 32) (arg22 : BitVec 32) (arg24 : BitVec 32) (arg25 : BitVec 32) (arg26 : BitVec 32) (arg34 : BitVec 32) (v282 : BitVec 32) (k0_hw12 : k0_chk12 arg21 arg22 arg24 arg25 arg26 arg34 v282), ∀ (k0_h4 : k0_cond4 arg21 arg22 arg24 arg25 = 1#1), 128 ∣ (k0_mult7 arg26 v282).toNat := fun arg21 arg22 arg24 arg25 arg26 arg34 v282 k0_hw12 k0_h4 => k0_hw12.1 k0_h4
theorem k0_sz7_squeezes : ∀ (arg21 : BitVec 32) (arg22 : BitVec 32) (arg24 : BitVec 32) (arg25 : BitVec 32) (arg26 : BitVec 32) (arg34 : BitVec 32) (v282 : BitVec 32) (k0_hw12 : k0_chk12 arg21 arg22 arg24 arg25 arg26 arg34 v282), ∀ (k0_h4 : k0_cond4 arg21 arg22 arg24 arg25 = 1#1), (⟨3, (k0_off17 arg26 arg34 v282).2⟩ : Shape).Squeezes ⟨2, k0_sz7 arg26 v282⟩ := fun arg21 arg22 arg24 arg25 arg26 arg34 v282 k0_hw12 k0_h4 => k0_hw12.2.1 k0_h4
theorem k0_sz8_squeezes : ∀ (arg21 : BitVec 32) (arg22 : BitVec 32) (arg24 : BitVec 32) (arg25 : BitVec 32) (arg26 : BitVec 32) (arg34 : BitVec 32) (v282 : BitVec 32) (k0_hw12 : k0_chk12 arg21 arg22 arg24 arg25 arg26 arg34 v282), ∀ (k0_h4 : k0_cond4 arg21 arg22 arg24 arg25 = 1#1), (⟨3, (k0_off18 arg24 arg25 arg26 v282).2⟩ : Shape).Squeezes ⟨2, k0_sz8 arg26 v282⟩ := fun arg21 arg22 arg24 arg25 arg26 arg34 v282 k0_hw12 k0_h4 => k0_hw12.2.2 k0_h4

def k0_off19 (arg21 : BitVec 32) (arg22 : BitVec 32) : Fin 3 → Nat :=
  let c6_i32_153 : BitVec 32 := 6#32
  let v280 : BitVec 32 := Scalar.muli arg21 c6_i32_153
  let v281 : BitVec 32 := Scalar.addi v280 arg22
  let v282 : Index := Scalar.indexCast v281
  let c0_154 : Index := 0#32
  let c0_155 : Index := 0#32
  ![v282.toNat, 0, 0]
def k0_cond5 (arg21 : BitVec 32) (arg22 : BitVec 32) (arg24 : BitVec 32) (arg25 : BitVec 32) : BitVec 1 :=
  let c4_i32 : BitVec 32 := 4#32
  let v34 : BitVec 1 := Scalar.cmpi .slt arg21 c4_i32
  let c6_i32_45 : BitVec 32 := 6#32
  let v35 : BitVec 32 := Scalar.muli arg21 c6_i32_45
  let v36 : BitVec 32 := Scalar.addi v35 arg22
  let c6_i32_46 : BitVec 32 := 6#32
  let v37 : BitVec 32 := Scalar.muli arg24 c6_i32_46
  let v38 : BitVec 32 := Scalar.addi v37 arg25
  let v39 : BitVec 1 := Scalar.cmpi .sgt v36 v38
  let v44 : BitVec 1 := Scalar.andi v34 v39
  let v45 : BitVec 32 := Scalar.extui v44
  let c0_i32_49 : BitVec 32 := 0#32
  let v46 : BitVec 1 := Scalar.cmpi .ne v45 c0_i32_49
  v46

def k0_off20 (arg33 : BitVec 32) : Fin 3 → Nat :=
  let v285 : Index := Scalar.indexCast arg33
  let c0_156 : Index := 0#32
  let c0_157 : Index := 0#32
  ![v285.toNat, 0, 0]
def k0_off21 (arg21 : BitVec 32) : Fin 1 → Nat :=
  let c3_i32_160 : BitVec 32 := 3#32
  let v292 : BitVec 32 := Scalar.minsi arg21 c3_i32_160
  let v293 : Index := Scalar.indexCast v292
  ![v293.toNat]
def k0_off22 (arg35 : BitVec 32) : Fin 3 → Nat :=
  let v301 : Index := Scalar.indexCast arg35
  let c0_163 : Index := 0#32
  let c0_164 : Index := 0#32
  ![v301.toNat, 0, 0]

def k0_off23 (arg24 : BitVec 32) (arg25 : BitVec 32) : Fin 3 → Nat :=
  let c6_i32_170 : BitVec 32 := 6#32
  let v375 : BitVec 32 := Scalar.muli arg24 c6_i32_170
  let v376 : BitVec 32 := Scalar.addi v375 arg25
  let v377 : Index := Scalar.indexCast v376
  let c0_171 : Index := 0#32
  let c0_172 : Index := 0#32
  ![v377.toNat, 0, 0]
def k0_off24 (arg36 : BitVec 32) : Fin 3 → Nat :=
  let v384 : Index := Scalar.indexCast arg36
  let c0_177 : Index := 0#32
  let c0_178 : Index := 0#32
  ![v384.toNat, 0, 0]

def k0_off25 (arg36 : BitVec 32) : Fin 3 → Nat :=
  let v394 : Index := Scalar.indexCast arg36
  let c0_181 : Index := 0#32
  let c128 : Index := 128#32
  ![v394.toNat, 0, 128]
def k0_off26 (arg36 : BitVec 32) : Fin 3 → Nat :=
  let v404 : Index := Scalar.indexCast arg36
  let c0_184 : Index := 0#32
  let c256 : Index := 256#32
  ![v404.toNat, 0, 256]
def k0_off27 (arg36 : BitVec 32) : Fin 3 → Nat :=
  let v414 : Index := Scalar.indexCast arg36
  let c0_187 : Index := 0#32
  let c384 : Index := 384#32
  ![v414.toNat, 0, 384]
def k0_off28 (arg36 : BitVec 32) : Fin 3 → Nat :=
  let v424 : Index := Scalar.indexCast arg36
  let c0_190 : Index := 0#32
  let c512 : Index := 512#32
  ![v424.toNat, 0, 512]
def k0_off29 (arg36 : BitVec 32) : Fin 3 → Nat :=
  let v434 : Index := Scalar.indexCast arg36
  let c0_193 : Index := 0#32
  let c640 : Index := 640#32
  ![v434.toNat, 0, 640]
def k0_off30 (arg36 : BitVec 32) : Fin 3 → Nat :=
  let v444 : Index := Scalar.indexCast arg36
  let c0_196 : Index := 0#32
  let c768 : Index := 768#32
  ![v444.toNat, 0, 768]
def k0_off31 (arg36 : BitVec 32) : Fin 3 → Nat :=
  let v454 : Index := Scalar.indexCast arg36
  let c0_199 : Index := 0#32
  let c896 : Index := 896#32
  ![v454.toNat, 0, 896]
def k0_off32 (arg36 : BitVec 32) : Fin 3 → Nat :=
  let v464 : Index := Scalar.indexCast arg36
  let c0_202 : Index := 0#32
  let c1024 : Index := 1024#32
  ![v464.toNat, 0, 1024]
def k0_off33 (arg36 : BitVec 32) : Fin 3 → Nat :=
  let v474 : Index := Scalar.indexCast arg36
  let c0_205 : Index := 0#32
  let c1152 : Index := 1152#32
  ![v474.toNat, 0, 1152]
def k0_off34 (arg36 : BitVec 32) : Fin 3 → Nat :=
  let v484 : Index := Scalar.indexCast arg36
  let c0_208 : Index := 0#32
  let c1280 : Index := 1280#32
  ![v484.toNat, 0, 1280]
def k0_off35 (arg36 : BitVec 32) : Fin 3 → Nat :=
  let v494 : Index := Scalar.indexCast arg36
  let c0_211 : Index := 0#32
  let c1408 : Index := 1408#32
  ![v494.toNat, 0, 1408]
def k0_off36 (arg36 : BitVec 32) : Fin 3 → Nat :=
  let v504 : Index := Scalar.indexCast arg36
  let c0_214 : Index := 0#32
  let c1536 : Index := 1536#32
  ![v504.toNat, 0, 1536]
def k0_off37 (arg36 : BitVec 32) : Fin 3 → Nat :=
  let v514 : Index := Scalar.indexCast arg36
  let c0_217 : Index := 0#32
  let c1664 : Index := 1664#32
  ![v514.toNat, 0, 1664]
def k0_off38 (arg36 : BitVec 32) : Fin 3 → Nat :=
  let v524 : Index := Scalar.indexCast arg36
  let c0_220 : Index := 0#32
  let c1792 : Index := 1792#32
  ![v524.toNat, 0, 1792]
def k0_off39 (arg36 : BitVec 32) : Fin 3 → Nat :=
  let v534 : Index := Scalar.indexCast arg36
  let c0_223 : Index := 0#32
  let c1920 : Index := 1920#32
  ![v534.toNat, 0, 1920]
def k0_off40 (arg36 : BitVec 32) : Fin 3 → Nat :=
  let v544 : Index := Scalar.indexCast arg36
  let c0_226 : Index := 0#32
  let c2048 : Index := 2048#32
  ![v544.toNat, 0, 2048]
def k0_off41 (arg36 : BitVec 32) : Fin 3 → Nat :=
  let v554 : Index := Scalar.indexCast arg36
  let c0_229 : Index := 0#32
  let c2176 : Index := 2176#32
  ![v554.toNat, 0, 2176]
def k0_off42 (arg36 : BitVec 32) : Fin 3 → Nat :=
  let v564 : Index := Scalar.indexCast arg36
  let c0_232 : Index := 0#32
  let c2304 : Index := 2304#32
  ![v564.toNat, 0, 2304]
def k0_off43 (arg36 : BitVec 32) : Fin 3 → Nat :=
  let v574 : Index := Scalar.indexCast arg36
  let c0_235 : Index := 0#32
  let c2432 : Index := 2432#32
  ![v574.toNat, 0, 2432]
def k0_off44 (arg36 : BitVec 32) : Fin 3 → Nat :=
  let v584 : Index := Scalar.indexCast arg36
  let c0_238 : Index := 0#32
  let c2560 : Index := 2560#32
  ![v584.toNat, 0, 2560]
def k0_off45 (arg36 : BitVec 32) : Fin 3 → Nat :=
  let v594 : Index := Scalar.indexCast arg36
  let c0_241 : Index := 0#32
  let c2688 : Index := 2688#32
  ![v594.toNat, 0, 2688]
def k0_off46 (arg36 : BitVec 32) : Fin 3 → Nat :=
  let v604 : Index := Scalar.indexCast arg36
  let c0_244 : Index := 0#32
  let c2816 : Index := 2816#32
  ![v604.toNat, 0, 2816]
def k0_off47 (arg36 : BitVec 32) : Fin 3 → Nat :=
  let v614 : Index := Scalar.indexCast arg36
  let c0_247 : Index := 0#32
  let c2944 : Index := 2944#32
  ![v614.toNat, 0, 2944]
def k0_off48 (arg36 : BitVec 32) : Fin 3 → Nat :=
  let v624 : Index := Scalar.indexCast arg36
  let c0_250 : Index := 0#32
  let c3072 : Index := 3072#32
  ![v624.toNat, 0, 3072]
def k0_off49 (arg36 : BitVec 32) : Fin 3 → Nat :=
  let v634 : Index := Scalar.indexCast arg36
  let c0_253 : Index := 0#32
  let c3200 : Index := 3200#32
  ![v634.toNat, 0, 3200]
def k0_off50 (arg36 : BitVec 32) : Fin 3 → Nat :=
  let v644 : Index := Scalar.indexCast arg36
  let c0_256 : Index := 0#32
  let c3328 : Index := 3328#32
  ![v644.toNat, 0, 3328]
def k0_off51 (arg36 : BitVec 32) : Fin 3 → Nat :=
  let v654 : Index := Scalar.indexCast arg36
  let c0_259 : Index := 0#32
  let c3456 : Index := 3456#32
  ![v654.toNat, 0, 3456]
def k0_off52 (arg36 : BitVec 32) : Fin 3 → Nat :=
  let v664 : Index := Scalar.indexCast arg36
  let c0_262 : Index := 0#32
  let c3584 : Index := 3584#32
  ![v664.toNat, 0, 3584]
def k0_off53 (arg36 : BitVec 32) : Fin 3 → Nat :=
  let v674 : Index := Scalar.indexCast arg36
  let c0_265 : Index := 0#32
  let c3712 : Index := 3712#32
  ![v674.toNat, 0, 3712]
def k0_off54 (arg36 : BitVec 32) : Fin 3 → Nat :=
  let v684 : Index := Scalar.indexCast arg36
  let c0_268 : Index := 0#32
  let c3840 : Index := 3840#32
  ![v684.toNat, 0, 3840]
def k0_off55 (arg36 : BitVec 32) : Fin 3 → Nat :=
  let v694 : Index := Scalar.indexCast arg36
  let c0_271 : Index := 0#32
  let c3968 : Index := 3968#32
  ![v694.toNat, 0, 3968]
def k0_off56 (arg34 : BitVec 32) : Fin 3 → Nat :=
  let v709 : Index := Scalar.indexCast arg34
  let c0_276 : Index := 0#32
  let c0_277 : Index := 0#32
  ![v709.toNat, 0, 0]
def k0_off57 (arg21 : BitVec 32) (arg22 : BitVec 32) : Fin 3 → Nat :=
  let c6_i32_153 : BitVec 32 := 6#32
  let v280 : BitVec 32 := Scalar.muli arg21 c6_i32_153
  let v281 : BitVec 32 := Scalar.addi v280 arg22
  let v282 : Index := Scalar.indexCast v281
  let c0_154 : Index := 0#32
  let c0_155 : Index := 0#32
  ![v282.toNat, 0, 0]
def k0_cond6 (arg21 : BitVec 32) (arg22 : BitVec 32) (arg24 : BitVec 32) (arg25 : BitVec 32) : BitVec 1 :=
  let c4_i32 : BitVec 32 := 4#32
  let v34 : BitVec 1 := Scalar.cmpi .slt arg21 c4_i32
  let c6_i32_45 : BitVec 32 := 6#32
  let v35 : BitVec 32 := Scalar.muli arg21 c6_i32_45
  let v36 : BitVec 32 := Scalar.addi v35 arg22
  let c6_i32_46 : BitVec 32 := 6#32
  let v37 : BitVec 32 := Scalar.muli arg24 c6_i32_46
  let v38 : BitVec 32 := Scalar.addi v37 arg25
  let v39 : BitVec 1 := Scalar.cmpi .sgt v36 v38
  let v_true : BitVec 1 := 1#1
  let v47 : BitVec 1 := Scalar.xori v39 v_true
  let v48 : BitVec 1 := Scalar.andi v34 v47
  let v49 : BitVec 32 := Scalar.extui v48
  let c0_i32_50 : BitVec 32 := 0#32
  let v50 : BitVec 1 := Scalar.cmpi .ne v49 c0_i32_50
  v50

def k0_off58 (arg33 : BitVec 32) : Fin 3 → Nat :=
  let v285 : Index := Scalar.indexCast arg33
  let c0_156 : Index := 0#32
  let c0_157 : Index := 0#32
  ![v285.toNat, 0, 0]
def k0_off59 (arg21 : BitVec 32) : Fin 1 → Nat :=
  let c3_i32_160 : BitVec 32 := 3#32
  let v292 : BitVec 32 := Scalar.minsi arg21 c3_i32_160
  let v293 : Index := Scalar.indexCast v292
  ![v293.toNat]
def k0_off60 (arg35 : BitVec 32) : Fin 3 → Nat :=
  let v301 : Index := Scalar.indexCast arg35
  let c0_163 : Index := 0#32
  let c0_164 : Index := 0#32
  ![v301.toNat, 0, 0]

def k0_chk15 (arg21 : BitVec 32) (arg22 : BitVec 32) (arg24 : BitVec 32) (arg25 : BitVec 32) (arg35 : BitVec 32) : Prop :=
  (∀ (k0_h5 : k0_cond5 arg21 arg22 arg24 arg25 = 1#1), ∀ a, (k0_off22 arg35) a + S1x8x4096.size a ≤ S16x8x4096.size a) ∧
  (∀ (k0_h6 : k0_cond6 arg21 arg22 arg24 arg25 = 1#1), ∀ a, (k0_off60 arg35) a + S1x8x4096.size a ≤ S16x8x4096.size a)
theorem k0_off22_inb : ∀ (arg21 : BitVec 32) (arg22 : BitVec 32) (arg24 : BitVec 32) (arg25 : BitVec 32) (arg35 : BitVec 32) (k0_hw15 : k0_chk15 arg21 arg22 arg24 arg25 arg35), ∀ (k0_h5 : k0_cond5 arg21 arg22 arg24 arg25 = 1#1), ∀ a, (k0_off22 arg35) a + S1x8x4096.size a ≤ S16x8x4096.size a := fun arg21 arg22 arg24 arg25 arg35 k0_hw15 k0_h5 => k0_hw15.1 k0_h5
theorem k0_off60_inb : ∀ (arg21 : BitVec 32) (arg22 : BitVec 32) (arg24 : BitVec 32) (arg25 : BitVec 32) (arg35 : BitVec 32) (k0_hw15 : k0_chk15 arg21 arg22 arg24 arg25 arg35), ∀ (k0_h6 : k0_cond6 arg21 arg22 arg24 arg25 = 1#1), ∀ a, (k0_off60 arg35) a + S1x8x4096.size a ≤ S16x8x4096.size a := fun arg21 arg22 arg24 arg25 arg35 k0_hw15 k0_h6 => k0_hw15.2 k0_h6

def k0_off61 (arg24 : BitVec 32) (arg25 : BitVec 32) : Fin 3 → Nat :=
  let c6_i32_153 : BitVec 32 := 6#32
  let v280 : BitVec 32 := Scalar.muli arg24 c6_i32_153
  let v281 : BitVec 32 := Scalar.addi v280 arg25
  let v282 : Index := Scalar.indexCast v281
  let c0_154 : Index := 0#32
  let c0_155 : Index := 0#32
  ![v282.toNat, 0, 0]
def k0_cond7 (arg21 : BitVec 32) : BitVec 1 :=
  let c4_i32 : BitVec 32 := 4#32
  let v34 : BitVec 1 := Scalar.cmpi .slt arg21 c4_i32
  let true_51 : BitVec 1 := 1#1
  let v51 : BitVec 1 := Scalar.xori v34 true_51
  let v52 : BitVec 32 := Scalar.extui v51
  let c0_i32_52 : BitVec 32 := 0#32
  let v53 : BitVec 1 := Scalar.cmpi .ne v52 c0_i32_52
  v53

def k0_chk11 (arg21 : BitVec 32) (arg22 : BitVec 32) (arg24 : BitVec 32) (arg25 : BitVec 32) : Prop :=
  (∀ (k0_h4 : k0_cond4 arg21 arg22 arg24 arg25 = 1#1), ∀ a, (k0_off15 arg24) a + S1.size a ≤ S4.size a) ∧
  (∀ (k0_h5 : k0_cond5 arg21 arg22 arg24 arg25 = 1#1), ∀ a, (k0_off19 arg21 arg22) a + S1x8x160.size a ≤ S24x8x160.size a) ∧
  (∀ (k0_h5 : k0_cond5 arg21 arg22 arg24 arg25 = 1#1), ∀ a, (k0_off21 arg21) a + S1.size a ≤ S4.size a) ∧
  (∀ (k0_h5 : k0_cond5 arg21 arg22 arg24 arg25 = 1#1), ∀ a, (k0_off23 arg24 arg25) a + S1x8x128.size a ≤ S24x8x128.size a) ∧
  (∀ (k0_h6 : k0_cond6 arg21 arg22 arg24 arg25 = 1#1), ∀ a, (k0_off57 arg21 arg22) a + S1x8x160.size a ≤ S24x8x160.size a) ∧
  (∀ (k0_h6 : k0_cond6 arg21 arg22 arg24 arg25 = 1#1), ∀ a, (k0_off59 arg21) a + S1.size a ≤ S4.size a) ∧
  (∀ (k0_h7 : k0_cond7 arg21 = 1#1), ∀ a, (k0_off61 arg24 arg25) a + S1x8x128.size a ≤ S24x8x128.size a)
theorem k0_off15_inb : ∀ (arg21 : BitVec 32) (arg22 : BitVec 32) (arg24 : BitVec 32) (arg25 : BitVec 32) (k0_hw11 : k0_chk11 arg21 arg22 arg24 arg25), ∀ (k0_h4 : k0_cond4 arg21 arg22 arg24 arg25 = 1#1), ∀ a, (k0_off15 arg24) a + S1.size a ≤ S4.size a := fun arg21 arg22 arg24 arg25 k0_hw11 k0_h4 => k0_hw11.1 k0_h4
theorem k0_off19_inb : ∀ (arg21 : BitVec 32) (arg22 : BitVec 32) (arg24 : BitVec 32) (arg25 : BitVec 32) (k0_hw11 : k0_chk11 arg21 arg22 arg24 arg25), ∀ (k0_h5 : k0_cond5 arg21 arg22 arg24 arg25 = 1#1), ∀ a, (k0_off19 arg21 arg22) a + S1x8x160.size a ≤ S24x8x160.size a := fun arg21 arg22 arg24 arg25 k0_hw11 k0_h5 => k0_hw11.2.1 k0_h5
theorem k0_off21_inb : ∀ (arg21 : BitVec 32) (arg22 : BitVec 32) (arg24 : BitVec 32) (arg25 : BitVec 32) (k0_hw11 : k0_chk11 arg21 arg22 arg24 arg25), ∀ (k0_h5 : k0_cond5 arg21 arg22 arg24 arg25 = 1#1), ∀ a, (k0_off21 arg21) a + S1.size a ≤ S4.size a := fun arg21 arg22 arg24 arg25 k0_hw11 k0_h5 => k0_hw11.2.2.1 k0_h5
theorem k0_off23_inb : ∀ (arg21 : BitVec 32) (arg22 : BitVec 32) (arg24 : BitVec 32) (arg25 : BitVec 32) (k0_hw11 : k0_chk11 arg21 arg22 arg24 arg25), ∀ (k0_h5 : k0_cond5 arg21 arg22 arg24 arg25 = 1#1), ∀ a, (k0_off23 arg24 arg25) a + S1x8x128.size a ≤ S24x8x128.size a := fun arg21 arg22 arg24 arg25 k0_hw11 k0_h5 => k0_hw11.2.2.2.1 k0_h5
theorem k0_off57_inb : ∀ (arg21 : BitVec 32) (arg22 : BitVec 32) (arg24 : BitVec 32) (arg25 : BitVec 32) (k0_hw11 : k0_chk11 arg21 arg22 arg24 arg25), ∀ (k0_h6 : k0_cond6 arg21 arg22 arg24 arg25 = 1#1), ∀ a, (k0_off57 arg21 arg22) a + S1x8x160.size a ≤ S24x8x160.size a := fun arg21 arg22 arg24 arg25 k0_hw11 k0_h6 => k0_hw11.2.2.2.2.1 k0_h6
theorem k0_off59_inb : ∀ (arg21 : BitVec 32) (arg22 : BitVec 32) (arg24 : BitVec 32) (arg25 : BitVec 32) (k0_hw11 : k0_chk11 arg21 arg22 arg24 arg25), ∀ (k0_h6 : k0_cond6 arg21 arg22 arg24 arg25 = 1#1), ∀ a, (k0_off59 arg21) a + S1.size a ≤ S4.size a := fun arg21 arg22 arg24 arg25 k0_hw11 k0_h6 => k0_hw11.2.2.2.2.2.1 k0_h6
theorem k0_off61_inb : ∀ (arg21 : BitVec 32) (arg22 : BitVec 32) (arg24 : BitVec 32) (arg25 : BitVec 32) (k0_hw11 : k0_chk11 arg21 arg22 arg24 arg25), ∀ (k0_h7 : k0_cond7 arg21 = 1#1), ∀ a, (k0_off61 arg24 arg25) a + S1x8x128.size a ≤ S24x8x128.size a := fun arg21 arg22 arg24 arg25 k0_hw11 k0_h7 => k0_hw11.2.2.2.2.2.2 k0_h7

def k0_off62 (arg36 : BitVec 32) : Fin 3 → Nat :=
  let v289 : Index := Scalar.indexCast arg36
  let c0_160 : Index := 0#32
  let c0_161 : Index := 0#32
  ![v289.toNat, 0, 0]
def k0_off63 (arg36 : BitVec 32) : Fin 3 → Nat :=
  let v299 : Index := Scalar.indexCast arg36
  let c0_164 : Index := 0#32
  let c128 : Index := 128#32
  ![v299.toNat, 0, 128]
def k0_off64 (arg36 : BitVec 32) : Fin 3 → Nat :=
  let v309 : Index := Scalar.indexCast arg36
  let c0_167 : Index := 0#32
  let c256 : Index := 256#32
  ![v309.toNat, 0, 256]
def k0_off65 (arg36 : BitVec 32) : Fin 3 → Nat :=
  let v319 : Index := Scalar.indexCast arg36
  let c0_170 : Index := 0#32
  let c384 : Index := 384#32
  ![v319.toNat, 0, 384]
def k0_off66 (arg36 : BitVec 32) : Fin 3 → Nat :=
  let v329 : Index := Scalar.indexCast arg36
  let c0_173 : Index := 0#32
  let c512 : Index := 512#32
  ![v329.toNat, 0, 512]
def k0_off67 (arg36 : BitVec 32) : Fin 3 → Nat :=
  let v339 : Index := Scalar.indexCast arg36
  let c0_176 : Index := 0#32
  let c640 : Index := 640#32
  ![v339.toNat, 0, 640]
def k0_off68 (arg36 : BitVec 32) : Fin 3 → Nat :=
  let v349 : Index := Scalar.indexCast arg36
  let c0_179 : Index := 0#32
  let c768 : Index := 768#32
  ![v349.toNat, 0, 768]
def k0_off69 (arg36 : BitVec 32) : Fin 3 → Nat :=
  let v359 : Index := Scalar.indexCast arg36
  let c0_182 : Index := 0#32
  let c896 : Index := 896#32
  ![v359.toNat, 0, 896]
def k0_off70 (arg36 : BitVec 32) : Fin 3 → Nat :=
  let v369 : Index := Scalar.indexCast arg36
  let c0_185 : Index := 0#32
  let c1024 : Index := 1024#32
  ![v369.toNat, 0, 1024]
def k0_off71 (arg36 : BitVec 32) : Fin 3 → Nat :=
  let v379 : Index := Scalar.indexCast arg36
  let c0_188 : Index := 0#32
  let c1152 : Index := 1152#32
  ![v379.toNat, 0, 1152]
def k0_off72 (arg36 : BitVec 32) : Fin 3 → Nat :=
  let v389 : Index := Scalar.indexCast arg36
  let c0_191 : Index := 0#32
  let c1280 : Index := 1280#32
  ![v389.toNat, 0, 1280]
def k0_off73 (arg36 : BitVec 32) : Fin 3 → Nat :=
  let v399 : Index := Scalar.indexCast arg36
  let c0_194 : Index := 0#32
  let c1408 : Index := 1408#32
  ![v399.toNat, 0, 1408]
def k0_off74 (arg36 : BitVec 32) : Fin 3 → Nat :=
  let v409 : Index := Scalar.indexCast arg36
  let c0_197 : Index := 0#32
  let c1536 : Index := 1536#32
  ![v409.toNat, 0, 1536]
def k0_off75 (arg36 : BitVec 32) : Fin 3 → Nat :=
  let v419 : Index := Scalar.indexCast arg36
  let c0_200 : Index := 0#32
  let c1664 : Index := 1664#32
  ![v419.toNat, 0, 1664]
def k0_off76 (arg36 : BitVec 32) : Fin 3 → Nat :=
  let v429 : Index := Scalar.indexCast arg36
  let c0_203 : Index := 0#32
  let c1792 : Index := 1792#32
  ![v429.toNat, 0, 1792]
def k0_off77 (arg36 : BitVec 32) : Fin 3 → Nat :=
  let v439 : Index := Scalar.indexCast arg36
  let c0_206 : Index := 0#32
  let c1920 : Index := 1920#32
  ![v439.toNat, 0, 1920]
def k0_off78 (arg36 : BitVec 32) : Fin 3 → Nat :=
  let v449 : Index := Scalar.indexCast arg36
  let c0_209 : Index := 0#32
  let c2048 : Index := 2048#32
  ![v449.toNat, 0, 2048]
def k0_off79 (arg36 : BitVec 32) : Fin 3 → Nat :=
  let v459 : Index := Scalar.indexCast arg36
  let c0_212 : Index := 0#32
  let c2176 : Index := 2176#32
  ![v459.toNat, 0, 2176]
def k0_off80 (arg36 : BitVec 32) : Fin 3 → Nat :=
  let v469 : Index := Scalar.indexCast arg36
  let c0_215 : Index := 0#32
  let c2304 : Index := 2304#32
  ![v469.toNat, 0, 2304]
def k0_off81 (arg36 : BitVec 32) : Fin 3 → Nat :=
  let v479 : Index := Scalar.indexCast arg36
  let c0_218 : Index := 0#32
  let c2432 : Index := 2432#32
  ![v479.toNat, 0, 2432]
def k0_off82 (arg36 : BitVec 32) : Fin 3 → Nat :=
  let v489 : Index := Scalar.indexCast arg36
  let c0_221 : Index := 0#32
  let c2560 : Index := 2560#32
  ![v489.toNat, 0, 2560]
def k0_off83 (arg36 : BitVec 32) : Fin 3 → Nat :=
  let v499 : Index := Scalar.indexCast arg36
  let c0_224 : Index := 0#32
  let c2688 : Index := 2688#32
  ![v499.toNat, 0, 2688]
def k0_off84 (arg36 : BitVec 32) : Fin 3 → Nat :=
  let v509 : Index := Scalar.indexCast arg36
  let c0_227 : Index := 0#32
  let c2816 : Index := 2816#32
  ![v509.toNat, 0, 2816]
def k0_off85 (arg36 : BitVec 32) : Fin 3 → Nat :=
  let v519 : Index := Scalar.indexCast arg36
  let c0_230 : Index := 0#32
  let c2944 : Index := 2944#32
  ![v519.toNat, 0, 2944]
def k0_off86 (arg36 : BitVec 32) : Fin 3 → Nat :=
  let v529 : Index := Scalar.indexCast arg36
  let c0_233 : Index := 0#32
  let c3072 : Index := 3072#32
  ![v529.toNat, 0, 3072]
def k0_off87 (arg36 : BitVec 32) : Fin 3 → Nat :=
  let v539 : Index := Scalar.indexCast arg36
  let c0_236 : Index := 0#32
  let c3200 : Index := 3200#32
  ![v539.toNat, 0, 3200]
def k0_off88 (arg36 : BitVec 32) : Fin 3 → Nat :=
  let v549 : Index := Scalar.indexCast arg36
  let c0_239 : Index := 0#32
  let c3328 : Index := 3328#32
  ![v549.toNat, 0, 3328]
def k0_off89 (arg36 : BitVec 32) : Fin 3 → Nat :=
  let v559 : Index := Scalar.indexCast arg36
  let c0_242 : Index := 0#32
  let c3456 : Index := 3456#32
  ![v559.toNat, 0, 3456]
def k0_off90 (arg36 : BitVec 32) : Fin 3 → Nat :=
  let v569 : Index := Scalar.indexCast arg36
  let c0_245 : Index := 0#32
  let c3584 : Index := 3584#32
  ![v569.toNat, 0, 3584]
def k0_off91 (arg36 : BitVec 32) : Fin 3 → Nat :=
  let v579 : Index := Scalar.indexCast arg36
  let c0_248 : Index := 0#32
  let c3712 : Index := 3712#32
  ![v579.toNat, 0, 3712]
def k0_off92 (arg36 : BitVec 32) : Fin 3 → Nat :=
  let v589 : Index := Scalar.indexCast arg36
  let c0_251 : Index := 0#32
  let c3840 : Index := 3840#32
  ![v589.toNat, 0, 3840]
def k0_off93 (arg36 : BitVec 32) : Fin 3 → Nat :=
  let v599 : Index := Scalar.indexCast arg36
  let c0_254 : Index := 0#32
  let c3968 : Index := 3968#32
  ![v599.toNat, 0, 3968]

def k0_chk16_0 (arg21 : BitVec 32) (arg22 : BitVec 32) (arg24 : BitVec 32) (arg25 : BitVec 32) (arg36 : BitVec 32) : Prop :=
  (∀ (k0_h5 : k0_cond5 arg21 arg22 arg24 arg25 = 1#1), ∀ a, (k0_off24 arg36) a + S1x8x128.size a ≤ S16x8x4096.size a) ∧
  (∀ (k0_h5 : k0_cond5 arg21 arg22 arg24 arg25 = 1#1), ∀ a, (k0_off25 arg36) a + S1x8x128.size a ≤ S16x8x4096.size a) ∧
  (∀ (k0_h5 : k0_cond5 arg21 arg22 arg24 arg25 = 1#1), ∀ a, (k0_off26 arg36) a + S1x8x128.size a ≤ S16x8x4096.size a) ∧
  (∀ (k0_h5 : k0_cond5 arg21 arg22 arg24 arg25 = 1#1), ∀ a, (k0_off27 arg36) a + S1x8x128.size a ≤ S16x8x4096.size a) ∧
  (∀ (k0_h5 : k0_cond5 arg21 arg22 arg24 arg25 = 1#1), ∀ a, (k0_off28 arg36) a + S1x8x128.size a ≤ S16x8x4096.size a) ∧
  (∀ (k0_h5 : k0_cond5 arg21 arg22 arg24 arg25 = 1#1), ∀ a, (k0_off29 arg36) a + S1x8x128.size a ≤ S16x8x4096.size a) ∧
  (∀ (k0_h5 : k0_cond5 arg21 arg22 arg24 arg25 = 1#1), ∀ a, (k0_off30 arg36) a + S1x8x128.size a ≤ S16x8x4096.size a) ∧
  (∀ (k0_h5 : k0_cond5 arg21 arg22 arg24 arg25 = 1#1), ∀ a, (k0_off31 arg36) a + S1x8x128.size a ≤ S16x8x4096.size a) ∧
  (∀ (k0_h5 : k0_cond5 arg21 arg22 arg24 arg25 = 1#1), ∀ a, (k0_off32 arg36) a + S1x8x128.size a ≤ S16x8x4096.size a) ∧
  (∀ (k0_h5 : k0_cond5 arg21 arg22 arg24 arg25 = 1#1), ∀ a, (k0_off33 arg36) a + S1x8x128.size a ≤ S16x8x4096.size a) ∧
  (∀ (k0_h5 : k0_cond5 arg21 arg22 arg24 arg25 = 1#1), ∀ a, (k0_off34 arg36) a + S1x8x128.size a ≤ S16x8x4096.size a) ∧
  (∀ (k0_h5 : k0_cond5 arg21 arg22 arg24 arg25 = 1#1), ∀ a, (k0_off35 arg36) a + S1x8x128.size a ≤ S16x8x4096.size a) ∧
  (∀ (k0_h5 : k0_cond5 arg21 arg22 arg24 arg25 = 1#1), ∀ a, (k0_off36 arg36) a + S1x8x128.size a ≤ S16x8x4096.size a) ∧
  (∀ (k0_h5 : k0_cond5 arg21 arg22 arg24 arg25 = 1#1), ∀ a, (k0_off37 arg36) a + S1x8x128.size a ≤ S16x8x4096.size a) ∧
  (∀ (k0_h5 : k0_cond5 arg21 arg22 arg24 arg25 = 1#1), ∀ a, (k0_off38 arg36) a + S1x8x128.size a ≤ S16x8x4096.size a) ∧
  (∀ (k0_h5 : k0_cond5 arg21 arg22 arg24 arg25 = 1#1), ∀ a, (k0_off39 arg36) a + S1x8x128.size a ≤ S16x8x4096.size a) ∧
  (∀ (k0_h5 : k0_cond5 arg21 arg22 arg24 arg25 = 1#1), ∀ a, (k0_off40 arg36) a + S1x8x128.size a ≤ S16x8x4096.size a) ∧
  (∀ (k0_h5 : k0_cond5 arg21 arg22 arg24 arg25 = 1#1), ∀ a, (k0_off41 arg36) a + S1x8x128.size a ≤ S16x8x4096.size a) ∧
  (∀ (k0_h5 : k0_cond5 arg21 arg22 arg24 arg25 = 1#1), ∀ a, (k0_off42 arg36) a + S1x8x128.size a ≤ S16x8x4096.size a) ∧
  (∀ (k0_h5 : k0_cond5 arg21 arg22 arg24 arg25 = 1#1), ∀ a, (k0_off43 arg36) a + S1x8x128.size a ≤ S16x8x4096.size a) ∧
  (∀ (k0_h5 : k0_cond5 arg21 arg22 arg24 arg25 = 1#1), ∀ a, (k0_off44 arg36) a + S1x8x128.size a ≤ S16x8x4096.size a) ∧
  (∀ (k0_h5 : k0_cond5 arg21 arg22 arg24 arg25 = 1#1), ∀ a, (k0_off45 arg36) a + S1x8x128.size a ≤ S16x8x4096.size a) ∧
  (∀ (k0_h5 : k0_cond5 arg21 arg22 arg24 arg25 = 1#1), ∀ a, (k0_off46 arg36) a + S1x8x128.size a ≤ S16x8x4096.size a) ∧
  (∀ (k0_h5 : k0_cond5 arg21 arg22 arg24 arg25 = 1#1), ∀ a, (k0_off47 arg36) a + S1x8x128.size a ≤ S16x8x4096.size a) ∧
  (∀ (k0_h5 : k0_cond5 arg21 arg22 arg24 arg25 = 1#1), ∀ a, (k0_off48 arg36) a + S1x8x128.size a ≤ S16x8x4096.size a) ∧
  (∀ (k0_h5 : k0_cond5 arg21 arg22 arg24 arg25 = 1#1), ∀ a, (k0_off49 arg36) a + S1x8x128.size a ≤ S16x8x4096.size a) ∧
  (∀ (k0_h5 : k0_cond5 arg21 arg22 arg24 arg25 = 1#1), ∀ a, (k0_off50 arg36) a + S1x8x128.size a ≤ S16x8x4096.size a) ∧
  (∀ (k0_h5 : k0_cond5 arg21 arg22 arg24 arg25 = 1#1), ∀ a, (k0_off51 arg36) a + S1x8x128.size a ≤ S16x8x4096.size a) ∧
  (∀ (k0_h5 : k0_cond5 arg21 arg22 arg24 arg25 = 1#1), ∀ a, (k0_off52 arg36) a + S1x8x128.size a ≤ S16x8x4096.size a) ∧
  (∀ (k0_h5 : k0_cond5 arg21 arg22 arg24 arg25 = 1#1), ∀ a, (k0_off53 arg36) a + S1x8x128.size a ≤ S16x8x4096.size a) ∧
  (∀ (k0_h5 : k0_cond5 arg21 arg22 arg24 arg25 = 1#1), ∀ a, (k0_off54 arg36) a + S1x8x128.size a ≤ S16x8x4096.size a) ∧
  (∀ (k0_h5 : k0_cond5 arg21 arg22 arg24 arg25 = 1#1), ∀ a, (k0_off55 arg36) a + S1x8x128.size a ≤ S16x8x4096.size a)
def k0_chk16_1 (arg21 : BitVec 32) (arg22 : BitVec 32) (arg24 : BitVec 32) (arg25 : BitVec 32) (arg36 : BitVec 32) : Prop :=
  (∀ (k0_h7 : k0_cond7 arg21 = 1#1), ∀ a, (k0_off62 arg36) a + S1x8x128.size a ≤ S16x8x4096.size a) ∧
  (∀ (k0_h7 : k0_cond7 arg21 = 1#1), ∀ a, (k0_off63 arg36) a + S1x8x128.size a ≤ S16x8x4096.size a) ∧
  (∀ (k0_h7 : k0_cond7 arg21 = 1#1), ∀ a, (k0_off64 arg36) a + S1x8x128.size a ≤ S16x8x4096.size a) ∧
  (∀ (k0_h7 : k0_cond7 arg21 = 1#1), ∀ a, (k0_off65 arg36) a + S1x8x128.size a ≤ S16x8x4096.size a) ∧
  (∀ (k0_h7 : k0_cond7 arg21 = 1#1), ∀ a, (k0_off66 arg36) a + S1x8x128.size a ≤ S16x8x4096.size a) ∧
  (∀ (k0_h7 : k0_cond7 arg21 = 1#1), ∀ a, (k0_off67 arg36) a + S1x8x128.size a ≤ S16x8x4096.size a) ∧
  (∀ (k0_h7 : k0_cond7 arg21 = 1#1), ∀ a, (k0_off68 arg36) a + S1x8x128.size a ≤ S16x8x4096.size a) ∧
  (∀ (k0_h7 : k0_cond7 arg21 = 1#1), ∀ a, (k0_off69 arg36) a + S1x8x128.size a ≤ S16x8x4096.size a) ∧
  (∀ (k0_h7 : k0_cond7 arg21 = 1#1), ∀ a, (k0_off70 arg36) a + S1x8x128.size a ≤ S16x8x4096.size a) ∧
  (∀ (k0_h7 : k0_cond7 arg21 = 1#1), ∀ a, (k0_off71 arg36) a + S1x8x128.size a ≤ S16x8x4096.size a) ∧
  (∀ (k0_h7 : k0_cond7 arg21 = 1#1), ∀ a, (k0_off72 arg36) a + S1x8x128.size a ≤ S16x8x4096.size a) ∧
  (∀ (k0_h7 : k0_cond7 arg21 = 1#1), ∀ a, (k0_off73 arg36) a + S1x8x128.size a ≤ S16x8x4096.size a) ∧
  (∀ (k0_h7 : k0_cond7 arg21 = 1#1), ∀ a, (k0_off74 arg36) a + S1x8x128.size a ≤ S16x8x4096.size a) ∧
  (∀ (k0_h7 : k0_cond7 arg21 = 1#1), ∀ a, (k0_off75 arg36) a + S1x8x128.size a ≤ S16x8x4096.size a) ∧
  (∀ (k0_h7 : k0_cond7 arg21 = 1#1), ∀ a, (k0_off76 arg36) a + S1x8x128.size a ≤ S16x8x4096.size a) ∧
  (∀ (k0_h7 : k0_cond7 arg21 = 1#1), ∀ a, (k0_off77 arg36) a + S1x8x128.size a ≤ S16x8x4096.size a) ∧
  (∀ (k0_h7 : k0_cond7 arg21 = 1#1), ∀ a, (k0_off78 arg36) a + S1x8x128.size a ≤ S16x8x4096.size a) ∧
  (∀ (k0_h7 : k0_cond7 arg21 = 1#1), ∀ a, (k0_off79 arg36) a + S1x8x128.size a ≤ S16x8x4096.size a) ∧
  (∀ (k0_h7 : k0_cond7 arg21 = 1#1), ∀ a, (k0_off80 arg36) a + S1x8x128.size a ≤ S16x8x4096.size a) ∧
  (∀ (k0_h7 : k0_cond7 arg21 = 1#1), ∀ a, (k0_off81 arg36) a + S1x8x128.size a ≤ S16x8x4096.size a) ∧
  (∀ (k0_h7 : k0_cond7 arg21 = 1#1), ∀ a, (k0_off82 arg36) a + S1x8x128.size a ≤ S16x8x4096.size a) ∧
  (∀ (k0_h7 : k0_cond7 arg21 = 1#1), ∀ a, (k0_off83 arg36) a + S1x8x128.size a ≤ S16x8x4096.size a) ∧
  (∀ (k0_h7 : k0_cond7 arg21 = 1#1), ∀ a, (k0_off84 arg36) a + S1x8x128.size a ≤ S16x8x4096.size a) ∧
  (∀ (k0_h7 : k0_cond7 arg21 = 1#1), ∀ a, (k0_off85 arg36) a + S1x8x128.size a ≤ S16x8x4096.size a) ∧
  (∀ (k0_h7 : k0_cond7 arg21 = 1#1), ∀ a, (k0_off86 arg36) a + S1x8x128.size a ≤ S16x8x4096.size a) ∧
  (∀ (k0_h7 : k0_cond7 arg21 = 1#1), ∀ a, (k0_off87 arg36) a + S1x8x128.size a ≤ S16x8x4096.size a) ∧
  (∀ (k0_h7 : k0_cond7 arg21 = 1#1), ∀ a, (k0_off88 arg36) a + S1x8x128.size a ≤ S16x8x4096.size a) ∧
  (∀ (k0_h7 : k0_cond7 arg21 = 1#1), ∀ a, (k0_off89 arg36) a + S1x8x128.size a ≤ S16x8x4096.size a) ∧
  (∀ (k0_h7 : k0_cond7 arg21 = 1#1), ∀ a, (k0_off90 arg36) a + S1x8x128.size a ≤ S16x8x4096.size a) ∧
  (∀ (k0_h7 : k0_cond7 arg21 = 1#1), ∀ a, (k0_off91 arg36) a + S1x8x128.size a ≤ S16x8x4096.size a) ∧
  (∀ (k0_h7 : k0_cond7 arg21 = 1#1), ∀ a, (k0_off92 arg36) a + S1x8x128.size a ≤ S16x8x4096.size a) ∧
  (∀ (k0_h7 : k0_cond7 arg21 = 1#1), ∀ a, (k0_off93 arg36) a + S1x8x128.size a ≤ S16x8x4096.size a)
def k0_chk16 (arg21 : BitVec 32) (arg22 : BitVec 32) (arg24 : BitVec 32) (arg25 : BitVec 32) (arg36 : BitVec 32) : Prop :=
  k0_chk16_0 arg21 arg22 arg24 arg25 arg36 ∧
  k0_chk16_1 arg21 arg22 arg24 arg25 arg36
theorem k0_off24_inb : ∀ (arg21 : BitVec 32) (arg22 : BitVec 32) (arg24 : BitVec 32) (arg25 : BitVec 32) (arg36 : BitVec 32) (k0_hw16 : k0_chk16 arg21 arg22 arg24 arg25 arg36), ∀ (k0_h5 : k0_cond5 arg21 arg22 arg24 arg25 = 1#1), ∀ a, (k0_off24 arg36) a + S1x8x128.size a ≤ S16x8x4096.size a := fun arg21 arg22 arg24 arg25 arg36 k0_hw16 k0_h5 => k0_hw16.1.1 k0_h5
theorem k0_off25_inb : ∀ (arg21 : BitVec 32) (arg22 : BitVec 32) (arg24 : BitVec 32) (arg25 : BitVec 32) (arg36 : BitVec 32) (k0_hw16 : k0_chk16 arg21 arg22 arg24 arg25 arg36), ∀ (k0_h5 : k0_cond5 arg21 arg22 arg24 arg25 = 1#1), ∀ a, (k0_off25 arg36) a + S1x8x128.size a ≤ S16x8x4096.size a := fun arg21 arg22 arg24 arg25 arg36 k0_hw16 k0_h5 => k0_hw16.1.2.1 k0_h5
theorem k0_off26_inb : ∀ (arg21 : BitVec 32) (arg22 : BitVec 32) (arg24 : BitVec 32) (arg25 : BitVec 32) (arg36 : BitVec 32) (k0_hw16 : k0_chk16 arg21 arg22 arg24 arg25 arg36), ∀ (k0_h5 : k0_cond5 arg21 arg22 arg24 arg25 = 1#1), ∀ a, (k0_off26 arg36) a + S1x8x128.size a ≤ S16x8x4096.size a := fun arg21 arg22 arg24 arg25 arg36 k0_hw16 k0_h5 => k0_hw16.1.2.2.1 k0_h5
theorem k0_off27_inb : ∀ (arg21 : BitVec 32) (arg22 : BitVec 32) (arg24 : BitVec 32) (arg25 : BitVec 32) (arg36 : BitVec 32) (k0_hw16 : k0_chk16 arg21 arg22 arg24 arg25 arg36), ∀ (k0_h5 : k0_cond5 arg21 arg22 arg24 arg25 = 1#1), ∀ a, (k0_off27 arg36) a + S1x8x128.size a ≤ S16x8x4096.size a := fun arg21 arg22 arg24 arg25 arg36 k0_hw16 k0_h5 => k0_hw16.1.2.2.2.1 k0_h5
theorem k0_off28_inb : ∀ (arg21 : BitVec 32) (arg22 : BitVec 32) (arg24 : BitVec 32) (arg25 : BitVec 32) (arg36 : BitVec 32) (k0_hw16 : k0_chk16 arg21 arg22 arg24 arg25 arg36), ∀ (k0_h5 : k0_cond5 arg21 arg22 arg24 arg25 = 1#1), ∀ a, (k0_off28 arg36) a + S1x8x128.size a ≤ S16x8x4096.size a := fun arg21 arg22 arg24 arg25 arg36 k0_hw16 k0_h5 => k0_hw16.1.2.2.2.2.1 k0_h5
theorem k0_off29_inb : ∀ (arg21 : BitVec 32) (arg22 : BitVec 32) (arg24 : BitVec 32) (arg25 : BitVec 32) (arg36 : BitVec 32) (k0_hw16 : k0_chk16 arg21 arg22 arg24 arg25 arg36), ∀ (k0_h5 : k0_cond5 arg21 arg22 arg24 arg25 = 1#1), ∀ a, (k0_off29 arg36) a + S1x8x128.size a ≤ S16x8x4096.size a := fun arg21 arg22 arg24 arg25 arg36 k0_hw16 k0_h5 => k0_hw16.1.2.2.2.2.2.1 k0_h5
theorem k0_off30_inb : ∀ (arg21 : BitVec 32) (arg22 : BitVec 32) (arg24 : BitVec 32) (arg25 : BitVec 32) (arg36 : BitVec 32) (k0_hw16 : k0_chk16 arg21 arg22 arg24 arg25 arg36), ∀ (k0_h5 : k0_cond5 arg21 arg22 arg24 arg25 = 1#1), ∀ a, (k0_off30 arg36) a + S1x8x128.size a ≤ S16x8x4096.size a := fun arg21 arg22 arg24 arg25 arg36 k0_hw16 k0_h5 => k0_hw16.1.2.2.2.2.2.2.1 k0_h5
theorem k0_off31_inb : ∀ (arg21 : BitVec 32) (arg22 : BitVec 32) (arg24 : BitVec 32) (arg25 : BitVec 32) (arg36 : BitVec 32) (k0_hw16 : k0_chk16 arg21 arg22 arg24 arg25 arg36), ∀ (k0_h5 : k0_cond5 arg21 arg22 arg24 arg25 = 1#1), ∀ a, (k0_off31 arg36) a + S1x8x128.size a ≤ S16x8x4096.size a := fun arg21 arg22 arg24 arg25 arg36 k0_hw16 k0_h5 => k0_hw16.1.2.2.2.2.2.2.2.1 k0_h5
theorem k0_off32_inb : ∀ (arg21 : BitVec 32) (arg22 : BitVec 32) (arg24 : BitVec 32) (arg25 : BitVec 32) (arg36 : BitVec 32) (k0_hw16 : k0_chk16 arg21 arg22 arg24 arg25 arg36), ∀ (k0_h5 : k0_cond5 arg21 arg22 arg24 arg25 = 1#1), ∀ a, (k0_off32 arg36) a + S1x8x128.size a ≤ S16x8x4096.size a := fun arg21 arg22 arg24 arg25 arg36 k0_hw16 k0_h5 => k0_hw16.1.2.2.2.2.2.2.2.2.1 k0_h5
theorem k0_off33_inb : ∀ (arg21 : BitVec 32) (arg22 : BitVec 32) (arg24 : BitVec 32) (arg25 : BitVec 32) (arg36 : BitVec 32) (k0_hw16 : k0_chk16 arg21 arg22 arg24 arg25 arg36), ∀ (k0_h5 : k0_cond5 arg21 arg22 arg24 arg25 = 1#1), ∀ a, (k0_off33 arg36) a + S1x8x128.size a ≤ S16x8x4096.size a := fun arg21 arg22 arg24 arg25 arg36 k0_hw16 k0_h5 => k0_hw16.1.2.2.2.2.2.2.2.2.2.1 k0_h5
theorem k0_off34_inb : ∀ (arg21 : BitVec 32) (arg22 : BitVec 32) (arg24 : BitVec 32) (arg25 : BitVec 32) (arg36 : BitVec 32) (k0_hw16 : k0_chk16 arg21 arg22 arg24 arg25 arg36), ∀ (k0_h5 : k0_cond5 arg21 arg22 arg24 arg25 = 1#1), ∀ a, (k0_off34 arg36) a + S1x8x128.size a ≤ S16x8x4096.size a := fun arg21 arg22 arg24 arg25 arg36 k0_hw16 k0_h5 => k0_hw16.1.2.2.2.2.2.2.2.2.2.2.1 k0_h5
theorem k0_off35_inb : ∀ (arg21 : BitVec 32) (arg22 : BitVec 32) (arg24 : BitVec 32) (arg25 : BitVec 32) (arg36 : BitVec 32) (k0_hw16 : k0_chk16 arg21 arg22 arg24 arg25 arg36), ∀ (k0_h5 : k0_cond5 arg21 arg22 arg24 arg25 = 1#1), ∀ a, (k0_off35 arg36) a + S1x8x128.size a ≤ S16x8x4096.size a := fun arg21 arg22 arg24 arg25 arg36 k0_hw16 k0_h5 => k0_hw16.1.2.2.2.2.2.2.2.2.2.2.2.1 k0_h5
theorem k0_off36_inb : ∀ (arg21 : BitVec 32) (arg22 : BitVec 32) (arg24 : BitVec 32) (arg25 : BitVec 32) (arg36 : BitVec 32) (k0_hw16 : k0_chk16 arg21 arg22 arg24 arg25 arg36), ∀ (k0_h5 : k0_cond5 arg21 arg22 arg24 arg25 = 1#1), ∀ a, (k0_off36 arg36) a + S1x8x128.size a ≤ S16x8x4096.size a := fun arg21 arg22 arg24 arg25 arg36 k0_hw16 k0_h5 => k0_hw16.1.2.2.2.2.2.2.2.2.2.2.2.2.1 k0_h5
theorem k0_off37_inb : ∀ (arg21 : BitVec 32) (arg22 : BitVec 32) (arg24 : BitVec 32) (arg25 : BitVec 32) (arg36 : BitVec 32) (k0_hw16 : k0_chk16 arg21 arg22 arg24 arg25 arg36), ∀ (k0_h5 : k0_cond5 arg21 arg22 arg24 arg25 = 1#1), ∀ a, (k0_off37 arg36) a + S1x8x128.size a ≤ S16x8x4096.size a := fun arg21 arg22 arg24 arg25 arg36 k0_hw16 k0_h5 => k0_hw16.1.2.2.2.2.2.2.2.2.2.2.2.2.2.1 k0_h5
theorem k0_off38_inb : ∀ (arg21 : BitVec 32) (arg22 : BitVec 32) (arg24 : BitVec 32) (arg25 : BitVec 32) (arg36 : BitVec 32) (k0_hw16 : k0_chk16 arg21 arg22 arg24 arg25 arg36), ∀ (k0_h5 : k0_cond5 arg21 arg22 arg24 arg25 = 1#1), ∀ a, (k0_off38 arg36) a + S1x8x128.size a ≤ S16x8x4096.size a := fun arg21 arg22 arg24 arg25 arg36 k0_hw16 k0_h5 => k0_hw16.1.2.2.2.2.2.2.2.2.2.2.2.2.2.2.1 k0_h5
theorem k0_off39_inb : ∀ (arg21 : BitVec 32) (arg22 : BitVec 32) (arg24 : BitVec 32) (arg25 : BitVec 32) (arg36 : BitVec 32) (k0_hw16 : k0_chk16 arg21 arg22 arg24 arg25 arg36), ∀ (k0_h5 : k0_cond5 arg21 arg22 arg24 arg25 = 1#1), ∀ a, (k0_off39 arg36) a + S1x8x128.size a ≤ S16x8x4096.size a := fun arg21 arg22 arg24 arg25 arg36 k0_hw16 k0_h5 => k0_hw16.1.2.2.2.2.2.2.2.2.2.2.2.2.2.2.2.1 k0_h5
theorem k0_off40_inb : ∀ (arg21 : BitVec 32) (arg22 : BitVec 32) (arg24 : BitVec 32) (arg25 : BitVec 32) (arg36 : BitVec 32) (k0_hw16 : k0_chk16 arg21 arg22 arg24 arg25 arg36), ∀ (k0_h5 : k0_cond5 arg21 arg22 arg24 arg25 = 1#1), ∀ a, (k0_off40 arg36) a + S1x8x128.size a ≤ S16x8x4096.size a := fun arg21 arg22 arg24 arg25 arg36 k0_hw16 k0_h5 => k0_hw16.1.2.2.2.2.2.2.2.2.2.2.2.2.2.2.2.2.1 k0_h5
theorem k0_off41_inb : ∀ (arg21 : BitVec 32) (arg22 : BitVec 32) (arg24 : BitVec 32) (arg25 : BitVec 32) (arg36 : BitVec 32) (k0_hw16 : k0_chk16 arg21 arg22 arg24 arg25 arg36), ∀ (k0_h5 : k0_cond5 arg21 arg22 arg24 arg25 = 1#1), ∀ a, (k0_off41 arg36) a + S1x8x128.size a ≤ S16x8x4096.size a := fun arg21 arg22 arg24 arg25 arg36 k0_hw16 k0_h5 => k0_hw16.1.2.2.2.2.2.2.2.2.2.2.2.2.2.2.2.2.2.1 k0_h5
theorem k0_off42_inb : ∀ (arg21 : BitVec 32) (arg22 : BitVec 32) (arg24 : BitVec 32) (arg25 : BitVec 32) (arg36 : BitVec 32) (k0_hw16 : k0_chk16 arg21 arg22 arg24 arg25 arg36), ∀ (k0_h5 : k0_cond5 arg21 arg22 arg24 arg25 = 1#1), ∀ a, (k0_off42 arg36) a + S1x8x128.size a ≤ S16x8x4096.size a := fun arg21 arg22 arg24 arg25 arg36 k0_hw16 k0_h5 => k0_hw16.1.2.2.2.2.2.2.2.2.2.2.2.2.2.2.2.2.2.2.1 k0_h5
theorem k0_off43_inb : ∀ (arg21 : BitVec 32) (arg22 : BitVec 32) (arg24 : BitVec 32) (arg25 : BitVec 32) (arg36 : BitVec 32) (k0_hw16 : k0_chk16 arg21 arg22 arg24 arg25 arg36), ∀ (k0_h5 : k0_cond5 arg21 arg22 arg24 arg25 = 1#1), ∀ a, (k0_off43 arg36) a + S1x8x128.size a ≤ S16x8x4096.size a := fun arg21 arg22 arg24 arg25 arg36 k0_hw16 k0_h5 => k0_hw16.1.2.2.2.2.2.2.2.2.2.2.2.2.2.2.2.2.2.2.2.1 k0_h5
theorem k0_off44_inb : ∀ (arg21 : BitVec 32) (arg22 : BitVec 32) (arg24 : BitVec 32) (arg25 : BitVec 32) (arg36 : BitVec 32) (k0_hw16 : k0_chk16 arg21 arg22 arg24 arg25 arg36), ∀ (k0_h5 : k0_cond5 arg21 arg22 arg24 arg25 = 1#1), ∀ a, (k0_off44 arg36) a + S1x8x128.size a ≤ S16x8x4096.size a := fun arg21 arg22 arg24 arg25 arg36 k0_hw16 k0_h5 => k0_hw16.1.2.2.2.2.2.2.2.2.2.2.2.2.2.2.2.2.2.2.2.2.1 k0_h5
theorem k0_off45_inb : ∀ (arg21 : BitVec 32) (arg22 : BitVec 32) (arg24 : BitVec 32) (arg25 : BitVec 32) (arg36 : BitVec 32) (k0_hw16 : k0_chk16 arg21 arg22 arg24 arg25 arg36), ∀ (k0_h5 : k0_cond5 arg21 arg22 arg24 arg25 = 1#1), ∀ a, (k0_off45 arg36) a + S1x8x128.size a ≤ S16x8x4096.size a := fun arg21 arg22 arg24 arg25 arg36 k0_hw16 k0_h5 => k0_hw16.1.2.2.2.2.2.2.2.2.2.2.2.2.2.2.2.2.2.2.2.2.2.1 k0_h5
theorem k0_off46_inb : ∀ (arg21 : BitVec 32) (arg22 : BitVec 32) (arg24 : BitVec 32) (arg25 : BitVec 32) (arg36 : BitVec 32) (k0_hw16 : k0_chk16 arg21 arg22 arg24 arg25 arg36), ∀ (k0_h5 : k0_cond5 arg21 arg22 arg24 arg25 = 1#1), ∀ a, (k0_off46 arg36) a + S1x8x128.size a ≤ S16x8x4096.size a := fun arg21 arg22 arg24 arg25 arg36 k0_hw16 k0_h5 => k0_hw16.1.2.2.2.2.2.2.2.2.2.2.2.2.2.2.2.2.2.2.2.2.2.2.1 k0_h5
theorem k0_off47_inb : ∀ (arg21 : BitVec 32) (arg22 : BitVec 32) (arg24 : BitVec 32) (arg25 : BitVec 32) (arg36 : BitVec 32) (k0_hw16 : k0_chk16 arg21 arg22 arg24 arg25 arg36), ∀ (k0_h5 : k0_cond5 arg21 arg22 arg24 arg25 = 1#1), ∀ a, (k0_off47 arg36) a + S1x8x128.size a ≤ S16x8x4096.size a := fun arg21 arg22 arg24 arg25 arg36 k0_hw16 k0_h5 => k0_hw16.1.2.2.2.2.2.2.2.2.2.2.2.2.2.2.2.2.2.2.2.2.2.2.2.1 k0_h5
theorem k0_off48_inb : ∀ (arg21 : BitVec 32) (arg22 : BitVec 32) (arg24 : BitVec 32) (arg25 : BitVec 32) (arg36 : BitVec 32) (k0_hw16 : k0_chk16 arg21 arg22 arg24 arg25 arg36), ∀ (k0_h5 : k0_cond5 arg21 arg22 arg24 arg25 = 1#1), ∀ a, (k0_off48 arg36) a + S1x8x128.size a ≤ S16x8x4096.size a := fun arg21 arg22 arg24 arg25 arg36 k0_hw16 k0_h5 => k0_hw16.1.2.2.2.2.2.2.2.2.2.2.2.2.2.2.2.2.2.2.2.2.2.2.2.2.1 k0_h5
theorem k0_off49_inb : ∀ (arg21 : BitVec 32) (arg22 : BitVec 32) (arg24 : BitVec 32) (arg25 : BitVec 32) (arg36 : BitVec 32) (k0_hw16 : k0_chk16 arg21 arg22 arg24 arg25 arg36), ∀ (k0_h5 : k0_cond5 arg21 arg22 arg24 arg25 = 1#1), ∀ a, (k0_off49 arg36) a + S1x8x128.size a ≤ S16x8x4096.size a := fun arg21 arg22 arg24 arg25 arg36 k0_hw16 k0_h5 => k0_hw16.1.2.2.2.2.2.2.2.2.2.2.2.2.2.2.2.2.2.2.2.2.2.2.2.2.2.1 k0_h5
theorem k0_off50_inb : ∀ (arg21 : BitVec 32) (arg22 : BitVec 32) (arg24 : BitVec 32) (arg25 : BitVec 32) (arg36 : BitVec 32) (k0_hw16 : k0_chk16 arg21 arg22 arg24 arg25 arg36), ∀ (k0_h5 : k0_cond5 arg21 arg22 arg24 arg25 = 1#1), ∀ a, (k0_off50 arg36) a + S1x8x128.size a ≤ S16x8x4096.size a := fun arg21 arg22 arg24 arg25 arg36 k0_hw16 k0_h5 => k0_hw16.1.2.2.2.2.2.2.2.2.2.2.2.2.2.2.2.2.2.2.2.2.2.2.2.2.2.2.1 k0_h5
theorem k0_off51_inb : ∀ (arg21 : BitVec 32) (arg22 : BitVec 32) (arg24 : BitVec 32) (arg25 : BitVec 32) (arg36 : BitVec 32) (k0_hw16 : k0_chk16 arg21 arg22 arg24 arg25 arg36), ∀ (k0_h5 : k0_cond5 arg21 arg22 arg24 arg25 = 1#1), ∀ a, (k0_off51 arg36) a + S1x8x128.size a ≤ S16x8x4096.size a := fun arg21 arg22 arg24 arg25 arg36 k0_hw16 k0_h5 => k0_hw16.1.2.2.2.2.2.2.2.2.2.2.2.2.2.2.2.2.2.2.2.2.2.2.2.2.2.2.2.1 k0_h5
theorem k0_off52_inb : ∀ (arg21 : BitVec 32) (arg22 : BitVec 32) (arg24 : BitVec 32) (arg25 : BitVec 32) (arg36 : BitVec 32) (k0_hw16 : k0_chk16 arg21 arg22 arg24 arg25 arg36), ∀ (k0_h5 : k0_cond5 arg21 arg22 arg24 arg25 = 1#1), ∀ a, (k0_off52 arg36) a + S1x8x128.size a ≤ S16x8x4096.size a := fun arg21 arg22 arg24 arg25 arg36 k0_hw16 k0_h5 => k0_hw16.1.2.2.2.2.2.2.2.2.2.2.2.2.2.2.2.2.2.2.2.2.2.2.2.2.2.2.2.2.1 k0_h5
theorem k0_off53_inb : ∀ (arg21 : BitVec 32) (arg22 : BitVec 32) (arg24 : BitVec 32) (arg25 : BitVec 32) (arg36 : BitVec 32) (k0_hw16 : k0_chk16 arg21 arg22 arg24 arg25 arg36), ∀ (k0_h5 : k0_cond5 arg21 arg22 arg24 arg25 = 1#1), ∀ a, (k0_off53 arg36) a + S1x8x128.size a ≤ S16x8x4096.size a := fun arg21 arg22 arg24 arg25 arg36 k0_hw16 k0_h5 => k0_hw16.1.2.2.2.2.2.2.2.2.2.2.2.2.2.2.2.2.2.2.2.2.2.2.2.2.2.2.2.2.2.1 k0_h5
theorem k0_off54_inb : ∀ (arg21 : BitVec 32) (arg22 : BitVec 32) (arg24 : BitVec 32) (arg25 : BitVec 32) (arg36 : BitVec 32) (k0_hw16 : k0_chk16 arg21 arg22 arg24 arg25 arg36), ∀ (k0_h5 : k0_cond5 arg21 arg22 arg24 arg25 = 1#1), ∀ a, (k0_off54 arg36) a + S1x8x128.size a ≤ S16x8x4096.size a := fun arg21 arg22 arg24 arg25 arg36 k0_hw16 k0_h5 => k0_hw16.1.2.2.2.2.2.2.2.2.2.2.2.2.2.2.2.2.2.2.2.2.2.2.2.2.2.2.2.2.2.2.1 k0_h5
theorem k0_off55_inb : ∀ (arg21 : BitVec 32) (arg22 : BitVec 32) (arg24 : BitVec 32) (arg25 : BitVec 32) (arg36 : BitVec 32) (k0_hw16 : k0_chk16 arg21 arg22 arg24 arg25 arg36), ∀ (k0_h5 : k0_cond5 arg21 arg22 arg24 arg25 = 1#1), ∀ a, (k0_off55 arg36) a + S1x8x128.size a ≤ S16x8x4096.size a := fun arg21 arg22 arg24 arg25 arg36 k0_hw16 k0_h5 => k0_hw16.1.2.2.2.2.2.2.2.2.2.2.2.2.2.2.2.2.2.2.2.2.2.2.2.2.2.2.2.2.2.2.2 k0_h5
theorem k0_off62_inb : ∀ (arg21 : BitVec 32) (arg22 : BitVec 32) (arg24 : BitVec 32) (arg25 : BitVec 32) (arg36 : BitVec 32) (k0_hw16 : k0_chk16 arg21 arg22 arg24 arg25 arg36), ∀ (k0_h7 : k0_cond7 arg21 = 1#1), ∀ a, (k0_off62 arg36) a + S1x8x128.size a ≤ S16x8x4096.size a := fun arg21 arg22 arg24 arg25 arg36 k0_hw16 k0_h7 => k0_hw16.2.1 k0_h7
theorem k0_off63_inb : ∀ (arg21 : BitVec 32) (arg22 : BitVec 32) (arg24 : BitVec 32) (arg25 : BitVec 32) (arg36 : BitVec 32) (k0_hw16 : k0_chk16 arg21 arg22 arg24 arg25 arg36), ∀ (k0_h7 : k0_cond7 arg21 = 1#1), ∀ a, (k0_off63 arg36) a + S1x8x128.size a ≤ S16x8x4096.size a := fun arg21 arg22 arg24 arg25 arg36 k0_hw16 k0_h7 => k0_hw16.2.2.1 k0_h7
theorem k0_off64_inb : ∀ (arg21 : BitVec 32) (arg22 : BitVec 32) (arg24 : BitVec 32) (arg25 : BitVec 32) (arg36 : BitVec 32) (k0_hw16 : k0_chk16 arg21 arg22 arg24 arg25 arg36), ∀ (k0_h7 : k0_cond7 arg21 = 1#1), ∀ a, (k0_off64 arg36) a + S1x8x128.size a ≤ S16x8x4096.size a := fun arg21 arg22 arg24 arg25 arg36 k0_hw16 k0_h7 => k0_hw16.2.2.2.1 k0_h7
theorem k0_off65_inb : ∀ (arg21 : BitVec 32) (arg22 : BitVec 32) (arg24 : BitVec 32) (arg25 : BitVec 32) (arg36 : BitVec 32) (k0_hw16 : k0_chk16 arg21 arg22 arg24 arg25 arg36), ∀ (k0_h7 : k0_cond7 arg21 = 1#1), ∀ a, (k0_off65 arg36) a + S1x8x128.size a ≤ S16x8x4096.size a := fun arg21 arg22 arg24 arg25 arg36 k0_hw16 k0_h7 => k0_hw16.2.2.2.2.1 k0_h7
theorem k0_off66_inb : ∀ (arg21 : BitVec 32) (arg22 : BitVec 32) (arg24 : BitVec 32) (arg25 : BitVec 32) (arg36 : BitVec 32) (k0_hw16 : k0_chk16 arg21 arg22 arg24 arg25 arg36), ∀ (k0_h7 : k0_cond7 arg21 = 1#1), ∀ a, (k0_off66 arg36) a + S1x8x128.size a ≤ S16x8x4096.size a := fun arg21 arg22 arg24 arg25 arg36 k0_hw16 k0_h7 => k0_hw16.2.2.2.2.2.1 k0_h7
theorem k0_off67_inb : ∀ (arg21 : BitVec 32) (arg22 : BitVec 32) (arg24 : BitVec 32) (arg25 : BitVec 32) (arg36 : BitVec 32) (k0_hw16 : k0_chk16 arg21 arg22 arg24 arg25 arg36), ∀ (k0_h7 : k0_cond7 arg21 = 1#1), ∀ a, (k0_off67 arg36) a + S1x8x128.size a ≤ S16x8x4096.size a := fun arg21 arg22 arg24 arg25 arg36 k0_hw16 k0_h7 => k0_hw16.2.2.2.2.2.2.1 k0_h7
theorem k0_off68_inb : ∀ (arg21 : BitVec 32) (arg22 : BitVec 32) (arg24 : BitVec 32) (arg25 : BitVec 32) (arg36 : BitVec 32) (k0_hw16 : k0_chk16 arg21 arg22 arg24 arg25 arg36), ∀ (k0_h7 : k0_cond7 arg21 = 1#1), ∀ a, (k0_off68 arg36) a + S1x8x128.size a ≤ S16x8x4096.size a := fun arg21 arg22 arg24 arg25 arg36 k0_hw16 k0_h7 => k0_hw16.2.2.2.2.2.2.2.1 k0_h7
theorem k0_off69_inb : ∀ (arg21 : BitVec 32) (arg22 : BitVec 32) (arg24 : BitVec 32) (arg25 : BitVec 32) (arg36 : BitVec 32) (k0_hw16 : k0_chk16 arg21 arg22 arg24 arg25 arg36), ∀ (k0_h7 : k0_cond7 arg21 = 1#1), ∀ a, (k0_off69 arg36) a + S1x8x128.size a ≤ S16x8x4096.size a := fun arg21 arg22 arg24 arg25 arg36 k0_hw16 k0_h7 => k0_hw16.2.2.2.2.2.2.2.2.1 k0_h7
theorem k0_off70_inb : ∀ (arg21 : BitVec 32) (arg22 : BitVec 32) (arg24 : BitVec 32) (arg25 : BitVec 32) (arg36 : BitVec 32) (k0_hw16 : k0_chk16 arg21 arg22 arg24 arg25 arg36), ∀ (k0_h7 : k0_cond7 arg21 = 1#1), ∀ a, (k0_off70 arg36) a + S1x8x128.size a ≤ S16x8x4096.size a := fun arg21 arg22 arg24 arg25 arg36 k0_hw16 k0_h7 => k0_hw16.2.2.2.2.2.2.2.2.2.1 k0_h7
theorem k0_off71_inb : ∀ (arg21 : BitVec 32) (arg22 : BitVec 32) (arg24 : BitVec 32) (arg25 : BitVec 32) (arg36 : BitVec 32) (k0_hw16 : k0_chk16 arg21 arg22 arg24 arg25 arg36), ∀ (k0_h7 : k0_cond7 arg21 = 1#1), ∀ a, (k0_off71 arg36) a + S1x8x128.size a ≤ S16x8x4096.size a := fun arg21 arg22 arg24 arg25 arg36 k0_hw16 k0_h7 => k0_hw16.2.2.2.2.2.2.2.2.2.2.1 k0_h7
theorem k0_off72_inb : ∀ (arg21 : BitVec 32) (arg22 : BitVec 32) (arg24 : BitVec 32) (arg25 : BitVec 32) (arg36 : BitVec 32) (k0_hw16 : k0_chk16 arg21 arg22 arg24 arg25 arg36), ∀ (k0_h7 : k0_cond7 arg21 = 1#1), ∀ a, (k0_off72 arg36) a + S1x8x128.size a ≤ S16x8x4096.size a := fun arg21 arg22 arg24 arg25 arg36 k0_hw16 k0_h7 => k0_hw16.2.2.2.2.2.2.2.2.2.2.2.1 k0_h7
theorem k0_off73_inb : ∀ (arg21 : BitVec 32) (arg22 : BitVec 32) (arg24 : BitVec 32) (arg25 : BitVec 32) (arg36 : BitVec 32) (k0_hw16 : k0_chk16 arg21 arg22 arg24 arg25 arg36), ∀ (k0_h7 : k0_cond7 arg21 = 1#1), ∀ a, (k0_off73 arg36) a + S1x8x128.size a ≤ S16x8x4096.size a := fun arg21 arg22 arg24 arg25 arg36 k0_hw16 k0_h7 => k0_hw16.2.2.2.2.2.2.2.2.2.2.2.2.1 k0_h7
theorem k0_off74_inb : ∀ (arg21 : BitVec 32) (arg22 : BitVec 32) (arg24 : BitVec 32) (arg25 : BitVec 32) (arg36 : BitVec 32) (k0_hw16 : k0_chk16 arg21 arg22 arg24 arg25 arg36), ∀ (k0_h7 : k0_cond7 arg21 = 1#1), ∀ a, (k0_off74 arg36) a + S1x8x128.size a ≤ S16x8x4096.size a := fun arg21 arg22 arg24 arg25 arg36 k0_hw16 k0_h7 => k0_hw16.2.2.2.2.2.2.2.2.2.2.2.2.2.1 k0_h7
theorem k0_off75_inb : ∀ (arg21 : BitVec 32) (arg22 : BitVec 32) (arg24 : BitVec 32) (arg25 : BitVec 32) (arg36 : BitVec 32) (k0_hw16 : k0_chk16 arg21 arg22 arg24 arg25 arg36), ∀ (k0_h7 : k0_cond7 arg21 = 1#1), ∀ a, (k0_off75 arg36) a + S1x8x128.size a ≤ S16x8x4096.size a := fun arg21 arg22 arg24 arg25 arg36 k0_hw16 k0_h7 => k0_hw16.2.2.2.2.2.2.2.2.2.2.2.2.2.2.1 k0_h7
theorem k0_off76_inb : ∀ (arg21 : BitVec 32) (arg22 : BitVec 32) (arg24 : BitVec 32) (arg25 : BitVec 32) (arg36 : BitVec 32) (k0_hw16 : k0_chk16 arg21 arg22 arg24 arg25 arg36), ∀ (k0_h7 : k0_cond7 arg21 = 1#1), ∀ a, (k0_off76 arg36) a + S1x8x128.size a ≤ S16x8x4096.size a := fun arg21 arg22 arg24 arg25 arg36 k0_hw16 k0_h7 => k0_hw16.2.2.2.2.2.2.2.2.2.2.2.2.2.2.2.1 k0_h7
theorem k0_off77_inb : ∀ (arg21 : BitVec 32) (arg22 : BitVec 32) (arg24 : BitVec 32) (arg25 : BitVec 32) (arg36 : BitVec 32) (k0_hw16 : k0_chk16 arg21 arg22 arg24 arg25 arg36), ∀ (k0_h7 : k0_cond7 arg21 = 1#1), ∀ a, (k0_off77 arg36) a + S1x8x128.size a ≤ S16x8x4096.size a := fun arg21 arg22 arg24 arg25 arg36 k0_hw16 k0_h7 => k0_hw16.2.2.2.2.2.2.2.2.2.2.2.2.2.2.2.2.1 k0_h7
theorem k0_off78_inb : ∀ (arg21 : BitVec 32) (arg22 : BitVec 32) (arg24 : BitVec 32) (arg25 : BitVec 32) (arg36 : BitVec 32) (k0_hw16 : k0_chk16 arg21 arg22 arg24 arg25 arg36), ∀ (k0_h7 : k0_cond7 arg21 = 1#1), ∀ a, (k0_off78 arg36) a + S1x8x128.size a ≤ S16x8x4096.size a := fun arg21 arg22 arg24 arg25 arg36 k0_hw16 k0_h7 => k0_hw16.2.2.2.2.2.2.2.2.2.2.2.2.2.2.2.2.2.1 k0_h7
theorem k0_off79_inb : ∀ (arg21 : BitVec 32) (arg22 : BitVec 32) (arg24 : BitVec 32) (arg25 : BitVec 32) (arg36 : BitVec 32) (k0_hw16 : k0_chk16 arg21 arg22 arg24 arg25 arg36), ∀ (k0_h7 : k0_cond7 arg21 = 1#1), ∀ a, (k0_off79 arg36) a + S1x8x128.size a ≤ S16x8x4096.size a := fun arg21 arg22 arg24 arg25 arg36 k0_hw16 k0_h7 => k0_hw16.2.2.2.2.2.2.2.2.2.2.2.2.2.2.2.2.2.2.1 k0_h7
theorem k0_off80_inb : ∀ (arg21 : BitVec 32) (arg22 : BitVec 32) (arg24 : BitVec 32) (arg25 : BitVec 32) (arg36 : BitVec 32) (k0_hw16 : k0_chk16 arg21 arg22 arg24 arg25 arg36), ∀ (k0_h7 : k0_cond7 arg21 = 1#1), ∀ a, (k0_off80 arg36) a + S1x8x128.size a ≤ S16x8x4096.size a := fun arg21 arg22 arg24 arg25 arg36 k0_hw16 k0_h7 => k0_hw16.2.2.2.2.2.2.2.2.2.2.2.2.2.2.2.2.2.2.2.1 k0_h7
theorem k0_off81_inb : ∀ (arg21 : BitVec 32) (arg22 : BitVec 32) (arg24 : BitVec 32) (arg25 : BitVec 32) (arg36 : BitVec 32) (k0_hw16 : k0_chk16 arg21 arg22 arg24 arg25 arg36), ∀ (k0_h7 : k0_cond7 arg21 = 1#1), ∀ a, (k0_off81 arg36) a + S1x8x128.size a ≤ S16x8x4096.size a := fun arg21 arg22 arg24 arg25 arg36 k0_hw16 k0_h7 => k0_hw16.2.2.2.2.2.2.2.2.2.2.2.2.2.2.2.2.2.2.2.2.1 k0_h7
theorem k0_off82_inb : ∀ (arg21 : BitVec 32) (arg22 : BitVec 32) (arg24 : BitVec 32) (arg25 : BitVec 32) (arg36 : BitVec 32) (k0_hw16 : k0_chk16 arg21 arg22 arg24 arg25 arg36), ∀ (k0_h7 : k0_cond7 arg21 = 1#1), ∀ a, (k0_off82 arg36) a + S1x8x128.size a ≤ S16x8x4096.size a := fun arg21 arg22 arg24 arg25 arg36 k0_hw16 k0_h7 => k0_hw16.2.2.2.2.2.2.2.2.2.2.2.2.2.2.2.2.2.2.2.2.2.1 k0_h7
theorem k0_off83_inb : ∀ (arg21 : BitVec 32) (arg22 : BitVec 32) (arg24 : BitVec 32) (arg25 : BitVec 32) (arg36 : BitVec 32) (k0_hw16 : k0_chk16 arg21 arg22 arg24 arg25 arg36), ∀ (k0_h7 : k0_cond7 arg21 = 1#1), ∀ a, (k0_off83 arg36) a + S1x8x128.size a ≤ S16x8x4096.size a := fun arg21 arg22 arg24 arg25 arg36 k0_hw16 k0_h7 => k0_hw16.2.2.2.2.2.2.2.2.2.2.2.2.2.2.2.2.2.2.2.2.2.2.1 k0_h7
theorem k0_off84_inb : ∀ (arg21 : BitVec 32) (arg22 : BitVec 32) (arg24 : BitVec 32) (arg25 : BitVec 32) (arg36 : BitVec 32) (k0_hw16 : k0_chk16 arg21 arg22 arg24 arg25 arg36), ∀ (k0_h7 : k0_cond7 arg21 = 1#1), ∀ a, (k0_off84 arg36) a + S1x8x128.size a ≤ S16x8x4096.size a := fun arg21 arg22 arg24 arg25 arg36 k0_hw16 k0_h7 => k0_hw16.2.2.2.2.2.2.2.2.2.2.2.2.2.2.2.2.2.2.2.2.2.2.2.1 k0_h7
theorem k0_off85_inb : ∀ (arg21 : BitVec 32) (arg22 : BitVec 32) (arg24 : BitVec 32) (arg25 : BitVec 32) (arg36 : BitVec 32) (k0_hw16 : k0_chk16 arg21 arg22 arg24 arg25 arg36), ∀ (k0_h7 : k0_cond7 arg21 = 1#1), ∀ a, (k0_off85 arg36) a + S1x8x128.size a ≤ S16x8x4096.size a := fun arg21 arg22 arg24 arg25 arg36 k0_hw16 k0_h7 => k0_hw16.2.2.2.2.2.2.2.2.2.2.2.2.2.2.2.2.2.2.2.2.2.2.2.2.1 k0_h7
theorem k0_off86_inb : ∀ (arg21 : BitVec 32) (arg22 : BitVec 32) (arg24 : BitVec 32) (arg25 : BitVec 32) (arg36 : BitVec 32) (k0_hw16 : k0_chk16 arg21 arg22 arg24 arg25 arg36), ∀ (k0_h7 : k0_cond7 arg21 = 1#1), ∀ a, (k0_off86 arg36) a + S1x8x128.size a ≤ S16x8x4096.size a := fun arg21 arg22 arg24 arg25 arg36 k0_hw16 k0_h7 => k0_hw16.2.2.2.2.2.2.2.2.2.2.2.2.2.2.2.2.2.2.2.2.2.2.2.2.2.1 k0_h7
theorem k0_off87_inb : ∀ (arg21 : BitVec 32) (arg22 : BitVec 32) (arg24 : BitVec 32) (arg25 : BitVec 32) (arg36 : BitVec 32) (k0_hw16 : k0_chk16 arg21 arg22 arg24 arg25 arg36), ∀ (k0_h7 : k0_cond7 arg21 = 1#1), ∀ a, (k0_off87 arg36) a + S1x8x128.size a ≤ S16x8x4096.size a := fun arg21 arg22 arg24 arg25 arg36 k0_hw16 k0_h7 => k0_hw16.2.2.2.2.2.2.2.2.2.2.2.2.2.2.2.2.2.2.2.2.2.2.2.2.2.2.1 k0_h7
theorem k0_off88_inb : ∀ (arg21 : BitVec 32) (arg22 : BitVec 32) (arg24 : BitVec 32) (arg25 : BitVec 32) (arg36 : BitVec 32) (k0_hw16 : k0_chk16 arg21 arg22 arg24 arg25 arg36), ∀ (k0_h7 : k0_cond7 arg21 = 1#1), ∀ a, (k0_off88 arg36) a + S1x8x128.size a ≤ S16x8x4096.size a := fun arg21 arg22 arg24 arg25 arg36 k0_hw16 k0_h7 => k0_hw16.2.2.2.2.2.2.2.2.2.2.2.2.2.2.2.2.2.2.2.2.2.2.2.2.2.2.2.1 k0_h7
theorem k0_off89_inb : ∀ (arg21 : BitVec 32) (arg22 : BitVec 32) (arg24 : BitVec 32) (arg25 : BitVec 32) (arg36 : BitVec 32) (k0_hw16 : k0_chk16 arg21 arg22 arg24 arg25 arg36), ∀ (k0_h7 : k0_cond7 arg21 = 1#1), ∀ a, (k0_off89 arg36) a + S1x8x128.size a ≤ S16x8x4096.size a := fun arg21 arg22 arg24 arg25 arg36 k0_hw16 k0_h7 => k0_hw16.2.2.2.2.2.2.2.2.2.2.2.2.2.2.2.2.2.2.2.2.2.2.2.2.2.2.2.2.1 k0_h7
theorem k0_off90_inb : ∀ (arg21 : BitVec 32) (arg22 : BitVec 32) (arg24 : BitVec 32) (arg25 : BitVec 32) (arg36 : BitVec 32) (k0_hw16 : k0_chk16 arg21 arg22 arg24 arg25 arg36), ∀ (k0_h7 : k0_cond7 arg21 = 1#1), ∀ a, (k0_off90 arg36) a + S1x8x128.size a ≤ S16x8x4096.size a := fun arg21 arg22 arg24 arg25 arg36 k0_hw16 k0_h7 => k0_hw16.2.2.2.2.2.2.2.2.2.2.2.2.2.2.2.2.2.2.2.2.2.2.2.2.2.2.2.2.2.1 k0_h7
theorem k0_off91_inb : ∀ (arg21 : BitVec 32) (arg22 : BitVec 32) (arg24 : BitVec 32) (arg25 : BitVec 32) (arg36 : BitVec 32) (k0_hw16 : k0_chk16 arg21 arg22 arg24 arg25 arg36), ∀ (k0_h7 : k0_cond7 arg21 = 1#1), ∀ a, (k0_off91 arg36) a + S1x8x128.size a ≤ S16x8x4096.size a := fun arg21 arg22 arg24 arg25 arg36 k0_hw16 k0_h7 => k0_hw16.2.2.2.2.2.2.2.2.2.2.2.2.2.2.2.2.2.2.2.2.2.2.2.2.2.2.2.2.2.2.1 k0_h7
theorem k0_off92_inb : ∀ (arg21 : BitVec 32) (arg22 : BitVec 32) (arg24 : BitVec 32) (arg25 : BitVec 32) (arg36 : BitVec 32) (k0_hw16 : k0_chk16 arg21 arg22 arg24 arg25 arg36), ∀ (k0_h7 : k0_cond7 arg21 = 1#1), ∀ a, (k0_off92 arg36) a + S1x8x128.size a ≤ S16x8x4096.size a := fun arg21 arg22 arg24 arg25 arg36 k0_hw16 k0_h7 => k0_hw16.2.2.2.2.2.2.2.2.2.2.2.2.2.2.2.2.2.2.2.2.2.2.2.2.2.2.2.2.2.2.2.1 k0_h7
theorem k0_off93_inb : ∀ (arg21 : BitVec 32) (arg22 : BitVec 32) (arg24 : BitVec 32) (arg25 : BitVec 32) (arg36 : BitVec 32) (k0_hw16 : k0_chk16 arg21 arg22 arg24 arg25 arg36), ∀ (k0_h7 : k0_cond7 arg21 = 1#1), ∀ a, (k0_off93 arg36) a + S1x8x128.size a ≤ S16x8x4096.size a := fun arg21 arg22 arg24 arg25 arg36 k0_hw16 k0_h7 => k0_hw16.2.2.2.2.2.2.2.2.2.2.2.2.2.2.2.2.2.2.2.2.2.2.2.2.2.2.2.2.2.2.2.2 k0_h7

def k0_off94 (arg34 : BitVec 32) : Fin 3 → Nat :=
  let v614 : Index := Scalar.indexCast arg34
  let c0_259 : Index := 0#32
  let c0_260 : Index := 0#32
  ![v614.toNat, 0, 0]
def k0_off95 (arg27 : BitVec 32) : Fin 1 → Nat :=
  let c3_i32_153 : BitVec 32 := 3#32
  let v280 : BitVec 32 := Scalar.minsi arg27 c3_i32_153
  let v281 : Index := Scalar.indexCast v280
  ![v281.toNat]
def k0_cond8 (arg21 : BitVec 32) (arg27 : BitVec 32) : BitVec 1 :=
  let c4_i32 : BitVec 32 := 4#32
  let v34 : BitVec 1 := Scalar.cmpi .slt arg21 c4_i32
  let c4_i32_53 : BitVec 32 := 4#32
  let v54 : BitVec 1 := Scalar.cmpi .slt arg27 c4_i32_53
  let v55 : BitVec 1 := Scalar.andi v34 v54
  let v56 : BitVec 32 := Scalar.extui v55
  let c0_i32_54 : BitVec 32 := 0#32
  let v57 : BitVec 1 := Scalar.cmpi .ne v56 c0_i32_54
  v57

def k0_mult9 (arg29 : BitVec 32) (v282 : BitVec 32) : BitVec 32 :=
  let c32_i32 : BitVec 32 := 32#32
  let c1_i32_161 : BitVec 32 := 1#32
  let c4096_i32_154 : BitVec 32 := 4096#32
  let v283 : BitVec 32 := Scalar.muli arg29 c4096_i32_154
  let v284 : BitVec 32 := Scalar.subi v282 v283
  let c127_i32 : BitVec 32 := 127#32
  let v285 : BitVec 32 := Scalar.addi v284 c127_i32
  let c0_i32_155 : BitVec 32 := 0#32
  let v287 : BitVec 1 := Scalar.cmpi .sgt v285 c0_i32_155
  let v288 : BitVec 32 := Scalar.extui v287
  let c0_i32_156 : BitVec 32 := 0#32
  let v289 : BitVec 1 := Scalar.cmpi .slt v285 c0_i32_156
  let v290 : BitVec 32 := Scalar.extui v289
  let v291 : BitVec 32 := Scalar.subi v288 v290
  let c128_i32 : BitVec 32 := 128#32
  let c0_i32_157 : BitVec 32 := 0#32
  let v292 : BitVec 1 := Scalar.cmpi .sgt c128_i32 c0_i32_157
  let v293 : BitVec 32 := Scalar.extui v292
  let c0_i32_158 : BitVec 32 := 0#32
  let v294 : BitVec 1 := Scalar.cmpi .slt c128_i32 c0_i32_158
  let v295 : BitVec 32 := Scalar.extui v294
  let v296 : BitVec 32 := Scalar.subi v293 v295
  let v297 : BitVec 1 := Scalar.cmpi .ne v291 v296
  let v298 : BitVec 32 := Scalar.remsi v285 c128_i32
  let c0_i32_159 : BitVec 32 := 0#32
  let v299 : BitVec 1 := Scalar.cmpi .ne v298 c0_i32_159
  let v300 : BitVec 1 := Scalar.andi v297 v299
  let v286 : BitVec 32 := Scalar.divsi v285 c128_i32
  let c1_i32_160 : BitVec 32 := 1#32
  let v301 : BitVec 32 := Scalar.subi v286 c1_i32_160
  let v302 : BitVec 32 := Scalar.select v300 v301 v286
  let v303 : BitVec 32 := Scalar.maxsi c1_i32_161 v302
  let v304 : BitVec 32 := Scalar.minsi c32_i32 v303
  let c128_i32_162 : BitVec 32 := 128#32
  let v305 : BitVec 32 := Scalar.muli v304 c128_i32_162
  v305

def k0_mult10 (arg29 : BitVec 32) : BitVec 32 :=
  let c4096_i32_163 : BitVec 32 := 4096#32
  let v307 : BitVec 32 := Scalar.muli arg29 c4096_i32_163
  v307

def k0_chk19 (arg21 : BitVec 32) (arg27 : BitVec 32) (arg29 : BitVec 32) : Prop :=
  (∀ (k0_h8 : k0_cond8 arg21 arg27 = 1#1), 128 ∣ (k0_mult10 arg29).toNat)
theorem k0_mult10_dvd : ∀ (arg21 : BitVec 32) (arg27 : BitVec 32) (arg29 : BitVec 32) (k0_hw19 : k0_chk19 arg21 arg27 arg29), ∀ (k0_h8 : k0_cond8 arg21 arg27 = 1#1), 128 ∣ (k0_mult10 arg29).toNat := fun arg21 arg27 arg29 k0_hw19 k0_h8 => k0_hw19 k0_h8

def k0_off96 (arg33 : BitVec 32) : Fin 1 → Nat :=
  ![arg33.toNat]

def k0_chk10 (arg21 : BitVec 32) (arg22 : BitVec 32) (arg24 : BitVec 32) (arg25 : BitVec 32) (arg27 : BitVec 32) (arg33 : BitVec 32) : Prop :=
  (∀ (k0_h3 : k0_cond3 arg21 = 1#1), ∀ a, (k0_off12 arg33) a + S1.size a ≤ S6.size a) ∧
  (∀ (k0_h5 : k0_cond5 arg21 arg22 arg24 arg25 = 1#1), ∀ a, (k0_off20 arg33) a + S1x160x4096.size a ≤ S6x160x4096.size a) ∧
  (∀ (k0_h6 : k0_cond6 arg21 arg22 arg24 arg25 = 1#1), ∀ a, (k0_off58 arg33) a + S1x160x4096.size a ≤ S6x160x4096.size a) ∧
  (∀ (k0_h8 : k0_cond8 arg21 arg27 = 1#1), ∀ a, (k0_off96 arg33) a + S1.size a ≤ S6.size a)
theorem k0_off12_inb : ∀ (arg21 : BitVec 32) (arg22 : BitVec 32) (arg24 : BitVec 32) (arg25 : BitVec 32) (arg27 : BitVec 32) (arg33 : BitVec 32) (k0_hw10 : k0_chk10 arg21 arg22 arg24 arg25 arg27 arg33), ∀ (k0_h3 : k0_cond3 arg21 = 1#1), ∀ a, (k0_off12 arg33) a + S1.size a ≤ S6.size a := fun arg21 arg22 arg24 arg25 arg27 arg33 k0_hw10 k0_h3 => k0_hw10.1 k0_h3
theorem k0_off20_inb : ∀ (arg21 : BitVec 32) (arg22 : BitVec 32) (arg24 : BitVec 32) (arg25 : BitVec 32) (arg27 : BitVec 32) (arg33 : BitVec 32) (k0_hw10 : k0_chk10 arg21 arg22 arg24 arg25 arg27 arg33), ∀ (k0_h5 : k0_cond5 arg21 arg22 arg24 arg25 = 1#1), ∀ a, (k0_off20 arg33) a + S1x160x4096.size a ≤ S6x160x4096.size a := fun arg21 arg22 arg24 arg25 arg27 arg33 k0_hw10 k0_h5 => k0_hw10.2.1 k0_h5
theorem k0_off58_inb : ∀ (arg21 : BitVec 32) (arg22 : BitVec 32) (arg24 : BitVec 32) (arg25 : BitVec 32) (arg27 : BitVec 32) (arg33 : BitVec 32) (k0_hw10 : k0_chk10 arg21 arg22 arg24 arg25 arg27 arg33), ∀ (k0_h6 : k0_cond6 arg21 arg22 arg24 arg25 = 1#1), ∀ a, (k0_off58 arg33) a + S1x160x4096.size a ≤ S6x160x4096.size a := fun arg21 arg22 arg24 arg25 arg27 arg33 k0_hw10 k0_h6 => k0_hw10.2.2.1 k0_h6
theorem k0_off96_inb : ∀ (arg21 : BitVec 32) (arg22 : BitVec 32) (arg24 : BitVec 32) (arg25 : BitVec 32) (arg27 : BitVec 32) (arg33 : BitVec 32) (k0_hw10 : k0_chk10 arg21 arg22 arg24 arg25 arg27 arg33), ∀ (k0_h8 : k0_cond8 arg21 arg27 = 1#1), ∀ a, (k0_off96 arg33) a + S1.size a ≤ S6.size a := fun arg21 arg22 arg24 arg25 arg27 arg33 k0_hw10 k0_h8 => k0_hw10.2.2.2 k0_h8

def k0_off97 (arg29 : BitVec 32) (arg33 : BitVec 32) (v282 : BitVec 32) : (Fin 3 → Nat) × (Fin 3 → Nat) :=
  let c0_i32_165 : BitVec 32 := 0#32
  let c0_i32_166 : BitVec 32 := 0#32
  let c32_i32 : BitVec 32 := 32#32
  let c1_i32_161 : BitVec 32 := 1#32
  let c4096_i32_154 : BitVec 32 := 4096#32
  let v283 : BitVec 32 := Scalar.muli arg29 c4096_i32_154
  let v284 : BitVec 32 := Scalar.subi v282 v283
  let c127_i32 : BitVec 32 := 127#32
  let v285 : BitVec 32 := Scalar.addi v284 c127_i32
  let c0_i32_155 : BitVec 32 := 0#32
  let v287 : BitVec 1 := Scalar.cmpi .sgt v285 c0_i32_155
  let v288 : BitVec 32 := Scalar.extui v287
  let c0_i32_156 : BitVec 32 := 0#32
  let v289 : BitVec 1 := Scalar.cmpi .slt v285 c0_i32_156
  let v290 : BitVec 32 := Scalar.extui v289
  let v291 : BitVec 32 := Scalar.subi v288 v290
  let c128_i32 : BitVec 32 := 128#32
  let c0_i32_157 : BitVec 32 := 0#32
  let v292 : BitVec 1 := Scalar.cmpi .sgt c128_i32 c0_i32_157
  let v293 : BitVec 32 := Scalar.extui v292
  let c0_i32_158 : BitVec 32 := 0#32
  let v294 : BitVec 1 := Scalar.cmpi .slt c128_i32 c0_i32_158
  let v295 : BitVec 32 := Scalar.extui v294
  let v296 : BitVec 32 := Scalar.subi v293 v295
  let v297 : BitVec 1 := Scalar.cmpi .ne v291 v296
  let v298 : BitVec 32 := Scalar.remsi v285 c128_i32
  let c0_i32_159 : BitVec 32 := 0#32
  let v299 : BitVec 1 := Scalar.cmpi .ne v298 c0_i32_159
  let v300 : BitVec 1 := Scalar.andi v297 v299
  let v286 : BitVec 32 := Scalar.divsi v285 c128_i32
  let c1_i32_160 : BitVec 32 := 1#32
  let v301 : BitVec 32 := Scalar.subi v286 c1_i32_160
  let v302 : BitVec 32 := Scalar.select v300 v301 v286
  let v303 : BitVec 32 := Scalar.maxsi c1_i32_161 v302
  let v304 : BitVec 32 := Scalar.minsi c32_i32 v303
  let c128_i32_162 : BitVec 32 := 128#32
  let v305 : BitVec 32 := Scalar.muli v304 c128_i32_162
  let v306 : BitVec 32 := v305
  ⟨![arg33.toNat, 0, 0], ![1, 160, v306.toNat]⟩
def k0_sz9 (arg29 : BitVec 32) (v282 : BitVec 32) : Fin 2 → Nat :=
  let c32_i32 : BitVec 32 := 32#32
  let c1_i32_161 : BitVec 32 := 1#32
  let c4096_i32_154 : BitVec 32 := 4096#32
  let v283 : BitVec 32 := Scalar.muli arg29 c4096_i32_154
  let v284 : BitVec 32 := Scalar.subi v282 v283
  let c127_i32 : BitVec 32 := 127#32
  let v285 : BitVec 32 := Scalar.addi v284 c127_i32
  let c0_i32_155 : BitVec 32 := 0#32
  let v287 : BitVec 1 := Scalar.cmpi .sgt v285 c0_i32_155
  let v288 : BitVec 32 := Scalar.extui v287
  let c0_i32_156 : BitVec 32 := 0#32
  let v289 : BitVec 1 := Scalar.cmpi .slt v285 c0_i32_156
  let v290 : BitVec 32 := Scalar.extui v289
  let v291 : BitVec 32 := Scalar.subi v288 v290
  let c128_i32 : BitVec 32 := 128#32
  let c0_i32_157 : BitVec 32 := 0#32
  let v292 : BitVec 1 := Scalar.cmpi .sgt c128_i32 c0_i32_157
  let v293 : BitVec 32 := Scalar.extui v292
  let c0_i32_158 : BitVec 32 := 0#32
  let v294 : BitVec 1 := Scalar.cmpi .slt c128_i32 c0_i32_158
  let v295 : BitVec 32 := Scalar.extui v294
  let v296 : BitVec 32 := Scalar.subi v293 v295
  let v297 : BitVec 1 := Scalar.cmpi .ne v291 v296
  let v298 : BitVec 32 := Scalar.remsi v285 c128_i32
  let c0_i32_159 : BitVec 32 := 0#32
  let v299 : BitVec 1 := Scalar.cmpi .ne v298 c0_i32_159
  let v300 : BitVec 1 := Scalar.andi v297 v299
  let v286 : BitVec 32 := Scalar.divsi v285 c128_i32
  let c1_i32_160 : BitVec 32 := 1#32
  let v301 : BitVec 32 := Scalar.subi v286 c1_i32_160
  let v302 : BitVec 32 := Scalar.select v300 v301 v286
  let v303 : BitVec 32 := Scalar.maxsi c1_i32_161 v302
  let v304 : BitVec 32 := Scalar.minsi c32_i32 v303
  let c128_i32_162 : BitVec 32 := 128#32
  let v305 : BitVec 32 := Scalar.muli v304 c128_i32_162
  let v306 : BitVec 32 := v305
  ![160, v306.toNat]
def k0_off98 (arg27 : BitVec 32) (arg28 : BitVec 32) (arg29 : BitVec 32) (v282 : BitVec 32) : (Fin 3 → Nat) × (Fin 3 → Nat) :=
  let c6_i32_164 : BitVec 32 := 6#32
  let v309 : BitVec 32 := Scalar.muli arg27 c6_i32_164
  let v310 : BitVec 32 := Scalar.addi v309 arg28
  let c0_i32_167 : BitVec 32 := 0#32
  let c4096_i32_163 : BitVec 32 := 4096#32
  let v307 : BitVec 32 := Scalar.muli arg29 c4096_i32_163
  let v308 : BitVec 32 := v307
  let c32_i32 : BitVec 32 := 32#32
  let c1_i32_161 : BitVec 32 := 1#32
  let c4096_i32_154 : BitVec 32 := 4096#32
  let v283 : BitVec 32 := Scalar.muli arg29 c4096_i32_154
  let v284 : BitVec 32 := Scalar.subi v282 v283
  let c127_i32 : BitVec 32 := 127#32
  let v285 : BitVec 32 := Scalar.addi v284 c127_i32
  let c0_i32_155 : BitVec 32 := 0#32
  let v287 : BitVec 1 := Scalar.cmpi .sgt v285 c0_i32_155
  let v288 : BitVec 32 := Scalar.extui v287
  let c0_i32_156 : BitVec 32 := 0#32
  let v289 : BitVec 1 := Scalar.cmpi .slt v285 c0_i32_156
  let v290 : BitVec 32 := Scalar.extui v289
  let v291 : BitVec 32 := Scalar.subi v288 v290
  let c128_i32 : BitVec 32 := 128#32
  let c0_i32_157 : BitVec 32 := 0#32
  let v292 : BitVec 1 := Scalar.cmpi .sgt c128_i32 c0_i32_157
  let v293 : BitVec 32 := Scalar.extui v292
  let c0_i32_158 : BitVec 32 := 0#32
  let v294 : BitVec 1 := Scalar.cmpi .slt c128_i32 c0_i32_158
  let v295 : BitVec 32 := Scalar.extui v294
  let v296 : BitVec 32 := Scalar.subi v293 v295
  let v297 : BitVec 1 := Scalar.cmpi .ne v291 v296
  let v298 : BitVec 32 := Scalar.remsi v285 c128_i32
  let c0_i32_159 : BitVec 32 := 0#32
  let v299 : BitVec 1 := Scalar.cmpi .ne v298 c0_i32_159
  let v300 : BitVec 1 := Scalar.andi v297 v299
  let v286 : BitVec 32 := Scalar.divsi v285 c128_i32
  let c1_i32_160 : BitVec 32 := 1#32
  let v301 : BitVec 32 := Scalar.subi v286 c1_i32_160
  let v302 : BitVec 32 := Scalar.select v300 v301 v286
  let v303 : BitVec 32 := Scalar.maxsi c1_i32_161 v302
  let v304 : BitVec 32 := Scalar.minsi c32_i32 v303
  let c128_i32_162 : BitVec 32 := 128#32
  let v305 : BitVec 32 := Scalar.muli v304 c128_i32_162
  let v306 : BitVec 32 := v305
  ⟨![v310.toNat, 0, v308.toNat], ![1, 160, v306.toNat]⟩
def k0_sz10 (arg29 : BitVec 32) (v282 : BitVec 32) : Fin 2 → Nat :=
  let c32_i32 : BitVec 32 := 32#32
  let c1_i32_161 : BitVec 32 := 1#32
  let c4096_i32_154 : BitVec 32 := 4096#32
  let v283 : BitVec 32 := Scalar.muli arg29 c4096_i32_154
  let v284 : BitVec 32 := Scalar.subi v282 v283
  let c127_i32 : BitVec 32 := 127#32
  let v285 : BitVec 32 := Scalar.addi v284 c127_i32
  let c0_i32_155 : BitVec 32 := 0#32
  let v287 : BitVec 1 := Scalar.cmpi .sgt v285 c0_i32_155
  let v288 : BitVec 32 := Scalar.extui v287
  let c0_i32_156 : BitVec 32 := 0#32
  let v289 : BitVec 1 := Scalar.cmpi .slt v285 c0_i32_156
  let v290 : BitVec 32 := Scalar.extui v289
  let v291 : BitVec 32 := Scalar.subi v288 v290
  let c128_i32 : BitVec 32 := 128#32
  let c0_i32_157 : BitVec 32 := 0#32
  let v292 : BitVec 1 := Scalar.cmpi .sgt c128_i32 c0_i32_157
  let v293 : BitVec 32 := Scalar.extui v292
  let c0_i32_158 : BitVec 32 := 0#32
  let v294 : BitVec 1 := Scalar.cmpi .slt c128_i32 c0_i32_158
  let v295 : BitVec 32 := Scalar.extui v294
  let v296 : BitVec 32 := Scalar.subi v293 v295
  let v297 : BitVec 1 := Scalar.cmpi .ne v291 v296
  let v298 : BitVec 32 := Scalar.remsi v285 c128_i32
  let c0_i32_159 : BitVec 32 := 0#32
  let v299 : BitVec 1 := Scalar.cmpi .ne v298 c0_i32_159
  let v300 : BitVec 1 := Scalar.andi v297 v299
  let v286 : BitVec 32 := Scalar.divsi v285 c128_i32
  let c1_i32_160 : BitVec 32 := 1#32
  let v301 : BitVec 32 := Scalar.subi v286 c1_i32_160
  let v302 : BitVec 32 := Scalar.select v300 v301 v286
  let v303 : BitVec 32 := Scalar.maxsi c1_i32_161 v302
  let v304 : BitVec 32 := Scalar.minsi c32_i32 v303
  let c128_i32_162 : BitVec 32 := 128#32
  let v305 : BitVec 32 := Scalar.muli v304 c128_i32_162
  let v306 : BitVec 32 := v305
  ![160, v306.toNat]

def k0_chk18 (arg21 : BitVec 32) (arg27 : BitVec 32) (arg28 : BitVec 32) (arg29 : BitVec 32) (arg33 : BitVec 32) (v282 : BitVec 32) : Prop :=
  (∀ (k0_h8 : k0_cond8 arg21 arg27 = 1#1), 128 ∣ (k0_mult9 arg29 v282).toNat) ∧
  (∀ (k0_h8 : k0_cond8 arg21 arg27 = 1#1), ∀ a, (k0_off97 arg29 arg33 v282).2 a = 0 ∨ (k0_off97 arg29 arg33 v282).1 a + (k0_off97 arg29 arg33 v282).2 a ≤ S6x160x4096.size a) ∧
  (∀ (k0_h8 : k0_cond8 arg21 arg27 = 1#1), (⟨3, (k0_off97 arg29 arg33 v282).2⟩ : Shape).Squeezes ⟨2, k0_sz9 arg29 v282⟩) ∧
  (∀ (k0_h8 : k0_cond8 arg21 arg27 = 1#1), ∀ a, (k0_off98 arg27 arg28 arg29 v282).2 a = 0 ∨ (k0_off98 arg27 arg28 arg29 v282).1 a + (k0_off98 arg27 arg28 arg29 v282).2 a ≤ S24x160x32768.size a) ∧
  (∀ (k0_h8 : k0_cond8 arg21 arg27 = 1#1), (⟨3, (k0_off98 arg27 arg28 arg29 v282).2⟩ : Shape).Squeezes ⟨2, k0_sz10 arg29 v282⟩) ∧
  (∀ (k0_h8 : k0_cond8 arg21 arg27 = 1#1), ∀ (hinb : ∀ a, (k0_off98 arg27 arg28 arg29 v282).2 a = 0 ∨ (k0_off98 arg27 arg28 arg29 v282).1 a + (k0_off98 arg27 arg28 arg29 v282).2 a ≤ S24x160x32768.size a), (Rect.unitDyn (s := S24x160x32768) (k0_off98 arg27 arg28 arg29 v282).1 (k0_off98 arg27 arg28 arg29 v282).2 hinb).WholeWords (EltTy.packing .bf16)) ∧
  (∀ (k0_h8 : k0_cond8 arg21 arg27 = 1#1), ∀ (hinb : ∀ a, (k0_off97 arg29 arg33 v282).2 a = 0 ∨ (k0_off97 arg29 arg33 v282).1 a + (k0_off97 arg29 arg33 v282).2 a ≤ S6x160x4096.size a), (Rect.unitDyn (s := S6x160x4096) (k0_off97 arg29 arg33 v282).1 (k0_off97 arg29 arg33 v282).2 hinb).WholeWords (EltTy.packing .bf16))
theorem k0_mult9_dvd : ∀ (arg21 : BitVec 32) (arg27 : BitVec 32) (arg28 : BitVec 32) (arg29 : BitVec 32) (arg33 : BitVec 32) (v282 : BitVec 32) (k0_hw18 : k0_chk18 arg21 arg27 arg28 arg29 arg33 v282), ∀ (k0_h8 : k0_cond8 arg21 arg27 = 1#1), 128 ∣ (k0_mult9 arg29 v282).toNat := fun arg21 arg27 arg28 arg29 arg33 v282 k0_hw18 k0_h8 => k0_hw18.1 k0_h8
theorem k0_off97_inb : ∀ (arg21 : BitVec 32) (arg27 : BitVec 32) (arg28 : BitVec 32) (arg29 : BitVec 32) (arg33 : BitVec 32) (v282 : BitVec 32) (k0_hw18 : k0_chk18 arg21 arg27 arg28 arg29 arg33 v282), ∀ (k0_h8 : k0_cond8 arg21 arg27 = 1#1), ∀ a, (k0_off97 arg29 arg33 v282).2 a = 0 ∨ (k0_off97 arg29 arg33 v282).1 a + (k0_off97 arg29 arg33 v282).2 a ≤ S6x160x4096.size a := fun arg21 arg27 arg28 arg29 arg33 v282 k0_hw18 k0_h8 => k0_hw18.2.1 k0_h8
theorem k0_sz9_squeezes : ∀ (arg21 : BitVec 32) (arg27 : BitVec 32) (arg28 : BitVec 32) (arg29 : BitVec 32) (arg33 : BitVec 32) (v282 : BitVec 32) (k0_hw18 : k0_chk18 arg21 arg27 arg28 arg29 arg33 v282), ∀ (k0_h8 : k0_cond8 arg21 arg27 = 1#1), (⟨3, (k0_off97 arg29 arg33 v282).2⟩ : Shape).Squeezes ⟨2, k0_sz9 arg29 v282⟩ := fun arg21 arg27 arg28 arg29 arg33 v282 k0_hw18 k0_h8 => k0_hw18.2.2.1 k0_h8
theorem k0_off98_inb : ∀ (arg21 : BitVec 32) (arg27 : BitVec 32) (arg28 : BitVec 32) (arg29 : BitVec 32) (arg33 : BitVec 32) (v282 : BitVec 32) (k0_hw18 : k0_chk18 arg21 arg27 arg28 arg29 arg33 v282), ∀ (k0_h8 : k0_cond8 arg21 arg27 = 1#1), ∀ a, (k0_off98 arg27 arg28 arg29 v282).2 a = 0 ∨ (k0_off98 arg27 arg28 arg29 v282).1 a + (k0_off98 arg27 arg28 arg29 v282).2 a ≤ S24x160x32768.size a := fun arg21 arg27 arg28 arg29 arg33 v282 k0_hw18 k0_h8 => k0_hw18.2.2.2.1 k0_h8
theorem k0_sz10_squeezes : ∀ (arg21 : BitVec 32) (arg27 : BitVec 32) (arg28 : BitVec 32) (arg29 : BitVec 32) (arg33 : BitVec 32) (v282 : BitVec 32) (k0_hw18 : k0_chk18 arg21 arg27 arg28 arg29 arg33 v282), ∀ (k0_h8 : k0_cond8 arg21 arg27 = 1#1), (⟨3, (k0_off98 arg27 arg28 arg29 v282).2⟩ : Shape).Squeezes ⟨2, k0_sz10 arg29 v282⟩ := fun arg21 arg27 arg28 arg29 arg33 v282 k0_hw18 k0_h8 => k0_hw18.2.2.2.2.1 k0_h8
theorem k0_off98_wordsbf16 : ∀ (arg21 : BitVec 32) (arg27 : BitVec 32) (arg28 : BitVec 32) (arg29 : BitVec 32) (arg33 : BitVec 32) (v282 : BitVec 32) (k0_hw18 : k0_chk18 arg21 arg27 arg28 arg29 arg33 v282), ∀ (k0_h8 : k0_cond8 arg21 arg27 = 1#1), (Rect.unitDyn (s := S24x160x32768) (k0_off98 arg27 arg28 arg29 v282).1 (k0_off98 arg27 arg28 arg29 v282).2 (k0_off98_inb arg21 arg27 arg28 arg29 arg33 v282 k0_hw18 k0_h8)).WholeWords (EltTy.packing .bf16) := fun arg21 arg27 arg28 arg29 arg33 v282 k0_hw18 k0_h8 => k0_hw18.2.2.2.2.2.1 k0_h8 (k0_off98_inb arg21 arg27 arg28 arg29 arg33 v282 k0_hw18 k0_h8)
theorem k0_off97_wordsbf16 : ∀ (arg21 : BitVec 32) (arg27 : BitVec 32) (arg28 : BitVec 32) (arg29 : BitVec 32) (arg33 : BitVec 32) (v282 : BitVec 32) (k0_hw18 : k0_chk18 arg21 arg27 arg28 arg29 arg33 v282), ∀ (k0_h8 : k0_cond8 arg21 arg27 = 1#1), (Rect.unitDyn (s := S6x160x4096) (k0_off97 arg29 arg33 v282).1 (k0_off97 arg29 arg33 v282).2 (k0_off97_inb arg21 arg27 arg28 arg29 arg33 v282 k0_hw18 k0_h8)).WholeWords (EltTy.packing .bf16) := fun arg21 arg27 arg28 arg29 arg33 v282 k0_hw18 k0_h8 => k0_hw18.2.2.2.2.2.2 k0_h8 (k0_off97_inb arg21 arg27 arg28 arg29 arg33 v282 k0_hw18 k0_h8)

def k0_off99 (arg30 : BitVec 32) : Fin 1 → Nat :=
  let c3_i32_153 : BitVec 32 := 3#32
  let v280 : BitVec 32 := Scalar.minsi arg30 c3_i32_153
  let v281 : Index := Scalar.indexCast v280
  ![v281.toNat]
def k0_cond9 (arg21 : BitVec 32) (arg22 : BitVec 32) (arg24 : BitVec 32) (arg25 : BitVec 32) (arg30 : BitVec 32) : BitVec 1 :=
  let c6_i32_45 : BitVec 32 := 6#32
  let v35 : BitVec 32 := Scalar.muli arg21 c6_i32_45
  let v36 : BitVec 32 := Scalar.addi v35 arg22
  let c6_i32_46 : BitVec 32 := 6#32
  let v37 : BitVec 32 := Scalar.muli arg24 c6_i32_46
  let v38 : BitVec 32 := Scalar.addi v37 arg25
  let v39 : BitVec 1 := Scalar.cmpi .sgt v36 v38
  let c4_i32_55 : BitVec 32 := 4#32
  let v58 : BitVec 1 := Scalar.cmpi .slt arg30 c4_i32_55
  let v59 : BitVec 1 := Scalar.andi v39 v58
  let v60 : BitVec 32 := Scalar.extui v59
  let c0_i32_56 : BitVec 32 := 0#32
  let v61 : BitVec 1 := Scalar.cmpi .ne v60 c0_i32_56
  v61

def k0_mult11 (arg32 : BitVec 32) (v282 : BitVec 32) : BitVec 32 :=
  let c32_i32 : BitVec 32 := 32#32
  let c1_i32_161 : BitVec 32 := 1#32
  let c4096_i32_154 : BitVec 32 := 4096#32
  let v283 : BitVec 32 := Scalar.muli arg32 c4096_i32_154
  let v284 : BitVec 32 := Scalar.subi v282 v283
  let c127_i32 : BitVec 32 := 127#32
  let v285 : BitVec 32 := Scalar.addi v284 c127_i32
  let c0_i32_155 : BitVec 32 := 0#32
  let v287 : BitVec 1 := Scalar.cmpi .sgt v285 c0_i32_155
  let v288 : BitVec 32 := Scalar.extui v287
  let c0_i32_156 : BitVec 32 := 0#32
  let v289 : BitVec 1 := Scalar.cmpi .slt v285 c0_i32_156
  let v290 : BitVec 32 := Scalar.extui v289
  let v291 : BitVec 32 := Scalar.subi v288 v290
  let c128_i32 : BitVec 32 := 128#32
  let c0_i32_157 : BitVec 32 := 0#32
  let v292 : BitVec 1 := Scalar.cmpi .sgt c128_i32 c0_i32_157
  let v293 : BitVec 32 := Scalar.extui v292
  let c0_i32_158 : BitVec 32 := 0#32
  let v294 : BitVec 1 := Scalar.cmpi .slt c128_i32 c0_i32_158
  let v295 : BitVec 32 := Scalar.extui v294
  let v296 : BitVec 32 := Scalar.subi v293 v295
  let v297 : BitVec 1 := Scalar.cmpi .ne v291 v296
  let v298 : BitVec 32 := Scalar.remsi v285 c128_i32
  let c0_i32_159 : BitVec 32 := 0#32
  let v299 : BitVec 1 := Scalar.cmpi .ne v298 c0_i32_159
  let v300 : BitVec 1 := Scalar.andi v297 v299
  let v286 : BitVec 32 := Scalar.divsi v285 c128_i32
  let c1_i32_160 : BitVec 32 := 1#32
  let v301 : BitVec 32 := Scalar.subi v286 c1_i32_160
  let v302 : BitVec 32 := Scalar.select v300 v301 v286
  let v303 : BitVec 32 := Scalar.maxsi c1_i32_161 v302
  let v304 : BitVec 32 := Scalar.minsi c32_i32 v303
  let c128_i32_162 : BitVec 32 := 128#32
  let v305 : BitVec 32 := Scalar.muli v304 c128_i32_162
  v305

def k0_mult12 (arg32 : BitVec 32) : BitVec 32 :=
  let c4096_i32_163 : BitVec 32 := 4096#32
  let v307 : BitVec 32 := Scalar.muli arg32 c4096_i32_163
  v307

def k0_chk22 (arg21 : BitVec 32) (arg22 : BitVec 32) (arg24 : BitVec 32) (arg25 : BitVec 32) (arg30 : BitVec 32) (arg32 : BitVec 32) : Prop :=
  (∀ (k0_h9 : k0_cond9 arg21 arg22 arg24 arg25 arg30 = 1#1), 128 ∣ (k0_mult12 arg32).toNat)
theorem k0_mult12_dvd : ∀ (arg21 : BitVec 32) (arg22 : BitVec 32) (arg24 : BitVec 32) (arg25 : BitVec 32) (arg30 : BitVec 32) (arg32 : BitVec 32) (k0_hw22 : k0_chk22 arg21 arg22 arg24 arg25 arg30 arg32), ∀ (k0_h9 : k0_cond9 arg21 arg22 arg24 arg25 arg30 = 1#1), 128 ∣ (k0_mult12 arg32).toNat := fun arg21 arg22 arg24 arg25 arg30 arg32 k0_hw22 k0_h9 => k0_hw22 k0_h9

def k0_off100 (arg34 : BitVec 32) : Fin 1 → Nat :=
  ![arg34.toNat]

def k0_chk14 (arg21 : BitVec 32) (arg22 : BitVec 32) (arg24 : BitVec 32) (arg25 : BitVec 32) (arg30 : BitVec 32) (arg34 : BitVec 32) : Prop :=
  (∀ (k0_h4 : k0_cond4 arg21 arg22 arg24 arg25 = 1#1), ∀ a, (k0_off16 arg34) a + S1.size a ≤ S8.size a) ∧
  (∀ (k0_h5 : k0_cond5 arg21 arg22 arg24 arg25 = 1#1), ∀ a, (k0_off56 arg34) a + S1x160x4096.size a ≤ S8x160x4096.size a) ∧
  (∀ (k0_h7 : k0_cond7 arg21 = 1#1), ∀ a, (k0_off94 arg34) a + S1x160x4096.size a ≤ S8x160x4096.size a) ∧
  (∀ (k0_h9 : k0_cond9 arg21 arg22 arg24 arg25 arg30 = 1#1), ∀ a, (k0_off100 arg34) a + S1.size a ≤ S8.size a)
theorem k0_off16_inb : ∀ (arg21 : BitVec 32) (arg22 : BitVec 32) (arg24 : BitVec 32) (arg25 : BitVec 32) (arg30 : BitVec 32) (arg34 : BitVec 32) (k0_hw14 : k0_chk14 arg21 arg22 arg24 arg25 arg30 arg34), ∀ (k0_h4 : k0_cond4 arg21 arg22 arg24 arg25 = 1#1), ∀ a, (k0_off16 arg34) a + S1.size a ≤ S8.size a := fun arg21 arg22 arg24 arg25 arg30 arg34 k0_hw14 k0_h4 => k0_hw14.1 k0_h4
theorem k0_off56_inb : ∀ (arg21 : BitVec 32) (arg22 : BitVec 32) (arg24 : BitVec 32) (arg25 : BitVec 32) (arg30 : BitVec 32) (arg34 : BitVec 32) (k0_hw14 : k0_chk14 arg21 arg22 arg24 arg25 arg30 arg34), ∀ (k0_h5 : k0_cond5 arg21 arg22 arg24 arg25 = 1#1), ∀ a, (k0_off56 arg34) a + S1x160x4096.size a ≤ S8x160x4096.size a := fun arg21 arg22 arg24 arg25 arg30 arg34 k0_hw14 k0_h5 => k0_hw14.2.1 k0_h5
theorem k0_off94_inb : ∀ (arg21 : BitVec 32) (arg22 : BitVec 32) (arg24 : BitVec 32) (arg25 : BitVec 32) (arg30 : BitVec 32) (arg34 : BitVec 32) (k0_hw14 : k0_chk14 arg21 arg22 arg24 arg25 arg30 arg34), ∀ (k0_h7 : k0_cond7 arg21 = 1#1), ∀ a, (k0_off94 arg34) a + S1x160x4096.size a ≤ S8x160x4096.size a := fun arg21 arg22 arg24 arg25 arg30 arg34 k0_hw14 k0_h7 => k0_hw14.2.2.1 k0_h7
theorem k0_off100_inb : ∀ (arg21 : BitVec 32) (arg22 : BitVec 32) (arg24 : BitVec 32) (arg25 : BitVec 32) (arg30 : BitVec 32) (arg34 : BitVec 32) (k0_hw14 : k0_chk14 arg21 arg22 arg24 arg25 arg30 arg34), ∀ (k0_h9 : k0_cond9 arg21 arg22 arg24 arg25 arg30 = 1#1), ∀ a, (k0_off100 arg34) a + S1.size a ≤ S8.size a := fun arg21 arg22 arg24 arg25 arg30 arg34 k0_hw14 k0_h9 => k0_hw14.2.2.2 k0_h9

def k0_off101 (arg32 : BitVec 32) (arg34 : BitVec 32) (v282 : BitVec 32) : (Fin 3 → Nat) × (Fin 3 → Nat) :=
  let c0_i32_165 : BitVec 32 := 0#32
  let c0_i32_166 : BitVec 32 := 0#32
  let c32_i32 : BitVec 32 := 32#32
  let c1_i32_161 : BitVec 32 := 1#32
  let c4096_i32_154 : BitVec 32 := 4096#32
  let v283 : BitVec 32 := Scalar.muli arg32 c4096_i32_154
  let v284 : BitVec 32 := Scalar.subi v282 v283
  let c127_i32 : BitVec 32 := 127#32
  let v285 : BitVec 32 := Scalar.addi v284 c127_i32
  let c0_i32_155 : BitVec 32 := 0#32
  let v287 : BitVec 1 := Scalar.cmpi .sgt v285 c0_i32_155
  let v288 : BitVec 32 := Scalar.extui v287
  let c0_i32_156 : BitVec 32 := 0#32
  let v289 : BitVec 1 := Scalar.cmpi .slt v285 c0_i32_156
  let v290 : BitVec 32 := Scalar.extui v289
  let v291 : BitVec 32 := Scalar.subi v288 v290
  let c128_i32 : BitVec 32 := 128#32
  let c0_i32_157 : BitVec 32 := 0#32
  let v292 : BitVec 1 := Scalar.cmpi .sgt c128_i32 c0_i32_157
  let v293 : BitVec 32 := Scalar.extui v292
  let c0_i32_158 : BitVec 32 := 0#32
  let v294 : BitVec 1 := Scalar.cmpi .slt c128_i32 c0_i32_158
  let v295 : BitVec 32 := Scalar.extui v294
  let v296 : BitVec 32 := Scalar.subi v293 v295
  let v297 : BitVec 1 := Scalar.cmpi .ne v291 v296
  let v298 : BitVec 32 := Scalar.remsi v285 c128_i32
  let c0_i32_159 : BitVec 32 := 0#32
  let v299 : BitVec 1 := Scalar.cmpi .ne v298 c0_i32_159
  let v300 : BitVec 1 := Scalar.andi v297 v299
  let v286 : BitVec 32 := Scalar.divsi v285 c128_i32
  let c1_i32_160 : BitVec 32 := 1#32
  let v301 : BitVec 32 := Scalar.subi v286 c1_i32_160
  let v302 : BitVec 32 := Scalar.select v300 v301 v286
  let v303 : BitVec 32 := Scalar.maxsi c1_i32_161 v302
  let v304 : BitVec 32 := Scalar.minsi c32_i32 v303
  let c128_i32_162 : BitVec 32 := 128#32
  let v305 : BitVec 32 := Scalar.muli v304 c128_i32_162
  let v306 : BitVec 32 := v305
  ⟨![arg34.toNat, 0, 0], ![1, 160, v306.toNat]⟩
def k0_sz11 (arg32 : BitVec 32) (v282 : BitVec 32) : Fin 2 → Nat :=
  let c32_i32 : BitVec 32 := 32#32
  let c1_i32_161 : BitVec 32 := 1#32
  let c4096_i32_154 : BitVec 32 := 4096#32
  let v283 : BitVec 32 := Scalar.muli arg32 c4096_i32_154
  let v284 : BitVec 32 := Scalar.subi v282 v283
  let c127_i32 : BitVec 32 := 127#32
  let v285 : BitVec 32 := Scalar.addi v284 c127_i32
  let c0_i32_155 : BitVec 32 := 0#32
  let v287 : BitVec 1 := Scalar.cmpi .sgt v285 c0_i32_155
  let v288 : BitVec 32 := Scalar.extui v287
  let c0_i32_156 : BitVec 32 := 0#32
  let v289 : BitVec 1 := Scalar.cmpi .slt v285 c0_i32_156
  let v290 : BitVec 32 := Scalar.extui v289
  let v291 : BitVec 32 := Scalar.subi v288 v290
  let c128_i32 : BitVec 32 := 128#32
  let c0_i32_157 : BitVec 32 := 0#32
  let v292 : BitVec 1 := Scalar.cmpi .sgt c128_i32 c0_i32_157
  let v293 : BitVec 32 := Scalar.extui v292
  let c0_i32_158 : BitVec 32 := 0#32
  let v294 : BitVec 1 := Scalar.cmpi .slt c128_i32 c0_i32_158
  let v295 : BitVec 32 := Scalar.extui v294
  let v296 : BitVec 32 := Scalar.subi v293 v295
  let v297 : BitVec 1 := Scalar.cmpi .ne v291 v296
  let v298 : BitVec 32 := Scalar.remsi v285 c128_i32
  let c0_i32_159 : BitVec 32 := 0#32
  let v299 : BitVec 1 := Scalar.cmpi .ne v298 c0_i32_159
  let v300 : BitVec 1 := Scalar.andi v297 v299
  let v286 : BitVec 32 := Scalar.divsi v285 c128_i32
  let c1_i32_160 : BitVec 32 := 1#32
  let v301 : BitVec 32 := Scalar.subi v286 c1_i32_160
  let v302 : BitVec 32 := Scalar.select v300 v301 v286
  let v303 : BitVec 32 := Scalar.maxsi c1_i32_161 v302
  let v304 : BitVec 32 := Scalar.minsi c32_i32 v303
  let c128_i32_162 : BitVec 32 := 128#32
  let v305 : BitVec 32 := Scalar.muli v304 c128_i32_162
  let v306 : BitVec 32 := v305
  ![160, v306.toNat]
def k0_off102 (arg30 : BitVec 32) (arg31 : BitVec 32) (arg32 : BitVec 32) (v282 : BitVec 32) : (Fin 3 → Nat) × (Fin 3 → Nat) :=
  let c6_i32_164 : BitVec 32 := 6#32
  let v309 : BitVec 32 := Scalar.muli arg30 c6_i32_164
  let v310 : BitVec 32 := Scalar.addi v309 arg31
  let c0_i32_167 : BitVec 32 := 0#32
  let c4096_i32_163 : BitVec 32 := 4096#32
  let v307 : BitVec 32 := Scalar.muli arg32 c4096_i32_163
  let v308 : BitVec 32 := v307
  let c32_i32 : BitVec 32 := 32#32
  let c1_i32_161 : BitVec 32 := 1#32
  let c4096_i32_154 : BitVec 32 := 4096#32
  let v283 : BitVec 32 := Scalar.muli arg32 c4096_i32_154
  let v284 : BitVec 32 := Scalar.subi v282 v283
  let c127_i32 : BitVec 32 := 127#32
  let v285 : BitVec 32 := Scalar.addi v284 c127_i32
  let c0_i32_155 : BitVec 32 := 0#32
  let v287 : BitVec 1 := Scalar.cmpi .sgt v285 c0_i32_155
  let v288 : BitVec 32 := Scalar.extui v287
  let c0_i32_156 : BitVec 32 := 0#32
  let v289 : BitVec 1 := Scalar.cmpi .slt v285 c0_i32_156
  let v290 : BitVec 32 := Scalar.extui v289
  let v291 : BitVec 32 := Scalar.subi v288 v290
  let c128_i32 : BitVec 32 := 128#32
  let c0_i32_157 : BitVec 32 := 0#32
  let v292 : BitVec 1 := Scalar.cmpi .sgt c128_i32 c0_i32_157
  let v293 : BitVec 32 := Scalar.extui v292
  let c0_i32_158 : BitVec 32 := 0#32
  let v294 : BitVec 1 := Scalar.cmpi .slt c128_i32 c0_i32_158
  let v295 : BitVec 32 := Scalar.extui v294
  let v296 : BitVec 32 := Scalar.subi v293 v295
  let v297 : BitVec 1 := Scalar.cmpi .ne v291 v296
  let v298 : BitVec 32 := Scalar.remsi v285 c128_i32
  let c0_i32_159 : BitVec 32 := 0#32
  let v299 : BitVec 1 := Scalar.cmpi .ne v298 c0_i32_159
  let v300 : BitVec 1 := Scalar.andi v297 v299
  let v286 : BitVec 32 := Scalar.divsi v285 c128_i32
  let c1_i32_160 : BitVec 32 := 1#32
  let v301 : BitVec 32 := Scalar.subi v286 c1_i32_160
  let v302 : BitVec 32 := Scalar.select v300 v301 v286
  let v303 : BitVec 32 := Scalar.maxsi c1_i32_161 v302
  let v304 : BitVec 32 := Scalar.minsi c32_i32 v303
  let c128_i32_162 : BitVec 32 := 128#32
  let v305 : BitVec 32 := Scalar.muli v304 c128_i32_162
  let v306 : BitVec 32 := v305
  ⟨![v310.toNat, 0, v308.toNat], ![1, 160, v306.toNat]⟩
def k0_sz12 (arg32 : BitVec 32) (v282 : BitVec 32) : Fin 2 → Nat :=
  let c32_i32 : BitVec 32 := 32#32
  let c1_i32_161 : BitVec 32 := 1#32
  let c4096_i32_154 : BitVec 32 := 4096#32
  let v283 : BitVec 32 := Scalar.muli arg32 c4096_i32_154
  let v284 : BitVec 32 := Scalar.subi v282 v283
  let c127_i32 : BitVec 32 := 127#32
  let v285 : BitVec 32 := Scalar.addi v284 c127_i32
  let c0_i32_155 : BitVec 32 := 0#32
  let v287 : BitVec 1 := Scalar.cmpi .sgt v285 c0_i32_155
  let v288 : BitVec 32 := Scalar.extui v287
  let c0_i32_156 : BitVec 32 := 0#32
  let v289 : BitVec 1 := Scalar.cmpi .slt v285 c0_i32_156
  let v290 : BitVec 32 := Scalar.extui v289
  let v291 : BitVec 32 := Scalar.subi v288 v290
  let c128_i32 : BitVec 32 := 128#32
  let c0_i32_157 : BitVec 32 := 0#32
  let v292 : BitVec 1 := Scalar.cmpi .sgt c128_i32 c0_i32_157
  let v293 : BitVec 32 := Scalar.extui v292
  let c0_i32_158 : BitVec 32 := 0#32
  let v294 : BitVec 1 := Scalar.cmpi .slt c128_i32 c0_i32_158
  let v295 : BitVec 32 := Scalar.extui v294
  let v296 : BitVec 32 := Scalar.subi v293 v295
  let v297 : BitVec 1 := Scalar.cmpi .ne v291 v296
  let v298 : BitVec 32 := Scalar.remsi v285 c128_i32
  let c0_i32_159 : BitVec 32 := 0#32
  let v299 : BitVec 1 := Scalar.cmpi .ne v298 c0_i32_159
  let v300 : BitVec 1 := Scalar.andi v297 v299
  let v286 : BitVec 32 := Scalar.divsi v285 c128_i32
  let c1_i32_160 : BitVec 32 := 1#32
  let v301 : BitVec 32 := Scalar.subi v286 c1_i32_160
  let v302 : BitVec 32 := Scalar.select v300 v301 v286
  let v303 : BitVec 32 := Scalar.maxsi c1_i32_161 v302
  let v304 : BitVec 32 := Scalar.minsi c32_i32 v303
  let c128_i32_162 : BitVec 32 := 128#32
  let v305 : BitVec 32 := Scalar.muli v304 c128_i32_162
  let v306 : BitVec 32 := v305
  ![160, v306.toNat]

def k0_chk21 (arg21 : BitVec 32) (arg22 : BitVec 32) (arg24 : BitVec 32) (arg25 : BitVec 32) (arg30 : BitVec 32) (arg31 : BitVec 32) (arg32 : BitVec 32) (arg34 : BitVec 32) (v282 : BitVec 32) : Prop :=
  (∀ (k0_h9 : k0_cond9 arg21 arg22 arg24 arg25 arg30 = 1#1), 128 ∣ (k0_mult11 arg32 v282).toNat) ∧
  (∀ (k0_h9 : k0_cond9 arg21 arg22 arg24 arg25 arg30 = 1#1), ∀ a, (k0_off101 arg32 arg34 v282).2 a = 0 ∨ (k0_off101 arg32 arg34 v282).1 a + (k0_off101 arg32 arg34 v282).2 a ≤ S8x160x4096.size a) ∧
  (∀ (k0_h9 : k0_cond9 arg21 arg22 arg24 arg25 arg30 = 1#1), (⟨3, (k0_off101 arg32 arg34 v282).2⟩ : Shape).Squeezes ⟨2, k0_sz11 arg32 v282⟩) ∧
  (∀ (k0_h9 : k0_cond9 arg21 arg22 arg24 arg25 arg30 = 1#1), ∀ a, (k0_off102 arg30 arg31 arg32 v282).2 a = 0 ∨ (k0_off102 arg30 arg31 arg32 v282).1 a + (k0_off102 arg30 arg31 arg32 v282).2 a ≤ S24x160x32768.size a) ∧
  (∀ (k0_h9 : k0_cond9 arg21 arg22 arg24 arg25 arg30 = 1#1), (⟨3, (k0_off102 arg30 arg31 arg32 v282).2⟩ : Shape).Squeezes ⟨2, k0_sz12 arg32 v282⟩) ∧
  (∀ (k0_h9 : k0_cond9 arg21 arg22 arg24 arg25 arg30 = 1#1), ∀ (hinb : ∀ a, (k0_off102 arg30 arg31 arg32 v282).2 a = 0 ∨ (k0_off102 arg30 arg31 arg32 v282).1 a + (k0_off102 arg30 arg31 arg32 v282).2 a ≤ S24x160x32768.size a), (Rect.unitDyn (s := S24x160x32768) (k0_off102 arg30 arg31 arg32 v282).1 (k0_off102 arg30 arg31 arg32 v282).2 hinb).WholeWords (EltTy.packing .fp8e4m3)) ∧
  (∀ (k0_h9 : k0_cond9 arg21 arg22 arg24 arg25 arg30 = 1#1), ∀ (hinb : ∀ a, (k0_off101 arg32 arg34 v282).2 a = 0 ∨ (k0_off101 arg32 arg34 v282).1 a + (k0_off101 arg32 arg34 v282).2 a ≤ S8x160x4096.size a), (Rect.unitDyn (s := S8x160x4096) (k0_off101 arg32 arg34 v282).1 (k0_off101 arg32 arg34 v282).2 hinb).WholeWords (EltTy.packing .fp8e4m3))
theorem k0_mult11_dvd : ∀ (arg21 : BitVec 32) (arg22 : BitVec 32) (arg24 : BitVec 32) (arg25 : BitVec 32) (arg30 : BitVec 32) (arg31 : BitVec 32) (arg32 : BitVec 32) (arg34 : BitVec 32) (v282 : BitVec 32) (k0_hw21 : k0_chk21 arg21 arg22 arg24 arg25 arg30 arg31 arg32 arg34 v282), ∀ (k0_h9 : k0_cond9 arg21 arg22 arg24 arg25 arg30 = 1#1), 128 ∣ (k0_mult11 arg32 v282).toNat := fun arg21 arg22 arg24 arg25 arg30 arg31 arg32 arg34 v282 k0_hw21 k0_h9 => k0_hw21.1 k0_h9
theorem k0_off101_inb : ∀ (arg21 : BitVec 32) (arg22 : BitVec 32) (arg24 : BitVec 32) (arg25 : BitVec 32) (arg30 : BitVec 32) (arg31 : BitVec 32) (arg32 : BitVec 32) (arg34 : BitVec 32) (v282 : BitVec 32) (k0_hw21 : k0_chk21 arg21 arg22 arg24 arg25 arg30 arg31 arg32 arg34 v282), ∀ (k0_h9 : k0_cond9 arg21 arg22 arg24 arg25 arg30 = 1#1), ∀ a, (k0_off101 arg32 arg34 v282).2 a = 0 ∨ (k0_off101 arg32 arg34 v282).1 a + (k0_off101 arg32 arg34 v282).2 a ≤ S8x160x4096.size a := fun arg21 arg22 arg24 arg25 arg30 arg31 arg32 arg34 v282 k0_hw21 k0_h9 => k0_hw21.2.1 k0_h9
theorem k0_sz11_squeezes : ∀ (arg21 : BitVec 32) (arg22 : BitVec 32) (arg24 : BitVec 32) (arg25 : BitVec 32) (arg30 : BitVec 32) (arg31 : BitVec 32) (arg32 : BitVec 32) (arg34 : BitVec 32) (v282 : BitVec 32) (k0_hw21 : k0_chk21 arg21 arg22 arg24 arg25 arg30 arg31 arg32 arg34 v282), ∀ (k0_h9 : k0_cond9 arg21 arg22 arg24 arg25 arg30 = 1#1), (⟨3, (k0_off101 arg32 arg34 v282).2⟩ : Shape).Squeezes ⟨2, k0_sz11 arg32 v282⟩ := fun arg21 arg22 arg24 arg25 arg30 arg31 arg32 arg34 v282 k0_hw21 k0_h9 => k0_hw21.2.2.1 k0_h9
theorem k0_off102_inb : ∀ (arg21 : BitVec 32) (arg22 : BitVec 32) (arg24 : BitVec 32) (arg25 : BitVec 32) (arg30 : BitVec 32) (arg31 : BitVec 32) (arg32 : BitVec 32) (arg34 : BitVec 32) (v282 : BitVec 32) (k0_hw21 : k0_chk21 arg21 arg22 arg24 arg25 arg30 arg31 arg32 arg34 v282), ∀ (k0_h9 : k0_cond9 arg21 arg22 arg24 arg25 arg30 = 1#1), ∀ a, (k0_off102 arg30 arg31 arg32 v282).2 a = 0 ∨ (k0_off102 arg30 arg31 arg32 v282).1 a + (k0_off102 arg30 arg31 arg32 v282).2 a ≤ S24x160x32768.size a := fun arg21 arg22 arg24 arg25 arg30 arg31 arg32 arg34 v282 k0_hw21 k0_h9 => k0_hw21.2.2.2.1 k0_h9
theorem k0_sz12_squeezes : ∀ (arg21 : BitVec 32) (arg22 : BitVec 32) (arg24 : BitVec 32) (arg25 : BitVec 32) (arg30 : BitVec 32) (arg31 : BitVec 32) (arg32 : BitVec 32) (arg34 : BitVec 32) (v282 : BitVec 32) (k0_hw21 : k0_chk21 arg21 arg22 arg24 arg25 arg30 arg31 arg32 arg34 v282), ∀ (k0_h9 : k0_cond9 arg21 arg22 arg24 arg25 arg30 = 1#1), (⟨3, (k0_off102 arg30 arg31 arg32 v282).2⟩ : Shape).Squeezes ⟨2, k0_sz12 arg32 v282⟩ := fun arg21 arg22 arg24 arg25 arg30 arg31 arg32 arg34 v282 k0_hw21 k0_h9 => k0_hw21.2.2.2.2.1 k0_h9
theorem k0_off102_wordsfp8e4m3 : ∀ (arg21 : BitVec 32) (arg22 : BitVec 32) (arg24 : BitVec 32) (arg25 : BitVec 32) (arg30 : BitVec 32) (arg31 : BitVec 32) (arg32 : BitVec 32) (arg34 : BitVec 32) (v282 : BitVec 32) (k0_hw21 : k0_chk21 arg21 arg22 arg24 arg25 arg30 arg31 arg32 arg34 v282), ∀ (k0_h9 : k0_cond9 arg21 arg22 arg24 arg25 arg30 = 1#1), (Rect.unitDyn (s := S24x160x32768) (k0_off102 arg30 arg31 arg32 v282).1 (k0_off102 arg30 arg31 arg32 v282).2 (k0_off102_inb arg21 arg22 arg24 arg25 arg30 arg31 arg32 arg34 v282 k0_hw21 k0_h9)).WholeWords (EltTy.packing .fp8e4m3) := fun arg21 arg22 arg24 arg25 arg30 arg31 arg32 arg34 v282 k0_hw21 k0_h9 => k0_hw21.2.2.2.2.2.1 k0_h9 (k0_off102_inb arg21 arg22 arg24 arg25 arg30 arg31 arg32 arg34 v282 k0_hw21 k0_h9)
theorem k0_off101_wordsfp8e4m3 : ∀ (arg21 : BitVec 32) (arg22 : BitVec 32) (arg24 : BitVec 32) (arg25 : BitVec 32) (arg30 : BitVec 32) (arg31 : BitVec 32) (arg32 : BitVec 32) (arg34 : BitVec 32) (v282 : BitVec 32) (k0_hw21 : k0_chk21 arg21 arg22 arg24 arg25 arg30 arg31 arg32 arg34 v282), ∀ (k0_h9 : k0_cond9 arg21 arg22 arg24 arg25 arg30 = 1#1), (Rect.unitDyn (s := S8x160x4096) (k0_off101 arg32 arg34 v282).1 (k0_off101 arg32 arg34 v282).2 (k0_off101_inb arg21 arg22 arg24 arg25 arg30 arg31 arg32 arg34 v282 k0_hw21 k0_h9)).WholeWords (EltTy.packing .fp8e4m3) := fun arg21 arg22 arg24 arg25 arg30 arg31 arg32 arg34 v282 k0_hw21 k0_h9 => k0_hw21.2.2.2.2.2.2 k0_h9 (k0_off101_inb arg21 arg22 arg24 arg25 arg30 arg31 arg32 arg34 v282 k0_hw21 k0_h9)

def k0_off103 (arg21 : BitVec 32) : Fin 1 → Nat :=
  let c3_i32 : BitVec 32 := 3#32
  let v63 : BitVec 32 := Scalar.minsi arg21 c3_i32
  let v64 : Index := Scalar.indexCast v63
  ![v64.toNat]
def k0_off104 (arg21 : BitVec 32) (arg22 : BitVec 32) : Fin 3 → Nat :=
  let c6_i32_156 : BitVec 32 := 6#32
  let v283 : BitVec 32 := Scalar.muli arg21 c6_i32_156
  let v284 : BitVec 32 := Scalar.addi v283 arg22
  let v285 : Index := Scalar.indexCast v284
  let c0_157 : Index := 0#32
  let c0_158 : Index := 0#32
  ![v285.toNat, 0, 0]
def k0_cond10 (arg21 : BitVec 32) (arg23 : BitVec 32) (v65 : BitVec 32) : BitVec 1 :=
  let c4_i32 : BitVec 32 := 4#32
  let v34 : BitVec 1 := Scalar.cmpi .slt arg21 c4_i32
  let c1_i32_57 : BitVec 32 := 1#32
  let v62 : BitVec 32 := Scalar.addi arg23 c1_i32_57
  let c4095_i32 : BitVec 32 := 4095#32
  let v66 : BitVec 32 := Scalar.addi v65 c4095_i32
  let c0_i32_58 : BitVec 32 := 0#32
  let v68 : BitVec 1 := Scalar.cmpi .sgt v66 c0_i32_58
  let v69 : BitVec 32 := Scalar.extui v68
  let c0_i32_59 : BitVec 32 := 0#32
  let v70 : BitVec 1 := Scalar.cmpi .slt v66 c0_i32_59
  let v71 : BitVec 32 := Scalar.extui v70
  let v72 : BitVec 32 := Scalar.subi v69 v71
  let c4096_i32 : BitVec 32 := 4096#32
  let c0_i32_60 : BitVec 32 := 0#32
  let v73 : BitVec 1 := Scalar.cmpi .sgt c4096_i32 c0_i32_60
  let v74 : BitVec 32 := Scalar.extui v73
  let c0_i32_61 : BitVec 32 := 0#32
  let v75 : BitVec 1 := Scalar.cmpi .slt c4096_i32 c0_i32_61
  let v76 : BitVec 32 := Scalar.extui v75
  let v77 : BitVec 32 := Scalar.subi v74 v76
  let v78 : BitVec 1 := Scalar.cmpi .ne v72 v77
  let v79 : BitVec 32 := Scalar.remsi v66 c4096_i32
  let c0_i32_62 : BitVec 32 := 0#32
  let v80 : BitVec 1 := Scalar.cmpi .ne v79 c0_i32_62
  let v81 : BitVec 1 := Scalar.andi v78 v80
  let v67 : BitVec 32 := Scalar.divsi v66 c4096_i32
  let c1_i32_63 : BitVec 32 := 1#32
  let v82 : BitVec 32 := Scalar.subi v67 c1_i32_63
  let v83 : BitVec 32 := Scalar.select v81 v82 v67
  let c1_i32_64 : BitVec 32 := 1#32
  let v84 : BitVec 32 := Scalar.maxsi v83 c1_i32_64
  let v85 : BitVec 1 := Scalar.cmpi .eq v62 v84
  let v86 : BitVec 1 := Scalar.andi v34 v85
  let v87 : BitVec 32 := Scalar.extui v86
  let c0_i32_65 : BitVec 32 := 0#32
  let v88 : BitVec 1 := Scalar.cmpi .ne v87 c0_i32_65
  v88

def k0_off105 (arg21 : BitVec 32) (arg22 : BitVec 32) : Fin 3 → Nat :=
  let v289 : Index := Scalar.indexCast arg22
  let v290 : Index := Scalar.indexCast arg21
  let c0_159 : Index := 0#32
  ![v289.toNat, v290.toNat, 0]
def k0_off106 (arg21 : BitVec 32) (arg22 : BitVec 32) : Fin 3 → Nat :=
  let c6_i32_162 : BitVec 32 := 6#32
  let v302 : BitVec 32 := Scalar.muli arg21 c6_i32_162
  let v303 : BitVec 32 := Scalar.addi v302 arg22
  let v304 : Index := Scalar.indexCast v303
  let c0_163 : Index := 0#32
  let c0_164 : Index := 0#32
  ![v304.toNat, 0, 0]

def k0_chk23 (arg21 : BitVec 32) (arg22 : BitVec 32) (arg23 : BitVec 32) (v65 : BitVec 32) : Prop :=
  (∀ (k0_h10 : k0_cond10 arg21 arg23 v65 = 1#1), ∀ a, (k0_off104 arg21 arg22) a + S1x8x160.size a ≤ S24x8x160.size a) ∧
  (∀ (k0_h10 : k0_cond10 arg21 arg23 v65 = 1#1), ∀ a, (k0_off105 arg21 arg22) a + S1x1x160.size a ≤ S6x4x160.size a) ∧
  (∀ (k0_h10 : k0_cond10 arg21 arg23 v65 = 1#1), ∀ a, (k0_off106 arg21 arg22) a + S1x8x128.size a ≤ S24x8x128.size a)
theorem k0_off104_inb : ∀ (arg21 : BitVec 32) (arg22 : BitVec 32) (arg23 : BitVec 32) (v65 : BitVec 32) (k0_hw23 : k0_chk23 arg21 arg22 arg23 v65), ∀ (k0_h10 : k0_cond10 arg21 arg23 v65 = 1#1), ∀ a, (k0_off104 arg21 arg22) a + S1x8x160.size a ≤ S24x8x160.size a := fun arg21 arg22 arg23 v65 k0_hw23 k0_h10 => k0_hw23.1 k0_h10
theorem k0_off105_inb : ∀ (arg21 : BitVec 32) (arg22 : BitVec 32) (arg23 : BitVec 32) (v65 : BitVec 32) (k0_hw23 : k0_chk23 arg21 arg22 arg23 v65), ∀ (k0_h10 : k0_cond10 arg21 arg23 v65 = 1#1), ∀ a, (k0_off105 arg21 arg22) a + S1x1x160.size a ≤ S6x4x160.size a := fun arg21 arg22 arg23 v65 k0_hw23 k0_h10 => k0_hw23.2.1 k0_h10
theorem k0_off106_inb : ∀ (arg21 : BitVec 32) (arg22 : BitVec 32) (arg23 : BitVec 32) (v65 : BitVec 32) (k0_hw23 : k0_chk23 arg21 arg22 arg23 v65), ∀ (k0_h10 : k0_cond10 arg21 arg23 v65 = 1#1), ∀ a, (k0_off106 arg21 arg22) a + S1x8x128.size a ≤ S24x8x128.size a := fun arg21 arg22 arg23 v65 k0_hw23 k0_h10 => k0_hw23.2.2 k0_h10

def k0_off107 (arg24 : BitVec 32) : Fin 1 → Nat :=
  let c3_i32_67 : BitVec 32 := 3#32
  let v90 : BitVec 32 := Scalar.minsi arg24 c3_i32_67
  let v91 : Index := Scalar.indexCast v90
  ![v91.toNat]

def k0_off108 (arg24 : BitVec 32) (arg25 : BitVec 32) : Fin 3 → Nat :=
  let c6_i32_153 : BitVec 32 := 6#32
  let v280 : BitVec 32 := Scalar.muli arg24 c6_i32_153
  let v281 : BitVec 32 := Scalar.addi v280 arg25
  let v282 : Index := Scalar.indexCast v281
  let c0_154 : Index := 0#32
  let c0_155 : Index := 0#32
  ![v282.toNat, 0, 0]
def k0_cond11 (arg21 : BitVec 32) (arg22 : BitVec 32) (arg24 : BitVec 32) (arg25 : BitVec 32) (arg26 : BitVec 32) (v92 : BitVec 32) : BitVec 1 :=
  let c6_i32_45 : BitVec 32 := 6#32
  let v35 : BitVec 32 := Scalar.muli arg21 c6_i32_45
  let v36 : BitVec 32 := Scalar.addi v35 arg22
  let c6_i32_46 : BitVec 32 := 6#32
  let v37 : BitVec 32 := Scalar.muli arg24 c6_i32_46
  let v38 : BitVec 32 := Scalar.addi v37 arg25
  let v39 : BitVec 1 := Scalar.cmpi .sgt v36 v38
  let c1_i32_66 : BitVec 32 := 1#32
  let v89 : BitVec 32 := Scalar.addi arg26 c1_i32_66
  let c4095_i32_68 : BitVec 32 := 4095#32
  let v93 : BitVec 32 := Scalar.addi v92 c4095_i32_68
  let c0_i32_70 : BitVec 32 := 0#32
  let v95 : BitVec 1 := Scalar.cmpi .sgt v93 c0_i32_70
  let v96 : BitVec 32 := Scalar.extui v95
  let c0_i32_71 : BitVec 32 := 0#32
  let v97 : BitVec 1 := Scalar.cmpi .slt v93 c0_i32_71
  let v98 : BitVec 32 := Scalar.extui v97
  let v99 : BitVec 32 := Scalar.subi v96 v98
  let c4096_i32_69 : BitVec 32 := 4096#32
  let c0_i32_72 : BitVec 32 := 0#32
  let v100 : BitVec 1 := Scalar.cmpi .sgt c4096_i32_69 c0_i32_72
  let v101 : BitVec 32 := Scalar.extui v100
  let c0_i32_73 : BitVec 32 := 0#32
  let v102 : BitVec 1 := Scalar.cmpi .slt c4096_i32_69 c0_i32_73
  let v103 : BitVec 32 := Scalar.extui v102
  let v104 : BitVec 32 := Scalar.subi v101 v103
  let v105 : BitVec 1 := Scalar.cmpi .ne v99 v104
  let v106 : BitVec 32 := Scalar.remsi v93 c4096_i32_69
  let c0_i32_74 : BitVec 32 := 0#32
  let v107 : BitVec 1 := Scalar.cmpi .ne v106 c0_i32_74
  let v108 : BitVec 1 := Scalar.andi v105 v107
  let v94 : BitVec 32 := Scalar.divsi v93 c4096_i32_69
  let c1_i32_75 : BitVec 32 := 1#32
  let v109 : BitVec 32 := Scalar.subi v94 c1_i32_75
  let v110 : BitVec 32 := Scalar.select v108 v109 v94
  let c1_i32_76 : BitVec 32 := 1#32
  let v111 : BitVec 32 := Scalar.maxsi v110 c1_i32_76
  let v112 : BitVec 1 := Scalar.cmpi .eq v89 v111
  let v113 : BitVec 1 := Scalar.andi v39 v112
  let v114 : BitVec 32 := Scalar.extui v113
  let c0_i32_77 : BitVec 32 := 0#32
  let v115 : BitVec 1 := Scalar.cmpi .ne v114 c0_i32_77
  v115

def k0_off109 (arg24 : BitVec 32) (arg25 : BitVec 32) : Fin 3 → Nat :=
  let c6_i32_156 : BitVec 32 := 6#32
  let v286 : BitVec 32 := Scalar.muli arg24 c6_i32_156
  let v287 : BitVec 32 := Scalar.addi v286 arg25
  let v288 : Index := Scalar.indexCast v287
  let c0_157 : Index := 0#32
  let c0_158 : Index := 0#32
  ![v288.toNat, 0, 0]
def k0_off110 (arg24 : BitVec 32) (arg25 : BitVec 32) : Fin 3 → Nat :=
  let v292 : Index := Scalar.indexCast arg25
  let v293 : Index := Scalar.indexCast arg24
  let c0_159 : Index := 0#32
  ![v292.toNat, v293.toNat, 0]

def k0_chk25 (arg21 : BitVec 32) (arg22 : BitVec 32) (arg24 : BitVec 32) (arg25 : BitVec 32) (arg26 : BitVec 32) (v92 : BitVec 32) : Prop :=
  (∀ (k0_h11 : k0_cond11 arg21 arg22 arg24 arg25 arg26 v92 = 1#1), ∀ a, (k0_off108 arg24 arg25) a + S1x8x128.size a ≤ S24x8x128.size a) ∧
  (∀ (k0_h11 : k0_cond11 arg21 arg22 arg24 arg25 arg26 v92 = 1#1), ∀ a, (k0_off109 arg24 arg25) a + S1x8x160.size a ≤ S24x8x160.size a) ∧
  (∀ (k0_h11 : k0_cond11 arg21 arg22 arg24 arg25 arg26 v92 = 1#1), ∀ a, (k0_off110 arg24 arg25) a + S1x1x160.size a ≤ S6x4x160.size a) ∧
  (∀ (k0_h11 : k0_cond11 arg21 arg22 arg24 arg25 arg26 v92 = 1#1), ∀ (hinb : ∀ a, (k0_off109 arg24 arg25) a + S1x8x160.size a ≤ S24x8x160.size a), (Rect.unit (s := S24x8x160) (k0_off109 arg24 arg25) S1x8x160.size hinb).PackedRows (EltTy.packing .bf16))
theorem k0_off108_inb : ∀ (arg21 : BitVec 32) (arg22 : BitVec 32) (arg24 : BitVec 32) (arg25 : BitVec 32) (arg26 : BitVec 32) (v92 : BitVec 32) (k0_hw25 : k0_chk25 arg21 arg22 arg24 arg25 arg26 v92), ∀ (k0_h11 : k0_cond11 arg21 arg22 arg24 arg25 arg26 v92 = 1#1), ∀ a, (k0_off108 arg24 arg25) a + S1x8x128.size a ≤ S24x8x128.size a := fun arg21 arg22 arg24 arg25 arg26 v92 k0_hw25 k0_h11 => k0_hw25.1 k0_h11
theorem k0_off109_inb : ∀ (arg21 : BitVec 32) (arg22 : BitVec 32) (arg24 : BitVec 32) (arg25 : BitVec 32) (arg26 : BitVec 32) (v92 : BitVec 32) (k0_hw25 : k0_chk25 arg21 arg22 arg24 arg25 arg26 v92), ∀ (k0_h11 : k0_cond11 arg21 arg22 arg24 arg25 arg26 v92 = 1#1), ∀ a, (k0_off109 arg24 arg25) a + S1x8x160.size a ≤ S24x8x160.size a := fun arg21 arg22 arg24 arg25 arg26 v92 k0_hw25 k0_h11 => k0_hw25.2.1 k0_h11
theorem k0_off110_inb : ∀ (arg21 : BitVec 32) (arg22 : BitVec 32) (arg24 : BitVec 32) (arg25 : BitVec 32) (arg26 : BitVec 32) (v92 : BitVec 32) (k0_hw25 : k0_chk25 arg21 arg22 arg24 arg25 arg26 v92), ∀ (k0_h11 : k0_cond11 arg21 arg22 arg24 arg25 arg26 v92 = 1#1), ∀ a, (k0_off110 arg24 arg25) a + S1x1x160.size a ≤ S6x4x160.size a := fun arg21 arg22 arg24 arg25 arg26 v92 k0_hw25 k0_h11 => k0_hw25.2.2.1 k0_h11
theorem k0_off109_packedbf16 : ∀ (arg21 : BitVec 32) (arg22 : BitVec 32) (arg24 : BitVec 32) (arg25 : BitVec 32) (arg26 : BitVec 32) (v92 : BitVec 32) (k0_hw25 : k0_chk25 arg21 arg22 arg24 arg25 arg26 v92), ∀ (k0_h11 : k0_cond11 arg21 arg22 arg24 arg25 arg26 v92 = 1#1), (Rect.unit (s := S24x8x160) (k0_off109 arg24 arg25) S1x8x160.size (k0_off109_inb arg21 arg22 arg24 arg25 arg26 v92 k0_hw25 k0_h11)).PackedRows (EltTy.packing .bf16) := fun arg21 arg22 arg24 arg25 arg26 v92 k0_hw25 k0_h11 => k0_hw25.2.2.2 k0_h11 (k0_off109_inb arg21 arg22 arg24 arg25 arg26 v92 k0_hw25 k0_h11)

def k0_off111 (arg21 : BitVec 32) : Fin 1 → Nat :=
  let c3_i32_80 : BitVec 32 := 3#32
  let v119 : BitVec 32 := Scalar.minsi arg21 c3_i32_80
  let v120 : Index := Scalar.indexCast v119
  ![v120.toNat]

def k0_chk7 (arg21 : BitVec 32) : Prop :=
  (∀ (k0_h3 : k0_cond3 arg21 = 1#1), ∀ a, (k0_off11 arg21) a + S1.size a ≤ S4.size a) ∧
  (∀ a, (k0_off103 arg21) a + S1.size a ≤ S4.size a) ∧
  (∀ a, (k0_off111 arg21) a + S1.size a ≤ S4.size a)
theorem k0_off11_inb : ∀ (arg21 : BitVec 32) (k0_hw7 : k0_chk7 arg21), ∀ (k0_h3 : k0_cond3 arg21 = 1#1), ∀ a, (k0_off11 arg21) a + S1.size a ≤ S4.size a := fun arg21 k0_hw7 k0_h3 => k0_hw7.1 k0_h3
theorem k0_off103_inb : ∀ (arg21 : BitVec 32) (k0_hw7 : k0_chk7 arg21), ∀ a, (k0_off103 arg21) a + S1.size a ≤ S4.size a := fun arg21 k0_hw7 => k0_hw7.2.1
theorem k0_off111_inb : ∀ (arg21 : BitVec 32) (k0_hw7 : k0_chk7 arg21), ∀ a, (k0_off111 arg21) a + S1.size a ≤ S4.size a := fun arg21 k0_hw7 => k0_hw7.2.2

def k0_off112 (arg24 : BitVec 32) : Fin 1 → Nat :=
  let c3_i32_95 : BitVec 32 := 3#32
  let v155 : BitVec 32 := Scalar.minsi arg24 c3_i32_95
  let v156 : Index := Scalar.indexCast v155
  ![v156.toNat]

def k0_chk24 (arg24 : BitVec 32) : Prop :=
  (∀ a, (k0_off107 arg24) a + S1.size a ≤ S4.size a) ∧
  (∀ a, (k0_off112 arg24) a + S1.size a ≤ S4.size a)
theorem k0_off107_inb : ∀ (arg24 : BitVec 32) (k0_hw24 : k0_chk24 arg24), ∀ a, (k0_off107 arg24) a + S1.size a ≤ S4.size a := fun arg24 k0_hw24 => k0_hw24.1
theorem k0_off112_inb : ∀ (arg24 : BitVec 32) (k0_hw24 : k0_chk24 arg24), ∀ a, (k0_off112 arg24) a + S1.size a ≤ S4.size a := fun arg24 k0_hw24 => k0_hw24.2

def k0_off113 (arg27 : BitVec 32) : Fin 1 → Nat :=
  let c3_i32_110 : BitVec 32 := 3#32
  let v191 : BitVec 32 := Scalar.minsi arg27 c3_i32_110
  let v192 : Index := Scalar.indexCast v191
  ![v192.toNat]

def k0_chk17 (arg21 : BitVec 32) (arg27 : BitVec 32) : Prop :=
  (∀ (k0_h8 : k0_cond8 arg21 arg27 = 1#1), ∀ a, (k0_off95 arg27) a + S1.size a ≤ S4.size a) ∧
  (∀ a, (k0_off113 arg27) a + S1.size a ≤ S4.size a)
theorem k0_off95_inb : ∀ (arg21 : BitVec 32) (arg27 : BitVec 32) (k0_hw17 : k0_chk17 arg21 arg27), ∀ (k0_h8 : k0_cond8 arg21 arg27 = 1#1), ∀ a, (k0_off95 arg27) a + S1.size a ≤ S4.size a := fun arg21 arg27 k0_hw17 k0_h8 => k0_hw17.1 k0_h8
theorem k0_off113_inb : ∀ (arg21 : BitVec 32) (arg27 : BitVec 32) (k0_hw17 : k0_chk17 arg21 arg27), ∀ a, (k0_off113 arg27) a + S1.size a ≤ S4.size a := fun arg21 arg27 k0_hw17 => k0_hw17.2

def k0_off114 (arg30 : BitVec 32) : Fin 1 → Nat :=
  let c3_i32_125 : BitVec 32 := 3#32
  let v227 : BitVec 32 := Scalar.minsi arg30 c3_i32_125
  let v228 : Index := Scalar.indexCast v227
  ![v228.toNat]

def k0_chk20 (arg21 : BitVec 32) (arg22 : BitVec 32) (arg24 : BitVec 32) (arg25 : BitVec 32) (arg30 : BitVec 32) : Prop :=
  (∀ (k0_h9 : k0_cond9 arg21 arg22 arg24 arg25 arg30 = 1#1), ∀ a, (k0_off99 arg30) a + S1.size a ≤ S4.size a) ∧
  (∀ a, (k0_off114 arg30) a + S1.size a ≤ S4.size a)
theorem k0_off99_inb : ∀ (arg21 : BitVec 32) (arg22 : BitVec 32) (arg24 : BitVec 32) (arg25 : BitVec 32) (arg30 : BitVec 32) (k0_hw20 : k0_chk20 arg21 arg22 arg24 arg25 arg30), ∀ (k0_h9 : k0_cond9 arg21 arg22 arg24 arg25 arg30 = 1#1), ∀ a, (k0_off99 arg30) a + S1.size a ≤ S4.size a := fun arg21 arg22 arg24 arg25 arg30 k0_hw20 k0_h9 => k0_hw20.1 k0_h9
theorem k0_off114_inb : ∀ (arg21 : BitVec 32) (arg22 : BitVec 32) (arg24 : BitVec 32) (arg25 : BitVec 32) (arg30 : BitVec 32) (k0_hw20 : k0_chk20 arg21 arg22 arg24 arg25 arg30), ∀ a, (k0_off114 arg30) a + S1.size a ≤ S4.size a := fun arg21 arg22 arg24 arg25 arg30 k0_hw20 => k0_hw20.2

abbrev stage0_0 : Fin 1 → Memref sig .tc .smem S4 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S24x8x160 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S6x4x160 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S6x4x160 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S6x4x160 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S24x8x160 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S24x8x160 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S6x4x160 .fp8e4m3 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== ReferenceIdeal.lean ====
abbrev S4x1x7680 : Shape := ⟨3, ![4, 1, 7680]⟩
abbrev S4x1x6x160 : Shape := ⟨4, ![4, 1, 6, 160]⟩
abbrev S4x32768x6x160 : Shape := ⟨4, ![4, 32768, 6, 160]⟩
abbrev S4x6x160 : Shape := ⟨3, ![4, 6, 160]⟩
abbrev S4 : Shape := ⟨1, ![4]⟩
abbrev S24x8x160 : Shape := ⟨3, ![24, 8, 160]⟩
abbrev S4x6x32768x160 : Shape := ⟨4, ![4, 6, 32768, 160]⟩
abbrev S24x32768x160 : Shape := ⟨3, ![24, 32768, 160]⟩
abbrev S4x1 : Shape := ⟨2, ![4, 1]⟩
abbrev S4x6 : Shape := ⟨2, ![4, 6]⟩
abbrev S24x1x1 : Shape := ⟨3, ![24, 1, 1]⟩
abbrev S24x1x160 : Shape := ⟨3, ![24, 1, 160]⟩
abbrev S6x4x160 : Shape := ⟨3, ![6, 4, 160]⟩
abbrev S24x8x32768 : Shape := ⟨3, ![24, 8, 32768]⟩
abbrev S24x8 : Shape := ⟨2, ![24, 8]⟩
abbrev S24x8x1 : Shape := ⟨3, ![24, 8, 1]⟩

abbrev nBuf : Space → Nat
  | .hbm => 24
  | .vmem => 12
  | .smem => 0
  | _ => 0

abbrev bufTy : (tb : Table) → Fin (tcTables nBuf tb) → BufTy
  | .hbm, ⟨0, _⟩ => ⟨S4x1x7680, .bf16⟩
  | .hbm, ⟨1, _⟩ => ⟨S4x1x6x160, .bf16⟩
  | .hbm, ⟨2, _⟩ => ⟨S4x1x6x160, .bf16⟩
  | .hbm, ⟨3, _⟩ => ⟨S4x32768x6x160, .bf16⟩
  | .hbm, ⟨4, _⟩ => ⟨S4x32768x6x160, .fp8e4m3⟩
  | .hbm, ⟨5, _⟩ => ⟨S4x6x160, .f32⟩
  | .hbm, ⟨6, _⟩ => ⟨S4, .i32⟩
  | .hbm, ⟨7, _⟩ => ⟨S24x8x160, .bf16⟩
  | .hbm, ⟨8, _⟩ => ⟨S4x6x32768x160, .bf16⟩
  | .hbm, ⟨9, _⟩ => ⟨S24x32768x160, .bf16⟩
  | .hbm, ⟨10, _⟩ => ⟨S4x6x32768x160, .fp8e4m3⟩
  | .hbm, ⟨11, _⟩ => ⟨S24x32768x160, .fp8e4m3⟩
  | .hbm, ⟨12, _⟩ => ⟨S4x1, .i32⟩
  | .hbm, ⟨13, _⟩ => ⟨S4x6, .i32⟩
  | .hbm, ⟨14, _⟩ => ⟨S24x1x1, .i32⟩
  | .hbm, ⟨15, _⟩ => ⟨S24x1x160, .bf16⟩
  | .hbm, ⟨16, _⟩ => ⟨S24x1x160, .bf16⟩
  | .hbm, ⟨17, _⟩ => ⟨S24x1x160, .f32⟩
  | .hbm, ⟨18, _⟩ => ⟨S4x6x160, .bf16⟩
  | .hbm, ⟨19, _⟩ => ⟨S6x4x160, .bf16⟩
  | .hbm, ⟨20, _⟩ => ⟨S6x4x160, .f32⟩
  | .hbm, ⟨21, _⟩ => ⟨S24x8x160, .bf16⟩
  | .hbm, ⟨22, _⟩ => ⟨S24x8x160, .f32⟩
  | .hbm, ⟨23, _⟩ => ⟨S6x4x160, .fp8e4m3⟩
  | .local _ .vmem, ⟨0, _⟩ => ⟨S24x8x160, .bf16⟩
  | .local _ .vmem, ⟨1, _⟩ => ⟨S24x32768x160, .bf16⟩
  | .local _ .vmem, ⟨2, _⟩ => ⟨S24x32768x160, .fp8e4m3⟩
  | .local _ .vmem, ⟨3, _⟩ => ⟨S24x1x1, .i32⟩
  | .local _ .vmem, ⟨4, _⟩ => ⟨S24x1x160, .bf16⟩
  | .local _ .vmem, ⟨5, _⟩ => ⟨S24x1x160, .bf16⟩
  | .local _ .vmem, ⟨6, _⟩ => ⟨S24x1x160, .f32⟩
  | .local _ .vmem, ⟨7, _⟩ => ⟨S6x4x160, .bf16⟩
  | .local _ .vmem, ⟨8, _⟩ => ⟨S6x4x160, .f32⟩
  | .local _ .vmem, ⟨9, _⟩ => ⟨S24x8x160, .bf16⟩
  | .local _ .vmem, ⟨10, _⟩ => ⟨S24x8x160, .f32⟩
  | .local _ .vmem, ⟨11, _⟩ => ⟨S6x4x160, .fp8e4m3⟩
  | _, _ => ⟨S4x1x7680, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14_0 : Ref sig .tc := ⟨.hbm, 21, rfl⟩
abbrev main_v14_1 : Ref sig .tc := ⟨.hbm, 22, rfl⟩
abbrev main_v14_2 : Ref sig .tc := ⟨.hbm, 23, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11

abbrev nD : Nat := 1
abbrev τ : Topo := Topo.v7x

variable {F : FTy → Type} [FloatOps F]

abbrev grid0 : Pipeline.Grid := .none

abbrev stage0_0 : Fin 1 → Memref sig .tc .vmem S24x8x160 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S24x32768x160 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S24x32768x160 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S24x1x1 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S24x1x160 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S24x1x160 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S24x1x160 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S6x4x160 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S6x4x160 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S24x8x160 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S24x8x160 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S6x4x160 .fp8e4m3 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
-- ==== Proof.Words.lean ====
module

public import Idealize.ShloMosaic.Lib.WordCmp
public import Idealize.ShloMosaic.Lib.Affine

@[expose] public section

/-!
The kernel's index words as natural numbers: the floor division, the number of chunks of a
sequence, the number of columns of a chunk, and one step of a cursor.
-/

namespace Cert.Words

open Idealize.ShloMosaic

/-- The word of a natural number. -/
abbrev W (n : ℕ) : BitVec 32 := BitVec.ofNat 32 n

/-- The chunks of 4096 positions of a sequence of `L` positions, at least one. -/
def nchOf (L : ℕ) : ℕ := max ((L + 4095) / 4096) 1

/-- The columns copied for chunk `c` of a sequence of `L` positions: whole tiles of 128, at least
    one, at most 32. -/
def szOf (c L : ℕ) : ℕ := 128 * min 32 (max 1 ((L + 127 - c * 4096) / 128))

theorem nchOf_pos (L : ℕ) : 1 ≤ nchOf L := by unfold nchOf; omega
theorem nchOf_le {L : ℕ} (h : L ≤ 32768) : nchOf L ≤ 8 := by unfold nchOf; omega
theorem szOf_pos (c L : ℕ) : 128 ≤ szOf c L := by unfold szOf; omega
theorem szOf_le (c L : ℕ) : szOf c L ≤ 4096 := by unfold szOf; omega
/-- A chunk's columns lie inside the 32768 columns of the cache. -/
theorem szOf_fits {c L : ℕ} (hL : L ≤ 32768) (hc : c < nchOf L) : c * 4096 + szOf c L ≤ 32768 := by
  unfold szOf; unfold nchOf at hc; omega
/-- The columns copied cover the positions of the chunk that are inside the sequence. -/
theorem szOf_cover {c L x : ℕ} (hx : x < 4096) (h : c * 4096 + x < L) : x < szOf c L := by
  unfold szOf; omega

/-- The floor division as the kernel writes it. -/
def fdiv (x d : BitVec 32) : BitVec 32 :=
  Scalar.select
    (Scalar.andi
      (Scalar.cmpi .ne (Scalar.subi (Scalar.extui (Scalar.cmpi .sgt x 0#32)) (Scalar.extui (Scalar.cmpi .slt x 0#32)))
        (Scalar.subi (Scalar.extui (Scalar.cmpi .sgt d 0#32)) (Scalar.extui (Scalar.cmpi .slt d 0#32))))
      (Scalar.cmpi .ne (Scalar.remsi x d) 0#32))
    (Scalar.subi (Scalar.divsi x d) 1#32) (Scalar.divsi x d)

/-- The chunk count as the kernel computes it from a length word. -/
def nchw (v : BitVec 32) : BitVec 32 := Scalar.maxsi (fdiv (Scalar.addi v 4095#32) 4096#32) 1#32

/-- The columns of a chunk as the kernel computes them. -/
def szw (c v : BitVec 32) : BitVec 32 :=
  Scalar.muli (Scalar.minsi 32#32 (Scalar.maxsi 1#32
    (fdiv (Scalar.addi (Scalar.subi v (Scalar.muli c 4096#32)) 127#32) 128#32))) 128#32

theorem addi_W (a b : ℕ) : Scalar.addi (W a) (W b) = W (a + b) := (BitVec.ofNat_add a b).symm
theorem muli_W (a b : ℕ) : Scalar.muli (W a) (W b) = W (a * b) := (BitVec.ofNat_mul a b).symm
theorem subi_W {a b : ℕ} (h : b ≤ a) (ha : a < 2 ^ 32) : Scalar.subi (W a) (W b) = W (a - b) := by
  apply BitVec.eq_of_toNat_eq
  show (BitVec.ofNat 32 a - BitVec.ofNat 32 b).toNat = _
  rw [BitVec.toNat_sub, BitVec.toNat_ofNat, BitVec.toNat_ofNat, BitVec.toNat_ofNat]; omega
theorem toNat_W {a : ℕ} (h : a < 2 ^ 32) : (W a).toNat = a := WordCmp.toNat_ofNat_of_lt h

theorem slt_W {a b : ℕ} (ha : a < 2 ^ 31) (hb : b < 2 ^ 31) :
    Scalar.cmpi .slt (W a) (W b) = BitVec.ofBool (decide (a < b)) := WordCmp.cmpi_slt_ofNat ha hb
theorem sgt_W {a b : ℕ} (ha : a < 2 ^ 31) (hb : b < 2 ^ 31) :
    Scalar.cmpi .sgt (W a) (W b) = BitVec.ofBool (decide (b < a)) := WordCmp.cmpi_sgt_ofNat ha hb
theorem sge_W {a b : ℕ} (ha : a < 2 ^ 31) (hb : b < 2 ^ 31) :
    Scalar.cmpi .sge (W a) (W b) = BitVec.ofBool (decide (b ≤ a)) := WordCmp.cmpi_sge_ofNat ha hb
theorem eq_W {a b : ℕ} (ha : a < 2 ^ 31) (hb : b < 2 ^ 31) :
    Scalar.cmpi .eq (W a) (W b) = BitVec.ofBool (decide (a = b)) := WordCmp.cmpi_eq_ofNat (by omega) (by omega)
theorem ne_W {a b : ℕ} (ha : a < 2 ^ 31) (hb : b < 2 ^ 31) :
    Scalar.cmpi .ne (W a) (W b) = BitVec.ofBool (decide (a ≠ b)) := WordCmp.cmpi_ne_ofNat (by omega) (by omega)
theorem maxsi_W {a b : ℕ} (ha : a < 2 ^ 31) (hb : b < 2 ^ 31) : Scalar.maxsi (W a) (W b) = W (max a b) := by
  have h : Scalar.maxsi (W a) (W b) = if (W b).slt (W a) then W a else W b := rfl
  rw [h, BitVec.slt_eq_decide, WordCmp.toInt_ofNat_of_lt (a := a) (w := 32) ha, WordCmp.toInt_ofNat_of_lt (a := b) (w := 32) hb]
  by_cases hab : b < a
  · rw [if_pos (by simpa using hab), max_eq_left (by omega)]
  · rw [if_neg (by simpa using hab), max_eq_right (by omega)]
theorem minsi_W {a b : ℕ} (ha : a < 2 ^ 31) (hb : b < 2 ^ 31) : Scalar.minsi (W a) (W b) = W (min a b) := by
  have h : Scalar.minsi (W a) (W b) = if (W a).slt (W b) then W a else W b := rfl
  rw [h, BitVec.slt_eq_decide, WordCmp.toInt_ofNat_of_lt (a := a) (w := 32) ha, WordCmp.toInt_ofNat_of_lt (a := b) (w := 32) hb]
  by_cases hab : a < b
  · rw [if_pos (by simpa using hab), min_eq_left (by omega)]
  · rw [if_neg (by simpa using hab), min_eq_right (by omega)]
theorem divsi_W {a b : ℕ} (ha : a < 2 ^ 31) (hb : b < 2 ^ 31) (h0 : 0 < b) : Scalar.divsi (W a) (W b) = W (a / b) := by
  have h := Affine.divsi (Affine.ofNat a ⟨rfl, ha⟩) (Affine.ofNat b ⟨rfl, hb⟩) (e := ((a / b : ℕ) : ℤ))
    ⟨by push_cast; rfl, by omega, by omega⟩
  unfold Affine.IsInt at h
  apply BitVec.eq_of_toInt_eq
  rw [h, WordCmp.toInt_ofNat_of_lt (Nat.lt_of_le_of_lt (Nat.div_le_self _ _) ha)]
theorem extui_b (p : Bool) : Scalar.extui (BitVec.ofBool p) = W (if p then 1 else 0) := by cases p <;> rfl
theorem andi_b (p q : Bool) : Scalar.andi (BitVec.ofBool p) (BitVec.ofBool q) = BitVec.ofBool (p && q) := by
  cases p <;> cases q <;> rfl
theorem xori_b (p : Bool) : Scalar.xori (BitVec.ofBool p) 1#1 = BitVec.ofBool (!p) := by
  cases p <;> rfl
theorem guard_b (p : Bool) : Scalar.cmpi .ne (Scalar.extui (BitVec.ofBool p)) 0#32 = BitVec.ofBool p := by
  cases p <;> rfl
theorem select_b {α : Type} (p : Bool) (x y : α) : Scalar.select (BitVec.ofBool p) x y = if p then x else y := by
  cases p <;> rfl
theorem ofBool_one (p : Bool) : BitVec.ofBool p = 1#1 ↔ p = true := by cases p <;> decide

/-- For positive words the floor division is the quotient. -/
theorem fdiv_W {a b : ℕ} (ha : a < 2 ^ 31) (hb : b < 2 ^ 31) (h0 : 0 < b) (ha0 : 0 < a) : fdiv (W a) (W b) = W (a / b) := by
  unfold fdiv
  have z : (0#32 : BitVec 32) = W 0 := rfl
  rw [z, sgt_W ha (by omega), slt_W ha (by omega), sgt_W hb (by omega), slt_W hb (by omega)]
  rw [decide_eq_true ha0, decide_eq_true h0, decide_eq_false (show ¬ a < 0 by omega), decide_eq_false (show ¬ b < 0 by omega)]
  have hs : Scalar.subi (Scalar.extui (BitVec.ofBool true)) (Scalar.extui (BitVec.ofBool false)) = 1#32 := by decide
  have hne : Scalar.cmpi .ne (1#32) (1#32) = 0#1 := by decide
  have hand : ∀ x : BitVec 1, Scalar.andi 0#1 x = 0#1 := by decide
  rw [hs, hne, hand, divsi_W ha hb h0]
  rfl

theorem nchw_W {L : ℕ} (hL : L ≤ 32768) : nchw (W L) = W (nchOf L) := by
  unfold nchw nchOf
  rw [show (4095#32 : BitVec 32) = W 4095 from rfl, show (4096#32 : BitVec 32) = W 4096 from rfl, addi_W,
    fdiv_W (by omega) (by omega) (by omega) (by omega), show (1#32 : BitVec 32) = W 1 from rfl, maxsi_W (by omega) (by omega)]

theorem szw_W {c L : ℕ} (hL : L ≤ 32768) (hc : c < nchOf L) : szw (W c) (W L) = W (szOf c L) := by
  have hcL : c * 4096 ≤ L := by unfold nchOf at hc; omega
  unfold szw szOf
  rw [show (4096#32 : BitVec 32) = W 4096 from rfl, show (127#32 : BitVec 32) = W 127 from rfl,
    show (128#32 : BitVec 32) = W 128 from rfl, show (1#32 : BitVec 32) = W 1 from rfl, show (32#32 : BitVec 32) = W 32 from rfl,
    muli_W, subi_W hcL (by omega), addi_W, fdiv_W (by omega) (by omega) (by omega) (by omega),
    maxsi_W (by omega) (by omega), minsi_W (by omega) (by omega), muli_W]
  congr 1
  rw [show L - c * 4096 + 127 = L + 127 - c * 4096 by omega]; omega

/-! ### Offsets the kernel computes from cursor words -/

theorem pairN {b g : ℕ} (hb : b ≤ 4) (hg : g < 6) : (Scalar.addi (Scalar.muli (W b) 6#32) (W g)).toNat = b * 6 + g := by
  rw [show (6#32 : BitVec 32) = W 6 from rfl, muli_W, addi_W, toNat_W (by omega)]
theorem pairLt {b g : ℕ} (hb : b < 4) (hg : g < 6) : (Scalar.addi (Scalar.muli (W b) 6#32) (W g)).toNat < 24 := by
  rw [pairN (by omega) hg]; omega
theorem lenN {b : ℕ} (hb : b ≤ 4) : (Scalar.minsi (W b) 3#32).toNat = min b 3 := by
  rw [show (3#32 : BitVec 32) = W 3 from rfl, minsi_W (by omega) (by omega), toNat_W (by omega)]
theorem lenLt {b : ℕ} (hb : b ≤ 4) : (Scalar.minsi (W b) 3#32).toNat < 4 := by rw [lenN hb]; omega
theorem colN {c : ℕ} (hc : c < 8) : (Scalar.muli (W c) 4096#32).toNat = c * 4096 := by
  rw [show (4096#32 : BitVec 32) = W 4096 from rfl, muli_W, toNat_W (by omega)]
theorem wLt {x m : ℕ} (h : x < m) (hm : m < 2 ^ 32) : (W x).toNat < m := by rw [toNat_W (by omega)]; exact h

theorem inb1 {x n : ℕ} (h : x < n) : ∀ a : Fin 1, (![x] : Fin 1 → ℕ) a + (![1] : Fin 1 → ℕ) a ≤ (![n] : Fin 1 → ℕ) a := by
  intro a; fin_cases a; simp; omega
theorem inb3 {x n p q : ℕ} (h : x < n) :
    ∀ a : Fin 3, (![x, 0, 0] : Fin 3 → ℕ) a + (![1, p, q] : Fin 3 → ℕ) a ≤ (![n, p, q] : Fin 3 → ℕ) a := by
  intro a; fin_cases a <;> simp; omega
theorem inb3t {x n p y q m : ℕ} (h : x < n) (hy : y + q ≤ m) :
    ∀ a : Fin 3, (![x, 0, y] : Fin 3 → ℕ) a + (![1, p, q] : Fin 3 → ℕ) a ≤ (![n, p, m] : Fin 3 → ℕ) a := by
  intro a; fin_cases a <;> simp <;> omega
theorem inb3r {x n y m q : ℕ} (h : x < n) (hy : y < m) :
    ∀ a : Fin 3, (![x, y, 0] : Fin 3 → ℕ) a + (![1, 1, q] : Fin 3 → ℕ) a ≤ (![n, m, q] : Fin 3 → ℕ) a := by
  intro a; fin_cases a <;> simp <;> omega
theorem inbD {x n p y q m : ℕ} (h : x < n) (hy : y + q ≤ m) :
    ∀ a : Fin 3, (![1, p, q] : Fin 3 → ℕ) a = 0 ∨ (![x, 0, y] : Fin 3 → ℕ) a + (![1, p, q] : Fin 3 → ℕ) a ≤ (![n, p, m] : Fin 3 → ℕ) a :=
  fun a => Or.inr (inb3t h hy a)
theorem sq3 {p q : ℕ} (hp : p ≠ 1) (hq : q ≠ 1) : (⟨3, ![1, p, q]⟩ : Shape).Squeezes ⟨2, ![p, q]⟩ := by
  show Shape.dropsOnes (List.ofFn (![1, p, q] : Fin 3 → ℕ)).reverse (List.ofFn (![p, q] : Fin 2 → ℕ)).reverse = true
  simp [List.ofFn_succ, Shape.dropsOnes]

/-- One step of a cursor as the kernel computes it, given the sequence's length word. -/
def advW (act : BitVec 1) (v b g c : BitVec 32) : BitVec 32 × BitVec 32 × BitVec 32 :=
  let w := Scalar.cmpi .sge (Scalar.addi c 1#32) (nchw v)
  let g1 := Scalar.addi g (Scalar.extui w)
  let w2 := Scalar.cmpi .sge g1 6#32
  (Scalar.select act (Scalar.addi b (Scalar.extui w2)) b,
   Scalar.select act (Scalar.select w2 0#32 g1) g,
   Scalar.select act (Scalar.select w 0#32 (Scalar.addi c 1#32)) c)

theorem advW_W {L b g c : ℕ} (p : Bool) (hL : L ≤ 32768) (hb : b ≤ 4) (hg : g < 6) (hc : c < 8) :
    advW (BitVec.ofBool p) (W L) (W b) (W g) (W c) =
      if p then (if nchOf L ≤ c + 1 then (if 6 ≤ g + 1 then (W (b + 1), W 0, W 0) else (W b, W (g + 1), W 0))
        else (W b, W g, W (c + 1))) else (W b, W g, W c) := by
  have h8 := nchOf_le hL
  unfold advW
  cases p
  · simp only [select_b]; rfl
  · simp only [select_b, if_true]
    rw [nchw_W hL, show (1#32 : BitVec 32) = W 1 from rfl, addi_W, sge_W (by omega) (by omega)]
    simp only [select_b, extui_b, decide_eq_true_eq]
    rw [show (6#32 : BitVec 32) = W 6 from rfl, show (0#32 : BitVec 32) = W 0 from rfl]
    by_cases h : nchOf L ≤ c + 1
    · simp only [if_pos h, addi_W]
      rw [sge_W (by omega) (by omega)]
      simp only [select_b, extui_b, decide_eq_true_eq]
      by_cases h2 : 6 ≤ g + 1
      · simp only [if_pos h2, addi_W]
      · simp only [if_neg h2, addi_W]; rfl
    · simp only [if_neg h, addi_W]
      rw [sge_W (by omega) (by omega)]
      have h2 : ¬ 6 ≤ g + 0 := by omega
      simp only [select_b, extui_b, decide_eq_true_eq, if_neg h2, addi_W]; rfl

/-- The next ring slot as the kernel computes it. -/
def slotW (act : BitVec 1) (m s : BitVec 32) : BitVec 32 :=
  Scalar.select act (Scalar.select (Scalar.cmpi .eq (Scalar.addi s 1#32) m) 0#32 (Scalar.addi s 1#32)) s

theorem slotW_W {i m : ℕ} (p : Bool) (hm : m < 2 ^ 30) (h0 : 0 < m) :
    slotW (BitVec.ofBool p) (W m) (W (i % m)) = if p then W ((i + 1) % m) else W (i % m) := by
  have hi := Nat.mod_lt i h0
  unfold slotW
  rw [select_b]
  cases p
  · rfl
  · simp only [if_true]
    rw [show (1#32 : BitVec 32) = W 1 from rfl, addi_W, eq_W (by omega) (by omega), select_b]
    simp only [decide_eq_true_eq]
    rw [Nat.add_mod i 1 m]
    by_cases h : i % m + 1 = m
    · rw [if_pos h]
      rcases Nat.lt_or_ge 1 m with h1 | h1
      · rw [Nat.mod_eq_of_lt h1, h, Nat.mod_self]
      · have : m = 1 := by omega
        subst this; simp [Nat.mod_one]
    · rw [if_neg h]
      rw [Nat.mod_eq_of_lt (show 1 < m by omega), Nat.mod_eq_of_lt (show i % m + 1 < m by omega)]

end Cert.Words
-- ==== Proof.Cursor.lean ====
module

public import proofs.«01_k».proof.Proof.Words

@[expose] public section

/-!
The order in which the kernel walks its work: for each sequence, each head group, each chunk. A
cursor is the place in that walk; `cur n i` is the cursor after `i` steps.
-/

namespace Cert.Words

open Idealize.ShloMosaic

/-- A place in the walk: sequence, head group, chunk. The end is `⟨4, 0, 0⟩`. -/
@[ext] structure Cur where
  b : ℕ
  g : ℕ
  c : ℕ

/-- One step of the walk, `n b` being the chunks of sequence `b`. The end stays. -/
def Cur.next (n : ℕ → ℕ) (x : Cur) : Cur :=
  if x.b < 4 then
    if n x.b ≤ x.c + 1 then (if 6 ≤ x.g + 1 then ⟨x.b + 1, 0, 0⟩ else ⟨x.b, x.g + 1, 0⟩) else ⟨x.b, x.g, x.c + 1⟩
  else x

/-- The cursor after `i` steps. -/
def cur (n : ℕ → ℕ) : ℕ → Cur
  | 0 => ⟨0, 0, 0⟩
  | i + 1 => (cur n i).next n

/-- The pair of sequence and head group. -/
def Cur.pair (x : Cur) : ℕ := x.b * 6 + x.g

/-- A cursor the walk can meet. -/
def Cur.Valid (n : ℕ → ℕ) (x : Cur) : Prop := (x.b < 4 ∧ x.g < 6 ∧ x.c < n x.b) ∨ x = ⟨4, 0, 0⟩

/-- The items of the sequences before `b`. -/
def before (n : ℕ → ℕ) : ℕ → ℕ
  | 0 => 0
  | b + 1 => before n b + 6 * n b

/-- The number of the item under the cursor. -/
def Cur.rk (n : ℕ → ℕ) (x : Cur) : ℕ := before n x.b + (x.g * n x.b + x.c)

/-- The number of items. -/
def total (n : ℕ → ℕ) : ℕ := before n 4

variable {n : ℕ → ℕ}

theorem Cur.valid_next {x : Cur} (hn : ∀ b, 1 ≤ n b) (h : x.Valid n) : (x.next n).Valid n := by
  obtain ⟨b, g, c⟩ := x
  rcases h with ⟨hb, hg, hc⟩ | h
  · simp only at hb hg hc
    unfold Cur.next
    simp only [hb, ↓reduceIte]
    split
    · split
      · by_cases h3 : b + 1 < 4
        · exact Or.inl ⟨h3, by simp, hn _⟩
        · right; congr; omega
      · exact Or.inl ⟨hb, by simp only; omega, hn _⟩
    · exact Or.inl ⟨hb, hg, by simp only; omega⟩
  · rw [h]; right; rfl

theorem cur_valid (hn : ∀ b, 1 ≤ n b) (i : ℕ) : (cur n i).Valid n := by
  induction i with
  | zero => exact Or.inl ⟨by simp [cur], by simp [cur], hn _⟩
  | succ i ih => exact Cur.valid_next hn ih

theorem before_le (n : ℕ → ℕ) {a b : ℕ} (h : a ≤ b) : before n a ≤ before n b := by
  induction h with
  | refl => exact le_rfl
  | step _ ih => exact ih.trans (Nat.le_add_right _ _)

theorem Cur.rk_lt {x : Cur} (h : x.Valid n) (hb : x.b < 4) : x.rk n < total n := by
  rcases h with ⟨_, hg, hc⟩ | h
  · have h1 : before n (x.b + 1) ≤ before n 4 := before_le n hb
    have h2 : x.g * n x.b ≤ 5 * n x.b := Nat.mul_le_mul_right _ (by omega)
    have h3 : before n (x.b + 1) = before n x.b + 6 * n x.b := rfl
    unfold Cur.rk total
    omega
  · rw [h] at hb; simp at hb

theorem Cur.rk_next {x : Cur} (h : x.Valid n) (hb : x.b < 4) : (x.next n).rk n = x.rk n + 1 := by
  rcases h with ⟨_, hg, hc⟩ | h
  · unfold Cur.next
    rw [if_pos hb]
    split
    · split
      · have h3 : before n (x.b + 1) = before n x.b + 6 * n x.b := rfl
        have h4 : x.g = 5 := by omega
        simp only [Cur.rk, h3, h4]; omega
      · simp only [Cur.rk, Nat.succ_mul]; omega
    · simp only [Cur.rk]; omega
  · rw [h] at hb; simp at hb

theorem cur_rk (hn : ∀ b, 1 ≤ n b) (i : ℕ) : (cur n i).rk n = min i (total n) := by
  induction i with
  | zero => simp [cur, Cur.rk, before]
  | succ i ih =>
    have hv := cur_valid hn i
    by_cases hb : (cur n i).b < 4
    · have h1 := Cur.rk_next hv hb
      have h2 := Cur.rk_lt hv hb
      show ((cur n i).next n).rk n = _
      omega
    · have he : (cur n i).next n = cur n i := by unfold Cur.next; rw [if_neg hb]
      show ((cur n i).next n).rk n = _
      rw [he]
      rcases hv with hv | hv
      · exact absurd hv.1 hb
      · rw [hv] at ih ⊢
        have : (Cur.mk 4 0 0).rk n = total n := by simp [Cur.rk, total]
        omega

/-- Items are left exactly while the step count is below the number of items. -/
theorem cur_lt_iff (hn : ∀ b, 1 ≤ n b) (i : ℕ) : (cur n i).b < 4 ↔ i < total n := by
  have hv := cur_valid hn i
  have hr := cur_rk hn i
  constructor
  · intro hb
    have := Cur.rk_lt hv hb
    omega
  · intro hi
    rcases hv with hv | hv
    · exact hv.1
    · have : (Cur.mk 4 0 0).rk n = total n := by simp [Cur.rk, total]
      rw [hv] at hr; omega

theorem cur_end (hn : ∀ b, 1 ≤ n b) {i : ℕ} (h : total n ≤ i) : cur n i = ⟨4, 0, 0⟩ := by
  rcases cur_valid hn i with hv | hv
  · have := (cur_lt_iff hn i).1 hv.1; omega
  · exact hv

theorem cur_in (hn : ∀ b, 1 ≤ n b) {i : ℕ} (h : i < total n) :
    (cur n i).b < 4 ∧ (cur n i).g < 6 ∧ (cur n i).c < n (cur n i).b := by
  rcases cur_valid hn i with hv | hv
  · exact hv
  · have := (cur_lt_iff hn i).2 h; rw [hv] at this; simp at this

theorem cur_bounds (hn : ∀ b, 1 ≤ n b ∧ n b ≤ 8) (i : ℕ) : (cur n i).b ≤ 4 ∧ (cur n i).g < 6 ∧ (cur n i).c < 8 := by
  rcases cur_valid (fun b => (hn b).1) i with hv | hv
  · have := hn (cur n i).b; omega
  · rw [hv]; simp

theorem Cur.pair_next_le {x : Cur} (h : x.Valid n) : x.pair ≤ (x.next n).pair := by
  rcases h with ⟨hb, hg, hc⟩ | h
  · unfold Cur.next
    rw [if_pos hb]
    split
    · split <;> simp only [Cur.pair] <;> omega
    · simp only [Cur.pair]; omega
  · rw [h]; exact le_rfl

theorem cur_pair_mono (hn : ∀ b, 1 ≤ n b) {i j : ℕ} (h : i ≤ j) : (cur n i).pair ≤ (cur n j).pair := by
  induction h with
  | refl => exact le_rfl
  | step _ ih => exact ih.trans (Cur.pair_next_le (cur_valid hn _))

/-- The loop's control state after its trips: `i` steps of the K cursor, `j` of the V cursor. -/
structure Ctl (n : ℕ → ℕ) (i j : ℕ) : Prop where
  le : j ≤ i
  iT : i ≤ total n
  diff : i ≤ j + 8
  start : (cur n i).pair ≤ (cur n j).pair → (cur n j).c = 0

theorem Ctl.zero : Ctl n 0 0 := ⟨le_rfl, Nat.zero_le _, by omega, fun _ => rfl⟩

/-- The K cursor moves. -/
abbrev doK (n : ℕ → ℕ) (i : ℕ) : Prop := (cur n i).b < 4
/-- The V cursor moves. -/
abbrev doV (n : ℕ → ℕ) (i j : ℕ) : Prop := (cur n j).pair < (cur n i).pair

/-- With the V cursor inside the walk it moves as soon as the K cursor is at the end. -/
theorem Ctl.doV_of (hn : ∀ b, 1 ≤ n b) {i j : ℕ} (h : Ctl n i j) (hj : j < total n) (hk : ¬ doK n i) : doV n i j := by
  have hi : total n ≤ i := by by_contra h'; exact hk ((cur_lt_iff hn i).2 (by omega))
  have := cur_in hn hj
  unfold doV
  rw [cur_end hn hi]
  simp only [Cur.pair]; omega

theorem Ctl.lt_of_doV (hn : ∀ b, 1 ≤ n b) {i j : ℕ} (h : Ctl n i j) (hv : doV n i j) : j < i := by
  rcases Nat.lt_or_ge j i with h1 | h1
  · exact h1
  · have : j = i := Nat.le_antisymm h.le h1
    subst this; exact absurd hv (lt_irrefl _)

theorem Ctl.stepK (hn : ∀ b, 1 ≤ n b ∧ n b ≤ 8) {i j : ℕ} (h : Ctl n i j) (hj : j < total n) (hk : doK n i) (hv : ¬ doV n i j) :
    Ctl n (i + 1) j := by
  have hn1 := fun b => (hn b).1
  have hi := (cur_lt_iff hn1 i).1 hk
  have hs := h.start (by unfold doV at hv; omega)
  have ci := cur_in hn1 hi
  have cj := cur_in hn1 hj
  have ri := cur_rk hn1 i
  have rj := cur_rk hn1 j
  have hp := cur_pair_mono hn1 h.le
  have hb : (cur n i).b = (cur n j).b ∧ (cur n i).g = (cur n j).g := by
    unfold doV at hv; simp only [Cur.pair] at hv hp; omega
  have h8 := hn (cur n i).b
  refine ⟨by have := h.le; omega, hi, ?_, fun _ => hs⟩
  simp only [Cur.rk, ← hb.1, ← hb.2, hs] at ri rj
  omega

theorem Ctl.stepKV (hn : ∀ b, 1 ≤ n b ∧ n b ≤ 8) {i j : ℕ} (h : Ctl n i j) (hk : doK n i) (hv : doV n i j) :
    Ctl n (i + 1) (j + 1) := by
  have hn1 := fun b => (hn b).1
  have hi := (cur_lt_iff hn1 i).1 hk
  have hlt := h.lt_of_doV hn1 hv
  refine ⟨by omega, hi, by have := h.diff; omega, fun hp => ?_⟩
  have h1 := cur_pair_mono hn1 (show i ≤ i + 1 by omega)
  have hb : (cur n j).b < 4 := (cur_lt_iff hn1 j).2 (by omega)
  unfold doV at hv
  revert hp
  show _ ≤ ((cur n j).next n).pair → ((cur n j).next n).c = 0
  unfold Cur.next
  rw [if_pos hb]
  split
  · split <;> exact fun _ => rfl
  · intro hp; exfalso; simp only [Cur.pair] at *; omega

theorem Ctl.stepV (hn : ∀ b, 1 ≤ n b ∧ n b ≤ 8) {i j : ℕ} (h : Ctl n i j) (hj : j < total n) (hk : ¬ doK n i) :
    Ctl n i (j + 1) := by
  have hn1 := fun b => (hn b).1
  have hi : total n ≤ i := by by_contra h'; exact hk ((cur_lt_iff hn1 i).2 (by omega))
  have := h.iT
  have := h.diff
  refine ⟨by omega, h.iT, by omega, fun hp => ?_⟩
  rcases cur_valid hn1 (j + 1) with hv | hv
  · rw [cur_end hn1 hi] at hp
    simp only [Cur.pair] at hp; omega
  · rw [hv]

end Cert.Words
-- ==== Proof.K.Words.lean ====
module

public import proofs.«01_k».proof.Proof.Gen.Kernel.Skeleton
public import proofs.«01_k».proof.Proof.Cursor

@[expose] public section

set_option maxRecDepth 16384

/-!
The kernel's conditions, sizes, offsets and checks, read at cursor words.
-/

namespace Cert.Kernel.Hand

open Idealize.ShloMosaic Cert.Kernel.Gen Cert.Kernel Cert.Words

theorem cond1_W {a : ℕ} (ha : a ≤ 4) : k0_cond1 (W a) = BitVec.ofBool (decide (a < 4)) := by
  show Scalar.cmpi .ne (Scalar.extui (Scalar.cmpi .slt (W a) (W 4))) 0#32 = _
  rw [slt_W (by omega) (by omega), guard_b]
theorem cond2_W {a : ℕ} (ha : a ≤ 4) : k0_cond2 (W a) = BitVec.ofBool (decide (a < 4)) := cond1_W ha
theorem cond3_W {a : ℕ} (ha : a ≤ 4) : k0_cond3 (W a) = BitVec.ofBool (decide (a < 4)) := cond1_W ha

/-- The two movement bits of a trip. -/
theorem kbit_W {a : ℕ} (ha : a ≤ 4) : Scalar.cmpi .slt (W a) 4#32 = BitVec.ofBool (decide (a < 4)) := by
  rw [show (4#32 : BitVec 32) = W 4 from rfl, slt_W (by omega) (by omega)]
theorem vbit_W {a g b h : ℕ} (ha : a ≤ 4) (hg : g < 6) (hb : b ≤ 4) (hh : h < 6) :
    Scalar.cmpi .sgt (Scalar.addi (Scalar.muli (W a) 6#32) (W g)) (Scalar.addi (Scalar.muli (W b) 6#32) (W h)) =
      BitVec.ofBool (decide (b * 6 + h < a * 6 + g)) := by
  rw [show (6#32 : BitVec 32) = W 6 from rfl, muli_W, muli_W, addi_W, addi_W, sgt_W (by omega) (by omega)]

theorem cond4_W {a g b h : ℕ} (ha : a ≤ 4) (hg : g < 6) (hb : b ≤ 4) (hh : h < 6) :
    k0_cond4 (W a) (W g) (W b) (W h) = BitVec.ofBool (decide (b * 6 + h < a * 6 + g)) := by
  show Scalar.cmpi .ne (Scalar.extui (Scalar.cmpi .sgt (Scalar.addi (Scalar.muli (W a) 6#32) (W g)) (Scalar.addi (Scalar.muli (W b) 6#32) (W h)))) 0#32 = _
  rw [vbit_W ha hg hb hh, guard_b]
theorem cond5_W {a g b h : ℕ} (ha : a ≤ 4) (hg : g < 6) (hb : b ≤ 4) (hh : h < 6) :
    k0_cond5 (W a) (W g) (W b) (W h) = BitVec.ofBool (decide (a < 4) && decide (b * 6 + h < a * 6 + g)) := by
  show Scalar.cmpi .ne (Scalar.extui (Scalar.andi (Scalar.cmpi .slt (W a) 4#32) (Scalar.cmpi .sgt (Scalar.addi (Scalar.muli (W a) 6#32) (W g)) (Scalar.addi (Scalar.muli (W b) 6#32) (W h))))) 0#32 = _
  rw [kbit_W ha, vbit_W ha hg hb hh, andi_b, guard_b]
theorem cond6_W {a g b h : ℕ} (ha : a ≤ 4) (hg : g < 6) (hb : b ≤ 4) (hh : h < 6) :
    k0_cond6 (W a) (W g) (W b) (W h) = BitVec.ofBool (decide (a < 4) && !decide (b * 6 + h < a * 6 + g)) := by
  show Scalar.cmpi .ne (Scalar.extui (Scalar.andi (Scalar.cmpi .slt (W a) 4#32) (Scalar.xori (Scalar.cmpi .sgt (Scalar.addi (Scalar.muli (W a) 6#32) (W g)) (Scalar.addi (Scalar.muli (W b) 6#32) (W h))) 1#1))) 0#32 = _
  rw [kbit_W ha, vbit_W ha hg hb hh, xori_b, andi_b, guard_b]
theorem cond7_W {a : ℕ} (ha : a ≤ 4) : k0_cond7 (W a) = BitVec.ofBool (!decide (a < 4)) := by
  show Scalar.cmpi .ne (Scalar.extui (Scalar.xori (Scalar.cmpi .slt (W a) 4#32) 1#1)) 0#32 = _
  rw [kbit_W ha, xori_b, guard_b]
theorem cond8_W {a b : ℕ} (ha : a ≤ 4) (hb : b ≤ 4) :
    k0_cond8 (W a) (W b) = BitVec.ofBool (decide (a < 4) && decide (b < 4)) := by
  show Scalar.cmpi .ne (Scalar.extui (Scalar.andi (Scalar.cmpi .slt (W a) 4#32) (Scalar.cmpi .slt (W b) 4#32))) 0#32 = _
  rw [kbit_W ha, kbit_W hb, andi_b, guard_b]
theorem cond9_W {a g b h p : ℕ} (ha : a ≤ 4) (hg : g < 6) (hb : b ≤ 4) (hh : h < 6) (hp : p ≤ 4) :
    k0_cond9 (W a) (W g) (W b) (W h) (W p) = BitVec.ofBool (decide (b * 6 + h < a * 6 + g) && decide (p < 4)) := by
  show Scalar.cmpi .ne (Scalar.extui (Scalar.andi (Scalar.cmpi .sgt (Scalar.addi (Scalar.muli (W a) 6#32) (W g)) (Scalar.addi (Scalar.muli (W b) 6#32) (W h))) (Scalar.cmpi .slt (W p) 4#32))) 0#32 = _
  rw [kbit_W hp, vbit_W ha hg hb hh, andi_b, guard_b]
theorem cond10_W {a c L : ℕ} (ha : a ≤ 4) (hc : c < 8) (hL : L ≤ 32768) :
    k0_cond10 (W a) (W c) (W L) = BitVec.ofBool (decide (a < 4) && decide (c + 1 = nchOf L)) := by
  have h8 := nchOf_le hL
  show Scalar.cmpi .ne (Scalar.extui (Scalar.andi (Scalar.cmpi .slt (W a) 4#32) (Scalar.cmpi .eq (Scalar.addi (W c) (W 1)) (nchw (W L))))) 0#32 = _
  rw [kbit_W ha, nchw_W hL, addi_W, eq_W (by omega) (by omega), andi_b, guard_b]
theorem cond11_W {a g b h c L : ℕ} (ha : a ≤ 4) (hg : g < 6) (hb : b ≤ 4) (hh : h < 6) (hc : c < 8) (hL : L ≤ 32768) :
    k0_cond11 (W a) (W g) (W b) (W h) (W c) (W L) = BitVec.ofBool (decide (b * 6 + h < a * 6 + g) && decide (c + 1 = nchOf L)) := by
  have h8 := nchOf_le hL
  show Scalar.cmpi .ne (Scalar.extui (Scalar.andi (Scalar.cmpi .sgt (Scalar.addi (Scalar.muli (W a) 6#32) (W g)) (Scalar.addi (Scalar.muli (W b) 6#32) (W h))) (Scalar.cmpi .eq (Scalar.addi (W c) (W 1)) (nchw (W L))))) 0#32 = _
  rw [vbit_W ha hg hb hh, nchw_W hL, addi_W, eq_W (by omega) (by omega), andi_b, guard_b]

theorem ofBool_lt {a b : ℕ} {c : BitVec 1} (h : c = BitVec.ofBool (decide (a < b))) (hc : c = 1#1) : a < b := by
  rw [h, ofBool_one] at hc; simpa using hc
theorem ofBool_and1 {p q : Bool} {c : BitVec 1} (h : c = BitVec.ofBool (p && q)) (hc : c = 1#1) : p = true := by
  rw [h, ofBool_one] at hc; simp at hc; exact hc.1
theorem ofBool_and2 {p q : Bool} {c : BitVec 1} (h : c = BitVec.ofBool (p && q)) (hc : c = 1#1) : q = true := by
  rw [h, ofBool_one] at hc; simp at hc; exact hc.2

/-! ### Sizes -/

theorem szN {c L : ℕ} (hL : L ≤ 32768) (hc : c < nchOf L) : (k0_mult1 (W c) (W L)).toNat = szOf c L := by
  show (szw (W c) (W L)).toNat = _
  rw [szw_W hL hc, toNat_W (by have := szOf_le c L; omega)]
theorem szDvd {c L : ℕ} (hL : L ≤ 32768) (hc : c < nchOf L) : 128 ∣ (k0_mult1 (W c) (W L)).toNat := by
  rw [szN hL hc]; exact ⟨_, rfl⟩
theorem colDvd {c : ℕ} (hc : c < 8) : 128 ∣ (Scalar.muli (W c) 4096#32).toNat := by
  rw [colN hc]; exact ⟨c * 32, by omega⟩
theorem szFit {c L : ℕ} (hL : L ≤ 32768) (hc : c < nchOf L) :
    (Scalar.muli (W c) 4096#32).toNat + (k0_mult1 (W c) (W L)).toNat ≤ 32768 := by
  have := nchOf_le hL
  rw [szN hL hc, colN (by omega)]; exact szOf_fits hL hc
theorem szFit0 {c L : ℕ} (hL : L ≤ 32768) (hc : c < nchOf L) : 0 + (k0_mult1 (W c) (W L)).toNat ≤ 4096 := by
  rw [szN hL hc, Nat.zero_add]; exact szOf_le c L
theorem szNe {c L : ℕ} (hL : L ≤ 32768) (hc : c < nchOf L) : (k0_mult1 (W c) (W L)).toNat ≠ 1 := by
  rw [szN hL hc]; have := szOf_pos c L; omega

/-! ### Checks of the prefetch loops -/

theorem chk1_W {a : ℕ} (ha : a ≤ 4) : k0_chk1 (W a) :=
  ⟨fun _ => inb1 (lenLt ha), inb1 (lenLt ha)⟩
theorem chk3_W {a c : ℕ} (hc : c < 8) : k0_chk3 (W a) (W c) := fun _ => colDvd hc
theorem iv1N (t : Fin k0_t1_loop.trips) : (Scf.iv 0#32 1#32 t.val).toNat = t.val := by
  have : t.val < 6 := t.isLt
  revert t; decide
theorem chk2_W (t : Fin k0_t1_loop.trips) {a g c L : ℕ} (ha : a ≤ 4) (hg : g < 6) (hL : L ≤ 32768) (hc : a < 4 → c < nchOf L) :
    k0_chk2 t (W a) (W g) (W c) (W L) := by
  have hx : k0_cond1 (W a) = 1#1 → a < 4 := ofBool_lt (cond1_W ha)
  have ht : (Scf.iv 0#32 1#32 t.val).toNat < 6 := by rw [iv1N]; exact t.isLt
  exact ⟨fun h => szDvd hL (hc (hx h)), fun h => inbD ht (szFit0 hL (hc (hx h))), fun h => sq3 (by decide) (szNe hL (hc (hx h))),
    fun h => inbD (pairLt (hx h) hg) (szFit hL (hc (hx h))), fun h => sq3 (by decide) (szNe hL (hc (hx h))),
    fun _ hinb => Or.inr ⟨by decide, rfl, rfl, rfl⟩, fun _ hinb => Or.inr ⟨by decide, rfl, rfl, rfl⟩⟩

theorem chk4_W {a : ℕ} (ha : a ≤ 4) : k0_chk4 (W a) :=
  ⟨fun _ => inb1 (lenLt ha), inb1 (lenLt ha)⟩
theorem chk6_W {a c : ℕ} (hc : c < 8) : k0_chk6 (W a) (W c) := fun _ => colDvd hc
theorem iv2N (t : Fin k0_t2_loop.trips) : (Scf.iv 0#32 1#32 t.val).toNat = t.val := by
  have : t.val < 8 := t.isLt
  revert t; decide
theorem chk5_W (t : Fin k0_t2_loop.trips) {a g c L : ℕ} (ha : a ≤ 4) (hg : g < 6) (hL : L ≤ 32768) (hc : a < 4 → c < nchOf L) :
    k0_chk5 t (W a) (W g) (W c) (W L) := by
  have hx : k0_cond2 (W a) = 1#1 → a < 4 := ofBool_lt (cond2_W ha)
  have ht : (Scf.iv 0#32 1#32 t.val).toNat < 8 := by rw [iv2N]; exact t.isLt
  exact ⟨fun h => szDvd hL (hc (hx h)), fun h => inbD ht (szFit0 hL (hc (hx h))), fun h => sq3 (by decide) (szNe hL (hc (hx h))),
    fun h => inbD (pairLt (hx h) hg) (szFit hL (hc (hx h))), fun h => sq3 (by decide) (szNe hL (hc (hx h))),
    fun _ hinb => Or.inr ⟨by decide, rfl, rfl, rfl⟩, fun _ hinb => Or.inr ⟨by decide, rfl, rfl, rfl⟩⟩

/-! ### Checks of the main loop -/

section Main
variable {a g c b h d L L' p q e p' q' e' s : ℕ}

theorem chk9_W (hc : c < 8) : k0_chk9 (W a) (W c) := fun _ => colDvd hc
theorem chk13_W (hc : d < 8) : k0_chk13 (W a) (W g) (W b) (W h) (W d) := fun _ => colDvd hc
theorem chk19_W (hc : e < 8) : k0_chk19 (W a) (W p) (W e) := fun _ => colDvd hc
theorem chk22_W (hc : e < 8) : k0_chk22 (W a) (W g) (W b) (W h) (W p) (W e) := fun _ => colDvd hc
theorem chk7_W (ha : a ≤ 4) : k0_chk7 (W a) := ⟨fun _ => inb1 (lenLt ha), inb1 (lenLt ha), inb1 (lenLt ha)⟩
theorem chk24_W (ha : b ≤ 4) : k0_chk24 (W b) := ⟨inb1 (lenLt ha), inb1 (lenLt ha)⟩
theorem chk17_W (ha : p ≤ 4) : k0_chk17 (W a) (W p) := ⟨fun _ => inb1 (lenLt ha), inb1 (lenLt ha)⟩
theorem chk20_W (ha : p ≤ 4) : k0_chk20 (W a) (W g) (W b) (W h) (W p) := ⟨fun _ => inb1 (lenLt ha), inb1 (lenLt ha)⟩
theorem chk10_W (hs : s < 6) : k0_chk10 (W a) (W g) (W b) (W h) (W p) (W s) :=
  ⟨fun _ => inb1 (wLt hs (by decide)), fun _ => inb3 (wLt hs (by decide)), fun _ => inb3 (wLt hs (by decide)), fun _ => inb1 (wLt hs (by decide))⟩
theorem chk14_W (hs : s < 8) : k0_chk14 (W a) (W g) (W b) (W h) (W p) (W s) :=
  ⟨fun _ => inb1 (wLt hs (by decide)), fun _ => inb3 (wLt hs (by decide)), fun _ => inb3 (wLt hs (by decide)), fun _ => inb1 (wLt hs (by decide))⟩
theorem chk15_W (hs : s < 16) : k0_chk15 (W a) (W g) (W b) (W h) (W s) :=
  ⟨fun _ => inb3 (wLt hs (by decide)), fun _ => inb3 (wLt hs (by decide))⟩
theorem chk16_W (hs : s < 16) : k0_chk16 (W a) (W g) (W b) (W h) (W s) :=
  ⟨⟨fun _ => inb3t (wLt hs (by decide)) (by decide),
    fun _ => inb3t (wLt hs (by decide)) (by decide),
    fun _ => inb3t (wLt hs (by decide)) (by decide),
    fun _ => inb3t (wLt hs (by decide)) (by decide),
    fun _ => inb3t (wLt hs (by decide)) (by decide),
    fun _ => inb3t (wLt hs (by decide)) (by decide),
    fun _ => inb3t (wLt hs (by decide)) (by decide),
    fun _ => inb3t (wLt hs (by decide)) (by decide),
    fun _ => inb3t (wLt hs (by decide)) (by decide),
    fun _ => inb3t (wLt hs (by decide)) (by decide),
    fun _ => inb3t (wLt hs (by decide)) (by decide),
    fun _ => inb3t (wLt hs (by decide)) (by decide),
    fun _ => inb3t (wLt hs (by decide)) (by decide),
    fun _ => inb3t (wLt hs (by decide)) (by decide),
    fun _ => inb3t (wLt hs (by decide)) (by decide),
    fun _ => inb3t (wLt hs (by decide)) (by decide),
    fun _ => inb3t (wLt hs (by decide)) (by decide),
    fun _ => inb3t (wLt hs (by decide)) (by decide),
    fun _ => inb3t (wLt hs (by decide)) (by decide),
    fun _ => inb3t (wLt hs (by decide)) (by decide),
    fun _ => inb3t (wLt hs (by decide)) (by decide),
    fun _ => inb3t (wLt hs (by decide)) (by decide),
    fun _ => inb3t (wLt hs (by decide)) (by decide),
    fun _ => inb3t (wLt hs (by decide)) (by decide),
    fun _ => inb3t (wLt hs (by decide)) (by decide),
    fun _ => inb3t (wLt hs (by decide)) (by decide),
    fun _ => inb3t (wLt hs (by decide)) (by decide),
    fun _ => inb3t (wLt hs (by decide)) (by decide),
    fun _ => inb3t (wLt hs (by decide)) (by decide),
    fun _ => inb3t (wLt hs (by decide)) (by decide),
    fun _ => inb3t (wLt hs (by decide)) (by decide),
    fun _ => inb3t (wLt hs (by decide)) (by decide)⟩,
   ⟨fun _ => inb3t (wLt hs (by decide)) (by decide),
    fun _ => inb3t (wLt hs (by decide)) (by decide),
    fun _ => inb3t (wLt hs (by decide)) (by decide),
    fun _ => inb3t (wLt hs (by decide)) (by decide),
    fun _ => inb3t (wLt hs (by decide)) (by decide),
    fun _ => inb3t (wLt hs (by decide)) (by decide),
    fun _ => inb3t (wLt hs (by decide)) (by decide),
    fun _ => inb3t (wLt hs (by decide)) (by decide),
    fun _ => inb3t (wLt hs (by decide)) (by decide),
    fun _ => inb3t (wLt hs (by decide)) (by decide),
    fun _ => inb3t (wLt hs (by decide)) (by decide),
    fun _ => inb3t (wLt hs (by decide)) (by decide),
    fun _ => inb3t (wLt hs (by decide)) (by decide),
    fun _ => inb3t (wLt hs (by decide)) (by decide),
    fun _ => inb3t (wLt hs (by decide)) (by decide),
    fun _ => inb3t (wLt hs (by decide)) (by decide),
    fun _ => inb3t (wLt hs (by decide)) (by decide),
    fun _ => inb3t (wLt hs (by decide)) (by decide),
    fun _ => inb3t (wLt hs (by decide)) (by decide),
    fun _ => inb3t (wLt hs (by decide)) (by decide),
    fun _ => inb3t (wLt hs (by decide)) (by decide),
    fun _ => inb3t (wLt hs (by decide)) (by decide),
    fun _ => inb3t (wLt hs (by decide)) (by decide),
    fun _ => inb3t (wLt hs (by decide)) (by decide),
    fun _ => inb3t (wLt hs (by decide)) (by decide),
    fun _ => inb3t (wLt hs (by decide)) (by decide),
    fun _ => inb3t (wLt hs (by decide)) (by decide),
    fun _ => inb3t (wLt hs (by decide)) (by decide),
    fun _ => inb3t (wLt hs (by decide)) (by decide),
    fun _ => inb3t (wLt hs (by decide)) (by decide),
    fun _ => inb3t (wLt hs (by decide)) (by decide),
    fun _ => inb3t (wLt hs (by decide)) (by decide)⟩⟩
theorem chk8_W (hg : g < 6) (ha : a ≤ 4) (hL : L ≤ 32768) (hc : a < 4 → c < nchOf L) : k0_chk8 (W a) (W g) (W c) (W s) (W L) := by
  have hx : k0_cond3 (W a) = 1#1 → a < 4 := ofBool_lt (cond3_W ha)
  exact ⟨fun h => szDvd hL (hc (hx h)), fun h => sq3 (by decide) (szNe hL (hc (hx h))), fun h => sq3 (by decide) (szNe hL (hc (hx h)))⟩
theorem chk12_W (hL : L ≤ 32768) (hc : k0_cond4 (W a) (W g) (W b) (W h) = 1#1 → d < nchOf L) :
    k0_chk12 (W a) (W g) (W b) (W h) (W d) (W s) (W L) :=
  ⟨fun h => szDvd hL (hc h), fun h => sq3 (by decide) (szNe hL (hc h)), fun h => sq3 (by decide) (szNe hL (hc h))⟩
theorem chk11_W (ha : a ≤ 4) (hg : g < 6) (hb : b ≤ 4) (hh : h < 6) (hb7 : k0_cond7 (W a) = 1#1 → b < 4)
    (hb5 : k0_cond5 (W a) (W g) (W b) (W h) = 1#1 → b < 4) : k0_chk11 (W a) (W g) (W b) (W h) := by
  have h5 : k0_cond5 (W a) (W g) (W b) (W h) = 1#1 → a < 4 := fun hc => by
    simpa using ofBool_and1 (cond5_W ha hg hb hh) hc
  have h6 : k0_cond6 (W a) (W g) (W b) (W h) = 1#1 → a < 4 := fun hc => by
    simpa using ofBool_and1 (cond6_W ha hg hb hh) hc
  exact ⟨fun _ => inb1 (lenLt hb), fun x => inb3 (pairLt (h5 x) hg), fun _ => inb1 (lenLt ha), fun x => inb3 (pairLt (hb5 x) hh),
    fun x => inb3 (pairLt (h6 x) hg), fun _ => inb1 (lenLt ha), fun x => inb3 (pairLt (hb7 x) hh)⟩
theorem chk18_W (ha : a ≤ 4) (hp : p ≤ 4) (hq : q < 6) (hL : L ≤ 32768) (hc : p < 4 → e < nchOf L) (hs : s < 6) :
    k0_chk18 (W a) (W p) (W q) (W e) (W s) (W L) := by
  have hx : k0_cond8 (W a) (W p) = 1#1 → p < 4 := fun hc => by
    simpa using ofBool_and2 (cond8_W ha hp) hc
  exact ⟨fun h => szDvd hL (hc (hx h)), fun h => inbD (wLt hs (by decide)) (szFit0 hL (hc (hx h))), fun h => sq3 (by decide) (szNe hL (hc (hx h))),
    fun h => inbD (pairLt (hx h) hq) (szFit hL (hc (hx h))), fun h => sq3 (by decide) (szNe hL (hc (hx h))),
    fun _ hinb => Or.inr ⟨by decide, rfl, rfl, rfl⟩, fun _ hinb => Or.inr ⟨by decide, rfl, rfl, rfl⟩⟩
theorem chk21_W (ha : a ≤ 4) (hg : g < 6) (hb : b ≤ 4) (hh : h < 6) (hp : p ≤ 4) (hq : q < 6) (hL : L ≤ 32768) (hc : p < 4 → e < nchOf L) (hs : s < 8) :
    k0_chk21 (W a) (W g) (W b) (W h) (W p) (W q) (W e) (W s) (W L) := by
  have hx : k0_cond9 (W a) (W g) (W b) (W h) (W p) = 1#1 → p < 4 := fun hc => by
    simpa using ofBool_and2 (cond9_W ha hg hb hh hp) hc
  exact ⟨fun h => szDvd hL (hc (hx h)), fun h => inbD (wLt hs (by decide)) (szFit0 hL (hc (hx h))), fun h => sq3 (by decide) (szNe hL (hc (hx h))),
    fun h => inbD (pairLt (hx h) hq) (szFit hL (hc (hx h))), fun h => sq3 (by decide) (szNe hL (hc (hx h))),
    fun _ hinb => Or.inr ⟨by decide, rfl, rfl, rfl⟩, fun _ hinb => Or.inr ⟨by decide, rfl, rfl, rfl⟩⟩
theorem chk23_W (ha : a ≤ 4) (hg : g < 6) (hc : c < 8) (hL : L ≤ 32768) : k0_chk23 (W a) (W g) (W c) (W L) := by
  have hx : k0_cond10 (W a) (W c) (W L) = 1#1 → a < 4 := fun x => by
    simpa using ofBool_and1 (cond10_W ha hc hL) x
  exact ⟨fun x => inb3 (pairLt (hx x) hg), fun x => inb3r (wLt hg (by decide)) (wLt (hx x) (by decide)), fun x => inb3 (pairLt (hx x) hg)⟩
theorem chk25_W (hh : h < 6) (hb : k0_cond11 (W a) (W g) (W b) (W h) (W d) (W L) = 1#1 → b < 4) :
    k0_chk25 (W a) (W g) (W b) (W h) (W d) (W L) :=
  ⟨fun x => inb3 (pairLt (hb x) hh), fun x => inb3 (pairLt (hb x) hh),
    fun x => inb3r (wLt hh (by decide)) (wLt (hb x) (by decide)),
    fun _ _ => Affine.packed_dvd (by decide) ⟨0, rfl⟩ ⟨4, rfl⟩⟩

end Main

/-- A memref over a whole buffer is whole. -/
theorem isW (b : Ref sig .tc) : (Memref.whole b).IsWhole := Memref.isWhole_whole b

end Cert.Kernel.Hand
-- ==== Proof.K.Ring.lean ====
module

public import proofs.«01_k».proof.Proof.K.Words
public import proofs.«01_k».proof.Proof.Gen.Kernel.Launch
public import Idealize.ShloMosaic.Lib.Pipeline.FrameBody
public import Idealize.ShloMosaic.Lib.Pipeline.DatRel
public import Idealize.ShloMosaic.Lib.Ring
public import Idealize.ShloMosaic.Lib.Tactic
public import Idealize.ShloMosaic.Lib.WordCmp

@[expose] public section

set_option maxRecDepth 16384

/-!
The two rings of in-flight transfers: what a slot holds, issuing into it, waiting for it.
-/

noncomputable section

namespace Cert.Kernel.Hand

open Cert.Kernel Cert.Kernel.Gen Cert.Words
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! ## The K ring -/

/-- The whole scratch buffer of the K ring, at the device's memory. -/
abbrev locK (c : Dev nD) : Loc nD τ sig := (Memref.whole cc0_scratch0).view.loc (c : Thread nD τ)
/-- The operand in HBM the K ring streams. -/
abbrev hbmK (c : Dev nD) : Loc nD τ sig := (Memref.whole main_v2).view.loc (c : Thread nD τ)
/-- The elements of slot `k`. -/
def slotK (c : Dev nD) (k : ℕ) : Finset (Idx (locK c)) := Finset.univ.filter fun i : S6x160x4096.Idx => (i 0).val = k
/-- The completion cell of slot `k`. -/
abbrev cellK (k : Fin 6) : SemLoc sig := SemLoc.dma ⟨8 + k.val, by have := k.isLt; show 8 + k.val < 22; omega⟩
/-- The read share of the operand lent to the transfers of slot `k`. -/
abbrev shareK (k : Fin 6) : PosShare TreeShare := Transfers.shareTok fullShare 6 k
/-- A transfer's credit: its size. -/
abbrev credK (n : ℕ) : ℕ := (cc0_scratch0 : Ref sig .tc).dmaCredit ⟨2, ![160, n]⟩ .bf16

theorem mem_slotK (c : Dev nD) (k : ℕ) (i : S6x160x4096.Idx) : (show Idx (locK c) from i) ∈ slotK c k ↔ (i 0).val = k := by
  unfold slotK; exact Finset.mem_filter.trans ⟨fun h => h.2, fun h => ⟨Finset.mem_univ _, h⟩⟩

/-- Slot `k` holds columns `4096*ch …` of row block `b*6+g` of the operand, `n` of them. -/
def hasK (c : Dev nD) (fs : Buf (Elt F) (hbmK c)) (k b g ch n : ℕ) (f : Buf (Elt F) (locK c)) : Prop :=
  ∀ (p : S6x160x4096.Idx) (q : S24x160x32768.Idx), (p 0).val = k → (p 2).val < n → (q 0).val = b * 6 + g → (q 1).val = (p 1).val →
    (q 2).val = ch * 4096 + (p 2).val → f p = fs q

/-- What slot `k` is doing: nothing of interest, waiting for `n` columns of an item, or holding them. -/
abbrev freeK (c : Dev nD) (fs : Buf (Elt F) (hbmK c)) (k : Fin 6) : sProp 𝕄 :=
  iprop(semVal ((c : Thread nD τ), cellK k) 0 ∗ (hbmK c ↦[Finset.univ]{shareK k} fs) ∗ ∃ f, locK c ↦[slotK c k]{fullShare} f)
abbrev gotK (c : Dev nD) (fs : Buf (Elt F) (hbmK c)) (k : Fin 6) (b g ch n : ℕ) : sProp 𝕄 :=
  iprop(semVal ((c : Thread nD τ), cellK k) 0 ∗ (hbmK c ↦[Finset.univ]{shareK k} fs) ∗ ∃ f, ⌜hasK c fs k b g ch n f⌝ ∗ locK c ↦[slotK c k]{fullShare} f)
abbrev flyK (c : Dev nD) (fs : Buf (Elt F) (hbmK c)) (k : Fin 6) (b g ch n : ℕ) : sProp 𝕄 :=
  iprop(∃ T, Transfers.Flight (countersEmb (U := Pipeline.UD sig nD τ)) (c : Thread nD τ) (cellK k) () (credK n)
      iprop((∃ f, ⌜hasK c fs k b g ch n f⌝ ∗ locK c ↦[slotK c k]{fullShare} f) ∗ (hbmK c ↦[T]{shareK k} fs))
    ∗ (hbmK c ↦[Finset.univ \ T]{shareK k} fs))

theorem gotK_free (c : Dev nD) (fs : Buf (Elt F) (hbmK c)) (k : Fin 6) (b g ch n : ℕ) : gotK c fs k b g ch n ⊢ freeK c fs k := by
  iintro ⟨Hs, Ht, %f, -, Hf⟩
  isplitl [Hs]; · iexact Hs
  isplitl [Ht]; · iexact Ht
  iexists f; iexact Hf

theorem semK (k : Fin 6) (w : Fin 1 → ℕ) (hw : w = ![k.val]) (inb : ∀ a, w a + S1.size a ≤ S6.size a) :
    (SemLoc.dma ((cc0_scratch9.slice (Rect.unit (s := S6) w S1.size inb)).squeeze S_ squeezes_S1_S_).sem : SemLoc sig) = cellK k := by
  subst hw
  refine congrArg SemLoc.dma (Fin.ext ?_)
  show 8 + (S6.rowMajor _).val = 8 + k.val
  rw [Shape.rowMajor_val_one]
  exact congrArg (8 + ·) ((congrArg (k.val + 1 * ·) (Nat.lt_one_iff.mp (Fin.isLt _))).trans (by simp))

theorem setK (c : Dev nD) (k : Fin 6) (o z : Fin 3 → ℕ) (q : Fin 2 → ℕ) (n : ℕ) (ho : o = ![k.val, 0, 0]) (hz : z = ![1, 160, n])
    (inb : ∀ a, z a = 0 ∨ o a + z a ≤ S6x160x4096.size a) (hq : (⟨3, z⟩ : Shape).Squeezes ⟨2, q⟩) :
    (((Memref.whole cc0_scratch0).slice (Rect.unitDyn (s := S6x160x4096) o z inb) (fun _ => rfl)).squeeze (⟨2, q⟩ : Shape) hq).view.set ⊆ slotK c k.val := by
  subst ho hz
  rw [Memref.set_view_squeeze]
  intro i hi
  obtain ⟨x, -, rfl⟩ := Finset.mem_map.mp hi
  refine (mem_slotK c _ _).2 ?_
  have h0 : (x 0).val < 1 := (x 0).isLt
  show k.val + 1 * (x 0).val = k.val
  omega

theorem writeK (c : Dev nD) (k : Fin 6) (b g ch : ℕ) (o z : Fin 3 → ℕ) (q : Fin 2 → ℕ) (n : ℕ) (ho : o = ![k.val, 0, 0]) (hz : z = ![1, 160, n])
    (inb : ∀ a, z a = 0 ∨ o a + z a ≤ S6x160x4096.size a) (hq : (⟨3, z⟩ : Shape).Squeezes ⟨2, q⟩)
    (o' : Fin 3 → ℕ) (ho' : o' = ![b * 6 + g, 0, ch * 4096])
    (inb' : ∀ a, z a = 0 ∨ o' a + z a ≤ S24x160x32768.size a) (fs : Buf (Elt F) (hbmK c)) (fd : Buf (Elt F) (locK c)) :
    hasK c fs k.val b g ch n ((((Memref.whole cc0_scratch0).slice (Rect.unitDyn (s := S6x160x4096) o z inb) (fun _ => rfl)).squeeze (⟨2, q⟩ : Shape) hq).view.write (Elt F) fd
      (ReadAs.same.apply ((((Memref.whole main_v2).slice (Rect.unitDyn (s := S24x160x32768) o' z inb') (fun _ => rfl)).squeeze (⟨2, q⟩ : Shape) hq).view.read (Elt F) fs)) Finset.univ) := by
  subst ho hz ho'
  intro p r h0 h2 r0 r1 r2
  have hp1 : (p 1).val < 160 := (p 1).isLt
  let w : (⟨3, ![1, 160, n]⟩ : Shape).Idx := fun a => match a with | 0 => ⟨0, Nat.one_pos⟩ | 1 => ⟨(p 1).val, hp1⟩ | 2 => ⟨(p 2).val, h2⟩
  obtain ⟨x, hx⟩ := (Shape.reshapeEquiv hq.numel_eq).surjective w
  have hd : (((Memref.whole cc0_scratch0).slice (Rect.unitDyn (s := S6x160x4096) ![k.val, 0, 0] ![1, 160, n] inb) (fun _ => rfl)).squeeze (⟨2, q⟩ : Shape) hq).view.emb x = p := by
    show (Rect.unitDyn (s := S6x160x4096) ![k.val, 0, 0] ![1, 160, n] inb).emb (Shape.reshapeEquiv hq.numel_eq x) = p
    rw [hx]; funext a; apply Fin.ext
    fin_cases a
    · show k.val + 1 * 0 = (p 0).val; omega
    · show 0 + 1 * (p 1).val = (p 1).val; omega
    · show 0 + 1 * (p 2).val = (p 2).val; omega
  have hs : (((Memref.whole main_v2).slice (Rect.unitDyn (s := S24x160x32768) ![b * 6 + g, 0, ch * 4096] ![1, 160, n] inb') (fun _ => rfl)).squeeze (⟨2, q⟩ : Shape) hq).view.emb x = r := by
    show (Rect.unitDyn (s := S24x160x32768) ![b * 6 + g, 0, ch * 4096] ![1, 160, n] inb').emb (Shape.reshapeEquiv hq.numel_eq x) = r
    rw [hx]; funext a; apply Fin.ext
    fin_cases a
    · show b * 6 + g + 1 * 0 = (r 0).val; omega
    · show 0 + 1 * (p 1).val = (r 1).val; omega
    · show ch * 4096 + 1 * (p 2).val = (r 2).val; omega
  conv_lhs => rw [← hd]
  rw [View.write_emb_of_mem _ _ (Finset.mem_univ x)]
  show (View.read _ _ _ x) = _
  rw [View.read_apply, hs]; rfl

/-- Issuing the transfer of an item into a free slot. -/
theorem issueK {α : Type} (c : Dev nD) (bd : Option Variants.nat.V) (k : Fin 6) (b g ch n : ℕ) (hn : 0 < n)
    (w : Fin 1 → ℕ) (hw : w = ![k.val]) (winb : ∀ a, w a + S1.size a ≤ S6.size a)
    (o z : Fin 3 → ℕ) (q : Fin 2 → ℕ) (ho : o = ![k.val, 0, 0]) (hz : z = ![1, 160, n]) (hq2 : q = ![160, n])
    (inb : ∀ a, z a = 0 ∨ o a + z a ≤ S6x160x4096.size a) (hq : (⟨3, z⟩ : Shape).Squeezes ⟨2, q⟩)
    (o' : Fin 3 → ℕ) (ho' : o' = ![b * 6 + g, 0, ch * 4096])
    (inb' : ∀ a, z a = 0 ∨ o' a + z a ≤ S24x160x32768.size a) (fs : Buf (Elt F) (hbmK c))
    {hsrc : (((Memref.whole main_v2).slice (Rect.unitDyn (s := S24x160x32768) o' z inb') (fun _ => rfl)).squeeze (⟨2, q⟩ : Shape) hq).view.WordExact}
    {hdst : (((Memref.whole cc0_scratch0).slice (Rect.unitDyn (s := S6x160x4096) o z inb) (fun _ => rfl)).squeeze (⟨2, q⟩ : Shape) hq).view.WordExact}
    {hsem} {kk : PUnit → Prog (TpuEff nD τ sig (Elt F) (Λ₀ F) .tc) α} {Q : α → sProp 𝕄} :
    freeK c fs k ⊢ iprop((flyK c fs k b g ch n -∗ wp frame (wpE (defs₀ (F := F)) Variants.nat c.tc bd) Set.univ (kk ⟨⟩) Q)
      -∗ wp frame (wpE (defs₀ (F := F)) Variants.nat c.tc bd) Set.univ
        (.op (.enqueueDma (((Memref.whole main_v2).slice (Rect.unitDyn (s := S24x160x32768) o' z inb') (fun _ => rfl)).squeeze (⟨2, q⟩ : Shape) hq)
          (.here (((Memref.whole cc0_scratch0).slice (Rect.unitDyn (s := S6x160x4096) o z inb) (fun _ => rfl)).squeeze (⟨2, q⟩ : Shape) hq))
          (.dma ((cc0_scratch9.slice (Rect.unit (s := S6) w S1.size winb)).squeeze S_ squeezes_S1_S_).sem) hsrc hdst hsem) kk) Q) := by
  have hset := setK c k o z q n ho hz inb hq
  have hwr := fun fd => writeK c k b g ch o z q n ho hz inb hq o' ho' inb' fs fd
  have hsm := semK k w hw winb
  have hcr : 0 < credK n := by
    subst hq2
    refine View.dmaCredit_pos (((Memref.whole cc0_scratch0).slice (Rect.unitDyn (s := S6x160x4096) o z inb) (fun _ => rfl)).squeeze (⟨2, ![160, n]⟩ : Shape) hq).view (Shape.numel_pos fun a => ?_)
    fin_cases a
    · exact Nat.succ_pos 159
    · exact hn
  iintro ⟨Hs, Ht, %fd, Hf⟩ Hk
  ihave Ht := (pointsTo_split_subset (Finset.subset_univ (((Memref.whole main_v2).slice (Rect.unitDyn (s := S24x160x32768) o' z inb') (fun _ => rfl)).squeeze (⟨2, q⟩ : Shape) hq).view.set)).1 $$ Ht
  icases Ht with ⟨Ht, Hr⟩
  iapply (Transfers.wp_dmaLocal (countersEmb (U := Pipeline.UD sig nD τ)) Variants.nat c.tc bd
    (src := (((Memref.whole main_v2).slice (Rect.unitDyn (s := S24x160x32768) o' z inb') (fun _ => rfl)).squeeze (⟨2, q⟩ : Shape) hq))
    (dst := (((Memref.whole cc0_scratch0).slice (Rect.unitDyn (s := S6x160x4096) o z inb) (fun _ => rfl)).squeeze (⟨2, q⟩ : Shape) hq))
    (via := ReadAs.same) (q := shareK k) (fs := fs) (fd := fd) (Sd := slotK c k.val) () (credK n) (by subst hq2; rfl) hcr hset) $$ [Ht Hf Hs]
  · isplitl [Ht]; · iexact Ht
    isplitl [Hf]; · iexact Hf
    rw [hsm]; iexact Hs
  iintro Hfl
  iapply Hk
  iexists _
  isplitl [Hfl]
  · rw [← hsm]
    iapply (Transfers.Flight_mono (countersEmb (U := Pipeline.UD sig nD τ)) (c : Thread nD τ) ?_) $$ Hfl
    iintro ⟨Hd, Hs⟩
    isplitl [Hd]
    · iexists _; isplitr; · ipureintro; exact hwr fd
      iexact Hd
    · iexact Hs
  · iexact Hr

/-- Waiting for the item in flight to a slot. -/
theorem waitK {α : Type} (c : Dev nD) (bd : Option Variants.nat.V) (k : Fin 6) (b g ch n : ℕ)
    (w : Fin 1 → ℕ) (hw : w = ![k.val]) (winb : ∀ a, w a + S1.size a ≤ S6.size a)
    (q : Fin 2 → ℕ) (hq2 : q = ![160, n]) (fs : Buf (Elt F) (hbmK c)) (Wt : Waits sig Unit)
    {hk} {kk : PUnit → Prog (TpuEff nD τ sig (Elt F) (Λ₀ F) .tc) α} {Q : α → sProp 𝕄} :
    iprop(flyK c fs k b g ch n ∗ owes (c : Thread nD τ) 0 Wt) ⊢ iprop((iprop(gotK c fs k b g ch n ∗ ∃ W', owes (c : Thread nD τ) 0 W')
        -∗ wp frame (wpE (defs₀ (F := F)) Variants.nat c.tc bd) Set.univ (kk ⟨⟩) Q)
      -∗ wp frame (wpE (defs₀ (F := F)) Variants.nat c.tc bd) Set.univ
        (.op (.waitDma ((cc0_scratch9.slice (Rect.unit (s := S6) w S1.size winb)).squeeze S_ squeezes_S1_S_).sem (Memref.whole cc0_scratch0).view.ref ⟨2, q⟩ .bf16 hk) kk) Q) := by
  have hsm := semK k w hw winb
  subst hq2
  iintro ⟨⟨%T, Hfl, Hr⟩, HO⟩ Hk
  iapply (Transfers.wp_waitLocalSized (countersEmb (U := Pipeline.UD sig nD τ)) Variants.nat c.tc bd () (N := credK n)
    (D := iprop((∃ f, ⌜hasK c fs k b g ch n f⌝ ∗ locK c ↦[slotK c k]{fullShare} f) ∗ (hbmK c ↦[T]{shareK k} fs))) (W := Wt) rfl) $$ [Hfl HO]
  · isplitl [Hfl]; · rw [hsm]; iexact Hfl
    iexact HO
  iintro ⟨⟨Hd, Ht⟩, Hs, HO⟩
  iapply Hk
  isplitr [HO]
  · isplitl [Hs]; · rw [← hsm]; iexact Hs
    isplitl [Ht Hr]
    · iapply (pointsTo_split_subset (Finset.subset_univ T)).2 $$ [Ht Hr]
      isplitl [Ht] <;> iassumption
    · iexact Hd
  · iexists _; iexact HO

/-! ## The V ring -/

/-- The whole scratch buffer of the V ring, at the device's memory. -/
abbrev locV (c : Dev nD) : Loc nD τ sig := (Memref.whole cc0_scratch1).view.loc (c : Thread nD τ)
/-- The operand in HBM the V ring streams. -/
abbrev hbmV (c : Dev nD) : Loc nD τ sig := (Memref.whole main_v4).view.loc (c : Thread nD τ)
/-- The elements of slot `k`. -/
def slotV (c : Dev nD) (k : ℕ) : Finset (Idx (locV c)) := Finset.univ.filter fun i : S8x160x4096.Idx => (i 0).val = k
/-- The completion cell of slot `k`. -/
abbrev cellV (k : Fin 8) : SemLoc sig := SemLoc.dma ⟨14 + k.val, by have := k.isLt; show 14 + k.val < 22; omega⟩
/-- The read share of the operand lent to the transfers of slot `k`. -/
abbrev shareV (k : Fin 8) : PosShare TreeShare := Transfers.shareTok fullShare 8 k
/-- A transfer's credit: its size. -/
abbrev credV (n : ℕ) : ℕ := (cc0_scratch1 : Ref sig .tc).dmaCredit ⟨2, ![160, n]⟩ .fp8e4m3

theorem mem_slotV (c : Dev nD) (k : ℕ) (i : S8x160x4096.Idx) : (show Idx (locV c) from i) ∈ slotV c k ↔ (i 0).val = k := by
  unfold slotV; exact Finset.mem_filter.trans ⟨fun h => h.2, fun h => ⟨Finset.mem_univ _, h⟩⟩

/-- Slot `k` holds columns `4096*ch …` of row block `b*6+g` of the operand, `n` of them. -/
def hasV (c : Dev nD) (fs : Buf (Elt F) (hbmV c)) (k b g ch n : ℕ) (f : Buf (Elt F) (locV c)) : Prop :=
  ∀ (p : S8x160x4096.Idx) (q : S24x160x32768.Idx), (p 0).val = k → (p 2).val < n → (q 0).val = b * 6 + g → (q 1).val = (p 1).val →
    (q 2).val = ch * 4096 + (p 2).val → f p = fs q

/-- What slot `k` is doing: nothing of interest, waiting for `n` columns of an item, or holding them. -/
abbrev freeV (c : Dev nD) (fs : Buf (Elt F) (hbmV c)) (k : Fin 8) : sProp 𝕄 :=
  iprop(semVal ((c : Thread nD τ), cellV k) 0 ∗ (hbmV c ↦[Finset.univ]{shareV k} fs) ∗ ∃ f, locV c ↦[slotV c k]{fullShare} f)
abbrev gotV (c : Dev nD) (fs : Buf (Elt F) (hbmV c)) (k : Fin 8) (b g ch n : ℕ) : sProp 𝕄 :=
  iprop(semVal ((c : Thread nD τ), cellV k) 0 ∗ (hbmV c ↦[Finset.univ]{shareV k} fs) ∗ ∃ f, ⌜hasV c fs k b g ch n f⌝ ∗ locV c ↦[slotV c k]{fullShare} f)
abbrev flyV (c : Dev nD) (fs : Buf (Elt F) (hbmV c)) (k : Fin 8) (b g ch n : ℕ) : sProp 𝕄 :=
  iprop(∃ T, Transfers.Flight (countersEmb (U := Pipeline.UD sig nD τ)) (c : Thread nD τ) (cellV k) () (credV n)
      iprop((∃ f, ⌜hasV c fs k b g ch n f⌝ ∗ locV c ↦[slotV c k]{fullShare} f) ∗ (hbmV c ↦[T]{shareV k} fs))
    ∗ (hbmV c ↦[Finset.univ \ T]{shareV k} fs))

theorem gotV_free (c : Dev nD) (fs : Buf (Elt F) (hbmV c)) (k : Fin 8) (b g ch n : ℕ) : gotV c fs k b g ch n ⊢ freeV c fs k := by
  iintro ⟨Hs, Ht, %f, -, Hf⟩
  isplitl [Hs]; · iexact Hs
  isplitl [Ht]; · iexact Ht
  iexists f; iexact Hf

theorem semV (k : Fin 8) (w : Fin 1 → ℕ) (hw : w = ![k.val]) (inb : ∀ a, w a + S1.size a ≤ S8.size a) :
    (SemLoc.dma ((cc0_scratch10.slice (Rect.unit (s := S8) w S1.size inb)).squeeze S_ squeezes_S1_S_).sem : SemLoc sig) = cellV k := by
  subst hw
  refine congrArg SemLoc.dma (Fin.ext ?_)
  show 14 + (S8.rowMajor _).val = 14 + k.val
  rw [Shape.rowMajor_val_one]
  exact congrArg (14 + ·) ((congrArg (k.val + 1 * ·) (Nat.lt_one_iff.mp (Fin.isLt _))).trans (by simp))

theorem setV (c : Dev nD) (k : Fin 8) (o z : Fin 3 → ℕ) (q : Fin 2 → ℕ) (n : ℕ) (ho : o = ![k.val, 0, 0]) (hz : z = ![1, 160, n])
    (inb : ∀ a, z a = 0 ∨ o a + z a ≤ S8x160x4096.size a) (hq : (⟨3, z⟩ : Shape).Squeezes ⟨2, q⟩) :
    (((Memref.whole cc0_scratch1).slice (Rect.unitDyn (s := S8x160x4096) o z inb) (fun _ => rfl)).squeeze (⟨2, q⟩ : Shape) hq).view.set ⊆ slotV c k.val := by
  subst ho hz
  rw [Memref.set_view_squeeze]
  intro i hi
  obtain ⟨x, -, rfl⟩ := Finset.mem_map.mp hi
  refine (mem_slotV c _ _).2 ?_
  have h0 : (x 0).val < 1 := (x 0).isLt
  show k.val + 1 * (x 0).val = k.val
  omega

theorem writeV (c : Dev nD) (k : Fin 8) (b g ch : ℕ) (o z : Fin 3 → ℕ) (q : Fin 2 → ℕ) (n : ℕ) (ho : o = ![k.val, 0, 0]) (hz : z = ![1, 160, n])
    (inb : ∀ a, z a = 0 ∨ o a + z a ≤ S8x160x4096.size a) (hq : (⟨3, z⟩ : Shape).Squeezes ⟨2, q⟩)
    (o' : Fin 3 → ℕ) (ho' : o' = ![b * 6 + g, 0, ch * 4096])
    (inb' : ∀ a, z a = 0 ∨ o' a + z a ≤ S24x160x32768.size a) (fs : Buf (Elt F) (hbmV c)) (fd : Buf (Elt F) (locV c)) :
    hasV c fs k.val b g ch n ((((Memref.whole cc0_scratch1).slice (Rect.unitDyn (s := S8x160x4096) o z inb) (fun _ => rfl)).squeeze (⟨2, q⟩ : Shape) hq).view.write (Elt F) fd
      (ReadAs.same.apply ((((Memref.whole main_v4).slice (Rect.unitDyn (s := S24x160x32768) o' z inb') (fun _ => rfl)).squeeze (⟨2, q⟩ : Shape) hq).view.read (Elt F) fs)) Finset.univ) := by
  subst ho hz ho'
  intro p r h0 h2 r0 r1 r2
  have hp1 : (p 1).val < 160 := (p 1).isLt
  let w : (⟨3, ![1, 160, n]⟩ : Shape).Idx := fun a => match a with | 0 => ⟨0, Nat.one_pos⟩ | 1 => ⟨(p 1).val, hp1⟩ | 2 => ⟨(p 2).val, h2⟩
  obtain ⟨x, hx⟩ := (Shape.reshapeEquiv hq.numel_eq).surjective w
  have hd : (((Memref.whole cc0_scratch1).slice (Rect.unitDyn (s := S8x160x4096) ![k.val, 0, 0] ![1, 160, n] inb) (fun _ => rfl)).squeeze (⟨2, q⟩ : Shape) hq).view.emb x = p := by
    show (Rect.unitDyn (s := S8x160x4096) ![k.val, 0, 0] ![1, 160, n] inb).emb (Shape.reshapeEquiv hq.numel_eq x) = p
    rw [hx]; funext a; apply Fin.ext
    fin_cases a
    · show k.val + 1 * 0 = (p 0).val; omega
    · show 0 + 1 * (p 1).val = (p 1).val; omega
    · show 0 + 1 * (p 2).val = (p 2).val; omega
  have hs : (((Memref.whole main_v4).slice (Rect.unitDyn (s := S24x160x32768) ![b * 6 + g, 0, ch * 4096] ![1, 160, n] inb') (fun _ => rfl)).squeeze (⟨2, q⟩ : Shape) hq).view.emb x = r := by
    show (Rect.unitDyn (s := S24x160x32768) ![b * 6 + g, 0, ch * 4096] ![1, 160, n] inb').emb (Shape.reshapeEquiv hq.numel_eq x) = r
    rw [hx]; funext a; apply Fin.ext
    fin_cases a
    · show b * 6 + g + 1 * 0 = (r 0).val; omega
    · show 0 + 1 * (p 1).val = (r 1).val; omega
    · show ch * 4096 + 1 * (p 2).val = (r 2).val; omega
  conv_lhs => rw [← hd]
  rw [View.write_emb_of_mem _ _ (Finset.mem_univ x)]
  show (View.read _ _ _ x) = _
  rw [View.read_apply, hs]; rfl

/-- Issuing the transfer of an item into a free slot. -/
theorem issueV {α : Type} (c : Dev nD) (bd : Option Variants.nat.V) (k : Fin 8) (b g ch n : ℕ) (hn : 0 < n)
    (w : Fin 1 → ℕ) (hw : w = ![k.val]) (winb : ∀ a, w a + S1.size a ≤ S8.size a)
    (o z : Fin 3 → ℕ) (q : Fin 2 → ℕ) (ho : o = ![k.val, 0, 0]) (hz : z = ![1, 160, n]) (hq2 : q = ![160, n])
    (inb : ∀ a, z a = 0 ∨ o a + z a ≤ S8x160x4096.size a) (hq : (⟨3, z⟩ : Shape).Squeezes ⟨2, q⟩)
    (o' : Fin 3 → ℕ) (ho' : o' = ![b * 6 + g, 0, ch * 4096])
    (inb' : ∀ a, z a = 0 ∨ o' a + z a ≤ S24x160x32768.size a) (fs : Buf (Elt F) (hbmV c))
    {hsrc : (((Memref.whole main_v4).slice (Rect.unitDyn (s := S24x160x32768) o' z inb') (fun _ => rfl)).squeeze (⟨2, q⟩ : Shape) hq).view.WordExact}
    {hdst : (((Memref.whole cc0_scratch1).slice (Rect.unitDyn (s := S8x160x4096) o z inb) (fun _ => rfl)).squeeze (⟨2, q⟩ : Shape) hq).view.WordExact}
    {hsem} {kk : PUnit → Prog (TpuEff nD τ sig (Elt F) (Λ₀ F) .tc) α} {Q : α → sProp 𝕄} :
    freeV c fs k ⊢ iprop((flyV c fs k b g ch n -∗ wp frame (wpE (defs₀ (F := F)) Variants.nat c.tc bd) Set.univ (kk ⟨⟩) Q)
      -∗ wp frame (wpE (defs₀ (F := F)) Variants.nat c.tc bd) Set.univ
        (.op (.enqueueDma (((Memref.whole main_v4).slice (Rect.unitDyn (s := S24x160x32768) o' z inb') (fun _ => rfl)).squeeze (⟨2, q⟩ : Shape) hq)
          (.here (((Memref.whole cc0_scratch1).slice (Rect.unitDyn (s := S8x160x4096) o z inb) (fun _ => rfl)).squeeze (⟨2, q⟩ : Shape) hq))
          (.dma ((cc0_scratch10.slice (Rect.unit (s := S8) w S1.size winb)).squeeze S_ squeezes_S1_S_).sem) hsrc hdst hsem) kk) Q) := by
  have hset := setV c k o z q n ho hz inb hq
  have hwr := fun fd => writeV c k b g ch o z q n ho hz inb hq o' ho' inb' fs fd
  have hsm := semV k w hw winb
  have hcr : 0 < credV n := by
    subst hq2
    refine View.dmaCredit_pos (((Memref.whole cc0_scratch1).slice (Rect.unitDyn (s := S8x160x4096) o z inb) (fun _ => rfl)).squeeze (⟨2, ![160, n]⟩ : Shape) hq).view (Shape.numel_pos fun a => ?_)
    fin_cases a
    · exact Nat.succ_pos 159
    · exact hn
  iintro ⟨Hs, Ht, %fd, Hf⟩ Hk
  ihave Ht := (pointsTo_split_subset (Finset.subset_univ (((Memref.whole main_v4).slice (Rect.unitDyn (s := S24x160x32768) o' z inb') (fun _ => rfl)).squeeze (⟨2, q⟩ : Shape) hq).view.set)).1 $$ Ht
  icases Ht with ⟨Ht, Hr⟩
  iapply (Transfers.wp_dmaLocal (countersEmb (U := Pipeline.UD sig nD τ)) Variants.nat c.tc bd
    (src := (((Memref.whole main_v4).slice (Rect.unitDyn (s := S24x160x32768) o' z inb') (fun _ => rfl)).squeeze (⟨2, q⟩ : Shape) hq))
    (dst := (((Memref.whole cc0_scratch1).slice (Rect.unitDyn (s := S8x160x4096) o z inb) (fun _ => rfl)).squeeze (⟨2, q⟩ : Shape) hq))
    (via := ReadAs.same) (q := shareV k) (fs := fs) (fd := fd) (Sd := slotV c k.val) () (credV n) (by subst hq2; rfl) hcr hset) $$ [Ht Hf Hs]
  · isplitl [Ht]; · iexact Ht
    isplitl [Hf]; · iexact Hf
    rw [hsm]; iexact Hs
  iintro Hfl
  iapply Hk
  iexists _
  isplitl [Hfl]
  · rw [← hsm]
    iapply (Transfers.Flight_mono (countersEmb (U := Pipeline.UD sig nD τ)) (c : Thread nD τ) ?_) $$ Hfl
    iintro ⟨Hd, Hs⟩
    isplitl [Hd]
    · iexists _; isplitr; · ipureintro; exact hwr fd
      iexact Hd
    · iexact Hs
  · iexact Hr

/-- Waiting for the item in flight to a slot. -/
theorem waitV {α : Type} (c : Dev nD) (bd : Option Variants.nat.V) (k : Fin 8) (b g ch n : ℕ)
    (w : Fin 1 → ℕ) (hw : w = ![k.val]) (winb : ∀ a, w a + S1.size a ≤ S8.size a)
    (q : Fin 2 → ℕ) (hq2 : q = ![160, n]) (fs : Buf (Elt F) (hbmV c)) (Wt : Waits sig Unit)
    {hk} {kk : PUnit → Prog (TpuEff nD τ sig (Elt F) (Λ₀ F) .tc) α} {Q : α → sProp 𝕄} :
    iprop(flyV c fs k b g ch n ∗ owes (c : Thread nD τ) 0 Wt) ⊢ iprop((iprop(gotV c fs k b g ch n ∗ ∃ W', owes (c : Thread nD τ) 0 W')
        -∗ wp frame (wpE (defs₀ (F := F)) Variants.nat c.tc bd) Set.univ (kk ⟨⟩) Q)
      -∗ wp frame (wpE (defs₀ (F := F)) Variants.nat c.tc bd) Set.univ
        (.op (.waitDma ((cc0_scratch10.slice (Rect.unit (s := S8) w S1.size winb)).squeeze S_ squeezes_S1_S_).sem (Memref.whole cc0_scratch1).view.ref ⟨2, q⟩ .fp8e4m3 hk) kk) Q) := by
  have hsm := semV k w hw winb
  subst hq2
  iintro ⟨⟨%T, Hfl, Hr⟩, HO⟩ Hk
  iapply (Transfers.wp_waitLocalSized (countersEmb (U := Pipeline.UD sig nD τ)) Variants.nat c.tc bd () (N := credV n)
    (D := iprop((∃ f, ⌜hasV c fs k b g ch n f⌝ ∗ locV c ↦[slotV c k]{fullShare} f) ∗ (hbmV c ↦[T]{shareV k} fs))) (W := Wt) rfl) $$ [Hfl HO]
  · isplitl [Hfl]; · rw [hsm]; iexact Hfl
    iexact HO
  iintro ⟨⟨Hd, Ht⟩, Hs, HO⟩
  iapply Hk
  isplitr [HO]
  · isplitl [Hs]; · rw [← hsm]; iexact Hs
    isplitl [Ht Hr]
    · iapply (pointsTo_split_subset (Finset.subset_univ T)).2 $$ [Ht Hr]
      isplitl [Ht] <;> iassumption
    · iexact Hd
  · iexists _; iexact HO

end Cert.Kernel.Hand
-- ==== Proof.K.Mem.lean ====
module

public import proofs.«01_k».proof.Proof.K.Ring
public import Idealize.ShloMosaic.Lib.Pipeline.FrameBody
public import Idealize.ShloMosaic.Lib.Pipeline.DatRel
public import Idealize.ShloMosaic.Lib.Ring
public import Idealize.ShloMosaic.Lib.Tactic
public import Idealize.ShloMosaic.Lib.WordCmp

@[expose] public section

set_option maxRecDepth 16384

/-!
Loads and stores of the kernel's buffers, the lengths among them.
-/

noncomputable section

namespace Cert.Kernel.Hand

open Cert.Kernel Cert.Kernel.Gen Cert.Words
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-- A buffer under a memref, held at contents `f`. -/
abbrev pt {sp : CoreSpace} {s : Shape} {e : EltTy} (c : Dev nD) (m : Memref sig .tc sp s e) (f : Buf (Elt F) (m.view.loc (c : Thread nD τ))) : sProp 𝕄 :=
  m.view.loc (c : Thread nD τ) ↦[m.view.set]{fullShare} f

/-- The four lengths: what the scalar buffer reads, as words of `L`. -/
def LensOk (a0 : Memref sig .tc .smem S4 .i32) (c : Dev nD) (f0 : Buf (Elt F) (a0.view.loc (c : Thread nD τ))) (L : ℕ → ℕ) : Prop :=
  (∀ b, L b ≤ 32768) ∧ ∀ i : S4.Idx, (a0.view.read (Elt F) f0 i : BitVec 32) = W (L (i 0).val)

section Rules

variable {α : Type} (c : Dev nD) (bd : Option Variants.nat.V)

theorem ld {Q : α → sProp 𝕄} {sp : CoreSpace} {s : Shape} {e : EltTy} {m : Memref sig .tc sp s e} {r : LoadRect s} {hl : m.view.LoadsAt r} {k : (r.shape.Idx → Elt F e) → Prog (TpuEff nD τ sig (Elt F) (Λ₀ F) .tc) α}
    {f : Buf (Elt F) (m.view.loc (c : Thread nD τ))} :
    pt c m f ⊢ iprop((pt c m f -∗ wp frame (wpE (defs₀ (F := F)) Variants.nat c.tc bd) Set.univ (k (m.view.readAt (Elt F) r f)) Q)
      -∗ wp frame (wpE (defs₀ (F := F)) Variants.nat c.tc bd) Set.univ (.op (.load m r hl) k) Q) :=
  wp_load Variants.nat c.tc bd Set.univ (m := m) (View.setOn_subset_set _ _)

theorem st {Q : α → sProp 𝕄} {sp : CoreSpace} {s : Shape} {e : EltTy} {m : Memref sig .tc sp s e} {r : Rect s} {w : r.shape.Idx → Elt F e} {Mk : Finset r.shape.Idx} {hx : (m.access r).Stores Mk} {hm : Mk = Finset.univ ∨ ∀ a, r.stride a = 1}
    {k : PUnit → Prog (TpuEff nD τ sig (Elt F) (Λ₀ F) .tc) α} {f : Buf (Elt F) (m.view.loc (c : Thread nD τ))} :
    pt c m f ⊢ iprop((pt c m ((m.access r).write (Elt F) f w Mk) -∗ wp frame (wpE (defs₀ (F := F)) Variants.nat c.tc bd) Set.univ (k ⟨⟩) Q)
      -∗ wp frame (wpE (defs₀ (F := F)) Variants.nat c.tc bd) Set.univ (.op (.store m r w Mk hx hm) k) Q) :=
  wp_store Variants.nat c.tc bd Set.univ (m := m) (r := r) (Mk := Mk)
    (fun i hi => by
      obtain ⟨x, -, rfl⟩ := Finset.mem_map.mp hi
      exact View.emb_mem_set m.view (r.emb x))

/-- Loading the length of row `b`. -/
theorem ldLen {Q : α → sProp 𝕄} {a0 : Memref sig .tc .smem S4 .i32} {f0 : Buf (Elt F) (a0.view.loc (c : Thread nD τ))} {L : ℕ → ℕ} (hL : LensOk a0 c f0 L)
    {o : Fin 1 → ℕ} {inb : ∀ a, o a + S1.size a ≤ S4.size a} {h1 : (Rect.unit (s := S4) o S1.size inb).shape.numel = 1} {hp : EltTy.packing .i32 = 1}
    (b : ℕ) (hb : o = ![b]) {k : Elt F .i32 → Prog (TpuEff nD τ sig (Elt F) (Λ₀ F) .tc) α} :
    pt c a0 f0 ⊢ iprop((pt c a0 f0 -∗ wp frame (wpE (defs₀ (F := F)) Variants.nat c.tc bd) Set.univ (k (W (L b))) Q)
      -∗ wp frame (wpE (defs₀ (F := F)) Variants.nat c.tc bd) Set.univ (smemLoad a0 (Rect.unit (s := S4) o S1.size inb) h1 hp >>= k) Q) := by
  subst hb
  iintro H Hk
  unfold smemLoad
  iapply (wp_smemLoadElt Variants.nat c.tc bd Set.univ (m := a0) (r := Rect.unit (s := S4) ![b] S1.size inb) (f := f0) (q := fullShare) (S := a0.view.set) (k := k) (hw := View.loads_smem_one hp h1) (fun i hi => by
      obtain ⟨x, -, rfl⟩ := Finset.mem_map.mp hi
      exact View.emb_mem_set a0.view _)) $$ H
  iintro H
  have e : ∀ x : (Rect.unit (s := S4) ![b] S1.size inb).shape.Idx, (a0.access (Rect.unit (s := S4) ![b] S1.size inb)).read (Elt F) f0 x = (W (L b) : BitVec 32) := by
    intro x
    refine (hL.2 ((Rect.unit (s := S4) ![b] S1.size inb).emb x)).trans (congrArg (fun t => W (L t)) ?_)
    show b + 1 * (x 0).val = b
    have h : (x 0).val < 1 := (x 0).isLt
    omega
  rw [e]
  iapply Hk; iexact H

/-- Loading a whole slot of the K ring. -/
theorem ldK {Q : α → sProp 𝕄} {k' : Fin 6} {o : Fin 3 → ℕ} (ho : o = ![k'.val, 0, 0]) {inb : ∀ a, o a + S1x160x4096.size a ≤ S6x160x4096.size a}
    {hl : (Memref.whole cc0_scratch0).view.LoadsAt (Rect.unit (s := S6x160x4096) o S1x160x4096.size inb).toLoadRect}
    {k : ((Rect.unit (s := S6x160x4096) o S1x160x4096.size inb).toLoadRect.shape.Idx → Elt F .bf16) → Prog (TpuEff nD τ sig (Elt F) (Λ₀ F) .tc) α} {f : Buf (Elt F) (locK c)} :
    (locK c ↦[slotK c k'.val]{fullShare} f) ⊢ iprop(((locK c ↦[slotK c k'.val]{fullShare} f) -∗ wp frame (wpE (defs₀ (F := F)) Variants.nat c.tc bd) Set.univ (k ((Memref.whole cc0_scratch0).view.readAt (Elt F) (Rect.unit (s := S6x160x4096) o S1x160x4096.size inb).toLoadRect f)) Q)
      -∗ wp frame (wpE (defs₀ (F := F)) Variants.nat c.tc bd) Set.univ (.op (.load (Memref.whole cc0_scratch0) (Rect.unit (s := S6x160x4096) o S1x160x4096.size inb).toLoadRect hl) k) Q) :=
  wp_load Variants.nat c.tc bd Set.univ (m := Memref.whole cc0_scratch0) (fun i hi => by
      subst ho
      obtain ⟨x, hx, rfl⟩ := Finset.mem_map.mp hi
      obtain ⟨j, hj, e⟩ := (LoadRect.mem_set _).1 hx 0
      refine (mem_slotK c _ _).2 ?_
      have hj' : j < 1 := hj
      have e' : (x 0).val = k'.val + 1 * j := e
      show (x 0).val = k'.val
      omega)

/-- Loading a whole slot of the V ring. -/
theorem ldV {Q : α → sProp 𝕄} {k' : Fin 8} {o : Fin 3 → ℕ} (ho : o = ![k'.val, 0, 0]) {inb : ∀ a, o a + S1x160x4096.size a ≤ S8x160x4096.size a}
    {hl : (Memref.whole cc0_scratch1).view.LoadsAt (Rect.unit (s := S8x160x4096) o S1x160x4096.size inb).toLoadRect}
    {k : ((Rect.unit (s := S8x160x4096) o S1x160x4096.size inb).toLoadRect.shape.Idx → Elt F .fp8e4m3) → Prog (TpuEff nD τ sig (Elt F) (Λ₀ F) .tc) α} {f : Buf (Elt F) (locV c)} :
    (locV c ↦[slotV c k'.val]{fullShare} f) ⊢ iprop(((locV c ↦[slotV c k'.val]{fullShare} f) -∗ wp frame (wpE (defs₀ (F := F)) Variants.nat c.tc bd) Set.univ (k ((Memref.whole cc0_scratch1).view.readAt (Elt F) (Rect.unit (s := S8x160x4096) o S1x160x4096.size inb).toLoadRect f)) Q)
      -∗ wp frame (wpE (defs₀ (F := F)) Variants.nat c.tc bd) Set.univ (.op (.load (Memref.whole cc0_scratch1) (Rect.unit (s := S8x160x4096) o S1x160x4096.size inb).toLoadRect hl) k) Q) :=
  wp_load Variants.nat c.tc bd Set.univ (m := Memref.whole cc0_scratch1) (fun i hi => by
      subst ho
      obtain ⟨x, hx, rfl⟩ := Finset.mem_map.mp hi
      obtain ⟨j, hj, e⟩ := (LoadRect.mem_set _).1 hx 0
      refine (mem_slotV c _ _).2 ?_
      have hj' : j < 1 := hj
      have e' : (x 0).val = k'.val + 1 * j := e
      show (x 0).val = k'.val
      omega)

end Rules

end Cert.Kernel.Hand
-- ==== Proof.K.State.lean ====
module

public import proofs.«01_k».proof.Proof.K.Mem
public import proofs.«01_k».proof.Proof.Cursor
public import Idealize.ShloMosaic.Lib.Pipeline.FrameBody
public import Idealize.ShloMosaic.Lib.Pipeline.DatRel
public import Idealize.ShloMosaic.Lib.Ring
public import Idealize.ShloMosaic.Lib.Tactic
public import Idealize.ShloMosaic.Lib.WordCmp

@[expose] public section

set_option maxRecDepth 16384

/-!
The states of the two rings as the walk over the items moves.
-/

noncomputable section

namespace Cert.Kernel.Hand

open Cert.Kernel Cert.Kernel.Gen Cert.Words
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-- The length word of row `b` (a row past the last reads the last). -/
def lw (L : ℕ → ℕ) (b : ℕ) : ℕ := L (min b 3)
/-- The chunks of row `b`. -/
def nL (L : ℕ → ℕ) (b : ℕ) : ℕ := nchOf (lw L b)
/-- The cursor of item `i`. -/
abbrev cu (L : ℕ → ℕ) (i : ℕ) : Cur := cur (nL L) i
/-- The item a slot waits for, if there is one. -/
def item (L : ℕ → ℕ) (i : ℕ) : Option Cur := if (cu L i).b < 4 then some (cu L i) else none

theorem item_some {L : ℕ → ℕ} {i : ℕ} (h : (cu L i).b < 4) : item L i = some (cu L i) := if_pos h
theorem item_none {L : ℕ → ℕ} {i : ℕ} (h : ¬ (cu L i).b < 4) : item L i = none := if_neg h
theorem lw_le {L : ℕ → ℕ} (hL : ∀ b, L b ≤ 32768) (b : ℕ) : lw L b ≤ 32768 := hL _
theorem nL_ok {L : ℕ → ℕ} (hL : ∀ b, L b ≤ 32768) (b : ℕ) : 1 ≤ nL L b ∧ nL L b ≤ 8 := ⟨nchOf_pos _, nchOf_le (lw_le hL b)⟩
theorem item_end {L : ℕ → ℕ} (hL : ∀ b, L b ≤ 32768) {i : ℕ} (h : total (nL L) ≤ i) : item L i = none :=
  item_none (by rw [show cu L i = _ from cur_end (fun b => (nL_ok hL b).1) h]; simp)

/-- A slot of the K ring: free, or waiting for the item of a cursor. -/
def PhiK (c : Dev nD) (L : ℕ → ℕ) (fs : Buf (Elt F) (hbmK c)) (k : Fin 6) : Option Cur → sProp 𝕄
  | none => freeK c fs k
  | some x => flyK c fs k x.b x.g x.c (szOf x.c (lw L x.b))

/-- The slots after `i` items have been consumed: each waits for the next item that lands in it. -/
def stK (L : ℕ → ℕ) (i : ℕ) (s : Fin 6) : Option Cur := item L (i + (s.val + 6 - i % 6) % 6)
/-- The slots after the first `t` items have been issued. -/
def preK (L : ℕ → ℕ) (t : ℕ) (s : Fin 6) : Option Cur := if s.val < t then item L s.val else none
/-- The slot of item `i`. -/
abbrev atK (i : ℕ) : Fin 6 := ⟨i % 6, Nat.mod_lt _ (by decide)⟩

theorem stK_self (L : ℕ → ℕ) (i : ℕ) : stK L i (atK i) = item L i := by
  unfold stK
  have h : i % 6 < 6 := Nat.mod_lt _ (by decide)
  show item L (i + (i % 6 + 6 - i % 6) % 6) = _
  rw [show (i % 6 + 6 - i % 6) % 6 = 0 by omega, Nat.add_zero]

theorem stK_succ (L : ℕ → ℕ) (i : ℕ) : stK L (i + 1) = Function.update (stK L i) (atK i) (item L (i + 6)) := by
  funext s
  have hs := s.isLt
  by_cases e : s = atK i
  · subst e
    rw [Function.update_self]
    show item L (i + 1 + (i % 6 + 6 - (i + 1) % 6) % 6) = _
    congr 1; omega
  · have e' : s.val ≠ i % 6 := fun h => e (Fin.ext h)
    rw [Function.update_of_ne e]
    show item L (i + 1 + (s.val + 6 - (i + 1) % 6) % 6) = item L (i + (s.val + 6 - i % 6) % 6)
    congr 1; omega

theorem preK_zero (L : ℕ → ℕ) : preK L 0 = fun _ => none := by
  funext s; unfold preK; rw [if_neg (Nat.not_lt_zero _)]
theorem preK_succ (L : ℕ → ℕ) (t : Fin 6) : preK L (t.val + 1) = Function.update (preK L t.val) t (item L t.val) := by
  funext s
  by_cases e : s = t
  · subst e; rw [Function.update_self]; unfold preK; rw [if_pos (Nat.lt_succ_self _)]
  · have e' : s.val ≠ t.val := fun h => e (Fin.ext h)
    rw [Function.update_of_ne e]; unfold preK
    by_cases h : s.val < t.val
    · rw [if_pos h, if_pos (by omega)]
    · rw [if_neg h, if_neg (by omega)]
theorem preK_full (L : ℕ → ℕ) : preK L 6 = stK L 0 := by
  funext s
  have hs := s.isLt
  unfold preK stK
  rw [if_pos hs]; congr 1; omega
theorem stK_end (L : ℕ → ℕ) (hL : ∀ b, L b ≤ 32768) (i : ℕ) (h : total (nL L) ≤ i) : stK L i = fun _ => none := by
  funext s; unfold stK; exact item_end hL (by omega)

/-- The K ring in a state. -/
def RingK (c : Dev nD) (L : ℕ → ℕ) (fs : Buf (Elt F) (hbmK c)) (st : Fin 6 → Option Cur) : sProp 𝕄 := Ring.AtW (σ := fun _ => Option Cur) (PhiK c L fs) st
/-- The K ring but for a slot. -/
def RestK (c : Dev nD) (L : ℕ → ℕ) (fs : Buf (Elt F) (hbmK c)) (st : Fin 6 → Option Cur) (k : Fin 6) : sProp 𝕄 := Ring.restW (σ := fun _ => Option Cur) (PhiK c L fs) st k

theorem openK (c : Dev nD) (L : ℕ → ℕ) (fs : Buf (Elt F) (hbmK c)) (i : ℕ) (h : (cu L i).b < 4) :
    RingK c L fs (stK L i) ⊢ iprop(flyK c fs (atK i) (cu L i).b (cu L i).g (cu L i).c (szOf (cu L i).c (lw L (cu L i).b)) ∗ RestK c L fs (stK L i) (atK i)) := by
  unfold RingK RestK
  rw [Ring.AtW_focus _ _ (atK i), stK_self, item_some h]
  exact .rfl
theorem issueK_close (c : Dev nD) (L : ℕ → ℕ) (fs : Buf (Elt F) (hbmK c)) (i : ℕ) (h : (cu L (i + 6)).b < 4) :
    iprop(flyK c fs (atK i) (cu L (i + 6)).b (cu L (i + 6)).g (cu L (i + 6)).c (szOf (cu L (i + 6)).c (lw L (cu L (i + 6)).b)) ∗ RestK c L fs (stK L i) (atK i)) ⊢ RingK c L fs (stK L (i + 1)) := by
  unfold RingK RestK
  rw [stK_succ, item_some h]
  exact Ring.AtW_update (σ := fun _ => Option Cur) (PhiK c L fs) (stK L i) (atK i) (some (cu L (i + 6)))
theorem skipK_close (c : Dev nD) (L : ℕ → ℕ) (fs : Buf (Elt F) (hbmK c)) (i : ℕ) (h : ¬ (cu L (i + 6)).b < 4) :
    iprop(freeK c fs (atK i) ∗ RestK c L fs (stK L i) (atK i)) ⊢ RingK c L fs (stK L (i + 1)) := by
  unfold RingK RestK
  rw [stK_succ, item_none h]
  exact Ring.AtW_update (σ := fun _ => Option Cur) (PhiK c L fs) (stK L i) (atK i) none
theorem preK_open (c : Dev nD) (L : ℕ → ℕ) (fs : Buf (Elt F) (hbmK c)) (t : Fin 6) :
    RingK c L fs (preK L t.val) ⊢ iprop(freeK c fs t ∗ RestK c L fs (preK L t.val) t) := by
  unfold RingK RestK
  rw [Ring.AtW_focus _ _ t, show preK L t.val t = none from if_neg (lt_irrefl _)]
  exact .rfl
theorem preK_issue (c : Dev nD) (L : ℕ → ℕ) (fs : Buf (Elt F) (hbmK c)) (t : Fin 6) (h : (cu L t.val).b < 4) :
    iprop(flyK c fs t (cu L t.val).b (cu L t.val).g (cu L t.val).c (szOf (cu L t.val).c (lw L (cu L t.val).b)) ∗ RestK c L fs (preK L t.val) t) ⊢ RingK c L fs (preK L (t.val + 1)) := by
  unfold RingK RestK
  rw [preK_succ, item_some h]
  exact Ring.AtW_update (σ := fun _ => Option Cur) (PhiK c L fs) (preK L t.val) t (some (cu L t.val))
theorem preK_skip (c : Dev nD) (L : ℕ → ℕ) (fs : Buf (Elt F) (hbmK c)) (t : Fin 6) (h : ¬ (cu L t.val).b < 4) :
    RingK c L fs (preK L t.val) ⊢ RingK c L fs (preK L (t.val + 1)) := by
  refine (preK_open c L fs t).trans ?_
  unfold RingK RestK
  rw [preK_succ, item_none h]
  exact Ring.AtW_update (σ := fun _ => Option Cur) (PhiK c L fs) (preK L t.val) t none

theorem slotK_disj (c : Dev nD) (b b' : Fin 6) (h : b ≠ b') : Disjoint (slotK c b.val) (slotK c b'.val) := by
  rw [Finset.disjoint_left]
  intro i h1 h2
  exact h (Fin.ext (((mem_slotK c _ i).1 h1).symm.trans ((mem_slotK c _ i).1 h2)))
theorem slotK_cover (c : Dev nD) : Finset.univ.biUnion (fun k : Fin 6 => slotK c k.val) = Finset.univ := by
  refine Finset.eq_univ_iff_forall.2 fun i => Finset.mem_biUnion.2 ⟨(i 0 : Fin 6), Finset.mem_univ _, (mem_slotK c _ i).2 rfl⟩

theorem allFreeK (c : Dev nD) (fs : Buf (Elt F) (hbmK c)) :
    (bigSep Finset.univ fun k : Fin 6 => freeK c fs k) = (iprop((bigSep Finset.univ fun k : Fin 6 => (semVal ((c : Thread nD τ), cellK k) 0 : sProp 𝕄))
      ∗ (bigSep Finset.univ fun k : Fin 6 => (hbmK c ↦[Finset.univ]{shareK k} fs : sProp 𝕄)) ∗ bigSep Finset.univ fun k : Fin 6 => iprop(∃ f, (locK c ↦[slotK c k]{fullShare} f : sProp 𝕄))) : sProp 𝕄) :=
  (BI.bigSep_sep Finset.univ (Φ := fun k : Fin 6 => (semVal ((c : Thread nD τ), cellK k) 0 : sProp 𝕄)) (Ψ := fun k : Fin 6 => iprop((hbmK c ↦[Finset.univ]{shareK k} fs) ∗ ∃ f, (locK c ↦[slotK c k]{fullShare} f : sProp 𝕄)))).trans
    (congrArg _ (BI.bigSep_sep Finset.univ (Φ := fun k : Fin 6 => (hbmK c ↦[Finset.univ]{shareK k} fs : sProp 𝕄)) (Ψ := fun k : Fin 6 => iprop(∃ f, (locK c ↦[slotK c k]{fullShare} f : sProp 𝕄)))))

theorem slotAnyK (c : Dev nD) (f : Buf (Elt F) (locK c)) :
    (bigSep Finset.univ fun k : Fin 6 => (locK c ↦[slotK c k.val]{fullShare} f : sProp 𝕄)) ⊢ (iprop(bigSep Finset.univ fun k : Fin 6 => iprop(∃ f, (locK c ↦[slotK c k]{fullShare} f : sProp 𝕄))) : sProp 𝕄) :=
  BI.bigSep_mono fun k _ => exists_intro (Φ := fun f => (locK c ↦[slotK c k.val]{fullShare} f : sProp 𝕄)) f

/-- All slots free: the semaphores at rest, the operand and the buffer whole. -/
theorem ringK_in (c : Dev nD) (L : ℕ → ℕ) (fs : Buf (Elt F) (hbmK c)) (f : Buf (Elt F) (locK c)) :
    iprop((bigSep Finset.univ fun k : Fin 6 => (semVal ((c : Thread nD τ), cellK k) 0 : sProp 𝕄)) ∗ (hbmK c ↦[Finset.univ]{fullShare} fs) ∗ (locK c ↦[Finset.univ]{fullShare} f))
      ⊢ iprop(RingK c L fs (fun _ => none) ∗ (hbmK c ↦[Finset.univ]{Transfers.shareDrop fullShare 6} fs)) := by
  unfold RingK Ring.AtW
  rw [show (bigSep Finset.univ fun k : Fin 6 => PhiK c L fs k none) = _ from allFreeK c fs]
  iintro ⟨Hs, Hh, Hl⟩
  icases (Transfers.pointsTo_toks_split fullShare 6) $$ Hh with ⟨Hd, Ht⟩
  isplitr [Hd]
  · isplitl [Hs]; · iexact Hs
    isplitl [Ht]; · iexact Ht
    iapply (slotAnyK c f)
    iapply (BIBase.Entails.of_eq (Ring.pointsTo_blocks (fun k : Fin 6 => slotK c k.val) (slotK_disj c) (slotK_cover c) f)) $$ Hl
  · iexact Hd
theorem ringK_out (c : Dev nD) (L : ℕ → ℕ) (fs : Buf (Elt F) (hbmK c)) (f : Buf (Elt F) (locK c)) :
    iprop(RingK c L fs (fun _ => none) ∗ (hbmK c ↦[Finset.univ]{Transfers.shareDrop fullShare 6} fs))
      ⊢ iprop((bigSep Finset.univ fun k : Fin 6 => (semVal ((c : Thread nD τ), cellK k) 0 : sProp 𝕄)) ∗ (hbmK c ↦[Finset.univ]{fullShare} fs) ∗ ∃ f, (locK c ↦[Finset.univ]{fullShare} f)) := by
  unfold RingK Ring.AtW
  show iprop((bigSep Finset.univ fun k : Fin 6 => freeK c fs k) ∗ _) ⊢ _
  rw [allFreeK]
  iintro ⟨⟨Hs, Ht, Hl⟩, Hd⟩
  isplitl [Hs]; · iexact Hs
  isplitl [Ht Hd]
  · iapply (Transfers.pointsTo_toks_join fullShare 6)
    isplitl [Hd]; · iexact Hd
    iexact Ht
  · iapply (Ring.pointsTo_blocks_join_exists (fun k : Fin 6 => slotK c k.val) (slotK_disj c) (slotK_cover c) f) $$ Hl

/-- A slot of the V ring: free, or waiting for the item of a cursor. -/
def PhiV (c : Dev nD) (L : ℕ → ℕ) (fs : Buf (Elt F) (hbmV c)) (k : Fin 8) : Option Cur → sProp 𝕄
  | none => freeV c fs k
  | some x => flyV c fs k x.b x.g x.c (szOf x.c (lw L x.b))

/-- The slots after `i` items have been consumed: each waits for the next item that lands in it. -/
def stV (L : ℕ → ℕ) (i : ℕ) (s : Fin 8) : Option Cur := item L (i + (s.val + 8 - i % 8) % 8)
/-- The slots after the first `t` items have been issued. -/
def preV (L : ℕ → ℕ) (t : ℕ) (s : Fin 8) : Option Cur := if s.val < t then item L s.val else none
/-- The slot of item `i`. -/
abbrev atV (i : ℕ) : Fin 8 := ⟨i % 8, Nat.mod_lt _ (by decide)⟩

theorem stV_self (L : ℕ → ℕ) (i : ℕ) : stV L i (atV i) = item L i := by
  unfold stV
  have h : i % 8 < 8 := Nat.mod_lt _ (by decide)
  show item L (i + (i % 8 + 8 - i % 8) % 8) = _
  rw [show (i % 8 + 8 - i % 8) % 8 = 0 by omega, Nat.add_zero]

theorem stV_succ (L : ℕ → ℕ) (i : ℕ) : stV L (i + 1) = Function.update (stV L i) (atV i) (item L (i + 8)) := by
  funext s
  have hs := s.isLt
  by_cases e : s = atV i
  · subst e
    rw [Function.update_self]
    show item L (i + 1 + (i % 8 + 8 - (i + 1) % 8) % 8) = _
    congr 1; omega
  · have e' : s.val ≠ i % 8 := fun h => e (Fin.ext h)
    rw [Function.update_of_ne e]
    show item L (i + 1 + (s.val + 8 - (i + 1) % 8) % 8) = item L (i + (s.val + 8 - i % 8) % 8)
    congr 1; omega

theorem preV_zero (L : ℕ → ℕ) : preV L 0 = fun _ => none := by
  funext s; unfold preV; rw [if_neg (Nat.not_lt_zero _)]
theorem preV_succ (L : ℕ → ℕ) (t : Fin 8) : preV L (t.val + 1) = Function.update (preV L t.val) t (item L t.val) := by
  funext s
  by_cases e : s = t
  · subst e; rw [Function.update_self]; unfold preV; rw [if_pos (Nat.lt_succ_self _)]
  · have e' : s.val ≠ t.val := fun h => e (Fin.ext h)
    rw [Function.update_of_ne e]; unfold preV
    by_cases h : s.val < t.val
    · rw [if_pos h, if_pos (by omega)]
    · rw [if_neg h, if_neg (by omega)]
theorem preV_full (L : ℕ → ℕ) : preV L 8 = stV L 0 := by
  funext s
  have hs := s.isLt
  unfold preV stV
  rw [if_pos hs]; congr 1; omega
theorem stV_end (L : ℕ → ℕ) (hL : ∀ b, L b ≤ 32768) (i : ℕ) (h : total (nL L) ≤ i) : stV L i = fun _ => none := by
  funext s; unfold stV; exact item_end hL (by omega)

/-- The V ring in a state. -/
def RingV (c : Dev nD) (L : ℕ → ℕ) (fs : Buf (Elt F) (hbmV c)) (st : Fin 8 → Option Cur) : sProp 𝕄 := Ring.AtW (σ := fun _ => Option Cur) (PhiV c L fs) st
/-- The V ring but for a slot. -/
def RestV (c : Dev nD) (L : ℕ → ℕ) (fs : Buf (Elt F) (hbmV c)) (st : Fin 8 → Option Cur) (k : Fin 8) : sProp 𝕄 := Ring.restW (σ := fun _ => Option Cur) (PhiV c L fs) st k

theorem openV (c : Dev nD) (L : ℕ → ℕ) (fs : Buf (Elt F) (hbmV c)) (i : ℕ) (h : (cu L i).b < 4) :
    RingV c L fs (stV L i) ⊢ iprop(flyV c fs (atV i) (cu L i).b (cu L i).g (cu L i).c (szOf (cu L i).c (lw L (cu L i).b)) ∗ RestV c L fs (stV L i) (atV i)) := by
  unfold RingV RestV
  rw [Ring.AtW_focus _ _ (atV i), stV_self, item_some h]
  exact .rfl
theorem issueV_close (c : Dev nD) (L : ℕ → ℕ) (fs : Buf (Elt F) (hbmV c)) (i : ℕ) (h : (cu L (i + 8)).b < 4) :
    iprop(flyV c fs (atV i) (cu L (i + 8)).b (cu L (i + 8)).g (cu L (i + 8)).c (szOf (cu L (i + 8)).c (lw L (cu L (i + 8)).b)) ∗ RestV c L fs (stV L i) (atV i)) ⊢ RingV c L fs (stV L (i + 1)) := by
  unfold RingV RestV
  rw [stV_succ, item_some h]
  exact Ring.AtW_update (σ := fun _ => Option Cur) (PhiV c L fs) (stV L i) (atV i) (some (cu L (i + 8)))
theorem skipV_close (c : Dev nD) (L : ℕ → ℕ) (fs : Buf (Elt F) (hbmV c)) (i : ℕ) (h : ¬ (cu L (i + 8)).b < 4) :
    iprop(freeV c fs (atV i) ∗ RestV c L fs (stV L i) (atV i)) ⊢ RingV c L fs (stV L (i + 1)) := by
  unfold RingV RestV
  rw [stV_succ, item_none h]
  exact Ring.AtW_update (σ := fun _ => Option Cur) (PhiV c L fs) (stV L i) (atV i) none
theorem preV_open (c : Dev nD) (L : ℕ → ℕ) (fs : Buf (Elt F) (hbmV c)) (t : Fin 8) :
    RingV c L fs (preV L t.val) ⊢ iprop(freeV c fs t ∗ RestV c L fs (preV L t.val) t) := by
  unfold RingV RestV
  rw [Ring.AtW_focus _ _ t, show preV L t.val t = none from if_neg (lt_irrefl _)]
  exact .rfl
theorem preV_issue (c : Dev nD) (L : ℕ → ℕ) (fs : Buf (Elt F) (hbmV c)) (t : Fin 8) (h : (cu L t.val).b < 4) :
    iprop(flyV c fs t (cu L t.val).b (cu L t.val).g (cu L t.val).c (szOf (cu L t.val).c (lw L (cu L t.val).b)) ∗ RestV c L fs (preV L t.val) t) ⊢ RingV c L fs (preV L (t.val + 1)) := by
  unfold RingV RestV
  rw [preV_succ, item_some h]
  exact Ring.AtW_update (σ := fun _ => Option Cur) (PhiV c L fs) (preV L t.val) t (some (cu L t.val))
theorem preV_skip (c : Dev nD) (L : ℕ → ℕ) (fs : Buf (Elt F) (hbmV c)) (t : Fin 8) (h : ¬ (cu L t.val).b < 4) :
    RingV c L fs (preV L t.val) ⊢ RingV c L fs (preV L (t.val + 1)) := by
  refine (preV_open c L fs t).trans ?_
  unfold RingV RestV
  rw [preV_succ, item_none h]
  exact Ring.AtW_update (σ := fun _ => Option Cur) (PhiV c L fs) (preV L t.val) t none

theorem slotV_disj (c : Dev nD) (b b' : Fin 8) (h : b ≠ b') : Disjoint (slotV c b.val) (slotV c b'.val) := by
  rw [Finset.disjoint_left]
  intro i h1 h2
  exact h (Fin.ext (((mem_slotV c _ i).1 h1).symm.trans ((mem_slotV c _ i).1 h2)))
theorem slotV_cover (c : Dev nD) : Finset.univ.biUnion (fun k : Fin 8 => slotV c k.val) = Finset.univ := by
  refine Finset.eq_univ_iff_forall.2 fun i => Finset.mem_biUnion.2 ⟨(i 0 : Fin 8), Finset.mem_univ _, (mem_slotV c _ i).2 rfl⟩

theorem allFreeV (c : Dev nD) (fs : Buf (Elt F) (hbmV c)) :
    (bigSep Finset.univ fun k : Fin 8 => freeV c fs k) = (iprop((bigSep Finset.univ fun k : Fin 8 => (semVal ((c : Thread nD τ), cellV k) 0 : sProp 𝕄))
      ∗ (bigSep Finset.univ fun k : Fin 8 => (hbmV c ↦[Finset.univ]{shareV k} fs : sProp 𝕄)) ∗ bigSep Finset.univ fun k : Fin 8 => iprop(∃ f, (locV c ↦[slotV c k]{fullShare} f : sProp 𝕄))) : sProp 𝕄) :=
  (BI.bigSep_sep Finset.univ (Φ := fun k : Fin 8 => (semVal ((c : Thread nD τ), cellV k) 0 : sProp 𝕄)) (Ψ := fun k : Fin 8 => iprop((hbmV c ↦[Finset.univ]{shareV k} fs) ∗ ∃ f, (locV c ↦[slotV c k]{fullShare} f : sProp 𝕄)))).trans
    (congrArg _ (BI.bigSep_sep Finset.univ (Φ := fun k : Fin 8 => (hbmV c ↦[Finset.univ]{shareV k} fs : sProp 𝕄)) (Ψ := fun k : Fin 8 => iprop(∃ f, (locV c ↦[slotV c k]{fullShare} f : sProp 𝕄)))))

theorem slotAnyV (c : Dev nD) (f : Buf (Elt F) (locV c)) :
    (bigSep Finset.univ fun k : Fin 8 => (locV c ↦[slotV c k.val]{fullShare} f : sProp 𝕄)) ⊢ (iprop(bigSep Finset.univ fun k : Fin 8 => iprop(∃ f, (locV c ↦[slotV c k]{fullShare} f : sProp 𝕄))) : sProp 𝕄) :=
  BI.bigSep_mono fun k _ => exists_intro (Φ := fun f => (locV c ↦[slotV c k.val]{fullShare} f : sProp 𝕄)) f

/-- All slots free: the semaphores at rest, the operand and the buffer whole. -/
theorem ringV_in (c : Dev nD) (L : ℕ → ℕ) (fs : Buf (Elt F) (hbmV c)) (f : Buf (Elt F) (locV c)) :
    iprop((bigSep Finset.univ fun k : Fin 8 => (semVal ((c : Thread nD τ), cellV k) 0 : sProp 𝕄)) ∗ (hbmV c ↦[Finset.univ]{fullShare} fs) ∗ (locV c ↦[Finset.univ]{fullShare} f))
      ⊢ iprop(RingV c L fs (fun _ => none) ∗ (hbmV c ↦[Finset.univ]{Transfers.shareDrop fullShare 8} fs)) := by
  unfold RingV Ring.AtW
  rw [show (bigSep Finset.univ fun k : Fin 8 => PhiV c L fs k none) = _ from allFreeV c fs]
  iintro ⟨Hs, Hh, Hl⟩
  icases (Transfers.pointsTo_toks_split fullShare 8) $$ Hh with ⟨Hd, Ht⟩
  isplitr [Hd]
  · isplitl [Hs]; · iexact Hs
    isplitl [Ht]; · iexact Ht
    iapply (slotAnyV c f)
    iapply (BIBase.Entails.of_eq (Ring.pointsTo_blocks (fun k : Fin 8 => slotV c k.val) (slotV_disj c) (slotV_cover c) f)) $$ Hl
  · iexact Hd
theorem ringV_out (c : Dev nD) (L : ℕ → ℕ) (fs : Buf (Elt F) (hbmV c)) (f : Buf (Elt F) (locV c)) :
    iprop(RingV c L fs (fun _ => none) ∗ (hbmV c ↦[Finset.univ]{Transfers.shareDrop fullShare 8} fs))
      ⊢ iprop((bigSep Finset.univ fun k : Fin 8 => (semVal ((c : Thread nD τ), cellV k) 0 : sProp 𝕄)) ∗ (hbmV c ↦[Finset.univ]{fullShare} fs) ∗ ∃ f, (locV c ↦[Finset.univ]{fullShare} f)) := by
  unfold RingV Ring.AtW
  show iprop((bigSep Finset.univ fun k : Fin 8 => freeV c fs k) ∗ _) ⊢ _
  rw [allFreeV]
  iintro ⟨⟨Hs, Ht, Hl⟩, Hd⟩
  isplitl [Hs]; · iexact Hs
  isplitl [Ht Hd]
  · iapply (Transfers.pointsTo_toks_join fullShare 8)
    isplitl [Hd]; · iexact Hd
    iexact Ht
  · iapply (Ring.pointsTo_blocks_join_exists (fun k : Fin 8 => slotV c k.val) (slotV_disj c) (slotV_cover c) f) $$ Hl

end Cert.Kernel.Hand
-- ==== Proof.K.FragA.lean ====
module

public import proofs.«01_k».proof.Proof.K.Mem
public import Idealize.ShloMosaic.Lib.Pipeline.FrameBody
public import Idealize.ShloMosaic.Lib.Pipeline.DatRel
public import Idealize.ShloMosaic.Lib.Ring
public import Idealize.ShloMosaic.Lib.Tactic
public import Idealize.ShloMosaic.Lib.WordCmp

@[expose] public section

set_option maxRecDepth 16384

/-!
The arithmetic parts of the loop body: each loads and stores its buffers and goes on.
-/

noncomputable section

namespace Cert.Kernel.Hand

open Cert.Kernel Cert.Kernel.Gen Cert.Words
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-- The buffers the arithmetic works on: the lengths, the queries and the scales at fixed contents, the rest at any. -/
def Bufs (c : Dev nD) (a0 : Memref sig .tc .smem S4 .i32) (a1 : Memref sig .tc .vmem S24x8x160 .bf16) (a4 : Memref sig .tc .vmem S6x4x160 .f32) (a12 : Memref sig .tc .vmem S16x8x4096 .f32) (a13 : Memref sig .tc .vmem S8x128 .f32) (a14 : Memref sig .tc .vmem S24x8x128 .f32) (a15 : Memref sig .tc .vmem S8x128 .f32) (a16 : Memref sig .tc .vmem S8x160 .f32) (a17 : Memref sig .tc .vmem S6x4x160 .f32) (a18 : Memref sig .tc .vmem S6x4x160 .f32) (a8 : Memref sig .tc .vmem S24x8x160 .f32) (a7 : Memref sig .tc .vmem S24x8x160 .bf16)
    (f0 : Buf (Elt F) (a0.view.loc (c : Thread nD τ))) (f1 : Buf (Elt F) (a1.view.loc (c : Thread nD τ))) (f4 : Buf (Elt F) (a4.view.loc (c : Thread nD τ))) : sProp 𝕄 :=
  iprop(pt c a0 f0 ∗ pt c a1 f1 ∗ pt c a4 f4 ∗ (∃ f, pt c a12 f) ∗ (∃ f, pt c a13 f) ∗ (∃ f, pt c a14 f) ∗ (∃ f, pt c a15 f) ∗ (∃ f, pt c a16 f) ∗ (∃ f, pt c a17 f) ∗ (∃ f, pt c a18 f) ∗ (∃ f, pt c a8 f) ∗ (∃ f, pt c a7 f))

variable (c : Dev nD) (bd : Option Variants.nat.V) (a0 : Memref sig .tc .smem S4 .i32) (p0 : a0.IsWhole) (a1 : Memref sig .tc .vmem S24x8x160 .bf16) (p1 : a1.IsWhole) (a12 : Memref sig .tc .vmem S16x8x4096 .f32) (p12 : a12.IsWhole) (a13 : Memref sig .tc .vmem S8x128 .f32) (p13 : a13.IsWhole) (a14 : Memref sig .tc .vmem S24x8x128 .f32) (p14 : a14.IsWhole) (a15 : Memref sig .tc .vmem S8x128 .f32) (p15 : a15.IsWhole) (a16 : Memref sig .tc .vmem S8x160 .f32) (p16 : a16.IsWhole) (a17 : Memref sig .tc .vmem S6x4x160 .f32) (p17 : a17.IsWhole) (a4 : Memref sig .tc .vmem S6x4x160 .f32) (p4 : a4.IsWhole) (a8 : Memref sig .tc .vmem S24x8x160 .f32) (p8 : a8.IsWhole) (a18 : Memref sig .tc .vmem S6x4x160 .f32) (p18 : a18.IsWhole) (a7 : Memref sig .tc .vmem S24x8x160 .bf16) (p7 : a7.IsWhole)
variable (a21 a22 a23 a24 a25 a26 a27 a28 a29 a30 a31 a32 a33 a34 a35 a36 : BitVec 32)
variable {f0 : Buf (Elt F) (a0.view.loc (c : Thread nD τ))} {f1 : Buf (Elt F) (a1.view.loc (c : Thread nD τ))} {f4 : Buf (Elt F) (a4.view.loc (c : Thread nD τ))}

theorem part2_wp {α : Type} (k0_hw15 : k0_chk15 a21 a22 a24 a25 a35) (k0_hw11 : k0_chk11 a21 a22 a24 a25) (k0_hw10 : k0_chk10 a21 a22 a24 a25 a27 a33) (k0_h5 : k0_cond5 a21 a22 a24 a25 = 1#1) {L : ℕ → ℕ} (hL : LensOk a0 c f0 L) (b0 : ℕ) (hb : k0_off21 a21 = ![b0]) (k' : Fin 6) (hk : k0_off20 a33 = ![k'.val, 0, 0]) (fS : Buf (Elt F) (locK c))
    {kk} {Q : α → sProp 𝕄} :
    iprop(Bufs c a0 a1 a4 a12 a13 a14 a15 a16 a17 a18 a8 a7 f0 f1 f4 ∗ (locK c ↦[slotK c k'.val]{fullShare} fS)) ⊢ iprop((∀ r, iprop(Bufs c a0 a1 a4 a12 a13 a14 a15 a16 a17 a18 a8 a7 f0 f1 f4 ∗ (locK c ↦[slotK c k'.val]{fullShare} fS)) -∗ wp frame (wpE (defs₀ (F := F)) Variants.nat c.tc bd) Set.univ (kk r) Q)
      -∗ wp frame (wpE (defs₀ (F := F)) Variants.nat c.tc bd) Set.univ (k0_part2 (F := F) a0 p0 cc0_scratch9 (Memref.whole cc0_scratch0) (isW _) (Memref.whole main_v2) (isW _) cc0_scratch10 (Memref.whole cc0_scratch1) (isW _) (Memref.whole main_v4) (isW _) a1 p1 a12 p12 a13 p13 a14 p14 a15 p15 a16 p16 a17 p17 a4 p4 a8 p8 a18 p18 a7 p7 a21 a22 a23 a24 a25 a26 a27 a28 a29 a30 a31 a32 a33 a34 a35 a36 k0_hw15 k0_hw11 k0_hw10 k0_h5 >>= kk) Q) := by
  rw [k0_part2_eq_skeleton]; unfold k0_part2_skel Bufs
  simp only [Prog.lift, Prog.bind_op, Prog.bind_ret, Prog.pure_eq_ret, Prog.bind_assoc]
  iintro ⟨⟨H0, H1, H4, ⟨%f12, H12⟩, ⟨%f13, H13⟩, ⟨%f14, H14⟩, ⟨%f15, H15⟩, ⟨%f16, H16⟩, ⟨%f17, H17⟩, ⟨%f18, H18⟩, ⟨%f8, H8⟩, ⟨%f7, H7⟩⟩, HS⟩ Hk
  iapply (ld c bd) $$ H1; iintro H1
  iapply (ldK c bd hk) $$ HS; iintro HS
  iapply (ldLen c bd hL b0 hb) $$ H0; iintro H0
  iapply (ld c bd) $$ H12; iintro H12
  iapply (st c bd) $$ H12; iintro H12
  iapply Hk
  isplitr [HS]
  · isplitl [H0]; · iexact H0
    isplitl [H1]; · iexact H1
    isplitl [H4]; · iexact H4
    isplitl [H12]; · iexists _; iexact H12
    isplitl [H13]; · iexists _; iexact H13
    isplitl [H14]; · iexists _; iexact H14
    isplitl [H15]; · iexists _; iexact H15
    isplitl [H16]; · iexists _; iexact H16
    isplitl [H17]; · iexists _; iexact H17
    isplitl [H18]; · iexists _; iexact H18
    isplitl [H8]; · iexists _; iexact H8
    iexists _; iexact H7
  · iexact HS

theorem part3_wp {α : Type} (v300 : FVec F S8x4096 .f32) (v325 : FVec F S8x128 .f32) (v326 : FVec F S8x128 .f32)
    {kk} {Q : α → sProp 𝕄} :
    Bufs c a0 a1 a4 a12 a13 a14 a15 a16 a17 a18 a8 a7 f0 f1 f4 ⊢ iprop((∀ r, Bufs c a0 a1 a4 a12 a13 a14 a15 a16 a17 a18 a8 a7 f0 f1 f4 -∗ wp frame (wpE (defs₀ (F := F)) Variants.nat c.tc bd) Set.univ (kk r) Q)
      -∗ wp frame (wpE (defs₀ (F := F)) Variants.nat c.tc bd) Set.univ (k0_part3 (F := F) a0 p0 cc0_scratch9 (Memref.whole cc0_scratch0) (isW _) (Memref.whole main_v2) (isW _) cc0_scratch10 (Memref.whole cc0_scratch1) (isW _) (Memref.whole main_v4) (isW _) a1 p1 a12 p12 a13 p13 a14 p14 a15 p15 a16 p16 a17 p17 a4 p4 a8 p8 a18 p18 a7 p7 a21 a22 a23 a24 a25 a26 a27 a28 a29 a30 a31 a32 a33 a34 a35 a36 v300 v325 v326 >>= kk) Q) := by
  rw [k0_part3_eq_skeleton]; unfold k0_part3_skel Bufs
  simp only [Prog.lift, Prog.bind_op, Prog.bind_ret, Prog.pure_eq_ret, Prog.bind_assoc]
  iintro ⟨H0, H1, H4, ⟨%f12, H12⟩, ⟨%f13, H13⟩, ⟨%f14, H14⟩, ⟨%f15, H15⟩, ⟨%f16, H16⟩, ⟨%f17, H17⟩, ⟨%f18, H18⟩, ⟨%f8, H8⟩, ⟨%f7, H7⟩⟩ Hk
  iapply (ld c bd) $$ H13; iintro H13
  iapply (ld c bd) $$ H13; iintro H13
  iapply (st c bd) $$ H13; iintro H13
  iapply Hk
  isplitl [H0]; · iexact H0
  isplitl [H1]; · iexact H1
  isplitl [H4]; · iexact H4
  isplitl [H12]; · iexists _; iexact H12
  isplitl [H13]; · iexists _; iexact H13
  isplitl [H14]; · iexists _; iexact H14
  isplitl [H15]; · iexists _; iexact H15
  isplitl [H16]; · iexists _; iexact H16
  isplitl [H17]; · iexists _; iexact H17
  isplitl [H18]; · iexists _; iexact H18
  isplitl [H8]; · iexists _; iexact H8
  iexists _; iexact H7

theorem part4_wp {α : Type} (k0_hw16 : k0_chk16 a21 a22 a24 a25 a36) (k0_hw11 : k0_chk11 a21 a22 a24 a25) (k0_h5 : k0_cond5 a21 a22 a24 a25 = 1#1)
    {kk} {Q : α → sProp 𝕄} :
    Bufs c a0 a1 a4 a12 a13 a14 a15 a16 a17 a18 a8 a7 f0 f1 f4 ⊢ iprop((∀ r, Bufs c a0 a1 a4 a12 a13 a14 a15 a16 a17 a18 a8 a7 f0 f1 f4 -∗ wp frame (wpE (defs₀ (F := F)) Variants.nat c.tc bd) Set.univ (kk r) Q)
      -∗ wp frame (wpE (defs₀ (F := F)) Variants.nat c.tc bd) Set.univ (k0_part4 (F := F) a0 p0 cc0_scratch9 (Memref.whole cc0_scratch0) (isW _) (Memref.whole main_v2) (isW _) cc0_scratch10 (Memref.whole cc0_scratch1) (isW _) (Memref.whole main_v4) (isW _) a1 p1 a12 p12 a13 p13 a14 p14 a15 p15 a16 p16 a17 p17 a4 p4 a8 p8 a18 p18 a7 p7 a21 a22 a23 a24 a25 a26 a27 a28 a29 a30 a31 a32 a33 a34 a35 a36 k0_hw16 k0_hw11 k0_h5 >>= kk) Q) := by
  rw [k0_part4_eq_skeleton]; unfold k0_part4_skel Bufs
  simp only [Prog.lift, Prog.bind_op, Prog.bind_ret, Prog.pure_eq_ret, Prog.bind_assoc]
  iintro ⟨H0, H1, H4, ⟨%f12, H12⟩, ⟨%f13, H13⟩, ⟨%f14, H14⟩, ⟨%f15, H15⟩, ⟨%f16, H16⟩, ⟨%f17, H17⟩, ⟨%f18, H18⟩, ⟨%f8, H8⟩, ⟨%f7, H7⟩⟩ Hk
  iapply (ld c bd) $$ H14; iintro H14
  iapply (ld c bd) $$ H15; iintro H15
  iapply (ld c bd) $$ H12; iintro H12
  iapply (ld c bd) $$ H12; iintro H12
  iapply (ld c bd) $$ H12; iintro H12
  iapply (ld c bd) $$ H12; iintro H12
  iapply Hk
  isplitl [H0]; · iexact H0
  isplitl [H1]; · iexact H1
  isplitl [H4]; · iexact H4
  isplitl [H12]; · iexists _; iexact H12
  isplitl [H13]; · iexists _; iexact H13
  isplitl [H14]; · iexists _; iexact H14
  isplitl [H15]; · iexists _; iexact H15
  isplitl [H16]; · iexists _; iexact H16
  isplitl [H17]; · iexists _; iexact H17
  isplitl [H18]; · iexists _; iexact H18
  isplitl [H8]; · iexists _; iexact H8
  iexists _; iexact H7

theorem part5_wp {α : Type} (k0_hw16 : k0_chk16 a21 a22 a24 a25 a36) (k0_h5 : k0_cond5 a21 a22 a24 a25 = 1#1) (v379 : FVec F S8x128 .f32) (v418 : FVec F S8x128 .f32) (v419 : FVec F S8x128 .f32)
    {kk} {Q : α → sProp 𝕄} :
    Bufs c a0 a1 a4 a12 a13 a14 a15 a16 a17 a18 a8 a7 f0 f1 f4 ⊢ iprop((∀ r, Bufs c a0 a1 a4 a12 a13 a14 a15 a16 a17 a18 a8 a7 f0 f1 f4 -∗ wp frame (wpE (defs₀ (F := F)) Variants.nat c.tc bd) Set.univ (kk r) Q)
      -∗ wp frame (wpE (defs₀ (F := F)) Variants.nat c.tc bd) Set.univ (k0_part5 (F := F) a0 p0 cc0_scratch9 (Memref.whole cc0_scratch0) (isW _) (Memref.whole main_v2) (isW _) cc0_scratch10 (Memref.whole cc0_scratch1) (isW _) (Memref.whole main_v4) (isW _) a1 p1 a12 p12 a13 p13 a14 p14 a15 p15 a16 p16 a17 p17 a4 p4 a8 p8 a18 p18 a7 p7 a21 a22 a23 a24 a25 a26 a27 a28 a29 a30 a31 a32 a33 a34 a35 a36 k0_hw16 k0_h5 v379 v418 v419 >>= kk) Q) := by
  rw [k0_part5_eq_skeleton]; unfold k0_part5_skel Bufs
  simp only [Prog.lift, Prog.bind_op, Prog.bind_ret, Prog.pure_eq_ret, Prog.bind_assoc]
  iintro ⟨H0, H1, H4, ⟨%f12, H12⟩, ⟨%f13, H13⟩, ⟨%f14, H14⟩, ⟨%f15, H15⟩, ⟨%f16, H16⟩, ⟨%f17, H17⟩, ⟨%f18, H18⟩, ⟨%f8, H8⟩, ⟨%f7, H7⟩⟩ Hk
  iapply (ld c bd) $$ H12; iintro H12
  iapply (ld c bd) $$ H12; iintro H12
  iapply (ld c bd) $$ H12; iintro H12
  iapply (ld c bd) $$ H12; iintro H12
  iapply Hk
  isplitl [H0]; · iexact H0
  isplitl [H1]; · iexact H1
  isplitl [H4]; · iexact H4
  isplitl [H12]; · iexists _; iexact H12
  isplitl [H13]; · iexists _; iexact H13
  isplitl [H14]; · iexists _; iexact H14
  isplitl [H15]; · iexists _; iexact H15
  isplitl [H16]; · iexists _; iexact H16
  isplitl [H17]; · iexists _; iexact H17
  isplitl [H18]; · iexists _; iexact H18
  isplitl [H8]; · iexists _; iexact H8
  iexists _; iexact H7

theorem part6_wp {α : Type} (k0_hw16 : k0_chk16 a21 a22 a24 a25 a36) (k0_h5 : k0_cond5 a21 a22 a24 a25 = 1#1) (v379 : FVec F S8x128 .f32) (v459 : FVec F S8x128 .f32) (v461 : FVec F S8x128 .f32) (cst_201 : F .f32)
    {kk} {Q : α → sProp 𝕄} :
    Bufs c a0 a1 a4 a12 a13 a14 a15 a16 a17 a18 a8 a7 f0 f1 f4 ⊢ iprop((∀ r, Bufs c a0 a1 a4 a12 a13 a14 a15 a16 a17 a18 a8 a7 f0 f1 f4 -∗ wp frame (wpE (defs₀ (F := F)) Variants.nat c.tc bd) Set.univ (kk r) Q)
      -∗ wp frame (wpE (defs₀ (F := F)) Variants.nat c.tc bd) Set.univ (k0_part6 (F := F) a0 p0 cc0_scratch9 (Memref.whole cc0_scratch0) (isW _) (Memref.whole main_v2) (isW _) cc0_scratch10 (Memref.whole cc0_scratch1) (isW _) (Memref.whole main_v4) (isW _) a1 p1 a12 p12 a13 p13 a14 p14 a15 p15 a16 p16 a17 p17 a4 p4 a8 p8 a18 p18 a7 p7 a21 a22 a23 a24 a25 a26 a27 a28 a29 a30 a31 a32 a33 a34 a35 a36 k0_hw16 k0_h5 v379 v459 v461 cst_201 >>= kk) Q) := by
  rw [k0_part6_eq_skeleton]; unfold k0_part6_skel Bufs
  simp only [Prog.lift, Prog.bind_op, Prog.bind_ret, Prog.pure_eq_ret, Prog.bind_assoc]
  iintro ⟨H0, H1, H4, ⟨%f12, H12⟩, ⟨%f13, H13⟩, ⟨%f14, H14⟩, ⟨%f15, H15⟩, ⟨%f16, H16⟩, ⟨%f17, H17⟩, ⟨%f18, H18⟩, ⟨%f8, H8⟩, ⟨%f7, H7⟩⟩ Hk
  iapply (ld c bd) $$ H12; iintro H12
  iapply (ld c bd) $$ H12; iintro H12
  iapply (ld c bd) $$ H12; iintro H12
  iapply (ld c bd) $$ H12; iintro H12
  iapply Hk
  isplitl [H0]; · iexact H0
  isplitl [H1]; · iexact H1
  isplitl [H4]; · iexact H4
  isplitl [H12]; · iexists _; iexact H12
  isplitl [H13]; · iexists _; iexact H13
  isplitl [H14]; · iexists _; iexact H14
  isplitl [H15]; · iexists _; iexact H15
  isplitl [H16]; · iexists _; iexact H16
  isplitl [H17]; · iexists _; iexact H17
  isplitl [H18]; · iexists _; iexact H18
  isplitl [H8]; · iexists _; iexact H8
  iexists _; iexact H7

theorem part7_wp {α : Type} (k0_hw16 : k0_chk16 a21 a22 a24 a25 a36) (k0_h5 : k0_cond5 a21 a22 a24 a25 = 1#1) (v379 : FVec F S8x128 .f32) (v499 : FVec F S8x128 .f32)
    {kk} {Q : α → sProp 𝕄} :
    Bufs c a0 a1 a4 a12 a13 a14 a15 a16 a17 a18 a8 a7 f0 f1 f4 ⊢ iprop((∀ r, Bufs c a0 a1 a4 a12 a13 a14 a15 a16 a17 a18 a8 a7 f0 f1 f4 -∗ wp frame (wpE (defs₀ (F := F)) Variants.nat c.tc bd) Set.univ (kk r) Q)
      -∗ wp frame (wpE (defs₀ (F := F)) Variants.nat c.tc bd) Set.univ (k0_part7 (F := F) a0 p0 cc0_scratch9 (Memref.whole cc0_scratch0) (isW _) (Memref.whole main_v2) (isW _) cc0_scratch10 (Memref.whole cc0_scratch1) (isW _) (Memref.whole main_v4) (isW _) a1 p1 a12 p12 a13 p13 a14 p14 a15 p15 a16 p16 a17 p17 a4 p4 a8 p8 a18 p18 a7 p7 a21 a22 a23 a24 a25 a26 a27 a28 a29 a30 a31 a32 a33 a34 a35 a36 k0_hw16 k0_h5 v379 v499 >>= kk) Q) := by
  rw [k0_part7_eq_skeleton]; unfold k0_part7_skel Bufs
  simp only [Prog.lift, Prog.bind_op, Prog.bind_ret, Prog.pure_eq_ret, Prog.bind_assoc]
  iintro ⟨H0, H1, H4, ⟨%f12, H12⟩, ⟨%f13, H13⟩, ⟨%f14, H14⟩, ⟨%f15, H15⟩, ⟨%f16, H16⟩, ⟨%f17, H17⟩, ⟨%f18, H18⟩, ⟨%f8, H8⟩, ⟨%f7, H7⟩⟩ Hk
  iapply (ld c bd) $$ H12; iintro H12
  iapply (ld c bd) $$ H12; iintro H12
  iapply (ld c bd) $$ H12; iintro H12
  iapply (ld c bd) $$ H12; iintro H12
  iapply (ld c bd) $$ H12; iintro H12
  iapply Hk
  isplitl [H0]; · iexact H0
  isplitl [H1]; · iexact H1
  isplitl [H4]; · iexact H4
  isplitl [H12]; · iexists _; iexact H12
  isplitl [H13]; · iexists _; iexact H13
  isplitl [H14]; · iexists _; iexact H14
  isplitl [H15]; · iexists _; iexact H15
  isplitl [H16]; · iexists _; iexact H16
  isplitl [H17]; · iexists _; iexact H17
  isplitl [H18]; · iexists _; iexact H18
  isplitl [H8]; · iexists _; iexact H8
  iexists _; iexact H7

end Cert.Kernel.Hand
-- ==== Proof.K.Acc.lean ====
module

public import proofs.«01_k».proof.Proof.K.State
public import proofs.«01_k».proof.Proof.K.FragA
public import Idealize.ShloMosaic.Lib.Pipeline.FrameBody
public import Idealize.ShloMosaic.Lib.Pipeline.DatRel
public import Idealize.ShloMosaic.Lib.Ring
public import Idealize.ShloMosaic.Lib.Tactic
public import Idealize.ShloMosaic.Lib.WordCmp

@[expose] public section

set_option maxRecDepth 16384

/-!
Loads and stores of the working buffers, each giving the buffers back.
-/

noncomputable section

namespace Cert.Kernel.Hand

open Cert.Kernel Cert.Kernel.Gen Cert.Words
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

theorem off1 {s : ℕ} (h : s < 2 ^ 32) : (![(W s).toNat] : Fin 1 → ℕ) = ![s] := by rw [toNat_W h]
theorem off3 {s : ℕ} (h : s < 2 ^ 32) : (![(W s).toNat, 0, 0] : Fin 3 → ℕ) = ![s, 0, 0] := by rw [toNat_W h]
theorem offL {b : ℕ} (h : b ≤ 4) : (![(Scalar.minsi (W b) 3#32).toNat] : Fin 1 → ℕ) = ![min b 3] := by rw [lenN h]
theorem sz2 {x L : ℕ} (hL : L ≤ 32768) (hc : x < nchOf L) : (![160, (k0_mult1 (W x) (W L)).toNat] : Fin 2 → ℕ) = ![160, szOf x L] := by rw [szN hL hc]
theorem sz3 {x L : ℕ} (hL : L ≤ 32768) (hc : x < nchOf L) : (![1, 160, (k0_mult1 (W x) (W L)).toNat] : Fin 3 → ℕ) = ![1, 160, szOf x L] := by rw [szN hL hc]
theorem offP {b g x : ℕ} (hb : b ≤ 4) (hg : g < 6) (hx : x < 8) :
    (![(Scalar.addi (Scalar.muli (W b) 6#32) (W g)).toNat, 0, (Scalar.muli (W x) 4096#32).toNat] : Fin 3 → ℕ) = ![b * 6 + g, 0, x * 4096] := by
  rw [pairN hb hg, colN hx]

section

variable (c : Dev nD) (bd : Option Variants.nat.V) (a0 : Memref sig .tc .smem S4 .i32) (p0 : a0.IsWhole) (a1 : Memref sig .tc .vmem S24x8x160 .bf16) (p1 : a1.IsWhole) (a12 : Memref sig .tc .vmem S16x8x4096 .f32) (p12 : a12.IsWhole) (a13 : Memref sig .tc .vmem S8x128 .f32) (p13 : a13.IsWhole) (a14 : Memref sig .tc .vmem S24x8x128 .f32) (p14 : a14.IsWhole) (a15 : Memref sig .tc .vmem S8x128 .f32) (p15 : a15.IsWhole) (a16 : Memref sig .tc .vmem S8x160 .f32) (p16 : a16.IsWhole) (a17 : Memref sig .tc .vmem S6x4x160 .f32) (p17 : a17.IsWhole) (a4 : Memref sig .tc .vmem S6x4x160 .f32) (p4 : a4.IsWhole) (a8 : Memref sig .tc .vmem S24x8x160 .f32) (p8 : a8.IsWhole) (a18 : Memref sig .tc .vmem S6x4x160 .f32) (p18 : a18.IsWhole) (a7 : Memref sig .tc .vmem S24x8x160 .bf16) (p7 : a7.IsWhole)
variable {f0 : Buf (Elt F) (a0.view.loc (c : Thread nD τ))} {f1 : Buf (Elt F) (a1.view.loc (c : Thread nD τ))} {f4 : Buf (Elt F) (a4.view.loc (c : Thread nD τ))}

theorem ldB13 {α : Type} {Q : α → sProp 𝕄} {r : LoadRect S8x128} {hl : a13.view.LoadsAt r} {k : (r.shape.Idx → Elt F .f32) → Prog (TpuEff nD τ sig (Elt F) (Λ₀ F) .tc) α} :
    Bufs c a0 a1 a4 a12 a13 a14 a15 a16 a17 a18 a8 a7 f0 f1 f4 ⊢ iprop((∀ v, Bufs c a0 a1 a4 a12 a13 a14 a15 a16 a17 a18 a8 a7 f0 f1 f4 -∗ wp frame (wpE (defs₀ (F := F)) Variants.nat c.tc bd) Set.univ (k v) Q) -∗ wp frame (wpE (defs₀ (F := F)) Variants.nat c.tc bd) Set.univ (.op (.load a13 r hl) k) Q) := by
  unfold Bufs
  iintro ⟨H0, H1, H4, ⟨%f12, H12⟩, ⟨%f13, H13⟩, ⟨%f14, H14⟩, ⟨%f15, H15⟩, ⟨%f16, H16⟩, ⟨%f17, H17⟩, ⟨%f18, H18⟩, ⟨%f8, H8⟩, ⟨%f7, H7⟩⟩ Hk
  iapply (ld c bd) $$ H13; iintro H13
  iapply Hk
  isplitl [H0]; · iexact H0
  isplitl [H1]; · iexact H1
  isplitl [H4]; · iexact H4
  isplitl [H12]; · iexists _; iexact H12
  isplitl [H13]; · iexists _; iexact H13
  isplitl [H14]; · iexists _; iexact H14
  isplitl [H15]; · iexists _; iexact H15
  isplitl [H16]; · iexists _; iexact H16
  isplitl [H17]; · iexists _; iexact H17
  isplitl [H18]; · iexists _; iexact H18
  isplitl [H8]; · iexists _; iexact H8
  iexists _; iexact H7

theorem ldB16 {α : Type} {Q : α → sProp 𝕄} {r : LoadRect S8x160} {hl : a16.view.LoadsAt r} {k : (r.shape.Idx → Elt F .f32) → Prog (TpuEff nD τ sig (Elt F) (Λ₀ F) .tc) α} :
    Bufs c a0 a1 a4 a12 a13 a14 a15 a16 a17 a18 a8 a7 f0 f1 f4 ⊢ iprop((∀ v, Bufs c a0 a1 a4 a12 a13 a14 a15 a16 a17 a18 a8 a7 f0 f1 f4 -∗ wp frame (wpE (defs₀ (F := F)) Variants.nat c.tc bd) Set.univ (k v) Q) -∗ wp frame (wpE (defs₀ (F := F)) Variants.nat c.tc bd) Set.univ (.op (.load a16 r hl) k) Q) := by
  unfold Bufs
  iintro ⟨H0, H1, H4, ⟨%f12, H12⟩, ⟨%f13, H13⟩, ⟨%f14, H14⟩, ⟨%f15, H15⟩, ⟨%f16, H16⟩, ⟨%f17, H17⟩, ⟨%f18, H18⟩, ⟨%f8, H8⟩, ⟨%f7, H7⟩⟩ Hk
  iapply (ld c bd) $$ H16; iintro H16
  iapply Hk
  isplitl [H0]; · iexact H0
  isplitl [H1]; · iexact H1
  isplitl [H4]; · iexact H4
  isplitl [H12]; · iexists _; iexact H12
  isplitl [H13]; · iexists _; iexact H13
  isplitl [H14]; · iexists _; iexact H14
  isplitl [H15]; · iexists _; iexact H15
  isplitl [H16]; · iexists _; iexact H16
  isplitl [H17]; · iexists _; iexact H17
  isplitl [H18]; · iexists _; iexact H18
  isplitl [H8]; · iexists _; iexact H8
  iexists _; iexact H7

theorem ldB1 {α : Type} {Q : α → sProp 𝕄} {r : LoadRect S24x8x160} {hl : a1.view.LoadsAt r} {k : (r.shape.Idx → Elt F .bf16) → Prog (TpuEff nD τ sig (Elt F) (Λ₀ F) .tc) α} :
    Bufs c a0 a1 a4 a12 a13 a14 a15 a16 a17 a18 a8 a7 f0 f1 f4 ⊢ iprop((∀ v, Bufs c a0 a1 a4 a12 a13 a14 a15 a16 a17 a18 a8 a7 f0 f1 f4 -∗ wp frame (wpE (defs₀ (F := F)) Variants.nat c.tc bd) Set.univ (k v) Q) -∗ wp frame (wpE (defs₀ (F := F)) Variants.nat c.tc bd) Set.univ (.op (.load a1 r hl) k) Q) := by
  unfold Bufs
  iintro ⟨H0, H1, H4, ⟨%f12, H12⟩, ⟨%f13, H13⟩, ⟨%f14, H14⟩, ⟨%f15, H15⟩, ⟨%f16, H16⟩, ⟨%f17, H17⟩, ⟨%f18, H18⟩, ⟨%f8, H8⟩, ⟨%f7, H7⟩⟩ Hk
  iapply (ld c bd) $$ H1; iintro H1
  iapply Hk
  isplitl [H0]; · iexact H0
  isplitl [H1]; · iexact H1
  isplitl [H4]; · iexact H4
  isplitl [H12]; · iexists _; iexact H12
  isplitl [H13]; · iexists _; iexact H13
  isplitl [H14]; · iexists _; iexact H14
  isplitl [H15]; · iexists _; iexact H15
  isplitl [H16]; · iexists _; iexact H16
  isplitl [H17]; · iexists _; iexact H17
  isplitl [H18]; · iexists _; iexact H18
  isplitl [H8]; · iexists _; iexact H8
  iexists _; iexact H7

theorem ldB17 {α : Type} {Q : α → sProp 𝕄} {r : LoadRect S6x4x160} {hl : a17.view.LoadsAt r} {k : (r.shape.Idx → Elt F .f32) → Prog (TpuEff nD τ sig (Elt F) (Λ₀ F) .tc) α} :
    Bufs c a0 a1 a4 a12 a13 a14 a15 a16 a17 a18 a8 a7 f0 f1 f4 ⊢ iprop((∀ v, Bufs c a0 a1 a4 a12 a13 a14 a15 a16 a17 a18 a8 a7 f0 f1 f4 -∗ wp frame (wpE (defs₀ (F := F)) Variants.nat c.tc bd) Set.univ (k v) Q) -∗ wp frame (wpE (defs₀ (F := F)) Variants.nat c.tc bd) Set.univ (.op (.load a17 r hl) k) Q) := by
  unfold Bufs
  iintro ⟨H0, H1, H4, ⟨%f12, H12⟩, ⟨%f13, H13⟩, ⟨%f14, H14⟩, ⟨%f15, H15⟩, ⟨%f16, H16⟩, ⟨%f17, H17⟩, ⟨%f18, H18⟩, ⟨%f8, H8⟩, ⟨%f7, H7⟩⟩ Hk
  iapply (ld c bd) $$ H17; iintro H17
  iapply Hk
  isplitl [H0]; · iexact H0
  isplitl [H1]; · iexact H1
  isplitl [H4]; · iexact H4
  isplitl [H12]; · iexists _; iexact H12
  isplitl [H13]; · iexists _; iexact H13
  isplitl [H14]; · iexists _; iexact H14
  isplitl [H15]; · iexists _; iexact H15
  isplitl [H16]; · iexists _; iexact H16
  isplitl [H17]; · iexists _; iexact H17
  isplitl [H18]; · iexists _; iexact H18
  isplitl [H8]; · iexists _; iexact H8
  iexists _; iexact H7

theorem ldB14 {α : Type} {Q : α → sProp 𝕄} {r : LoadRect S24x8x128} {hl : a14.view.LoadsAt r} {k : (r.shape.Idx → Elt F .f32) → Prog (TpuEff nD τ sig (Elt F) (Λ₀ F) .tc) α} :
    Bufs c a0 a1 a4 a12 a13 a14 a15 a16 a17 a18 a8 a7 f0 f1 f4 ⊢ iprop((∀ v, Bufs c a0 a1 a4 a12 a13 a14 a15 a16 a17 a18 a8 a7 f0 f1 f4 -∗ wp frame (wpE (defs₀ (F := F)) Variants.nat c.tc bd) Set.univ (k v) Q) -∗ wp frame (wpE (defs₀ (F := F)) Variants.nat c.tc bd) Set.univ (.op (.load a14 r hl) k) Q) := by
  unfold Bufs
  iintro ⟨H0, H1, H4, ⟨%f12, H12⟩, ⟨%f13, H13⟩, ⟨%f14, H14⟩, ⟨%f15, H15⟩, ⟨%f16, H16⟩, ⟨%f17, H17⟩, ⟨%f18, H18⟩, ⟨%f8, H8⟩, ⟨%f7, H7⟩⟩ Hk
  iapply (ld c bd) $$ H14; iintro H14
  iapply Hk
  isplitl [H0]; · iexact H0
  isplitl [H1]; · iexact H1
  isplitl [H4]; · iexact H4
  isplitl [H12]; · iexists _; iexact H12
  isplitl [H13]; · iexists _; iexact H13
  isplitl [H14]; · iexists _; iexact H14
  isplitl [H15]; · iexists _; iexact H15
  isplitl [H16]; · iexists _; iexact H16
  isplitl [H17]; · iexists _; iexact H17
  isplitl [H18]; · iexists _; iexact H18
  isplitl [H8]; · iexists _; iexact H8
  iexists _; iexact H7

theorem ldB18 {α : Type} {Q : α → sProp 𝕄} {r : LoadRect S6x4x160} {hl : a18.view.LoadsAt r} {k : (r.shape.Idx → Elt F .f32) → Prog (TpuEff nD τ sig (Elt F) (Λ₀ F) .tc) α} :
    Bufs c a0 a1 a4 a12 a13 a14 a15 a16 a17 a18 a8 a7 f0 f1 f4 ⊢ iprop((∀ v, Bufs c a0 a1 a4 a12 a13 a14 a15 a16 a17 a18 a8 a7 f0 f1 f4 -∗ wp frame (wpE (defs₀ (F := F)) Variants.nat c.tc bd) Set.univ (k v) Q) -∗ wp frame (wpE (defs₀ (F := F)) Variants.nat c.tc bd) Set.univ (.op (.load a18 r hl) k) Q) := by
  unfold Bufs
  iintro ⟨H0, H1, H4, ⟨%f12, H12⟩, ⟨%f13, H13⟩, ⟨%f14, H14⟩, ⟨%f15, H15⟩, ⟨%f16, H16⟩, ⟨%f17, H17⟩, ⟨%f18, H18⟩, ⟨%f8, H8⟩, ⟨%f7, H7⟩⟩ Hk
  iapply (ld c bd) $$ H18; iintro H18
  iapply Hk
  isplitl [H0]; · iexact H0
  isplitl [H1]; · iexact H1
  isplitl [H4]; · iexact H4
  isplitl [H12]; · iexists _; iexact H12
  isplitl [H13]; · iexists _; iexact H13
  isplitl [H14]; · iexists _; iexact H14
  isplitl [H15]; · iexists _; iexact H15
  isplitl [H16]; · iexists _; iexact H16
  isplitl [H17]; · iexists _; iexact H17
  isplitl [H18]; · iexists _; iexact H18
  isplitl [H8]; · iexists _; iexact H8
  iexists _; iexact H7

theorem ldB8 {α : Type} {Q : α → sProp 𝕄} {r : LoadRect S24x8x160} {hl : a8.view.LoadsAt r} {k : (r.shape.Idx → Elt F .f32) → Prog (TpuEff nD τ sig (Elt F) (Λ₀ F) .tc) α} :
    Bufs c a0 a1 a4 a12 a13 a14 a15 a16 a17 a18 a8 a7 f0 f1 f4 ⊢ iprop((∀ v, Bufs c a0 a1 a4 a12 a13 a14 a15 a16 a17 a18 a8 a7 f0 f1 f4 -∗ wp frame (wpE (defs₀ (F := F)) Variants.nat c.tc bd) Set.univ (k v) Q) -∗ wp frame (wpE (defs₀ (F := F)) Variants.nat c.tc bd) Set.univ (.op (.load a8 r hl) k) Q) := by
  unfold Bufs
  iintro ⟨H0, H1, H4, ⟨%f12, H12⟩, ⟨%f13, H13⟩, ⟨%f14, H14⟩, ⟨%f15, H15⟩, ⟨%f16, H16⟩, ⟨%f17, H17⟩, ⟨%f18, H18⟩, ⟨%f8, H8⟩, ⟨%f7, H7⟩⟩ Hk
  iapply (ld c bd) $$ H8; iintro H8
  iapply Hk
  isplitl [H0]; · iexact H0
  isplitl [H1]; · iexact H1
  isplitl [H4]; · iexact H4
  isplitl [H12]; · iexists _; iexact H12
  isplitl [H13]; · iexists _; iexact H13
  isplitl [H14]; · iexists _; iexact H14
  isplitl [H15]; · iexists _; iexact H15
  isplitl [H16]; · iexists _; iexact H16
  isplitl [H17]; · iexists _; iexact H17
  isplitl [H18]; · iexists _; iexact H18
  isplitl [H8]; · iexists _; iexact H8
  iexists _; iexact H7

theorem ldB7 {α : Type} {Q : α → sProp 𝕄} {r : LoadRect S24x8x160} {hl : a7.view.LoadsAt r} {k : (r.shape.Idx → Elt F .bf16) → Prog (TpuEff nD τ sig (Elt F) (Λ₀ F) .tc) α} :
    Bufs c a0 a1 a4 a12 a13 a14 a15 a16 a17 a18 a8 a7 f0 f1 f4 ⊢ iprop((∀ v, Bufs c a0 a1 a4 a12 a13 a14 a15 a16 a17 a18 a8 a7 f0 f1 f4 -∗ wp frame (wpE (defs₀ (F := F)) Variants.nat c.tc bd) Set.univ (k v) Q) -∗ wp frame (wpE (defs₀ (F := F)) Variants.nat c.tc bd) Set.univ (.op (.load a7 r hl) k) Q) := by
  unfold Bufs
  iintro ⟨H0, H1, H4, ⟨%f12, H12⟩, ⟨%f13, H13⟩, ⟨%f14, H14⟩, ⟨%f15, H15⟩, ⟨%f16, H16⟩, ⟨%f17, H17⟩, ⟨%f18, H18⟩, ⟨%f8, H8⟩, ⟨%f7, H7⟩⟩ Hk
  iapply (ld c bd) $$ H7; iintro H7
  iapply Hk
  isplitl [H0]; · iexact H0
  isplitl [H1]; · iexact H1
  isplitl [H4]; · iexact H4
  isplitl [H12]; · iexists _; iexact H12
  isplitl [H13]; · iexists _; iexact H13
  isplitl [H14]; · iexists _; iexact H14
  isplitl [H15]; · iexists _; iexact H15
  isplitl [H16]; · iexists _; iexact H16
  isplitl [H17]; · iexists _; iexact H17
  isplitl [H18]; · iexists _; iexact H18
  isplitl [H8]; · iexists _; iexact H8
  iexists _; iexact H7

theorem stB13 {α : Type} {Q : α → sProp 𝕄} {r : Rect S8x128} {w : r.shape.Idx → Elt F .f32} {Mk : Finset r.shape.Idx} {hx : (a13.access r).Stores Mk} {hm : Mk = Finset.univ ∨ ∀ a, r.stride a = 1}
    {k : PUnit → Prog (TpuEff nD τ sig (Elt F) (Λ₀ F) .tc) α} :
    Bufs c a0 a1 a4 a12 a13 a14 a15 a16 a17 a18 a8 a7 f0 f1 f4 ⊢ iprop((Bufs c a0 a1 a4 a12 a13 a14 a15 a16 a17 a18 a8 a7 f0 f1 f4 -∗ wp frame (wpE (defs₀ (F := F)) Variants.nat c.tc bd) Set.univ (k ⟨⟩) Q) -∗ wp frame (wpE (defs₀ (F := F)) Variants.nat c.tc bd) Set.univ (.op (.store a13 r w Mk hx hm) k) Q) := by
  unfold Bufs
  iintro ⟨H0, H1, H4, ⟨%f12, H12⟩, ⟨%f13, H13⟩, ⟨%f14, H14⟩, ⟨%f15, H15⟩, ⟨%f16, H16⟩, ⟨%f17, H17⟩, ⟨%f18, H18⟩, ⟨%f8, H8⟩, ⟨%f7, H7⟩⟩ Hk
  iapply (st c bd) $$ H13; iintro H13
  iapply Hk
  isplitl [H0]; · iexact H0
  isplitl [H1]; · iexact H1
  isplitl [H4]; · iexact H4
  isplitl [H12]; · iexists _; iexact H12
  isplitl [H13]; · iexists _; iexact H13
  isplitl [H14]; · iexists _; iexact H14
  isplitl [H15]; · iexists _; iexact H15
  isplitl [H16]; · iexists _; iexact H16
  isplitl [H17]; · iexists _; iexact H17
  isplitl [H18]; · iexists _; iexact H18
  isplitl [H8]; · iexists _; iexact H8
  iexists _; iexact H7

theorem stB16 {α : Type} {Q : α → sProp 𝕄} {r : Rect S8x160} {w : r.shape.Idx → Elt F .f32} {Mk : Finset r.shape.Idx} {hx : (a16.access r).Stores Mk} {hm : Mk = Finset.univ ∨ ∀ a, r.stride a = 1}
    {k : PUnit → Prog (TpuEff nD τ sig (Elt F) (Λ₀ F) .tc) α} :
    Bufs c a0 a1 a4 a12 a13 a14 a15 a16 a17 a18 a8 a7 f0 f1 f4 ⊢ iprop((Bufs c a0 a1 a4 a12 a13 a14 a15 a16 a17 a18 a8 a7 f0 f1 f4 -∗ wp frame (wpE (defs₀ (F := F)) Variants.nat c.tc bd) Set.univ (k ⟨⟩) Q) -∗ wp frame (wpE (defs₀ (F := F)) Variants.nat c.tc bd) Set.univ (.op (.store a16 r w Mk hx hm) k) Q) := by
  unfold Bufs
  iintro ⟨H0, H1, H4, ⟨%f12, H12⟩, ⟨%f13, H13⟩, ⟨%f14, H14⟩, ⟨%f15, H15⟩, ⟨%f16, H16⟩, ⟨%f17, H17⟩, ⟨%f18, H18⟩, ⟨%f8, H8⟩, ⟨%f7, H7⟩⟩ Hk
  iapply (st c bd) $$ H16; iintro H16
  iapply Hk
  isplitl [H0]; · iexact H0
  isplitl [H1]; · iexact H1
  isplitl [H4]; · iexact H4
  isplitl [H12]; · iexists _; iexact H12
  isplitl [H13]; · iexists _; iexact H13
  isplitl [H14]; · iexists _; iexact H14
  isplitl [H15]; · iexists _; iexact H15
  isplitl [H16]; · iexists _; iexact H16
  isplitl [H17]; · iexists _; iexact H17
  isplitl [H18]; · iexists _; iexact H18
  isplitl [H8]; · iexists _; iexact H8
  iexists _; iexact H7

theorem stB14 {α : Type} {Q : α → sProp 𝕄} {r : Rect S24x8x128} {w : r.shape.Idx → Elt F .f32} {Mk : Finset r.shape.Idx} {hx : (a14.access r).Stores Mk} {hm : Mk = Finset.univ ∨ ∀ a, r.stride a = 1}
    {k : PUnit → Prog (TpuEff nD τ sig (Elt F) (Λ₀ F) .tc) α} :
    Bufs c a0 a1 a4 a12 a13 a14 a15 a16 a17 a18 a8 a7 f0 f1 f4 ⊢ iprop((Bufs c a0 a1 a4 a12 a13 a14 a15 a16 a17 a18 a8 a7 f0 f1 f4 -∗ wp frame (wpE (defs₀ (F := F)) Variants.nat c.tc bd) Set.univ (k ⟨⟩) Q) -∗ wp frame (wpE (defs₀ (F := F)) Variants.nat c.tc bd) Set.univ (.op (.store a14 r w Mk hx hm) k) Q) := by
  unfold Bufs
  iintro ⟨H0, H1, H4, ⟨%f12, H12⟩, ⟨%f13, H13⟩, ⟨%f14, H14⟩, ⟨%f15, H15⟩, ⟨%f16, H16⟩, ⟨%f17, H17⟩, ⟨%f18, H18⟩, ⟨%f8, H8⟩, ⟨%f7, H7⟩⟩ Hk
  iapply (st c bd) $$ H14; iintro H14
  iapply Hk
  isplitl [H0]; · iexact H0
  isplitl [H1]; · iexact H1
  isplitl [H4]; · iexact H4
  isplitl [H12]; · iexists _; iexact H12
  isplitl [H13]; · iexists _; iexact H13
  isplitl [H14]; · iexists _; iexact H14
  isplitl [H15]; · iexists _; iexact H15
  isplitl [H16]; · iexists _; iexact H16
  isplitl [H17]; · iexists _; iexact H17
  isplitl [H18]; · iexists _; iexact H18
  isplitl [H8]; · iexists _; iexact H8
  iexists _; iexact H7

theorem stB8 {α : Type} {Q : α → sProp 𝕄} {r : Rect S24x8x160} {w : r.shape.Idx → Elt F .f32} {Mk : Finset r.shape.Idx} {hx : (a8.access r).Stores Mk} {hm : Mk = Finset.univ ∨ ∀ a, r.stride a = 1}
    {k : PUnit → Prog (TpuEff nD τ sig (Elt F) (Λ₀ F) .tc) α} :
    Bufs c a0 a1 a4 a12 a13 a14 a15 a16 a17 a18 a8 a7 f0 f1 f4 ⊢ iprop((Bufs c a0 a1 a4 a12 a13 a14 a15 a16 a17 a18 a8 a7 f0 f1 f4 -∗ wp frame (wpE (defs₀ (F := F)) Variants.nat c.tc bd) Set.univ (k ⟨⟩) Q) -∗ wp frame (wpE (defs₀ (F := F)) Variants.nat c.tc bd) Set.univ (.op (.store a8 r w Mk hx hm) k) Q) := by
  unfold Bufs
  iintro ⟨H0, H1, H4, ⟨%f12, H12⟩, ⟨%f13, H13⟩, ⟨%f14, H14⟩, ⟨%f15, H15⟩, ⟨%f16, H16⟩, ⟨%f17, H17⟩, ⟨%f18, H18⟩, ⟨%f8, H8⟩, ⟨%f7, H7⟩⟩ Hk
  iapply (st c bd) $$ H8; iintro H8
  iapply Hk
  isplitl [H0]; · iexact H0
  isplitl [H1]; · iexact H1
  isplitl [H4]; · iexact H4
  isplitl [H12]; · iexists _; iexact H12
  isplitl [H13]; · iexists _; iexact H13
  isplitl [H14]; · iexists _; iexact H14
  isplitl [H15]; · iexists _; iexact H15
  isplitl [H16]; · iexists _; iexact H16
  isplitl [H17]; · iexists _; iexact H17
  isplitl [H18]; · iexists _; iexact H18
  isplitl [H8]; · iexists _; iexact H8
  iexists _; iexact H7

theorem stB7 {α : Type} {Q : α → sProp 𝕄} {r : Rect S24x8x160} {w : r.shape.Idx → Elt F .bf16} {Mk : Finset r.shape.Idx} {hx : (a7.access r).Stores Mk} {hm : Mk = Finset.univ ∨ ∀ a, r.stride a = 1}
    {k : PUnit → Prog (TpuEff nD τ sig (Elt F) (Λ₀ F) .tc) α} :
    Bufs c a0 a1 a4 a12 a13 a14 a15 a16 a17 a18 a8 a7 f0 f1 f4 ⊢ iprop((Bufs c a0 a1 a4 a12 a13 a14 a15 a16 a17 a18 a8 a7 f0 f1 f4 -∗ wp frame (wpE (defs₀ (F := F)) Variants.nat c.tc bd) Set.univ (k ⟨⟩) Q) -∗ wp frame (wpE (defs₀ (F := F)) Variants.nat c.tc bd) Set.univ (.op (.store a7 r w Mk hx hm) k) Q) := by
  unfold Bufs
  iintro ⟨H0, H1, H4, ⟨%f12, H12⟩, ⟨%f13, H13⟩, ⟨%f14, H14⟩, ⟨%f15, H15⟩, ⟨%f16, H16⟩, ⟨%f17, H17⟩, ⟨%f18, H18⟩, ⟨%f8, H8⟩, ⟨%f7, H7⟩⟩ Hk
  iapply (st c bd) $$ H7; iintro H7
  iapply Hk
  isplitl [H0]; · iexact H0
  isplitl [H1]; · iexact H1
  isplitl [H4]; · iexact H4
  isplitl [H12]; · iexists _; iexact H12
  isplitl [H13]; · iexists _; iexact H13
  isplitl [H14]; · iexists _; iexact H14
  isplitl [H15]; · iexists _; iexact H15
  isplitl [H16]; · iexists _; iexact H16
  isplitl [H17]; · iexists _; iexact H17
  isplitl [H18]; · iexists _; iexact H18
  isplitl [H8]; · iexists _; iexact H8
  iexists _; iexact H7

theorem lenB {α : Type} {Q : α → sProp 𝕄} {L : ℕ → ℕ} (hL : LensOk a0 c f0 L)
    {o : Fin 1 → ℕ} {inb : ∀ a, o a + S1.size a ≤ S4.size a} {h1 : (Rect.unit (s := S4) o S1.size inb).shape.numel = 1} {hp : EltTy.packing .i32 = 1}
    (b : ℕ) (hb : o = ![min b 3]) {k : Elt F .i32 → Prog (TpuEff nD τ sig (Elt F) (Λ₀ F) .tc) α} :
    Bufs c a0 a1 a4 a12 a13 a14 a15 a16 a17 a18 a8 a7 f0 f1 f4 ⊢ iprop((Bufs c a0 a1 a4 a12 a13 a14 a15 a16 a17 a18 a8 a7 f0 f1 f4 -∗ wp frame (wpE (defs₀ (F := F)) Variants.nat c.tc bd) Set.univ (k (W (lw L b))) Q) -∗ wp frame (wpE (defs₀ (F := F)) Variants.nat c.tc bd) Set.univ (smemLoad a0 (Rect.unit (s := S4) o S1.size inb) h1 hp >>= k) Q) := by
  unfold Bufs
  iintro ⟨H0, H1, H4, ⟨%f12, H12⟩, ⟨%f13, H13⟩, ⟨%f14, H14⟩, ⟨%f15, H15⟩, ⟨%f16, H16⟩, ⟨%f17, H17⟩, ⟨%f18, H18⟩, ⟨%f8, H8⟩, ⟨%f7, H7⟩⟩ Hk
  iapply (ldLen c bd hL (min b 3) hb) $$ H0; iintro H0
  iapply Hk
  isplitl [H0]; · iexact H0
  isplitl [H1]; · iexact H1
  isplitl [H4]; · iexact H4
  isplitl [H12]; · iexists _; iexact H12
  isplitl [H13]; · iexists _; iexact H13
  isplitl [H14]; · iexists _; iexact H14
  isplitl [H15]; · iexists _; iexact H15
  isplitl [H16]; · iexists _; iexact H16
  isplitl [H17]; · iexists _; iexact H17
  isplitl [H18]; · iexists _; iexact H18
  isplitl [H8]; · iexists _; iexact H8
  iexists _; iexact H7

end

end Cert.Kernel.Hand
-- ==== Proof.K.Issue.lean ====
module

public import proofs.«01_k».proof.Proof.K.Acc
public import Idealize.ShloMosaic.Lib.Pipeline.FrameBody
public import Idealize.ShloMosaic.Lib.Pipeline.DatRel
public import Idealize.ShloMosaic.Lib.Ring
public import Idealize.ShloMosaic.Lib.Tactic
public import Idealize.ShloMosaic.Lib.WordCmp

@[expose] public section

set_option maxRecDepth 16384

/-!
The four places a transfer is started, in the words the program uses.
-/

noncomputable section

namespace Cert.Kernel.Hand

open Cert.Kernel Cert.Kernel.Gen Cert.Words
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-- The transfer as the program writes it (`k0_off97 (W x) (W s) (W l)` into the slot, `k0_off98 (W b) (W g) (W x) (W l)` of the operand). -/
theorem issue_K8 {α : Type} (c : Dev nD) (bd : Option Variants.nat.V) (s : ℕ) (hs : s < 6) (b g x l : ℕ)  (hl : l ≤ 32768) (hx : x < nchOf l) (hb : b < 4) (hg : g < 6)
    (winb : ∀ a, (k0_off96 (W s)) a + S1.size a ≤ S6.size a)
    (inb : ∀ a, (k0_off97 (W x) (W s) (W l)).2 a = 0 ∨ (k0_off97 (W x) (W s) (W l)).1 a + (k0_off97 (W x) (W s) (W l)).2 a ≤ S6x160x4096.size a) (hq : (⟨3, (k0_off97 (W x) (W s) (W l)).2⟩ : Shape).Squeezes ⟨2, k0_sz9 (W x) (W l)⟩)
    (inb' : ∀ a, (k0_off98 (W b) (W g) (W x) (W l)).2 a = 0 ∨ (k0_off98 (W b) (W g) (W x) (W l)).1 a + (k0_off98 (W b) (W g) (W x) (W l)).2 a ≤ S24x160x32768.size a) (hq' : (⟨3, (k0_off98 (W b) (W g) (W x) (W l)).2⟩ : Shape).Squeezes ⟨2, k0_sz10 (W x) (W l)⟩)
    (fs : Buf (Elt F) (hbmK c))
    {hsrc : (((Memref.whole main_v2).slice (Rect.unitDyn (s := S24x160x32768) (k0_off98 (W b) (W g) (W x) (W l)).1 (k0_off98 (W b) (W g) (W x) (W l)).2 inb') (fun _ => rfl)).squeeze (⟨2, k0_sz10 (W x) (W l)⟩ : Shape) hq').view.WordExact}
    {hdst : (((Memref.whole cc0_scratch0).slice (Rect.unitDyn (s := S6x160x4096) (k0_off97 (W x) (W s) (W l)).1 (k0_off97 (W x) (W s) (W l)).2 inb) (fun _ => rfl)).squeeze (⟨2, k0_sz9 (W x) (W l)⟩ : Shape) hq).view.WordExact}
    {hsem} {kk : PUnit → Prog (TpuEff nD τ sig (Elt F) (Λ₀ F) .tc) α} {Q : α → sProp 𝕄} :
    freeK c fs ⟨s, hs⟩ ⊢ iprop((flyK c fs ⟨s, hs⟩ b g x (szOf x l) -∗ wp frame (wpE (defs₀ (F := F)) Variants.nat c.tc bd) Set.univ (kk ⟨⟩) Q)
      -∗ wp frame (wpE (defs₀ (F := F)) Variants.nat c.tc bd) Set.univ (.op (.enqueueDma (((Memref.whole main_v2).slice (Rect.unitDyn (s := S24x160x32768) (k0_off98 (W b) (W g) (W x) (W l)).1 (k0_off98 (W b) (W g) (W x) (W l)).2 inb') (fun _ => rfl)).squeeze (⟨2, k0_sz10 (W x) (W l)⟩ : Shape) hq')
          (.here (((Memref.whole cc0_scratch0).slice (Rect.unitDyn (s := S6x160x4096) (k0_off97 (W x) (W s) (W l)).1 (k0_off97 (W x) (W s) (W l)).2 inb) (fun _ => rfl)).squeeze (⟨2, k0_sz9 (W x) (W l)⟩ : Shape) hq))
          (.dma ((cc0_scratch9.slice (Rect.unit (s := S6) (k0_off96 (W s)) S1.size winb)).squeeze S_ squeezes_S1_S_).sem) hsrc hdst hsem) kk) Q) :=
  issueK c bd ⟨s, hs⟩ b g x (szOf x l) (by have := szOf_pos x l; omega) (k0_off96 (W s)) (off1 (by omega)) winb
    (k0_off97 (W x) (W s) (W l)).1 (k0_off97 (W x) (W s) (W l)).2 (k0_sz9 (W x) (W l)) (off3 (by omega)) (sz3 hl hx) (sz2 hl hx) inb hq (k0_off98 (W b) (W g) (W x) (W l)).1 (offP (by omega) hg (by have := nchOf_le hl; omega)) inb' fs

/-- The transfer as the program writes it (`k0_off101 (W x) (W s) (W l)` into the slot, `k0_off102 (W b) (W g) (W x) (W l)` of the operand). -/
theorem issue_V9 {α : Type} (c : Dev nD) (bd : Option Variants.nat.V) (s : ℕ) (hs : s < 8) (b g x l : ℕ)  (hl : l ≤ 32768) (hx : x < nchOf l) (hb : b < 4) (hg : g < 6)
    (winb : ∀ a, (k0_off100 (W s)) a + S1.size a ≤ S8.size a)
    (inb : ∀ a, (k0_off101 (W x) (W s) (W l)).2 a = 0 ∨ (k0_off101 (W x) (W s) (W l)).1 a + (k0_off101 (W x) (W s) (W l)).2 a ≤ S8x160x4096.size a) (hq : (⟨3, (k0_off101 (W x) (W s) (W l)).2⟩ : Shape).Squeezes ⟨2, k0_sz11 (W x) (W l)⟩)
    (inb' : ∀ a, (k0_off102 (W b) (W g) (W x) (W l)).2 a = 0 ∨ (k0_off102 (W b) (W g) (W x) (W l)).1 a + (k0_off102 (W b) (W g) (W x) (W l)).2 a ≤ S24x160x32768.size a) (hq' : (⟨3, (k0_off102 (W b) (W g) (W x) (W l)).2⟩ : Shape).Squeezes ⟨2, k0_sz12 (W x) (W l)⟩)
    (fs : Buf (Elt F) (hbmV c))
    {hsrc : (((Memref.whole main_v4).slice (Rect.unitDyn (s := S24x160x32768) (k0_off102 (W b) (W g) (W x) (W l)).1 (k0_off102 (W b) (W g) (W x) (W l)).2 inb') (fun _ => rfl)).squeeze (⟨2, k0_sz12 (W x) (W l)⟩ : Shape) hq').view.WordExact}
    {hdst : (((Memref.whole cc0_scratch1).slice (Rect.unitDyn (s := S8x160x4096) (k0_off101 (W x) (W s) (W l)).1 (k0_off101 (W x) (W s) (W l)).2 inb) (fun _ => rfl)).squeeze (⟨2, k0_sz11 (W x) (W l)⟩ : Shape) hq).view.WordExact}
    {hsem} {kk : PUnit → Prog (TpuEff nD τ sig (Elt F) (Λ₀ F) .tc) α} {Q : α → sProp 𝕄} :
    freeV c fs ⟨s, hs⟩ ⊢ iprop((flyV c fs ⟨s, hs⟩ b g x (szOf x l) -∗ wp frame (wpE (defs₀ (F := F)) Variants.nat c.tc bd) Set.univ (kk ⟨⟩) Q)
      -∗ wp frame (wpE (defs₀ (F := F)) Variants.nat c.tc bd) Set.univ (.op (.enqueueDma (((Memref.whole main_v4).slice (Rect.unitDyn (s := S24x160x32768) (k0_off102 (W b) (W g) (W x) (W l)).1 (k0_off102 (W b) (W g) (W x) (W l)).2 inb') (fun _ => rfl)).squeeze (⟨2, k0_sz12 (W x) (W l)⟩ : Shape) hq')
          (.here (((Memref.whole cc0_scratch1).slice (Rect.unitDyn (s := S8x160x4096) (k0_off101 (W x) (W s) (W l)).1 (k0_off101 (W x) (W s) (W l)).2 inb) (fun _ => rfl)).squeeze (⟨2, k0_sz11 (W x) (W l)⟩ : Shape) hq))
          (.dma ((cc0_scratch10.slice (Rect.unit (s := S8) (k0_off100 (W s)) S1.size winb)).squeeze S_ squeezes_S1_S_).sem) hsrc hdst hsem) kk) Q) :=
  issueV c bd ⟨s, hs⟩ b g x (szOf x l) (by have := szOf_pos x l; omega) (k0_off100 (W s)) (off1 (by omega)) winb
    (k0_off101 (W x) (W s) (W l)).1 (k0_off101 (W x) (W s) (W l)).2 (k0_sz11 (W x) (W l)) (off3 (by omega)) (sz3 hl hx) (sz2 hl hx) inb hq (k0_off102 (W b) (W g) (W x) (W l)).1 (offP (by omega) hg (by have := nchOf_le hl; omega)) inb' fs

/-- The transfer as the program writes it (`k0_off3 t (W x) (W l)` into the slot, `k0_off4 (W b) (W g) (W x) (W l)` of the operand). -/
theorem issue_PK {α : Type} (c : Dev nD) (bd : Option Variants.nat.V) (s : ℕ) (hs : s < 6) (b g x l : ℕ) (t : Fin k0_t1_loop.trips) (ht : t.val = s) (hl : l ≤ 32768) (hx : x < nchOf l) (hb : b < 4) (hg : g < 6)
    (winb : ∀ a, (k0_off2 t) a + S1.size a ≤ S6.size a)
    (inb : ∀ a, (k0_off3 t (W x) (W l)).2 a = 0 ∨ (k0_off3 t (W x) (W l)).1 a + (k0_off3 t (W x) (W l)).2 a ≤ S6x160x4096.size a) (hq : (⟨3, (k0_off3 t (W x) (W l)).2⟩ : Shape).Squeezes ⟨2, k0_sz1 (W x) (W l)⟩)
    (inb' : ∀ a, (k0_off4 (W b) (W g) (W x) (W l)).2 a = 0 ∨ (k0_off4 (W b) (W g) (W x) (W l)).1 a + (k0_off4 (W b) (W g) (W x) (W l)).2 a ≤ S24x160x32768.size a) (hq' : (⟨3, (k0_off4 (W b) (W g) (W x) (W l)).2⟩ : Shape).Squeezes ⟨2, k0_sz2 (W x) (W l)⟩)
    (fs : Buf (Elt F) (hbmK c))
    {hsrc : (((Memref.whole main_v2).slice (Rect.unitDyn (s := S24x160x32768) (k0_off4 (W b) (W g) (W x) (W l)).1 (k0_off4 (W b) (W g) (W x) (W l)).2 inb') (fun _ => rfl)).squeeze (⟨2, k0_sz2 (W x) (W l)⟩ : Shape) hq').view.WordExact}
    {hdst : (((Memref.whole cc0_scratch0).slice (Rect.unitDyn (s := S6x160x4096) (k0_off3 t (W x) (W l)).1 (k0_off3 t (W x) (W l)).2 inb) (fun _ => rfl)).squeeze (⟨2, k0_sz1 (W x) (W l)⟩ : Shape) hq).view.WordExact}
    {hsem} {kk : PUnit → Prog (TpuEff nD τ sig (Elt F) (Λ₀ F) .tc) α} {Q : α → sProp 𝕄} :
    freeK c fs ⟨s, hs⟩ ⊢ iprop((flyK c fs ⟨s, hs⟩ b g x (szOf x l) -∗ wp frame (wpE (defs₀ (F := F)) Variants.nat c.tc bd) Set.univ (kk ⟨⟩) Q)
      -∗ wp frame (wpE (defs₀ (F := F)) Variants.nat c.tc bd) Set.univ (.op (.enqueueDma (((Memref.whole main_v2).slice (Rect.unitDyn (s := S24x160x32768) (k0_off4 (W b) (W g) (W x) (W l)).1 (k0_off4 (W b) (W g) (W x) (W l)).2 inb') (fun _ => rfl)).squeeze (⟨2, k0_sz2 (W x) (W l)⟩ : Shape) hq')
          (.here (((Memref.whole cc0_scratch0).slice (Rect.unitDyn (s := S6x160x4096) (k0_off3 t (W x) (W l)).1 (k0_off3 t (W x) (W l)).2 inb) (fun _ => rfl)).squeeze (⟨2, k0_sz1 (W x) (W l)⟩ : Shape) hq))
          (.dma ((cc0_scratch9.slice (Rect.unit (s := S6) (k0_off2 t) S1.size winb)).squeeze S_ squeezes_S1_S_).sem) hsrc hdst hsem) kk) Q) :=
  issueK c bd ⟨s, hs⟩ b g x (szOf x l) (by have := szOf_pos x l; omega) (k0_off2 t) (by show (![(Scf.iv 0#32 1#32 t.val).toNat] : Fin 1 → ℕ) = _; rw [iv1N, ht]) winb
    (k0_off3 t (W x) (W l)).1 (k0_off3 t (W x) (W l)).2 (k0_sz1 (W x) (W l)) (by show (![(Scf.iv 0#32 1#32 t.val).toNat, 0, 0] : Fin 3 → ℕ) = _; rw [iv1N, ht]) (sz3 hl hx) (sz2 hl hx) inb hq (k0_off4 (W b) (W g) (W x) (W l)).1 (offP (by omega) hg (by have := nchOf_le hl; omega)) inb' fs

/-- The transfer as the program writes it (`k0_off8 t (W x) (W l)` into the slot, `k0_off9 (W b) (W g) (W x) (W l)` of the operand). -/
theorem issue_PV {α : Type} (c : Dev nD) (bd : Option Variants.nat.V) (s : ℕ) (hs : s < 8) (b g x l : ℕ) (t : Fin k0_t2_loop.trips) (ht : t.val = s) (hl : l ≤ 32768) (hx : x < nchOf l) (hb : b < 4) (hg : g < 6)
    (winb : ∀ a, (k0_off7 t) a + S1.size a ≤ S8.size a)
    (inb : ∀ a, (k0_off8 t (W x) (W l)).2 a = 0 ∨ (k0_off8 t (W x) (W l)).1 a + (k0_off8 t (W x) (W l)).2 a ≤ S8x160x4096.size a) (hq : (⟨3, (k0_off8 t (W x) (W l)).2⟩ : Shape).Squeezes ⟨2, k0_sz3 (W x) (W l)⟩)
    (inb' : ∀ a, (k0_off9 (W b) (W g) (W x) (W l)).2 a = 0 ∨ (k0_off9 (W b) (W g) (W x) (W l)).1 a + (k0_off9 (W b) (W g) (W x) (W l)).2 a ≤ S24x160x32768.size a) (hq' : (⟨3, (k0_off9 (W b) (W g) (W x) (W l)).2⟩ : Shape).Squeezes ⟨2, k0_sz4 (W x) (W l)⟩)
    (fs : Buf (Elt F) (hbmV c))
    {hsrc : (((Memref.whole main_v4).slice (Rect.unitDyn (s := S24x160x32768) (k0_off9 (W b) (W g) (W x) (W l)).1 (k0_off9 (W b) (W g) (W x) (W l)).2 inb') (fun _ => rfl)).squeeze (⟨2, k0_sz4 (W x) (W l)⟩ : Shape) hq').view.WordExact}
    {hdst : (((Memref.whole cc0_scratch1).slice (Rect.unitDyn (s := S8x160x4096) (k0_off8 t (W x) (W l)).1 (k0_off8 t (W x) (W l)).2 inb) (fun _ => rfl)).squeeze (⟨2, k0_sz3 (W x) (W l)⟩ : Shape) hq).view.WordExact}
    {hsem} {kk : PUnit → Prog (TpuEff nD τ sig (Elt F) (Λ₀ F) .tc) α} {Q : α → sProp 𝕄} :
    freeV c fs ⟨s, hs⟩ ⊢ iprop((flyV c fs ⟨s, hs⟩ b g x (szOf x l) -∗ wp frame (wpE (defs₀ (F := F)) Variants.nat c.tc bd) Set.univ (kk ⟨⟩) Q)
      -∗ wp frame (wpE (defs₀ (F := F)) Variants.nat c.tc bd) Set.univ (.op (.enqueueDma (((Memref.whole main_v4).slice (Rect.unitDyn (s := S24x160x32768) (k0_off9 (W b) (W g) (W x) (W l)).1 (k0_off9 (W b) (W g) (W x) (W l)).2 inb') (fun _ => rfl)).squeeze (⟨2, k0_sz4 (W x) (W l)⟩ : Shape) hq')
          (.here (((Memref.whole cc0_scratch1).slice (Rect.unitDyn (s := S8x160x4096) (k0_off8 t (W x) (W l)).1 (k0_off8 t (W x) (W l)).2 inb) (fun _ => rfl)).squeeze (⟨2, k0_sz3 (W x) (W l)⟩ : Shape) hq))
          (.dma ((cc0_scratch10.slice (Rect.unit (s := S8) (k0_off7 t) S1.size winb)).squeeze S_ squeezes_S1_S_).sem) hsrc hdst hsem) kk) Q) :=
  issueV c bd ⟨s, hs⟩ b g x (szOf x l) (by have := szOf_pos x l; omega) (k0_off7 t) (by show (![(Scf.iv 0#32 1#32 t.val).toNat] : Fin 1 → ℕ) = _; rw [iv2N, ht]) winb
    (k0_off8 t (W x) (W l)).1 (k0_off8 t (W x) (W l)).2 (k0_sz3 (W x) (W l)) (by show (![(Scf.iv 0#32 1#32 t.val).toNat, 0, 0] : Fin 3 → ℕ) = _; rw [iv2N, ht]) (sz3 hl hx) (sz2 hl hx) inb hq (k0_off9 (W b) (W g) (W x) (W l)).1 (offP (by omega) hg (by have := nchOf_le hl; omega)) inb' fs

end Cert.Kernel.Hand
-- ==== Proof.K.Adv.lean ====
module

public import proofs.«01_k».proof.Proof.K.State
public import Idealize.ShloMosaic.Lib.Pipeline.FrameBody
public import Idealize.ShloMosaic.Lib.Pipeline.DatRel
public import Idealize.ShloMosaic.Lib.Ring
public import Idealize.ShloMosaic.Lib.Tactic
public import Idealize.ShloMosaic.Lib.WordCmp

@[expose] public section

set_option maxRecDepth 16384

/-!
The cursors after a trip, in the words the program computes.
-/

noncomputable section

namespace Cert.Kernel.Hand

open Cert.Kernel Cert.Kernel.Gen Cert.Words
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-- One step of a cursor, in words. -/
theorem adv_cur {L : ℕ → ℕ} (hL : ∀ b, L b ≤ 32768) (p : Bool) (x : Cur) (hb : x.b ≤ 4) (hg : x.g < 6) (hc : x.c < 8) :
    advW (Scalar.andi (BitVec.ofBool p) (Scalar.cmpi .slt (W x.b) 4#32)) (W (lw L x.b)) (W x.b) (W x.g) (W x.c) =
      (W (if p then x.next (nL L) else x).b, W (if p then x.next (nL L) else x).g, W (if p then x.next (nL L) else x).c) := by
  rw [kbit_W hb, andi_b, advW_W _ (lw_le hL _) hb hg hc]
  cases p
  · simp
  · by_cases h : x.b < 4
    · simp only [h, decide_true, Bool.and_self, if_true, Cur.next]
      show (if nL L x.b ≤ x.c + 1 then _ else _) = _
      split
      · split <;> rfl
      · rfl
    · simp [h, Cur.next]

/-- The cursor of the next item, in words. -/
theorem adv_cu {L : ℕ → ℕ} (hL : ∀ b, L b ≤ 32768) (p : Bool) (i : ℕ) :
    advW (Scalar.andi (BitVec.ofBool p) (Scalar.cmpi .slt (W (cu L i).b) 4#32)) (W (lw L (cu L i).b)) (W (cu L i).b) (W (cu L i).g) (W (cu L i).c) =
      (W (cu L (if p then i + 1 else i)).b, W (cu L (if p then i + 1 else i)).g, W (cu L (if p then i + 1 else i)).c) := by
  obtain ⟨h1, h2, h3⟩ := cur_bounds (nL_ok hL) i
  rw [adv_cur hL p _ h1 h2 h3]
  cases p <;> rfl

theorem adv_to {L : ℕ → ℕ} (hL : ∀ b, L b ≤ 32768) (p : Bool) (i i' : ℕ) (h : i' = if p then i + 1 else i) (act : BitVec 1) (ha : act = BitVec.ofBool p) :
    advW (Scalar.andi act (Scalar.cmpi .slt (W (cu L i).b) 4#32)) (W (lw L (cu L i).b)) (W (cu L i).b) (W (cu L i).g) (W (cu L i).c) =
      (W (cu L i').b, W (cu L i').g, W (cu L i').c) := by
  subst h ha; exact adv_cu hL p i
theorem adv_pre {L : ℕ → ℕ} (hL : ∀ b, L b ≤ 32768) (i : ℕ) :
    advW (Scalar.cmpi .slt (W (cu L i).b) 4#32) (W (lw L (cu L i).b)) (W (cu L i).b) (W (cu L i).g) (W (cu L i).c) =
      (W (cu L (i + 1)).b, W (cu L (i + 1)).g, W (cu L (i + 1)).c) := by
  have h := adv_cu hL true i
  have e : ∀ x : BitVec 1, Scalar.andi (BitVec.ofBool true) x = x := by decide
  rw [e] at h; exact h
theorem cu_zero (L : ℕ → ℕ) : (W (cu L 0).b, W (cu L 0).g, W (cu L 0).c) = (0#32, 0#32, 0#32) := rfl
theorem slot_to (m : ℕ) (hm : m < 2 ^ 30) (h0 : 0 < m) (p : Bool) (i i' : ℕ) (h : i' = if p then i + 1 else i) (act : BitVec 1) (ha : act = BitVec.ofBool p) :
    slotW act (W m) (W (i % m)) = W (i' % m) := by
  subst h ha; rw [slotW_W p hm h0]; cases p <;> rfl

end Cert.Kernel.Hand
-- ==== Proof.K.Pre.lean ====
module

public import proofs.«01_k».proof.Proof.K.Issue
public import proofs.«01_k».proof.Proof.K.Adv
public import Idealize.ShloMosaic.Lib.Pipeline.FrameBody
public import Idealize.ShloMosaic.Lib.Pipeline.DatRel
public import Idealize.ShloMosaic.Lib.Ring
public import Idealize.ShloMosaic.Lib.Tactic
public import Idealize.ShloMosaic.Lib.WordCmp

@[expose] public section

set_option maxRecDepth 16384

/-!
The two prefetch loops.
-/

noncomputable section

namespace Cert.Kernel.Hand

open Cert.Kernel Cert.Kernel.Gen Cert.Words
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

attribute [local irreducible] cur

variable (c : Dev nD) (bd : Option Variants.nat.V) (a0 : Memref sig .tc .smem S4 .i32) (p0 : a0.IsWhole) (a1 : Memref sig .tc .vmem S24x8x160 .bf16) (p1 : a1.IsWhole) (a12 : Memref sig .tc .vmem S16x8x4096 .f32) (p12 : a12.IsWhole) (a13 : Memref sig .tc .vmem S8x128 .f32) (p13 : a13.IsWhole) (a14 : Memref sig .tc .vmem S24x8x128 .f32) (p14 : a14.IsWhole) (a15 : Memref sig .tc .vmem S8x128 .f32) (p15 : a15.IsWhole) (a16 : Memref sig .tc .vmem S8x160 .f32) (p16 : a16.IsWhole) (a17 : Memref sig .tc .vmem S6x4x160 .f32) (p17 : a17.IsWhole) (a4 : Memref sig .tc .vmem S6x4x160 .f32) (p4 : a4.IsWhole) (a8 : Memref sig .tc .vmem S24x8x160 .f32) (p8 : a8.IsWhole) (a18 : Memref sig .tc .vmem S6x4x160 .f32) (p18 : a18.IsWhole) (a7 : Memref sig .tc .vmem S24x8x160 .bf16) (p7 : a7.IsWhole)
variable {f0 : Buf (Elt F) (a0.view.loc (c : Thread nD τ))} {f1 : Buf (Elt F) (a1.view.loc (c : Thread nD τ))} {f4 : Buf (Elt F) (a4.view.loc (c : Thread nD τ))}

variable (a2 : Memref sig .tc .vmem S6x4x160 .bf16) (p2 : a2.IsWhole)
variable (a3 : Memref sig .tc .vmem S6x4x160 .bf16) (p3 : a3.IsWhole)
variable (a9 : Memref sig .tc .vmem S6x4x160 .fp8e4m3) (p9 : a9.IsWhole)
variable {L : ℕ → ℕ}

/-- The prefetch loop's invariant: the carried words are the cursor of the trip, and the slots of the earlier trips are in flight. -/
def invK (L : ℕ → ℕ) (f : Buf (Elt F) (hbmK c)) (t : ℕ) (a : BitVec 32 × BitVec 32 × BitVec 32) : sProp 𝕄 :=
  iprop(⌜a = (W (cu L t).b, W (cu L t).g, W (cu L t).c)⌝ ∗ RingK c L f (preK L t) ∗ Bufs c a0 a1 a4 a12 a13 a14 a15 a16 a17 a18 a8 a7 f0 f1 f4)

theorem stepK (hL : LensOk a0 c f0 L) (f : Buf (Elt F) (hbmK c)) (t : Fin k0_t1_loop.trips) (a : BitVec 32 × BitVec 32 × BitVec 32) :
    invK (f0 := f0) (f1 := f1) (f4 := f4) c a0 a1 a12 a13 a14 a15 a16 a17 a4 a8 a18 a7 L f t.val a ⊢ wp frame (wpE (defs₀ (F := F)) Variants.nat c.tc bd) Set.univ ((k0_t1_body (F := F) a0 p0 a1 p1 a2 p2 a3 p3 a4 p4 (Memref.whole main_v2) (isW _) (Memref.whole main_v4) (isW _) a7 p7 a8 p8 a9 p9 (Memref.whole cc0_scratch0) (isW _) (Memref.whole cc0_scratch1) (isW _) a12 p12 a13 p13 a14 p14 a15 p15 a16 p16 a17 p17 a18 p18 cc0_scratch9 cc0_scratch10) t a) (invK (f0 := f0) (f1 := f1) (f4 := f4) c a0 a1 a12 a13 a14 a15 a16 a17 a4 a8 a18 a7 L f (t.val + 1)) := by
  have hn := nL_ok hL.1
  have hn1 := fun b => (hn b).1
  obtain ⟨ab, ag, ac⟩ := cur_bounds hn t.val
  have ht : t.val < 6 := t.isLt
  have c3 : k0_chk3 (W (cu L t.val).b) (W (cu L t.val).c) := chk3_W ac
  have c1 : k0_chk1 (W (cu L t.val).b) := chk1_W ab
  have E' := adv_pre hL.1 t.val
  unfold invK k0_t1_body
  iintro ⟨%ea, HR, HB⟩
  subst ea
  by_cases hk : (cu L t.val).b < 4
  · have h1 : k0_cond1 (W (cu L t.val).b) = 1#1 := by rw [cond1_W ab, ofBool_one]; simp [hk]
    have ib := cur_in hn1 ((cur_lt_iff hn1 t.val).1 hk)
    have c2 : k0_chk2 t (W (cu L t.val).b) (W (cu L t.val).g) (W (cu L t.val).c) (W (lw L (cu L t.val).b)) := chk2_W t ab ag (lw_le hL.1 _) (fun _ => ib.2.2)
    simp only [dif_pos h1, Prog.lift, Prog.bind_op, Prog.bind_ret, Prog.pure_eq_ret, Prog.bind_assoc]
    iapply (wp_assume Variants.nat c.tc bd Set.univ c3)
    iapply (wp_assume Variants.nat c.tc bd Set.univ c1)
    iapply (lenB c bd a0 a1 a12 a13 a14 a15 a16 a17 a4 a8 a18 a7 hL (cu L t.val).b (offL ab)) $$ HB; iintro HB
    iapply (wp_assume Variants.nat c.tc bd Set.univ c2)
    icases (preK_open c L f ⟨t.val, ht⟩) $$ HR with ⟨HF, HR⟩
    iapply (issue_PK c bd t.val ht (cu L t.val).b (cu L t.val).g (cu L t.val).c (lw L (cu L t.val).b) t rfl (lw_le hL.1 _) ib.2.2 ib.1 ib.2.1 _ _ _ _ _ f) $$ HF
    iintro HF
    iapply (lenB c bd a0 a1 a12 a13 a14 a15 a16 a17 a4 a8 a18 a7 hL (cu L t.val).b (offL ab)) $$ HB; iintro HB
    rw [wp_ret]; imodintro
    isplitr
    · ipureintro
      exact E'
    isplitr [HB]
    · iapply (preK_issue c L f ⟨t.val, ht⟩ hk)
      isplitl [HF]; · iexact HF
      iexact HR
    iexact HB
  · have h1 : ¬ k0_cond1 (W (cu L t.val).b) = 1#1 := by rw [cond1_W ab, ofBool_one]; simp [hk]
    simp only [dif_neg h1, Prog.lift, Prog.bind_op, Prog.bind_ret, Prog.pure_eq_ret, Prog.bind_assoc]
    iapply (wp_assume Variants.nat c.tc bd Set.univ c3)
    iapply (wp_assume Variants.nat c.tc bd Set.univ c1)
    iapply (lenB c bd a0 a1 a12 a13 a14 a15 a16 a17 a4 a8 a18 a7 hL (cu L t.val).b (offL ab)) $$ HB; iintro HB
    rw [wp_ret]; imodintro
    isplitr
    · ipureintro
      exact E'
    isplitr [HB]
    · iapply (preK_skip c L f ⟨t.val, ht⟩ hk); iexact HR
    iexact HB

theorem loopK {α : Type} (hL : LensOk a0 c f0 L) (f : Buf (Elt F) (hbmK c)) {kk} {Q : α → sProp 𝕄} :
    iprop(RingK c L f (fun _ => none) ∗ Bufs c a0 a1 a4 a12 a13 a14 a15 a16 a17 a18 a8 a7 f0 f1 f4) ⊢ iprop(((RingK c L f (stK L 0) ∗ Bufs c a0 a1 a4 a12 a13 a14 a15 a16 a17 a18 a8 a7 f0 f1 f4) -∗ wp frame (wpE (defs₀ (F := F)) Variants.nat c.tc bd) Set.univ (kk (W (cu L 6).b, W (cu L 6).g, W (cu L 6).c)) Q)
      -∗ wp frame (wpE (defs₀ (F := F)) Variants.nat c.tc bd) Set.univ (Scf.Loop.for k0_t1_loop k0_t1_ok (0#32, 0#32, 0#32) (k0_t1_body (F := F) a0 p0 a1 p1 a2 p2 a3 p3 a4 p4 (Memref.whole main_v2) (isW _) (Memref.whole main_v4) (isW _) a7 p7 a8 p8 a9 p9 (Memref.whole cc0_scratch0) (isW _) (Memref.whole cc0_scratch1) (isW _) a12 p12 a13 p13 a14 p14 a15 p15 a16 p16 a17 p17 a18 p18 cc0_scratch9 cc0_scratch10) >>= kk) Q) := by
  iintro ⟨HR, HB⟩ Hk
  iapply (Scf.wp_for_bind _ _ _ _ _ _ k0_t1_ok (0#32, 0#32, 0#32) (k0_t1_body (F := F) a0 p0 a1 p1 a2 p2 a3 p3 a4 p4 (Memref.whole main_v2) (isW _) (Memref.whole main_v4) (isW _) a7 p7 a8 p8 a9 p9 (Memref.whole cc0_scratch0) (isW _) (Memref.whole cc0_scratch1) (isW _) a12 p12 a13 p13 a14 p14 a15 p15 a16 p16 a17 p17 a18 p18 cc0_scratch9 cc0_scratch10) (invK (f0 := f0) (f1 := f1) (f4 := f4) c a0 a1 a12 a13 a14 a15 a16 a17 a4 a8 a18 a7 L f) (stepK (f0 := f0) (f1 := f1) (f4 := f4) c bd a0 p0 a1 p1 a12 p12 a13 p13 a14 p14 a15 p15 a16 p16 a17 p17 a4 p4 a8 p8 a18 p18 a7 p7 a2 p2 a3 p3 a9 p9 hL f)) $$ [HR HB]
  · unfold invK
    isplitr
    · ipureintro; exact (cu_zero L).symm
    isplitr [HB]
    · rw [preK_zero]; iexact HR
    iexact HB
  iintro %a HI
  unfold invK
  icases HI with ⟨%ea, HR, HB⟩
  have ea' : a = (W (cu L 6).b, W (cu L 6).g, W (cu L 6).c) := ea
  subst ea'
  iapply Hk
  isplitr [HB]
  · iapply (BIBase.Entails.of_eq (congrArg (RingK c L f) (preK_full L))); iexact HR
  iexact HB

/-- The prefetch loop's invariant: the carried words are the cursor of the trip, and the slots of the earlier trips are in flight. -/
def invV (L : ℕ → ℕ) (f : Buf (Elt F) (hbmV c)) (t : ℕ) (a : BitVec 32 × BitVec 32 × BitVec 32) : sProp 𝕄 :=
  iprop(⌜a = (W (cu L t).b, W (cu L t).g, W (cu L t).c)⌝ ∗ RingV c L f (preV L t) ∗ Bufs c a0 a1 a4 a12 a13 a14 a15 a16 a17 a18 a8 a7 f0 f1 f4)

theorem stepV (hL : LensOk a0 c f0 L) (f : Buf (Elt F) (hbmV c)) (t : Fin k0_t2_loop.trips) (a : BitVec 32 × BitVec 32 × BitVec 32) :
    invV (f0 := f0) (f1 := f1) (f4 := f4) c a0 a1 a12 a13 a14 a15 a16 a17 a4 a8 a18 a7 L f t.val a ⊢ wp frame (wpE (defs₀ (F := F)) Variants.nat c.tc bd) Set.univ ((k0_t2_body (F := F) a0 p0 a1 p1 a2 p2 a3 p3 a4 p4 (Memref.whole main_v2) (isW _) (Memref.whole main_v4) (isW _) a7 p7 a8 p8 a9 p9 (Memref.whole cc0_scratch0) (isW _) (Memref.whole cc0_scratch1) (isW _) a12 p12 a13 p13 a14 p14 a15 p15 a16 p16 a17 p17 a18 p18 cc0_scratch9 cc0_scratch10) t a) (invV (f0 := f0) (f1 := f1) (f4 := f4) c a0 a1 a12 a13 a14 a15 a16 a17 a4 a8 a18 a7 L f (t.val + 1)) := by
  have hn := nL_ok hL.1
  have hn1 := fun b => (hn b).1
  obtain ⟨ab, ag, ac⟩ := cur_bounds hn t.val
  have ht : t.val < 8 := t.isLt
  have c3 : k0_chk6 (W (cu L t.val).b) (W (cu L t.val).c) := chk6_W ac
  have c1 : k0_chk4 (W (cu L t.val).b) := chk4_W ab
  have E' := adv_pre hL.1 t.val
  unfold invV k0_t2_body
  iintro ⟨%ea, HR, HB⟩
  subst ea
  by_cases hk : (cu L t.val).b < 4
  · have h1 : k0_cond2 (W (cu L t.val).b) = 1#1 := by rw [cond2_W ab, ofBool_one]; simp [hk]
    have ib := cur_in hn1 ((cur_lt_iff hn1 t.val).1 hk)
    have c2 : k0_chk5 t (W (cu L t.val).b) (W (cu L t.val).g) (W (cu L t.val).c) (W (lw L (cu L t.val).b)) := chk5_W t ab ag (lw_le hL.1 _) (fun _ => ib.2.2)
    simp only [dif_pos h1, Prog.lift, Prog.bind_op, Prog.bind_ret, Prog.pure_eq_ret, Prog.bind_assoc]
    iapply (wp_assume Variants.nat c.tc bd Set.univ c3)
    iapply (wp_assume Variants.nat c.tc bd Set.univ c1)
    iapply (lenB c bd a0 a1 a12 a13 a14 a15 a16 a17 a4 a8 a18 a7 hL (cu L t.val).b (offL ab)) $$ HB; iintro HB
    iapply (wp_assume Variants.nat c.tc bd Set.univ c2)
    icases (preV_open c L f ⟨t.val, ht⟩) $$ HR with ⟨HF, HR⟩
    iapply (issue_PV c bd t.val ht (cu L t.val).b (cu L t.val).g (cu L t.val).c (lw L (cu L t.val).b) t rfl (lw_le hL.1 _) ib.2.2 ib.1 ib.2.1 _ _ _ _ _ f) $$ HF
    iintro HF
    iapply (lenB c bd a0 a1 a12 a13 a14 a15 a16 a17 a4 a8 a18 a7 hL (cu L t.val).b (offL ab)) $$ HB; iintro HB
    rw [wp_ret]; imodintro
    isplitr
    · ipureintro
      exact E'
    isplitr [HB]
    · iapply (preV_issue c L f ⟨t.val, ht⟩ hk)
      isplitl [HF]; · iexact HF
      iexact HR
    iexact HB
  · have h1 : ¬ k0_cond2 (W (cu L t.val).b) = 1#1 := by rw [cond2_W ab, ofBool_one]; simp [hk]
    simp only [dif_neg h1, Prog.lift, Prog.bind_op, Prog.bind_ret, Prog.pure_eq_ret, Prog.bind_assoc]
    iapply (wp_assume Variants.nat c.tc bd Set.univ c3)
    iapply (wp_assume Variants.nat c.tc bd Set.univ c1)
    iapply (lenB c bd a0 a1 a12 a13 a14 a15 a16 a17 a4 a8 a18 a7 hL (cu L t.val).b (offL ab)) $$ HB; iintro HB
    rw [wp_ret]; imodintro
    isplitr
    · ipureintro
      exact E'
    isplitr [HB]
    · iapply (preV_skip c L f ⟨t.val, ht⟩ hk); iexact HR
    iexact HB

theorem loopV {α : Type} (hL : LensOk a0 c f0 L) (f : Buf (Elt F) (hbmV c)) {kk} {Q : α → sProp 𝕄} :
    iprop(RingV c L f (fun _ => none) ∗ Bufs c a0 a1 a4 a12 a13 a14 a15 a16 a17 a18 a8 a7 f0 f1 f4) ⊢ iprop(((RingV c L f (stV L 0) ∗ Bufs c a0 a1 a4 a12 a13 a14 a15 a16 a17 a18 a8 a7 f0 f1 f4) -∗ wp frame (wpE (defs₀ (F := F)) Variants.nat c.tc bd) Set.univ (kk (W (cu L 8).b, W (cu L 8).g, W (cu L 8).c)) Q)
      -∗ wp frame (wpE (defs₀ (F := F)) Variants.nat c.tc bd) Set.univ (Scf.Loop.for k0_t2_loop k0_t2_ok (0#32, 0#32, 0#32) (k0_t2_body (F := F) a0 p0 a1 p1 a2 p2 a3 p3 a4 p4 (Memref.whole main_v2) (isW _) (Memref.whole main_v4) (isW _) a7 p7 a8 p8 a9 p9 (Memref.whole cc0_scratch0) (isW _) (Memref.whole cc0_scratch1) (isW _) a12 p12 a13 p13 a14 p14 a15 p15 a16 p16 a17 p17 a18 p18 cc0_scratch9 cc0_scratch10) >>= kk) Q) := by
  iintro ⟨HR, HB⟩ Hk
  iapply (Scf.wp_for_bind _ _ _ _ _ _ k0_t2_ok (0#32, 0#32, 0#32) (k0_t2_body (F := F) a0 p0 a1 p1 a2 p2 a3 p3 a4 p4 (Memref.whole main_v2) (isW _) (Memref.whole main_v4) (isW _) a7 p7 a8 p8 a9 p9 (Memref.whole cc0_scratch0) (isW _) (Memref.whole cc0_scratch1) (isW _) a12 p12 a13 p13 a14 p14 a15 p15 a16 p16 a17 p17 a18 p18 cc0_scratch9 cc0_scratch10) (invV (f0 := f0) (f1 := f1) (f4 := f4) c a0 a1 a12 a13 a14 a15 a16 a17 a4 a8 a18 a7 L f) (stepV (f0 := f0) (f1 := f1) (f4 := f4) c bd a0 p0 a1 p1 a12 p12 a13 p13 a14 p14 a15 p15 a16 p16 a17 p17 a4 p4 a8 p8 a18 p18 a7 p7 a2 p2 a3 p3 a9 p9 hL f)) $$ [HR HB]
  · unfold invV
    isplitr
    · ipureintro; exact (cu_zero L).symm
    isplitr [HB]
    · rw [preV_zero]; iexact HR
    iexact HB
  iintro %a HI
  unfold invV
  icases HI with ⟨%ea, HR, HB⟩
  have ea' : a = (W (cu L 8).b, W (cu L 8).g, W (cu L 8).c) := ea
  subst ea'
  iapply Hk
  isplitr [HB]
  · iapply (BIBase.Entails.of_eq (congrArg (RingV c L f) (preV_full L))); iexact HR
  iexact HB

end Cert.Kernel.Hand
-- ==== Proof.K.FragB.lean ====
module

public import proofs.«01_k».proof.Proof.K.FragA
public import Idealize.ShloMosaic.Lib.Pipeline.FrameBody
public import Idealize.ShloMosaic.Lib.Pipeline.DatRel
public import Idealize.ShloMosaic.Lib.Ring
public import Idealize.ShloMosaic.Lib.Tactic
public import Idealize.ShloMosaic.Lib.WordCmp

@[expose] public section

set_option maxRecDepth 16384

/-!
The arithmetic parts of the loop body: each loads and stores its buffers and goes on.
-/

noncomputable section

namespace Cert.Kernel.Hand

open Cert.Kernel Cert.Kernel.Gen Cert.Words
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (c : Dev nD) (bd : Option Variants.nat.V) (a0 : Memref sig .tc .smem S4 .i32) (p0 : a0.IsWhole) (a1 : Memref sig .tc .vmem S24x8x160 .bf16) (p1 : a1.IsWhole) (a12 : Memref sig .tc .vmem S16x8x4096 .f32) (p12 : a12.IsWhole) (a13 : Memref sig .tc .vmem S8x128 .f32) (p13 : a13.IsWhole) (a14 : Memref sig .tc .vmem S24x8x128 .f32) (p14 : a14.IsWhole) (a15 : Memref sig .tc .vmem S8x128 .f32) (p15 : a15.IsWhole) (a16 : Memref sig .tc .vmem S8x160 .f32) (p16 : a16.IsWhole) (a17 : Memref sig .tc .vmem S6x4x160 .f32) (p17 : a17.IsWhole) (a4 : Memref sig .tc .vmem S6x4x160 .f32) (p4 : a4.IsWhole) (a8 : Memref sig .tc .vmem S24x8x160 .f32) (p8 : a8.IsWhole) (a18 : Memref sig .tc .vmem S6x4x160 .f32) (p18 : a18.IsWhole) (a7 : Memref sig .tc .vmem S24x8x160 .bf16) (p7 : a7.IsWhole)
variable (a21 a22 a23 a24 a25 a26 a27 a28 a29 a30 a31 a32 a33 a34 a35 a36 : BitVec 32)
variable {f0 : Buf (Elt F) (a0.view.loc (c : Thread nD τ))} {f1 : Buf (Elt F) (a1.view.loc (c : Thread nD τ))} {f4 : Buf (Elt F) (a4.view.loc (c : Thread nD τ))}

theorem part8_wp {α : Type} (k0_hw16 : k0_chk16 a21 a22 a24 a25 a36) (k0_h5 : k0_cond5 a21 a22 a24 a25 = 1#1) (v379 : FVec F S8x128 .f32) (v539 : FVec F S8x128 .f32) (v547 : FVec F S8x128 .f32)
    {kk} {Q : α → sProp 𝕄} :
    Bufs c a0 a1 a4 a12 a13 a14 a15 a16 a17 a18 a8 a7 f0 f1 f4 ⊢ iprop((∀ r, Bufs c a0 a1 a4 a12 a13 a14 a15 a16 a17 a18 a8 a7 f0 f1 f4 -∗ wp frame (wpE (defs₀ (F := F)) Variants.nat c.tc bd) Set.univ (kk r) Q)
      -∗ wp frame (wpE (defs₀ (F := F)) Variants.nat c.tc bd) Set.univ (k0_part8 (F := F) a0 p0 cc0_scratch9 (Memref.whole cc0_scratch0) (isW _) (Memref.whole main_v2) (isW _) cc0_scratch10 (Memref.whole cc0_scratch1) (isW _) (Memref.whole main_v4) (isW _) a1 p1 a12 p12 a13 p13 a14 p14 a15 p15 a16 p16 a17 p17 a4 p4 a8 p8 a18 p18 a7 p7 a21 a22 a23 a24 a25 a26 a27 a28 a29 a30 a31 a32 a33 a34 a35 a36 k0_hw16 k0_h5 v379 v539 v547 >>= kk) Q) := by
  rw [k0_part8_eq_skeleton]; unfold k0_part8_skel Bufs
  simp only [Prog.lift, Prog.bind_op, Prog.bind_ret, Prog.pure_eq_ret, Prog.bind_assoc]
  iintro ⟨H0, H1, H4, ⟨%f12, H12⟩, ⟨%f13, H13⟩, ⟨%f14, H14⟩, ⟨%f15, H15⟩, ⟨%f16, H16⟩, ⟨%f17, H17⟩, ⟨%f18, H18⟩, ⟨%f8, H8⟩, ⟨%f7, H7⟩⟩ Hk
  iapply (ld c bd) $$ H12; iintro H12
  iapply (ld c bd) $$ H12; iintro H12
  iapply (ld c bd) $$ H12; iintro H12
  iapply (ld c bd) $$ H12; iintro H12
  iapply Hk
  isplitl [H0]; · iexact H0
  isplitl [H1]; · iexact H1
  isplitl [H4]; · iexact H4
  isplitl [H12]; · iexists _; iexact H12
  isplitl [H13]; · iexists _; iexact H13
  isplitl [H14]; · iexists _; iexact H14
  isplitl [H15]; · iexists _; iexact H15
  isplitl [H16]; · iexists _; iexact H16
  isplitl [H17]; · iexists _; iexact H17
  isplitl [H18]; · iexists _; iexact H18
  isplitl [H8]; · iexists _; iexact H8
  iexists _; iexact H7

theorem part9_wp {α : Type} (k0_hw16 : k0_chk16 a21 a22 a24 a25 a36) (k0_h5 : k0_cond5 a21 a22 a24 a25 = 1#1) (v379 : FVec F S8x128 .f32) (v588 : FVec F S8x128 .f32) (v589 : FVec F S8x128 .f32) (v590 : FVec F S8x128 .f32)
    {kk} {Q : α → sProp 𝕄} :
    Bufs c a0 a1 a4 a12 a13 a14 a15 a16 a17 a18 a8 a7 f0 f1 f4 ⊢ iprop((∀ r, Bufs c a0 a1 a4 a12 a13 a14 a15 a16 a17 a18 a8 a7 f0 f1 f4 -∗ wp frame (wpE (defs₀ (F := F)) Variants.nat c.tc bd) Set.univ (kk r) Q)
      -∗ wp frame (wpE (defs₀ (F := F)) Variants.nat c.tc bd) Set.univ (k0_part9 (F := F) a0 p0 cc0_scratch9 (Memref.whole cc0_scratch0) (isW _) (Memref.whole main_v2) (isW _) cc0_scratch10 (Memref.whole cc0_scratch1) (isW _) (Memref.whole main_v4) (isW _) a1 p1 a12 p12 a13 p13 a14 p14 a15 p15 a16 p16 a17 p17 a4 p4 a8 p8 a18 p18 a7 p7 a21 a22 a23 a24 a25 a26 a27 a28 a29 a30 a31 a32 a33 a34 a35 a36 k0_hw16 k0_h5 v379 v588 v589 v590 >>= kk) Q) := by
  rw [k0_part9_eq_skeleton]; unfold k0_part9_skel Bufs
  simp only [Prog.lift, Prog.bind_op, Prog.bind_ret, Prog.pure_eq_ret, Prog.bind_assoc]
  iintro ⟨H0, H1, H4, ⟨%f12, H12⟩, ⟨%f13, H13⟩, ⟨%f14, H14⟩, ⟨%f15, H15⟩, ⟨%f16, H16⟩, ⟨%f17, H17⟩, ⟨%f18, H18⟩, ⟨%f8, H8⟩, ⟨%f7, H7⟩⟩ Hk
  iapply (ld c bd) $$ H12; iintro H12
  iapply (ld c bd) $$ H12; iintro H12
  iapply (ld c bd) $$ H12; iintro H12
  iapply (ld c bd) $$ H12; iintro H12
  iapply Hk
  isplitl [H0]; · iexact H0
  isplitl [H1]; · iexact H1
  isplitl [H4]; · iexact H4
  isplitl [H12]; · iexists _; iexact H12
  isplitl [H13]; · iexists _; iexact H13
  isplitl [H14]; · iexists _; iexact H14
  isplitl [H15]; · iexists _; iexact H15
  isplitl [H16]; · iexists _; iexact H16
  isplitl [H17]; · iexists _; iexact H17
  isplitl [H18]; · iexists _; iexact H18
  isplitl [H8]; · iexists _; iexact H8
  iexists _; iexact H7

theorem part10_wp {α : Type} (k0_hw16 : k0_chk16 a21 a22 a24 a25 a36) (k0_h5 : k0_cond5 a21 a22 a24 a25 = 1#1) (v379 : FVec F S8x128 .f32) (v629 : FVec F S8x128 .f32)
    {kk} {Q : α → sProp 𝕄} :
    Bufs c a0 a1 a4 a12 a13 a14 a15 a16 a17 a18 a8 a7 f0 f1 f4 ⊢ iprop((∀ r, Bufs c a0 a1 a4 a12 a13 a14 a15 a16 a17 a18 a8 a7 f0 f1 f4 -∗ wp frame (wpE (defs₀ (F := F)) Variants.nat c.tc bd) Set.univ (kk r) Q)
      -∗ wp frame (wpE (defs₀ (F := F)) Variants.nat c.tc bd) Set.univ (k0_part10 (F := F) a0 p0 cc0_scratch9 (Memref.whole cc0_scratch0) (isW _) (Memref.whole main_v2) (isW _) cc0_scratch10 (Memref.whole cc0_scratch1) (isW _) (Memref.whole main_v4) (isW _) a1 p1 a12 p12 a13 p13 a14 p14 a15 p15 a16 p16 a17 p17 a4 p4 a8 p8 a18 p18 a7 p7 a21 a22 a23 a24 a25 a26 a27 a28 a29 a30 a31 a32 a33 a34 a35 a36 k0_hw16 k0_h5 v379 v629 >>= kk) Q) := by
  rw [k0_part10_eq_skeleton]; unfold k0_part10_skel Bufs
  simp only [Prog.lift, Prog.bind_op, Prog.bind_ret, Prog.pure_eq_ret, Prog.bind_assoc]
  iintro ⟨H0, H1, H4, ⟨%f12, H12⟩, ⟨%f13, H13⟩, ⟨%f14, H14⟩, ⟨%f15, H15⟩, ⟨%f16, H16⟩, ⟨%f17, H17⟩, ⟨%f18, H18⟩, ⟨%f8, H8⟩, ⟨%f7, H7⟩⟩ Hk
  iapply (ld c bd) $$ H12; iintro H12
  iapply (ld c bd) $$ H12; iintro H12
  iapply (ld c bd) $$ H12; iintro H12
  iapply (ld c bd) $$ H12; iintro H12
  iapply (ld c bd) $$ H12; iintro H12
  iapply Hk
  isplitl [H0]; · iexact H0
  isplitl [H1]; · iexact H1
  isplitl [H4]; · iexact H4
  isplitl [H12]; · iexists _; iexact H12
  isplitl [H13]; · iexists _; iexact H13
  isplitl [H14]; · iexists _; iexact H14
  isplitl [H15]; · iexists _; iexact H15
  isplitl [H16]; · iexists _; iexact H16
  isplitl [H17]; · iexists _; iexact H17
  isplitl [H18]; · iexists _; iexact H18
  isplitl [H8]; · iexists _; iexact H8
  iexists _; iexact H7

theorem part11_wp {α : Type} (k0_hw16 : k0_chk16 a21 a22 a24 a25 a36) (k0_hw14 : k0_chk14 a21 a22 a24 a25 a30 a34) (k0_h5 : k0_cond5 a21 a22 a24 a25 = 1#1) (v379 : FVec F S8x128 .f32) (v393 : FVec F S8x128 .f32) (v403 : FVec F S8x128 .f32) (v413 : FVec F S8x128 .f32) (v423 : FVec F S8x128 .f32) (v433 : FVec F S8x128 .f32) (v443 : FVec F S8x128 .f32) (v453 : FVec F S8x128 .f32) (v463 : FVec F S8x128 .f32) (v473 : FVec F S8x128 .f32) (v483 : FVec F S8x128 .f32) (v493 : FVec F S8x128 .f32) (v503 : FVec F S8x128 .f32) (v513 : FVec F S8x128 .f32) (v523 : FVec F S8x128 .f32) (v533 : FVec F S8x128 .f32) (v543 : FVec F S8x128 .f32) (v553 : FVec F S8x128 .f32) (v563 : FVec F S8x128 .f32) (v573 : FVec F S8x128 .f32) (v583 : FVec F S8x128 .f32) (v593 : FVec F S8x128 .f32) (v603 : FVec F S8x128 .f32) (v613 : FVec F S8x128 .f32) (v623 : FVec F S8x128 .f32) (v633 : FVec F S8x128 .f32) (v643 : FVec F S8x128 .f32) (v653 : FVec F S8x128 .f32) (v663 : FVec F S8x128 .f32) (v669 : FVec F S8x128 .f32) (v673 : FVec F S8x128 .f32) (v675 : Vec F S1x8x128 .f32) (k' : Fin 8) (hk : k0_off56 a34 = ![k'.val, 0, 0]) (fS : Buf (Elt F) (locV c))
    {kk} {Q : α → sProp 𝕄} :
    iprop(Bufs c a0 a1 a4 a12 a13 a14 a15 a16 a17 a18 a8 a7 f0 f1 f4 ∗ (locV c ↦[slotV c k'.val]{fullShare} fS)) ⊢ iprop((∀ r, iprop(Bufs c a0 a1 a4 a12 a13 a14 a15 a16 a17 a18 a8 a7 f0 f1 f4 ∗ (locV c ↦[slotV c k'.val]{fullShare} fS)) -∗ wp frame (wpE (defs₀ (F := F)) Variants.nat c.tc bd) Set.univ (kk r) Q)
      -∗ wp frame (wpE (defs₀ (F := F)) Variants.nat c.tc bd) Set.univ (k0_part11 (F := F) a0 p0 cc0_scratch9 (Memref.whole cc0_scratch0) (isW _) (Memref.whole main_v2) (isW _) cc0_scratch10 (Memref.whole cc0_scratch1) (isW _) (Memref.whole main_v4) (isW _) a1 p1 a12 p12 a13 p13 a14 p14 a15 p15 a16 p16 a17 p17 a4 p4 a8 p8 a18 p18 a7 p7 a21 a22 a23 a24 a25 a26 a27 a28 a29 a30 a31 a32 a33 a34 a35 a36 k0_hw16 k0_hw14 k0_h5 v379 v393 v403 v413 v423 v433 v443 v453 v463 v473 v483 v493 v503 v513 v523 v533 v543 v553 v563 v573 v583 v593 v603 v613 v623 v633 v643 v653 v663 v669 v673 v675 >>= kk) Q) := by
  rw [k0_part11_eq_skeleton]; unfold k0_part11_skel Bufs
  simp only [Prog.lift, Prog.bind_op, Prog.bind_ret, Prog.pure_eq_ret, Prog.bind_assoc]
  iintro ⟨⟨H0, H1, H4, ⟨%f12, H12⟩, ⟨%f13, H13⟩, ⟨%f14, H14⟩, ⟨%f15, H15⟩, ⟨%f16, H16⟩, ⟨%f17, H17⟩, ⟨%f18, H18⟩, ⟨%f8, H8⟩, ⟨%f7, H7⟩⟩, HS⟩ Hk
  iapply (ld c bd) $$ H12; iintro H12
  iapply (ld c bd) $$ H12; iintro H12
  iapply (ld c bd) $$ H15; iintro H15
  iapply (st c bd) $$ H15; iintro H15
  iapply (ldV c bd hk) $$ HS; iintro HS
  iapply (ld c bd) $$ H16; iintro H16
  iapply Hk
  isplitr [HS]
  · isplitl [H0]; · iexact H0
    isplitl [H1]; · iexact H1
    isplitl [H4]; · iexact H4
    isplitl [H12]; · iexists _; iexact H12
    isplitl [H13]; · iexists _; iexact H13
    isplitl [H14]; · iexists _; iexact H14
    isplitl [H15]; · iexists _; iexact H15
    isplitl [H16]; · iexists _; iexact H16
    isplitl [H17]; · iexists _; iexact H17
    isplitl [H18]; · iexists _; iexact H18
    isplitl [H8]; · iexists _; iexact H8
    iexists _; iexact H7
  · iexact HS

theorem part12_wp {α : Type} (k0_hw15 : k0_chk15 a21 a22 a24 a25 a35) (k0_hw11 : k0_chk11 a21 a22 a24 a25) (k0_hw10 : k0_chk10 a21 a22 a24 a25 a27 a33) (k0_h6 : k0_cond6 a21 a22 a24 a25 = 1#1) {L : ℕ → ℕ} (hL : LensOk a0 c f0 L) (b0 : ℕ) (hb : k0_off59 a21 = ![b0]) (k' : Fin 6) (hk : k0_off58 a33 = ![k'.val, 0, 0]) (fS : Buf (Elt F) (locK c))
    {kk} {Q : α → sProp 𝕄} :
    iprop(Bufs c a0 a1 a4 a12 a13 a14 a15 a16 a17 a18 a8 a7 f0 f1 f4 ∗ (locK c ↦[slotK c k'.val]{fullShare} fS)) ⊢ iprop((∀ r, iprop(Bufs c a0 a1 a4 a12 a13 a14 a15 a16 a17 a18 a8 a7 f0 f1 f4 ∗ (locK c ↦[slotK c k'.val]{fullShare} fS)) -∗ wp frame (wpE (defs₀ (F := F)) Variants.nat c.tc bd) Set.univ (kk r) Q)
      -∗ wp frame (wpE (defs₀ (F := F)) Variants.nat c.tc bd) Set.univ (k0_part12 (F := F) a0 p0 cc0_scratch9 (Memref.whole cc0_scratch0) (isW _) (Memref.whole main_v2) (isW _) cc0_scratch10 (Memref.whole cc0_scratch1) (isW _) (Memref.whole main_v4) (isW _) a1 p1 a12 p12 a13 p13 a14 p14 a15 p15 a16 p16 a17 p17 a4 p4 a8 p8 a18 p18 a7 p7 a21 a22 a23 a24 a25 a26 a27 a28 a29 a30 a31 a32 a33 a34 a35 a36 k0_hw15 k0_hw11 k0_hw10 k0_h6 >>= kk) Q) := by
  rw [k0_part12_eq_skeleton]; unfold k0_part12_skel Bufs
  simp only [Prog.lift, Prog.bind_op, Prog.bind_ret, Prog.pure_eq_ret, Prog.bind_assoc]
  iintro ⟨⟨H0, H1, H4, ⟨%f12, H12⟩, ⟨%f13, H13⟩, ⟨%f14, H14⟩, ⟨%f15, H15⟩, ⟨%f16, H16⟩, ⟨%f17, H17⟩, ⟨%f18, H18⟩, ⟨%f8, H8⟩, ⟨%f7, H7⟩⟩, HS⟩ Hk
  iapply (ld c bd) $$ H1; iintro H1
  iapply (ldK c bd hk) $$ HS; iintro HS
  iapply (ldLen c bd hL b0 hb) $$ H0; iintro H0
  iapply (ld c bd) $$ H12; iintro H12
  iapply (st c bd) $$ H12; iintro H12
  iapply Hk
  isplitr [HS]
  · isplitl [H0]; · iexact H0
    isplitl [H1]; · iexact H1
    isplitl [H4]; · iexact H4
    isplitl [H12]; · iexists _; iexact H12
    isplitl [H13]; · iexists _; iexact H13
    isplitl [H14]; · iexists _; iexact H14
    isplitl [H15]; · iexists _; iexact H15
    isplitl [H16]; · iexists _; iexact H16
    isplitl [H17]; · iexists _; iexact H17
    isplitl [H18]; · iexists _; iexact H18
    isplitl [H8]; · iexists _; iexact H8
    iexists _; iexact H7
  · iexact HS

end Cert.Kernel.Hand
-- ==== Proof.K.FragC.lean ====
module

public import proofs.«01_k».proof.Proof.K.FragA
public import Idealize.ShloMosaic.Lib.Pipeline.FrameBody
public import Idealize.ShloMosaic.Lib.Pipeline.DatRel
public import Idealize.ShloMosaic.Lib.Ring
public import Idealize.ShloMosaic.Lib.Tactic
public import Idealize.ShloMosaic.Lib.WordCmp

@[expose] public section

set_option maxRecDepth 16384

/-!
The arithmetic parts of the loop body: each loads and stores its buffers and goes on.
-/

noncomputable section

namespace Cert.Kernel.Hand

open Cert.Kernel Cert.Kernel.Gen Cert.Words
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (c : Dev nD) (bd : Option Variants.nat.V) (a0 : Memref sig .tc .smem S4 .i32) (p0 : a0.IsWhole) (a1 : Memref sig .tc .vmem S24x8x160 .bf16) (p1 : a1.IsWhole) (a12 : Memref sig .tc .vmem S16x8x4096 .f32) (p12 : a12.IsWhole) (a13 : Memref sig .tc .vmem S8x128 .f32) (p13 : a13.IsWhole) (a14 : Memref sig .tc .vmem S24x8x128 .f32) (p14 : a14.IsWhole) (a15 : Memref sig .tc .vmem S8x128 .f32) (p15 : a15.IsWhole) (a16 : Memref sig .tc .vmem S8x160 .f32) (p16 : a16.IsWhole) (a17 : Memref sig .tc .vmem S6x4x160 .f32) (p17 : a17.IsWhole) (a4 : Memref sig .tc .vmem S6x4x160 .f32) (p4 : a4.IsWhole) (a8 : Memref sig .tc .vmem S24x8x160 .f32) (p8 : a8.IsWhole) (a18 : Memref sig .tc .vmem S6x4x160 .f32) (p18 : a18.IsWhole) (a7 : Memref sig .tc .vmem S24x8x160 .bf16) (p7 : a7.IsWhole)
variable (a21 a22 a23 a24 a25 a26 a27 a28 a29 a30 a31 a32 a33 a34 a35 a36 : BitVec 32)
variable {f0 : Buf (Elt F) (a0.view.loc (c : Thread nD τ))} {f1 : Buf (Elt F) (a1.view.loc (c : Thread nD τ))} {f4 : Buf (Elt F) (a4.view.loc (c : Thread nD τ))}

theorem part13_wp {α : Type} (k0_hw16 : k0_chk16 a21 a22 a24 a25 a36) (k0_hw11 : k0_chk11 a21 a22 a24 a25) (k0_h7 : k0_cond7 a21 = 1#1)
    {kk} {Q : α → sProp 𝕄} :
    Bufs c a0 a1 a4 a12 a13 a14 a15 a16 a17 a18 a8 a7 f0 f1 f4 ⊢ iprop((∀ r, Bufs c a0 a1 a4 a12 a13 a14 a15 a16 a17 a18 a8 a7 f0 f1 f4 -∗ wp frame (wpE (defs₀ (F := F)) Variants.nat c.tc bd) Set.univ (kk r) Q)
      -∗ wp frame (wpE (defs₀ (F := F)) Variants.nat c.tc bd) Set.univ (k0_part13 (F := F) a0 p0 cc0_scratch9 (Memref.whole cc0_scratch0) (isW _) (Memref.whole main_v2) (isW _) cc0_scratch10 (Memref.whole cc0_scratch1) (isW _) (Memref.whole main_v4) (isW _) a1 p1 a12 p12 a13 p13 a14 p14 a15 p15 a16 p16 a17 p17 a4 p4 a8 p8 a18 p18 a7 p7 a21 a22 a23 a24 a25 a26 a27 a28 a29 a30 a31 a32 a33 a34 a35 a36 k0_hw16 k0_hw11 k0_h7 >>= kk) Q) := by
  rw [k0_part13_eq_skeleton]; unfold k0_part13_skel Bufs
  simp only [Prog.lift, Prog.bind_op, Prog.bind_ret, Prog.pure_eq_ret, Prog.bind_assoc]
  iintro ⟨H0, H1, H4, ⟨%f12, H12⟩, ⟨%f13, H13⟩, ⟨%f14, H14⟩, ⟨%f15, H15⟩, ⟨%f16, H16⟩, ⟨%f17, H17⟩, ⟨%f18, H18⟩, ⟨%f8, H8⟩, ⟨%f7, H7⟩⟩ Hk
  iapply (ld c bd) $$ H14; iintro H14
  iapply (ld c bd) $$ H15; iintro H15
  iapply (ld c bd) $$ H12; iintro H12
  iapply (ld c bd) $$ H12; iintro H12
  iapply (ld c bd) $$ H12; iintro H12
  iapply Hk
  isplitl [H0]; · iexact H0
  isplitl [H1]; · iexact H1
  isplitl [H4]; · iexact H4
  isplitl [H12]; · iexists _; iexact H12
  isplitl [H13]; · iexists _; iexact H13
  isplitl [H14]; · iexists _; iexact H14
  isplitl [H15]; · iexists _; iexact H15
  isplitl [H16]; · iexists _; iexact H16
  isplitl [H17]; · iexists _; iexact H17
  isplitl [H18]; · iexists _; iexact H18
  isplitl [H8]; · iexists _; iexact H8
  iexists _; iexact H7

theorem part14_wp {α : Type} (k0_hw16 : k0_chk16 a21 a22 a24 a25 a36) (k0_h7 : k0_cond7 a21 = 1#1) (v284 : FVec F S8x128 .f32) (v314 : FVec F S8x128 .f32)
    {kk} {Q : α → sProp 𝕄} :
    Bufs c a0 a1 a4 a12 a13 a14 a15 a16 a17 a18 a8 a7 f0 f1 f4 ⊢ iprop((∀ r, Bufs c a0 a1 a4 a12 a13 a14 a15 a16 a17 a18 a8 a7 f0 f1 f4 -∗ wp frame (wpE (defs₀ (F := F)) Variants.nat c.tc bd) Set.univ (kk r) Q)
      -∗ wp frame (wpE (defs₀ (F := F)) Variants.nat c.tc bd) Set.univ (k0_part14 (F := F) a0 p0 cc0_scratch9 (Memref.whole cc0_scratch0) (isW _) (Memref.whole main_v2) (isW _) cc0_scratch10 (Memref.whole cc0_scratch1) (isW _) (Memref.whole main_v4) (isW _) a1 p1 a12 p12 a13 p13 a14 p14 a15 p15 a16 p16 a17 p17 a4 p4 a8 p8 a18 p18 a7 p7 a21 a22 a23 a24 a25 a26 a27 a28 a29 a30 a31 a32 a33 a34 a35 a36 k0_hw16 k0_h7 v284 v314 >>= kk) Q) := by
  rw [k0_part14_eq_skeleton]; unfold k0_part14_skel Bufs
  simp only [Prog.lift, Prog.bind_op, Prog.bind_ret, Prog.pure_eq_ret, Prog.bind_assoc]
  iintro ⟨H0, H1, H4, ⟨%f12, H12⟩, ⟨%f13, H13⟩, ⟨%f14, H14⟩, ⟨%f15, H15⟩, ⟨%f16, H16⟩, ⟨%f17, H17⟩, ⟨%f18, H18⟩, ⟨%f8, H8⟩, ⟨%f7, H7⟩⟩ Hk
  iapply (ld c bd) $$ H12; iintro H12
  iapply (ld c bd) $$ H12; iintro H12
  iapply (ld c bd) $$ H12; iintro H12
  iapply (ld c bd) $$ H12; iintro H12
  iapply (ld c bd) $$ H12; iintro H12
  iapply Hk
  isplitl [H0]; · iexact H0
  isplitl [H1]; · iexact H1
  isplitl [H4]; · iexact H4
  isplitl [H12]; · iexists _; iexact H12
  isplitl [H13]; · iexists _; iexact H13
  isplitl [H14]; · iexists _; iexact H14
  isplitl [H15]; · iexists _; iexact H15
  isplitl [H16]; · iexists _; iexact H16
  isplitl [H17]; · iexists _; iexact H17
  isplitl [H18]; · iexists _; iexact H18
  isplitl [H8]; · iexists _; iexact H8
  iexists _; iexact H7

theorem part15_wp {α : Type} (k0_hw16 : k0_chk16 a21 a22 a24 a25 a36) (k0_h7 : k0_cond7 a21 = 1#1) (v284 : FVec F S8x128 .f32) (v354 : FVec F S8x128 .f32) (v362 : FVec F S8x128 .f32)
    {kk} {Q : α → sProp 𝕄} :
    Bufs c a0 a1 a4 a12 a13 a14 a15 a16 a17 a18 a8 a7 f0 f1 f4 ⊢ iprop((∀ r, Bufs c a0 a1 a4 a12 a13 a14 a15 a16 a17 a18 a8 a7 f0 f1 f4 -∗ wp frame (wpE (defs₀ (F := F)) Variants.nat c.tc bd) Set.univ (kk r) Q)
      -∗ wp frame (wpE (defs₀ (F := F)) Variants.nat c.tc bd) Set.univ (k0_part15 (F := F) a0 p0 cc0_scratch9 (Memref.whole cc0_scratch0) (isW _) (Memref.whole main_v2) (isW _) cc0_scratch10 (Memref.whole cc0_scratch1) (isW _) (Memref.whole main_v4) (isW _) a1 p1 a12 p12 a13 p13 a14 p14 a15 p15 a16 p16 a17 p17 a4 p4 a8 p8 a18 p18 a7 p7 a21 a22 a23 a24 a25 a26 a27 a28 a29 a30 a31 a32 a33 a34 a35 a36 k0_hw16 k0_h7 v284 v354 v362 >>= kk) Q) := by
  rw [k0_part15_eq_skeleton]; unfold k0_part15_skel Bufs
  simp only [Prog.lift, Prog.bind_op, Prog.bind_ret, Prog.pure_eq_ret, Prog.bind_assoc]
  iintro ⟨H0, H1, H4, ⟨%f12, H12⟩, ⟨%f13, H13⟩, ⟨%f14, H14⟩, ⟨%f15, H15⟩, ⟨%f16, H16⟩, ⟨%f17, H17⟩, ⟨%f18, H18⟩, ⟨%f8, H8⟩, ⟨%f7, H7⟩⟩ Hk
  iapply (ld c bd) $$ H12; iintro H12
  iapply (ld c bd) $$ H12; iintro H12
  iapply (ld c bd) $$ H12; iintro H12
  iapply (ld c bd) $$ H12; iintro H12
  iapply Hk
  isplitl [H0]; · iexact H0
  isplitl [H1]; · iexact H1
  isplitl [H4]; · iexact H4
  isplitl [H12]; · iexists _; iexact H12
  isplitl [H13]; · iexists _; iexact H13
  isplitl [H14]; · iexists _; iexact H14
  isplitl [H15]; · iexists _; iexact H15
  isplitl [H16]; · iexists _; iexact H16
  isplitl [H17]; · iexists _; iexact H17
  isplitl [H18]; · iexists _; iexact H18
  isplitl [H8]; · iexists _; iexact H8
  iexists _; iexact H7

theorem part16_wp {α : Type} (k0_hw16 : k0_chk16 a21 a22 a24 a25 a36) (k0_h7 : k0_cond7 a21 = 1#1) (v284 : FVec F S8x128 .f32) (v403 : FVec F S8x128 .f32) (v404 : FVec F S8x128 .f32) (v405 : FVec F S8x128 .f32)
    {kk} {Q : α → sProp 𝕄} :
    Bufs c a0 a1 a4 a12 a13 a14 a15 a16 a17 a18 a8 a7 f0 f1 f4 ⊢ iprop((∀ r, Bufs c a0 a1 a4 a12 a13 a14 a15 a16 a17 a18 a8 a7 f0 f1 f4 -∗ wp frame (wpE (defs₀ (F := F)) Variants.nat c.tc bd) Set.univ (kk r) Q)
      -∗ wp frame (wpE (defs₀ (F := F)) Variants.nat c.tc bd) Set.univ (k0_part16 (F := F) a0 p0 cc0_scratch9 (Memref.whole cc0_scratch0) (isW _) (Memref.whole main_v2) (isW _) cc0_scratch10 (Memref.whole cc0_scratch1) (isW _) (Memref.whole main_v4) (isW _) a1 p1 a12 p12 a13 p13 a14 p14 a15 p15 a16 p16 a17 p17 a4 p4 a8 p8 a18 p18 a7 p7 a21 a22 a23 a24 a25 a26 a27 a28 a29 a30 a31 a32 a33 a34 a35 a36 k0_hw16 k0_h7 v284 v403 v404 v405 >>= kk) Q) := by
  rw [k0_part16_eq_skeleton]; unfold k0_part16_skel Bufs
  simp only [Prog.lift, Prog.bind_op, Prog.bind_ret, Prog.pure_eq_ret, Prog.bind_assoc]
  iintro ⟨H0, H1, H4, ⟨%f12, H12⟩, ⟨%f13, H13⟩, ⟨%f14, H14⟩, ⟨%f15, H15⟩, ⟨%f16, H16⟩, ⟨%f17, H17⟩, ⟨%f18, H18⟩, ⟨%f8, H8⟩, ⟨%f7, H7⟩⟩ Hk
  iapply (ld c bd) $$ H12; iintro H12
  iapply (ld c bd) $$ H12; iintro H12
  iapply (ld c bd) $$ H12; iintro H12
  iapply (ld c bd) $$ H12; iintro H12
  iapply Hk
  isplitl [H0]; · iexact H0
  isplitl [H1]; · iexact H1
  isplitl [H4]; · iexact H4
  isplitl [H12]; · iexists _; iexact H12
  isplitl [H13]; · iexists _; iexact H13
  isplitl [H14]; · iexists _; iexact H14
  isplitl [H15]; · iexists _; iexact H15
  isplitl [H16]; · iexists _; iexact H16
  isplitl [H17]; · iexists _; iexact H17
  isplitl [H18]; · iexists _; iexact H18
  isplitl [H8]; · iexists _; iexact H8
  iexists _; iexact H7

theorem part17_wp {α : Type} (k0_hw16 : k0_chk16 a21 a22 a24 a25 a36) (k0_h7 : k0_cond7 a21 = 1#1) (v284 : FVec F S8x128 .f32) (v444 : FVec F S8x128 .f32)
    {kk} {Q : α → sProp 𝕄} :
    Bufs c a0 a1 a4 a12 a13 a14 a15 a16 a17 a18 a8 a7 f0 f1 f4 ⊢ iprop((∀ r, Bufs c a0 a1 a4 a12 a13 a14 a15 a16 a17 a18 a8 a7 f0 f1 f4 -∗ wp frame (wpE (defs₀ (F := F)) Variants.nat c.tc bd) Set.univ (kk r) Q)
      -∗ wp frame (wpE (defs₀ (F := F)) Variants.nat c.tc bd) Set.univ (k0_part17 (F := F) a0 p0 cc0_scratch9 (Memref.whole cc0_scratch0) (isW _) (Memref.whole main_v2) (isW _) cc0_scratch10 (Memref.whole cc0_scratch1) (isW _) (Memref.whole main_v4) (isW _) a1 p1 a12 p12 a13 p13 a14 p14 a15 p15 a16 p16 a17 p17 a4 p4 a8 p8 a18 p18 a7 p7 a21 a22 a23 a24 a25 a26 a27 a28 a29 a30 a31 a32 a33 a34 a35 a36 k0_hw16 k0_h7 v284 v444 >>= kk) Q) := by
  rw [k0_part17_eq_skeleton]; unfold k0_part17_skel Bufs
  simp only [Prog.lift, Prog.bind_op, Prog.bind_ret, Prog.pure_eq_ret, Prog.bind_assoc]
  iintro ⟨H0, H1, H4, ⟨%f12, H12⟩, ⟨%f13, H13⟩, ⟨%f14, H14⟩, ⟨%f15, H15⟩, ⟨%f16, H16⟩, ⟨%f17, H17⟩, ⟨%f18, H18⟩, ⟨%f8, H8⟩, ⟨%f7, H7⟩⟩ Hk
  iapply (ld c bd) $$ H12; iintro H12
  iapply (ld c bd) $$ H12; iintro H12
  iapply (ld c bd) $$ H12; iintro H12
  iapply (ld c bd) $$ H12; iintro H12
  iapply (ld c bd) $$ H12; iintro H12
  iapply Hk
  isplitl [H0]; · iexact H0
  isplitl [H1]; · iexact H1
  isplitl [H4]; · iexact H4
  isplitl [H12]; · iexists _; iexact H12
  isplitl [H13]; · iexists _; iexact H13
  isplitl [H14]; · iexists _; iexact H14
  isplitl [H15]; · iexists _; iexact H15
  isplitl [H16]; · iexists _; iexact H16
  isplitl [H17]; · iexists _; iexact H17
  isplitl [H18]; · iexists _; iexact H18
  isplitl [H8]; · iexists _; iexact H8
  iexists _; iexact H7

theorem part18_wp {α : Type} (k0_hw16 : k0_chk16 a21 a22 a24 a25 a36) (k0_h7 : k0_cond7 a21 = 1#1) (v284 : FVec F S8x128 .f32) (v484 : FVec F S8x128 .f32) (v490 : Vec F S1x8x128 .f32)
    {kk} {Q : α → sProp 𝕄} :
    Bufs c a0 a1 a4 a12 a13 a14 a15 a16 a17 a18 a8 a7 f0 f1 f4 ⊢ iprop((∀ r, Bufs c a0 a1 a4 a12 a13 a14 a15 a16 a17 a18 a8 a7 f0 f1 f4 -∗ wp frame (wpE (defs₀ (F := F)) Variants.nat c.tc bd) Set.univ (kk r) Q)
      -∗ wp frame (wpE (defs₀ (F := F)) Variants.nat c.tc bd) Set.univ (k0_part18 (F := F) a0 p0 cc0_scratch9 (Memref.whole cc0_scratch0) (isW _) (Memref.whole main_v2) (isW _) cc0_scratch10 (Memref.whole cc0_scratch1) (isW _) (Memref.whole main_v4) (isW _) a1 p1 a12 p12 a13 p13 a14 p14 a15 p15 a16 p16 a17 p17 a4 p4 a8 p8 a18 p18 a7 p7 a21 a22 a23 a24 a25 a26 a27 a28 a29 a30 a31 a32 a33 a34 a35 a36 k0_hw16 k0_h7 v284 v484 v490 >>= kk) Q) := by
  rw [k0_part18_eq_skeleton]; unfold k0_part18_skel Bufs
  simp only [Prog.lift, Prog.bind_op, Prog.bind_ret, Prog.pure_eq_ret, Prog.bind_assoc]
  iintro ⟨H0, H1, H4, ⟨%f12, H12⟩, ⟨%f13, H13⟩, ⟨%f14, H14⟩, ⟨%f15, H15⟩, ⟨%f16, H16⟩, ⟨%f17, H17⟩, ⟨%f18, H18⟩, ⟨%f8, H8⟩, ⟨%f7, H7⟩⟩ Hk
  iapply (ld c bd) $$ H12; iintro H12
  iapply (ld c bd) $$ H12; iintro H12
  iapply (ld c bd) $$ H12; iintro H12
  iapply (ld c bd) $$ H12; iintro H12
  iapply Hk
  isplitl [H0]; · iexact H0
  isplitl [H1]; · iexact H1
  isplitl [H4]; · iexact H4
  isplitl [H12]; · iexists _; iexact H12
  isplitl [H13]; · iexists _; iexact H13
  isplitl [H14]; · iexists _; iexact H14
  isplitl [H15]; · iexists _; iexact H15
  isplitl [H16]; · iexists _; iexact H16
  isplitl [H17]; · iexists _; iexact H17
  isplitl [H18]; · iexists _; iexact H18
  isplitl [H8]; · iexists _; iexact H8
  iexists _; iexact H7

theorem part19_wp {α : Type} (k0_hw16 : k0_chk16 a21 a22 a24 a25 a36) (k0_h7 : k0_cond7 a21 = 1#1) (v284 : FVec F S8x128 .f32) (v533 : FVec F S8x128 .f32) (v534 : FVec F S8x128 .f32)
    {kk} {Q : α → sProp 𝕄} :
    Bufs c a0 a1 a4 a12 a13 a14 a15 a16 a17 a18 a8 a7 f0 f1 f4 ⊢ iprop((∀ r, Bufs c a0 a1 a4 a12 a13 a14 a15 a16 a17 a18 a8 a7 f0 f1 f4 -∗ wp frame (wpE (defs₀ (F := F)) Variants.nat c.tc bd) Set.univ (kk r) Q)
      -∗ wp frame (wpE (defs₀ (F := F)) Variants.nat c.tc bd) Set.univ (k0_part19 (F := F) a0 p0 cc0_scratch9 (Memref.whole cc0_scratch0) (isW _) (Memref.whole main_v2) (isW _) cc0_scratch10 (Memref.whole cc0_scratch1) (isW _) (Memref.whole main_v4) (isW _) a1 p1 a12 p12 a13 p13 a14 p14 a15 p15 a16 p16 a17 p17 a4 p4 a8 p8 a18 p18 a7 p7 a21 a22 a23 a24 a25 a26 a27 a28 a29 a30 a31 a32 a33 a34 a35 a36 k0_hw16 k0_h7 v284 v533 v534 >>= kk) Q) := by
  rw [k0_part19_eq_skeleton]; unfold k0_part19_skel Bufs
  simp only [Prog.lift, Prog.bind_op, Prog.bind_ret, Prog.pure_eq_ret, Prog.bind_assoc]
  iintro ⟨H0, H1, H4, ⟨%f12, H12⟩, ⟨%f13, H13⟩, ⟨%f14, H14⟩, ⟨%f15, H15⟩, ⟨%f16, H16⟩, ⟨%f17, H17⟩, ⟨%f18, H18⟩, ⟨%f8, H8⟩, ⟨%f7, H7⟩⟩ Hk
  iapply (ld c bd) $$ H12; iintro H12
  iapply (ld c bd) $$ H12; iintro H12
  iapply (ld c bd) $$ H12; iintro H12
  iapply (ld c bd) $$ H12; iintro H12
  iapply Hk
  isplitl [H0]; · iexact H0
  isplitl [H1]; · iexact H1
  isplitl [H4]; · iexact H4
  isplitl [H12]; · iexists _; iexact H12
  isplitl [H13]; · iexists _; iexact H13
  isplitl [H14]; · iexists _; iexact H14
  isplitl [H15]; · iexists _; iexact H15
  isplitl [H16]; · iexists _; iexact H16
  isplitl [H17]; · iexists _; iexact H17
  isplitl [H18]; · iexists _; iexact H18
  isplitl [H8]; · iexists _; iexact H8
  iexists _; iexact H7

theorem part20_wp {α : Type} (k0_hw16 : k0_chk16 a21 a22 a24 a25 a36) (k0_hw14 : k0_chk14 a21 a22 a24 a25 a30 a34) (k0_h7 : k0_cond7 a21 = 1#1) (v284 : FVec F S8x128 .f32) (v298 : FVec F S8x128 .f32) (v308 : FVec F S8x128 .f32) (v318 : FVec F S8x128 .f32) (v328 : FVec F S8x128 .f32) (v338 : FVec F S8x128 .f32) (v348 : FVec F S8x128 .f32) (v358 : FVec F S8x128 .f32) (v368 : FVec F S8x128 .f32) (v378 : FVec F S8x128 .f32) (v388 : FVec F S8x128 .f32) (v398 : FVec F S8x128 .f32) (v408 : FVec F S8x128 .f32) (v418 : FVec F S8x128 .f32) (v428 : FVec F S8x128 .f32) (v438 : FVec F S8x128 .f32) (v448 : FVec F S8x128 .f32) (v458 : FVec F S8x128 .f32) (v468 : FVec F S8x128 .f32) (v478 : FVec F S8x128 .f32) (v488 : FVec F S8x128 .f32) (v498 : FVec F S8x128 .f32) (v508 : FVec F S8x128 .f32) (v518 : FVec F S8x128 .f32) (v528 : FVec F S8x128 .f32) (v538 : FVec F S8x128 .f32) (v548 : FVec F S8x128 .f32) (v558 : FVec F S8x128 .f32) (v568 : FVec F S8x128 .f32) (v574 : FVec F S8x128 .f32) (v576 : FVec F S8x128 .f32) (cst_247 : F .f32) (k' : Fin 8) (hk : k0_off94 a34 = ![k'.val, 0, 0]) (fS : Buf (Elt F) (locV c))
    {kk} {Q : α → sProp 𝕄} :
    iprop(Bufs c a0 a1 a4 a12 a13 a14 a15 a16 a17 a18 a8 a7 f0 f1 f4 ∗ (locV c ↦[slotV c k'.val]{fullShare} fS)) ⊢ iprop((∀ r, iprop(Bufs c a0 a1 a4 a12 a13 a14 a15 a16 a17 a18 a8 a7 f0 f1 f4 ∗ (locV c ↦[slotV c k'.val]{fullShare} fS)) -∗ wp frame (wpE (defs₀ (F := F)) Variants.nat c.tc bd) Set.univ (kk r) Q)
      -∗ wp frame (wpE (defs₀ (F := F)) Variants.nat c.tc bd) Set.univ (k0_part20 (F := F) a0 p0 cc0_scratch9 (Memref.whole cc0_scratch0) (isW _) (Memref.whole main_v2) (isW _) cc0_scratch10 (Memref.whole cc0_scratch1) (isW _) (Memref.whole main_v4) (isW _) a1 p1 a12 p12 a13 p13 a14 p14 a15 p15 a16 p16 a17 p17 a4 p4 a8 p8 a18 p18 a7 p7 a21 a22 a23 a24 a25 a26 a27 a28 a29 a30 a31 a32 a33 a34 a35 a36 k0_hw16 k0_hw14 k0_h7 v284 v298 v308 v318 v328 v338 v348 v358 v368 v378 v388 v398 v408 v418 v428 v438 v448 v458 v468 v478 v488 v498 v508 v518 v528 v538 v548 v558 v568 v574 v576 cst_247 >>= kk) Q) := by
  rw [k0_part20_eq_skeleton]; unfold k0_part20_skel Bufs
  simp only [Prog.lift, Prog.bind_op, Prog.bind_ret, Prog.pure_eq_ret, Prog.bind_assoc]
  iintro ⟨⟨H0, H1, H4, ⟨%f12, H12⟩, ⟨%f13, H13⟩, ⟨%f14, H14⟩, ⟨%f15, H15⟩, ⟨%f16, H16⟩, ⟨%f17, H17⟩, ⟨%f18, H18⟩, ⟨%f8, H8⟩, ⟨%f7, H7⟩⟩, HS⟩ Hk
  iapply (ld c bd) $$ H12; iintro H12
  iapply (ld c bd) $$ H12; iintro H12
  iapply (ld c bd) $$ H12; iintro H12
  iapply (ld c bd) $$ H15; iintro H15
  iapply (st c bd) $$ H15; iintro H15
  iapply (ldV c bd hk) $$ HS; iintro HS
  iapply Hk
  isplitr [HS]
  · isplitl [H0]; · iexact H0
    isplitl [H1]; · iexact H1
    isplitl [H4]; · iexact H4
    isplitl [H12]; · iexists _; iexact H12
    isplitl [H13]; · iexists _; iexact H13
    isplitl [H14]; · iexists _; iexact H14
    isplitl [H15]; · iexists _; iexact H15
    isplitl [H16]; · iexists _; iexact H16
    isplitl [H17]; · iexists _; iexact H17
    isplitl [H18]; · iexists _; iexact H18
    isplitl [H8]; · iexists _; iexact H8
    iexists _; iexact H7
  · iexact HS

theorem part21_wp {α : Type} (v92 : Elt F .i32) (k0_hw25 : k0_chk25 a21 a22 a24 a25 a26 v92) (k0_h11 : k0_cond11 a21 a22 a24 a25 a26 v92 = 1#1)
    {kk} {Q : α → sProp 𝕄} :
    Bufs c a0 a1 a4 a12 a13 a14 a15 a16 a17 a18 a8 a7 f0 f1 f4 ⊢ iprop((∀ r, Bufs c a0 a1 a4 a12 a13 a14 a15 a16 a17 a18 a8 a7 f0 f1 f4 -∗ wp frame (wpE (defs₀ (F := F)) Variants.nat c.tc bd) Set.univ (kk r) Q)
      -∗ wp frame (wpE (defs₀ (F := F)) Variants.nat c.tc bd) Set.univ (k0_part21 (F := F) a0 p0 cc0_scratch9 (Memref.whole cc0_scratch0) (isW _) (Memref.whole main_v2) (isW _) cc0_scratch10 (Memref.whole cc0_scratch1) (isW _) (Memref.whole main_v4) (isW _) a1 p1 a12 p12 a13 p13 a14 p14 a15 p15 a16 p16 a17 p17 a4 p4 a8 p8 a18 p18 a7 p7 a21 a22 a23 a24 a25 a26 a27 a28 a29 a30 a31 a32 a33 a34 a35 a36 v92 k0_hw25 k0_h11 >>= kk) Q) := by
  rw [k0_part21_eq_skeleton]; unfold k0_part21_skel Bufs
  simp only [Prog.lift, Prog.bind_op, Prog.bind_ret, Prog.pure_eq_ret, Prog.bind_assoc]
  iintro ⟨H0, H1, H4, ⟨%f12, H12⟩, ⟨%f13, H13⟩, ⟨%f14, H14⟩, ⟨%f15, H15⟩, ⟨%f16, H16⟩, ⟨%f17, H17⟩, ⟨%f18, H18⟩, ⟨%f8, H8⟩, ⟨%f7, H7⟩⟩ Hk
  iapply (ld c bd) $$ H14; iintro H14
  iapply (ld c bd) $$ H1; iintro H1
  iapply (ld c bd) $$ H17; iintro H17
  iapply (ld c bd) $$ H15; iintro H15
  iapply (ld c bd) $$ H16; iintro H16
  iapply (ld c bd) $$ H4; iintro H4
  iapply Hk
  isplitl [H0]; · iexact H0
  isplitl [H1]; · iexact H1
  isplitl [H4]; · iexact H4
  isplitl [H12]; · iexists _; iexact H12
  isplitl [H13]; · iexists _; iexact H13
  isplitl [H14]; · iexists _; iexact H14
  isplitl [H15]; · iexists _; iexact H15
  isplitl [H16]; · iexists _; iexact H16
  isplitl [H17]; · iexists _; iexact H17
  isplitl [H18]; · iexists _; iexact H18
  isplitl [H8]; · iexists _; iexact H8
  iexists _; iexact H7

end Cert.Kernel.Hand
-- ==== Proof.K.StepA.lean ====
module

public import proofs.«01_k».proof.Proof.K.Issue
public import proofs.«01_k».proof.Proof.K.FragB
public import proofs.«01_k».proof.Proof.K.FragC
public import Idealize.ShloMosaic.Lib.Pipeline.FrameBody
public import Idealize.ShloMosaic.Lib.Pipeline.DatRel
public import Idealize.ShloMosaic.Lib.Ring
public import Idealize.ShloMosaic.Lib.Tactic
public import Idealize.ShloMosaic.Lib.WordCmp

@[expose] public section

set_option maxRecDepth 16384

/-!
The first half of a trip: the waits, the arithmetic, the next K transfer.
-/

noncomputable section

namespace Cert.Kernel.Hand

open Cert.Kernel Cert.Kernel.Gen Cert.Words
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

attribute [local irreducible] cur

variable (c : Dev nD) (bd : Option Variants.nat.V) (a0 : Memref sig .tc .smem S4 .i32) (p0 : a0.IsWhole) (a1 : Memref sig .tc .vmem S24x8x160 .bf16) (p1 : a1.IsWhole) (a12 : Memref sig .tc .vmem S16x8x4096 .f32) (p12 : a12.IsWhole) (a13 : Memref sig .tc .vmem S8x128 .f32) (p13 : a13.IsWhole) (a14 : Memref sig .tc .vmem S24x8x128 .f32) (p14 : a14.IsWhole) (a15 : Memref sig .tc .vmem S8x128 .f32) (p15 : a15.IsWhole) (a16 : Memref sig .tc .vmem S8x160 .f32) (p16 : a16.IsWhole) (a17 : Memref sig .tc .vmem S6x4x160 .f32) (p17 : a17.IsWhole) (a4 : Memref sig .tc .vmem S6x4x160 .f32) (p4 : a4.IsWhole) (a8 : Memref sig .tc .vmem S24x8x160 .f32) (p8 : a8.IsWhole) (a18 : Memref sig .tc .vmem S6x4x160 .f32) (p18 : a18.IsWhole) (a7 : Memref sig .tc .vmem S24x8x160 .bf16) (p7 : a7.IsWhole)
variable {f0 : Buf (Elt F) (a0.view.loc (c : Thread nD τ))} {f1 : Buf (Elt F) (a1.view.loc (c : Thread nD τ))} {f4 : Buf (Elt F) (a4.view.loc (c : Thread nD τ))}

variable {L : ℕ → ℕ} {i j : ℕ}

theorem part22_A {α : Type} (hL : LensOk a0 c f0 L) (hj : j < total (nL L)) (hk : (cu L i).b < 4) (hv : doV (nL L) i j)
    (f5 : Buf (Elt F) (hbmK c)) (f6 : Buf (Elt F) (hbmV c))
    {kk} {Q : α → sProp 𝕄} :
    iprop(RingK c L f5 (stK L i) ∗ RingV c L f6 (stV L j) ∗ Bufs c a0 a1 a4 a12 a13 a14 a15 a16 a17 a18 a8 a7 f0 f1 f4 ∗ (∃ W0, owes c 0 W0)) ⊢ iprop((∀ (h24 : k0_chk24 (W (cu L j).b)) (h20 : k0_chk20 (W (cu L i).b) (W (cu L i).g) (W (cu L j).b) (W (cu L j).g) (W (cu L (j + 8)).b)) (h17 : k0_chk17 (W (cu L i).b) (W (cu L (i + 6)).b)) (h14 : k0_chk14 (W (cu L i).b) (W (cu L i).g) (W (cu L j).b) (W (cu L j).g) (W (cu L (j + 8)).b) (W (j % 8))) (h7 : k0_chk7 (W (cu L i).b)) (v60 x0 : BitVec 32), iprop(RingK c L f5 (stK L (i + 1)) ∗ (gotV c f6 (atV j) (cu L j).b (cu L j).g (cu L j).c (szOf (cu L j).c (lw L (cu L j).b)) ∗ RestV c L f6 (stV L j) (atV j)) ∗ Bufs c a0 a1 a4 a12 a13 a14 a15 a16 a17 a18 a8 a7 f0 f1 f4 ∗ (∃ W0, owes c 0 W0)) -∗
        wp frame (wpE (defs₀ (F := F)) Variants.nat c.tc bd) Set.univ (kk ⟨h24, h20, h17, h14, h7, Scalar.cmpi .slt (W (cu L i).b) 4#32,
          Scalar.cmpi .sgt (Scalar.addi (Scalar.muli (W (cu L i).b) 6#32) (W (cu L i).g)) (Scalar.addi (Scalar.muli (W (cu L j).b) 6#32) (W (cu L j).g)), v60, x0⟩) Q)
      -∗ wp frame (wpE (defs₀ (F := F)) Variants.nat c.tc bd) Set.univ (k0_part22 (F := F) a0 p0 cc0_scratch9 (Memref.whole cc0_scratch0) (isW _) (Memref.whole main_v2) (isW _) cc0_scratch10 (Memref.whole cc0_scratch1) (isW _) (Memref.whole main_v4) (isW _) a1 p1 a12 p12 a13 p13 a14 p14 a15 p15 a16 p16 a17 p17 a4 p4 a8 p8 a18 p18 a7 p7 (W (cu L i).b) (W (cu L i).g) (W (cu L i).c) (W (cu L j).b) (W (cu L j).g) (W (cu L j).c) (W (cu L (i + 6)).b) (W (cu L (i + 6)).g) (W (cu L (i + 6)).c) (W (cu L (j + 8)).b) (W (cu L (j + 8)).g) (W (cu L (j + 8)).c) (W (i % 6)) (W (j % 8)) (W (i % 16)) (W (j % 16)) >>= kk) Q) := by
  have hn := nL_ok hL.1
  have hn1 := fun b => (hn b).1
  obtain ⟨ab, ag, ac⟩ := cur_bounds hn i
  obtain ⟨bb, bg, bc⟩ := cur_bounds hn j
  obtain ⟨eb, eg, ec⟩ := cur_bounds hn (i + 6)
  obtain ⟨pb, pg, pc⟩ := cur_bounds hn (j + 8)
  have m6 : i % 6 < 6 := Nat.mod_lt _ (by decide)
  have m8 : j % 8 < 8 := Nat.mod_lt _ (by decide)
  have m16 : i % 16 < 16 := Nat.mod_lt _ (by decide)
  have m16' : j % 16 < 16 := Nat.mod_lt _ (by decide)
  have ib := cur_in hn1 hj
  have hv' : (cu L j).b * 6 + (cu L j).g < (cu L i).b * 6 + (cu L i).g := hv
  have h3 : k0_cond3 (W (cu L i).b) = 1#1 := by rw [cond3_W ab, ofBool_one]; simp [hk, hv']
  have h4 : k0_cond4 (W (cu L i).b) (W (cu L i).g) (W (cu L j).b) (W (cu L j).g) = 1#1 := by rw [cond4_W ab ag bb bg, ofBool_one]; simp [hk, hv']
  have h5 : k0_cond5 (W (cu L i).b) (W (cu L i).g) (W (cu L j).b) (W (cu L j).g) = 1#1 := by rw [cond5_W ab ag bb bg, ofBool_one]; simp [hk, hv']
  have h6 : ¬ k0_cond6 (W (cu L i).b) (W (cu L i).g) (W (cu L j).b) (W (cu L j).g) = 1#1 := by rw [cond6_W ab ag bb bg, ofBool_one]; simp [hk, hv']
  have h7 : ¬ k0_cond7 (W (cu L i).b) = 1#1 := by rw [cond7_W ab, ofBool_one]; simp [hk, hv']
  have c24 : k0_chk24 (W (cu L j).b) := chk24_W bb
  have c22 : k0_chk22 (W (cu L i).b) (W (cu L i).g) (W (cu L j).b) (W (cu L j).g) (W (cu L (j + 8)).b) (W (cu L (j + 8)).c) := chk22_W pc
  have c20 : k0_chk20 (W (cu L i).b) (W (cu L i).g) (W (cu L j).b) (W (cu L j).g) (W (cu L (j + 8)).b) := chk20_W pb
  have c19 : k0_chk19 (W (cu L i).b) (W (cu L (i + 6)).b) (W (cu L (i + 6)).c) := chk19_W ec
  have c17 : k0_chk17 (W (cu L i).b) (W (cu L (i + 6)).b) := chk17_W eb
  have c16 : k0_chk16 (W (cu L i).b) (W (cu L i).g) (W (cu L j).b) (W (cu L j).g) (W (j % 16)) := chk16_W m16'
  have c15 : k0_chk15 (W (cu L i).b) (W (cu L i).g) (W (cu L j).b) (W (cu L j).g) (W (i % 16)) := chk15_W m16
  have c14 : k0_chk14 (W (cu L i).b) (W (cu L i).g) (W (cu L j).b) (W (cu L j).g) (W (cu L (j + 8)).b) (W (j % 8)) := chk14_W m8
  have c13 : k0_chk13 (W (cu L i).b) (W (cu L i).g) (W (cu L j).b) (W (cu L j).g) (W (cu L j).c) := chk13_W bc
  have c11 : k0_chk11 (W (cu L i).b) (W (cu L i).g) (W (cu L j).b) (W (cu L j).g) := chk11_W ab ag bb bg (fun _ => ib.1) (fun _ => ib.1)
  have c10 : k0_chk10 (W (cu L i).b) (W (cu L i).g) (W (cu L j).b) (W (cu L j).g) (W (cu L (i + 6)).b) (W (i % 6)) := chk10_W m6
  have c9 : k0_chk9 (W (cu L i).b) (W (cu L i).c) := chk9_W ac
  have c7 : k0_chk7 (W (cu L i).b) := chk7_W ab
  have ia := cur_in hn1 ((cur_lt_iff hn1 i).1 hk)
  have c8 : k0_chk8 (W (cu L i).b) (W (cu L i).g) (W (cu L i).c) (W (i % 6)) (W (lw L (cu L i).b)) := chk8_W ag ab (lw_le hL.1 _) (fun _ => ia.2.2)
  have c12 : k0_chk12 (W (cu L i).b) (W (cu L i).g) (W (cu L j).b) (W (cu L j).g) (W (cu L j).c) (W (j % 8)) (W (lw L (cu L j).b)) := chk12_W (lw_le hL.1 _) (fun _ => ib.2.2)
  by_cases hh : (cu L (i + 6)).b < 4
  · have h8 : k0_cond8 (W (cu L i).b) (W (cu L (i + 6)).b) = 1#1 := by rw [cond8_W ab eb, ofBool_one]; simp [hk, hh]
    have ie := cur_in hn1 ((cur_lt_iff hn1 _).1 hh)
    have c18 : k0_chk18 (W (cu L i).b) (W (cu L (i + 6)).b) (W (cu L (i + 6)).g) (W (cu L (i + 6)).c) (W (i % 6)) (W (lw L (cu L (i + 6)).b)) := chk18_W ab eb eg (lw_le hL.1 _) (fun _ => ie.2.2) m6
    rw [k0_part22_eq_skeleton]; unfold k0_part22_skel
    simp only [dif_pos h3, dif_pos h4, dif_pos h5, dif_neg h6, dif_neg h7, dif_pos h8, Prog.lift, Prog.bind_op, Prog.bind_ret, Prog.pure_eq_ret, Prog.bind_assoc]
    iintro ⟨HK, HV, HB, ⟨%W0, HW⟩⟩ Hk
    iapply (wp_assume Variants.nat c.tc bd Set.univ c24)
    iapply (wp_assume Variants.nat c.tc bd Set.univ c22)
    iapply (wp_assume Variants.nat c.tc bd Set.univ c20)
    iapply (wp_assume Variants.nat c.tc bd Set.univ c19)
    iapply (wp_assume Variants.nat c.tc bd Set.univ c17)
    iapply (wp_assume Variants.nat c.tc bd Set.univ c16)
    iapply (wp_assume Variants.nat c.tc bd Set.univ c15)
    iapply (wp_assume Variants.nat c.tc bd Set.univ c14)
    iapply (wp_assume Variants.nat c.tc bd Set.univ c13)
    iapply (wp_assume Variants.nat c.tc bd Set.univ c11)
    iapply (wp_assume Variants.nat c.tc bd Set.univ c10)
    iapply (wp_assume Variants.nat c.tc bd Set.univ c9)
    iapply (wp_assume Variants.nat c.tc bd Set.univ c7)
    iapply (lenB c bd a0 a1 a12 a13 a14 a15 a16 a17 a4 a8 a18 a7 hL (cu L i).b (offL ab)) $$ HB; iintro HB
    iapply (wp_assume Variants.nat c.tc bd Set.univ c8)
    icases (openK c L f5 i hk) $$ HK with ⟨HF, HR⟩
    iapply (waitK c bd (atK i) (cu L i).b (cu L i).g (cu L i).c (szOf (cu L i).c (lw L (cu L i).b)) _ (off1 (by omega)) _ _ (sz2 (lw_le hL.1 _) ia.2.2) f5 W0) $$ [HF HW]
    · isplitl [HF]; · iexact HF
      iexact HW
    iintro ⟨⟨HS, HH, %fK, %hfK, HM⟩, ⟨%W1, HW⟩⟩
    iapply (lenB c bd a0 a1 a12 a13 a14 a15 a16 a17 a4 a8 a18 a7 hL (cu L j).b (offL bb)) $$ HB; iintro HB
    iapply (wp_assume Variants.nat c.tc bd Set.univ c12)
    icases (openV c L f6 j ib.1) $$ HV with ⟨HF, HRV⟩
    iapply (waitV c bd (atV j) (cu L j).b (cu L j).g (cu L j).c (szOf (cu L j).c (lw L (cu L j).b)) _ (off1 (by omega)) _ _ (sz2 (lw_le hL.1 _) ib.2.2) f6 _) $$ [HF HW]
    · isplitl [HF]; · iexact HF
      iexact HW
    iintro ⟨⟨HSV, HHV, %fV, %hfV, HMV⟩, ⟨%W2, HW⟩⟩
    iapply (part2_wp c bd a0 p0 a1 p1 a12 p12 a13 p13 a14 p14 a15 p15 a16 p16 a17 p17 a4 p4 a8 p8 a18 p18 a7 p7 (W (cu L i).b) (W (cu L i).g) (W (cu L i).c) (W (cu L j).b) (W (cu L j).g) (W (cu L j).c) (W (cu L (i + 6)).b) (W (cu L (i + 6)).g) (W (cu L (i + 6)).c) (W (cu L (j + 8)).b) (W (cu L (j + 8)).g) (W (cu L (j + 8)).c) (W (i % 6)) (W (j % 8)) (W (i % 16)) (W (j % 16)) _ _ _ _ hL (min (cu L i).b 3) (offL ab) (atK i) (off3 (by omega)) fK) $$ [HB HM]
    · isplitl [HB]; · iexact HB
      iexact HM
    iintro %r2 ⟨HB, HM⟩
    iapply (part3_wp c bd a0 p0 a1 p1 a12 p12 a13 p13 a14 p14 a15 p15 a16 p16 a17 p17 a4 p4 a8 p8 a18 p18 a7 p7 (W (cu L i).b) (W (cu L i).g) (W (cu L i).c) (W (cu L j).b) (W (cu L j).g) (W (cu L j).c) (W (cu L (i + 6)).b) (W (cu L (i + 6)).g) (W (cu L (i + 6)).c) (W (cu L (j + 8)).b) (W (cu L (j + 8)).g) (W (cu L (j + 8)).c) (W (i % 6)) (W (j % 8)) (W (i % 16)) (W (j % 16)) _ _ _) $$ HB; iintro %r3 HB
    iapply (part4_wp c bd a0 p0 a1 p1 a12 p12 a13 p13 a14 p14 a15 p15 a16 p16 a17 p17 a4 p4 a8 p8 a18 p18 a7 p7 (W (cu L i).b) (W (cu L i).g) (W (cu L i).c) (W (cu L j).b) (W (cu L j).g) (W (cu L j).c) (W (cu L (i + 6)).b) (W (cu L (i + 6)).g) (W (cu L (i + 6)).c) (W (cu L (j + 8)).b) (W (cu L (j + 8)).g) (W (cu L (j + 8)).c) (W (i % 6)) (W (j % 8)) (W (i % 16)) (W (j % 16)) _ _ _) $$ HB; iintro %r4 HB
    iapply (part5_wp c bd a0 p0 a1 p1 a12 p12 a13 p13 a14 p14 a15 p15 a16 p16 a17 p17 a4 p4 a8 p8 a18 p18 a7 p7 (W (cu L i).b) (W (cu L i).g) (W (cu L i).c) (W (cu L j).b) (W (cu L j).g) (W (cu L j).c) (W (cu L (i + 6)).b) (W (cu L (i + 6)).g) (W (cu L (i + 6)).c) (W (cu L (j + 8)).b) (W (cu L (j + 8)).g) (W (cu L (j + 8)).c) (W (i % 6)) (W (j % 8)) (W (i % 16)) (W (j % 16)) _ _ _ _ _) $$ HB; iintro %r5 HB
    iapply (part6_wp c bd a0 p0 a1 p1 a12 p12 a13 p13 a14 p14 a15 p15 a16 p16 a17 p17 a4 p4 a8 p8 a18 p18 a7 p7 (W (cu L i).b) (W (cu L i).g) (W (cu L i).c) (W (cu L j).b) (W (cu L j).g) (W (cu L j).c) (W (cu L (i + 6)).b) (W (cu L (i + 6)).g) (W (cu L (i + 6)).c) (W (cu L (j + 8)).b) (W (cu L (j + 8)).g) (W (cu L (j + 8)).c) (W (i % 6)) (W (j % 8)) (W (i % 16)) (W (j % 16)) _ _ _ _ _ _) $$ HB; iintro %r6 HB
    iapply (part7_wp c bd a0 p0 a1 p1 a12 p12 a13 p13 a14 p14 a15 p15 a16 p16 a17 p17 a4 p4 a8 p8 a18 p18 a7 p7 (W (cu L i).b) (W (cu L i).g) (W (cu L i).c) (W (cu L j).b) (W (cu L j).g) (W (cu L j).c) (W (cu L (i + 6)).b) (W (cu L (i + 6)).g) (W (cu L (i + 6)).c) (W (cu L (j + 8)).b) (W (cu L (j + 8)).g) (W (cu L (j + 8)).c) (W (i % 6)) (W (j % 8)) (W (i % 16)) (W (j % 16)) _ _ _ _) $$ HB; iintro %r7 HB
    iapply (part8_wp c bd a0 p0 a1 p1 a12 p12 a13 p13 a14 p14 a15 p15 a16 p16 a17 p17 a4 p4 a8 p8 a18 p18 a7 p7 (W (cu L i).b) (W (cu L i).g) (W (cu L i).c) (W (cu L j).b) (W (cu L j).g) (W (cu L j).c) (W (cu L (i + 6)).b) (W (cu L (i + 6)).g) (W (cu L (i + 6)).c) (W (cu L (j + 8)).b) (W (cu L (j + 8)).g) (W (cu L (j + 8)).c) (W (i % 6)) (W (j % 8)) (W (i % 16)) (W (j % 16)) _ _ _ _ _) $$ HB; iintro %r8 HB
    iapply (part9_wp c bd a0 p0 a1 p1 a12 p12 a13 p13 a14 p14 a15 p15 a16 p16 a17 p17 a4 p4 a8 p8 a18 p18 a7 p7 (W (cu L i).b) (W (cu L i).g) (W (cu L i).c) (W (cu L j).b) (W (cu L j).g) (W (cu L j).c) (W (cu L (i + 6)).b) (W (cu L (i + 6)).g) (W (cu L (i + 6)).c) (W (cu L (j + 8)).b) (W (cu L (j + 8)).g) (W (cu L (j + 8)).c) (W (i % 6)) (W (j % 8)) (W (i % 16)) (W (j % 16)) _ _ _ _ _ _) $$ HB; iintro %r9 HB
    iapply (part10_wp c bd a0 p0 a1 p1 a12 p12 a13 p13 a14 p14 a15 p15 a16 p16 a17 p17 a4 p4 a8 p8 a18 p18 a7 p7 (W (cu L i).b) (W (cu L i).g) (W (cu L i).c) (W (cu L j).b) (W (cu L j).g) (W (cu L j).c) (W (cu L (i + 6)).b) (W (cu L (i + 6)).g) (W (cu L (i + 6)).c) (W (cu L (j + 8)).b) (W (cu L (j + 8)).g) (W (cu L (j + 8)).c) (W (i % 6)) (W (j % 8)) (W (i % 16)) (W (j % 16)) _ _ _ _) $$ HB; iintro %r10 HB
    iapply (part11_wp c bd a0 p0 a1 p1 a12 p12 a13 p13 a14 p14 a15 p15 a16 p16 a17 p17 a4 p4 a8 p8 a18 p18 a7 p7 (W (cu L i).b) (W (cu L i).g) (W (cu L i).c) (W (cu L j).b) (W (cu L j).g) (W (cu L j).c) (W (cu L (i + 6)).b) (W (cu L (i + 6)).g) (W (cu L (i + 6)).c) (W (cu L (j + 8)).b) (W (cu L (j + 8)).g) (W (cu L (j + 8)).c) (W (i % 6)) (W (j % 8)) (W (i % 16)) (W (j % 16)) _ _ _ _ _ _ _ _ _ _ _ _ _ _ _ _ _ _ _ _ _ _ _ _ _ _ _ _ _ _ _ _ _ _ _ (atV j) (off3 (by omega)) fV) $$ [HB HMV]
    · isplitl [HB]; · iexact HB
      iexact HMV
    iintro %r11 ⟨HB, HMV⟩
    iapply (ldB16 c bd a0 a1 a12 a13 a14 a15 a16 a17 a4 a8 a18 a7) $$ HB; iintro %x16 HB
    iapply (stB16 c bd a0 a1 a12 a13 a14 a15 a16 a17 a4 a8 a18 a7) $$ HB; iintro HB
    iapply (lenB c bd a0 a1 a12 a13 a14 a15 a16 a17 a4 a8 a18 a7 hL (cu L (i + 6)).b (offL eb)) $$ HB; iintro HB
    iapply (wp_assume Variants.nat c.tc bd Set.univ c18)
    iapply (issue_K8 c bd (i % 6) m6 (cu L (i + 6)).b (cu L (i + 6)).g (cu L (i + 6)).c (lw L (cu L (i + 6)).b) (lw_le hL.1 _) ie.2.2 ie.1 ie.2.1 _ _ _ _ _ f5) $$ [HS HH HM]
    · isplitl [HS]; · iexact HS
      isplitl [HH]; · iexact HH
      iexists _; iexact HM
    iintro HF
    iapply Hk
    isplitl [HF HR]
    · iapply (issueK_close c L f5 i hh)
      isplitl [HF]; · iexact HF
      iexact HR
    isplitl [HSV HHV HMV HRV]
    · isplitr [HRV]
      · isplitl [HSV]; · iexact HSV
        isplitl [HHV]; · iexact HHV
        iexists _; isplitr; · ipureintro; exact hfV
        iexact HMV
      iexact HRV
    isplitl [HB]; · iexact HB
    iexists _; iexact HW
  · have h8 : ¬ k0_cond8 (W (cu L i).b) (W (cu L (i + 6)).b) = 1#1 := by rw [cond8_W ab eb, ofBool_one]; simp [hk, hh]
    rw [k0_part22_eq_skeleton]; unfold k0_part22_skel
    simp only [dif_pos h3, dif_pos h4, dif_pos h5, dif_neg h6, dif_neg h7, dif_neg h8, Prog.lift, Prog.bind_op, Prog.bind_ret, Prog.pure_eq_ret, Prog.bind_assoc]
    iintro ⟨HK, HV, HB, ⟨%W0, HW⟩⟩ Hk
    iapply (wp_assume Variants.nat c.tc bd Set.univ c24)
    iapply (wp_assume Variants.nat c.tc bd Set.univ c22)
    iapply (wp_assume Variants.nat c.tc bd Set.univ c20)
    iapply (wp_assume Variants.nat c.tc bd Set.univ c19)
    iapply (wp_assume Variants.nat c.tc bd Set.univ c17)
    iapply (wp_assume Variants.nat c.tc bd Set.univ c16)
    iapply (wp_assume Variants.nat c.tc bd Set.univ c15)
    iapply (wp_assume Variants.nat c.tc bd Set.univ c14)
    iapply (wp_assume Variants.nat c.tc bd Set.univ c13)
    iapply (wp_assume Variants.nat c.tc bd Set.univ c11)
    iapply (wp_assume Variants.nat c.tc bd Set.univ c10)
    iapply (wp_assume Variants.nat c.tc bd Set.univ c9)
    iapply (wp_assume Variants.nat c.tc bd Set.univ c7)
    iapply (lenB c bd a0 a1 a12 a13 a14 a15 a16 a17 a4 a8 a18 a7 hL (cu L i).b (offL ab)) $$ HB; iintro HB
    iapply (wp_assume Variants.nat c.tc bd Set.univ c8)
    icases (openK c L f5 i hk) $$ HK with ⟨HF, HR⟩
    iapply (waitK c bd (atK i) (cu L i).b (cu L i).g (cu L i).c (szOf (cu L i).c (lw L (cu L i).b)) _ (off1 (by omega)) _ _ (sz2 (lw_le hL.1 _) ia.2.2) f5 W0) $$ [HF HW]
    · isplitl [HF]; · iexact HF
      iexact HW
    iintro ⟨⟨HS, HH, %fK, %hfK, HM⟩, ⟨%W1, HW⟩⟩
    iapply (lenB c bd a0 a1 a12 a13 a14 a15 a16 a17 a4 a8 a18 a7 hL (cu L j).b (offL bb)) $$ HB; iintro HB
    iapply (wp_assume Variants.nat c.tc bd Set.univ c12)
    icases (openV c L f6 j ib.1) $$ HV with ⟨HF, HRV⟩
    iapply (waitV c bd (atV j) (cu L j).b (cu L j).g (cu L j).c (szOf (cu L j).c (lw L (cu L j).b)) _ (off1 (by omega)) _ _ (sz2 (lw_le hL.1 _) ib.2.2) f6 _) $$ [HF HW]
    · isplitl [HF]; · iexact HF
      iexact HW
    iintro ⟨⟨HSV, HHV, %fV, %hfV, HMV⟩, ⟨%W2, HW⟩⟩
    iapply (part2_wp c bd a0 p0 a1 p1 a12 p12 a13 p13 a14 p14 a15 p15 a16 p16 a17 p17 a4 p4 a8 p8 a18 p18 a7 p7 (W (cu L i).b) (W (cu L i).g) (W (cu L i).c) (W (cu L j).b) (W (cu L j).g) (W (cu L j).c) (W (cu L (i + 6)).b) (W (cu L (i + 6)).g) (W (cu L (i + 6)).c) (W (cu L (j + 8)).b) (W (cu L (j + 8)).g) (W (cu L (j + 8)).c) (W (i % 6)) (W (j % 8)) (W (i % 16)) (W (j % 16)) _ _ _ _ hL (min (cu L i).b 3) (offL ab) (atK i) (off3 (by omega)) fK) $$ [HB HM]
    · isplitl [HB]; · iexact HB
      iexact HM
    iintro %r2 ⟨HB, HM⟩
    iapply (part3_wp c bd a0 p0 a1 p1 a12 p12 a13 p13 a14 p14 a15 p15 a16 p16 a17 p17 a4 p4 a8 p8 a18 p18 a7 p7 (W (cu L i).b) (W (cu L i).g) (W (cu L i).c) (W (cu L j).b) (W (cu L j).g) (W (cu L j).c) (W (cu L (i + 6)).b) (W (cu L (i + 6)).g) (W (cu L (i + 6)).c) (W (cu L (j + 8)).b) (W (cu L (j + 8)).g) (W (cu L (j + 8)).c) (W (i % 6)) (W (j % 8)) (W (i % 16)) (W (j % 16)) _ _ _) $$ HB; iintro %r3 HB
    iapply (part4_wp c bd a0 p0 a1 p1 a12 p12 a13 p13 a14 p14 a15 p15 a16 p16 a17 p17 a4 p4 a8 p8 a18 p18 a7 p7 (W (cu L i).b) (W (cu L i).g) (W (cu L i).c) (W (cu L j).b) (W (cu L j).g) (W (cu L j).c) (W (cu L (i + 6)).b) (W (cu L (i + 6)).g) (W (cu L (i + 6)).c) (W (cu L (j + 8)).b) (W (cu L (j + 8)).g) (W (cu L (j + 8)).c) (W (i % 6)) (W (j % 8)) (W (i % 16)) (W (j % 16)) _ _ _) $$ HB; iintro %r4 HB
    iapply (part5_wp c bd a0 p0 a1 p1 a12 p12 a13 p13 a14 p14 a15 p15 a16 p16 a17 p17 a4 p4 a8 p8 a18 p18 a7 p7 (W (cu L i).b) (W (cu L i).g) (W (cu L i).c) (W (cu L j).b) (W (cu L j).g) (W (cu L j).c) (W (cu L (i + 6)).b) (W (cu L (i + 6)).g) (W (cu L (i + 6)).c) (W (cu L (j + 8)).b) (W (cu L (j + 8)).g) (W (cu L (j + 8)).c) (W (i % 6)) (W (j % 8)) (W (i % 16)) (W (j % 16)) _ _ _ _ _) $$ HB; iintro %r5 HB
    iapply (part6_wp c bd a0 p0 a1 p1 a12 p12 a13 p13 a14 p14 a15 p15 a16 p16 a17 p17 a4 p4 a8 p8 a18 p18 a7 p7 (W (cu L i).b) (W (cu L i).g) (W (cu L i).c) (W (cu L j).b) (W (cu L j).g) (W (cu L j).c) (W (cu L (i + 6)).b) (W (cu L (i + 6)).g) (W (cu L (i + 6)).c) (W (cu L (j + 8)).b) (W (cu L (j + 8)).g) (W (cu L (j + 8)).c) (W (i % 6)) (W (j % 8)) (W (i % 16)) (W (j % 16)) _ _ _ _ _ _) $$ HB; iintro %r6 HB
    iapply (part7_wp c bd a0 p0 a1 p1 a12 p12 a13 p13 a14 p14 a15 p15 a16 p16 a17 p17 a4 p4 a8 p8 a18 p18 a7 p7 (W (cu L i).b) (W (cu L i).g) (W (cu L i).c) (W (cu L j).b) (W (cu L j).g) (W (cu L j).c) (W (cu L (i + 6)).b) (W (cu L (i + 6)).g) (W (cu L (i + 6)).c) (W (cu L (j + 8)).b) (W (cu L (j + 8)).g) (W (cu L (j + 8)).c) (W (i % 6)) (W (j % 8)) (W (i % 16)) (W (j % 16)) _ _ _ _) $$ HB; iintro %r7 HB
    iapply (part8_wp c bd a0 p0 a1 p1 a12 p12 a13 p13 a14 p14 a15 p15 a16 p16 a17 p17 a4 p4 a8 p8 a18 p18 a7 p7 (W (cu L i).b) (W (cu L i).g) (W (cu L i).c) (W (cu L j).b) (W (cu L j).g) (W (cu L j).c) (W (cu L (i + 6)).b) (W (cu L (i + 6)).g) (W (cu L (i + 6)).c) (W (cu L (j + 8)).b) (W (cu L (j + 8)).g) (W (cu L (j + 8)).c) (W (i % 6)) (W (j % 8)) (W (i % 16)) (W (j % 16)) _ _ _ _ _) $$ HB; iintro %r8 HB
    iapply (part9_wp c bd a0 p0 a1 p1 a12 p12 a13 p13 a14 p14 a15 p15 a16 p16 a17 p17 a4 p4 a8 p8 a18 p18 a7 p7 (W (cu L i).b) (W (cu L i).g) (W (cu L i).c) (W (cu L j).b) (W (cu L j).g) (W (cu L j).c) (W (cu L (i + 6)).b) (W (cu L (i + 6)).g) (W (cu L (i + 6)).c) (W (cu L (j + 8)).b) (W (cu L (j + 8)).g) (W (cu L (j + 8)).c) (W (i % 6)) (W (j % 8)) (W (i % 16)) (W (j % 16)) _ _ _ _ _ _) $$ HB; iintro %r9 HB
    iapply (part10_wp c bd a0 p0 a1 p1 a12 p12 a13 p13 a14 p14 a15 p15 a16 p16 a17 p17 a4 p4 a8 p8 a18 p18 a7 p7 (W (cu L i).b) (W (cu L i).g) (W (cu L i).c) (W (cu L j).b) (W (cu L j).g) (W (cu L j).c) (W (cu L (i + 6)).b) (W (cu L (i + 6)).g) (W (cu L (i + 6)).c) (W (cu L (j + 8)).b) (W (cu L (j + 8)).g) (W (cu L (j + 8)).c) (W (i % 6)) (W (j % 8)) (W (i % 16)) (W (j % 16)) _ _ _ _) $$ HB; iintro %r10 HB
    iapply (part11_wp c bd a0 p0 a1 p1 a12 p12 a13 p13 a14 p14 a15 p15 a16 p16 a17 p17 a4 p4 a8 p8 a18 p18 a7 p7 (W (cu L i).b) (W (cu L i).g) (W (cu L i).c) (W (cu L j).b) (W (cu L j).g) (W (cu L j).c) (W (cu L (i + 6)).b) (W (cu L (i + 6)).g) (W (cu L (i + 6)).c) (W (cu L (j + 8)).b) (W (cu L (j + 8)).g) (W (cu L (j + 8)).c) (W (i % 6)) (W (j % 8)) (W (i % 16)) (W (j % 16)) _ _ _ _ _ _ _ _ _ _ _ _ _ _ _ _ _ _ _ _ _ _ _ _ _ _ _ _ _ _ _ _ _ _ _ (atV j) (off3 (by omega)) fV) $$ [HB HMV]
    · isplitl [HB]; · iexact HB
      iexact HMV
    iintro %r11 ⟨HB, HMV⟩
    iapply (ldB16 c bd a0 a1 a12 a13 a14 a15 a16 a17 a4 a8 a18 a7) $$ HB; iintro %x16 HB
    iapply (stB16 c bd a0 a1 a12 a13 a14 a15 a16 a17 a4 a8 a18 a7) $$ HB; iintro HB
    iapply Hk
    isplitl [HS HH HM HR]
    · iapply (skipK_close c L f5 i hh)
      isplitr [HR]
      · isplitl [HS]; · iexact HS
        isplitl [HH]; · iexact HH
        iexists _; iexact HM
      iexact HR
    isplitl [HSV HHV HMV HRV]
    · isplitr [HRV]
      · isplitl [HSV]; · iexact HSV
        isplitl [HHV]; · iexact HHV
        iexists _; isplitr; · ipureintro; exact hfV
        iexact HMV
      iexact HRV
    isplitl [HB]; · iexact HB
    iexists _; iexact HW

end Cert.Kernel.Hand
-- ==== Proof.K.StepB.lean ====
module

public import proofs.«01_k».proof.Proof.K.Issue
public import proofs.«01_k».proof.Proof.K.FragB
public import proofs.«01_k».proof.Proof.K.FragC
public import Idealize.ShloMosaic.Lib.Pipeline.FrameBody
public import Idealize.ShloMosaic.Lib.Pipeline.DatRel
public import Idealize.ShloMosaic.Lib.Ring
public import Idealize.ShloMosaic.Lib.Tactic
public import Idealize.ShloMosaic.Lib.WordCmp

@[expose] public section

set_option maxRecDepth 16384

/-!
The first half of a trip: the waits, the arithmetic, the next K transfer.
-/

noncomputable section

namespace Cert.Kernel.Hand

open Cert.Kernel Cert.Kernel.Gen Cert.Words
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

attribute [local irreducible] cur

variable (c : Dev nD) (bd : Option Variants.nat.V) (a0 : Memref sig .tc .smem S4 .i32) (p0 : a0.IsWhole) (a1 : Memref sig .tc .vmem S24x8x160 .bf16) (p1 : a1.IsWhole) (a12 : Memref sig .tc .vmem S16x8x4096 .f32) (p12 : a12.IsWhole) (a13 : Memref sig .tc .vmem S8x128 .f32) (p13 : a13.IsWhole) (a14 : Memref sig .tc .vmem S24x8x128 .f32) (p14 : a14.IsWhole) (a15 : Memref sig .tc .vmem S8x128 .f32) (p15 : a15.IsWhole) (a16 : Memref sig .tc .vmem S8x160 .f32) (p16 : a16.IsWhole) (a17 : Memref sig .tc .vmem S6x4x160 .f32) (p17 : a17.IsWhole) (a4 : Memref sig .tc .vmem S6x4x160 .f32) (p4 : a4.IsWhole) (a8 : Memref sig .tc .vmem S24x8x160 .f32) (p8 : a8.IsWhole) (a18 : Memref sig .tc .vmem S6x4x160 .f32) (p18 : a18.IsWhole) (a7 : Memref sig .tc .vmem S24x8x160 .bf16) (p7 : a7.IsWhole)
variable {f0 : Buf (Elt F) (a0.view.loc (c : Thread nD τ))} {f1 : Buf (Elt F) (a1.view.loc (c : Thread nD τ))} {f4 : Buf (Elt F) (a4.view.loc (c : Thread nD τ))}

variable {L : ℕ → ℕ} {i j : ℕ}

theorem part22_B {α : Type} (hL : LensOk a0 c f0 L) (hj : j < total (nL L)) (hk : (cu L i).b < 4) (hv : ¬ doV (nL L) i j)
    (f5 : Buf (Elt F) (hbmK c)) (f6 : Buf (Elt F) (hbmV c))
    {kk} {Q : α → sProp 𝕄} :
    iprop(RingK c L f5 (stK L i) ∗ RingV c L f6 (stV L j) ∗ Bufs c a0 a1 a4 a12 a13 a14 a15 a16 a17 a18 a8 a7 f0 f1 f4 ∗ (∃ W0, owes c 0 W0)) ⊢ iprop((∀ (h24 : k0_chk24 (W (cu L j).b)) (h20 : k0_chk20 (W (cu L i).b) (W (cu L i).g) (W (cu L j).b) (W (cu L j).g) (W (cu L (j + 8)).b)) (h17 : k0_chk17 (W (cu L i).b) (W (cu L (i + 6)).b)) (h14 : k0_chk14 (W (cu L i).b) (W (cu L i).g) (W (cu L j).b) (W (cu L j).g) (W (cu L (j + 8)).b) (W (j % 8))) (h7 : k0_chk7 (W (cu L i).b)) (v60 x0 : BitVec 32), iprop(RingK c L f5 (stK L (i + 1)) ∗ RingV c L f6 (stV L j) ∗ Bufs c a0 a1 a4 a12 a13 a14 a15 a16 a17 a18 a8 a7 f0 f1 f4 ∗ (∃ W0, owes c 0 W0)) -∗
        wp frame (wpE (defs₀ (F := F)) Variants.nat c.tc bd) Set.univ (kk ⟨h24, h20, h17, h14, h7, Scalar.cmpi .slt (W (cu L i).b) 4#32,
          Scalar.cmpi .sgt (Scalar.addi (Scalar.muli (W (cu L i).b) 6#32) (W (cu L i).g)) (Scalar.addi (Scalar.muli (W (cu L j).b) 6#32) (W (cu L j).g)), v60, x0⟩) Q)
      -∗ wp frame (wpE (defs₀ (F := F)) Variants.nat c.tc bd) Set.univ (k0_part22 (F := F) a0 p0 cc0_scratch9 (Memref.whole cc0_scratch0) (isW _) (Memref.whole main_v2) (isW _) cc0_scratch10 (Memref.whole cc0_scratch1) (isW _) (Memref.whole main_v4) (isW _) a1 p1 a12 p12 a13 p13 a14 p14 a15 p15 a16 p16 a17 p17 a4 p4 a8 p8 a18 p18 a7 p7 (W (cu L i).b) (W (cu L i).g) (W (cu L i).c) (W (cu L j).b) (W (cu L j).g) (W (cu L j).c) (W (cu L (i + 6)).b) (W (cu L (i + 6)).g) (W (cu L (i + 6)).c) (W (cu L (j + 8)).b) (W (cu L (j + 8)).g) (W (cu L (j + 8)).c) (W (i % 6)) (W (j % 8)) (W (i % 16)) (W (j % 16)) >>= kk) Q) := by
  have hn := nL_ok hL.1
  have hn1 := fun b => (hn b).1
  obtain ⟨ab, ag, ac⟩ := cur_bounds hn i
  obtain ⟨bb, bg, bc⟩ := cur_bounds hn j
  obtain ⟨eb, eg, ec⟩ := cur_bounds hn (i + 6)
  obtain ⟨pb, pg, pc⟩ := cur_bounds hn (j + 8)
  have m6 : i % 6 < 6 := Nat.mod_lt _ (by decide)
  have m8 : j % 8 < 8 := Nat.mod_lt _ (by decide)
  have m16 : i % 16 < 16 := Nat.mod_lt _ (by decide)
  have m16' : j % 16 < 16 := Nat.mod_lt _ (by decide)
  have ib := cur_in hn1 hj
  have hv' : ¬ (cu L j).b * 6 + (cu L j).g < (cu L i).b * 6 + (cu L i).g := hv
  have h3 : k0_cond3 (W (cu L i).b) = 1#1 := by rw [cond3_W ab, ofBool_one]; simp [hk, hv']
  have h4 : ¬ k0_cond4 (W (cu L i).b) (W (cu L i).g) (W (cu L j).b) (W (cu L j).g) = 1#1 := by rw [cond4_W ab ag bb bg, ofBool_one]; simp [hk, hv']
  have h5 : ¬ k0_cond5 (W (cu L i).b) (W (cu L i).g) (W (cu L j).b) (W (cu L j).g) = 1#1 := by rw [cond5_W ab ag bb bg, ofBool_one]; simp [hk, hv']
  have h6 : k0_cond6 (W (cu L i).b) (W (cu L i).g) (W (cu L j).b) (W (cu L j).g) = 1#1 := by rw [cond6_W ab ag bb bg, ofBool_one]; simp [hk, hv']
  have h7 : ¬ k0_cond7 (W (cu L i).b) = 1#1 := by rw [cond7_W ab, ofBool_one]; simp [hk, hv']
  have c24 : k0_chk24 (W (cu L j).b) := chk24_W bb
  have c22 : k0_chk22 (W (cu L i).b) (W (cu L i).g) (W (cu L j).b) (W (cu L j).g) (W (cu L (j + 8)).b) (W (cu L (j + 8)).c) := chk22_W pc
  have c20 : k0_chk20 (W (cu L i).b) (W (cu L i).g) (W (cu L j).b) (W (cu L j).g) (W (cu L (j + 8)).b) := chk20_W pb
  have c19 : k0_chk19 (W (cu L i).b) (W (cu L (i + 6)).b) (W (cu L (i + 6)).c) := chk19_W ec
  have c17 : k0_chk17 (W (cu L i).b) (W (cu L (i + 6)).b) := chk17_W eb
  have c16 : k0_chk16 (W (cu L i).b) (W (cu L i).g) (W (cu L j).b) (W (cu L j).g) (W (j % 16)) := chk16_W m16'
  have c15 : k0_chk15 (W (cu L i).b) (W (cu L i).g) (W (cu L j).b) (W (cu L j).g) (W (i % 16)) := chk15_W m16
  have c14 : k0_chk14 (W (cu L i).b) (W (cu L i).g) (W (cu L j).b) (W (cu L j).g) (W (cu L (j + 8)).b) (W (j % 8)) := chk14_W m8
  have c13 : k0_chk13 (W (cu L i).b) (W (cu L i).g) (W (cu L j).b) (W (cu L j).g) (W (cu L j).c) := chk13_W bc
  have c11 : k0_chk11 (W (cu L i).b) (W (cu L i).g) (W (cu L j).b) (W (cu L j).g) := chk11_W ab ag bb bg (fun _ => ib.1) (fun _ => ib.1)
  have c10 : k0_chk10 (W (cu L i).b) (W (cu L i).g) (W (cu L j).b) (W (cu L j).g) (W (cu L (i + 6)).b) (W (i % 6)) := chk10_W m6
  have c9 : k0_chk9 (W (cu L i).b) (W (cu L i).c) := chk9_W ac
  have c7 : k0_chk7 (W (cu L i).b) := chk7_W ab
  have ia := cur_in hn1 ((cur_lt_iff hn1 i).1 hk)
  have c8 : k0_chk8 (W (cu L i).b) (W (cu L i).g) (W (cu L i).c) (W (i % 6)) (W (lw L (cu L i).b)) := chk8_W ag ab (lw_le hL.1 _) (fun _ => ia.2.2)
  by_cases hh : (cu L (i + 6)).b < 4
  · have h8 : k0_cond8 (W (cu L i).b) (W (cu L (i + 6)).b) = 1#1 := by rw [cond8_W ab eb, ofBool_one]; simp [hk, hh]
    have ie := cur_in hn1 ((cur_lt_iff hn1 _).1 hh)
    have c18 : k0_chk18 (W (cu L i).b) (W (cu L (i + 6)).b) (W (cu L (i + 6)).g) (W (cu L (i + 6)).c) (W (i % 6)) (W (lw L (cu L (i + 6)).b)) := chk18_W ab eb eg (lw_le hL.1 _) (fun _ => ie.2.2) m6
    rw [k0_part22_eq_skeleton]; unfold k0_part22_skel
    simp only [dif_pos h3, dif_neg h4, dif_neg h5, dif_pos h6, dif_neg h7, dif_pos h8, Prog.lift, Prog.bind_op, Prog.bind_ret, Prog.pure_eq_ret, Prog.bind_assoc]
    iintro ⟨HK, HV, HB, ⟨%W0, HW⟩⟩ Hk
    iapply (wp_assume Variants.nat c.tc bd Set.univ c24)
    iapply (wp_assume Variants.nat c.tc bd Set.univ c22)
    iapply (wp_assume Variants.nat c.tc bd Set.univ c20)
    iapply (wp_assume Variants.nat c.tc bd Set.univ c19)
    iapply (wp_assume Variants.nat c.tc bd Set.univ c17)
    iapply (wp_assume Variants.nat c.tc bd Set.univ c16)
    iapply (wp_assume Variants.nat c.tc bd Set.univ c15)
    iapply (wp_assume Variants.nat c.tc bd Set.univ c14)
    iapply (wp_assume Variants.nat c.tc bd Set.univ c13)
    iapply (wp_assume Variants.nat c.tc bd Set.univ c11)
    iapply (wp_assume Variants.nat c.tc bd Set.univ c10)
    iapply (wp_assume Variants.nat c.tc bd Set.univ c9)
    iapply (wp_assume Variants.nat c.tc bd Set.univ c7)
    iapply (lenB c bd a0 a1 a12 a13 a14 a15 a16 a17 a4 a8 a18 a7 hL (cu L i).b (offL ab)) $$ HB; iintro HB
    iapply (wp_assume Variants.nat c.tc bd Set.univ c8)
    icases (openK c L f5 i hk) $$ HK with ⟨HF, HR⟩
    iapply (waitK c bd (atK i) (cu L i).b (cu L i).g (cu L i).c (szOf (cu L i).c (lw L (cu L i).b)) _ (off1 (by omega)) _ _ (sz2 (lw_le hL.1 _) ia.2.2) f5 W0) $$ [HF HW]
    · isplitl [HF]; · iexact HF
      iexact HW
    iintro ⟨⟨HS, HH, %fK, %hfK, HM⟩, ⟨%W1, HW⟩⟩
    iapply (part12_wp c bd a0 p0 a1 p1 a12 p12 a13 p13 a14 p14 a15 p15 a16 p16 a17 p17 a4 p4 a8 p8 a18 p18 a7 p7 (W (cu L i).b) (W (cu L i).g) (W (cu L i).c) (W (cu L j).b) (W (cu L j).g) (W (cu L j).c) (W (cu L (i + 6)).b) (W (cu L (i + 6)).g) (W (cu L (i + 6)).c) (W (cu L (j + 8)).b) (W (cu L (j + 8)).g) (W (cu L (j + 8)).c) (W (i % 6)) (W (j % 8)) (W (i % 16)) (W (j % 16)) _ _ _ _ hL (min (cu L i).b 3) (offL ab) (atK i) (off3 (by omega)) fK) $$ [HB HM]
    · isplitl [HB]; · iexact HB
      iexact HM
    iintro %r12 ⟨HB, HM⟩
    iapply (ldB13 c bd a0 a1 a12 a13 a14 a15 a16 a17 a4 a8 a18 a7) $$ HB; iintro %x13 HB
    iapply (ldB13 c bd a0 a1 a12 a13 a14 a15 a16 a17 a4 a8 a18 a7) $$ HB; iintro %x13 HB
    iapply (stB13 c bd a0 a1 a12 a13 a14 a15 a16 a17 a4 a8 a18 a7) $$ HB; iintro HB
    iapply (lenB c bd a0 a1 a12 a13 a14 a15 a16 a17 a4 a8 a18 a7 hL (cu L (i + 6)).b (offL eb)) $$ HB; iintro HB
    iapply (wp_assume Variants.nat c.tc bd Set.univ c18)
    iapply (issue_K8 c bd (i % 6) m6 (cu L (i + 6)).b (cu L (i + 6)).g (cu L (i + 6)).c (lw L (cu L (i + 6)).b) (lw_le hL.1 _) ie.2.2 ie.1 ie.2.1 _ _ _ _ _ f5) $$ [HS HH HM]
    · isplitl [HS]; · iexact HS
      isplitl [HH]; · iexact HH
      iexists _; iexact HM
    iintro HF
    iapply Hk
    isplitl [HF HR]
    · iapply (issueK_close c L f5 i hh)
      isplitl [HF]; · iexact HF
      iexact HR
    isplitl [HV]; · iexact HV
    isplitl [HB]; · iexact HB
    iexists _; iexact HW
  · have h8 : ¬ k0_cond8 (W (cu L i).b) (W (cu L (i + 6)).b) = 1#1 := by rw [cond8_W ab eb, ofBool_one]; simp [hk, hh]
    rw [k0_part22_eq_skeleton]; unfold k0_part22_skel
    simp only [dif_pos h3, dif_neg h4, dif_neg h5, dif_pos h6, dif_neg h7, dif_neg h8, Prog.lift, Prog.bind_op, Prog.bind_ret, Prog.pure_eq_ret, Prog.bind_assoc]
    iintro ⟨HK, HV, HB, ⟨%W0, HW⟩⟩ Hk
    iapply (wp_assume Variants.nat c.tc bd Set.univ c24)
    iapply (wp_assume Variants.nat c.tc bd Set.univ c22)
    iapply (wp_assume Variants.nat c.tc bd Set.univ c20)
    iapply (wp_assume Variants.nat c.tc bd Set.univ c19)
    iapply (wp_assume Variants.nat c.tc bd Set.univ c17)
    iapply (wp_assume Variants.nat c.tc bd Set.univ c16)
    iapply (wp_assume Variants.nat c.tc bd Set.univ c15)
    iapply (wp_assume Variants.nat c.tc bd Set.univ c14)
    iapply (wp_assume Variants.nat c.tc bd Set.univ c13)
    iapply (wp_assume Variants.nat c.tc bd Set.univ c11)
    iapply (wp_assume Variants.nat c.tc bd Set.univ c10)
    iapply (wp_assume Variants.nat c.tc bd Set.univ c9)
    iapply (wp_assume Variants.nat c.tc bd Set.univ c7)
    iapply (lenB c bd a0 a1 a12 a13 a14 a15 a16 a17 a4 a8 a18 a7 hL (cu L i).b (offL ab)) $$ HB; iintro HB
    iapply (wp_assume Variants.nat c.tc bd Set.univ c8)
    icases (openK c L f5 i hk) $$ HK with ⟨HF, HR⟩
    iapply (waitK c bd (atK i) (cu L i).b (cu L i).g (cu L i).c (szOf (cu L i).c (lw L (cu L i).b)) _ (off1 (by omega)) _ _ (sz2 (lw_le hL.1 _) ia.2.2) f5 W0) $$ [HF HW]
    · isplitl [HF]; · iexact HF
      iexact HW
    iintro ⟨⟨HS, HH, %fK, %hfK, HM⟩, ⟨%W1, HW⟩⟩
    iapply (part12_wp c bd a0 p0 a1 p1 a12 p12 a13 p13 a14 p14 a15 p15 a16 p16 a17 p17 a4 p4 a8 p8 a18 p18 a7 p7 (W (cu L i).b) (W (cu L i).g) (W (cu L i).c) (W (cu L j).b) (W (cu L j).g) (W (cu L j).c) (W (cu L (i + 6)).b) (W (cu L (i + 6)).g) (W (cu L (i + 6)).c) (W (cu L (j + 8)).b) (W (cu L (j + 8)).g) (W (cu L (j + 8)).c) (W (i % 6)) (W (j % 8)) (W (i % 16)) (W (j % 16)) _ _ _ _ hL (min (cu L i).b 3) (offL ab) (atK i) (off3 (by omega)) fK) $$ [HB HM]
    · isplitl [HB]; · iexact HB
      iexact HM
    iintro %r12 ⟨HB, HM⟩
    iapply (ldB13 c bd a0 a1 a12 a13 a14 a15 a16 a17 a4 a8 a18 a7) $$ HB; iintro %x13 HB
    iapply (ldB13 c bd a0 a1 a12 a13 a14 a15 a16 a17 a4 a8 a18 a7) $$ HB; iintro %x13 HB
    iapply (stB13 c bd a0 a1 a12 a13 a14 a15 a16 a17 a4 a8 a18 a7) $$ HB; iintro HB
    iapply Hk
    isplitl [HS HH HM HR]
    · iapply (skipK_close c L f5 i hh)
      isplitr [HR]
      · isplitl [HS]; · iexact HS
        isplitl [HH]; · iexact HH
        iexists _; iexact HM
      iexact HR
    isplitl [HV]; · iexact HV
    isplitl [HB]; · iexact HB
    iexists _; iexact HW

end Cert.Kernel.Hand
-- ==== Proof.K.StepC.lean ====
module

public import proofs.«01_k».proof.Proof.K.Issue
public import proofs.«01_k».proof.Proof.K.FragB
public import proofs.«01_k».proof.Proof.K.FragC
public import Idealize.ShloMosaic.Lib.Pipeline.FrameBody
public import Idealize.ShloMosaic.Lib.Pipeline.DatRel
public import Idealize.ShloMosaic.Lib.Ring
public import Idealize.ShloMosaic.Lib.Tactic
public import Idealize.ShloMosaic.Lib.WordCmp

@[expose] public section

set_option maxRecDepth 16384

/-!
The first half of a trip: the waits, the arithmetic, the next K transfer.
-/

noncomputable section

namespace Cert.Kernel.Hand

open Cert.Kernel Cert.Kernel.Gen Cert.Words
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

attribute [local irreducible] cur

variable (c : Dev nD) (bd : Option Variants.nat.V) (a0 : Memref sig .tc .smem S4 .i32) (p0 : a0.IsWhole) (a1 : Memref sig .tc .vmem S24x8x160 .bf16) (p1 : a1.IsWhole) (a12 : Memref sig .tc .vmem S16x8x4096 .f32) (p12 : a12.IsWhole) (a13 : Memref sig .tc .vmem S8x128 .f32) (p13 : a13.IsWhole) (a14 : Memref sig .tc .vmem S24x8x128 .f32) (p14 : a14.IsWhole) (a15 : Memref sig .tc .vmem S8x128 .f32) (p15 : a15.IsWhole) (a16 : Memref sig .tc .vmem S8x160 .f32) (p16 : a16.IsWhole) (a17 : Memref sig .tc .vmem S6x4x160 .f32) (p17 : a17.IsWhole) (a4 : Memref sig .tc .vmem S6x4x160 .f32) (p4 : a4.IsWhole) (a8 : Memref sig .tc .vmem S24x8x160 .f32) (p8 : a8.IsWhole) (a18 : Memref sig .tc .vmem S6x4x160 .f32) (p18 : a18.IsWhole) (a7 : Memref sig .tc .vmem S24x8x160 .bf16) (p7 : a7.IsWhole)
variable {f0 : Buf (Elt F) (a0.view.loc (c : Thread nD τ))} {f1 : Buf (Elt F) (a1.view.loc (c : Thread nD τ))} {f4 : Buf (Elt F) (a4.view.loc (c : Thread nD τ))}

variable {L : ℕ → ℕ} {i j : ℕ}

theorem part22_C {α : Type} (hL : LensOk a0 c f0 L) (hj : j < total (nL L)) (hk : ¬ (cu L i).b < 4) (hv : doV (nL L) i j)
    (f5 : Buf (Elt F) (hbmK c)) (f6 : Buf (Elt F) (hbmV c))
    {kk} {Q : α → sProp 𝕄} :
    iprop(RingK c L f5 (stK L i) ∗ RingV c L f6 (stV L j) ∗ Bufs c a0 a1 a4 a12 a13 a14 a15 a16 a17 a18 a8 a7 f0 f1 f4 ∗ (∃ W0, owes c 0 W0)) ⊢ iprop((∀ (h24 : k0_chk24 (W (cu L j).b)) (h20 : k0_chk20 (W (cu L i).b) (W (cu L i).g) (W (cu L j).b) (W (cu L j).g) (W (cu L (j + 8)).b)) (h17 : k0_chk17 (W (cu L i).b) (W (cu L (i + 6)).b)) (h14 : k0_chk14 (W (cu L i).b) (W (cu L i).g) (W (cu L j).b) (W (cu L j).g) (W (cu L (j + 8)).b) (W (j % 8))) (h7 : k0_chk7 (W (cu L i).b)) (v60 x0 : BitVec 32), iprop(RingK c L f5 (stK L i) ∗ (gotV c f6 (atV j) (cu L j).b (cu L j).g (cu L j).c (szOf (cu L j).c (lw L (cu L j).b)) ∗ RestV c L f6 (stV L j) (atV j)) ∗ Bufs c a0 a1 a4 a12 a13 a14 a15 a16 a17 a18 a8 a7 f0 f1 f4 ∗ (∃ W0, owes c 0 W0)) -∗
        wp frame (wpE (defs₀ (F := F)) Variants.nat c.tc bd) Set.univ (kk ⟨h24, h20, h17, h14, h7, Scalar.cmpi .slt (W (cu L i).b) 4#32,
          Scalar.cmpi .sgt (Scalar.addi (Scalar.muli (W (cu L i).b) 6#32) (W (cu L i).g)) (Scalar.addi (Scalar.muli (W (cu L j).b) 6#32) (W (cu L j).g)), v60, x0⟩) Q)
      -∗ wp frame (wpE (defs₀ (F := F)) Variants.nat c.tc bd) Set.univ (k0_part22 (F := F) a0 p0 cc0_scratch9 (Memref.whole cc0_scratch0) (isW _) (Memref.whole main_v2) (isW _) cc0_scratch10 (Memref.whole cc0_scratch1) (isW _) (Memref.whole main_v4) (isW _) a1 p1 a12 p12 a13 p13 a14 p14 a15 p15 a16 p16 a17 p17 a4 p4 a8 p8 a18 p18 a7 p7 (W (cu L i).b) (W (cu L i).g) (W (cu L i).c) (W (cu L j).b) (W (cu L j).g) (W (cu L j).c) (W (cu L (i + 6)).b) (W (cu L (i + 6)).g) (W (cu L (i + 6)).c) (W (cu L (j + 8)).b) (W (cu L (j + 8)).g) (W (cu L (j + 8)).c) (W (i % 6)) (W (j % 8)) (W (i % 16)) (W (j % 16)) >>= kk) Q) := by
  have hn := nL_ok hL.1
  have hn1 := fun b => (hn b).1
  obtain ⟨ab, ag, ac⟩ := cur_bounds hn i
  obtain ⟨bb, bg, bc⟩ := cur_bounds hn j
  obtain ⟨eb, eg, ec⟩ := cur_bounds hn (i + 6)
  obtain ⟨pb, pg, pc⟩ := cur_bounds hn (j + 8)
  have m6 : i % 6 < 6 := Nat.mod_lt _ (by decide)
  have m8 : j % 8 < 8 := Nat.mod_lt _ (by decide)
  have m16 : i % 16 < 16 := Nat.mod_lt _ (by decide)
  have m16' : j % 16 < 16 := Nat.mod_lt _ (by decide)
  have ib := cur_in hn1 hj
  have hv' : (cu L j).b * 6 + (cu L j).g < (cu L i).b * 6 + (cu L i).g := hv
  have h3 : ¬ k0_cond3 (W (cu L i).b) = 1#1 := by rw [cond3_W ab, ofBool_one]; simp [hk, hv']
  have h4 : k0_cond4 (W (cu L i).b) (W (cu L i).g) (W (cu L j).b) (W (cu L j).g) = 1#1 := by rw [cond4_W ab ag bb bg, ofBool_one]; simp [hk, hv']
  have h5 : ¬ k0_cond5 (W (cu L i).b) (W (cu L i).g) (W (cu L j).b) (W (cu L j).g) = 1#1 := by rw [cond5_W ab ag bb bg, ofBool_one]; simp [hk, hv']
  have h6 : ¬ k0_cond6 (W (cu L i).b) (W (cu L i).g) (W (cu L j).b) (W (cu L j).g) = 1#1 := by rw [cond6_W ab ag bb bg, ofBool_one]; simp [hk, hv']
  have h7 : k0_cond7 (W (cu L i).b) = 1#1 := by rw [cond7_W ab, ofBool_one]; simp [hk, hv']
  have c24 : k0_chk24 (W (cu L j).b) := chk24_W bb
  have c22 : k0_chk22 (W (cu L i).b) (W (cu L i).g) (W (cu L j).b) (W (cu L j).g) (W (cu L (j + 8)).b) (W (cu L (j + 8)).c) := chk22_W pc
  have c20 : k0_chk20 (W (cu L i).b) (W (cu L i).g) (W (cu L j).b) (W (cu L j).g) (W (cu L (j + 8)).b) := chk20_W pb
  have c19 : k0_chk19 (W (cu L i).b) (W (cu L (i + 6)).b) (W (cu L (i + 6)).c) := chk19_W ec
  have c17 : k0_chk17 (W (cu L i).b) (W (cu L (i + 6)).b) := chk17_W eb
  have c16 : k0_chk16 (W (cu L i).b) (W (cu L i).g) (W (cu L j).b) (W (cu L j).g) (W (j % 16)) := chk16_W m16'
  have c15 : k0_chk15 (W (cu L i).b) (W (cu L i).g) (W (cu L j).b) (W (cu L j).g) (W (i % 16)) := chk15_W m16
  have c14 : k0_chk14 (W (cu L i).b) (W (cu L i).g) (W (cu L j).b) (W (cu L j).g) (W (cu L (j + 8)).b) (W (j % 8)) := chk14_W m8
  have c13 : k0_chk13 (W (cu L i).b) (W (cu L i).g) (W (cu L j).b) (W (cu L j).g) (W (cu L j).c) := chk13_W bc
  have c11 : k0_chk11 (W (cu L i).b) (W (cu L i).g) (W (cu L j).b) (W (cu L j).g) := chk11_W ab ag bb bg (fun _ => ib.1) (fun _ => ib.1)
  have c10 : k0_chk10 (W (cu L i).b) (W (cu L i).g) (W (cu L j).b) (W (cu L j).g) (W (cu L (i + 6)).b) (W (i % 6)) := chk10_W m6
  have c9 : k0_chk9 (W (cu L i).b) (W (cu L i).c) := chk9_W ac
  have c7 : k0_chk7 (W (cu L i).b) := chk7_W ab
  have c12 : k0_chk12 (W (cu L i).b) (W (cu L i).g) (W (cu L j).b) (W (cu L j).g) (W (cu L j).c) (W (j % 8)) (W (lw L (cu L j).b)) := chk12_W (lw_le hL.1 _) (fun _ => ib.2.2)
  have h8 : ¬ k0_cond8 (W (cu L i).b) (W (cu L (i + 6)).b) = 1#1 := by rw [cond8_W ab eb, ofBool_one]; simp [hk]
  rw [k0_part22_eq_skeleton]; unfold k0_part22_skel
  simp only [dif_neg h3, dif_pos h4, dif_neg h5, dif_neg h6, dif_pos h7, dif_neg h8, Prog.lift, Prog.bind_op, Prog.bind_ret, Prog.pure_eq_ret, Prog.bind_assoc]
  iintro ⟨HK, HV, HB, ⟨%W0, HW⟩⟩ Hk
  iapply (wp_assume Variants.nat c.tc bd Set.univ c24)
  iapply (wp_assume Variants.nat c.tc bd Set.univ c22)
  iapply (wp_assume Variants.nat c.tc bd Set.univ c20)
  iapply (wp_assume Variants.nat c.tc bd Set.univ c19)
  iapply (wp_assume Variants.nat c.tc bd Set.univ c17)
  iapply (wp_assume Variants.nat c.tc bd Set.univ c16)
  iapply (wp_assume Variants.nat c.tc bd Set.univ c15)
  iapply (wp_assume Variants.nat c.tc bd Set.univ c14)
  iapply (wp_assume Variants.nat c.tc bd Set.univ c13)
  iapply (wp_assume Variants.nat c.tc bd Set.univ c11)
  iapply (wp_assume Variants.nat c.tc bd Set.univ c10)
  iapply (wp_assume Variants.nat c.tc bd Set.univ c9)
  iapply (wp_assume Variants.nat c.tc bd Set.univ c7)
  iapply (lenB c bd a0 a1 a12 a13 a14 a15 a16 a17 a4 a8 a18 a7 hL (cu L j).b (offL bb)) $$ HB; iintro HB
  iapply (wp_assume Variants.nat c.tc bd Set.univ c12)
  icases (openV c L f6 j ib.1) $$ HV with ⟨HF, HRV⟩
  iapply (waitV c bd (atV j) (cu L j).b (cu L j).g (cu L j).c (szOf (cu L j).c (lw L (cu L j).b)) _ (off1 (by omega)) _ _ (sz2 (lw_le hL.1 _) ib.2.2) f6 _) $$ [HF HW]
  · isplitl [HF]; · iexact HF
    iexact HW
  iintro ⟨⟨HSV, HHV, %fV, %hfV, HMV⟩, ⟨%W2, HW⟩⟩
  iapply (part13_wp c bd a0 p0 a1 p1 a12 p12 a13 p13 a14 p14 a15 p15 a16 p16 a17 p17 a4 p4 a8 p8 a18 p18 a7 p7 (W (cu L i).b) (W (cu L i).g) (W (cu L i).c) (W (cu L j).b) (W (cu L j).g) (W (cu L j).c) (W (cu L (i + 6)).b) (W (cu L (i + 6)).g) (W (cu L (i + 6)).c) (W (cu L (j + 8)).b) (W (cu L (j + 8)).g) (W (cu L (j + 8)).c) (W (i % 6)) (W (j % 8)) (W (i % 16)) (W (j % 16)) _ _ _) $$ HB; iintro %r13 HB
  iapply (part14_wp c bd a0 p0 a1 p1 a12 p12 a13 p13 a14 p14 a15 p15 a16 p16 a17 p17 a4 p4 a8 p8 a18 p18 a7 p7 (W (cu L i).b) (W (cu L i).g) (W (cu L i).c) (W (cu L j).b) (W (cu L j).g) (W (cu L j).c) (W (cu L (i + 6)).b) (W (cu L (i + 6)).g) (W (cu L (i + 6)).c) (W (cu L (j + 8)).b) (W (cu L (j + 8)).g) (W (cu L (j + 8)).c) (W (i % 6)) (W (j % 8)) (W (i % 16)) (W (j % 16)) _ _ _ _) $$ HB; iintro %r14 HB
  iapply (part15_wp c bd a0 p0 a1 p1 a12 p12 a13 p13 a14 p14 a15 p15 a16 p16 a17 p17 a4 p4 a8 p8 a18 p18 a7 p7 (W (cu L i).b) (W (cu L i).g) (W (cu L i).c) (W (cu L j).b) (W (cu L j).g) (W (cu L j).c) (W (cu L (i + 6)).b) (W (cu L (i + 6)).g) (W (cu L (i + 6)).c) (W (cu L (j + 8)).b) (W (cu L (j + 8)).g) (W (cu L (j + 8)).c) (W (i % 6)) (W (j % 8)) (W (i % 16)) (W (j % 16)) _ _ _ _ _) $$ HB; iintro %r15 HB
  iapply (part16_wp c bd a0 p0 a1 p1 a12 p12 a13 p13 a14 p14 a15 p15 a16 p16 a17 p17 a4 p4 a8 p8 a18 p18 a7 p7 (W (cu L i).b) (W (cu L i).g) (W (cu L i).c) (W (cu L j).b) (W (cu L j).g) (W (cu L j).c) (W (cu L (i + 6)).b) (W (cu L (i + 6)).g) (W (cu L (i + 6)).c) (W (cu L (j + 8)).b) (W (cu L (j + 8)).g) (W (cu L (j + 8)).c) (W (i % 6)) (W (j % 8)) (W (i % 16)) (W (j % 16)) _ _ _ _ _ _) $$ HB; iintro %r16 HB
  iapply (part17_wp c bd a0 p0 a1 p1 a12 p12 a13 p13 a14 p14 a15 p15 a16 p16 a17 p17 a4 p4 a8 p8 a18 p18 a7 p7 (W (cu L i).b) (W (cu L i).g) (W (cu L i).c) (W (cu L j).b) (W (cu L j).g) (W (cu L j).c) (W (cu L (i + 6)).b) (W (cu L (i + 6)).g) (W (cu L (i + 6)).c) (W (cu L (j + 8)).b) (W (cu L (j + 8)).g) (W (cu L (j + 8)).c) (W (i % 6)) (W (j % 8)) (W (i % 16)) (W (j % 16)) _ _ _ _) $$ HB; iintro %r17 HB
  iapply (part18_wp c bd a0 p0 a1 p1 a12 p12 a13 p13 a14 p14 a15 p15 a16 p16 a17 p17 a4 p4 a8 p8 a18 p18 a7 p7 (W (cu L i).b) (W (cu L i).g) (W (cu L i).c) (W (cu L j).b) (W (cu L j).g) (W (cu L j).c) (W (cu L (i + 6)).b) (W (cu L (i + 6)).g) (W (cu L (i + 6)).c) (W (cu L (j + 8)).b) (W (cu L (j + 8)).g) (W (cu L (j + 8)).c) (W (i % 6)) (W (j % 8)) (W (i % 16)) (W (j % 16)) _ _ _ _ _) $$ HB; iintro %r18 HB
  iapply (part19_wp c bd a0 p0 a1 p1 a12 p12 a13 p13 a14 p14 a15 p15 a16 p16 a17 p17 a4 p4 a8 p8 a18 p18 a7 p7 (W (cu L i).b) (W (cu L i).g) (W (cu L i).c) (W (cu L j).b) (W (cu L j).g) (W (cu L j).c) (W (cu L (i + 6)).b) (W (cu L (i + 6)).g) (W (cu L (i + 6)).c) (W (cu L (j + 8)).b) (W (cu L (j + 8)).g) (W (cu L (j + 8)).c) (W (i % 6)) (W (j % 8)) (W (i % 16)) (W (j % 16)) _ _ _ _ _) $$ HB; iintro %r19 HB
  iapply (part20_wp c bd a0 p0 a1 p1 a12 p12 a13 p13 a14 p14 a15 p15 a16 p16 a17 p17 a4 p4 a8 p8 a18 p18 a7 p7 (W (cu L i).b) (W (cu L i).g) (W (cu L i).c) (W (cu L j).b) (W (cu L j).g) (W (cu L j).c) (W (cu L (i + 6)).b) (W (cu L (i + 6)).g) (W (cu L (i + 6)).c) (W (cu L (j + 8)).b) (W (cu L (j + 8)).g) (W (cu L (j + 8)).c) (W (i % 6)) (W (j % 8)) (W (i % 16)) (W (j % 16)) _ _ _ _ _ _ _ _ _ _ _ _ _ _ _ _ _ _ _ _ _ _ _ _ _ _ _ _ _ _ _ _ _ _ _ (atV j) (off3 (by omega)) fV) $$ [HB HMV]
  · isplitl [HB]; · iexact HB
    iexact HMV
  iintro %r20 ⟨HB, HMV⟩
  iapply (ldB16 c bd a0 a1 a12 a13 a14 a15 a16 a17 a4 a8 a18 a7) $$ HB; iintro %x16 HB
  iapply (ldB16 c bd a0 a1 a12 a13 a14 a15 a16 a17 a4 a8 a18 a7) $$ HB; iintro %x16 HB
  iapply (stB16 c bd a0 a1 a12 a13 a14 a15 a16 a17 a4 a8 a18 a7) $$ HB; iintro HB
  iapply Hk
  isplitl [HK]; · iexact HK
  isplitl [HSV HHV HMV HRV]
  · isplitr [HRV]
    · isplitl [HSV]; · iexact HSV
      isplitl [HHV]; · iexact HHV
      iexists _; isplitr; · ipureintro; exact hfV
      iexact HMV
    iexact HRV
  isplitl [HB]; · iexact HB
  iexists _; iexact HW

end Cert.Kernel.Hand
-- ==== Proof.K.Mid.lean ====
module

public import proofs.«01_k».proof.Proof.K.Issue
public import Idealize.ShloMosaic.Lib.Pipeline.FrameBody
public import Idealize.ShloMosaic.Lib.Pipeline.DatRel
public import Idealize.ShloMosaic.Lib.Ring
public import Idealize.ShloMosaic.Lib.Tactic
public import Idealize.ShloMosaic.Lib.WordCmp

@[expose] public section

set_option maxRecDepth 16384

/-!
The middle of a trip: the next V transfer and the end of a pair of keys.
-/

noncomputable section

namespace Cert.Kernel.Hand

open Cert.Kernel Cert.Kernel.Gen Cert.Words
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

attribute [local irreducible] cur

variable (c : Dev nD) (bd : Option Variants.nat.V) (a0 : Memref sig .tc .smem S4 .i32) (p0 : a0.IsWhole) (a1 : Memref sig .tc .vmem S24x8x160 .bf16) (p1 : a1.IsWhole) (a12 : Memref sig .tc .vmem S16x8x4096 .f32) (p12 : a12.IsWhole) (a13 : Memref sig .tc .vmem S8x128 .f32) (p13 : a13.IsWhole) (a14 : Memref sig .tc .vmem S24x8x128 .f32) (p14 : a14.IsWhole) (a15 : Memref sig .tc .vmem S8x128 .f32) (p15 : a15.IsWhole) (a16 : Memref sig .tc .vmem S8x160 .f32) (p16 : a16.IsWhole) (a17 : Memref sig .tc .vmem S6x4x160 .f32) (p17 : a17.IsWhole) (a4 : Memref sig .tc .vmem S6x4x160 .f32) (p4 : a4.IsWhole) (a8 : Memref sig .tc .vmem S24x8x160 .f32) (p8 : a8.IsWhole) (a18 : Memref sig .tc .vmem S6x4x160 .f32) (p18 : a18.IsWhole) (a7 : Memref sig .tc .vmem S24x8x160 .bf16) (p7 : a7.IsWhole)
variable {f0 : Buf (Elt F) (a0.view.loc (c : Thread nD τ))} {f1 : Buf (Elt F) (a1.view.loc (c : Thread nD τ))} {f4 : Buf (Elt F) (a4.view.loc (c : Thread nD τ))}

variable {L : ℕ → ℕ} {i j : ℕ}

theorem part23_V {α : Type} (hL : LensOk a0 c f0 L) (hj : j < total (nL L)) (hv : doV (nL L) i j) (f6 : Buf (Elt F) (hbmV c))
    (k0_hw24 : k0_chk24 (W (cu L j).b)) (k0_hw20 : k0_chk20 (W (cu L i).b) (W (cu L i).g) (W (cu L j).b) (W (cu L j).g) (W (cu L (j + 8)).b)) (k0_hw14 : k0_chk14 (W (cu L i).b) (W (cu L i).g) (W (cu L j).b) (W (cu L j).g) (W (cu L (j + 8)).b) (W (j % 8))) (k0_hw7 : k0_chk7 (W (cu L i).b)) (v34 : BitVec 1) (v60 x0 : BitVec 32)
    {kk} {Q : α → sProp 𝕄} :
    ((gotV c f6 (atV j) (cu L j).b (cu L j).g (cu L j).c (szOf (cu L j).c (lw L (cu L j).b)) ∗ RestV c L f6 (stV L j) (atV j)) ∗ Bufs c a0 a1 a4 a12 a13 a14 a15 a16 a17 a18 a8 a7 f0 f1 f4) ⊢ iprop((∀ r, (RingV c L f6 (stV L (j + 1)) ∗ Bufs c a0 a1 a4 a12 a13 a14 a15 a16 a17 a18 a8 a7 f0 f1 f4) -∗ wp frame (wpE (defs₀ (F := F)) Variants.nat c.tc bd) Set.univ (kk r) Q)
      -∗ wp frame (wpE (defs₀ (F := F)) Variants.nat c.tc bd) Set.univ (k0_part23 (F := F) a0 p0 cc0_scratch9 (Memref.whole cc0_scratch0) (isW _) (Memref.whole main_v2) (isW _) cc0_scratch10 (Memref.whole cc0_scratch1) (isW _) (Memref.whole main_v4) (isW _) a1 p1 a12 p12 a13 p13 a14 p14 a15 p15 a16 p16 a17 p17 a4 p4 a8 p8 a18 p18 a7 p7 (W (cu L i).b) (W (cu L i).g) (W (cu L i).c) (W (cu L j).b) (W (cu L j).g) (W (cu L j).c) (W (cu L (i + 6)).b) (W (cu L (i + 6)).g) (W (cu L (i + 6)).c) (W (cu L (j + 8)).b) (W (cu L (j + 8)).g) (W (cu L (j + 8)).c) (W (i % 6)) (W (j % 8)) (W (i % 16)) (W (j % 16)) k0_hw24 k0_hw20 k0_hw14 k0_hw7 v34 v60 x0 >>= kk) Q) := by
  have hn := nL_ok hL.1
  have hn1 := fun b => (hn b).1
  obtain ⟨ab, ag, ac⟩ := cur_bounds hn i
  obtain ⟨bb, bg, bc⟩ := cur_bounds hn j
  obtain ⟨eb, eg, ec⟩ := cur_bounds hn (i + 6)
  obtain ⟨pb, pg, pc⟩ := cur_bounds hn (j + 8)
  have m6 : i % 6 < 6 := Nat.mod_lt _ (by decide)
  have m8 : j % 8 < 8 := Nat.mod_lt _ (by decide)
  have m16 : i % 16 < 16 := Nat.mod_lt _ (by decide)
  have m16' : j % 16 < 16 := Nat.mod_lt _ (by decide)
  have ib := cur_in hn1 hj
  have hv' : (cu L j).b * 6 + (cu L j).g < (cu L i).b * 6 + (cu L i).g := hv
  have c23 : k0_chk23 (W (cu L i).b) (W (cu L i).g) (W (cu L i).c) (W (lw L (cu L i).b)) := chk23_W ab ag ac (lw_le hL.1 _)
  have c25 : k0_chk25 (W (cu L i).b) (W (cu L i).g) (W (cu L j).b) (W (cu L j).g) (W (cu L j).c) (W (lw L (cu L j).b)) := chk25_W bg (fun _ => ib.1)
  rw [k0_part23_eq_skeleton]; unfold k0_part23_skel
  by_cases h10 : k0_cond10 (W (cu L i).b) (W (cu L i).c) (W (lw L (cu L i).b)) = 1#1
  · by_cases hh : (cu L (j + 8)).b < 4
    · have h9 : k0_cond9 (W (cu L i).b) (W (cu L i).g) (W (cu L j).b) (W (cu L j).g) (W (cu L (j + 8)).b) = 1#1 := by rw [cond9_W ab ag bb bg pb, ofBool_one]; simp [hv', hh]
      have ip := cur_in hn1 ((cur_lt_iff hn1 _).1 hh)
      have c21 : k0_chk21 (W (cu L i).b) (W (cu L i).g) (W (cu L j).b) (W (cu L j).g) (W (cu L (j + 8)).b) (W (cu L (j + 8)).g) (W (cu L (j + 8)).c) (W (j % 8)) (W (lw L (cu L (j + 8)).b)) := chk21_W ab ag bb bg pb pg (lw_le hL.1 _) (fun _ => ip.2.2) m8
      simp only [dif_pos h9, dif_pos h10, Prog.lift, Prog.bind_op, Prog.bind_ret, Prog.pure_eq_ret, Prog.bind_assoc]
      iintro ⟨⟨⟨HSV, HHV, %fV, %hfV, HMV⟩, HRV⟩, HB⟩ Hk
      iapply (lenB c bd a0 a1 a12 a13 a14 a15 a16 a17 a4 a8 a18 a7 hL (cu L (j + 8)).b (offL pb)) $$ HB; iintro HB
      iapply (wp_assume Variants.nat c.tc bd Set.univ c21)
      iapply (issue_V9 c bd (j % 8) m8 (cu L (j + 8)).b (cu L (j + 8)).g (cu L (j + 8)).c (lw L (cu L (j + 8)).b) (lw_le hL.1 _) ip.2.2 ip.1 ip.2.1 _ _ _ _ _ f6) $$ [HSV HHV HMV]
      · isplitl [HSV]; · iexact HSV
        isplitl [HHV]; · iexact HHV
        iexists _; iexact HMV
      iintro HF
      iapply (lenB c bd a0 a1 a12 a13 a14 a15 a16 a17 a4 a8 a18 a7 hL (cu L i).b (offL ab)) $$ HB; iintro HB
      iapply (wp_assume Variants.nat c.tc bd Set.univ c23)
      rw [dif_pos h10]
      simp only [Prog.bind_op, Prog.bind_ret, Prog.bind_assoc]
      iapply (ldB13 c bd a0 a1 a12 a13 a14 a15 a16 a17 a4 a8 a18 a7) $$ HB; iintro %x13 HB
      iapply (ldB1 c bd a0 a1 a12 a13 a14 a15 a16 a17 a4 a8 a18 a7) $$ HB; iintro %x1 HB
      iapply (ldB17 c bd a0 a1 a12 a13 a14 a15 a16 a17 a4 a8 a18 a7) $$ HB; iintro %x17 HB
      iapply (ldB14 c bd a0 a1 a12 a13 a14 a15 a16 a17 a4 a8 a18 a7) $$ HB; iintro %x14 HB
      iapply (stB14 c bd a0 a1 a12 a13 a14 a15 a16 a17 a4 a8 a18 a7) $$ HB; iintro HB
      iapply (lenB c bd a0 a1 a12 a13 a14 a15 a16 a17 a4 a8 a18 a7 hL (cu L j).b (offL bb)) $$ HB; iintro HB
      iapply (wp_assume Variants.nat c.tc bd Set.univ c25)
      iapply Hk
      isplitr [HB]
      · iapply (issueV_close c L f6 j hh)
        isplitl [HF]; · iexact HF
        iexact HRV
      iexact HB
    · have h9 : ¬ k0_cond9 (W (cu L i).b) (W (cu L i).g) (W (cu L j).b) (W (cu L j).g) (W (cu L (j + 8)).b) = 1#1 := by rw [cond9_W ab ag bb bg pb, ofBool_one]; simp [hv', hh]
      simp only [dif_neg h9, dif_pos h10, Prog.lift, Prog.bind_op, Prog.bind_ret, Prog.pure_eq_ret, Prog.bind_assoc]
      iintro ⟨⟨⟨HSV, HHV, %fV, %hfV, HMV⟩, HRV⟩, HB⟩ Hk
      iapply (lenB c bd a0 a1 a12 a13 a14 a15 a16 a17 a4 a8 a18 a7 hL (cu L i).b (offL ab)) $$ HB; iintro HB
      iapply (wp_assume Variants.nat c.tc bd Set.univ c23)
      rw [dif_pos h10]
      simp only [Prog.bind_op, Prog.bind_ret, Prog.bind_assoc]
      iapply (ldB13 c bd a0 a1 a12 a13 a14 a15 a16 a17 a4 a8 a18 a7) $$ HB; iintro %x13 HB
      iapply (ldB1 c bd a0 a1 a12 a13 a14 a15 a16 a17 a4 a8 a18 a7) $$ HB; iintro %x1 HB
      iapply (ldB17 c bd a0 a1 a12 a13 a14 a15 a16 a17 a4 a8 a18 a7) $$ HB; iintro %x17 HB
      iapply (ldB14 c bd a0 a1 a12 a13 a14 a15 a16 a17 a4 a8 a18 a7) $$ HB; iintro %x14 HB
      iapply (stB14 c bd a0 a1 a12 a13 a14 a15 a16 a17 a4 a8 a18 a7) $$ HB; iintro HB
      iapply (lenB c bd a0 a1 a12 a13 a14 a15 a16 a17 a4 a8 a18 a7 hL (cu L j).b (offL bb)) $$ HB; iintro HB
      iapply (wp_assume Variants.nat c.tc bd Set.univ c25)
      iapply Hk
      isplitr [HB]
      · iapply (skipV_close c L f6 j hh)
        isplitr [HRV]
        · isplitl [HSV]; · iexact HSV
          isplitl [HHV]; · iexact HHV
          iexists _; iexact HMV
        iexact HRV
      iexact HB
  · by_cases hh : (cu L (j + 8)).b < 4
    · have h9 : k0_cond9 (W (cu L i).b) (W (cu L i).g) (W (cu L j).b) (W (cu L j).g) (W (cu L (j + 8)).b) = 1#1 := by rw [cond9_W ab ag bb bg pb, ofBool_one]; simp [hv', hh]
      have ip := cur_in hn1 ((cur_lt_iff hn1 _).1 hh)
      have c21 : k0_chk21 (W (cu L i).b) (W (cu L i).g) (W (cu L j).b) (W (cu L j).g) (W (cu L (j + 8)).b) (W (cu L (j + 8)).g) (W (cu L (j + 8)).c) (W (j % 8)) (W (lw L (cu L (j + 8)).b)) := chk21_W ab ag bb bg pb pg (lw_le hL.1 _) (fun _ => ip.2.2) m8
      simp only [dif_pos h9, dif_neg h10, Prog.lift, Prog.bind_op, Prog.bind_ret, Prog.pure_eq_ret, Prog.bind_assoc]
      iintro ⟨⟨⟨HSV, HHV, %fV, %hfV, HMV⟩, HRV⟩, HB⟩ Hk
      iapply (lenB c bd a0 a1 a12 a13 a14 a15 a16 a17 a4 a8 a18 a7 hL (cu L (j + 8)).b (offL pb)) $$ HB; iintro HB
      iapply (wp_assume Variants.nat c.tc bd Set.univ c21)
      iapply (issue_V9 c bd (j % 8) m8 (cu L (j + 8)).b (cu L (j + 8)).g (cu L (j + 8)).c (lw L (cu L (j + 8)).b) (lw_le hL.1 _) ip.2.2 ip.1 ip.2.1 _ _ _ _ _ f6) $$ [HSV HHV HMV]
      · isplitl [HSV]; · iexact HSV
        isplitl [HHV]; · iexact HHV
        iexists _; iexact HMV
      iintro HF
      iapply (lenB c bd a0 a1 a12 a13 a14 a15 a16 a17 a4 a8 a18 a7 hL (cu L i).b (offL ab)) $$ HB; iintro HB
      iapply (wp_assume Variants.nat c.tc bd Set.univ c23)
      rw [dif_neg h10]
      simp only [Prog.bind_op, Prog.bind_ret, Prog.bind_assoc]
      iapply (lenB c bd a0 a1 a12 a13 a14 a15 a16 a17 a4 a8 a18 a7 hL (cu L j).b (offL bb)) $$ HB; iintro HB
      iapply (wp_assume Variants.nat c.tc bd Set.univ c25)
      iapply Hk
      isplitr [HB]
      · iapply (issueV_close c L f6 j hh)
        isplitl [HF]; · iexact HF
        iexact HRV
      iexact HB
    · have h9 : ¬ k0_cond9 (W (cu L i).b) (W (cu L i).g) (W (cu L j).b) (W (cu L j).g) (W (cu L (j + 8)).b) = 1#1 := by rw [cond9_W ab ag bb bg pb, ofBool_one]; simp [hv', hh]
      simp only [dif_neg h9, dif_neg h10, Prog.lift, Prog.bind_op, Prog.bind_ret, Prog.pure_eq_ret, Prog.bind_assoc]
      iintro ⟨⟨⟨HSV, HHV, %fV, %hfV, HMV⟩, HRV⟩, HB⟩ Hk
      iapply (lenB c bd a0 a1 a12 a13 a14 a15 a16 a17 a4 a8 a18 a7 hL (cu L i).b (offL ab)) $$ HB; iintro HB
      iapply (wp_assume Variants.nat c.tc bd Set.univ c23)
      rw [dif_neg h10]
      simp only [Prog.bind_op, Prog.bind_ret, Prog.bind_assoc]
      iapply (lenB c bd a0 a1 a12 a13 a14 a15 a16 a17 a4 a8 a18 a7 hL (cu L j).b (offL bb)) $$ HB; iintro HB
      iapply (wp_assume Variants.nat c.tc bd Set.univ c25)
      iapply Hk
      isplitr [HB]
      · iapply (skipV_close c L f6 j hh)
        isplitr [HRV]
        · isplitl [HSV]; · iexact HSV
          isplitl [HHV]; · iexact HHV
          iexists _; iexact HMV
        iexact HRV
      iexact HB

theorem part23_N {α : Type} (hL : LensOk a0 c f0 L) (hj : j < total (nL L)) (hv : ¬ doV (nL L) i j) (f6 : Buf (Elt F) (hbmV c))
    (k0_hw24 : k0_chk24 (W (cu L j).b)) (k0_hw20 : k0_chk20 (W (cu L i).b) (W (cu L i).g) (W (cu L j).b) (W (cu L j).g) (W (cu L (j + 8)).b)) (k0_hw14 : k0_chk14 (W (cu L i).b) (W (cu L i).g) (W (cu L j).b) (W (cu L j).g) (W (cu L (j + 8)).b) (W (j % 8))) (k0_hw7 : k0_chk7 (W (cu L i).b)) (v34 : BitVec 1) (v60 x0 : BitVec 32)
    {kk} {Q : α → sProp 𝕄} :
    Bufs c a0 a1 a4 a12 a13 a14 a15 a16 a17 a18 a8 a7 f0 f1 f4 ⊢ iprop((∀ r, Bufs c a0 a1 a4 a12 a13 a14 a15 a16 a17 a18 a8 a7 f0 f1 f4 -∗ wp frame (wpE (defs₀ (F := F)) Variants.nat c.tc bd) Set.univ (kk r) Q)
      -∗ wp frame (wpE (defs₀ (F := F)) Variants.nat c.tc bd) Set.univ (k0_part23 (F := F) a0 p0 cc0_scratch9 (Memref.whole cc0_scratch0) (isW _) (Memref.whole main_v2) (isW _) cc0_scratch10 (Memref.whole cc0_scratch1) (isW _) (Memref.whole main_v4) (isW _) a1 p1 a12 p12 a13 p13 a14 p14 a15 p15 a16 p16 a17 p17 a4 p4 a8 p8 a18 p18 a7 p7 (W (cu L i).b) (W (cu L i).g) (W (cu L i).c) (W (cu L j).b) (W (cu L j).g) (W (cu L j).c) (W (cu L (i + 6)).b) (W (cu L (i + 6)).g) (W (cu L (i + 6)).c) (W (cu L (j + 8)).b) (W (cu L (j + 8)).g) (W (cu L (j + 8)).c) (W (i % 6)) (W (j % 8)) (W (i % 16)) (W (j % 16)) k0_hw24 k0_hw20 k0_hw14 k0_hw7 v34 v60 x0 >>= kk) Q) := by
  have hn := nL_ok hL.1
  have hn1 := fun b => (hn b).1
  obtain ⟨ab, ag, ac⟩ := cur_bounds hn i
  obtain ⟨bb, bg, bc⟩ := cur_bounds hn j
  obtain ⟨eb, eg, ec⟩ := cur_bounds hn (i + 6)
  obtain ⟨pb, pg, pc⟩ := cur_bounds hn (j + 8)
  have m6 : i % 6 < 6 := Nat.mod_lt _ (by decide)
  have m8 : j % 8 < 8 := Nat.mod_lt _ (by decide)
  have m16 : i % 16 < 16 := Nat.mod_lt _ (by decide)
  have m16' : j % 16 < 16 := Nat.mod_lt _ (by decide)
  have ib := cur_in hn1 hj
  have hv' : ¬ (cu L j).b * 6 + (cu L j).g < (cu L i).b * 6 + (cu L i).g := hv
  have c23 : k0_chk23 (W (cu L i).b) (W (cu L i).g) (W (cu L i).c) (W (lw L (cu L i).b)) := chk23_W ab ag ac (lw_le hL.1 _)
  have c25 : k0_chk25 (W (cu L i).b) (W (cu L i).g) (W (cu L j).b) (W (cu L j).g) (W (cu L j).c) (W (lw L (cu L j).b)) := chk25_W bg (fun _ => ib.1)
  rw [k0_part23_eq_skeleton]; unfold k0_part23_skel
  have h9 : ¬ k0_cond9 (W (cu L i).b) (W (cu L i).g) (W (cu L j).b) (W (cu L j).g) (W (cu L (j + 8)).b) = 1#1 := by rw [cond9_W ab ag bb bg pb, ofBool_one]; simp [hv']
  by_cases h10 : k0_cond10 (W (cu L i).b) (W (cu L i).c) (W (lw L (cu L i).b)) = 1#1
  · simp only [dif_neg h9, dif_pos h10, Prog.lift, Prog.bind_op, Prog.bind_ret, Prog.pure_eq_ret, Prog.bind_assoc]
    iintro HB Hk
    iapply (lenB c bd a0 a1 a12 a13 a14 a15 a16 a17 a4 a8 a18 a7 hL (cu L i).b (offL ab)) $$ HB; iintro HB
    iapply (wp_assume Variants.nat c.tc bd Set.univ c23)
    rw [dif_pos h10]
    simp only [Prog.bind_op, Prog.bind_ret, Prog.bind_assoc]
    iapply (ldB13 c bd a0 a1 a12 a13 a14 a15 a16 a17 a4 a8 a18 a7) $$ HB; iintro %x13 HB
    iapply (ldB1 c bd a0 a1 a12 a13 a14 a15 a16 a17 a4 a8 a18 a7) $$ HB; iintro %x1 HB
    iapply (ldB17 c bd a0 a1 a12 a13 a14 a15 a16 a17 a4 a8 a18 a7) $$ HB; iintro %x17 HB
    iapply (ldB14 c bd a0 a1 a12 a13 a14 a15 a16 a17 a4 a8 a18 a7) $$ HB; iintro %x14 HB
    iapply (stB14 c bd a0 a1 a12 a13 a14 a15 a16 a17 a4 a8 a18 a7) $$ HB; iintro HB
    iapply (lenB c bd a0 a1 a12 a13 a14 a15 a16 a17 a4 a8 a18 a7 hL (cu L j).b (offL bb)) $$ HB; iintro HB
    iapply (wp_assume Variants.nat c.tc bd Set.univ c25)
    iapply Hk
    iexact HB
  · simp only [dif_neg h9, dif_neg h10, Prog.lift, Prog.bind_op, Prog.bind_ret, Prog.pure_eq_ret, Prog.bind_assoc]
    iintro HB Hk
    iapply (lenB c bd a0 a1 a12 a13 a14 a15 a16 a17 a4 a8 a18 a7 hL (cu L i).b (offL ab)) $$ HB; iintro HB
    iapply (wp_assume Variants.nat c.tc bd Set.univ c23)
    rw [dif_neg h10]
    simp only [Prog.bind_op, Prog.bind_ret, Prog.bind_assoc]
    iapply (lenB c bd a0 a1 a12 a13 a14 a15 a16 a17 a4 a8 a18 a7 hL (cu L j).b (offL bb)) $$ HB; iintro HB
    iapply (wp_assume Variants.nat c.tc bd Set.univ c25)
    iapply Hk
    iexact HB

end Cert.Kernel.Hand
-- ==== Proof.K.Tail.lean ====
module

public import proofs.«01_k».proof.Proof.K.Acc
public import proofs.«01_k».proof.Proof.K.FragC
public import Idealize.ShloMosaic.Lib.Pipeline.FrameBody
public import Idealize.ShloMosaic.Lib.Pipeline.DatRel
public import Idealize.ShloMosaic.Lib.Ring
public import Idealize.ShloMosaic.Lib.Tactic
public import Idealize.ShloMosaic.Lib.WordCmp

@[expose] public section

set_option maxRecDepth 16384

/-!
The end of a trip: the finished pair and the advanced cursors.
-/

noncomputable section

namespace Cert.Kernel.Hand

open Cert.Kernel Cert.Kernel.Gen Cert.Words
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (c : Dev nD) (bd : Option Variants.nat.V) (a0 : Memref sig .tc .smem S4 .i32) (p0 : a0.IsWhole) (a1 : Memref sig .tc .vmem S24x8x160 .bf16) (p1 : a1.IsWhole) (a12 : Memref sig .tc .vmem S16x8x4096 .f32) (p12 : a12.IsWhole) (a13 : Memref sig .tc .vmem S8x128 .f32) (p13 : a13.IsWhole) (a14 : Memref sig .tc .vmem S24x8x128 .f32) (p14 : a14.IsWhole) (a15 : Memref sig .tc .vmem S8x128 .f32) (p15 : a15.IsWhole) (a16 : Memref sig .tc .vmem S8x160 .f32) (p16 : a16.IsWhole) (a17 : Memref sig .tc .vmem S6x4x160 .f32) (p17 : a17.IsWhole) (a4 : Memref sig .tc .vmem S6x4x160 .f32) (p4 : a4.IsWhole) (a8 : Memref sig .tc .vmem S24x8x160 .f32) (p8 : a8.IsWhole) (a18 : Memref sig .tc .vmem S6x4x160 .f32) (p18 : a18.IsWhole) (a7 : Memref sig .tc .vmem S24x8x160 .bf16) (p7 : a7.IsWhole)
variable (a21 a22 a23 a24 a25 a26 a27 a28 a29 a30 a31 a32 a33 a34 a35 a36 : BitVec 32)
variable {f0 : Buf (Elt F) (a0.view.loc (c : Thread nD τ))} {f1 : Buf (Elt F) (a1.view.loc (c : Thread nD τ))} {f4 : Buf (Elt F) (a4.view.loc (c : Thread nD τ))}

variable {L : ℕ → ℕ}

theorem part24_wp {α : Type} (hL : LensOk a0 c f0 L) (k0_hw7 : k0_chk7 a21) (v34 v39 : BitVec 1) (v89 : BitVec 32) (v92 : Elt F .i32) (k0_hw25 : k0_chk25 a21 a22 a24 a25 a26 v92) (v93 x0 v94 v96 v98 : BitVec 32)  (b : ℕ) (hb : k0_off111 a21 = ![min b 3])
    {kk} {Q : α → sProp 𝕄} :
    Bufs c a0 a1 a4 a12 a13 a14 a15 a16 a17 a18 a8 a7 f0 f1 f4 ⊢ iprop((Bufs c a0 a1 a4 a12 a13 a14 a15 a16 a17 a18 a8 a7 f0 f1 f4 -∗ wp frame (wpE (defs₀ (F := F)) Variants.nat c.tc bd) Set.univ (
        let v116 : BitVec 1 := Scalar.cmpi .slt a21 4#32
        let v117 : BitVec 1 := Scalar.andi v34 v116
        let v118 : BitVec 32 := Scalar.addi a23 1#32
        let v121 : BitVec 32 := W (lw L b)
        let v122 : BitVec 32 := Scalar.addi v121 4095#32
        let v123 : BitVec 32 := Scalar.divsi v122 4096#32
        let v124 : BitVec 1 := Scalar.cmpi .sgt v122 0#32
        let v125 : BitVec 32 := Scalar.extui v124
        let v126 : BitVec 1 := Scalar.cmpi .slt v122 0#32
        let v127 : BitVec 32 := Scalar.extui v126
        let v128 : BitVec 32 := Scalar.subi v125 v127
        let v129 : BitVec 1 := Scalar.cmpi .sgt 4096#32 0#32
        let v130 : BitVec 32 := Scalar.extui v129
        let v131 : BitVec 1 := Scalar.cmpi .slt 4096#32 0#32
        let v132 : BitVec 32 := Scalar.extui v131
        let v133 : BitVec 32 := Scalar.subi v130 v132
        let v134 : BitVec 1 := Scalar.cmpi .ne v128 v133
        let v135 : BitVec 32 := Scalar.remsi v122 4096#32
        let v136 : BitVec 1 := Scalar.cmpi .ne v135 0#32
        let v137 : BitVec 1 := Scalar.andi v134 v136
        let v138 : BitVec 32 := Scalar.subi v123 1#32
        let v139 : BitVec 32 := Scalar.select v137 v138 v123
        kk ⟨v117, v118, v139, 1#32⟩) Q)
      -∗ wp frame (wpE (defs₀ (F := F)) Variants.nat c.tc bd) Set.univ (k0_part24 (F := F) a0 p0 cc0_scratch9 (Memref.whole cc0_scratch0) (isW _) (Memref.whole main_v2) (isW _) cc0_scratch10 (Memref.whole cc0_scratch1) (isW _) (Memref.whole main_v4) (isW _) a1 p1 a12 p12 a13 p13 a14 p14 a15 p15 a16 p16 a17 p17 a4 p4 a8 p8 a18 p18 a7 p7 a21 a22 a23 a24 a25 a26 a27 a28 a29 a30 a31 a32 a33 a34 a35 a36 k0_hw7 v34 v39 v89 v92 k0_hw25 v93 x0 v94 v96 v98 >>= kk) Q) := by
  rw [k0_part24_eq_skeleton]; unfold k0_part24_skel
  by_cases h11 : k0_cond11 a21 a22 a24 a25 a26 v92 = 1#1
  · simp only [dif_pos h11, Prog.lift, Prog.bind_op, Prog.bind_ret, Prog.pure_eq_ret, Prog.bind_assoc]
    iintro HB Hk
    iapply (part21_wp c bd a0 p0 a1 p1 a12 p12 a13 p13 a14 p14 a15 p15 a16 p16 a17 p17 a4 p4 a8 p8 a18 p18 a7 p7 a21 a22 a23 a24 a25 a26 a27 a28 a29 a30 a31 a32 a33 a34 a35 a36 _ _ _) $$ HB; iintro %r21 HB
    iapply (ldB8 c bd a0 a1 a12 a13 a14 a15 a16 a17 a4 a8 a18 a7) $$ HB; iintro %x8 HB
    iapply (stB8 c bd a0 a1 a12 a13 a14 a15 a16 a17 a4 a8 a18 a7) $$ HB; iintro HB
    iapply (ldB18 c bd a0 a1 a12 a13 a14 a15 a16 a17 a4 a8 a18 a7) $$ HB; iintro %x18 HB
    iapply (ldB7 c bd a0 a1 a12 a13 a14 a15 a16 a17 a4 a8 a18 a7) $$ HB; iintro %x7 HB
    iapply (stB7 c bd a0 a1 a12 a13 a14 a15 a16 a17 a4 a8 a18 a7) $$ HB; iintro HB
    iapply (lenB c bd a0 a1 a12 a13 a14 a15 a16 a17 a4 a8 a18 a7 hL b hb) $$ HB; iintro HB
    iapply Hk; iexact HB
  · simp only [dif_neg h11, Prog.lift, Prog.bind_op, Prog.bind_ret, Prog.pure_eq_ret, Prog.bind_assoc]
    iintro HB Hk
    iapply (lenB c bd a0 a1 a12 a13 a14 a15 a16 a17 a4 a8 a18 a7 hL b hb) $$ HB; iintro HB
    iapply Hk; iexact HB

theorem part25_wp {α : Type} (hL : LensOk a0 c f0 L) (k0_hw24 : k0_chk24 a24) (v39 v117 : BitVec 1) (v118 v139 c1_i32_89 : BitVec 32)  (b : ℕ) (hb : k0_off112 a24 = ![min b 3])
    {kk} {Q : α → sProp 𝕄} :
    Bufs c a0 a1 a4 a12 a13 a14 a15 a16 a17 a18 a8 a7 f0 f1 f4 ⊢ iprop((Bufs c a0 a1 a4 a12 a13 a14 a15 a16 a17 a18 a8 a7 f0 f1 f4 -∗ wp frame (wpE (defs₀ (F := F)) Variants.nat c.tc bd) Set.univ (
        let v140 : BitVec 32 := Scalar.maxsi v139 c1_i32_89
        let v141 : BitVec 1 := Scalar.cmpi .sge v118 v140
        let v142 : BitVec 32 := Scalar.select v141 0#32 v118
        let v143 : BitVec 32 := Scalar.extui v141
        let v144 : BitVec 32 := Scalar.addi a22 v143
        let v145 : BitVec 1 := Scalar.cmpi .sge v144 6#32
        let v146 : BitVec 32 := Scalar.select v145 0#32 v144
        let v147 : BitVec 32 := Scalar.extui v145
        let v148 : BitVec 32 := Scalar.addi a21 v147
        let v149 : BitVec 32 := Scalar.select v117 v148 a21
        let v150 : BitVec 32 := Scalar.select v117 v146 a22
        let v151 : BitVec 32 := Scalar.select v117 v142 a23
        let v152 : BitVec 1 := Scalar.cmpi .slt a24 4#32
        let v153 : BitVec 1 := Scalar.andi v39 v152
        let v154 : BitVec 32 := Scalar.addi a26 1#32
        let v157 : BitVec 32 := W (lw L b)
        let v158 : BitVec 32 := Scalar.addi v157 4095#32
        let v159 : BitVec 32 := Scalar.divsi v158 4096#32
        let v160 : BitVec 1 := Scalar.cmpi .sgt v158 0#32
        let v161 : BitVec 32 := Scalar.extui v160
        let v162 : BitVec 1 := Scalar.cmpi .slt v158 0#32
        let v163 : BitVec 32 := Scalar.extui v162
        let v164 : BitVec 32 := Scalar.subi v161 v163
        let v165 : BitVec 1 := Scalar.cmpi .sgt 4096#32 0#32
        let v166 : BitVec 32 := Scalar.extui v165
        let v167 : BitVec 1 := Scalar.cmpi .slt 4096#32 0#32
        let v168 : BitVec 32 := Scalar.extui v167
        let v169 : BitVec 32 := Scalar.subi v166 v168
        let v170 : BitVec 1 := Scalar.cmpi .ne v164 v169
        let v171 : BitVec 32 := Scalar.remsi v158 4096#32
        let v172 : BitVec 1 := Scalar.cmpi .ne v171 0#32
        let v173 : BitVec 1 := Scalar.andi v170 v172
        let v174 : BitVec 32 := Scalar.subi v159 1#32
        let v175 : BitVec 32 := Scalar.select v173 v174 v159
        let v176 : BitVec 32 := Scalar.maxsi v175 1#32
        let v177 : BitVec 1 := Scalar.cmpi .sge v154 v176
        let v178 : BitVec 32 := Scalar.select v177 0#32 v154
        let v179 : BitVec 32 := Scalar.extui v177
        let v180 : BitVec 32 := Scalar.addi a25 v179
        let v181 : BitVec 1 := Scalar.cmpi .sge v180 6#32
        kk ⟨v149, v150, v151, v153, v178, v180, v181, 0#32⟩) Q)
      -∗ wp frame (wpE (defs₀ (F := F)) Variants.nat c.tc bd) Set.univ (k0_part25 (F := F) a0 p0 cc0_scratch9 (Memref.whole cc0_scratch0) (isW _) (Memref.whole main_v2) (isW _) cc0_scratch10 (Memref.whole cc0_scratch1) (isW _) (Memref.whole main_v4) (isW _) a1 p1 a12 p12 a13 p13 a14 p14 a15 p15 a16 p16 a17 p17 a4 p4 a8 p8 a18 p18 a7 p7 a21 a22 a23 a24 a25 a26 a27 a28 a29 a30 a31 a32 a33 a34 a35 a36 k0_hw24 v39 v117 v118 v139 c1_i32_89 >>= kk) Q) := by
  rw [k0_part25_eq_skeleton]; unfold k0_part25_skel
  simp only [Prog.lift, Prog.bind_op, Prog.bind_ret, Prog.pure_eq_ret, Prog.bind_assoc]
  iintro HB Hk
  iapply (lenB c bd a0 a1 a12 a13 a14 a15 a16 a17 a4 a8 a18 a7 hL b hb) $$ HB; iintro HB
  iapply Hk; iexact HB

theorem part26_wp {α : Type} (hL : LensOk a0 c f0 L) (k0_hw17 : k0_chk17 a21 a27) (v34 v39 v153 : BitVec 1) (v178 v180 : BitVec 32) (v181 : BitVec 1) (c0_i32_107 : BitVec 32)  (b : ℕ) (hb : k0_off113 a27 = ![min b 3])
    {kk} {Q : α → sProp 𝕄} :
    Bufs c a0 a1 a4 a12 a13 a14 a15 a16 a17 a18 a8 a7 f0 f1 f4 ⊢ iprop((Bufs c a0 a1 a4 a12 a13 a14 a15 a16 a17 a18 a8 a7 f0 f1 f4 -∗ wp frame (wpE (defs₀ (F := F)) Variants.nat c.tc bd) Set.univ (
        let v182 : BitVec 32 := Scalar.select v181 c0_i32_107 v180
        let v183 : BitVec 32 := Scalar.extui v181
        let v184 : BitVec 32 := Scalar.addi a24 v183
        let v185 : BitVec 32 := Scalar.select v153 v184 a24
        let v186 : BitVec 32 := Scalar.select v153 v182 a25
        let v187 : BitVec 32 := Scalar.select v153 v178 a26
        let v188 : BitVec 1 := Scalar.cmpi .slt a27 4#32
        let v189 : BitVec 1 := Scalar.andi v34 v188
        let v190 : BitVec 32 := Scalar.addi a29 1#32
        let v193 : BitVec 32 := W (lw L b)
        let v194 : BitVec 32 := Scalar.addi v193 4095#32
        let v195 : BitVec 32 := Scalar.divsi v194 4096#32
        let v196 : BitVec 1 := Scalar.cmpi .sgt v194 0#32
        let v197 : BitVec 32 := Scalar.extui v196
        let v198 : BitVec 1 := Scalar.cmpi .slt v194 0#32
        let v199 : BitVec 32 := Scalar.extui v198
        let v200 : BitVec 32 := Scalar.subi v197 v199
        let v201 : BitVec 1 := Scalar.cmpi .sgt 4096#32 0#32
        let v202 : BitVec 32 := Scalar.extui v201
        let v203 : BitVec 1 := Scalar.cmpi .slt 4096#32 0#32
        let v204 : BitVec 32 := Scalar.extui v203
        let v205 : BitVec 32 := Scalar.subi v202 v204
        let v206 : BitVec 1 := Scalar.cmpi .ne v200 v205
        let v207 : BitVec 32 := Scalar.remsi v194 4096#32
        let v208 : BitVec 1 := Scalar.cmpi .ne v207 0#32
        let v209 : BitVec 1 := Scalar.andi v206 v208
        let v210 : BitVec 32 := Scalar.subi v195 1#32
        let v211 : BitVec 32 := Scalar.select v209 v210 v195
        let v212 : BitVec 32 := Scalar.maxsi v211 1#32
        let v213 : BitVec 1 := Scalar.cmpi .sge v190 v212
        let v214 : BitVec 32 := Scalar.select v213 0#32 v190
        let v215 : BitVec 32 := Scalar.extui v213
        let v216 : BitVec 32 := Scalar.addi a28 v215
        let v217 : BitVec 1 := Scalar.cmpi .sge v216 6#32
        let v218 : BitVec 32 := Scalar.select v217 0#32 v216
        let v219 : BitVec 32 := Scalar.extui v217
        let v220 : BitVec 32 := Scalar.addi a27 v219
        let v221 : BitVec 32 := Scalar.select v189 v220 a27
        let v222 : BitVec 32 := Scalar.select v189 v218 a28
        let v223 : BitVec 32 := Scalar.select v189 v214 a29
        let v224 : BitVec 1 := Scalar.cmpi .slt a30 4#32
        let v225 : BitVec 1 := Scalar.andi v39 v224
        kk ⟨v185, v186, v187, v221, v222, v223, v225⟩) Q)
      -∗ wp frame (wpE (defs₀ (F := F)) Variants.nat c.tc bd) Set.univ (k0_part26 (F := F) a0 p0 cc0_scratch9 (Memref.whole cc0_scratch0) (isW _) (Memref.whole main_v2) (isW _) cc0_scratch10 (Memref.whole cc0_scratch1) (isW _) (Memref.whole main_v4) (isW _) a1 p1 a12 p12 a13 p13 a14 p14 a15 p15 a16 p16 a17 p17 a4 p4 a8 p8 a18 p18 a7 p7 a21 a22 a23 a24 a25 a26 a27 a28 a29 a30 a31 a32 a33 a34 a35 a36 k0_hw17 v34 v39 v153 v178 v180 v181 c0_i32_107 >>= kk) Q) := by
  rw [k0_part26_eq_skeleton]; unfold k0_part26_skel
  simp only [Prog.lift, Prog.bind_op, Prog.bind_ret, Prog.pure_eq_ret, Prog.bind_assoc]
  iintro HB Hk
  iapply (lenB c bd a0 a1 a12 a13 a14 a15 a16 a17 a4 a8 a18 a7 hL b hb) $$ HB; iintro HB
  iapply Hk; iexact HB

theorem part27_wp {α : Type} (hL : LensOk a0 c f0 L) (k0_hw20 : k0_chk20 a21 a22 a24 a25 a30) (v34 v225 : BitVec 1)  (b : ℕ) (hb : k0_off114 a30 = ![min b 3])
    {kk} {Q : α → sProp 𝕄} :
    Bufs c a0 a1 a4 a12 a13 a14 a15 a16 a17 a18 a8 a7 f0 f1 f4 ⊢ iprop((Bufs c a0 a1 a4 a12 a13 a14 a15 a16 a17 a18 a8 a7 f0 f1 f4 -∗ wp frame (wpE (defs₀ (F := F)) Variants.nat c.tc bd) Set.univ (
        let v226 : BitVec 32 := Scalar.addi a32 1#32
        let v229 : BitVec 32 := W (lw L b)
        let v230 : BitVec 32 := Scalar.addi v229 4095#32
        let v231 : BitVec 32 := Scalar.divsi v230 4096#32
        let v232 : BitVec 1 := Scalar.cmpi .sgt v230 0#32
        let v233 : BitVec 32 := Scalar.extui v232
        let v234 : BitVec 1 := Scalar.cmpi .slt v230 0#32
        let v235 : BitVec 32 := Scalar.extui v234
        let v236 : BitVec 32 := Scalar.subi v233 v235
        let v237 : BitVec 1 := Scalar.cmpi .sgt 4096#32 0#32
        let v238 : BitVec 32 := Scalar.extui v237
        let v239 : BitVec 1 := Scalar.cmpi .slt 4096#32 0#32
        let v240 : BitVec 32 := Scalar.extui v239
        let v241 : BitVec 32 := Scalar.subi v238 v240
        let v242 : BitVec 1 := Scalar.cmpi .ne v236 v241
        let v243 : BitVec 32 := Scalar.remsi v230 4096#32
        let v244 : BitVec 1 := Scalar.cmpi .ne v243 0#32
        let v245 : BitVec 1 := Scalar.andi v242 v244
        let v246 : BitVec 32 := Scalar.subi v231 1#32
        let v247 : BitVec 32 := Scalar.select v245 v246 v231
        let v248 : BitVec 32 := Scalar.maxsi v247 1#32
        let v249 : BitVec 1 := Scalar.cmpi .sge v226 v248
        let v250 : BitVec 32 := Scalar.select v249 0#32 v226
        let v251 : BitVec 32 := Scalar.extui v249
        let v252 : BitVec 32 := Scalar.addi a31 v251
        let v253 : BitVec 1 := Scalar.cmpi .sge v252 6#32
        let v254 : BitVec 32 := Scalar.select v253 0#32 v252
        let v255 : BitVec 32 := Scalar.extui v253
        let v256 : BitVec 32 := Scalar.addi a30 v255
        let v257 : BitVec 32 := Scalar.select v225 v256 a30
        let v258 : BitVec 32 := Scalar.select v225 v254 a31
        let v259 : BitVec 32 := Scalar.select v225 v250 a32
        let v260 : BitVec 32 := Scalar.addi a33 1#32
        let v261 : BitVec 1 := Scalar.cmpi .eq v260 6#32
        let v262 : BitVec 32 := Scalar.addi a33 1#32
        let v263 : BitVec 32 := Scalar.select v261 0#32 v262
        let v264 : BitVec 32 := Scalar.select v34 v263 a33
        let v265 : BitVec 32 := Scalar.addi a34 1#32
        kk ⟨v257, v258, v259, v264, v265, 8#32⟩) Q)
      -∗ wp frame (wpE (defs₀ (F := F)) Variants.nat c.tc bd) Set.univ (k0_part27 (F := F) a0 p0 cc0_scratch9 (Memref.whole cc0_scratch0) (isW _) (Memref.whole main_v2) (isW _) cc0_scratch10 (Memref.whole cc0_scratch1) (isW _) (Memref.whole main_v4) (isW _) a1 p1 a12 p12 a13 p13 a14 p14 a15 p15 a16 p16 a17 p17 a4 p4 a8 p8 a18 p18 a7 p7 a21 a22 a23 a24 a25 a26 a27 a28 a29 a30 a31 a32 a33 a34 a35 a36 k0_hw20 v34 v225 >>= kk) Q) := by
  rw [k0_part27_eq_skeleton]; unfold k0_part27_skel
  simp only [Prog.lift, Prog.bind_op, Prog.bind_ret, Prog.pure_eq_ret, Prog.bind_assoc]
  iintro HB Hk
  iapply (lenB c bd a0 a1 a12 a13 a14 a15 a16 a17 a4 a8 a18 a7 hL b hb) $$ HB; iintro HB
  iapply Hk; iexact HB

end Cert.Kernel.Hand
-- ==== Proof.K.While.lean ====
module

public import proofs.«01_k».proof.Proof.K.StepA
public import proofs.«01_k».proof.Proof.K.StepB
public import proofs.«01_k».proof.Proof.K.StepC
public import proofs.«01_k».proof.Proof.K.Mid
public import proofs.«01_k».proof.Proof.K.Tail
public import proofs.«01_k».proof.Proof.K.Adv
public import Idealize.ShloMosaic.Lib.Pipeline.FrameBody
public import Idealize.ShloMosaic.Lib.Pipeline.DatRel
public import Idealize.ShloMosaic.Lib.Ring
public import Idealize.ShloMosaic.Lib.Tactic
public import Idealize.ShloMosaic.Lib.WordCmp

@[expose] public section

set_option maxRecDepth 16384

/-!
The loop over the items: one trip, and all of them.
-/

noncomputable section

namespace Cert.Kernel.Hand

open Cert.Kernel Cert.Kernel.Gen Cert.Words
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

attribute [local irreducible] cur

variable (c : Dev nD) (a0 : Memref sig .tc .smem S4 .i32) (p0 : a0.IsWhole) (a1 : Memref sig .tc .vmem S24x8x160 .bf16) (p1 : a1.IsWhole) (a12 : Memref sig .tc .vmem S16x8x4096 .f32) (p12 : a12.IsWhole) (a13 : Memref sig .tc .vmem S8x128 .f32) (p13 : a13.IsWhole) (a14 : Memref sig .tc .vmem S24x8x128 .f32) (p14 : a14.IsWhole) (a15 : Memref sig .tc .vmem S8x128 .f32) (p15 : a15.IsWhole) (a16 : Memref sig .tc .vmem S8x160 .f32) (p16 : a16.IsWhole) (a17 : Memref sig .tc .vmem S6x4x160 .f32) (p17 : a17.IsWhole) (a4 : Memref sig .tc .vmem S6x4x160 .f32) (p4 : a4.IsWhole) (a8 : Memref sig .tc .vmem S24x8x160 .f32) (p8 : a8.IsWhole) (a18 : Memref sig .tc .vmem S6x4x160 .f32) (p18 : a18.IsWhole) (a7 : Memref sig .tc .vmem S24x8x160 .bf16) (p7 : a7.IsWhole)
variable {f0 : Buf (Elt F) (a0.view.loc (c : Thread nD τ))} {f1 : Buf (Elt F) (a1.view.loc (c : Thread nD τ))} {f4 : Buf (Elt F) (a4.view.loc (c : Thread nD τ))}

variable (L : ℕ → ℕ)

/-- What the loop holds with `i` items of keys and `j` items of values consumed. -/
def held (f5 : Buf (Elt F) (hbmK c)) (f6 : Buf (Elt F) (hbmV c)) (i j : ℕ) : sProp 𝕄 :=
  iprop(RingK c L f5 (stK L i) ∗ RingV c L f6 (stV L j) ∗ Bufs c a0 a1 a4 a12 a13 a14 a15 a16 a17 a18 a8 a7 f0 f1 f4 ∗ (∃ W0, owes c 0 W0))
/-- What it leaves. -/
def left (f5 : Buf (Elt F) (hbmK c)) (f6 : Buf (Elt F) (hbmV c)) : sProp 𝕄 :=
  iprop(RingK c L f5 (fun _ => none) ∗ RingV c L f6 (fun _ => none) ∗ Bufs c a0 a1 a4 a12 a13 a14 a15 a16 a17 a18 a8 a7 f0 f1 f4 ∗ (∃ W0, owes c 0 W0))

def spec (f5 : Buf (Elt F) (hbmK c)) (f6 : Buf (Elt F) (hbmV c)) (i j : ℕ) : sWPT 𝕄 (BitVec 32 × BitVec 32 × BitVec 32 × BitVec 32 × BitVec 32 × BitVec 32 × BitVec 32 × BitVec 32 × BitVec 32 × BitVec 32 × BitVec 32 × BitVec 32 × BitVec 32 × BitVec 32 × BitVec 32 × BitVec 32) := do
  sWPT.consume (held (f0 := f0) (f1 := f1) (f4 := f4) c a0 a1 a12 a13 a14 a15 a16 a17 a4 a8 a18 a7 L f5 f6 i j)
  let r ← sWPT.arbitrary
  sWPT.produce (left (f0 := f0) (f1 := f1) (f4 := f4) c a0 a1 a12 a13 a14 a15 a16 a17 a4 a8 a18 a7 L f5 f6)
  pure r

theorem spec_apply (f5 : Buf (Elt F) (hbmK c)) (f6 : Buf (Elt F) (hbmV c)) (i j : ℕ) (K : BitVec 32 × BitVec 32 × BitVec 32 × BitVec 32 × BitVec 32 × BitVec 32 × BitVec 32 × BitVec 32 × BitVec 32 × BitVec 32 × BitVec 32 × BitVec 32 × BitVec 32 × BitVec 32 × BitVec 32 × BitVec 32 → sProp 𝕄) :
    spec (f0 := f0) (f1 := f1) (f4 := f4) c a0 a1 a12 a13 a14 a15 a16 a17 a4 a8 a18 a7 L f5 f6 i j K = iprop(held (f0 := f0) (f1 := f1) (f4 := f4) c a0 a1 a12 a13 a14 a15 a16 a17 a4 a8 a18 a7 L f5 f6 i j ∗ ∀ r : BitVec 32 × BitVec 32 × BitVec 32 × BitVec 32 × BitVec 32 × BitVec 32 × BitVec 32 × BitVec 32 × BitVec 32 × BitVec 32 × BitVec 32 × BitVec 32 × BitVec 32 × BitVec 32 × BitVec 32 × BitVec 32, (left (f0 := f0) (f1 := f1) (f4 := f4) c a0 a1 a12 a13 a14 a15 a16 a17 a4 a8 a18 a7 L f5 f6 -∗ K r)) := rfl

theorem spec_le (hL : LensOk a0 c f0 L) (f5 : Buf (Elt F) (hbmK c)) (f6 : Buf (Elt F) (hbmV c)) :
    ∀ k i j, Ctl (nL L) i j → (total (nL L) - i) + (total (nL L) - j) ≤ k → ∀ K, spec (f0 := f0) (f1 := f1) (f4 := f4) c a0 a1 a12 a13 a14 a15 a16 a17 a4 a8 a18 a7 L f5 f6 i j K
      ⊢ wp frame (wpE (defs₀ (F := F)) Variants.nat c.tc (some k)) Set.univ (defs₀ (F := F) .tc 1 ⟨a0, p0, cc0_scratch9, Memref.whole cc0_scratch0, Memref.isWhole_whole _, Memref.whole main_v2, Memref.isWhole_whole _, cc0_scratch10, Memref.whole cc0_scratch1, Memref.isWhole_whole _, Memref.whole main_v4, Memref.isWhole_whole _, a1, p1, a12, p12, a13, p13, a14, p14, a15, p15, a16, p16, a17, p17, a4, p4, a8, p8, a18, p18, a7, p7, (W (cu L i).b), (W (cu L i).g), (W (cu L i).c), (W (cu L j).b), (W (cu L j).g), (W (cu L j).c), (W (cu L (i + 6)).b), (W (cu L (i + 6)).g), (W (cu L (i + 6)).c), (W (cu L (j + 8)).b), (W (cu L (j + 8)).g), (W (cu L (j + 8)).c), (W (i % 6)), (W (j % 8)), (W (i % 16)), (W (j % 16))⟩) K := by
  have hn := nL_ok hL.1
  have hn1 := fun b => (hn b).1
  have exit_ : ∀ k i j, Ctl (nL L) i j → ¬ j < total (nL L) → ∀ K, spec (f0 := f0) (f1 := f1) (f4 := f4) c a0 a1 a12 a13 a14 a15 a16 a17 a4 a8 a18 a7 L f5 f6 i j K ⊢ wp frame (wpE (defs₀ (F := F)) Variants.nat c.tc (some k)) Set.univ (defs₀ (F := F) .tc 1 ⟨a0, p0, cc0_scratch9, Memref.whole cc0_scratch0, Memref.isWhole_whole _, Memref.whole main_v2, Memref.isWhole_whole _, cc0_scratch10, Memref.whole cc0_scratch1, Memref.isWhole_whole _, Memref.whole main_v4, Memref.isWhole_whole _, a1, p1, a12, p12, a13, p13, a14, p14, a15, p15, a16, p16, a17, p17, a4, p4, a8, p8, a18, p18, a7, p7, (W (cu L i).b), (W (cu L i).g), (W (cu L i).c), (W (cu L j).b), (W (cu L j).g), (W (cu L j).c), (W (cu L (i + 6)).b), (W (cu L (i + 6)).g), (W (cu L (i + 6)).c), (W (cu L (j + 8)).b), (W (cu L (j + 8)).g), (W (cu L (j + 8)).c), (W (i % 6)), (W (j % 8)), (W (i % 16)), (W (j % 16))⟩) K := by
    intro k i j hctl hj K
    rw [spec_apply]
    show _ ⊢ wp frame (wpE (defs₀ (F := F)) Variants.nat c.tc (some k)) Set.univ (cc0_while1 (F := F) a0 p0 cc0_scratch9 (Memref.whole cc0_scratch0) (isW _) (Memref.whole main_v2) (isW _) cc0_scratch10 (Memref.whole cc0_scratch1) (isW _) (Memref.whole main_v4) (isW _) a1 p1 a12 p12 a13 p13 a14 p14 a15 p15 a16 p16 a17 p17 a4 p4 a8 p8 a18 p18 a7 p7 (W (cu L i).b) (W (cu L i).g) (W (cu L i).c) (W (cu L j).b) (W (cu L j).g) (W (cu L j).c) (W (cu L (i + 6)).b) (W (cu L (i + 6)).g) (W (cu L (i + 6)).c) (W (cu L (j + 8)).b) (W (cu L (j + 8)).g) (W (cu L (j + 8)).c) (W (i % 6)) (W (j % 8)) (W (i % 16)) (W (j % 16))) K
    have e : (cu L j).b = 4 := by rw [show cu L j = _ from cur_end hn1 (by omega)]
    have ht : ¬ Scalar.cmpi .slt (W (cu L j).b) 4#32 = 1#1 := by rw [kbit_W (by omega), ofBool_one]; simp; omega
    unfold cc0_while1
    simp only [ht, ↓reduceIte, Prog.pure_eq_ret]
    unfold held left
    rw [stK_end L hL.1 i (by have := hctl.le; omega), stV_end L hL.1 j (by omega)]
    iintro ⟨H, Hk⟩
    rw [wp_ret]; imodintro
    iapply Hk; iexact H
  intro k
  induction k with
  | zero =>
    intro i j hctl hm K
    exact exit_ 0 i j hctl (by have := hctl.le; have := hctl.iT; omega) K
  | succ k ih =>
    intro i j hctl hm K
    by_cases hj : j < total (nL L)
    swap
    · exact exit_ (k + 1) i j hctl hj K
    have ih' : ∀ i j, Ctl (nL L) i j → (total (nL L) - i) + (total (nL L) - j) ≤ k → ∀ (a21 : BitVec 32) (a22 : BitVec 32) (a23 : BitVec 32) (a24 : BitVec 32) (a25 : BitVec 32) (a26 : BitVec 32) (a27 : BitVec 32) (a28 : BitVec 32) (a29 : BitVec 32) (a30 : BitVec 32) (a31 : BitVec 32) (a32 : BitVec 32) (a33 : BitVec 32) (a34 : BitVec 32) (a35 : BitVec 32) (a36 : BitVec 32), a21 = (W (cu L i).b) → a22 = (W (cu L i).g) → a23 = (W (cu L i).c) → a24 = (W (cu L j).b) → a25 = (W (cu L j).g) → a26 = (W (cu L j).c) → a27 = (W (cu L (i + 6)).b) → a28 = (W (cu L (i + 6)).g) → a29 = (W (cu L (i + 6)).c) → a30 = (W (cu L (j + 8)).b) → a31 = (W (cu L (j + 8)).g) → a32 = (W (cu L (j + 8)).c) → a33 = (W (i % 6)) → a34 = (W (j % 8)) → a35 = (W (i % 16)) → a36 = (W (j % 16)) →
        spec (f0 := f0) (f1 := f1) (f4 := f4) c a0 a1 a12 a13 a14 a15 a16 a17 a4 a8 a18 a7 L f5 f6 i j ≤ wp frame (wpE (defs₀ (F := F)) Variants.nat c.tc (some k)) Set.univ (defs₀ (F := F) .tc 1 ⟨a0, p0, cc0_scratch9, Memref.whole cc0_scratch0, Memref.isWhole_whole _, Memref.whole main_v2, Memref.isWhole_whole _, cc0_scratch10, Memref.whole cc0_scratch1, Memref.isWhole_whole _, Memref.whole main_v4, Memref.isWhole_whole _, a1, p1, a12, p12, a13, p13, a14, p14, a15, p15, a16, p16, a17, p17, a4, p4, a8, p8, a18, p18, a7, p7, a21, a22, a23, a24, a25, a26, a27, a28, a29, a30, a31, a32, a33, a34, a35, a36⟩) := by
      intro i j h1 h2
      intro a21 a22 a23 a24 a25 a26 a27 a28 a29 a30 a31 a32 a33 a34 a35 a36 e21 e22 e23 e24 e25 e26 e27 e28 e29 e30 e31 e32 e33 e34 e35 e36
      subst e21 e22 e23 e24 e25 e26 e27 e28 e29 e30 e31 e32 e33 e34 e35 e36
      exact ih i j h1 h2
    rw [spec_apply]
    show _ ⊢ wp frame (wpE (defs₀ (F := F)) Variants.nat c.tc (some (k + 1))) Set.univ (cc0_while1 (F := F) a0 p0 cc0_scratch9 (Memref.whole cc0_scratch0) (isW _) (Memref.whole main_v2) (isW _) cc0_scratch10 (Memref.whole cc0_scratch1) (isW _) (Memref.whole main_v4) (isW _) a1 p1 a12 p12 a13 p13 a14 p14 a15 p15 a16 p16 a17 p17 a4 p4 a8 p8 a18 p18 a7 p7 (W (cu L i).b) (W (cu L i).g) (W (cu L i).c) (W (cu L j).b) (W (cu L j).g) (W (cu L j).c) (W (cu L (i + 6)).b) (W (cu L (i + 6)).g) (W (cu L (i + 6)).c) (W (cu L (j + 8)).b) (W (cu L (j + 8)).g) (W (cu L (j + 8)).c) (W (i % 6)) (W (j % 8)) (W (i % 16)) (W (j % 16))) K
    obtain ⟨ab, ag, ac⟩ := cur_bounds hn i
    obtain ⟨bb, bg, bc⟩ := cur_bounds hn j
    obtain ⟨eb, eg, ec⟩ := cur_bounds hn (i + 6)
    obtain ⟨pb, pg, pc⟩ := cur_bounds hn (j + 8)
    have m6 : i % 6 < 6 := Nat.mod_lt _ (by decide)
    have m8 : j % 8 < 8 := Nat.mod_lt _ (by decide)
    have m16 : i % 16 < 16 := Nat.mod_lt _ (by decide)
    have m16' : j % 16 < 16 := Nat.mod_lt _ (by decide)
    have ib := cur_in hn1 hj
    have ht : Scalar.cmpi .slt (W (cu L j).b) 4#32 = 1#1 := by rw [kbit_W bb, ofBool_one]; simpa using ib.1
    simp only [cc0_while1_eq_skeleton]; unfold cc0_while1_skel
    simp only [ht, ↓reduceIte, Prog.lift, Prog.bind_op, Prog.bind_ret, Prog.pure_eq_ret, Prog.bind_assoc]
    have hlt := hctl.iT
    by_cases hkk : doK (nL L) i
    · have hi := (cur_lt_iff hn1 i).1 hkk
      by_cases hvv : doV (nL L) i j
      · have hji := hctl.lt_of_doV hn1 hvv
        have ek : Scalar.cmpi .slt (W (cu L i).b) 4#32 = BitVec.ofBool true := by rw [kbit_W ab]; simp [hkk]
        have hv' : (cu L j).b * 6 + (cu L j).g < (cu L i).b * 6 + (cu L i).g := hvv
        have ev : Scalar.cmpi .sgt (Scalar.addi (Scalar.muli (W (cu L i).b) 6#32) (W (cu L i).g)) (Scalar.addi (Scalar.muli (W (cu L j).b) 6#32) (W (cu L j).g)) = BitVec.ofBool true := by
          rw [vbit_W ab ag bb bg]; simp [hv']
        have E1 := adv_to hL.1 true i (i + 1) rfl _ ek
        have E2 := adv_to hL.1 true j (j + 1) rfl _ ev
        have E3 := adv_to hL.1 true (i + 6) (i + 1 + 6) (by simp; try omega) _ ek
        have E4 := adv_to hL.1 true (j + 8) (j + 1 + 8) (by simp; try omega) _ ev
        have F1 := slot_to 6 (by decide) (by decide) true i (i + 1) rfl _ ek
        have F2 := slot_to 8 (by decide) (by decide) true j (j + 1) rfl _ ev
        have F3 := slot_to 16 (by decide) (by decide) true i (i + 1) rfl _ ek
        have F4 := slot_to 16 (by decide) (by decide) true j (j + 1) rfl _ ev
        unfold held
        iintro ⟨HH, Hk⟩
        iapply (part22_A (f1 := f1) (f4 := f4) c (some (k + 1)) a0 p0 a1 p1 a12 p12 a13 p13 a14 p14 a15 p15 a16 p16 a17 p17 a4 p4 a8 p8 a18 p18 a7 p7 hL hj hkk hvv f5 f6) $$ HH
        iintro %h24 %h20 %h17 %h14 %h7 %v60 %x0 ⟨HK, HV, HB, HW⟩
        iapply (part23_V (f1 := f1) (f4 := f4) c (some (k + 1)) a0 p0 a1 p1 a12 p12 a13 p13 a14 p14 a15 p15 a16 p16 a17 p17 a4 p4 a8 p8 a18 p18 a7 p7 hL hj hvv f6 h24 h20 h14 h7 _ v60 x0) $$ [HV HB]
        · isplitl [HV]; · iexact HV
          iexact HB
        iintro %r23 ⟨HV, HB⟩
        iapply (part24_wp (f1 := f1) (f4 := f4) c (some (k + 1)) a0 p0 a1 p1 a12 p12 a13 p13 a14 p14 a15 p15 a16 p16 a17 p17 a4 p4 a8 p8 a18 p18 a7 p7 (W (cu L i).b) (W (cu L i).g) (W (cu L i).c) (W (cu L j).b) (W (cu L j).g) (W (cu L j).c) (W (cu L (i + 6)).b) (W (cu L (i + 6)).g) (W (cu L (i + 6)).c) (W (cu L (j + 8)).b) (W (cu L (j + 8)).g) (W (cu L (j + 8)).c) (W (i % 6)) (W (j % 8)) (W (i % 16)) (W (j % 16)) hL h7 _ _ r23.1 r23.2.1 r23.2.2.1 r23.2.2.2.1 r23.2.2.2.2.1 r23.2.2.2.2.2.1 r23.2.2.2.2.2.2.1 r23.2.2.2.2.2.2.2 (cu L i).b (offL ab)) $$ HB
        iintro HB
        iapply (part25_wp (f1 := f1) (f4 := f4) c (some (k + 1)) a0 p0 a1 p1 a12 p12 a13 p13 a14 p14 a15 p15 a16 p16 a17 p17 a4 p4 a8 p8 a18 p18 a7 p7 (W (cu L i).b) (W (cu L i).g) (W (cu L i).c) (W (cu L j).b) (W (cu L j).g) (W (cu L j).c) (W (cu L (i + 6)).b) (W (cu L (i + 6)).g) (W (cu L (i + 6)).c) (W (cu L (j + 8)).b) (W (cu L (j + 8)).g) (W (cu L (j + 8)).c) (W (i % 6)) (W (j % 8)) (W (i % 16)) (W (j % 16)) hL h24 _ _ _ _ _ (cu L j).b (offL bb)) $$ HB
        iintro HB
        iapply (part26_wp (f1 := f1) (f4 := f4) c (some (k + 1)) a0 p0 a1 p1 a12 p12 a13 p13 a14 p14 a15 p15 a16 p16 a17 p17 a4 p4 a8 p8 a18 p18 a7 p7 (W (cu L i).b) (W (cu L i).g) (W (cu L i).c) (W (cu L j).b) (W (cu L j).g) (W (cu L j).c) (W (cu L (i + 6)).b) (W (cu L (i + 6)).g) (W (cu L (i + 6)).c) (W (cu L (j + 8)).b) (W (cu L (j + 8)).g) (W (cu L (j + 8)).c) (W (i % 6)) (W (j % 8)) (W (i % 16)) (W (j % 16)) hL h17 _ _ _ _ _ _ _ (cu L (i + 6)).b (offL eb)) $$ HB
        iintro HB
        iapply (part27_wp (f1 := f1) (f4 := f4) c (some (k + 1)) a0 p0 a1 p1 a12 p12 a13 p13 a14 p14 a15 p15 a16 p16 a17 p17 a4 p4 a8 p8 a18 p18 a7 p7 (W (cu L i).b) (W (cu L i).g) (W (cu L i).c) (W (cu L j).b) (W (cu L j).g) (W (cu L j).c) (W (cu L (i + 6)).b) (W (cu L (i + 6)).g) (W (cu L (i + 6)).c) (W (cu L (j + 8)).b) (W (cu L (j + 8)).g) (W (cu L (j + 8)).c) (W (i % 6)) (W (j % 8)) (W (i % 16)) (W (j % 16)) hL h20 _ _ (cu L (j + 8)).b (offL pb)) $$ HB
        iintro HB
        iapply (wp_call_spec Variants.nat c.tc (some (k + 1)) Set.univ (spec (f0 := f0) (f1 := f1) (f4 := f4) c a0 a1 a12 a13 a14 a15 a16 a17 a4 a8 a18 a7 L f5 f6 (i + 1) (j + 1)) k (fun u hu => by cases hu; exact Nat.lt_succ_self k)
          (ih' (i + 1) (j + 1) (hctl.stepKV hn hkk hvv) (by omega) _ _ _ _ _ _ _ _ _ _ _ _ _ _ _ _
            (congrArg Prod.fst E1) (congrArg (fun x => x.2.1) E1) (congrArg (fun x => x.2.2) E1) (congrArg Prod.fst E2) (congrArg (fun x => x.2.1) E2) (congrArg (fun x => x.2.2) E2)
            (congrArg Prod.fst E3) (congrArg (fun x => x.2.1) E3) (congrArg (fun x => x.2.2) E3) (congrArg Prod.fst E4) (congrArg (fun x => x.2.1) E4) (congrArg (fun x => x.2.2) E4)
            F1 F2 F3 F4))
        rw [spec_apply]
        isplitr [Hk]
        · unfold held
          isplitl [HK]; · iexact HK
          isplitl [HV]; · iexact HV
          isplitl [HB]; · iexact HB
          iexact HW
        iintro %r HL
        rw [wp_ret]; imodintro
        iapply Hk; iexact HL
      · skip
        have ek : Scalar.cmpi .slt (W (cu L i).b) 4#32 = BitVec.ofBool true := by rw [kbit_W ab]; simp [hkk]
        have hv' : ¬ (cu L j).b * 6 + (cu L j).g < (cu L i).b * 6 + (cu L i).g := hvv
        have ev : Scalar.cmpi .sgt (Scalar.addi (Scalar.muli (W (cu L i).b) 6#32) (W (cu L i).g)) (Scalar.addi (Scalar.muli (W (cu L j).b) 6#32) (W (cu L j).g)) = BitVec.ofBool false := by
          rw [vbit_W ab ag bb bg]; simp [hv']
        have E1 := adv_to hL.1 true i (i + 1) rfl _ ek
        have E2 := adv_to hL.1 false j (j) rfl _ ev
        have E3 := adv_to hL.1 true (i + 6) (i + 1 + 6) (by simp; try omega) _ ek
        have E4 := adv_to hL.1 false (j + 8) (j + 8) (by simp) _ ev
        have F1 := slot_to 6 (by decide) (by decide) true i (i + 1) rfl _ ek
        have F2 := slot_to 8 (by decide) (by decide) false j (j) rfl _ ev
        have F3 := slot_to 16 (by decide) (by decide) true i (i + 1) rfl _ ek
        have F4 := slot_to 16 (by decide) (by decide) false j (j) rfl _ ev
        unfold held
        iintro ⟨HH, Hk⟩
        iapply (part22_B (f1 := f1) (f4 := f4) c (some (k + 1)) a0 p0 a1 p1 a12 p12 a13 p13 a14 p14 a15 p15 a16 p16 a17 p17 a4 p4 a8 p8 a18 p18 a7 p7 hL hj hkk hvv f5 f6) $$ HH
        iintro %h24 %h20 %h17 %h14 %h7 %v60 %x0 ⟨HK, HV, HB, HW⟩
        iapply (part23_N (f1 := f1) (f4 := f4) c (some (k + 1)) a0 p0 a1 p1 a12 p12 a13 p13 a14 p14 a15 p15 a16 p16 a17 p17 a4 p4 a8 p8 a18 p18 a7 p7 hL hj hvv f6 h24 h20 h14 h7 _ v60 x0) $$ HB
        iintro %r23 HB
        iapply (part24_wp (f1 := f1) (f4 := f4) c (some (k + 1)) a0 p0 a1 p1 a12 p12 a13 p13 a14 p14 a15 p15 a16 p16 a17 p17 a4 p4 a8 p8 a18 p18 a7 p7 (W (cu L i).b) (W (cu L i).g) (W (cu L i).c) (W (cu L j).b) (W (cu L j).g) (W (cu L j).c) (W (cu L (i + 6)).b) (W (cu L (i + 6)).g) (W (cu L (i + 6)).c) (W (cu L (j + 8)).b) (W (cu L (j + 8)).g) (W (cu L (j + 8)).c) (W (i % 6)) (W (j % 8)) (W (i % 16)) (W (j % 16)) hL h7 _ _ r23.1 r23.2.1 r23.2.2.1 r23.2.2.2.1 r23.2.2.2.2.1 r23.2.2.2.2.2.1 r23.2.2.2.2.2.2.1 r23.2.2.2.2.2.2.2 (cu L i).b (offL ab)) $$ HB
        iintro HB
        iapply (part25_wp (f1 := f1) (f4 := f4) c (some (k + 1)) a0 p0 a1 p1 a12 p12 a13 p13 a14 p14 a15 p15 a16 p16 a17 p17 a4 p4 a8 p8 a18 p18 a7 p7 (W (cu L i).b) (W (cu L i).g) (W (cu L i).c) (W (cu L j).b) (W (cu L j).g) (W (cu L j).c) (W (cu L (i + 6)).b) (W (cu L (i + 6)).g) (W (cu L (i + 6)).c) (W (cu L (j + 8)).b) (W (cu L (j + 8)).g) (W (cu L (j + 8)).c) (W (i % 6)) (W (j % 8)) (W (i % 16)) (W (j % 16)) hL h24 _ _ _ _ _ (cu L j).b (offL bb)) $$ HB
        iintro HB
        iapply (part26_wp (f1 := f1) (f4 := f4) c (some (k + 1)) a0 p0 a1 p1 a12 p12 a13 p13 a14 p14 a15 p15 a16 p16 a17 p17 a4 p4 a8 p8 a18 p18 a7 p7 (W (cu L i).b) (W (cu L i).g) (W (cu L i).c) (W (cu L j).b) (W (cu L j).g) (W (cu L j).c) (W (cu L (i + 6)).b) (W (cu L (i + 6)).g) (W (cu L (i + 6)).c) (W (cu L (j + 8)).b) (W (cu L (j + 8)).g) (W (cu L (j + 8)).c) (W (i % 6)) (W (j % 8)) (W (i % 16)) (W (j % 16)) hL h17 _ _ _ _ _ _ _ (cu L (i + 6)).b (offL eb)) $$ HB
        iintro HB
        iapply (part27_wp (f1 := f1) (f4 := f4) c (some (k + 1)) a0 p0 a1 p1 a12 p12 a13 p13 a14 p14 a15 p15 a16 p16 a17 p17 a4 p4 a8 p8 a18 p18 a7 p7 (W (cu L i).b) (W (cu L i).g) (W (cu L i).c) (W (cu L j).b) (W (cu L j).g) (W (cu L j).c) (W (cu L (i + 6)).b) (W (cu L (i + 6)).g) (W (cu L (i + 6)).c) (W (cu L (j + 8)).b) (W (cu L (j + 8)).g) (W (cu L (j + 8)).c) (W (i % 6)) (W (j % 8)) (W (i % 16)) (W (j % 16)) hL h20 _ _ (cu L (j + 8)).b (offL pb)) $$ HB
        iintro HB
        iapply (wp_call_spec Variants.nat c.tc (some (k + 1)) Set.univ (spec (f0 := f0) (f1 := f1) (f4 := f4) c a0 a1 a12 a13 a14 a15 a16 a17 a4 a8 a18 a7 L f5 f6 (i + 1) (j)) k (fun u hu => by cases hu; exact Nat.lt_succ_self k)
          (ih' (i + 1) (j) (hctl.stepK hn hj hkk hvv) (by omega) _ _ _ _ _ _ _ _ _ _ _ _ _ _ _ _
            (congrArg Prod.fst E1) (congrArg (fun x => x.2.1) E1) (congrArg (fun x => x.2.2) E1) (congrArg Prod.fst E2) (congrArg (fun x => x.2.1) E2) (congrArg (fun x => x.2.2) E2)
            (congrArg Prod.fst E3) (congrArg (fun x => x.2.1) E3) (congrArg (fun x => x.2.2) E3) (congrArg Prod.fst E4) (congrArg (fun x => x.2.1) E4) (congrArg (fun x => x.2.2) E4)
            F1 F2 F3 F4))
        rw [spec_apply]
        isplitr [Hk]
        · unfold held
          isplitl [HK]; · iexact HK
          isplitl [HV]; · iexact HV
          isplitl [HB]; · iexact HB
          iexact HW
        iintro %r HL
        rw [wp_ret]; imodintro
        iapply Hk; iexact HL
    · have hvv := hctl.doV_of hn1 hj hkk
      have ek : Scalar.cmpi .slt (W (cu L i).b) 4#32 = BitVec.ofBool false := by rw [kbit_W ab]; simp [hkk]
      have hv' : (cu L j).b * 6 + (cu L j).g < (cu L i).b * 6 + (cu L i).g := hvv
      have ev : Scalar.cmpi .sgt (Scalar.addi (Scalar.muli (W (cu L i).b) 6#32) (W (cu L i).g)) (Scalar.addi (Scalar.muli (W (cu L j).b) 6#32) (W (cu L j).g)) = BitVec.ofBool true := by
        rw [vbit_W ab ag bb bg]; simp [hv']
      have E1 := adv_to hL.1 false i (i) rfl _ ek
      have E2 := adv_to hL.1 true j (j + 1) rfl _ ev
      have E3 := adv_to hL.1 false (i + 6) (i + 6) (by simp) _ ek
      have E4 := adv_to hL.1 true (j + 8) (j + 1 + 8) (by simp; try omega) _ ev
      have F1 := slot_to 6 (by decide) (by decide) false i (i) rfl _ ek
      have F2 := slot_to 8 (by decide) (by decide) true j (j + 1) rfl _ ev
      have F3 := slot_to 16 (by decide) (by decide) false i (i) rfl _ ek
      have F4 := slot_to 16 (by decide) (by decide) true j (j + 1) rfl _ ev
      unfold held
      iintro ⟨HH, Hk⟩
      iapply (part22_C (f1 := f1) (f4 := f4) c (some (k + 1)) a0 p0 a1 p1 a12 p12 a13 p13 a14 p14 a15 p15 a16 p16 a17 p17 a4 p4 a8 p8 a18 p18 a7 p7 hL hj hkk hvv f5 f6) $$ HH
      iintro %h24 %h20 %h17 %h14 %h7 %v60 %x0 ⟨HK, HV, HB, HW⟩
      iapply (part23_V (f1 := f1) (f4 := f4) c (some (k + 1)) a0 p0 a1 p1 a12 p12 a13 p13 a14 p14 a15 p15 a16 p16 a17 p17 a4 p4 a8 p8 a18 p18 a7 p7 hL hj hvv f6 h24 h20 h14 h7 _ v60 x0) $$ [HV HB]
      · isplitl [HV]; · iexact HV
        iexact HB
      iintro %r23 ⟨HV, HB⟩
      iapply (part24_wp (f1 := f1) (f4 := f4) c (some (k + 1)) a0 p0 a1 p1 a12 p12 a13 p13 a14 p14 a15 p15 a16 p16 a17 p17 a4 p4 a8 p8 a18 p18 a7 p7 (W (cu L i).b) (W (cu L i).g) (W (cu L i).c) (W (cu L j).b) (W (cu L j).g) (W (cu L j).c) (W (cu L (i + 6)).b) (W (cu L (i + 6)).g) (W (cu L (i + 6)).c) (W (cu L (j + 8)).b) (W (cu L (j + 8)).g) (W (cu L (j + 8)).c) (W (i % 6)) (W (j % 8)) (W (i % 16)) (W (j % 16)) hL h7 _ _ r23.1 r23.2.1 r23.2.2.1 r23.2.2.2.1 r23.2.2.2.2.1 r23.2.2.2.2.2.1 r23.2.2.2.2.2.2.1 r23.2.2.2.2.2.2.2 (cu L i).b (offL ab)) $$ HB
      iintro HB
      iapply (part25_wp (f1 := f1) (f4 := f4) c (some (k + 1)) a0 p0 a1 p1 a12 p12 a13 p13 a14 p14 a15 p15 a16 p16 a17 p17 a4 p4 a8 p8 a18 p18 a7 p7 (W (cu L i).b) (W (cu L i).g) (W (cu L i).c) (W (cu L j).b) (W (cu L j).g) (W (cu L j).c) (W (cu L (i + 6)).b) (W (cu L (i + 6)).g) (W (cu L (i + 6)).c) (W (cu L (j + 8)).b) (W (cu L (j + 8)).g) (W (cu L (j + 8)).c) (W (i % 6)) (W (j % 8)) (W (i % 16)) (W (j % 16)) hL h24 _ _ _ _ _ (cu L j).b (offL bb)) $$ HB
      iintro HB
      iapply (part26_wp (f1 := f1) (f4 := f4) c (some (k + 1)) a0 p0 a1 p1 a12 p12 a13 p13 a14 p14 a15 p15 a16 p16 a17 p17 a4 p4 a8 p8 a18 p18 a7 p7 (W (cu L i).b) (W (cu L i).g) (W (cu L i).c) (W (cu L j).b) (W (cu L j).g) (W (cu L j).c) (W (cu L (i + 6)).b) (W (cu L (i + 6)).g) (W (cu L (i + 6)).c) (W (cu L (j + 8)).b) (W (cu L (j + 8)).g) (W (cu L (j + 8)).c) (W (i % 6)) (W (j % 8)) (W (i % 16)) (W (j % 16)) hL h17 _ _ _ _ _ _ _ (cu L (i + 6)).b (offL eb)) $$ HB
      iintro HB
      iapply (part27_wp (f1 := f1) (f4 := f4) c (some (k + 1)) a0 p0 a1 p1 a12 p12 a13 p13 a14 p14 a15 p15 a16 p16 a17 p17 a4 p4 a8 p8 a18 p18 a7 p7 (W (cu L i).b) (W (cu L i).g) (W (cu L i).c) (W (cu L j).b) (W (cu L j).g) (W (cu L j).c) (W (cu L (i + 6)).b) (W (cu L (i + 6)).g) (W (cu L (i + 6)).c) (W (cu L (j + 8)).b) (W (cu L (j + 8)).g) (W (cu L (j + 8)).c) (W (i % 6)) (W (j % 8)) (W (i % 16)) (W (j % 16)) hL h20 _ _ (cu L (j + 8)).b (offL pb)) $$ HB
      iintro HB
      iapply (wp_call_spec Variants.nat c.tc (some (k + 1)) Set.univ (spec (f0 := f0) (f1 := f1) (f4 := f4) c a0 a1 a12 a13 a14 a15 a16 a17 a4 a8 a18 a7 L f5 f6 (i) (j + 1)) k (fun u hu => by cases hu; exact Nat.lt_succ_self k)
        (ih' (i) (j + 1) (hctl.stepV hn hj hkk) (by omega) _ _ _ _ _ _ _ _ _ _ _ _ _ _ _ _
          (congrArg Prod.fst E1) (congrArg (fun x => x.2.1) E1) (congrArg (fun x => x.2.2) E1) (congrArg Prod.fst E2) (congrArg (fun x => x.2.1) E2) (congrArg (fun x => x.2.2) E2)
          (congrArg Prod.fst E3) (congrArg (fun x => x.2.1) E3) (congrArg (fun x => x.2.2) E3) (congrArg Prod.fst E4) (congrArg (fun x => x.2.1) E4) (congrArg (fun x => x.2.2) E4)
          F1 F2 F3 F4))
      rw [spec_apply]
      isplitr [Hk]
      · unfold held
        isplitl [HK]; · iexact HK
        isplitl [HV]; · iexact HV
        isplitl [HB]; · iexact HB
        iexact HW
      iintro %r HL
      rw [wp_ret]; imodintro
      iapply Hk; iexact HL

end Cert.Kernel.Hand
-- ==== Proof.K.Main.lean ====
module

public import proofs.«01_k».proof.Proof.K.Pre
public import proofs.«01_k».proof.Proof.K.While
public import Idealize.ShloMosaic.Lib.Pipeline.FrameBody
public import Idealize.ShloMosaic.Lib.Pipeline.DatRel
public import Idealize.ShloMosaic.Lib.Ring
public import Idealize.ShloMosaic.Lib.Tactic
public import Idealize.ShloMosaic.Lib.WordCmp
public import Idealize.ShloMosaic.Lib.VecWindow

@[expose] public section

set_option maxRecDepth 16384

/-!
The whole body: the prefetch loops, the codes, the loop over the items.
-/

noncomputable section

namespace Cert.Kernel.Hand

open Cert.Kernel Cert.Kernel.Gen Cert.Words
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

attribute [local irreducible] cur

variable (c : Dev nD) (bd : Option Variants.nat.V) (a0 : Memref sig .tc .smem S4 .i32) (p0 : a0.IsWhole) (a1 : Memref sig .tc .vmem S24x8x160 .bf16) (p1 : a1.IsWhole) (a12 : Memref sig .tc .vmem S16x8x4096 .f32) (p12 : a12.IsWhole) (a13 : Memref sig .tc .vmem S8x128 .f32) (p13 : a13.IsWhole) (a14 : Memref sig .tc .vmem S24x8x128 .f32) (p14 : a14.IsWhole) (a15 : Memref sig .tc .vmem S8x128 .f32) (p15 : a15.IsWhole) (a16 : Memref sig .tc .vmem S8x160 .f32) (p16 : a16.IsWhole) (a17 : Memref sig .tc .vmem S6x4x160 .f32) (p17 : a17.IsWhole) (a4 : Memref sig .tc .vmem S6x4x160 .f32) (p4 : a4.IsWhole) (a8 : Memref sig .tc .vmem S24x8x160 .f32) (p8 : a8.IsWhole) (a18 : Memref sig .tc .vmem S6x4x160 .f32) (p18 : a18.IsWhole) (a7 : Memref sig .tc .vmem S24x8x160 .bf16) (p7 : a7.IsWhole)
variable {f0 : Buf (Elt F) (a0.view.loc (c : Thread nD τ))} {f1 : Buf (Elt F) (a1.view.loc (c : Thread nD τ))} {f4 : Buf (Elt F) (a4.view.loc (c : Thread nD τ))}

variable (a2 : Memref sig .tc .vmem S6x4x160 .bf16) (p2 : a2.IsWhole)
variable (a3 : Memref sig .tc .vmem S6x4x160 .bf16) (p3 : a3.IsWhole)
variable (a9 : Memref sig .tc .vmem S6x4x160 .fp8e4m3) (p9 : a9.IsWhole)
variable {L : ℕ → ℕ}

/-- A whole buffer held through its memref is held at every index. -/
theorem pt_whole (b : Ref sig .tc) {sp : CoreSpace} (f : Buf (Elt F) ((View.whole b).loc (c : Thread nD τ))) :
    (((View.whole b).loc (c : Thread nD τ) ↦[(View.whole b).set]{fullShare} f : sProp 𝕄)) = ((View.whole b).loc (c : Thread nD τ) ↦[Finset.univ]{fullShare} f) := by rw [View.set_whole]

/-- The transfers' side of the K operand: its cells at zero, the operand whole, the ring's buffer. -/
def sideK (f : Buf (Elt F) (hbmK c)) : sProp 𝕄 :=
  iprop((bigSep Finset.univ fun k : Fin 6 => (semVal ((c : Thread nD τ), cellK k) 0 : sProp 𝕄)) ∗ (hbmK c ↦[Finset.univ]{fullShare} f) ∗ ∃ g, (locK c ↦[Finset.univ]{fullShare} g))

/-- The transfers' side of the V operand: its cells at zero, the operand whole, the ring's buffer. -/
def sideV (f : Buf (Elt F) (hbmV c)) : sProp 𝕄 :=
  iprop((bigSep Finset.univ fun k : Fin 8 => (semVal ((c : Thread nD τ), cellV k) 0 : sProp 𝕄)) ∗ (hbmV c ↦[Finset.univ]{fullShare} f) ∗ ∃ g, (locV c ↦[Finset.univ]{fullShare} g))

/-- Loading the scales. -/
theorem ldB4 {α : Type} {Q : α → sProp 𝕄} {r : LoadRect S6x4x160} {hl : a4.view.LoadsAt r} {k : (r.shape.Idx → Elt F .f32) → Prog (TpuEff nD τ sig (Elt F) (Λ₀ F) .tc) α} :
    Bufs c a0 a1 a4 a12 a13 a14 a15 a16 a17 a18 a8 a7 f0 f1 f4 ⊢ iprop((Bufs c a0 a1 a4 a12 a13 a14 a15 a16 a17 a18 a8 a7 f0 f1 f4 -∗ wp frame (wpE (defs₀ (F := F)) Variants.nat (c : Thread nD τ) bd) Set.univ (k (a4.view.readAt (Elt F) r f4)) Q) -∗ wp frame (wpE (defs₀ (F := F)) Variants.nat (c : Thread nD τ) bd) Set.univ (.op (.load a4 r hl) k) Q) := by
  unfold Bufs
  iintro ⟨H0, H1, H4, ⟨%f12, H12⟩, ⟨%f13, H13⟩, ⟨%f14, H14⟩, ⟨%f15, H15⟩, ⟨%f16, H16⟩, ⟨%f17, H17⟩, ⟨%f18, H18⟩, ⟨%f8, H8⟩, ⟨%f7, H7⟩⟩ Hk
  iapply (ld c bd) $$ H4; iintro H4
  iapply Hk
  isplitl [H0]; · iexact H0
  isplitl [H1]; · iexact H1
  isplitl [H4]; · iexact H4
  isplitl [H12]; · iexists _; iexact H12
  isplitl [H13]; · iexists _; iexact H13
  isplitl [H14]; · iexists _; iexact H14
  isplitl [H15]; · iexists _; iexact H15
  isplitl [H16]; · iexists _; iexact H16
  isplitl [H17]; · iexists _; iexact H17
  isplitl [H18]; · iexists _; iexact H18
  isplitl [H8]; · iexists _; iexact H8
  iexists _; iexact H7

/-- Storing into buffer 17. -/
theorem stB17 {α : Type} {Q : α → sProp 𝕄} {r : Rect S6x4x160} {w : r.shape.Idx → Elt F .f32} {Mk : Finset r.shape.Idx} {hx : (a17.access r).Stores Mk} {hm : Mk = Finset.univ ∨ ∀ a, r.stride a = 1} {k : PUnit → Prog (TpuEff nD τ sig (Elt F) (Λ₀ F) .tc) α} :
    Bufs c a0 a1 a4 a12 a13 a14 a15 a16 a17 a18 a8 a7 f0 f1 f4 ⊢ iprop((Bufs c a0 a1 a4 a12 a13 a14 a15 a16 a17 a18 a8 a7 f0 f1 f4 -∗ wp frame (wpE (defs₀ (F := F)) Variants.nat (c : Thread nD τ) bd) Set.univ (k ⟨⟩) Q) -∗ wp frame (wpE (defs₀ (F := F)) Variants.nat (c : Thread nD τ) bd) Set.univ (.op (.store a17 r w Mk hx hm) k) Q) := by
  unfold Bufs
  iintro ⟨H0, H1, H4, ⟨%f12, H12⟩, ⟨%f13, H13⟩, ⟨%f14, H14⟩, ⟨%f15, H15⟩, ⟨%f16, H16⟩, ⟨%f17, H17⟩, ⟨%f18, H18⟩, ⟨%f8, H8⟩, ⟨%f7, H7⟩⟩ Hk
  iapply (st c bd) $$ H17; iintro H17
  iapply Hk
  isplitl [H0]; · iexact H0
  isplitl [H1]; · iexact H1
  isplitl [H4]; · iexact H4
  isplitl [H12]; · iexists _; iexact H12
  isplitl [H13]; · iexists _; iexact H13
  isplitl [H14]; · iexists _; iexact H14
  isplitl [H15]; · iexists _; iexact H15
  isplitl [H16]; · iexists _; iexact H16
  isplitl [H17]; · iexists _; iexact H17
  isplitl [H18]; · iexists _; iexact H18
  isplitl [H8]; · iexists _; iexact H8
  iexists _; iexact H7

/-- Storing into buffer 18. -/
theorem stB18 {α : Type} {Q : α → sProp 𝕄} {r : Rect S6x4x160} {w : r.shape.Idx → Elt F .f32} {Mk : Finset r.shape.Idx} {hx : (a18.access r).Stores Mk} {hm : Mk = Finset.univ ∨ ∀ a, r.stride a = 1} {k : PUnit → Prog (TpuEff nD τ sig (Elt F) (Λ₀ F) .tc) α} :
    Bufs c a0 a1 a4 a12 a13 a14 a15 a16 a17 a18 a8 a7 f0 f1 f4 ⊢ iprop((Bufs c a0 a1 a4 a12 a13 a14 a15 a16 a17 a18 a8 a7 f0 f1 f4 -∗ wp frame (wpE (defs₀ (F := F)) Variants.nat (c : Thread nD τ) bd) Set.univ (k ⟨⟩) Q) -∗ wp frame (wpE (defs₀ (F := F)) Variants.nat (c : Thread nD τ) bd) Set.univ (.op (.store a18 r w Mk hx hm) k) Q) := by
  unfold Bufs
  iintro ⟨H0, H1, H4, ⟨%f12, H12⟩, ⟨%f13, H13⟩, ⟨%f14, H14⟩, ⟨%f15, H15⟩, ⟨%f16, H16⟩, ⟨%f17, H17⟩, ⟨%f18, H18⟩, ⟨%f8, H8⟩, ⟨%f7, H7⟩⟩ Hk
  iapply (st c bd) $$ H18; iintro H18
  iapply Hk
  isplitl [H0]; · iexact H0
  isplitl [H1]; · iexact H1
  isplitl [H4]; · iexact H4
  isplitl [H12]; · iexists _; iexact H12
  isplitl [H13]; · iexists _; iexact H13
  isplitl [H14]; · iexists _; iexact H14
  isplitl [H15]; · iexists _; iexact H15
  isplitl [H16]; · iexists _; iexact H16
  isplitl [H17]; · iexists _; iexact H17
  isplitl [H18]; · iexists _; iexact H18
  isplitl [H8]; · iexists _; iexact H8
  iexists _; iexact H7

theorem part1_wp {α : Type} (hL : LensOk a0 c f0 L) (f5 : Buf (Elt F) (hbmK c)) (f6 : Buf (Elt F) (hbmV c)) (f3 : Buf (Elt F) (a3.view.loc (c : Thread nD τ)))
    {kk} {Q : α → sProp 𝕄} :
    iprop(sideK c f5 ∗ sideV c f6 ∗ Bufs c a0 a1 a4 a12 a13 a14 a15 a16 a17 a18 a8 a7 f0 f1 f4 ∗ pt c a3 f3 ∗ (∃ f9, pt c a9 f9)) ⊢ iprop((∀ x, ((RingK c L f5 (stK L 0) ∗ (hbmK c ↦[Finset.univ]{Transfers.shareDrop fullShare 6} f5)) ∗ (RingV c L f6 (stV L 0) ∗ (hbmV c ↦[Finset.univ]{Transfers.shareDrop fullShare 8} f6)) ∗ Bufs c a0 a1 a4 a12 a13 a14 a15 a16 a17 a18 a8 a7 f0 f1 f4 ∗ pt c a3 f3 ∗ (∃ f9, ⌜(a9.view.read (Elt F) f9 : S6x4x160.Idx → Elt F .fp8e4m3) = k0_pay4 (F := F) (a3.view.read (Elt F) f3) (a4.view.read (Elt F) f4)⌝ ∗ pt c a9 f9)) -∗
        wp frame (wpE (defs₀ (F := F)) Variants.nat (c : Thread nD τ) bd) Set.univ (kk ⟨W (cu L 6).b, W (cu L 6).g, W (cu L 6).c, W (cu L 8).b, W (cu L 8).g, W (cu L 8).c, x⟩) Q)
      -∗ wp frame (wpE (defs₀ (F := F)) Variants.nat (c : Thread nD τ) bd) Set.univ (k0_part1 (F := F) a0 p0 a1 p1 a2 p2 a3 p3 a4 p4 (Memref.whole main_v2) (isW _) (Memref.whole main_v4) (isW _) a7 p7 a8 p8 a9 p9 (Memref.whole cc0_scratch0) (isW _) (Memref.whole cc0_scratch1) (isW _) a12 p12 a13 p13 a14 p14 a15 p15 a16 p16 a17 p17 a18 p18 cc0_scratch9 cc0_scratch10 >>= kk) Q) := by
  rw [k0_part1_eq_skeleton]; unfold k0_part1_skel
  simp only [Prog.lift, Prog.bind_op, Prog.bind_ret, Prog.pure_eq_ret, Prog.bind_assoc]
  unfold sideK sideV
  iintro ⟨⟨HsK, HhK, %gK, HlK⟩, ⟨HsV, HhV, %gV, HlV⟩, HB, H3, ⟨%f9, H9⟩⟩ Hk
  icases (ringK_in c L f5 gK) $$ [HsK HhK HlK] with ⟨HR, HdK⟩
  · isplitl [HsK]; · iexact HsK
    isplitl [HhK]; · iexact HhK
    iexact HlK
  iapply (loopK (f0 := f0) (f1 := f1) (f4 := f4) c bd a0 p0 a1 p1 a12 p12 a13 p13 a14 p14 a15 p15 a16 p16 a17 p17 a4 p4 a8 p8 a18 p18 a7 p7 a2 p2 a3 p3 a9 p9 hL f5) $$ [HR HB]
  · isplitl [HR]; · iexact HR
    iexact HB
  iintro ⟨HRK, HB⟩
  ihave HlV := (BIBase.Entails.of_eq (pt_whole c cc0_scratch1 (sp := .vmem) gV).symm) $$ HlV
  iapply (ld c bd (m := Memref.whole cc0_scratch1)) $$ HlV; iintro HlV
  iapply (st c bd (m := Memref.whole cc0_scratch1)) $$ HlV; iintro HlV
  ihave HlV := (BIBase.Entails.of_eq (pt_whole c cc0_scratch1 (sp := .vmem) _)) $$ HlV
  icases (ringV_in c L f6 _) $$ [HsV HhV HlV] with ⟨HR, HdV⟩
  · isplitl [HsV]; · iexact HsV
    isplitl [HhV]; · iexact HhV
    iexact HlV
  iapply (loopV (f0 := f0) (f1 := f1) (f4 := f4) c bd a0 p0 a1 p1 a12 p12 a13 p13 a14 p14 a15 p15 a16 p16 a17 p17 a4 p4 a8 p8 a18 p18 a7 p7 a2 p2 a3 p3 a9 p9 hL f6) $$ [HR HB]
  · isplitl [HR]; · iexact HR
    iexact HB
  iintro ⟨HRV, HB⟩
  iapply (ld c bd (m := a3)) $$ H3; iintro H3
  iapply (ldB4 c bd a0 a1 a12 a13 a14 a15 a16 a17 a4 a8 a18 a7) $$ HB; iintro HB
  iapply (ld c bd (m := a9)) $$ H9; iintro H9
  iapply (st c bd (m := a9)) $$ H9; iintro H9
  iapply (ldB4 c bd a0 a1 a12 a13 a14 a15 a16 a17 a4 a8 a18 a7) $$ HB; iintro HB
  iapply Hk
  isplitl [HRK HdK]
  · isplitl [HRK]; · iexact HRK
    iexact HdK
  isplitl [HRV HdV]
  · isplitl [HRV]; · iexact HRV
    iexact HdV
  isplitl [HB]; · iexact HB
  isplitl [H3]; · iexact H3
  iexists _
  isplitr
  rotate_left
  · iexact H9
  · ipureintro
    refine (View.read_writes_full a9.view f9 inb_S6x4x160_S6x4x160_0_0_0 _ []).trans ?_
    rw [View.readAt_full, View.readAt_full]; rfl

theorem spec_zero (hL : LensOk a0 c f0 L) (f5 : Buf (Elt F) (hbmK c)) (f6 : Buf (Elt F) (hbmV c)) (k : ℕ) (hk : total (nL L) + total (nL L) ≤ k) (K) :
    spec (f0 := f0) (f1 := f1) (f4 := f4) c a0 a1 a12 a13 a14 a15 a16 a17 a4 a8 a18 a7 L f5 f6 0 0 K ⊢ wp frame (wpE (defs₀ (F := F)) Variants.nat (c : Thread nD τ) (some k)) Set.univ (defs₀ (F := F) .tc 1 ⟨a0, p0, cc0_scratch9, Memref.whole cc0_scratch0, Memref.isWhole_whole _, Memref.whole main_v2, Memref.isWhole_whole _, cc0_scratch10, Memref.whole cc0_scratch1, Memref.isWhole_whole _, Memref.whole main_v4, Memref.isWhole_whole _, a1, p1, a12, p12, a13, p13, a14, p14, a15, p15, a16, p16, a17, p17, a4, p4, a8, p8, a18, p18, a7, p7, 0#32, 0#32, 0#32, 0#32, 0#32, 0#32, (W (cu L 6).b), (W (cu L 6).g), (W (cu L 6).c), (W (cu L 8).b), (W (cu L 8).g), (W (cu L 8).c), 0#32, 0#32, 0#32, 0#32⟩) K := by
  have h := spec_le (f1 := f1) (f4 := f4) c a0 p0 a1 p1 a12 p12 a13 p13 a14 p14 a15 p15 a16 p16 a17 p17 a4 p4 a8 p8 a18 p18 a7 p7 L hL f5 f6 k 0 0 Ctl.zero (by omega) K
  have e1 : W (cu L 0).b = 0#32 := congrArg Prod.fst (cu_zero L)
  have e2 : W (cu L 0).g = 0#32 := congrArg (fun x => x.2.1) (cu_zero L)
  have e3 : W (cu L 0).c = 0#32 := congrArg (fun x => x.2.2) (cu_zero L)
  simp only [e1, e2, e3, Nat.zero_add, Nat.zero_mod] at h
  exact h

theorem body_wp (hL : LensOk a0 c f0 L) (f5 : Buf (Elt F) (hbmK c)) (f6 : Buf (Elt F) (hbmV c)) (f2 : Buf (Elt F) (a2.view.loc (c : Thread nD τ))) (f3 : Buf (Elt F) (a3.view.loc (c : Thread nD τ))) :
    iprop(sideK c f5 ∗ sideV c f6 ∗ Bufs c a0 a1 a4 a12 a13 a14 a15 a16 a17 a18 a8 a7 f0 f1 f4 ∗ pt c a2 f2 ∗ pt c a3 f3 ∗ (∃ f9, pt c a9 f9) ∗ (∃ W0, owes c 0 W0)) ⊢ wp frame (wpE (defs₀ (F := F)) Variants.nat (c : Thread nD τ) none) Set.univ (cc0_gqa_decode (F := F) a0 p0 a1 p1 a2 p2 a3 p3 a4 p4 (Memref.whole main_v2) (isW _) (Memref.whole main_v4) (isW _) a7 p7 a8 p8 a9 p9 (Memref.whole cc0_scratch0) (isW _) (Memref.whole cc0_scratch1) (isW _) a12 p12 a13 p13 a14 p14 a15 p15 a16 p16 a17 p17 a18 p18 cc0_scratch9 cc0_scratch10)
      fun _ => iprop(sideK c f5 ∗ sideV c f6 ∗ Bufs c a0 a1 a4 a12 a13 a14 a15 a16 a17 a18 a8 a7 f0 f1 f4 ∗ pt c a2 f2 ∗ pt c a3 f3 ∗ (∃ f9, ⌜(a9.view.read (Elt F) f9 : S6x4x160.Idx → Elt F .fp8e4m3) = k0_pay4 (F := F) (a3.view.read (Elt F) f3) (a4.view.read (Elt F) f4)⌝ ∗ pt c a9 f9) ∗ (∃ W0, owes c 0 W0)) := by
  rw [cc0_gqa_decode_eq_skeleton]; unfold cc0_gqa_decode_skel
  simp only [Prog.lift, Prog.bind_op, Prog.bind_ret, Prog.pure_eq_ret, Prog.bind_assoc]
  iintro ⟨HK, HV, HB, H2, H3, H9, HW⟩
  iapply (part1_wp (f0 := f0) (f1 := f1) (f4 := f4) c none a0 p0 a1 p1 a12 p12 a13 p13 a14 p14 a15 p15 a16 p16 a17 p17 a4 p4 a8 p8 a18 p18 a7 p7 a2 p2 a3 p3 a9 p9 hL f5 f6 f3) $$ [HK HV HB H3 H9]
  · isplitl [HK]; · iexact HK
    isplitl [HV]; · iexact HV
    isplitl [HB]; · iexact HB
    isplitl [H3]; · iexact H3
    iexact H9
  iintro %x ⟨⟨HK, HdK⟩, ⟨HV, HdV⟩, HB, H3, H9⟩
  iapply (ldB18 c none a0 a1 a12 a13 a14 a15 a16 a17 a4 a8 a18 a7) $$ HB; iintro %y18 HB
  iapply (stB18 c none a0 a1 a12 a13 a14 a15 a16 a17 a4 a8 a18 a7) $$ HB; iintro HB
  iapply (ld c none (m := a2)) $$ H2; iintro H2
  iapply (ldB17 c none a0 a1 a12 a13 a14 a15 a16 a17 a4 a8 a18 a7) $$ HB; iintro %y17 HB
  iapply (stB17 c none a0 a1 a12 a13 a14 a15 a16 a17 a4 a8 a18 a7) $$ HB; iintro HB
  iapply (wp_call_spec Variants.nat (c : Thread nD τ) none Set.univ (spec (f0 := f0) (f1 := f1) (f4 := f4) c a0 a1 a12 a13 a14 a15 a16 a17 a4 a8 a18 a7 L f5 f6 0 0) (total (nL L) + total (nL L)) (fun u hu => nomatch hu)
    (spec_zero (f1 := f1) (f4 := f4) c a0 p0 a1 p1 a12 p12 a13 p13 a14 p14 a15 p15 a16 p16 a17 p17 a4 p4 a8 p8 a18 p18 a7 p7 hL f5 f6 _ le_rfl))
  rw [spec_apply]
  isplitl [HK HV HB HW]
  · unfold held
    isplitl [HK]; · iexact HK
    isplitl [HV]; · iexact HV
    isplitl [HB]; · iexact HB
    iexact HW
  iintro %r HL
  unfold left
  icases HL with ⟨HK, HV, HB, HW⟩
  rw [wp_ret]; imodintro
  unfold sideK sideV
  isplitl [HK HdK]
  · iapply (ringK_out c L f5 (fun _ => default))
    isplitl [HK]; · iexact HK
    iexact HdK
  isplitl [HV HdV]
  · iapply (ringV_out c L f6 (fun _ => default))
    isplitl [HV]; · iexact HV
    iexact HdV
  isplitl [HB]; · iexact HB
  isplitl [H2]; · iexact H2
  isplitl [H3]; · iexact H3
  isplitl [H9]; · iexact H9
  iexact HW

end Cert.Kernel.Hand
-- ==== Proof.K.Host.lean ====
module

public import proofs.«01_k».proof.Proof.K.Words
public import proofs.«01_k».proof.Proof.Gen.Kernel.Launch
public import Idealize.ShloMosaic.Lib.Pipeline.FrameBody
public import Idealize.ShloMosaic.Lib.Pipeline.DatRel
public import Idealize.ShloMosaic.Lib.Ring
public import Idealize.ShloMosaic.Lib.Claim
public import Idealize.ShloMosaic.Lib.Tactic
public import Idealize.ShloMosaic.Lib.WordCmp

@[expose] public section

set_option maxRecDepth 16384

/-!
The host's operations before the kernel, and what they leave in its operands.
-/

noncomputable section

namespace Cert.Kernel.Hand

open Cert.Kernel Cert.Kernel.Gen Cert.Words
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ)

/-- A core's buffers when the kernel is entered: after the host's operations. -/
def V (c : Dev nD) (b : Ref sig .tc) : Buf (Elt F) ((c : Thread nD τ).loc b) :=
  StableHlo.after (List.flatten [hostOps0, hostOps0_1]) (fun b => m (c, b)) b
theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor

set_option maxHeartbeats 800000 in
/-- The program is its host operations, then the kernel. -/
theorem hmain (𝒱₀ : Variants) :
    Pipeline.HMain (Ix := Unit) (Name := ℕ) (U := Pipeline.UD sig nD τ) (Lvl := ℕ) cfgs 0 defs₀ 𝒱₀ m (main (F := F)) (V m) :=
  Pipeline.hmain_prefixes cfgs 0 defs₀ 𝒱₀ m main [hostOps0, hostOps0_1] (by simp only [List.Forall]; exact ⟨hostOps0_sub, hostOps0_1_sub⟩)
    (by simp only [List.Forall]; exact ⟨hostOps0_fresh, hostOps0_1_fresh⟩) main_chain

/-- No host operation writes the buffers named here. -/
theorem V_of_arg (c : Dev nD) (b : Ref sig .tc) (hb : b ∈ [main_arg0, main_arg1, main_arg2, main_arg3, main_arg4, main_arg5, main_arg6]) :
    V m c b = m ((c : Thread nD τ).loc b) := by
  simp only [List.mem_cons, List.not_mem_nil, or_false] at hb
  unfold V
  refine StableHlo.after_of_forall_not_mem (b := Proc.devRef .tc b) _ _ (List.forall_iff_forall_mem.mp ?_)
  simp only [hostOps0, hostOps0_1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals
    refine StableHlo.devRef_ne_of_ne ?_
    rintro rfl
    revert hb; decide

/-- The lengths the kernel is given are the argument's, clipped. -/
theorem V_lens (c : Dev nD) (i : S4.Idx) :
    (V m c main_v10 : S4.Idx → BitVec 32) i = Scalar.minsi 32768#32 (Scalar.maxsi 0#32 ((m ((c : Thread nD τ).loc main_arg6) : S4.Idx → BitVec 32) i)) := by
  unfold V
  simp only [hostOps0, hostOps0_1, List.flatten_cons, List.flatten_nil, List.append_nil, List.cons_append, List.nil_append]
  after_results
  rfl

/-- A clipped word is at most 32768. -/
theorem clip_le (x : BitVec 32) : (Scalar.minsi 32768#32 (Scalar.maxsi 0#32 x)).toNat ≤ 32768 := by
  have h : Scalar.minsi 32768#32 (Scalar.maxsi 0#32 x) = if (32768#32).slt (if x.slt 0#32 then 0#32 else x) then 32768#32 else (if x.slt 0#32 then 0#32 else x) := rfl
  rw [h]
  simp only [BitVec.slt_eq_decide, decide_eq_true_eq]
  have hx : x.toInt = if 2 * x.toNat < 2 ^ 32 then (x.toNat : ℤ) else (x.toNat : ℤ) - 2 ^ 32 := by rw [BitVec.toInt_eq_toNat_cond]; rfl
  have h0 : (0#32 : BitVec 32).toInt = 0 := by decide
  have h3 : (32768#32 : BitVec 32).toInt = 32768 := by decide
  by_cases hn : x.toInt < (0#32 : BitVec 32).toInt
  · simp only [if_pos hn]; rw [h0, h3]; decide
  · simp only [if_neg hn]; rw [h3]
    by_cases hb : (32768 : ℤ) < x.toInt
    · rw [if_pos hb]; decide
    · rw [if_neg hb]; rw [h0] at hn; have := x.isLt; split at hx <;> omega

theorem lt4 {b : ℕ} (hb : b < 4) (a : Fin S4.rank) : b < S4.size a := by
  obtain rfl : a = (0 : Fin 1) := Subsingleton.elim _ _
  exact hb

/-- Words bounded by 32768, as lengths. -/
theorem lens_exists (X : S4.Idx → BitVec 32) (h : ∀ i, (X i).toNat ≤ 32768) :
    ∃ L : ℕ → ℕ, (∀ b, L b ≤ 32768) ∧ ∀ i : S4.Idx, X i = W (L (i 0).val) := by
  refine ⟨fun b => if hb : b < 4 then (X (fun a => ⟨b, lt4 hb a⟩)).toNat else 0, fun b => ?_, fun i => ?_⟩
  · show (if hb : b < 4 then _ else _) ≤ _
    split
    · exact h _
    · omega
  · have hi : (i 0).val < 4 := (i 0).isLt
    show X i = W (if hb : (i 0).val < 4 then _ else _)
    rw [dif_pos hi]
    have e : (fun a => ⟨(i 0).val, lt4 hi a⟩ : S4.Idx) = i := by
      funext a; obtain rfl : a = (0 : Fin 1) := Subsingleton.elim _ _; rfl
    rw [e]; simp [W]

end Cert.Kernel.Hand
-- ==== Proof.K.Frame.lean ====
module

public import proofs.«01_k».proof.Proof.K.Main
public import proofs.«01_k».proof.Proof.K.Host
public import proofs.«01_k».proof.Proof.Gen.Kernel.Points
public import Idealize.ShloMosaic.Lib.Pipeline.FrameBody
public import Idealize.ShloMosaic.Lib.Pipeline.DatRel
public import Idealize.ShloMosaic.Lib.Ring
public import Idealize.ShloMosaic.Lib.Tactic
public import Idealize.ShloMosaic.Lib.WordCmp

@[expose] public section

set_option maxRecDepth 16384

/-!
The launch: the proof data, the body's obligation, the run and the frame.
-/

noncomputable section

namespace Cert.Kernel.Hand

open Cert.Kernel Cert.Kernel.Gen Cert.Words
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

attribute [local irreducible] cur V

variable (m : (ℓ : Loc nD τ sig) → Buf (Elt F) ℓ)

/-- The kernel's own transfer semaphores: the K ring's six, the V ring's eight. -/
abbrev osem0 : Fin 14 → SemLoc sig := fun j => (![SemLoc.dma 8, SemLoc.dma 9, SemLoc.dma 10, SemLoc.dma 11, SemLoc.dma 12, SemLoc.dma 13, SemLoc.dma 14, SemLoc.dma 15, SemLoc.dma 16, SemLoc.dma 17, SemLoc.dma 18, SemLoc.dma 19, SemLoc.dma 20, SemLoc.dma 21] : Fin 14 → SemLoc sig) j
theorem ownSemFacts0 : Pipeline.OwnSemFacts spec0 osem0 := by decide
/-- The operands the kernel's transfers read. -/
def H0 : Finset (Ref sig .tc) := {main_v2, main_v4}
theorem H0_sub : H0 ⊆ Pipeline.restRefs sig spec0 := by decide

theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0) := by
  rw [Pipeline.ownSems0_eq_of_list c osem0 [0, 1, 2, 3, 4, 5, 6, 7, 8, 9, 10, 11, 12, 13] (by decide) (by decide)]; rfl
theorem hbmPts0_eq (c : Dev nD) :
    (bigSep H0 fun b => (((c : Thread nD τ).loc b) ↦{fullShare} V m c b : sProp 𝕄))
      = iprop((hbmK c ↦[Finset.univ]{fullShare} V m c main_v2) ∗ (hbmV c ↦[Finset.univ]{fullShare} V m c main_v4)) := by
  rw [BI.bigSep_eq_bigSepL_of_eq [main_v2, main_v4] (by decide) (by decide)]; rfl
theorem bigK (c : Dev nD) : (bigSep Finset.univ fun k : Fin 6 => (semVal ((c : Thread nD τ), cellK k) 0 : sProp 𝕄)) = iprop(semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0) := by
  rw [bigSep_univ_eq_bigSepL [0, 1, 2, 3, 4, 5] (by decide) (by decide)]; rfl
theorem bigV (c : Dev nD) : (bigSep Finset.univ fun k : Fin 8 => (semVal ((c : Thread nD τ), cellV k) 0 : sProp 𝕄)) = iprop(semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0) := by
  rw [bigSep_univ_eq_bigSepL [0, 1, 2, 3, 4, 5, 6, 7] (by decide) (by decide)]; rfl

theorem scr_eq (c : Dev nD) :
    (Pipeline.scopedRest (Ix := Unit) (Name := ℕ) (U := Pipeline.UD sig nD τ) (Lvl := ℕ) (Val := Elt F) spec0 c : sProp 𝕄)
      = iprop((∃ g, (locK c ↦[Finset.univ]{fullShare} g)) ∗ (∃ g, (locV c ↦[Finset.univ]{fullShare} g)) ∗ (∃ f, pt c (Memref.whole cc0_scratch2) f) ∗ (∃ f, pt c (Memref.whole cc0_scratch3) f) ∗ (∃ f, pt c (Memref.whole cc0_scratch4) f) ∗ (∃ f, pt c (Memref.whole cc0_scratch5) f) ∗ (∃ f, pt c (Memref.whole cc0_scratch6) f) ∗ (∃ f, pt c (Memref.whole cc0_scratch7) f) ∗ (∃ f, pt c (Memref.whole cc0_scratch8) f)) := by
  rw [scopedRest0_eq]; simp only [pt, Memref.whole, View.set_whole]

/-- What the launch hands the body, resource by resource. -/
theorem phi_open (c : Dev nD) : (Pipeline.ΦD osem0 spec0 H0 (V m) c : sProp 𝕄) ⊢ iprop((∃ r, prngReg c r) ∗ sideK c (V m c main_v2) ∗ sideV c (V m c main_v4) ∗ (∃ f, pt c (Memref.whole cc0_scratch2) f) ∗ (∃ f, pt c (Memref.whole cc0_scratch3) f) ∗ (∃ f, pt c (Memref.whole cc0_scratch4) f) ∗ (∃ f, pt c (Memref.whole cc0_scratch5) f) ∗ (∃ f, pt c (Memref.whole cc0_scratch6) f) ∗ (∃ f, pt c (Memref.whole cc0_scratch7) f) ∗ (∃ f, pt c (Memref.whole cc0_scratch8) f)) := by
  rw [Pipeline.ΦD_eq, scr_eq, ownSems00_eq, hbmPts0_eq]
  unfold sideK sideV
  rw [bigK, bigV]
  iintro ⟨⟨K, Vr, S2, S3, S4, S5, S6, S7, S8⟩, Hg, ⟨q8, q9, q10, q11, q12, q13, q14, q15, q16, q17, q18, q19, q20, q21⟩, ⟨HK, HV⟩⟩
  isplitl [Hg]; · iexact Hg
  isplitl [q8 q9 q10 q11 q12 q13 HK K]
  · isplitl [q8 q9 q10 q11 q12 q13]
    · isplitl [q8]; · iexact q8
      isplitl [q9]; · iexact q9
      isplitl [q10]; · iexact q10
      isplitl [q11]; · iexact q11
      isplitl [q12]; · iexact q12
      iexact q13
    isplitl [HK]; · iexact HK
    iexact K
  isplitl [q14 q15 q16 q17 q18 q19 q20 q21 HV Vr]
  · isplitl [q14 q15 q16 q17 q18 q19 q20 q21]
    · isplitl [q14]; · iexact q14
      isplitl [q15]; · iexact q15
      isplitl [q16]; · iexact q16
      isplitl [q17]; · iexact q17
      isplitl [q18]; · iexact q18
      isplitl [q19]; · iexact q19
      isplitl [q20]; · iexact q20
      iexact q21
    isplitl [HV]; · iexact HV
    iexact Vr
  isplitl [S2]; · iexact S2
  isplitl [S3]; · iexact S3
  isplitl [S4]; · iexact S4
  isplitl [S5]; · iexact S5
  isplitl [S6]; · iexact S6
  isplitl [S7]; · iexact S7
  iexact S8

theorem phi_close (c : Dev nD) : iprop((∃ r, prngReg c r) ∗ sideK c (V m c main_v2) ∗ sideV c (V m c main_v4) ∗ (∃ f, pt c (Memref.whole cc0_scratch2) f) ∗ (∃ f, pt c (Memref.whole cc0_scratch3) f) ∗ (∃ f, pt c (Memref.whole cc0_scratch4) f) ∗ (∃ f, pt c (Memref.whole cc0_scratch5) f) ∗ (∃ f, pt c (Memref.whole cc0_scratch6) f) ∗ (∃ f, pt c (Memref.whole cc0_scratch7) f) ∗ (∃ f, pt c (Memref.whole cc0_scratch8) f)) ⊢ (Pipeline.ΦD osem0 spec0 H0 (V m) c : sProp 𝕄) := by
  rw [Pipeline.ΦD_eq, scr_eq, ownSems00_eq, hbmPts0_eq]
  unfold sideK sideV
  rw [bigK, bigV]
  iintro ⟨Hg, ⟨⟨q8, q9, q10, q11, q12, q13⟩, HK, K⟩, ⟨⟨q14, q15, q16, q17, q18, q19, q20, q21⟩, HV, Vr⟩, S2, S3, S4, S5, S6, S7, S8⟩
  isplitl [K Vr S2 S3 S4 S5 S6 S7 S8]
  · isplitl [K]; · iexact K
    isplitl [Vr]; · iexact Vr
    isplitl [S2]; · iexact S2
    isplitl [S3]; · iexact S3
    isplitl [S4]; · iexact S4
    isplitl [S5]; · iexact S5
    isplitl [S6]; · iexact S6
    isplitl [S7]; · iexact S7
    iexact S8
  isplitl [Hg]; · iexact Hg
  isplitl [q8 q9 q10 q11 q12 q13 q14 q15 q16 q17 q18 q19 q20 q21]
  · isplitl [q8]; · iexact q8
    isplitl [q9]; · iexact q9
    isplitl [q10]; · iexact q10
    isplitl [q11]; · iexact q11
    isplitl [q12]; · iexact q12
    isplitl [q13]; · iexact q13
    isplitl [q14]; · iexact q14
    isplitl [q15]; · iexact q15
    isplitl [q16]; · iexact q16
    isplitl [q17]; · iexact q17
    isplitl [q18]; · iexact q18
    isplitl [q19]; · iexact q19
    isplitl [q20]; · iexact q20
    iexact q21
  isplitl [HK]; · iexact HK
  iexact HV

/-- The results whose final contents this data does not name. -/
def forgets0 : Fin 8 → Bool := ![false, false, false, false, false, true, true, false]

/-- An operand's block as the body finds it. -/
def blkIn (c : Dev nD) (w : Fin (cfg0 (F := F)).W) (t : Fin (cfg0 (F := F)).N) : (((cfg0 (F := F)).win w).xblock ((cfg0 (F := F)).grid.coords t)).Idx → Elt F ((cfg0 (F := F)).win w).elt :=
  (((cfg0 (F := F)).win w).blk t).view.read (Elt F) (V m c (Pipeline.arrRef spec0 w))

/-- The codes: the new values over their scales, clipped and rounded. -/
def codesAt (c : Dev nD) (t : Fin (cfg0 (F := F)).N) : S6x4x160.Idx → Elt F .fp8e4m3 :=
  k0_pay4 (F := F) (blkIn m c 3 t) (blkIn m c 4 t)

/-- The proof data: the operands as they were, the codes' value, the other two results unnamed. -/
def dats (_ : Fin 1) (c : Dev nD) : Dat τ (Elt F) Unit ℕ (Pipeline.UD sig nD τ) ℕ (cfg0 (F := F)) c where
  A w := V m c (Pipeline.arrRef spec0 w)
  after w t := match w with
    | ⟨0, _⟩ => blkIn m c 0 t
    | ⟨1, _⟩ => blkIn m c 1 t
    | ⟨2, _⟩ => blkIn m c 2 t
    | ⟨3, _⟩ => blkIn m c 3 t
    | ⟨4, _⟩ => blkIn m c 4 t
    | ⟨5, _⟩ => Pipeline.Dat.unnamed (cfg := cfg0 (F := F)) 5 t
    | ⟨6, _⟩ => Pipeline.Dat.unnamed (cfg := cfg0 (F := F)) 6 t
    | ⟨7, _⟩ => codesAt m c t
  Φ _ := Pipeline.ΦD osem0 spec0 H0 (V m) c
  q _ := fullShare
  owed _ := 0

theorem A_eq (c : Dev nD) (w : Fin (cfg0 (F := F)).W) : (dats m 0 c).A w = V m c (Pipeline.arrRef spec0 w) := by dsimp only [dats]
set_option maxHeartbeats 1000000 in
theorem before0_0 (c : Dev nD) (t : Fin (cfg0 (F := F)).N) (d) : (dats m 0 c).before 0 t d = blkIn m c 0 t :=
  ((dats m 0 c).before_fetched 0 t (fetch0_0 t) d).trans rfl
set_option maxHeartbeats 1000000 in
theorem before0_1 (c : Dev nD) (t : Fin (cfg0 (F := F)).N) (d) : (dats m 0 c).before 1 t d = blkIn m c 1 t :=
  ((dats m 0 c).before_fetched 1 t (fetch0_1 t) d).trans rfl
set_option maxHeartbeats 1000000 in
theorem before0_2 (c : Dev nD) (t : Fin (cfg0 (F := F)).N) (d) : (dats m 0 c).before 2 t d = blkIn m c 2 t :=
  ((dats m 0 c).before_fetched 2 t (fetch0_2 t) d).trans rfl
set_option maxHeartbeats 1000000 in
theorem before0_3 (c : Dev nD) (t : Fin (cfg0 (F := F)).N) (d) : (dats m 0 c).before 3 t d = blkIn m c 3 t :=
  ((dats m 0 c).before_fetched 3 t (fetch0_3 t) d).trans rfl
set_option maxHeartbeats 1000000 in
theorem before0_4 (c : Dev nD) (t : Fin (cfg0 (F := F)).N) (d) : (dats m 0 c).before 4 t d = blkIn m c 4 t :=
  ((dats m 0 c).before_fetched 4 t (fetch0_4 t) d).trans rfl

/-- The lengths the body reads are bounded by the caches' length. -/
theorem lens_blk (c : Dev nD) (t : Fin (cfg0 (F := F)).N) (i : S4.Idx) : ((blkIn m c 0 t : S4.Idx → BitVec 32) i).toNat ≤ 32768 := by
  have e : ∃ j : S4.Idx, (blkIn m c 0 t : S4.Idx → BitVec 32) i = (V m c main_v10 : S4.Idx → BitVec 32) j := ⟨_, rfl⟩
  obtain ⟨j, e⟩ := e
  rw [e, V_lens]
  exact clip_le _

attribute [local irreducible] blkIn
theorem after0_0 (c : Dev nD) (t : Fin (cfg0 (F := F)).N) : (dats m 0 c).after 0 t = blkIn m c 0 t := rfl
theorem after0_1 (c : Dev nD) (t : Fin (cfg0 (F := F)).N) : (dats m 0 c).after 1 t = blkIn m c 1 t := rfl
theorem after0_2 (c : Dev nD) (t : Fin (cfg0 (F := F)).N) : (dats m 0 c).after 2 t = blkIn m c 2 t := rfl
theorem after0_3 (c : Dev nD) (t : Fin (cfg0 (F := F)).N) : (dats m 0 c).after 3 t = blkIn m c 3 t := rfl
theorem after0_4 (c : Dev nD) (t : Fin (cfg0 (F := F)).N) : (dats m 0 c).after 4 t = blkIn m c 4 t := rfl
theorem after0_7 (c : Dev nD) (t : Fin (cfg0 (F := F)).N) : (dats m 0 c).after 7 t = codesAt m c t := rfl

def bodyPre (c : Dev nD) (t : Fin (cfg0 (F := F)).N) : sProp 𝕄 :=
  iprop((dats m 0 c).Φ t.castSucc ∗ (dats m 0 c).owesAt () t.castSucc ∗ (∃ d, owns (c : Thread nD τ) (st0_0 t) fullShare ((dats m 0 c).before 0 t d)) ∗ (∃ d, owns (c : Thread nD τ) (st0_1 t) fullShare ((dats m 0 c).before 1 t d)) ∗ (∃ d, owns (c : Thread nD τ) (st0_2 t) fullShare ((dats m 0 c).before 2 t d)) ∗ (∃ d, owns (c : Thread nD τ) (st0_3 t) fullShare ((dats m 0 c).before 3 t d)) ∗ (∃ d, owns (c : Thread nD τ) (st0_4 t) fullShare ((dats m 0 c).before 4 t d)) ∗ (∃ X, owns (c : Thread nD τ) (st0_5 t) fullShare (X)) ∗ (∃ X, owns (c : Thread nD τ) (st0_6 t) fullShare (X)) ∗ (∃ d, owns (c : Thread nD τ) (st0_7 t) fullShare ((dats m 0 c).before 7 t d)))
def bodyPost (c : Dev nD) (t : Fin (cfg0 (F := F)).N) : sProp 𝕄 :=
  iprop((dats m 0 c).Φ t.succ ∗ (dats m 0 c).owesAt () t.succ ∗ owns (c : Thread nD τ) (st0_0 t) fullShare ((dats m 0 c).after 0 t) ∗ owns (c : Thread nD τ) (st0_1 t) fullShare ((dats m 0 c).after 1 t) ∗ owns (c : Thread nD τ) (st0_2 t) fullShare ((dats m 0 c).after 2 t) ∗ owns (c : Thread nD τ) (st0_3 t) fullShare ((dats m 0 c).after 3 t) ∗ owns (c : Thread nD τ) (st0_4 t) fullShare ((dats m 0 c).after 4 t) ∗ (∃ X, owns (c : Thread nD τ) (st0_5 t) fullShare (X)) ∗ (∃ X, owns (c : Thread nD τ) (st0_6 t) fullShare (X)) ∗ owns (c : Thread nD τ) (st0_7 t) fullShare ((dats m 0 c).after 7 t))

theorem defs₀_row (t : Fin (cfg0 (F := F)).N) : defs₀ (F := F) .tc (cfg0 (F := F)).body ((cfg0 (F := F)).bodyArgs t ((cfg0 (F := F)).slots t)) = bodyAt0 t := by
  unfold defs₀; rw [Defs.onTc_tc]

/-- The body runs from what the pipeline hands it to what it hands back. -/
theorem sound_body (c : Dev nD) (t : Fin (cfg0 (F := F)).N) :
    bodyPre m c t ⊢ wp frame (wpE (defs₀ (F := F)) Variants.nat c none) Set.univ (bodyAt0 t) (fun _ => bodyPost m c t) := by
  unfold bodyPre bodyPost bodyAt0
  rw [show (dats m 0 c).Φ t.succ = Pipeline.ΦD osem0 spec0 H0 (V m) c from rfl, show (dats m 0 c).Φ t.castSucc = Pipeline.ΦD osem0 spec0 H0 (V m) c from rfl]
  unfold Dat.owesAt Pipeline.owesWithin
  rw [show (dats m 0 c).owed t.castSucc = 0 from rfl, show (dats m 0 c).owed t.succ = 0 from rfl]
  simp only [before0_0, before0_1, before0_2, before0_3, before0_4]
  rw [after0_0, after0_1, after0_2, after0_3, after0_4, after0_7]
  obtain ⟨L, hL, hW⟩ := lens_exists (blkIn m c 0 t) (lens_blk m c t)
  unfold owns
  iintro ⟨HΦ, ⟨%W0, -, HW⟩, ⟨%d0, %f0, %e0, H0⟩, ⟨%d1, %f1, %e1, H1⟩, ⟨%d2, %f2, %e2, H2⟩, ⟨%d3, %f3, %e3, H3⟩, ⟨%d4, %f4, %e4, H4⟩, ⟨%d5, %f5, -, H5⟩, ⟨%d6, %f6, -, H6⟩, ⟨%d7, %f7, -, H7⟩⟩
  ihave HΦ := (phi_open m c) $$ HΦ
  icases HΦ with ⟨Hg, HK, HV, S2, S3, S4, S5, S6, S7, S8⟩
  have hOk : LensOk (st0_0 t) c f0 L := ⟨hL, fun i => by rw [← hW i]; exact congrFun e0 i⟩
  have hb := body_wp (F := F) (f0 := f0) (f1 := f1) (f4 := f4) c (st0_0 t) (hstage0_0 0) (st0_1 t) (hstage0_1 0) (Memref.whole cc0_scratch2) (isW _) (Memref.whole cc0_scratch3) (isW _) (Memref.whole cc0_scratch4) (isW _) (Memref.whole cc0_scratch5) (isW _) (Memref.whole cc0_scratch6) (isW _) (Memref.whole cc0_scratch7) (isW _) (st0_4 t) (hstage0_4 0) (st0_6 t) (hstage0_6 0) (Memref.whole cc0_scratch8) (isW _) (st0_5 t) (hstage0_5 0) (st0_2 t) (hstage0_2 0) (st0_3 t) (hstage0_3 0) (st0_7 t) (hstage0_7 0) hOk (V m c main_v2) (V m c main_v4) f2 f3
  iapply (hb.trans (Idealize.SL.Sem.wp_wand frame (wpE (defs₀ (F := F)) Variants.nat (c : Thread nD τ) none) Set.univ)) $$ [HK HV H0 H1 H4 S2 S3 S4 S5 S6 S7 S8 H6 H5 H2 H3 H7 HW]
  · isplitl [HK]; · iexact HK
    isplitl [HV]; · iexact HV
    isplitl [H0 H1 H4 S2 S3 S4 S5 S6 S7 S8 H6 H5]
    · unfold Bufs
      isplitl [H0]; · iexact H0
      isplitl [H1]; · iexact H1
      isplitl [H4]; · iexact H4
      isplitl [S2]; · iexact S2
      isplitl [S3]; · iexact S3
      isplitl [S4]; · iexact S4
      isplitl [S5]; · iexact S5
      isplitl [S6]; · iexact S6
      isplitl [S7]; · iexact S7
      isplitl [S8]; · iexact S8
      isplitl [H6]; · iexists _; iexact H6
      iexists _; iexact H5
    isplitl [H2]; · iexact H2
    isplitl [H3]; · iexact H3
    isplitl [H7]; · iexists _; iexact H7
    iexists _; iexact HW
  iintro %u ⟨HK, HV, HB, H2, H3, ⟨%f9, %e9, H7⟩, ⟨%W1, HW⟩⟩
  unfold Bufs
  icases HB with ⟨H0, H1, H4, S2, S3, S4, S5, S6, S7, S8, ⟨%g6, H6⟩, ⟨%g5, H5⟩⟩
  isplitl [Hg HK HV S2 S3 S4 S5 S6 S7 S8]
  · iapply (phi_close m c)
    isplitl [Hg]; · iexact Hg
    isplitl [HK]; · iexact HK
    isplitl [HV]; · iexact HV
    isplitl [S2]; · iexact S2
    isplitl [S3]; · iexact S3
    isplitl [S4]; · iexact S4
    isplitl [S5]; · iexact S5
    isplitl [S6]; · iexact S6
    isplitl [S7]; · iexact S7
    iexact S8
  isplitl [HW]
  · iexists W1; isplitr; · ipureintro; exact fun _ _ => Or.inl trivial
    iexact HW
  isplitl [H0]
  · iexists f0; isplitr; · ipureintro; exact e0
    iexact H0
  isplitl [H1]
  · iexists f1; isplitr; · ipureintro; exact e1
    iexact H1
  isplitl [H2]
  · iexists f2; isplitr; · ipureintro; exact e2
    iexact H2
  isplitl [H3]
  · iexists f3; isplitr; · ipureintro; exact e3
    iexact H3
  isplitl [H4]
  · iexists f4; isplitr; · ipureintro; exact e4
    iexact H4
  isplitl [H5]
  · iexists _; iexists g5; isplitr; · ipureintro; rfl
    iexact H5
  isplitl [H6]
  · iexists _; iexists g6; isplitr; · ipureintro; rfl
    iexact H6
  iexists f9; isplitr
  · ipureintro
    refine e9.trans ?_
    unfold codesAt
    exact congrArg₂ (k0_pay4 (F := F)) e3 e4
  iexact H7

theorem body_obligation (c : Dev nD) : BodyObligation (dats (F := F) m 0 c) (defs₀ (F := F)) Variants.nat () Set.univ forgets0 := fun t => by
  rw [bigSep_W0, bigSep_W0, defs₀_row]
  exact triple_restated (sound_body m c t) rfl .rfl fun _ => .rfl

variable (g : Dev nD → PrngReg)

set_option backward.isDefEq.respectTransparency.types false in
/-- Every run terminates with the counters at zero and the buffers as the proof data says. -/
theorem run_main :
    θ_run defs (onTc (τ := τ) (main (F := F))) (s₀ m g)
      (fun r => Pipeline.RDat.FramePost (cfgs 0) (fun c => (dats m 0 c).toRForget forgets0) (V m) r ∧ r.2.sem = fun _ => 0) :=
  Pipeline.θ_run_frame_dma_forget (Q' := _) cfgs (dats m) (0 : Fin 1) launch0 osem0 defs₀ Variants.nat forgets0 ownSemFacts0 H0 H0_sub m g main
    (hbody := fun c => (body_obligation m c).loose) (hshare := fun c => (dats m 0 c).share_full fun _ => rfl)
    (howed := fun _ _ => rfl) (V := V m) (hmain := hmain m Variants.nat) (hA := A_eq m)
    (hin := fun _ => .rfl) (hout := fun _ => .rfl)

/-- The arguments end as they were. -/
theorem final_arg {r : PUnit × MemSt nD τ sig (Elt F)}
    (h : Pipeline.RDat.FramePost (cfgs 0) (fun c => (dats (F := F) m 0 c).toRForget forgets0) (V m) r) (c : Dev nD) (b : Ref sig .tc)
    (hb : b ∈ [main_arg0, main_arg1, main_arg2, main_arg3, main_arg4, main_arg5, main_arg6]) (hr : b ∈ Pipeline.restRefs sig spec0) :
    r.2.mem ((c : Thread nD τ).loc b) = m ((c : Thread nD τ).loc b) :=
  ((h c).2 b hr).trans (V_of_arg m c b hb)

/-- The frame. -/
theorem frame : θ_run defs (onTc (τ := τ) (main (F := F))) ⟨m, fun _ => 0, g⟩
    (fun r => (∀ c : Dev nD, r.2.mem ((c.tc : Thread nD τ).loc main_arg0) = m ((c.tc : Thread nD τ).loc main_arg0) ∧ r.2.mem ((c.tc : Thread nD τ).loc main_arg1) = m ((c.tc : Thread nD τ).loc main_arg1) ∧ r.2.mem ((c.tc : Thread nD τ).loc main_arg2) = m ((c.tc : Thread nD τ).loc main_arg2) ∧ r.2.mem ((c.tc : Thread nD τ).loc main_arg3) = m ((c.tc : Thread nD τ).loc main_arg3) ∧ r.2.mem ((c.tc : Thread nD τ).loc main_arg4) = m ((c.tc : Thread nD τ).loc main_arg4) ∧ r.2.mem ((c.tc : Thread nD τ).loc main_arg5) = m ((c.tc : Thread nD τ).loc main_arg5) ∧ r.2.mem ((c.tc : Thread nD τ).loc main_arg6) = m ((c.tc : Thread nD τ).loc main_arg6)) ∧ r.2.sem = fun _ => 0) :=
  (θ_run defs _ _).mono (fun r (h : _ ∧ _) => ⟨fun c => ⟨final_arg m h.1 c main_arg0 (by decide) (Pipeline.mem_restRefs_of main_arg0 (by decide) (by decide)), final_arg m h.1 c main_arg1 (by decide) (Pipeline.mem_restRefs_of main_arg1 (by decide) (by decide)), final_arg m h.1 c main_arg2 (by decide) (Pipeline.mem_restRefs_of main_arg2 (by decide) (by decide)), final_arg m h.1 c main_arg3 (by decide) (Pipeline.mem_restRefs_of main_arg3 (by decide) (by decide)), final_arg m h.1 c main_arg4 (by decide) (Pipeline.mem_restRefs_of main_arg4 (by decide) (by decide)), final_arg m h.1 c main_arg5 (by decide) (Pipeline.mem_restRefs_of main_arg5 (by decide) (by decide)), final_arg m h.1 c main_arg6 (by decide) (Pipeline.mem_restRefs_of main_arg6 (by decide) (by decide))⟩, h.2⟩) (run_main m g)

end Cert.Kernel.Hand
-- ==== Proof.KI.Words.lean ====
module

public import proofs.«01_k».proof.Proof.Gen.KernelIdeal.Skeleton
public import proofs.«01_k».proof.Proof.Cursor

@[expose] public section

set_option maxRecDepth 16384

/-!
The kernel's conditions, sizes, offsets and checks, read at cursor words.
-/

namespace Cert.KernelIdeal.Hand

open Idealize.ShloMosaic Cert.KernelIdeal.Gen Cert.KernelIdeal Cert.Words

theorem cond1_W {a : ℕ} (ha : a ≤ 4) : k0_cond1 (W a) = BitVec.ofBool (decide (a < 4)) := by
  show Scalar.cmpi .ne (Scalar.extui (Scalar.cmpi .slt (W a) (W 4))) 0#32 = _
  rw [slt_W (by omega) (by omega), guard_b]
theorem cond2_W {a : ℕ} (ha : a ≤ 4) : k0_cond2 (W a) = BitVec.ofBool (decide (a < 4)) := cond1_W ha
theorem cond3_W {a : ℕ} (ha : a ≤ 4) : k0_cond3 (W a) = BitVec.ofBool (decide (a < 4)) := cond1_W ha

/-- The two movement bits of a trip. -/
theorem kbit_W {a : ℕ} (ha : a ≤ 4) : Scalar.cmpi .slt (W a) 4#32 = BitVec.ofBool (decide (a < 4)) := by
  rw [show (4#32 : BitVec 32) = W 4 from rfl, slt_W (by omega) (by omega)]
theorem vbit_W {a g b h : ℕ} (ha : a ≤ 4) (hg : g < 6) (hb : b ≤ 4) (hh : h < 6) :
    Scalar.cmpi .sgt (Scalar.addi (Scalar.muli (W a) 6#32) (W g)) (Scalar.addi (Scalar.muli (W b) 6#32) (W h)) =
      BitVec.ofBool (decide (b * 6 + h < a * 6 + g)) := by
  rw [show (6#32 : BitVec 32) = W 6 from rfl, muli_W, muli_W, addi_W, addi_W, sgt_W (by omega) (by omega)]

theorem cond4_W {a g b h : ℕ} (ha : a ≤ 4) (hg : g < 6) (hb : b ≤ 4) (hh : h < 6) :
    k0_cond4 (W a) (W g) (W b) (W h) = BitVec.ofBool (decide (b * 6 + h < a * 6 + g)) := by
  show Scalar.cmpi .ne (Scalar.extui (Scalar.cmpi .sgt (Scalar.addi (Scalar.muli (W a) 6#32) (W g)) (Scalar.addi (Scalar.muli (W b) 6#32) (W h)))) 0#32 = _
  rw [vbit_W ha hg hb hh, guard_b]
theorem cond5_W {a g b h : ℕ} (ha : a ≤ 4) (hg : g < 6) (hb : b ≤ 4) (hh : h < 6) :
    k0_cond5 (W a) (W g) (W b) (W h) = BitVec.ofBool (decide (a < 4) && decide (b * 6 + h < a * 6 + g)) := by
  show Scalar.cmpi .ne (Scalar.extui (Scalar.andi (Scalar.cmpi .slt (W a) 4#32) (Scalar.cmpi .sgt (Scalar.addi (Scalar.muli (W a) 6#32) (W g)) (Scalar.addi (Scalar.muli (W b) 6#32) (W h))))) 0#32 = _
  rw [kbit_W ha, vbit_W ha hg hb hh, andi_b, guard_b]
theorem cond6_W {a g b h : ℕ} (ha : a ≤ 4) (hg : g < 6) (hb : b ≤ 4) (hh : h < 6) :
    k0_cond6 (W a) (W g) (W b) (W h) = BitVec.ofBool (decide (a < 4) && !decide (b * 6 + h < a * 6 + g)) := by
  show Scalar.cmpi .ne (Scalar.extui (Scalar.andi (Scalar.cmpi .slt (W a) 4#32) (Scalar.xori (Scalar.cmpi .sgt (Scalar.addi (Scalar.muli (W a) 6#32) (W g)) (Scalar.addi (Scalar.muli (W b) 6#32) (W h))) 1#1))) 0#32 = _
  rw [kbit_W ha, vbit_W ha hg hb hh, xori_b, andi_b, guard_b]
theorem cond7_W {a : ℕ} (ha : a ≤ 4) : k0_cond7 (W a) = BitVec.ofBool (!decide (a < 4)) := by
  show Scalar.cmpi .ne (Scalar.extui (Scalar.xori (Scalar.cmpi .slt (W a) 4#32) 1#1)) 0#32 = _
  rw [kbit_W ha, xori_b, guard_b]
theorem cond8_W {a b : ℕ} (ha : a ≤ 4) (hb : b ≤ 4) :
    k0_cond8 (W a) (W b) = BitVec.ofBool (decide (a < 4) && decide (b < 4)) := by
  show Scalar.cmpi .ne (Scalar.extui (Scalar.andi (Scalar.cmpi .slt (W a) 4#32) (Scalar.cmpi .slt (W b) 4#32))) 0#32 = _
  rw [kbit_W ha, kbit_W hb, andi_b, guard_b]
theorem cond9_W {a g b h p : ℕ} (ha : a ≤ 4) (hg : g < 6) (hb : b ≤ 4) (hh : h < 6) (hp : p ≤ 4) :
    k0_cond9 (W a) (W g) (W b) (W h) (W p) = BitVec.ofBool (decide (b * 6 + h < a * 6 + g) && decide (p < 4)) := by
  show Scalar.cmpi .ne (Scalar.extui (Scalar.andi (Scalar.cmpi .sgt (Scalar.addi (Scalar.muli (W a) 6#32) (W g)) (Scalar.addi (Scalar.muli (W b) 6#32) (W h))) (Scalar.cmpi .slt (W p) 4#32))) 0#32 = _
  rw [kbit_W hp, vbit_W ha hg hb hh, andi_b, guard_b]
theorem cond10_W {a c L : ℕ} (ha : a ≤ 4) (hc : c < 8) (hL : L ≤ 32768) :
    k0_cond10 (W a) (W c) (W L) = BitVec.ofBool (decide (a < 4) && decide (c + 1 = nchOf L)) := by
  have h8 := nchOf_le hL
  show Scalar.cmpi .ne (Scalar.extui (Scalar.andi (Scalar.cmpi .slt (W a) 4#32) (Scalar.cmpi .eq (Scalar.addi (W c) (W 1)) (nchw (W L))))) 0#32 = _
  rw [kbit_W ha, nchw_W hL, addi_W, eq_W (by omega) (by omega), andi_b, guard_b]
theorem cond11_W {a g b h c L : ℕ} (ha : a ≤ 4) (hg : g < 6) (hb : b ≤ 4) (hh : h < 6) (hc : c < 8) (hL : L ≤ 32768) :
    k0_cond11 (W a) (W g) (W b) (W h) (W c) (W L) = BitVec.ofBool (decide (b * 6 + h < a * 6 + g) && decide (c + 1 = nchOf L)) := by
  have h8 := nchOf_le hL
  show Scalar.cmpi .ne (Scalar.extui (Scalar.andi (Scalar.cmpi .sgt (Scalar.addi (Scalar.muli (W a) 6#32) (W g)) (Scalar.addi (Scalar.muli (W b) 6#32) (W h))) (Scalar.cmpi .eq (Scalar.addi (W c) (W 1)) (nchw (W L))))) 0#32 = _
  rw [vbit_W ha hg hb hh, nchw_W hL, addi_W, eq_W (by omega) (by omega), andi_b, guard_b]

theorem ofBool_lt {a b : ℕ} {c : BitVec 1} (h : c = BitVec.ofBool (decide (a < b))) (hc : c = 1#1) : a < b := by
  rw [h, ofBool_one] at hc; simpa using hc
theorem ofBool_and1 {p q : Bool} {c : BitVec 1} (h : c = BitVec.ofBool (p && q)) (hc : c = 1#1) : p = true := by
  rw [h, ofBool_one] at hc; simp at hc; exact hc.1
theorem ofBool_and2 {p q : Bool} {c : BitVec 1} (h : c = BitVec.ofBool (p && q)) (hc : c = 1#1) : q = true := by
  rw [h, ofBool_one] at hc; simp at hc; exact hc.2

/-! ### Sizes -/

theorem szN {c L : ℕ} (hL : L ≤ 32768) (hc : c < nchOf L) : (k0_mult1 (W c) (W L)).toNat = szOf c L := by
  show (szw (W c) (W L)).toNat = _
  rw [szw_W hL hc, toNat_W (by have := szOf_le c L; omega)]
theorem szDvd {c L : ℕ} (hL : L ≤ 32768) (hc : c < nchOf L) : 128 ∣ (k0_mult1 (W c) (W L)).toNat := by
  rw [szN hL hc]; exact ⟨_, rfl⟩
theorem colDvd {c : ℕ} (hc : c < 8) : 128 ∣ (Scalar.muli (W c) 4096#32).toNat := by
  rw [colN hc]; exact ⟨c * 32, by omega⟩
theorem szFit {c L : ℕ} (hL : L ≤ 32768) (hc : c < nchOf L) :
    (Scalar.muli (W c) 4096#32).toNat + (k0_mult1 (W c) (W L)).toNat ≤ 32768 := by
  have := nchOf_le hL
  rw [szN hL hc, colN (by omega)]; exact szOf_fits hL hc
theorem szFit0 {c L : ℕ} (hL : L ≤ 32768) (hc : c < nchOf L) : 0 + (k0_mult1 (W c) (W L)).toNat ≤ 4096 := by
  rw [szN hL hc, Nat.zero_add]; exact szOf_le c L
theorem szNe {c L : ℕ} (hL : L ≤ 32768) (hc : c < nchOf L) : (k0_mult1 (W c) (W L)).toNat ≠ 1 := by
  rw [szN hL hc]; have := szOf_pos c L; omega

/-! ### Checks of the prefetch loops -/

theorem chk1_W {a : ℕ} (ha : a ≤ 4) : k0_chk1 (W a) :=
  ⟨fun _ => inb1 (lenLt ha), inb1 (lenLt ha)⟩
theorem chk3_W {a c : ℕ} (hc : c < 8) : k0_chk3 (W a) (W c) := fun _ => colDvd hc
theorem iv1N (t : Fin k0_t1_loop.trips) : (Scf.iv 0#32 1#32 t.val).toNat = t.val := by
  have : t.val < 6 := t.isLt
  revert t; decide
theorem chk2_W (t : Fin k0_t1_loop.trips) {a g c L : ℕ} (ha : a ≤ 4) (hg : g < 6) (hL : L ≤ 32768) (hc : a < 4 → c < nchOf L) :
    k0_chk2 t (W a) (W g) (W c) (W L) := by
  have hx : k0_cond1 (W a) = 1#1 → a < 4 := ofBool_lt (cond1_W ha)
  have ht : (Scf.iv 0#32 1#32 t.val).toNat < 6 := by rw [iv1N]; exact t.isLt
  exact ⟨fun h => szDvd hL (hc (hx h)), fun h => inbD ht (szFit0 hL (hc (hx h))), fun h => sq3 (by decide) (szNe hL (hc (hx h))),
    fun h => inbD (pairLt (hx h) hg) (szFit hL (hc (hx h))), fun h => sq3 (by decide) (szNe hL (hc (hx h))),
    fun _ hinb => Or.inr ⟨by decide, rfl, rfl, rfl⟩, fun _ hinb => Or.inr ⟨by decide, rfl, rfl, rfl⟩⟩

theorem chk4_W {a : ℕ} (ha : a ≤ 4) : k0_chk4 (W a) :=
  ⟨fun _ => inb1 (lenLt ha), inb1 (lenLt ha)⟩
theorem chk6_W {a c : ℕ} (hc : c < 8) : k0_chk6 (W a) (W c) := fun _ => colDvd hc
theorem iv2N (t : Fin k0_t2_loop.trips) : (Scf.iv 0#32 1#32 t.val).toNat = t.val := by
  have : t.val < 8 := t.isLt
  revert t; decide
theorem chk5_W (t : Fin k0_t2_loop.trips) {a g c L : ℕ} (ha : a ≤ 4) (hg : g < 6) (hL : L ≤ 32768) (hc : a < 4 → c < nchOf L) :
    k0_chk5 t (W a) (W g) (W c) (W L) := by
  have hx : k0_cond2 (W a) = 1#1 → a < 4 := ofBool_lt (cond2_W ha)
  have ht : (Scf.iv 0#32 1#32 t.val).toNat < 8 := by rw [iv2N]; exact t.isLt
  exact ⟨fun h => szDvd hL (hc (hx h)), fun h => inbD ht (szFit0 hL (hc (hx h))), fun h => sq3 (by decide) (szNe hL (hc (hx h))),
    fun h => inbD (pairLt (hx h) hg) (szFit hL (hc (hx h))), fun h => sq3 (by decide) (szNe hL (hc (hx h))),
    fun _ hinb => Or.inr ⟨by decide, rfl, rfl, rfl⟩, fun _ hinb => Or.inr ⟨by decide, rfl, rfl, rfl⟩⟩

/-! ### Checks of the main loop -/

section Main
variable {a g c b h d L L' p q e p' q' e' s : ℕ}

theorem chk9_W (hc : c < 8) : k0_chk9 (W a) (W c) := fun _ => colDvd hc
theorem chk13_W (hc : d < 8) : k0_chk13 (W a) (W g) (W b) (W h) (W d) := fun _ => colDvd hc
theorem chk19_W (hc : e < 8) : k0_chk19 (W a) (W p) (W e) := fun _ => colDvd hc
theorem chk22_W (hc : e < 8) : k0_chk22 (W a) (W g) (W b) (W h) (W p) (W e) := fun _ => colDvd hc
theorem chk7_W (ha : a ≤ 4) : k0_chk7 (W a) := ⟨fun _ => inb1 (lenLt ha), inb1 (lenLt ha), inb1 (lenLt ha)⟩
theorem chk24_W (ha : b ≤ 4) : k0_chk24 (W b) := ⟨inb1 (lenLt ha), inb1 (lenLt ha)⟩
theorem chk17_W (ha : p ≤ 4) : k0_chk17 (W a) (W p) := ⟨fun _ => inb1 (lenLt ha), inb1 (lenLt ha)⟩
theorem chk20_W (ha : p ≤ 4) : k0_chk20 (W a) (W g) (W b) (W h) (W p) := ⟨fun _ => inb1 (lenLt ha), inb1 (lenLt ha)⟩
theorem chk10_W (hs : s < 6) : k0_chk10 (W a) (W g) (W b) (W h) (W p) (W s) :=
  ⟨fun _ => inb1 (wLt hs (by decide)), fun _ => inb3 (wLt hs (by decide)), fun _ => inb3 (wLt hs (by decide)), fun _ => inb1 (wLt hs (by decide))⟩
theorem chk14_W (hs : s < 8) : k0_chk14 (W a) (W g) (W b) (W h) (W p) (W s) :=
  ⟨fun _ => inb1 (wLt hs (by decide)), fun _ => inb3 (wLt hs (by decide)), fun _ => inb3 (wLt hs (by decide)), fun _ => inb1 (wLt hs (by decide))⟩
theorem chk15_W (hs : s < 16) : k0_chk15 (W a) (W g) (W b) (W h) (W s) :=
  ⟨fun _ => inb3 (wLt hs (by decide)), fun _ => inb3 (wLt hs (by decide))⟩
theorem chk16_W (hs : s < 16) : k0_chk16 (W a) (W g) (W b) (W h) (W s) :=
  ⟨⟨fun _ => inb3t (wLt hs (by decide)) (by decide),
    fun _ => inb3t (wLt hs (by decide)) (by decide),
    fun _ => inb3t (wLt hs (by decide)) (by decide),
    fun _ => inb3t (wLt hs (by decide)) (by decide),
    fun _ => inb3t (wLt hs (by decide)) (by decide),
    fun _ => inb3t (wLt hs (by decide)) (by decide),
    fun _ => inb3t (wLt hs (by decide)) (by decide),
    fun _ => inb3t (wLt hs (by decide)) (by decide),
    fun _ => inb3t (wLt hs (by decide)) (by decide),
    fun _ => inb3t (wLt hs (by decide)) (by decide),
    fun _ => inb3t (wLt hs (by decide)) (by decide),
    fun _ => inb3t (wLt hs (by decide)) (by decide),
    fun _ => inb3t (wLt hs (by decide)) (by decide),
    fun _ => inb3t (wLt hs (by decide)) (by decide),
    fun _ => inb3t (wLt hs (by decide)) (by decide),
    fun _ => inb3t (wLt hs (by decide)) (by decide),
    fun _ => inb3t (wLt hs (by decide)) (by decide),
    fun _ => inb3t (wLt hs (by decide)) (by decide),
    fun _ => inb3t (wLt hs (by decide)) (by decide),
    fun _ => inb3t (wLt hs (by decide)) (by decide),
    fun _ => inb3t (wLt hs (by decide)) (by decide),
    fun _ => inb3t (wLt hs (by decide)) (by decide),
    fun _ => inb3t (wLt hs (by decide)) (by decide),
    fun _ => inb3t (wLt hs (by decide)) (by decide),
    fun _ => inb3t (wLt hs (by decide)) (by decide),
    fun _ => inb3t (wLt hs (by decide)) (by decide),
    fun _ => inb3t (wLt hs (by decide)) (by decide),
    fun _ => inb3t (wLt hs (by decide)) (by decide),
    fun _ => inb3t (wLt hs (by decide)) (by decide),
    fun _ => inb3t (wLt hs (by decide)) (by decide),
    fun _ => inb3t (wLt hs (by decide)) (by decide),
    fun _ => inb3t (wLt hs (by decide)) (by decide)⟩,
   ⟨fun _ => inb3t (wLt hs (by decide)) (by decide),
    fun _ => inb3t (wLt hs (by decide)) (by decide),
    fun _ => inb3t (wLt hs (by decide)) (by decide),
    fun _ => inb3t (wLt hs (by decide)) (by decide),
    fun _ => inb3t (wLt hs (by decide)) (by decide),
    fun _ => inb3t (wLt hs (by decide)) (by decide),
    fun _ => inb3t (wLt hs (by decide)) (by decide),
    fun _ => inb3t (wLt hs (by decide)) (by decide),
    fun _ => inb3t (wLt hs (by decide)) (by decide),
    fun _ => inb3t (wLt hs (by decide)) (by decide),
    fun _ => inb3t (wLt hs (by decide)) (by decide),
    fun _ => inb3t (wLt hs (by decide)) (by decide),
    fun _ => inb3t (wLt hs (by decide)) (by decide),
    fun _ => inb3t (wLt hs (by decide)) (by decide),
    fun _ => inb3t (wLt hs (by decide)) (by decide),
    fun _ => inb3t (wLt hs (by decide)) (by decide),
    fun _ => inb3t (wLt hs (by decide)) (by decide),
    fun _ => inb3t (wLt hs (by decide)) (by decide),
    fun _ => inb3t (wLt hs (by decide)) (by decide),
    fun _ => inb3t (wLt hs (by decide)) (by decide),
    fun _ => inb3t (wLt hs (by decide)) (by decide),
    fun _ => inb3t (wLt hs (by decide)) (by decide),
    fun _ => inb3t (wLt hs (by decide)) (by decide),
    fun _ => inb3t (wLt hs (by decide)) (by decide),
    fun _ => inb3t (wLt hs (by decide)) (by decide),
    fun _ => inb3t (wLt hs (by decide)) (by decide),
    fun _ => inb3t (wLt hs (by decide)) (by decide),
    fun _ => inb3t (wLt hs (by decide)) (by decide),
    fun _ => inb3t (wLt hs (by decide)) (by decide),
    fun _ => inb3t (wLt hs (by decide)) (by decide),
    fun _ => inb3t (wLt hs (by decide)) (by decide),
    fun _ => inb3t (wLt hs (by decide)) (by decide)⟩⟩
theorem chk8_W (hg : g < 6) (ha : a ≤ 4) (hL : L ≤ 32768) (hc : a < 4 → c < nchOf L) : k0_chk8 (W a) (W g) (W c) (W s) (W L) := by
  have hx : k0_cond3 (W a) = 1#1 → a < 4 := ofBool_lt (cond3_W ha)
  exact ⟨fun h => szDvd hL (hc (hx h)), fun h => sq3 (by decide) (szNe hL (hc (hx h))), fun h => sq3 (by decide) (szNe hL (hc (hx h)))⟩
theorem chk12_W (hL : L ≤ 32768) (hc : k0_cond4 (W a) (W g) (W b) (W h) = 1#1 → d < nchOf L) :
    k0_chk12 (W a) (W g) (W b) (W h) (W d) (W s) (W L) :=
  ⟨fun h => szDvd hL (hc h), fun h => sq3 (by decide) (szNe hL (hc h)), fun h => sq3 (by decide) (szNe hL (hc h))⟩
theorem chk11_W (ha : a ≤ 4) (hg : g < 6) (hb : b ≤ 4) (hh : h < 6) (hb7 : k0_cond7 (W a) = 1#1 → b < 4)
    (hb5 : k0_cond5 (W a) (W g) (W b) (W h) = 1#1 → b < 4) : k0_chk11 (W a) (W g) (W b) (W h) := by
  have h5 : k0_cond5 (W a) (W g) (W b) (W h) = 1#1 → a < 4 := fun hc => by
    simpa using ofBool_and1 (cond5_W ha hg hb hh) hc
  have h6 : k0_cond6 (W a) (W g) (W b) (W h) = 1#1 → a < 4 := fun hc => by
    simpa using ofBool_and1 (cond6_W ha hg hb hh) hc
  exact ⟨fun _ => inb1 (lenLt hb), fun x => inb3 (pairLt (h5 x) hg), fun _ => inb1 (lenLt ha), fun x => inb3 (pairLt (hb5 x) hh),
    fun x => inb3 (pairLt (h6 x) hg), fun _ => inb1 (lenLt ha), fun x => inb3 (pairLt (hb7 x) hh)⟩
theorem chk18_W (ha : a ≤ 4) (hp : p ≤ 4) (hq : q < 6) (hL : L ≤ 32768) (hc : p < 4 → e < nchOf L) (hs : s < 6) :
    k0_chk18 (W a) (W p) (W q) (W e) (W s) (W L) := by
  have hx : k0_cond8 (W a) (W p) = 1#1 → p < 4 := fun hc => by
    simpa using ofBool_and2 (cond8_W ha hp) hc
  exact ⟨fun h => szDvd hL (hc (hx h)), fun h => inbD (wLt hs (by decide)) (szFit0 hL (hc (hx h))), fun h => sq3 (by decide) (szNe hL (hc (hx h))),
    fun h => inbD (pairLt (hx h) hq) (szFit hL (hc (hx h))), fun h => sq3 (by decide) (szNe hL (hc (hx h))),
    fun _ hinb => Or.inr ⟨by decide, rfl, rfl, rfl⟩, fun _ hinb => Or.inr ⟨by decide, rfl, rfl, rfl⟩⟩
theorem chk21_W (ha : a ≤ 4) (hg : g < 6) (hb : b ≤ 4) (hh : h < 6) (hp : p ≤ 4) (hq : q < 6) (hL : L ≤ 32768) (hc : p < 4 → e < nchOf L) (hs : s < 8) :
    k0_chk21 (W a) (W g) (W b) (W h) (W p) (W q) (W e) (W s) (W L) := by
  have hx : k0_cond9 (W a) (W g) (W b) (W h) (W p) = 1#1 → p < 4 := fun hc => by
    simpa using ofBool_and2 (cond9_W ha hg hb hh hp) hc
  exact ⟨fun h => szDvd hL (hc (hx h)), fun h => inbD (wLt hs (by decide)) (szFit0 hL (hc (hx h))), fun h => sq3 (by decide) (szNe hL (hc (hx h))),
    fun h => inbD (pairLt (hx h) hq) (szFit hL (hc (hx h))), fun h => sq3 (by decide) (szNe hL (hc (hx h))),
    fun _ hinb => Or.inr ⟨by decide, rfl, rfl, rfl⟩, fun _ hinb => Or.inr ⟨by decide, rfl, rfl, rfl⟩⟩
theorem chk23_W (ha : a ≤ 4) (hg : g < 6) (hc : c < 8) (hL : L ≤ 32768) : k0_chk23 (W a) (W g) (W c) (W L) := by
  have hx : k0_cond10 (W a) (W c) (W L) = 1#1 → a < 4 := fun x => by
    simpa using ofBool_and1 (cond10_W ha hc hL) x
  exact ⟨fun x => inb3 (pairLt (hx x) hg), fun x => inb3r (wLt hg (by decide)) (wLt (hx x) (by decide)), fun x => inb3 (pairLt (hx x) hg)⟩
theorem chk25_W (hh : h < 6) (hb : k0_cond11 (W a) (W g) (W b) (W h) (W d) (W L) = 1#1 → b < 4) :
    k0_chk25 (W a) (W g) (W b) (W h) (W d) (W L) :=
  ⟨fun x => inb3 (pairLt (hb x) hh), fun x => inb3 (pairLt (hb x) hh),
    fun x => inb3r (wLt hh (by decide)) (wLt (hb x) (by decide)),
    fun _ _ => Affine.packed_dvd (by decide) ⟨0, rfl⟩ ⟨4, rfl⟩⟩

end Main

/-- A memref over a whole buffer is whole. -/
theorem isW (b : Ref sig .tc) : (Memref.whole b).IsWhole := Memref.isWhole_whole b

end Cert.KernelIdeal.Hand
-- ==== Proof.KI.Ring.lean ====
module

public import proofs.«01_k».proof.Proof.KI.Words
public import proofs.«01_k».proof.Proof.Gen.KernelIdeal.Launch
public import Idealize.ShloMosaic.Lib.Pipeline.FrameBody
public import Idealize.ShloMosaic.Lib.Pipeline.DatRel
public import Idealize.ShloMosaic.Lib.Ring
public import Idealize.ShloMosaic.Lib.Tactic
public import Idealize.ShloMosaic.Lib.WordCmp

@[expose] public section

set_option maxRecDepth 16384

/-!
The two rings of in-flight transfers: what a slot holds, issuing into it, waiting for it.
-/

noncomputable section

namespace Cert.KernelIdeal.Hand

open Cert.KernelIdeal Cert.KernelIdeal.Gen Cert.Words
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! ## The K ring -/

/-- The whole scratch buffer of the K ring, at the device's memory. -/
abbrev locK (c : Dev nD) : Loc nD τ sig := (Memref.whole cc0_scratch0).view.loc (c : Thread nD τ)
/-- The operand in HBM the K ring streams. -/
abbrev hbmK (c : Dev nD) : Loc nD τ sig := (Memref.whole main_v2).view.loc (c : Thread nD τ)
/-- The elements of slot `k`. -/
def slotK (c : Dev nD) (k : ℕ) : Finset (Idx (locK c)) := Finset.univ.filter fun i : S6x160x4096.Idx => (i 0).val = k
/-- The completion cell of slot `k`. -/
abbrev cellK (k : Fin 6) : SemLoc sig := SemLoc.dma ⟨8 + k.val, by have := k.isLt; show 8 + k.val < 22; omega⟩
/-- The read share of the operand lent to the transfers of slot `k`. -/
abbrev shareK (k : Fin 6) : PosShare TreeShare := Transfers.shareTok fullShare 6 k
/-- A transfer's credit: its size. -/
abbrev credK (n : ℕ) : ℕ := (cc0_scratch0 : Ref sig .tc).dmaCredit ⟨2, ![160, n]⟩ .bf16

theorem mem_slotK (c : Dev nD) (k : ℕ) (i : S6x160x4096.Idx) : (show Idx (locK c) from i) ∈ slotK c k ↔ (i 0).val = k := by
  unfold slotK; exact Finset.mem_filter.trans ⟨fun h => h.2, fun h => ⟨Finset.mem_univ _, h⟩⟩

/-- Slot `k` holds columns `4096*ch …` of row block `b*6+g` of the operand, `n` of them. -/
def hasK (c : Dev nD) (fs : Buf (Elt F) (hbmK c)) (k b g ch n : ℕ) (f : Buf (Elt F) (locK c)) : Prop :=
  ∀ (p : S6x160x4096.Idx) (q : S24x160x32768.Idx), (p 0).val = k → (p 2).val < n → (q 0).val = b * 6 + g → (q 1).val = (p 1).val →
    (q 2).val = ch * 4096 + (p 2).val → f p = fs q

/-- What slot `k` is doing: nothing of interest, waiting for `n` columns of an item, or holding them. -/
abbrev freeK (c : Dev nD) (fs : Buf (Elt F) (hbmK c)) (k : Fin 6) : sProp 𝕄 :=
  iprop(semVal ((c : Thread nD τ), cellK k) 0 ∗ (hbmK c ↦[Finset.univ]{shareK k} fs) ∗ ∃ f, locK c ↦[slotK c k]{fullShare} f)
abbrev gotK (c : Dev nD) (fs : Buf (Elt F) (hbmK c)) (k : Fin 6) (b g ch n : ℕ) : sProp 𝕄 :=
  iprop(semVal ((c : Thread nD τ), cellK k) 0 ∗ (hbmK c ↦[Finset.univ]{shareK k} fs) ∗ ∃ f, ⌜hasK c fs k b g ch n f⌝ ∗ locK c ↦[slotK c k]{fullShare} f)
abbrev flyK (c : Dev nD) (fs : Buf (Elt F) (hbmK c)) (k : Fin 6) (b g ch n : ℕ) : sProp 𝕄 :=
  iprop(∃ T, Transfers.Flight (countersEmb (U := Pipeline.UD sig nD τ)) (c : Thread nD τ) (cellK k) () (credK n)
      iprop((∃ f, ⌜hasK c fs k b g ch n f⌝ ∗ locK c ↦[slotK c k]{fullShare} f) ∗ (hbmK c ↦[T]{shareK k} fs))
    ∗ (hbmK c ↦[Finset.univ \ T]{shareK k} fs))

theorem gotK_free (c : Dev nD) (fs : Buf (Elt F) (hbmK c)) (k : Fin 6) (b g ch n : ℕ) : gotK c fs k b g ch n ⊢ freeK c fs k := by
  iintro ⟨Hs, Ht, %f, -, Hf⟩
  isplitl [Hs]; · iexact Hs
  isplitl [Ht]; · iexact Ht
  iexists f; iexact Hf

theorem semK (k : Fin 6) (w : Fin 1 → ℕ) (hw : w = ![k.val]) (inb : ∀ a, w a + S1.size a ≤ S6.size a) :
    (SemLoc.dma ((cc0_scratch9.slice (Rect.unit (s := S6) w S1.size inb)).squeeze S_ squeezes_S1_S_).sem : SemLoc sig) = cellK k := by
  subst hw
  refine congrArg SemLoc.dma (Fin.ext ?_)
  show 8 + (S6.rowMajor _).val = 8 + k.val
  rw [Shape.rowMajor_val_one]
  exact congrArg (8 + ·) ((congrArg (k.val + 1 * ·) (Nat.lt_one_iff.mp (Fin.isLt _))).trans (by simp))

theorem setK (c : Dev nD) (k : Fin 6) (o z : Fin 3 → ℕ) (q : Fin 2 → ℕ) (n : ℕ) (ho : o = ![k.val, 0, 0]) (hz : z = ![1, 160, n])
    (inb : ∀ a, z a = 0 ∨ o a + z a ≤ S6x160x4096.size a) (hq : (⟨3, z⟩ : Shape).Squeezes ⟨2, q⟩) :
    (((Memref.whole cc0_scratch0).slice (Rect.unitDyn (s := S6x160x4096) o z inb) (fun _ => rfl)).squeeze (⟨2, q⟩ : Shape) hq).view.set ⊆ slotK c k.val := by
  subst ho hz
  rw [Memref.set_view_squeeze]
  intro i hi
  obtain ⟨x, -, rfl⟩ := Finset.mem_map.mp hi
  refine (mem_slotK c _ _).2 ?_
  have h0 : (x 0).val < 1 := (x 0).isLt
  show k.val + 1 * (x 0).val = k.val
  omega

theorem writeK (c : Dev nD) (k : Fin 6) (b g ch : ℕ) (o z : Fin 3 → ℕ) (q : Fin 2 → ℕ) (n : ℕ) (ho : o = ![k.val, 0, 0]) (hz : z = ![1, 160, n])
    (inb : ∀ a, z a = 0 ∨ o a + z a ≤ S6x160x4096.size a) (hq : (⟨3, z⟩ : Shape).Squeezes ⟨2, q⟩)
    (o' : Fin 3 → ℕ) (ho' : o' = ![b * 6 + g, 0, ch * 4096])
    (inb' : ∀ a, z a = 0 ∨ o' a + z a ≤ S24x160x32768.size a) (fs : Buf (Elt F) (hbmK c)) (fd : Buf (Elt F) (locK c)) :
    hasK c fs k.val b g ch n ((((Memref.whole cc0_scratch0).slice (Rect.unitDyn (s := S6x160x4096) o z inb) (fun _ => rfl)).squeeze (⟨2, q⟩ : Shape) hq).view.write (Elt F) fd
      (ReadAs.same.apply ((((Memref.whole main_v2).slice (Rect.unitDyn (s := S24x160x32768) o' z inb') (fun _ => rfl)).squeeze (⟨2, q⟩ : Shape) hq).view.read (Elt F) fs)) Finset.univ) := by
  subst ho hz ho'
  intro p r h0 h2 r0 r1 r2
  have hp1 : (p 1).val < 160 := (p 1).isLt
  let w : (⟨3, ![1, 160, n]⟩ : Shape).Idx := fun a => match a with | 0 => ⟨0, Nat.one_pos⟩ | 1 => ⟨(p 1).val, hp1⟩ | 2 => ⟨(p 2).val, h2⟩
  obtain ⟨x, hx⟩ := (Shape.reshapeEquiv hq.numel_eq).surjective w
  have hd : (((Memref.whole cc0_scratch0).slice (Rect.unitDyn (s := S6x160x4096) ![k.val, 0, 0] ![1, 160, n] inb) (fun _ => rfl)).squeeze (⟨2, q⟩ : Shape) hq).view.emb x = p := by
    show (Rect.unitDyn (s := S6x160x4096) ![k.val, 0, 0] ![1, 160, n] inb).emb (Shape.reshapeEquiv hq.numel_eq x) = p
    rw [hx]; funext a; apply Fin.ext
    fin_cases a
    · show k.val + 1 * 0 = (p 0).val; omega
    · show 0 + 1 * (p 1).val = (p 1).val; omega
    · show 0 + 1 * (p 2).val = (p 2).val; omega
  have hs : (((Memref.whole main_v2).slice (Rect.unitDyn (s := S24x160x32768) ![b * 6 + g, 0, ch * 4096] ![1, 160, n] inb') (fun _ => rfl)).squeeze (⟨2, q⟩ : Shape) hq).view.emb x = r := by
    show (Rect.unitDyn (s := S24x160x32768) ![b * 6 + g, 0, ch * 4096] ![1, 160, n] inb').emb (Shape.reshapeEquiv hq.numel_eq x) = r
    rw [hx]; funext a; apply Fin.ext
    fin_cases a
    · show b * 6 + g + 1 * 0 = (r 0).val; omega
    · show 0 + 1 * (p 1).val = (r 1).val; omega
    · show ch * 4096 + 1 * (p 2).val = (r 2).val; omega
  conv_lhs => rw [← hd]
  rw [View.write_emb_of_mem _ _ (Finset.mem_univ x)]
  show (View.read _ _ _ x) = _
  rw [View.read_apply, hs]; rfl

/-- Issuing the transfer of an item into a free slot. -/
theorem issueK {α : Type} (c : Dev nD) (bd : Option Variants.nat.V) (k : Fin 6) (b g ch n : ℕ) (hn : 0 < n)
    (w : Fin 1 → ℕ) (hw : w = ![k.val]) (winb : ∀ a, w a + S1.size a ≤ S6.size a)
    (o z : Fin 3 → ℕ) (q : Fin 2 → ℕ) (ho : o = ![k.val, 0, 0]) (hz : z = ![1, 160, n]) (hq2 : q = ![160, n])
    (inb : ∀ a, z a = 0 ∨ o a + z a ≤ S6x160x4096.size a) (hq : (⟨3, z⟩ : Shape).Squeezes ⟨2, q⟩)
    (o' : Fin 3 → ℕ) (ho' : o' = ![b * 6 + g, 0, ch * 4096])
    (inb' : ∀ a, z a = 0 ∨ o' a + z a ≤ S24x160x32768.size a) (fs : Buf (Elt F) (hbmK c))
    {hsrc : (((Memref.whole main_v2).slice (Rect.unitDyn (s := S24x160x32768) o' z inb') (fun _ => rfl)).squeeze (⟨2, q⟩ : Shape) hq).view.WordExact}
    {hdst : (((Memref.whole cc0_scratch0).slice (Rect.unitDyn (s := S6x160x4096) o z inb) (fun _ => rfl)).squeeze (⟨2, q⟩ : Shape) hq).view.WordExact}
    {hsem} {kk : PUnit → Prog (TpuEff nD τ sig (Elt F) (Λ₀ F) .tc) α} {Q : α → sProp 𝕄} :
    freeK c fs k ⊢ iprop((flyK c fs k b g ch n -∗ wp frame (wpE (defs₀ (F := F)) Variants.nat c.tc bd) Set.univ (kk ⟨⟩) Q)
      -∗ wp frame (wpE (defs₀ (F := F)) Variants.nat c.tc bd) Set.univ
        (.op (.enqueueDma (((Memref.whole main_v2).slice (Rect.unitDyn (s := S24x160x32768) o' z inb') (fun _ => rfl)).squeeze (⟨2, q⟩ : Shape) hq)
          (.here (((Memref.whole cc0_scratch0).slice (Rect.unitDyn (s := S6x160x4096) o z inb) (fun _ => rfl)).squeeze (⟨2, q⟩ : Shape) hq))
          (.dma ((cc0_scratch9.slice (Rect.unit (s := S6) w S1.size winb)).squeeze S_ squeezes_S1_S_).sem) hsrc hdst hsem) kk) Q) := by
  have hset := setK c k o z q n ho hz inb hq
  have hwr := fun fd => writeK c k b g ch o z q n ho hz inb hq o' ho' inb' fs fd
  have hsm := semK k w hw winb
  have hcr : 0 < credK n := by
    subst hq2
    refine View.dmaCredit_pos (((Memref.whole cc0_scratch0).slice (Rect.unitDyn (s := S6x160x4096) o z inb) (fun _ => rfl)).squeeze (⟨2, ![160, n]⟩ : Shape) hq).view (Shape.numel_pos fun a => ?_)
    fin_cases a
    · exact Nat.succ_pos 159
    · exact hn
  iintro ⟨Hs, Ht, %fd, Hf⟩ Hk
  ihave Ht := (pointsTo_split_subset (Finset.subset_univ (((Memref.whole main_v2).slice (Rect.unitDyn (s := S24x160x32768) o' z inb') (fun _ => rfl)).squeeze (⟨2, q⟩ : Shape) hq).view.set)).1 $$ Ht
  icases Ht with ⟨Ht, Hr⟩
  iapply (Transfers.wp_dmaLocal (countersEmb (U := Pipeline.UD sig nD τ)) Variants.nat c.tc bd
    (src := (((Memref.whole main_v2).slice (Rect.unitDyn (s := S24x160x32768) o' z inb') (fun _ => rfl)).squeeze (⟨2, q⟩ : Shape) hq))
    (dst := (((Memref.whole cc0_scratch0).slice (Rect.unitDyn (s := S6x160x4096) o z inb) (fun _ => rfl)).squeeze (⟨2, q⟩ : Shape) hq))
    (via := ReadAs.same) (q := shareK k) (fs := fs) (fd := fd) (Sd := slotK c k.val) () (credK n) (by subst hq2; rfl) hcr hset) $$ [Ht Hf Hs]
  · isplitl [Ht]; · iexact Ht
    isplitl [Hf]; · iexact Hf
    rw [hsm]; iexact Hs
  iintro Hfl
  iapply Hk
  iexists _
  isplitl [Hfl]
  · rw [← hsm]
    iapply (Transfers.Flight_mono (countersEmb (U := Pipeline.UD sig nD τ)) (c : Thread nD τ) ?_) $$ Hfl
    iintro ⟨Hd, Hs⟩
    isplitl [Hd]
    · iexists _; isplitr; · ipureintro; exact hwr fd
      iexact Hd
    · iexact Hs
  · iexact Hr

/-- Waiting for the item in flight to a slot. -/
theorem waitK {α : Type} (c : Dev nD) (bd : Option Variants.nat.V) (k : Fin 6) (b g ch n : ℕ)
    (w : Fin 1 → ℕ) (hw : w = ![k.val]) (winb : ∀ a, w a + S1.size a ≤ S6.size a)
    (q : Fin 2 → ℕ) (hq2 : q = ![160, n]) (fs : Buf (Elt F) (hbmK c)) (Wt : Waits sig Unit)
    {hk} {kk : PUnit → Prog (TpuEff nD τ sig (Elt F) (Λ₀ F) .tc) α} {Q : α → sProp 𝕄} :
    iprop(flyK c fs k b g ch n ∗ owes (c : Thread nD τ) 0 Wt) ⊢ iprop((iprop(gotK c fs k b g ch n ∗ ∃ W', owes (c : Thread nD τ) 0 W')
        -∗ wp frame (wpE (defs₀ (F := F)) Variants.nat c.tc bd) Set.univ (kk ⟨⟩) Q)
      -∗ wp frame (wpE (defs₀ (F := F)) Variants.nat c.tc bd) Set.univ
        (.op (.waitDma ((cc0_scratch9.slice (Rect.unit (s := S6) w S1.size winb)).squeeze S_ squeezes_S1_S_).sem (Memref.whole cc0_scratch0).view.ref ⟨2, q⟩ .bf16 hk) kk) Q) := by
  have hsm := semK k w hw winb
  subst hq2
  iintro ⟨⟨%T, Hfl, Hr⟩, HO⟩ Hk
  iapply (Transfers.wp_waitLocalSized (countersEmb (U := Pipeline.UD sig nD τ)) Variants.nat c.tc bd () (N := credK n)
    (D := iprop((∃ f, ⌜hasK c fs k b g ch n f⌝ ∗ locK c ↦[slotK c k]{fullShare} f) ∗ (hbmK c ↦[T]{shareK k} fs))) (W := Wt) rfl) $$ [Hfl HO]
  · isplitl [Hfl]; · rw [hsm]; iexact Hfl
    iexact HO
  iintro ⟨⟨Hd, Ht⟩, Hs, HO⟩
  iapply Hk
  isplitr [HO]
  · isplitl [Hs]; · rw [← hsm]; iexact Hs
    isplitl [Ht Hr]
    · iapply (pointsTo_split_subset (Finset.subset_univ T)).2 $$ [Ht Hr]
      isplitl [Ht] <;> iassumption
    · iexact Hd
  · iexists _; iexact HO

/-! ## The V ring -/

/-- The whole scratch buffer of the V ring, at the device's memory. -/
abbrev locV (c : Dev nD) : Loc nD τ sig := (Memref.whole cc0_scratch1).view.loc (c : Thread nD τ)
/-- The operand in HBM the V ring streams. -/
abbrev hbmV (c : Dev nD) : Loc nD τ sig := (Memref.whole main_v4).view.loc (c : Thread nD τ)
/-- The elements of slot `k`. -/
def slotV (c : Dev nD) (k : ℕ) : Finset (Idx (locV c)) := Finset.univ.filter fun i : S8x160x4096.Idx => (i 0).val = k
/-- The completion cell of slot `k`. -/
abbrev cellV (k : Fin 8) : SemLoc sig := SemLoc.dma ⟨14 + k.val, by have := k.isLt; show 14 + k.val < 22; omega⟩
/-- The read share of the operand lent to the transfers of slot `k`. -/
abbrev shareV (k : Fin 8) : PosShare TreeShare := Transfers.shareTok fullShare 8 k
/-- A transfer's credit: its size. -/
abbrev credV (n : ℕ) : ℕ := (cc0_scratch1 : Ref sig .tc).dmaCredit ⟨2, ![160, n]⟩ .fp8e4m3

theorem mem_slotV (c : Dev nD) (k : ℕ) (i : S8x160x4096.Idx) : (show Idx (locV c) from i) ∈ slotV c k ↔ (i 0).val = k := by
  unfold slotV; exact Finset.mem_filter.trans ⟨fun h => h.2, fun h => ⟨Finset.mem_univ _, h⟩⟩

/-- Slot `k` holds columns `4096*ch …` of row block `b*6+g` of the operand, `n` of them. -/
def hasV (c : Dev nD) (fs : Buf (Elt F) (hbmV c)) (k b g ch n : ℕ) (f : Buf (Elt F) (locV c)) : Prop :=
  ∀ (p : S8x160x4096.Idx) (q : S24x160x32768.Idx), (p 0).val = k → (p 2).val < n → (q 0).val = b * 6 + g → (q 1).val = (p 1).val →
    (q 2).val = ch * 4096 + (p 2).val → f p = fs q

/-- What slot `k` is doing: nothing of interest, waiting for `n` columns of an item, or holding them. -/
abbrev freeV (c : Dev nD) (fs : Buf (Elt F) (hbmV c)) (k : Fin 8) : sProp 𝕄 :=
  iprop(semVal ((c : Thread nD τ), cellV k) 0 ∗ (hbmV c ↦[Finset.univ]{shareV k} fs) ∗ ∃ f, locV c ↦[slotV c k]{fullShare} f)
abbrev gotV (c : Dev nD) (fs : Buf (Elt F) (hbmV c)) (k : Fin 8) (b g ch n : ℕ) : sProp 𝕄 :=
  iprop(semVal ((c : Thread nD τ), cellV k) 0 ∗ (hbmV c ↦[Finset.univ]{shareV k} fs) ∗ ∃ f, ⌜hasV c fs k b g ch n f⌝ ∗ locV c ↦[slotV c k]{fullShare} f)
abbrev flyV (c : Dev nD) (fs : Buf (Elt F) (hbmV c)) (k : Fin 8) (b g ch n : ℕ) : sProp 𝕄 :=
  iprop(∃ T, Transfers.Flight (countersEmb (U := Pipeline.UD sig nD τ)) (c : Thread nD τ) (cellV k) () (credV n)
      iprop((∃ f, ⌜hasV c fs k b g ch n f⌝ ∗ locV c ↦[slotV c k]{fullShare} f) ∗ (hbmV c ↦[T]{shareV k} fs))
    ∗ (hbmV c ↦[Finset.univ \ T]{shareV k} fs))

theorem gotV_free (c : Dev nD) (fs : Buf (Elt F) (hbmV c)) (k : Fin 8) (b g ch n : ℕ) : gotV c fs k b g ch n ⊢ freeV c fs k := by
  iintro ⟨Hs, Ht, %f, -, Hf⟩
  isplitl [Hs]; · iexact Hs
  isplitl [Ht]; · iexact Ht
  iexists f; iexact Hf

theorem semV (k : Fin 8) (w : Fin 1 → ℕ) (hw : w = ![k.val]) (inb : ∀ a, w a + S1.size a ≤ S8.size a) :
    (SemLoc.dma ((cc0_scratch10.slice (Rect.unit (s := S8) w S1.size inb)).squeeze S_ squeezes_S1_S_).sem : SemLoc sig) = cellV k := by
  subst hw
  refine congrArg SemLoc.dma (Fin.ext ?_)
  show 14 + (S8.rowMajor _).val = 14 + k.val
  rw [Shape.rowMajor_val_one]
  exact congrArg (14 + ·) ((congrArg (k.val + 1 * ·) (Nat.lt_one_iff.mp (Fin.isLt _))).trans (by simp))

theorem setV (c : Dev nD) (k : Fin 8) (o z : Fin 3 → ℕ) (q : Fin 2 → ℕ) (n : ℕ) (ho : o = ![k.val, 0, 0]) (hz : z = ![1, 160, n])
    (inb : ∀ a, z a = 0 ∨ o a + z a ≤ S8x160x4096.size a) (hq : (⟨3, z⟩ : Shape).Squeezes ⟨2, q⟩) :
    (((Memref.whole cc0_scratch1).slice (Rect.unitDyn (s := S8x160x4096) o z inb) (fun _ => rfl)).squeeze (⟨2, q⟩ : Shape) hq).view.set ⊆ slotV c k.val := by
  subst ho hz
  rw [Memref.set_view_squeeze]
  intro i hi
  obtain ⟨x, -, rfl⟩ := Finset.mem_map.mp hi
  refine (mem_slotV c _ _).2 ?_
  have h0 : (x 0).val < 1 := (x 0).isLt
  show k.val + 1 * (x 0).val = k.val
  omega

theorem writeV (c : Dev nD) (k : Fin 8) (b g ch : ℕ) (o z : Fin 3 → ℕ) (q : Fin 2 → ℕ) (n : ℕ) (ho : o = ![k.val, 0, 0]) (hz : z = ![1, 160, n])
    (inb : ∀ a, z a = 0 ∨ o a + z a ≤ S8x160x4096.size a) (hq : (⟨3, z⟩ : Shape).Squeezes ⟨2, q⟩)
    (o' : Fin 3 → ℕ) (ho' : o' = ![b * 6 + g, 0, ch * 4096])
    (inb' : ∀ a, z a = 0 ∨ o' a + z a ≤ S24x160x32768.size a) (fs : Buf (Elt F) (hbmV c)) (fd : Buf (Elt F) (locV c)) :
    hasV c fs k.val b g ch n ((((Memref.whole cc0_scratch1).slice (Rect.unitDyn (s := S8x160x4096) o z inb) (fun _ => rfl)).squeeze (⟨2, q⟩ : Shape) hq).view.write (Elt F) fd
      (ReadAs.same.apply ((((Memref.whole main_v4).slice (Rect.unitDyn (s := S24x160x32768) o' z inb') (fun _ => rfl)).squeeze (⟨2, q⟩ : Shape) hq).view.read (Elt F) fs)) Finset.univ) := by
  subst ho hz ho'
  intro p r h0 h2 r0 r1 r2
  have hp1 : (p 1).val < 160 := (p 1).isLt
  let w : (⟨3, ![1, 160, n]⟩ : Shape).Idx := fun a => match a with | 0 => ⟨0, Nat.one_pos⟩ | 1 => ⟨(p 1).val, hp1⟩ | 2 => ⟨(p 2).val, h2⟩
  obtain ⟨x, hx⟩ := (Shape.reshapeEquiv hq.numel_eq).surjective w
  have hd : (((Memref.whole cc0_scratch1).slice (Rect.unitDyn (s := S8x160x4096) ![k.val, 0, 0] ![1, 160, n] inb) (fun _ => rfl)).squeeze (⟨2, q⟩ : Shape) hq).view.emb x = p := by
    show (Rect.unitDyn (s := S8x160x4096) ![k.val, 0, 0] ![1, 160, n] inb).emb (Shape.reshapeEquiv hq.numel_eq x) = p
    rw [hx]; funext a; apply Fin.ext
    fin_cases a
    · show k.val + 1 * 0 = (p 0).val; omega
    · show 0 + 1 * (p 1).val = (p 1).val; omega
    · show 0 + 1 * (p 2).val = (p 2).val; omega
  have hs : (((Memref.whole main_v4).slice (Rect.unitDyn (s := S24x160x32768) ![b * 6 + g, 0, ch * 4096] ![1, 160, n] inb') (fun _ => rfl)).squeeze (⟨2, q⟩ : Shape) hq).view.emb x = r := by
    show (Rect.unitDyn (s := S24x160x32768) ![b * 6 + g, 0, ch * 4096] ![1, 160, n] inb').emb (Shape.reshapeEquiv hq.numel_eq x) = r
    rw [hx]; funext a; apply Fin.ext
    fin_cases a
    · show b * 6 + g + 1 * 0 = (r 0).val; omega
    · show 0 + 1 * (p 1).val = (r 1).val; omega
    · show ch * 4096 + 1 * (p 2).val = (r 2).val; omega
  conv_lhs => rw [← hd]
  rw [View.write_emb_of_mem _ _ (Finset.mem_univ x)]
  show (View.read _ _ _ x) = _
  rw [View.read_apply, hs]; rfl

/-- Issuing the transfer of an item into a free slot. -/
theorem issueV {α : Type} (c : Dev nD) (bd : Option Variants.nat.V) (k : Fin 8) (b g ch n : ℕ) (hn : 0 < n)
    (w : Fin 1 → ℕ) (hw : w = ![k.val]) (winb : ∀ a, w a + S1.size a ≤ S8.size a)
    (o z : Fin 3 → ℕ) (q : Fin 2 → ℕ) (ho : o = ![k.val, 0, 0]) (hz : z = ![1, 160, n]) (hq2 : q = ![160, n])
    (inb : ∀ a, z a = 0 ∨ o a + z a ≤ S8x160x4096.size a) (hq : (⟨3, z⟩ : Shape).Squeezes ⟨2, q⟩)
    (o' : Fin 3 → ℕ) (ho' : o' = ![b * 6 + g, 0, ch * 4096])
    (inb' : ∀ a, z a = 0 ∨ o' a + z a ≤ S24x160x32768.size a) (fs : Buf (Elt F) (hbmV c))
    {hsrc : (((Memref.whole main_v4).slice (Rect.unitDyn (s := S24x160x32768) o' z inb') (fun _ => rfl)).squeeze (⟨2, q⟩ : Shape) hq).view.WordExact}
    {hdst : (((Memref.whole cc0_scratch1).slice (Rect.unitDyn (s := S8x160x4096) o z inb) (fun _ => rfl)).squeeze (⟨2, q⟩ : Shape) hq).view.WordExact}
    {hsem} {kk : PUnit → Prog (TpuEff nD τ sig (Elt F) (Λ₀ F) .tc) α} {Q : α → sProp 𝕄} :
    freeV c fs k ⊢ iprop((flyV c fs k b g ch n -∗ wp frame (wpE (defs₀ (F := F)) Variants.nat c.tc bd) Set.univ (kk ⟨⟩) Q)
      -∗ wp frame (wpE (defs₀ (F := F)) Variants.nat c.tc bd) Set.univ
        (.op (.enqueueDma (((Memref.whole main_v4).slice (Rect.unitDyn (s := S24x160x32768) o' z inb') (fun _ => rfl)).squeeze (⟨2, q⟩ : Shape) hq)
          (.here (((Memref.whole cc0_scratch1).slice (Rect.unitDyn (s := S8x160x4096) o z inb) (fun _ => rfl)).squeeze (⟨2, q⟩ : Shape) hq))
          (.dma ((cc0_scratch10.slice (Rect.unit (s := S8) w S1.size winb)).squeeze S_ squeezes_S1_S_).sem) hsrc hdst hsem) kk) Q) := by
  have hset := setV c k o z q n ho hz inb hq
  have hwr := fun fd => writeV c k b g ch o z q n ho hz inb hq o' ho' inb' fs fd
  have hsm := semV k w hw winb
  have hcr : 0 < credV n := by
    subst hq2
    refine View.dmaCredit_pos (((Memref.whole cc0_scratch1).slice (Rect.unitDyn (s := S8x160x4096) o z inb) (fun _ => rfl)).squeeze (⟨2, ![160, n]⟩ : Shape) hq).view (Shape.numel_pos fun a => ?_)
    fin_cases a
    · exact Nat.succ_pos 159
    · exact hn
  iintro ⟨Hs, Ht, %fd, Hf⟩ Hk
  ihave Ht := (pointsTo_split_subset (Finset.subset_univ (((Memref.whole main_v4).slice (Rect.unitDyn (s := S24x160x32768) o' z inb') (fun _ => rfl)).squeeze (⟨2, q⟩ : Shape) hq).view.set)).1 $$ Ht
  icases Ht with ⟨Ht, Hr⟩
  iapply (Transfers.wp_dmaLocal (countersEmb (U := Pipeline.UD sig nD τ)) Variants.nat c.tc bd
    (src := (((Memref.whole main_v4).slice (Rect.unitDyn (s := S24x160x32768) o' z inb') (fun _ => rfl)).squeeze (⟨2, q⟩ : Shape) hq))
    (dst := (((Memref.whole cc0_scratch1).slice (Rect.unitDyn (s := S8x160x4096) o z inb) (fun _ => rfl)).squeeze (⟨2, q⟩ : Shape) hq))
    (via := ReadAs.same) (q := shareV k) (fs := fs) (fd := fd) (Sd := slotV c k.val) () (credV n) (by subst hq2; rfl) hcr hset) $$ [Ht Hf Hs]
  · isplitl [Ht]; · iexact Ht
    isplitl [Hf]; · iexact Hf
    rw [hsm]; iexact Hs
  iintro Hfl
  iapply Hk
  iexists _
  isplitl [Hfl]
  · rw [← hsm]
    iapply (Transfers.Flight_mono (countersEmb (U := Pipeline.UD sig nD τ)) (c : Thread nD τ) ?_) $$ Hfl
    iintro ⟨Hd, Hs⟩
    isplitl [Hd]
    · iexists _; isplitr; · ipureintro; exact hwr fd
      iexact Hd
    · iexact Hs
  · iexact Hr

/-- Waiting for the item in flight to a slot. -/
theorem waitV {α : Type} (c : Dev nD) (bd : Option Variants.nat.V) (k : Fin 8) (b g ch n : ℕ)
    (w : Fin 1 → ℕ) (hw : w = ![k.val]) (winb : ∀ a, w a + S1.size a ≤ S8.size a)
    (q : Fin 2 → ℕ) (hq2 : q = ![160, n]) (fs : Buf (Elt F) (hbmV c)) (Wt : Waits sig Unit)
    {hk} {kk : PUnit → Prog (TpuEff nD τ sig (Elt F) (Λ₀ F) .tc) α} {Q : α → sProp 𝕄} :
    iprop(flyV c fs k b g ch n ∗ owes (c : Thread nD τ) 0 Wt) ⊢ iprop((iprop(gotV c fs k b g ch n ∗ ∃ W', owes (c : Thread nD τ) 0 W')
        -∗ wp frame (wpE (defs₀ (F := F)) Variants.nat c.tc bd) Set.univ (kk ⟨⟩) Q)
      -∗ wp frame (wpE (defs₀ (F := F)) Variants.nat c.tc bd) Set.univ
        (.op (.waitDma ((cc0_scratch10.slice (Rect.unit (s := S8) w S1.size winb)).squeeze S_ squeezes_S1_S_).sem (Memref.whole cc0_scratch1).view.ref ⟨2, q⟩ .fp8e4m3 hk) kk) Q) := by
  have hsm := semV k w hw winb
  subst hq2
  iintro ⟨⟨%T, Hfl, Hr⟩, HO⟩ Hk
  iapply (Transfers.wp_waitLocalSized (countersEmb (U := Pipeline.UD sig nD τ)) Variants.nat c.tc bd () (N := credV n)
    (D := iprop((∃ f, ⌜hasV c fs k b g ch n f⌝ ∗ locV c ↦[slotV c k]{fullShare} f) ∗ (hbmV c ↦[T]{shareV k} fs))) (W := Wt) rfl) $$ [Hfl HO]
  · isplitl [Hfl]; · rw [hsm]; iexact Hfl
    iexact HO
  iintro ⟨⟨Hd, Ht⟩, Hs, HO⟩
  iapply Hk
  isplitr [HO]
  · isplitl [Hs]; · rw [← hsm]; iexact Hs
    isplitl [Ht Hr]
    · iapply (pointsTo_split_subset (Finset.subset_univ T)).2 $$ [Ht Hr]
      isplitl [Ht] <;> iassumption
    · iexact Hd
  · iexists _; iexact HO

end Cert.KernelIdeal.Hand
-- ==== Proof.KI.Mem.lean ====
module

public import proofs.«01_k».proof.Proof.KI.Ring
public import Idealize.ShloMosaic.Lib.Pipeline.FrameBody
public import Idealize.ShloMosaic.Lib.Pipeline.DatRel
public import Idealize.ShloMosaic.Lib.Ring
public import Idealize.ShloMosaic.Lib.Tactic
public import Idealize.ShloMosaic.Lib.WordCmp

@[expose] public section

set_option maxRecDepth 16384

/-!
Loads and stores of the kernel's buffers, the lengths among them.
-/

noncomputable section

namespace Cert.KernelIdeal.Hand

open Cert.KernelIdeal Cert.KernelIdeal.Gen Cert.Words
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-- A buffer under a memref, held at contents `f`. -/
abbrev pt {sp : CoreSpace} {s : Shape} {e : EltTy} (c : Dev nD) (m : Memref sig .tc sp s e) (f : Buf (Elt F) (m.view.loc (c : Thread nD τ))) : sProp 𝕄 :=
  m.view.loc (c : Thread nD τ) ↦[m.view.set]{fullShare} f

/-- The four lengths: what the scalar buffer reads, as words of `L`. -/
def LensOk (a0 : Memref sig .tc .smem S4 .i32) (c : Dev nD) (f0 : Buf (Elt F) (a0.view.loc (c : Thread nD τ))) (L : ℕ → ℕ) : Prop :=
  (∀ b, L b ≤ 32768) ∧ ∀ i : S4.Idx, (a0.view.read (Elt F) f0 i : BitVec 32) = W (L (i 0).val)

section Rules

variable {α : Type} (c : Dev nD) (bd : Option Variants.nat.V)

theorem ld {Q : α → sProp 𝕄} {sp : CoreSpace} {s : Shape} {e : EltTy} {m : Memref sig .tc sp s e} {r : LoadRect s} {hl : m.view.LoadsAt r} {k : (r.shape.Idx → Elt F e) → Prog (TpuEff nD τ sig (Elt F) (Λ₀ F) .tc) α}
    {f : Buf (Elt F) (m.view.loc (c : Thread nD τ))} :
    pt c m f ⊢ iprop((pt c m f -∗ wp frame (wpE (defs₀ (F := F)) Variants.nat c.tc bd) Set.univ (k (m.view.readAt (Elt F) r f)) Q)
      -∗ wp frame (wpE (defs₀ (F := F)) Variants.nat c.tc bd) Set.univ (.op (.load m r hl) k) Q) :=
  wp_load Variants.nat c.tc bd Set.univ (m := m) (View.setOn_subset_set _ _)

theorem st {Q : α → sProp 𝕄} {sp : CoreSpace} {s : Shape} {e : EltTy} {m : Memref sig .tc sp s e} {r : Rect s} {w : r.shape.Idx → Elt F e} {Mk : Finset r.shape.Idx} {hx : (m.access r).Stores Mk} {hm : Mk = Finset.univ ∨ ∀ a, r.stride a = 1}
    {k : PUnit → Prog (TpuEff nD τ sig (Elt F) (Λ₀ F) .tc) α} {f : Buf (Elt F) (m.view.loc (c : Thread nD τ))} :
    pt c m f ⊢ iprop((pt c m ((m.access r).write (Elt F) f w Mk) -∗ wp frame (wpE (defs₀ (F := F)) Variants.nat c.tc bd) Set.univ (k ⟨⟩) Q)
      -∗ wp frame (wpE (defs₀ (F := F)) Variants.nat c.tc bd) Set.univ (.op (.store m r w Mk hx hm) k) Q) :=
  wp_store Variants.nat c.tc bd Set.univ (m := m) (r := r) (Mk := Mk)
    (fun i hi => by
      obtain ⟨x, -, rfl⟩ := Finset.mem_map.mp hi
      exact View.emb_mem_set m.view (r.emb x))

/-- Loading the length of row `b`. -/
theorem ldLen {Q : α → sProp 𝕄} {a0 : Memref sig .tc .smem S4 .i32} {f0 : Buf (Elt F) (a0.view.loc (c : Thread nD τ))} {L : ℕ → ℕ} (hL : LensOk a0 c f0 L)
    {o : Fin 1 → ℕ} {inb : ∀ a, o a + S1.size a ≤ S4.size a} {h1 : (Rect.unit (s := S4) o S1.size inb).shape.numel = 1} {hp : EltTy.packing .i32 = 1}
    (b : ℕ) (hb : o = ![b]) {k : Elt F .i32 → Prog (TpuEff nD τ sig (Elt F) (Λ₀ F) .tc) α} :
    pt c a0 f0 ⊢ iprop((pt c a0 f0 -∗ wp frame (wpE (defs₀ (F := F)) Variants.nat c.tc bd) Set.univ (k (W (L b))) Q)
      -∗ wp frame (wpE (defs₀ (F := F)) Variants.nat c.tc bd) Set.univ (smemLoad a0 (Rect.unit (s := S4) o S1.size inb) h1 hp >>= k) Q) := by
  subst hb
  iintro H Hk
  unfold smemLoad
  iapply (wp_smemLoadElt Variants.nat c.tc bd Set.univ (m := a0) (r := Rect.unit (s := S4) ![b] S1.size inb) (f := f0) (q := fullShare) (S := a0.view.set) (k := k) (hw := View.loads_smem_one hp h1) (fun i hi => by
      obtain ⟨x, -, rfl⟩ := Finset.mem_map.mp hi
      exact View.emb_mem_set a0.view _)) $$ H
  iintro H
  have e : ∀ x : (Rect.unit (s := S4) ![b] S1.size inb).shape.Idx, (a0.access (Rect.unit (s := S4) ![b] S1.size inb)).read (Elt F) f0 x = (W (L b) : BitVec 32) := by
    intro x
    refine (hL.2 ((Rect.unit (s := S4) ![b] S1.size inb).emb x)).trans (congrArg (fun t => W (L t)) ?_)
    show b + 1 * (x 0).val = b
    have h : (x 0).val < 1 := (x 0).isLt
    omega
  rw [e]
  iapply Hk; iexact H

/-- Loading a whole slot of the K ring. -/
theorem ldK {Q : α → sProp 𝕄} {k' : Fin 6} {o : Fin 3 → ℕ} (ho : o = ![k'.val, 0, 0]) {inb : ∀ a, o a + S1x160x4096.size a ≤ S6x160x4096.size a}
    {hl : (Memref.whole cc0_scratch0).view.LoadsAt (Rect.unit (s := S6x160x4096) o S1x160x4096.size inb).toLoadRect}
    {k : ((Rect.unit (s := S6x160x4096) o S1x160x4096.size inb).toLoadRect.shape.Idx → Elt F .bf16) → Prog (TpuEff nD τ sig (Elt F) (Λ₀ F) .tc) α} {f : Buf (Elt F) (locK c)} :
    (locK c ↦[slotK c k'.val]{fullShare} f) ⊢ iprop(((locK c ↦[slotK c k'.val]{fullShare} f) -∗ wp frame (wpE (defs₀ (F := F)) Variants.nat c.tc bd) Set.univ (k ((Memref.whole cc0_scratch0).view.readAt (Elt F) (Rect.unit (s := S6x160x4096) o S1x160x4096.size inb).toLoadRect f)) Q)
      -∗ wp frame (wpE (defs₀ (F := F)) Variants.nat c.tc bd) Set.univ (.op (.load (Memref.whole cc0_scratch0) (Rect.unit (s := S6x160x4096) o S1x160x4096.size inb).toLoadRect hl) k) Q) :=
  wp_load Variants.nat c.tc bd Set.univ (m := Memref.whole cc0_scratch0) (fun i hi => by
      subst ho
      obtain ⟨x, hx, rfl⟩ := Finset.mem_map.mp hi
      obtain ⟨j, hj, e⟩ := (LoadRect.mem_set _).1 hx 0
      refine (mem_slotK c _ _).2 ?_
      have hj' : j < 1 := hj
      have e' : (x 0).val = k'.val + 1 * j := e
      show (x 0).val = k'.val
      omega)

/-- Loading a whole slot of the V ring. -/
theorem ldV {Q : α → sProp 𝕄} {k' : Fin 8} {o : Fin 3 → ℕ} (ho : o = ![k'.val, 0, 0]) {inb : ∀ a, o a + S1x160x4096.size a ≤ S8x160x4096.size a}
    {hl : (Memref.whole cc0_scratch1).view.LoadsAt (Rect.unit (s := S8x160x4096) o S1x160x4096.size inb).toLoadRect}
    {k : ((Rect.unit (s := S8x160x4096) o S1x160x4096.size inb).toLoadRect.shape.Idx → Elt F .fp8e4m3) → Prog (TpuEff nD τ sig (Elt F) (Λ₀ F) .tc) α} {f : Buf (Elt F) (locV c)} :
    (locV c ↦[slotV c k'.val]{fullShare} f) ⊢ iprop(((locV c ↦[slotV c k'.val]{fullShare} f) -∗ wp frame (wpE (defs₀ (F := F)) Variants.nat c.tc bd) Set.univ (k ((Memref.whole cc0_scratch1).view.readAt (Elt F) (Rect.unit (s := S8x160x4096) o S1x160x4096.size inb).toLoadRect f)) Q)
      -∗ wp frame (wpE (defs₀ (F := F)) Variants.nat c.tc bd) Set.univ (.op (.load (Memref.whole cc0_scratch1) (Rect.unit (s := S8x160x4096) o S1x160x4096.size inb).toLoadRect hl) k) Q) :=
  wp_load Variants.nat c.tc bd Set.univ (m := Memref.whole cc0_scratch1) (fun i hi => by
      subst ho
      obtain ⟨x, hx, rfl⟩ := Finset.mem_map.mp hi
      obtain ⟨j, hj, e⟩ := (LoadRect.mem_set _).1 hx 0
      refine (mem_slotV c _ _).2 ?_
      have hj' : j < 1 := hj
      have e' : (x 0).val = k'.val + 1 * j := e
      show (x 0).val = k'.val
      omega)

end Rules

end Cert.KernelIdeal.Hand
-- ==== Proof.KI.State.lean ====
module

public import proofs.«01_k».proof.Proof.KI.Mem
public import proofs.«01_k».proof.Proof.Cursor
public import Idealize.ShloMosaic.Lib.Pipeline.FrameBody
public import Idealize.ShloMosaic.Lib.Pipeline.DatRel
public import Idealize.ShloMosaic.Lib.Ring
public import Idealize.ShloMosaic.Lib.Tactic
public import Idealize.ShloMosaic.Lib.WordCmp

@[expose] public section

set_option maxRecDepth 16384

/-!
The states of the two rings as the walk over the items moves.
-/

noncomputable section

namespace Cert.KernelIdeal.Hand

open Cert.KernelIdeal Cert.KernelIdeal.Gen Cert.Words
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-- The length word of row `b` (a row past the last reads the last). -/
def lw (L : ℕ → ℕ) (b : ℕ) : ℕ := L (min b 3)
/-- The chunks of row `b`. -/
def nL (L : ℕ → ℕ) (b : ℕ) : ℕ := nchOf (lw L b)
/-- The cursor of item `i`. -/
abbrev cu (L : ℕ → ℕ) (i : ℕ) : Cur := cur (nL L) i
/-- The item a slot waits for, if there is one. -/
def item (L : ℕ → ℕ) (i : ℕ) : Option Cur := if (cu L i).b < 4 then some (cu L i) else none

theorem item_some {L : ℕ → ℕ} {i : ℕ} (h : (cu L i).b < 4) : item L i = some (cu L i) := if_pos h
theorem item_none {L : ℕ → ℕ} {i : ℕ} (h : ¬ (cu L i).b < 4) : item L i = none := if_neg h
theorem lw_le {L : ℕ → ℕ} (hL : ∀ b, L b ≤ 32768) (b : ℕ) : lw L b ≤ 32768 := hL _
theorem nL_ok {L : ℕ → ℕ} (hL : ∀ b, L b ≤ 32768) (b : ℕ) : 1 ≤ nL L b ∧ nL L b ≤ 8 := ⟨nchOf_pos _, nchOf_le (lw_le hL b)⟩
theorem item_end {L : ℕ → ℕ} (hL : ∀ b, L b ≤ 32768) {i : ℕ} (h : total (nL L) ≤ i) : item L i = none :=
  item_none (by rw [show cu L i = _ from cur_end (fun b => (nL_ok hL b).1) h]; simp)

/-- A slot of the K ring: free, or waiting for the item of a cursor. -/
def PhiK (c : Dev nD) (L : ℕ → ℕ) (fs : Buf (Elt F) (hbmK c)) (k : Fin 6) : Option Cur → sProp 𝕄
  | none => freeK c fs k
  | some x => flyK c fs k x.b x.g x.c (szOf x.c (lw L x.b))

/-- The slots after `i` items have been consumed: each waits for the next item that lands in it. -/
def stK (L : ℕ → ℕ) (i : ℕ) (s : Fin 6) : Option Cur := item L (i + (s.val + 6 - i % 6) % 6)
/-- The slots after the first `t` items have been issued. -/
def preK (L : ℕ → ℕ) (t : ℕ) (s : Fin 6) : Option Cur := if s.val < t then item L s.val else none
/-- The slot of item `i`. -/
abbrev atK (i : ℕ) : Fin 6 := ⟨i % 6, Nat.mod_lt _ (by decide)⟩

theorem stK_self (L : ℕ → ℕ) (i : ℕ) : stK L i (atK i) = item L i := by
  unfold stK
  have h : i % 6 < 6 := Nat.mod_lt _ (by decide)
  show item L (i + (i % 6 + 6 - i % 6) % 6) = _
  rw [show (i % 6 + 6 - i % 6) % 6 = 0 by omega, Nat.add_zero]

theorem stK_succ (L : ℕ → ℕ) (i : ℕ) : stK L (i + 1) = Function.update (stK L i) (atK i) (item L (i + 6)) := by
  funext s
  have hs := s.isLt
  by_cases e : s = atK i
  · subst e
    rw [Function.update_self]
    show item L (i + 1 + (i % 6 + 6 - (i + 1) % 6) % 6) = _
    congr 1; omega
  · have e' : s.val ≠ i % 6 := fun h => e (Fin.ext h)
    rw [Function.update_of_ne e]
    show item L (i + 1 + (s.val + 6 - (i + 1) % 6) % 6) = item L (i + (s.val + 6 - i % 6) % 6)
    congr 1; omega

theorem preK_zero (L : ℕ → ℕ) : preK L 0 = fun _ => none := by
  funext s; unfold preK; rw [if_neg (Nat.not_lt_zero _)]
theorem preK_succ (L : ℕ → ℕ) (t : Fin 6) : preK L (t.val + 1) = Function.update (preK L t.val) t (item L t.val) := by
  funext s
  by_cases e : s = t
  · subst e; rw [Function.update_self]; unfold preK; rw [if_pos (Nat.lt_succ_self _)]
  · have e' : s.val ≠ t.val := fun h => e (Fin.ext h)
    rw [Function.update_of_ne e]; unfold preK
    by_cases h : s.val < t.val
    · rw [if_pos h, if_pos (by omega)]
    · rw [if_neg h, if_neg (by omega)]
theorem preK_full (L : ℕ → ℕ) : preK L 6 = stK L 0 := by
  funext s
  have hs := s.isLt
  unfold preK stK
  rw [if_pos hs]; congr 1; omega
theorem stK_end (L : ℕ → ℕ) (hL : ∀ b, L b ≤ 32768) (i : ℕ) (h : total (nL L) ≤ i) : stK L i = fun _ => none := by
  funext s; unfold stK; exact item_end hL (by omega)

/-- The K ring in a state. -/
def RingK (c : Dev nD) (L : ℕ → ℕ) (fs : Buf (Elt F) (hbmK c)) (st : Fin 6 → Option Cur) : sProp 𝕄 := Ring.AtW (σ := fun _ => Option Cur) (PhiK c L fs) st
/-- The K ring but for a slot. -/
def RestK (c : Dev nD) (L : ℕ → ℕ) (fs : Buf (Elt F) (hbmK c)) (st : Fin 6 → Option Cur) (k : Fin 6) : sProp 𝕄 := Ring.restW (σ := fun _ => Option Cur) (PhiK c L fs) st k

theorem openK (c : Dev nD) (L : ℕ → ℕ) (fs : Buf (Elt F) (hbmK c)) (i : ℕ) (h : (cu L i).b < 4) :
    RingK c L fs (stK L i) ⊢ iprop(flyK c fs (atK i) (cu L i).b (cu L i).g (cu L i).c (szOf (cu L i).c (lw L (cu L i).b)) ∗ RestK c L fs (stK L i) (atK i)) := by
  unfold RingK RestK
  rw [Ring.AtW_focus _ _ (atK i), stK_self, item_some h]
  exact .rfl
theorem issueK_close (c : Dev nD) (L : ℕ → ℕ) (fs : Buf (Elt F) (hbmK c)) (i : ℕ) (h : (cu L (i + 6)).b < 4) :
    iprop(flyK c fs (atK i) (cu L (i + 6)).b (cu L (i + 6)).g (cu L (i + 6)).c (szOf (cu L (i + 6)).c (lw L (cu L (i + 6)).b)) ∗ RestK c L fs (stK L i) (atK i)) ⊢ RingK c L fs (stK L (i + 1)) := by
  unfold RingK RestK
  rw [stK_succ, item_some h]
  exact Ring.AtW_update (σ := fun _ => Option Cur) (PhiK c L fs) (stK L i) (atK i) (some (cu L (i + 6)))
theorem skipK_close (c : Dev nD) (L : ℕ → ℕ) (fs : Buf (Elt F) (hbmK c)) (i : ℕ) (h : ¬ (cu L (i + 6)).b < 4) :
    iprop(freeK c fs (atK i) ∗ RestK c L fs (stK L i) (atK i)) ⊢ RingK c L fs (stK L (i + 1)) := by
  unfold RingK RestK
  rw [stK_succ, item_none h]
  exact Ring.AtW_update (σ := fun _ => Option Cur) (PhiK c L fs) (stK L i) (atK i) none
theorem preK_open (c : Dev nD) (L : ℕ → ℕ) (fs : Buf (Elt F) (hbmK c)) (t : Fin 6) :
    RingK c L fs (preK L t.val) ⊢ iprop(freeK c fs t ∗ RestK c L fs (preK L t.val) t) := by
  unfold RingK RestK
  rw [Ring.AtW_focus _ _ t, show preK L t.val t = none from if_neg (lt_irrefl _)]
  exact .rfl
theorem preK_issue (c : Dev nD) (L : ℕ → ℕ) (fs : Buf (Elt F) (hbmK c)) (t : Fin 6) (h : (cu L t.val).b < 4) :
    iprop(flyK c fs t (cu L t.val).b (cu L t.val).g (cu L t.val).c (szOf (cu L t.val).c (lw L (cu L t.val).b)) ∗ RestK c L fs (preK L t.val) t) ⊢ RingK c L fs (preK L (t.val + 1)) := by
  unfold RingK RestK
  rw [preK_succ, item_some h]
  exact Ring.AtW_update (σ := fun _ => Option Cur) (PhiK c L fs) (preK L t.val) t (some (cu L t.val))
theorem preK_skip (c : Dev nD) (L : ℕ → ℕ) (fs : Buf (Elt F) (hbmK c)) (t : Fin 6) (h : ¬ (cu L t.val).b < 4) :
    RingK c L fs (preK L t.val) ⊢ RingK c L fs (preK L (t.val + 1)) := by
  refine (preK_open c L fs t).trans ?_
  unfold RingK RestK
  rw [preK_succ, item_none h]
  exact Ring.AtW_update (σ := fun _ => Option Cur) (PhiK c L fs) (preK L t.val) t none

theorem slotK_disj (c : Dev nD) (b b' : Fin 6) (h : b ≠ b') : Disjoint (slotK c b.val) (slotK c b'.val) := by
  rw [Finset.disjoint_left]
  intro i h1 h2
  exact h (Fin.ext (((mem_slotK c _ i).1 h1).symm.trans ((mem_slotK c _ i).1 h2)))
theorem slotK_cover (c : Dev nD) : Finset.univ.biUnion (fun k : Fin 6 => slotK c k.val) = Finset.univ := by
  refine Finset.eq_univ_iff_forall.2 fun i => Finset.mem_biUnion.2 ⟨(i 0 : Fin 6), Finset.mem_univ _, (mem_slotK c _ i).2 rfl⟩

theorem allFreeK (c : Dev nD) (fs : Buf (Elt F) (hbmK c)) :
    (bigSep Finset.univ fun k : Fin 6 => freeK c fs k) = (iprop((bigSep Finset.univ fun k : Fin 6 => (semVal ((c : Thread nD τ), cellK k) 0 : sProp 𝕄))
      ∗ (bigSep Finset.univ fun k : Fin 6 => (hbmK c ↦[Finset.univ]{shareK k} fs : sProp 𝕄)) ∗ bigSep Finset.univ fun k : Fin 6 => iprop(∃ f, (locK c ↦[slotK c k]{fullShare} f : sProp 𝕄))) : sProp 𝕄) :=
  (BI.bigSep_sep Finset.univ (Φ := fun k : Fin 6 => (semVal ((c : Thread nD τ), cellK k) 0 : sProp 𝕄)) (Ψ := fun k : Fin 6 => iprop((hbmK c ↦[Finset.univ]{shareK k} fs) ∗ ∃ f, (locK c ↦[slotK c k]{fullShare} f : sProp 𝕄)))).trans
    (congrArg _ (BI.bigSep_sep Finset.univ (Φ := fun k : Fin 6 => (hbmK c ↦[Finset.univ]{shareK k} fs : sProp 𝕄)) (Ψ := fun k : Fin 6 => iprop(∃ f, (locK c ↦[slotK c k]{fullShare} f : sProp 𝕄)))))

theorem slotAnyK (c : Dev nD) (f : Buf (Elt F) (locK c)) :
    (bigSep Finset.univ fun k : Fin 6 => (locK c ↦[slotK c k.val]{fullShare} f : sProp 𝕄)) ⊢ (iprop(bigSep Finset.univ fun k : Fin 6 => iprop(∃ f, (locK c ↦[slotK c k]{fullShare} f : sProp 𝕄))) : sProp 𝕄) :=
  BI.bigSep_mono fun k _ => exists_intro (Φ := fun f => (locK c ↦[slotK c k.val]{fullShare} f : sProp 𝕄)) f

/-- All slots free: the semaphores at rest, the operand and the buffer whole. -/
theorem ringK_in (c : Dev nD) (L : ℕ → ℕ) (fs : Buf (Elt F) (hbmK c)) (f : Buf (Elt F) (locK c)) :
    iprop((bigSep Finset.univ fun k : Fin 6 => (semVal ((c : Thread nD τ), cellK k) 0 : sProp 𝕄)) ∗ (hbmK c ↦[Finset.univ]{fullShare} fs) ∗ (locK c ↦[Finset.univ]{fullShare} f))
      ⊢ iprop(RingK c L fs (fun _ => none) ∗ (hbmK c ↦[Finset.univ]{Transfers.shareDrop fullShare 6} fs)) := by
  unfold RingK Ring.AtW
  rw [show (bigSep Finset.univ fun k : Fin 6 => PhiK c L fs k none) = _ from allFreeK c fs]
  iintro ⟨Hs, Hh, Hl⟩
  icases (Transfers.pointsTo_toks_split fullShare 6) $$ Hh with ⟨Hd, Ht⟩
  isplitr [Hd]
  · isplitl [Hs]; · iexact Hs
    isplitl [Ht]; · iexact Ht
    iapply (slotAnyK c f)
    iapply (BIBase.Entails.of_eq (Ring.pointsTo_blocks (fun k : Fin 6 => slotK c k.val) (slotK_disj c) (slotK_cover c) f)) $$ Hl
  · iexact Hd
theorem ringK_out (c : Dev nD) (L : ℕ → ℕ) (fs : Buf (Elt F) (hbmK c)) (f : Buf (Elt F) (locK c)) :
    iprop(RingK c L fs (fun _ => none) ∗ (hbmK c ↦[Finset.univ]{Transfers.shareDrop fullShare 6} fs))
      ⊢ iprop((bigSep Finset.univ fun k : Fin 6 => (semVal ((c : Thread nD τ), cellK k) 0 : sProp 𝕄)) ∗ (hbmK c ↦[Finset.univ]{fullShare} fs) ∗ ∃ f, (locK c ↦[Finset.univ]{fullShare} f)) := by
  unfold RingK Ring.AtW
  show iprop((bigSep Finset.univ fun k : Fin 6 => freeK c fs k) ∗ _) ⊢ _
  rw [allFreeK]
  iintro ⟨⟨Hs, Ht, Hl⟩, Hd⟩
  isplitl [Hs]; · iexact Hs
  isplitl [Ht Hd]
  · iapply (Transfers.pointsTo_toks_join fullShare 6)
    isplitl [Hd]; · iexact Hd
    iexact Ht
  · iapply (Ring.pointsTo_blocks_join_exists (fun k : Fin 6 => slotK c k.val) (slotK_disj c) (slotK_cover c) f) $$ Hl

/-- A slot of the V ring: free, or waiting for the item of a cursor. -/
def PhiV (c : Dev nD) (L : ℕ → ℕ) (fs : Buf (Elt F) (hbmV c)) (k : Fin 8) : Option Cur → sProp 𝕄
  | none => freeV c fs k
  | some x => flyV c fs k x.b x.g x.c (szOf x.c (lw L x.b))

/-- The slots after `i` items have been consumed: each waits for the next item that lands in it. -/
def stV (L : ℕ → ℕ) (i : ℕ) (s : Fin 8) : Option Cur := item L (i + (s.val + 8 - i % 8) % 8)
/-- The slots after the first `t` items have been issued. -/
def preV (L : ℕ → ℕ) (t : ℕ) (s : Fin 8) : Option Cur := if s.val < t then item L s.val else none
/-- The slot of item `i`. -/
abbrev atV (i : ℕ) : Fin 8 := ⟨i % 8, Nat.mod_lt _ (by decide)⟩

theorem stV_self (L : ℕ → ℕ) (i : ℕ) : stV L i (atV i) = item L i := by
  unfold stV
  have h : i % 8 < 8 := Nat.mod_lt _ (by decide)
  show item L (i + (i % 8 + 8 - i % 8) % 8) = _
  rw [show (i % 8 + 8 - i % 8) % 8 = 0 by omega, Nat.add_zero]

theorem stV_succ (L : ℕ → ℕ) (i : ℕ) : stV L (i + 1) = Function.update (stV L i) (atV i) (item L (i + 8)) := by
  funext s
  have hs := s.isLt
  by_cases e : s = atV i
  · subst e
    rw [Function.update_self]
    show item L (i + 1 + (i % 8 + 8 - (i + 1) % 8) % 8) = _
    congr 1; omega
  · have e' : s.val ≠ i % 8 := fun h => e (Fin.ext h)
    rw [Function.update_of_ne e]
    show item L (i + 1 + (s.val + 8 - (i + 1) % 8) % 8) = item L (i + (s.val + 8 - i % 8) % 8)
    congr 1; omega

theorem preV_zero (L : ℕ → ℕ) : preV L 0 = fun _ => none := by
  funext s; unfold preV; rw [if_neg (Nat.not_lt_zero _)]
theorem preV_succ (L : ℕ → ℕ) (t : Fin 8) : preV L (t.val + 1) = Function.update (preV L t.val) t (item L t.val) := by
  funext s
  by_cases e : s = t
  · subst e; rw [Function.update_self]; unfold preV; rw [if_pos (Nat.lt_succ_self _)]
  · have e' : s.val ≠ t.val := fun h => e (Fin.ext h)
    rw [Function.update_of_ne e]; unfold preV
    by_cases h : s.val < t.val
    · rw [if_pos h, if_pos (by omega)]
    · rw [if_neg h, if_neg (by omega)]
theorem preV_full (L : ℕ → ℕ) : preV L 8 = stV L 0 := by
  funext s
  have hs := s.isLt
  unfold preV stV
  rw [if_pos hs]; congr 1; omega
theorem stV_end (L : ℕ → ℕ) (hL : ∀ b, L b ≤ 32768) (i : ℕ) (h : total (nL L) ≤ i) : stV L i = fun _ => none := by
  funext s; unfold stV; exact item_end hL (by omega)

/-- The V ring in a state. -/
def RingV (c : Dev nD) (L : ℕ → ℕ) (fs : Buf (Elt F) (hbmV c)) (st : Fin 8 → Option Cur) : sProp 𝕄 := Ring.AtW (σ := fun _ => Option Cur) (PhiV c L fs) st
/-- The V ring but for a slot. -/
def RestV (c : Dev nD) (L : ℕ → ℕ) (fs : Buf (Elt F) (hbmV c)) (st : Fin 8 → Option Cur) (k : Fin 8) : sProp 𝕄 := Ring.restW (σ := fun _ => Option Cur) (PhiV c L fs) st k

theorem openV (c : Dev nD) (L : ℕ → ℕ) (fs : Buf (Elt F) (hbmV c)) (i : ℕ) (h : (cu L i).b < 4) :
    RingV c L fs (stV L i) ⊢ iprop(flyV c fs (atV i) (cu L i).b (cu L i).g (cu L i).c (szOf (cu L i).c (lw L (cu L i).b)) ∗ RestV c L fs (stV L i) (atV i)) := by
  unfold RingV RestV
  rw [Ring.AtW_focus _ _ (atV i), stV_self, item_some h]
  exact .rfl
theorem issueV_close (c : Dev nD) (L : ℕ → ℕ) (fs : Buf (Elt F) (hbmV c)) (i : ℕ) (h : (cu L (i + 8)).b < 4) :
    iprop(flyV c fs (atV i) (cu L (i + 8)).b (cu L (i + 8)).g (cu L (i + 8)).c (szOf (cu L (i + 8)).c (lw L (cu L (i + 8)).b)) ∗ RestV c L fs (stV L i) (atV i)) ⊢ RingV c L fs (stV L (i + 1)) := by
  unfold RingV RestV
  rw [stV_succ, item_some h]
  exact Ring.AtW_update (σ := fun _ => Option Cur) (PhiV c L fs) (stV L i) (atV i) (some (cu L (i + 8)))
theorem skipV_close (c : Dev nD) (L : ℕ → ℕ) (fs : Buf (Elt F) (hbmV c)) (i : ℕ) (h : ¬ (cu L (i + 8)).b < 4) :
    iprop(freeV c fs (atV i) ∗ RestV c L fs (stV L i) (atV i)) ⊢ RingV c L fs (stV L (i + 1)) := by
  unfold RingV RestV
  rw [stV_succ, item_none h]
  exact Ring.AtW_update (σ := fun _ => Option Cur) (PhiV c L fs) (stV L i) (atV i) none
theorem preV_open (c : Dev nD) (L : ℕ → ℕ) (fs : Buf (Elt F) (hbmV c)) (t : Fin 8) :
    RingV c L fs (preV L t.val) ⊢ iprop(freeV c fs t ∗ RestV c L fs (preV L t.val) t) := by
  unfold RingV RestV
  rw [Ring.AtW_focus _ _ t, show preV L t.val t = none from if_neg (lt_irrefl _)]
  exact .rfl
theorem preV_issue (c : Dev nD) (L : ℕ → ℕ) (fs : Buf (Elt F) (hbmV c)) (t : Fin 8) (h : (cu L t.val).b < 4) :
    iprop(flyV c fs t (cu L t.val).b (cu L t.val).g (cu L t.val).c (szOf (cu L t.val).c (lw L (cu L t.val).b)) ∗ RestV c L fs (preV L t.val) t) ⊢ RingV c L fs (preV L (t.val + 1)) := by
  unfold RingV RestV
  rw [preV_succ, item_some h]
  exact Ring.AtW_update (σ := fun _ => Option Cur) (PhiV c L fs) (preV L t.val) t (some (cu L t.val))
theorem preV_skip (c : Dev nD) (L : ℕ → ℕ) (fs : Buf (Elt F) (hbmV c)) (t : Fin 8) (h : ¬ (cu L t.val).b < 4) :
    RingV c L fs (preV L t.val) ⊢ RingV c L fs (preV L (t.val + 1)) := by
  refine (preV_open c L fs t).trans ?_
  unfold RingV RestV
  rw [preV_succ, item_none h]
  exact Ring.AtW_update (σ := fun _ => Option Cur) (PhiV c L fs) (preV L t.val) t none

theorem slotV_disj (c : Dev nD) (b b' : Fin 8) (h : b ≠ b') : Disjoint (slotV c b.val) (slotV c b'.val) := by
  rw [Finset.disjoint_left]
  intro i h1 h2
  exact h (Fin.ext (((mem_slotV c _ i).1 h1).symm.trans ((mem_slotV c _ i).1 h2)))
theorem slotV_cover (c : Dev nD) : Finset.univ.biUnion (fun k : Fin 8 => slotV c k.val) = Finset.univ := by
  refine Finset.eq_univ_iff_forall.2 fun i => Finset.mem_biUnion.2 ⟨(i 0 : Fin 8), Finset.mem_univ _, (mem_slotV c _ i).2 rfl⟩

theorem allFreeV (c : Dev nD) (fs : Buf (Elt F) (hbmV c)) :
    (bigSep Finset.univ fun k : Fin 8 => freeV c fs k) = (iprop((bigSep Finset.univ fun k : Fin 8 => (semVal ((c : Thread nD τ), cellV k) 0 : sProp 𝕄))
      ∗ (bigSep Finset.univ fun k : Fin 8 => (hbmV c ↦[Finset.univ]{shareV k} fs : sProp 𝕄)) ∗ bigSep Finset.univ fun k : Fin 8 => iprop(∃ f, (locV c ↦[slotV c k]{fullShare} f : sProp 𝕄))) : sProp 𝕄) :=
  (BI.bigSep_sep Finset.univ (Φ := fun k : Fin 8 => (semVal ((c : Thread nD τ), cellV k) 0 : sProp 𝕄)) (Ψ := fun k : Fin 8 => iprop((hbmV c ↦[Finset.univ]{shareV k} fs) ∗ ∃ f, (locV c ↦[slotV c k]{fullShare} f : sProp 𝕄)))).trans
    (congrArg _ (BI.bigSep_sep Finset.univ (Φ := fun k : Fin 8 => (hbmV c ↦[Finset.univ]{shareV k} fs : sProp 𝕄)) (Ψ := fun k : Fin 8 => iprop(∃ f, (locV c ↦[slotV c k]{fullShare} f : sProp 𝕄)))))

theorem slotAnyV (c : Dev nD) (f : Buf (Elt F) (locV c)) :
    (bigSep Finset.univ fun k : Fin 8 => (locV c ↦[slotV c k.val]{fullShare} f : sProp 𝕄)) ⊢ (iprop(bigSep Finset.univ fun k : Fin 8 => iprop(∃ f, (locV c ↦[slotV c k]{fullShare} f : sProp 𝕄))) : sProp 𝕄) :=
  BI.bigSep_mono fun k _ => exists_intro (Φ := fun f => (locV c ↦[slotV c k.val]{fullShare} f : sProp 𝕄)) f

/-- All slots free: the semaphores at rest, the operand and the buffer whole. -/
theorem ringV_in (c : Dev nD) (L : ℕ → ℕ) (fs : Buf (Elt F) (hbmV c)) (f : Buf (Elt F) (locV c)) :
    iprop((bigSep Finset.univ fun k : Fin 8 => (semVal ((c : Thread nD τ), cellV k) 0 : sProp 𝕄)) ∗ (hbmV c ↦[Finset.univ]{fullShare} fs) ∗ (locV c ↦[Finset.univ]{fullShare} f))
      ⊢ iprop(RingV c L fs (fun _ => none) ∗ (hbmV c ↦[Finset.univ]{Transfers.shareDrop fullShare 8} fs)) := by
  unfold RingV Ring.AtW
  rw [show (bigSep Finset.univ fun k : Fin 8 => PhiV c L fs k none) = _ from allFreeV c fs]
  iintro ⟨Hs, Hh, Hl⟩
  icases (Transfers.pointsTo_toks_split fullShare 8) $$ Hh with ⟨Hd, Ht⟩
  isplitr [Hd]
  · isplitl [Hs]; · iexact Hs
    isplitl [Ht]; · iexact Ht
    iapply (slotAnyV c f)
    iapply (BIBase.Entails.of_eq (Ring.pointsTo_blocks (fun k : Fin 8 => slotV c k.val) (slotV_disj c) (slotV_cover c) f)) $$ Hl
  · iexact Hd
theorem ringV_out (c : Dev nD) (L : ℕ → ℕ) (fs : Buf (Elt F) (hbmV c)) (f : Buf (Elt F) (locV c)) :
    iprop(RingV c L fs (fun _ => none) ∗ (hbmV c ↦[Finset.univ]{Transfers.shareDrop fullShare 8} fs))
      ⊢ iprop((bigSep Finset.univ fun k : Fin 8 => (semVal ((c : Thread nD τ), cellV k) 0 : sProp 𝕄)) ∗ (hbmV c ↦[Finset.univ]{fullShare} fs) ∗ ∃ f, (locV c ↦[Finset.univ]{fullShare} f)) := by
  unfold RingV Ring.AtW
  show iprop((bigSep Finset.univ fun k : Fin 8 => freeV c fs k) ∗ _) ⊢ _
  rw [allFreeV]
  iintro ⟨⟨Hs, Ht, Hl⟩, Hd⟩
  isplitl [Hs]; · iexact Hs
  isplitl [Ht Hd]
  · iapply (Transfers.pointsTo_toks_join fullShare 8)
    isplitl [Hd]; · iexact Hd
    iexact Ht
  · iapply (Ring.pointsTo_blocks_join_exists (fun k : Fin 8 => slotV c k.val) (slotV_disj c) (slotV_cover c) f) $$ Hl

end Cert.KernelIdeal.Hand
-- ==== Proof.KI.Val.lean ====
module

public import proofs.«01_k».proof.Proof.KI.Mem
public import Idealize.ShloMosaic.Lib.Pipeline.FrameBody
public import Idealize.ShloMosaic.Lib.Pipeline.DatRel
public import Idealize.ShloMosaic.Lib.Ring
public import Idealize.ShloMosaic.Lib.Tactic
public import Idealize.ShloMosaic.Lib.WordCmp
public import Idealize.ShloMosaic.Lib.VecWindow
public import Idealize.ShloMosaic.Lib.Writes

@[expose] public section

set_option maxRecDepth 16384

/-!
What the arithmetic's buffers hold, and the loads and stores in those terms.
-/

noncomputable section

namespace Cert.KernelIdeal.Hand

open Cert.KernelIdeal Cert.KernelIdeal.Gen Cert.Words
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-- Reading a box of sizes `z` at offsets `o` out of `v` (an index out of range wraps round). -/
def tile {s : Shape} {α : Type} [Nonempty s.Idx] (v : s.Idx → α) (o z : Fin s.rank → ℕ) : (Shape.mk s.rank z).Idx → α :=
  fun y => v (fun a => ⟨(o a + (y a).val) % s.size a, Nat.mod_lt _ (Fin.pos (Classical.arbitrary s.Idx a))⟩)

instance : Nonempty S16x8x4096.Idx := ⟨fun a => ⟨0, by revert a; decide⟩⟩
instance : Nonempty S8x128.Idx := ⟨fun a => ⟨0, by revert a; decide⟩⟩
instance : Nonempty S24x8x128.Idx := ⟨fun a => ⟨0, by revert a; decide⟩⟩
instance : Nonempty S24x8x160.Idx := ⟨fun a => ⟨0, by revert a; decide⟩⟩
instance : Nonempty S6x4x160.Idx := ⟨fun a => ⟨0, by revert a; decide⟩⟩
instance : Nonempty S8x160.Idx := ⟨fun a => ⟨0, by revert a; decide⟩⟩
instance : Nonempty S6x160x4096.Idx := ⟨fun a => ⟨0, by revert a; decide⟩⟩
instance : Nonempty S8x160x4096.Idx := ⟨fun a => ⟨0, by revert a; decide⟩⟩

theorem readAt_tile {κ : Kind} {sp : Space} {s : Shape} {e : EltTy} [Nonempty s.Idx] (v : View sig κ sp s e) (f : v.ty.Contents (Elt F)) {o z : Fin s.rank → ℕ} (inb : ∀ a, o a + z a ≤ s.size a) :
    v.readAt (Elt F) (Rect.unit o z inb).toLoadRect f = tile (v.read (Elt F) f) o z := by
  funext y
  refine congrArg (v.read (Elt F) f) (funext fun a => Fin.ext ?_)
  show o a + 1 * (y a).val = (o a + (y a).val) % s.size a
  have h1 : (y a).val < z a := (y a).isLt
  have h2 := inb a
  rw [Nat.mod_eq_of_lt (by omega)]; omega

/-- What the arithmetic's buffers hold: the ring of scores, the running and the final maxima, the sums, the products, the new keys, the new values, and the two results. -/
structure St (F : FTy → Type) where
  s : S16x8x4096.Idx → Elt F .f32
  mr : S8x128.Idx → Elt F .f32
  mf : S24x8x128.Idx → Elt F .f32
  l : S8x128.Idx → Elt F .f32
  acc : S8x160.Idx → Elt F .f32
  kn : S6x4x160.Idx → Elt F .f32
  vd : S6x4x160.Idx → Elt F .f32
  oc : S24x8x160.Idx → Elt F .f32
  ou : S24x8x160.Idx → Elt F .bf16

/-- A buffer held at contents that read as `v`. -/
def hb {sp : CoreSpace} {s : Shape} {e : EltTy} (c : Dev nD) (m : Memref sig .tc sp s e) (v : s.Idx → Elt F e) : sProp 𝕄 :=
  iprop(∃ f : Buf (Elt F) (m.view.loc (c : Thread nD τ)), ⌜m.view.read (Elt F) f = v⌝ ∗ pt c m f)

section Rules

variable {α : Type} (c : Dev nD) (bd : Option Variants.nat.V)

theorem ldT {Q : α → sProp 𝕄} {sp : CoreSpace} {s : Shape} {e : EltTy} [Nonempty s.Idx] {m : Memref sig .tc sp s e} {o z : Fin s.rank → ℕ} {inb : ∀ a, o a + z a ≤ s.size a} {hl : m.view.LoadsAt (Rect.unit o z inb).toLoadRect} {k : ((Rect.unit o z inb).toLoadRect.shape.Idx → Elt F e) → Prog (TpuEff nD τ sig (Elt F) (Λ₀ F) .tc) α}
    {f : Buf (Elt F) (m.view.loc (c : Thread nD τ))} :
    pt c m f ⊢ iprop((pt c m f -∗ wp frame (wpE (defs₀ (F := F)) Variants.nat c.tc bd) Set.univ (k (tile (m.view.read (Elt F) f) o z)) Q)
      -∗ wp frame (wpE (defs₀ (F := F)) Variants.nat c.tc bd) Set.univ (.op (.load m (Rect.unit o z inb).toLoadRect hl) k) Q) := by
  have h := ld (F := F) c bd (Q := Q) (m := m) (r := (Rect.unit o z inb).toLoadRect) (hl := hl) (k := k) (f := f)
  rw [readAt_tile m.view f inb] at h
  exact h

theorem ldH {Q : α → sProp 𝕄} {sp : CoreSpace} {s : Shape} {e : EltTy} [Nonempty s.Idx] {m : Memref sig .tc sp s e} {v : s.Idx → Elt F e} {o z : Fin s.rank → ℕ} {inb : ∀ a, o a + z a ≤ s.size a} {hl : m.view.LoadsAt (Rect.unit o z inb).toLoadRect} {k : ((Rect.unit o z inb).toLoadRect.shape.Idx → Elt F e) → Prog (TpuEff nD τ sig (Elt F) (Λ₀ F) .tc) α} :
    hb c m v ⊢ iprop((hb c m v -∗ wp frame (wpE (defs₀ (F := F)) Variants.nat c.tc bd) Set.univ (k (tile v o z)) Q)
      -∗ wp frame (wpE (defs₀ (F := F)) Variants.nat c.tc bd) Set.univ (.op (.load m (Rect.unit o z inb).toLoadRect hl) k) Q) := by
  unfold hb
  iintro ⟨%f, %hf, H⟩ Hk
  subst hf
  iapply (ldT c bd) $$ H; iintro H
  iapply Hk
  iexists f
  isplitr; · ipureintro; rfl
  iexact H

theorem ldF {Q : α → sProp 𝕄} {sp : CoreSpace} {s : Shape} {e : EltTy} {m : Memref sig .tc sp s e} {v : s.Idx → Elt F e} {o : Fin s.rank → ℕ} {inb : ∀ a, o a + s.size a ≤ s.size a} {hl : m.view.LoadsAt (Rect.unit o s.size inb).toLoadRect} {k : ((Rect.unit o s.size inb).toLoadRect.shape.Idx → Elt F e) → Prog (TpuEff nD τ sig (Elt F) (Λ₀ F) .tc) α} :
    hb c m v ⊢ iprop((hb c m v -∗ wp frame (wpE (defs₀ (F := F)) Variants.nat c.tc bd) Set.univ (k v) Q)
      -∗ wp frame (wpE (defs₀ (F := F)) Variants.nat c.tc bd) Set.univ (.op (.load m (Rect.unit o s.size inb).toLoadRect hl) k) Q) := by
  unfold hb
  iintro ⟨%f, %hf, H⟩ Hk
  subst hf
  have h := ld (F := F) c bd (Q := Q) (m := m) (r := (Rect.unit o s.size inb).toLoadRect) (hl := hl) (k := k) (f := f)
  rw [View.readAt_full m.view f inb] at h
  iapply h $$ H; iintro H
  iapply Hk
  iexists f
  isplitr; · ipureintro; rfl
  iexact H

theorem stH {Q : α → sProp 𝕄} {sp : CoreSpace} {s : Shape} {e : EltTy} {m : Memref sig .tc sp s e} {v : s.Idx → Elt F e} {o z : Fin s.rank → ℕ} {inb : ∀ a, o a + z a ≤ s.size a} {w : (Rect.unit o z inb).shape.Idx → Elt F e} {hx : (m.access (Rect.unit o z inb)).Stores Finset.univ} {hm : Finset.univ = Finset.univ ∨ ∀ a, (Rect.unit o z inb).stride a = 1}
    {k : PUnit → Prog (TpuEff nD τ sig (Elt F) (Λ₀ F) .tc) α} :
    hb c m v ⊢ iprop((hb c m (VecWindow.put v o z w) -∗ wp frame (wpE (defs₀ (F := F)) Variants.nat c.tc bd) Set.univ (k ⟨⟩) Q)
      -∗ wp frame (wpE (defs₀ (F := F)) Variants.nat c.tc bd) Set.univ (.op (.store m (Rect.unit o z inb) w Finset.univ hx hm) k) Q) := by
  unfold hb
  iintro ⟨%f, %hf, H⟩ Hk
  subst hf
  iapply (st c bd) $$ H; iintro H
  iapply Hk
  iexists _
  isplitr [H]; rotate_left
  · iexact H
  · ipureintro
    exact View.read_writes_cons_put m.view f inb w [] rfl

theorem stF {Q : α → sProp 𝕄} {sp : CoreSpace} {s : Shape} {e : EltTy} {m : Memref sig .tc sp s e} {v : s.Idx → Elt F e} {o : Fin s.rank → ℕ} {inb : ∀ a, o a + s.size a ≤ s.size a} {w : (Rect.unit o s.size inb).shape.Idx → Elt F e} {hx : (m.access (Rect.unit o s.size inb)).Stores Finset.univ} {hm : Finset.univ = Finset.univ ∨ ∀ a, (Rect.unit o s.size inb).stride a = 1}
    {k : PUnit → Prog (TpuEff nD τ sig (Elt F) (Λ₀ F) .tc) α} :
    hb c m v ⊢ iprop((hb c m w -∗ wp frame (wpE (defs₀ (F := F)) Variants.nat c.tc bd) Set.univ (k ⟨⟩) Q)
      -∗ wp frame (wpE (defs₀ (F := F)) Variants.nat c.tc bd) Set.univ (.op (.store m (Rect.unit o s.size inb) w Finset.univ hx hm) k) Q) := by
  unfold hb
  iintro ⟨%f, %hf, H⟩ Hk
  subst hf
  iapply (st c bd) $$ H; iintro H
  iapply Hk
  iexists _
  isplitr [H]; rotate_left
  · iexact H
  · ipureintro
    exact View.read_writes_full m.view f inb w []

/-- Loading a whole slot of the K ring. -/
theorem ldKT {Q : α → sProp 𝕄} {k' : Fin 6} {o : Fin 3 → ℕ} (ho : o = ![k'.val, 0, 0]) {inb : ∀ a, o a + S1x160x4096.size a ≤ S6x160x4096.size a}
    {hl : (Memref.whole cc0_scratch0).view.LoadsAt (Rect.unit (s := S6x160x4096) o S1x160x4096.size inb).toLoadRect}
    {k : ((Rect.unit (s := S6x160x4096) o S1x160x4096.size inb).toLoadRect.shape.Idx → Elt F .bf16) → Prog (TpuEff nD τ sig (Elt F) (Λ₀ F) .tc) α} {f : Buf (Elt F) (locK c)} :
    (locK c ↦[slotK c k'.val]{fullShare} f) ⊢ iprop(((locK c ↦[slotK c k'.val]{fullShare} f) -∗ wp frame (wpE (defs₀ (F := F)) Variants.nat c.tc bd) Set.univ (k (tile (s := S6x160x4096) f ![k'.val, 0, 0] S1x160x4096.size)) Q)
      -∗ wp frame (wpE (defs₀ (F := F)) Variants.nat c.tc bd) Set.univ (.op (.load (Memref.whole cc0_scratch0) (Rect.unit (s := S6x160x4096) o S1x160x4096.size inb).toLoadRect hl) k) Q) := by
  have h := ldK (F := F) c bd (Q := Q) ho (inb := inb) (hl := hl) (k := k) (f := f)
  rw [readAt_tile (s := S6x160x4096) (Memref.whole cc0_scratch0).view f inb] at h
  subst ho
  exact h

/-- Loading a whole slot of the V ring. -/
theorem ldVT {Q : α → sProp 𝕄} {k' : Fin 8} {o : Fin 3 → ℕ} (ho : o = ![k'.val, 0, 0]) {inb : ∀ a, o a + S1x160x4096.size a ≤ S8x160x4096.size a}
    {hl : (Memref.whole cc0_scratch1).view.LoadsAt (Rect.unit (s := S8x160x4096) o S1x160x4096.size inb).toLoadRect}
    {k : ((Rect.unit (s := S8x160x4096) o S1x160x4096.size inb).toLoadRect.shape.Idx → Elt F .fp8e4m3) → Prog (TpuEff nD τ sig (Elt F) (Λ₀ F) .tc) α} {f : Buf (Elt F) (locV c)} :
    (locV c ↦[slotV c k'.val]{fullShare} f) ⊢ iprop(((locV c ↦[slotV c k'.val]{fullShare} f) -∗ wp frame (wpE (defs₀ (F := F)) Variants.nat c.tc bd) Set.univ (k (tile (s := S8x160x4096) f ![k'.val, 0, 0] S1x160x4096.size)) Q)
      -∗ wp frame (wpE (defs₀ (F := F)) Variants.nat c.tc bd) Set.univ (.op (.load (Memref.whole cc0_scratch1) (Rect.unit (s := S8x160x4096) o S1x160x4096.size inb).toLoadRect hl) k) Q) := by
  have h := ldV (F := F) c bd (Q := Q) ho (inb := inb) (hl := hl) (k := k) (f := f)
  rw [readAt_tile (s := S8x160x4096) (Memref.whole cc0_scratch1).view f inb] at h
  subst ho
  exact h

end Rules

/-! One chunk's V pass, written over what the buffers hold: `m` the final maximum, `r` the ring row, `t` the tile. -/

/-- The final maximum of pair `(b, g)`. -/
def tM (σ : St F) (b g : BitVec 32) : FVec F S8x128 .f32 :=
  shapeCast S8x128 (tile σ.mf ![(Scalar.addi (Scalar.muli b 6#32) g).toNat, 0, 0] S1x8x128.size) shapeCasts_S1x8x128_S8x128
/-- Tile `t` of the scores, loaded. -/
def tT (σ : St F) (r t : ℕ) : Vec F S1x8x128 .f32 := tile σ.s ![r, 0, 128 * t] S1x8x128.size
/-- Their distance below the maximum. -/
def tS (σ : St F) (m : FVec F S8x128 .f32) (r t : ℕ) : FVec F S8x128 .f32 :=
  subf (shapeCast S8x128 (tT σ r t) shapeCasts_S1x8x128_S8x128) m
/-- The weights of tile `t`. -/
def tE (σ : St F) (m : FVec F S8x128 .f32) (r t : ℕ) : FVec F S8x128 .f32 :=
  exp (tS σ m r t)
/-- The running lane sums before the chunk: nothing at a pair's first chunk. -/
def tZ (σ : St F) (a26 : BitVec 32) : FVec F S8x128 .f32 :=
  Scalar.select (Scalar.cmpi .eq a26 0#32) (broadcast S8x128 (Scalar.ofBits .f32 0x00000000#32)) σ.l
/-- The lane sums after `k` tiles. -/
def tL (σ : St F) (a26 : BitVec 32) (m : FVec F S8x128 .f32) (r : ℕ) : ℕ → FVec F S8x128 .f32
  | 0 => tZ σ a26
  | k + 1 => addf (tL σ a26 m r k) (tE σ m r k)
/-- The weights of tile `t` scaled up. -/
def tU (σ : St F) (m : FVec F S8x128 .f32) (r t : ℕ) : FVec F S8x128 .f32 :=
  mulf (tE σ m r t) (broadcast S8x128 (Scalar.ofBits .f32 0x43E00000#32))
/-- And clipped. -/
def tC (σ : St F) (m : FVec F S8x128 .f32) (r t : ℕ) : FVec F S8x128 .f32 :=
  minimumf (tU σ m r t) (broadcast S8x128 (Scalar.ofBits .f32 0x43E00000#32))

/-- The lane sums the chunk leaves. -/
def tN (σ : St F) (a26 : BitVec 32) (m : FVec F S8x128 .f32) (r : ℕ) : FVec F S8x128 .f32 :=
  shapeCast S8x128 (tL σ a26 m r 32) shapeCasts_S8x128_S8x128
/-- The chunk's clipped weights side by side. -/
def tW (σ : St F) (m : FVec F S8x128 .f32) (r : ℕ) : FVec F S8x4096 .f32 :=
  concatenate S8x4096 1 [⟨S8x128, tC σ m r 0⟩, ⟨S8x128, tC σ m r 1⟩, ⟨S8x128, tC σ m r 2⟩, ⟨S8x128, tC σ m r 3⟩, ⟨S8x128, tC σ m r 4⟩, ⟨S8x128, tC σ m r 5⟩, ⟨S8x128, tC σ m r 6⟩, ⟨S8x128, tC σ m r 7⟩, ⟨S8x128, tC σ m r 8⟩, ⟨S8x128, tC σ m r 9⟩, ⟨S8x128, tC σ m r 10⟩, ⟨S8x128, tC σ m r 11⟩, ⟨S8x128, tC σ m r 12⟩, ⟨S8x128, tC σ m r 13⟩, ⟨S8x128, tC σ m r 14⟩, ⟨S8x128, tC σ m r 15⟩, ⟨S8x128, tC σ m r 16⟩, ⟨S8x128, tC σ m r 17⟩, ⟨S8x128, tC σ m r 18⟩, ⟨S8x128, tC σ m r 19⟩, ⟨S8x128, tC σ m r 20⟩, ⟨S8x128, tC σ m r 21⟩, ⟨S8x128, tC σ m r 22⟩, ⟨S8x128, tC σ m r 23⟩, ⟨S8x128, tC σ m r 24⟩, ⟨S8x128, tC σ m r 25⟩, ⟨S8x128, tC σ m r 26⟩, ⟨S8x128, tC σ m r 27⟩, ⟨S8x128, tC σ m r 28⟩, ⟨S8x128, tC σ m r 29⟩, ⟨S8x128, tC σ m r 30⟩, ⟨S8x128, tC σ m r 31⟩] concatenates_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x4096_d1
/-- The chunk's product with the values. -/
def tV (σ : St F) (m : FVec F S8x128 .f32) (r : ℕ) (Vb : Vec F S1x160x4096 .fp8e4m3) : FVec F S8x160 .f32 :=
  matmul dot_S8x4096_S160x4096_S8x160_1_1_0_0_n_n none (truncf .fp8e4m3 (tW σ m r) bitsLt_fp8e4m3_f32) (shapeCast S160x4096 Vb shapeCasts_S1x160x4096_S160x4096) (constant S8x160 .f32 0x00000000#32)
/-- What the chunk leaves of the products. -/
def tA (σ : St F) (a26 : BitVec 32) (m : FVec F S8x128 .f32) (r : ℕ) (Vb : Vec F S1x160x4096 .fp8e4m3) : FVec F S8x160 .f32 :=
  Scalar.select (Scalar.cmpi .eq a26 0#32) (tV σ m r Vb) (addf σ.acc (tV σ m r Vb))

/-- One chunk's V pass. -/
def opV (σ : St F) (b g a26 a36 : BitVec 32) (Vb : Vec F S1x160x4096 .fp8e4m3) : St F :=
  { σ with l := tN σ a26 (tM σ b g) a36.toNat, acc := shapeCast S8x160 (tA σ a26 (tM σ b g) a36.toNat Vb) shapeCasts_S8x160_S8x160 }

/-- The row of pair `(b, g)`. -/
def rowOf (b g : BitVec 32) : Fin 3 → ℕ := ![(Scalar.addi (Scalar.muli b 6#32) g).toNat, 0, 0]

/-- One chunk's scores. -/
def kS (q : S24x8x160.Idx → Elt F .bf16) (b g a23 : BitVec 32) (Kb : Vec F S1x160x4096 .bf16) (n : BitVec 32) : FVec F S8x4096 .f32 :=
  k0_pay6 a23 (tile q (rowOf b g) S1x8x160.size) Kb n

/-- One chunk's K pass. -/
def opK (σ : St F) (q : S24x8x160.Idx → Elt F .bf16) (b g a23 a35 : BitVec 32) (Kb : Vec F S1x160x4096 .bf16) (n : BitVec 32) : St F :=
  { σ with
    s := VecWindow.put σ.s ![a35.toNat, 0, 0] S1x8x4096.size (shapeCast S1x8x4096 (kS q b g a23 Kb n) shapeCasts_S8x4096_S1x8x4096)
    mr := k0_pay10 a23 (kS q b g a23 Kb n) (k0_pay8 a23 (tile q (rowOf b g) S1x8x160.size) Kb n) (k0_pay9 a23 (tile q (rowOf b g) S1x8x160.size) Kb n) σ.mr }

/-- Where pair `(b, g)`'s new key and value lie. -/
def colOf (b g : BitVec 32) : Fin 3 → ℕ := ![g.toNat, b.toNat, 0]

/-- The final maximum of pair `(b, g)`, written. -/
def opM (σ : St F) (q : S24x8x160.Idx → Elt F .bf16) (b g : BitVec 32) : St F :=
  { σ with mf := VecWindow.put σ.mf (rowOf b g) S1x8x128.size (k0_pay168 σ.mr (tile q (rowOf b g) S1x8x160.size) (tile σ.kn (colOf b g) S1x1x160.size)) }

/-- The new token's weight. -/
def fP (σ : St F) (q : S24x8x160.Idx → Elt F .bf16) (b g : BitVec 32) : FVec F S8x1 .f32 :=
  k0_pay162 (tile σ.mf (rowOf b g) S1x8x128.size) (tile q (rowOf b g) S1x8x160.size) (tile σ.kn (colOf b g) S1x1x160.size)
/-- The whole sum of the weights. -/
def fL (σ : St F) (q : S24x8x160.Idx → Elt F .bf16) (b g : BitVec 32) : FVec F S8x1 .f32 :=
  k0_pay163 (tile σ.mf (rowOf b g) S1x8x128.size) (tile q (rowOf b g) S1x8x160.size) (tile σ.kn (colOf b g) S1x1x160.size) σ.l
/-- The cache's share of the result. -/
def fO (σ : St F) (q : S24x8x160.Idx → Elt F .bf16) (vs : S6x4x160.Idx → Elt F .f32) (b g : BitVec 32) : FVec F S8x160 .f32 :=
  k0_pay164 (tile σ.mf (rowOf b g) S1x8x128.size) (tile q (rowOf b g) S1x8x160.size) (tile σ.kn (colOf b g) S1x1x160.size) σ.l σ.acc (tile vs (colOf b g) S1x1x160.size)

/-- The two results of pair `(b, g)`, written. -/
def opO (σ : St F) (q : S24x8x160.Idx → Elt F .bf16) (vs : S6x4x160.Idx → Elt F .f32) (b g : BitVec 32) : St F :=
  { σ with
    oc := VecWindow.put σ.oc (rowOf b g) S1x8x160.size (k0_pay169 (fO σ q vs b g))
    ou := VecWindow.put σ.ou (rowOf b g) S1x8x160.size (k0_pay170 (fP σ q b g) (fL σ q b g) (fO σ q vs b g) (tile σ.vd (colOf b g) S1x1x160.size)) }

end Cert.KernelIdeal.Hand
-- ==== Proof.KI.FragA.lean ====
module

public import proofs.«01_k».proof.Proof.KI.Val
public import Idealize.ShloMosaic.Lib.Pipeline.FrameBody
public import Idealize.ShloMosaic.Lib.Pipeline.DatRel
public import Idealize.ShloMosaic.Lib.Ring
public import Idealize.ShloMosaic.Lib.Tactic
public import Idealize.ShloMosaic.Lib.WordCmp

@[expose] public section

set_option maxRecDepth 16384

/-!
The arithmetic parts of the loop body: each loads and stores its buffers and goes on, with what it returns and leaves.
-/

noncomputable section

namespace Cert.KernelIdeal.Hand

open Cert.KernelIdeal Cert.KernelIdeal.Gen Cert.Words
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-- The buffers the arithmetic works on: the lengths, the queries and the scales at fixed contents, the rest holding `σ`. -/
def Bufs (c : Dev nD) (a0 : Memref sig .tc .smem S4 .i32) (a1 : Memref sig .tc .vmem S24x8x160 .bf16) (a4 : Memref sig .tc .vmem S6x4x160 .f32) (a12 : Memref sig .tc .vmem S16x8x4096 .f32) (a13 : Memref sig .tc .vmem S8x128 .f32) (a14 : Memref sig .tc .vmem S24x8x128 .f32) (a15 : Memref sig .tc .vmem S8x128 .f32) (a16 : Memref sig .tc .vmem S8x160 .f32) (a17 : Memref sig .tc .vmem S6x4x160 .f32) (a18 : Memref sig .tc .vmem S6x4x160 .f32) (a8 : Memref sig .tc .vmem S24x8x160 .f32) (a7 : Memref sig .tc .vmem S24x8x160 .bf16)
    (f0 : Buf (Elt F) (a0.view.loc (c : Thread nD τ))) (f1 : Buf (Elt F) (a1.view.loc (c : Thread nD τ))) (f4 : Buf (Elt F) (a4.view.loc (c : Thread nD τ))) (σ : St F) : sProp 𝕄 :=
  iprop(pt c a0 f0 ∗ pt c a1 f1 ∗ pt c a4 f4 ∗ hb c a12 σ.s ∗ hb c a13 σ.mr ∗ hb c a14 σ.mf ∗ hb c a15 σ.l ∗ hb c a16 σ.acc ∗ hb c a17 σ.kn ∗ hb c a18 σ.vd ∗ hb c a8 σ.oc ∗ hb c a7 σ.ou)

variable (c : Dev nD) (bd : Option Variants.nat.V) (a0 : Memref sig .tc .smem S4 .i32) (p0 : a0.IsWhole) (a1 : Memref sig .tc .vmem S24x8x160 .bf16) (p1 : a1.IsWhole) (a12 : Memref sig .tc .vmem S16x8x4096 .f32) (p12 : a12.IsWhole) (a13 : Memref sig .tc .vmem S8x128 .f32) (p13 : a13.IsWhole) (a14 : Memref sig .tc .vmem S24x8x128 .f32) (p14 : a14.IsWhole) (a15 : Memref sig .tc .vmem S8x128 .f32) (p15 : a15.IsWhole) (a16 : Memref sig .tc .vmem S8x160 .f32) (p16 : a16.IsWhole) (a17 : Memref sig .tc .vmem S6x4x160 .f32) (p17 : a17.IsWhole) (a4 : Memref sig .tc .vmem S6x4x160 .f32) (p4 : a4.IsWhole) (a8 : Memref sig .tc .vmem S24x8x160 .f32) (p8 : a8.IsWhole) (a18 : Memref sig .tc .vmem S6x4x160 .f32) (p18 : a18.IsWhole) (a7 : Memref sig .tc .vmem S24x8x160 .bf16) (p7 : a7.IsWhole)
variable (a21 a22 a23 a24 a25 a26 a27 a28 a29 a30 a31 a32 a33 a34 a35 a36 : BitVec 32)
variable {f0 : Buf (Elt F) (a0.view.loc (c : Thread nD τ))} {f1 : Buf (Elt F) (a1.view.loc (c : Thread nD τ))} {f4 : Buf (Elt F) (a4.view.loc (c : Thread nD τ))}

theorem part2_wp {α : Type} (k0_hw15 : k0_chk15 a21 a22 a24 a25 a35) (k0_hw11 : k0_chk11 a21 a22 a24 a25) (k0_hw10 : k0_chk10 a21 a22 a24 a25 a27 a33) (k0_h5 : k0_cond5 a21 a22 a24 a25 = 1#1) (σ : St F) {L : ℕ → ℕ} (hL : LensOk a0 c f0 L) (b0 : ℕ) (hb : k0_off21 a21 = ![b0]) (k' : Fin 6) (hk : k0_off20 a33 = ![k'.val, 0, 0]) (fS : Buf (Elt F) (locK c))
    {kk} {Q : α → sProp 𝕄} :
    iprop(Bufs c a0 a1 a4 a12 a13 a14 a15 a16 a17 a18 a8 a7 f0 f1 f4 σ ∗ (locK c ↦[slotK c k'.val]{fullShare} fS)) ⊢ iprop((∀ r (σ' : St F), ⌜r = ⟨(kS (a1.view.read (Elt F) f1) a21 a22 a23 (tile (s := S6x160x4096) fS ![k'.val, 0, 0] S1x160x4096.size) (W (L b0))), k0_pay8 a23 (tile (a1.view.read (Elt F) f1) (rowOf a21 a22) S1x8x160.size) (tile (s := S6x160x4096) fS ![k'.val, 0, 0] S1x160x4096.size) (W (L b0)), k0_pay9 a23 (tile (a1.view.read (Elt F) f1) (rowOf a21 a22) S1x8x160.size) (tile (s := S6x160x4096) fS ![k'.val, 0, 0] S1x160x4096.size) (W (L b0))⟩ ∧ σ' = { σ with s := VecWindow.put σ.s ![a35.toNat, 0, 0] S1x8x4096.size (shapeCast S1x8x4096 (kS (a1.view.read (Elt F) f1) a21 a22 a23 (tile (s := S6x160x4096) fS ![k'.val, 0, 0] S1x160x4096.size) (W (L b0))) shapeCasts_S8x4096_S1x8x4096) }⌝ -∗ iprop(Bufs c a0 a1 a4 a12 a13 a14 a15 a16 a17 a18 a8 a7 f0 f1 f4 σ' ∗ (locK c ↦[slotK c k'.val]{fullShare} fS)) -∗ wp frame (wpE (defs₀ (F := F)) Variants.nat c.tc bd) Set.univ (kk r) Q)
      -∗ wp frame (wpE (defs₀ (F := F)) Variants.nat c.tc bd) Set.univ (k0_part2 (F := F) a0 p0 cc0_scratch9 (Memref.whole cc0_scratch0) (isW _) (Memref.whole main_v2) (isW _) cc0_scratch10 (Memref.whole cc0_scratch1) (isW _) (Memref.whole main_v4) (isW _) a1 p1 a12 p12 a13 p13 a14 p14 a15 p15 a16 p16 a17 p17 a4 p4 a8 p8 a18 p18 a7 p7 a21 a22 a23 a24 a25 a26 a27 a28 a29 a30 a31 a32 a33 a34 a35 a36 k0_hw15 k0_hw11 k0_hw10 k0_h5 >>= kk) Q) := by
  rw [k0_part2_eq_skeleton]; unfold k0_part2_skel Bufs
  simp only [Prog.lift, Prog.bind_op, Prog.bind_ret, Prog.pure_eq_ret, Prog.bind_assoc]
  iintro ⟨⟨H0, H1, H4, H12, H13, H14, H15, H16, H17, H18, H8, H7⟩, HS⟩ Hk
  iapply (ldT c bd) $$ H1; iintro H1
  iapply (ldKT c bd hk) $$ HS; iintro HS
  iapply (ldLen c bd hL b0 hb) $$ H0; iintro H0
  iapply (ldH c bd) $$ H12; iintro H12
  iapply (stH c bd) $$ H12; iintro H12
  iapply Hk $$ %_ %_ []
  · ipureintro; exact ⟨rfl, rfl⟩
  isplitr [HS]
  · isplitl [H0]; · iexact H0
    isplitl [H1]; · iexact H1
    isplitl [H4]; · iexact H4
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H8]; · iexact H8
    iexact H7
  · iexact HS

theorem part3_wp {α : Type} (v300 : FVec F S8x4096 .f32) (v325 : FVec F S8x128 .f32) (v326 : FVec F S8x128 .f32) (σ : St F)
    {kk} {Q : α → sProp 𝕄} :
    Bufs c a0 a1 a4 a12 a13 a14 a15 a16 a17 a18 a8 a7 f0 f1 f4 σ ⊢ iprop((∀ r (σ' : St F), ⌜σ' = { σ with mr := k0_pay10 a23 v300 v325 v326 σ.mr }⌝ -∗ Bufs c a0 a1 a4 a12 a13 a14 a15 a16 a17 a18 a8 a7 f0 f1 f4 σ' -∗ wp frame (wpE (defs₀ (F := F)) Variants.nat c.tc bd) Set.univ (kk r) Q)
      -∗ wp frame (wpE (defs₀ (F := F)) Variants.nat c.tc bd) Set.univ (k0_part3 (F := F) a0 p0 cc0_scratch9 (Memref.whole cc0_scratch0) (isW _) (Memref.whole main_v2) (isW _) cc0_scratch10 (Memref.whole cc0_scratch1) (isW _) (Memref.whole main_v4) (isW _) a1 p1 a12 p12 a13 p13 a14 p14 a15 p15 a16 p16 a17 p17 a4 p4 a8 p8 a18 p18 a7 p7 a21 a22 a23 a24 a25 a26 a27 a28 a29 a30 a31 a32 a33 a34 a35 a36 v300 v325 v326 >>= kk) Q) := by
  rw [k0_part3_eq_skeleton]; unfold k0_part3_skel Bufs
  simp only [Prog.lift, Prog.bind_op, Prog.bind_ret, Prog.pure_eq_ret, Prog.bind_assoc]
  iintro ⟨H0, H1, H4, H12, H13, H14, H15, H16, H17, H18, H8, H7⟩ Hk
  iapply (ldF c bd) $$ H13; iintro H13
  iapply (ldF c bd) $$ H13; iintro H13
  iapply (stF c bd) $$ H13; iintro H13
  iapply Hk $$ %_ %_ []
  · ipureintro; rfl
  isplitl [H0]; · iexact H0
  isplitl [H1]; · iexact H1
  isplitl [H4]; · iexact H4
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H8]; · iexact H8
  iexact H7

theorem part4_wp {α : Type} (k0_hw16 : k0_chk16 a21 a22 a24 a25 a36) (k0_hw11 : k0_chk11 a21 a22 a24 a25) (k0_h5 : k0_cond5 a21 a22 a24 a25 = 1#1) (σ : St F)
    {kk} {Q : α → sProp 𝕄} :
    Bufs c a0 a1 a4 a12 a13 a14 a15 a16 a17 a18 a8 a7 f0 f1 f4 σ ⊢ iprop((∀ r, ⌜r = ⟨(tM σ a24 a25), (tC σ (tM σ a24 a25) a36.toNat 0), (tC σ (tM σ a24 a25) a36.toNat 1), (tC σ (tM σ a24 a25) a36.toNat 2), (tE σ (tM σ a24 a25) a36.toNat 3), (tL σ a26 (tM σ a24 a25) a36.toNat 4)⟩⌝ -∗ Bufs c a0 a1 a4 a12 a13 a14 a15 a16 a17 a18 a8 a7 f0 f1 f4 σ -∗ wp frame (wpE (defs₀ (F := F)) Variants.nat c.tc bd) Set.univ (kk r) Q)
      -∗ wp frame (wpE (defs₀ (F := F)) Variants.nat c.tc bd) Set.univ (k0_part4 (F := F) a0 p0 cc0_scratch9 (Memref.whole cc0_scratch0) (isW _) (Memref.whole main_v2) (isW _) cc0_scratch10 (Memref.whole cc0_scratch1) (isW _) (Memref.whole main_v4) (isW _) a1 p1 a12 p12 a13 p13 a14 p14 a15 p15 a16 p16 a17 p17 a4 p4 a8 p8 a18 p18 a7 p7 a21 a22 a23 a24 a25 a26 a27 a28 a29 a30 a31 a32 a33 a34 a35 a36 k0_hw16 k0_hw11 k0_h5 >>= kk) Q) := by
  rw [k0_part4_eq_skeleton]; unfold k0_part4_skel Bufs
  simp only [Prog.lift, Prog.bind_op, Prog.bind_ret, Prog.pure_eq_ret, Prog.bind_assoc]
  iintro ⟨H0, H1, H4, H12, H13, H14, H15, H16, H17, H18, H8, H7⟩ Hk
  iapply (ldH c bd) $$ H14; iintro H14
  iapply (ldF c bd) $$ H15; iintro H15
  iapply (ldH c bd) $$ H12; iintro H12
  iapply (ldH c bd) $$ H12; iintro H12
  iapply (ldH c bd) $$ H12; iintro H12
  iapply (ldH c bd) $$ H12; iintro H12
  iapply Hk $$ %_ []
  · ipureintro; rfl
  isplitl [H0]; · iexact H0
  isplitl [H1]; · iexact H1
  isplitl [H4]; · iexact H4
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H8]; · iexact H8
  iexact H7

theorem part5_wp {α : Type} (k0_hw16 : k0_chk16 a21 a22 a24 a25 a36) (k0_h5 : k0_cond5 a21 a22 a24 a25 = 1#1) (m : FVec F S8x128 .f32) (σ : St F)
    {kk} {Q : α → sProp 𝕄} :
    Bufs c a0 a1 a4 a12 a13 a14 a15 a16 a17 a18 a8 a7 f0 f1 f4 σ ⊢ iprop((∀ r, ⌜r = ⟨(tC σ m a36.toNat 3), (tC σ m a36.toNat 4), (tC σ m a36.toNat 5), (tC σ m a36.toNat 6), (tL σ a26 m a36.toNat 8), (tU σ m a36.toNat 7), (Scalar.ofBits .f32 0x43E00000#32)⟩⌝ -∗ Bufs c a0 a1 a4 a12 a13 a14 a15 a16 a17 a18 a8 a7 f0 f1 f4 σ -∗ wp frame (wpE (defs₀ (F := F)) Variants.nat c.tc bd) Set.univ (kk r) Q)
      -∗ wp frame (wpE (defs₀ (F := F)) Variants.nat c.tc bd) Set.univ (k0_part5 (F := F) a0 p0 cc0_scratch9 (Memref.whole cc0_scratch0) (isW _) (Memref.whole main_v2) (isW _) cc0_scratch10 (Memref.whole cc0_scratch1) (isW _) (Memref.whole main_v4) (isW _) a1 p1 a12 p12 a13 p13 a14 p14 a15 p15 a16 p16 a17 p17 a4 p4 a8 p8 a18 p18 a7 p7 a21 a22 a23 a24 a25 a26 a27 a28 a29 a30 a31 a32 a33 a34 a35 a36 k0_hw16 k0_h5 m (tE σ m a36.toNat 3) (tL σ a26 m a36.toNat 4) >>= kk) Q) := by
  rw [k0_part5_eq_skeleton]; unfold k0_part5_skel Bufs
  simp only [Prog.lift, Prog.bind_op, Prog.bind_ret, Prog.pure_eq_ret, Prog.bind_assoc]
  iintro ⟨H0, H1, H4, H12, H13, H14, H15, H16, H17, H18, H8, H7⟩ Hk
  iapply (ldH c bd) $$ H12; iintro H12
  iapply (ldH c bd) $$ H12; iintro H12
  iapply (ldH c bd) $$ H12; iintro H12
  iapply (ldH c bd) $$ H12; iintro H12
  iapply Hk $$ %_ []
  · ipureintro; rfl
  isplitl [H0]; · iexact H0
  isplitl [H1]; · iexact H1
  isplitl [H4]; · iexact H4
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H8]; · iexact H8
  iexact H7

theorem part6_wp {α : Type} (k0_hw16 : k0_chk16 a21 a22 a24 a25 a36) (k0_h5 : k0_cond5 a21 a22 a24 a25 = 1#1) (m : FVec F S8x128 .f32) (σ : St F)
    {kk} {Q : α → sProp 𝕄} :
    Bufs c a0 a1 a4 a12 a13 a14 a15 a16 a17 a18 a8 a7 f0 f1 f4 σ ⊢ iprop((∀ r, ⌜r = ⟨(tC σ m a36.toNat 7), (tC σ m a36.toNat 8), (tC σ m a36.toNat 9), (tC σ m a36.toNat 10), (tL σ a26 m a36.toNat 12), (tC σ m a36.toNat 11)⟩⌝ -∗ Bufs c a0 a1 a4 a12 a13 a14 a15 a16 a17 a18 a8 a7 f0 f1 f4 σ -∗ wp frame (wpE (defs₀ (F := F)) Variants.nat c.tc bd) Set.univ (kk r) Q)
      -∗ wp frame (wpE (defs₀ (F := F)) Variants.nat c.tc bd) Set.univ (k0_part6 (F := F) a0 p0 cc0_scratch9 (Memref.whole cc0_scratch0) (isW _) (Memref.whole main_v2) (isW _) cc0_scratch10 (Memref.whole cc0_scratch1) (isW _) (Memref.whole main_v4) (isW _) a1 p1 a12 p12 a13 p13 a14 p14 a15 p15 a16 p16 a17 p17 a4 p4 a8 p8 a18 p18 a7 p7 a21 a22 a23 a24 a25 a26 a27 a28 a29 a30 a31 a32 a33 a34 a35 a36 k0_hw16 k0_h5 m (tL σ a26 m a36.toNat 8) (tU σ m a36.toNat 7) (Scalar.ofBits .f32 0x43E00000#32) >>= kk) Q) := by
  rw [k0_part6_eq_skeleton]; unfold k0_part6_skel Bufs
  simp only [Prog.lift, Prog.bind_op, Prog.bind_ret, Prog.pure_eq_ret, Prog.bind_assoc]
  iintro ⟨H0, H1, H4, H12, H13, H14, H15, H16, H17, H18, H8, H7⟩ Hk
  iapply (ldH c bd) $$ H12; iintro H12
  iapply (ldH c bd) $$ H12; iintro H12
  iapply (ldH c bd) $$ H12; iintro H12
  iapply (ldH c bd) $$ H12; iintro H12
  iapply Hk $$ %_ []
  · ipureintro; rfl
  isplitl [H0]; · iexact H0
  isplitl [H1]; · iexact H1
  isplitl [H4]; · iexact H4
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H8]; · iexact H8
  iexact H7

theorem part7_wp {α : Type} (k0_hw16 : k0_chk16 a21 a22 a24 a25 a36) (k0_h5 : k0_cond5 a21 a22 a24 a25 = 1#1) (m : FVec F S8x128 .f32) (σ : St F)
    {kk} {Q : α → sProp 𝕄} :
    Bufs c a0 a1 a4 a12 a13 a14 a15 a16 a17 a18 a8 a7 f0 f1 f4 σ ⊢ iprop((∀ r, ⌜r = ⟨(tC σ m a36.toNat 12), (tC σ m a36.toNat 13), (tC σ m a36.toNat 14), (tL σ a26 m a36.toNat 16), (tC σ m a36.toNat 15), (tS σ m a36.toNat 16)⟩⌝ -∗ Bufs c a0 a1 a4 a12 a13 a14 a15 a16 a17 a18 a8 a7 f0 f1 f4 σ -∗ wp frame (wpE (defs₀ (F := F)) Variants.nat c.tc bd) Set.univ (kk r) Q)
      -∗ wp frame (wpE (defs₀ (F := F)) Variants.nat c.tc bd) Set.univ (k0_part7 (F := F) a0 p0 cc0_scratch9 (Memref.whole cc0_scratch0) (isW _) (Memref.whole main_v2) (isW _) cc0_scratch10 (Memref.whole cc0_scratch1) (isW _) (Memref.whole main_v4) (isW _) a1 p1 a12 p12 a13 p13 a14 p14 a15 p15 a16 p16 a17 p17 a4 p4 a8 p8 a18 p18 a7 p7 a21 a22 a23 a24 a25 a26 a27 a28 a29 a30 a31 a32 a33 a34 a35 a36 k0_hw16 k0_h5 m (tL σ a26 m a36.toNat 12) >>= kk) Q) := by
  rw [k0_part7_eq_skeleton]; unfold k0_part7_skel Bufs
  simp only [Prog.lift, Prog.bind_op, Prog.bind_ret, Prog.pure_eq_ret, Prog.bind_assoc]
  iintro ⟨H0, H1, H4, H12, H13, H14, H15, H16, H17, H18, H8, H7⟩ Hk
  iapply (ldH c bd) $$ H12; iintro H12
  iapply (ldH c bd) $$ H12; iintro H12
  iapply (ldH c bd) $$ H12; iintro H12
  iapply (ldH c bd) $$ H12; iintro H12
  iapply (ldH c bd) $$ H12; iintro H12
  iapply Hk $$ %_ []
  · ipureintro; rfl
  isplitl [H0]; · iexact H0
  isplitl [H1]; · iexact H1
  isplitl [H4]; · iexact H4
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H8]; · iexact H8
  iexact H7

end Cert.KernelIdeal.Hand
-- ==== Proof.KI.Acc.lean ====
module

public import proofs.«01_k».proof.Proof.KI.State
public import proofs.«01_k».proof.Proof.KI.FragA
public import Idealize.ShloMosaic.Lib.Pipeline.FrameBody
public import Idealize.ShloMosaic.Lib.Pipeline.DatRel
public import Idealize.ShloMosaic.Lib.Ring
public import Idealize.ShloMosaic.Lib.Tactic
public import Idealize.ShloMosaic.Lib.WordCmp

@[expose] public section

set_option maxRecDepth 16384

/-!
Loads and stores of the working buffers in terms of what they hold, and what one trip does.
-/

noncomputable section

namespace Cert.KernelIdeal.Hand

open Cert.KernelIdeal Cert.KernelIdeal.Gen Cert.Words
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

theorem off1 {s : ℕ} (h : s < 2 ^ 32) : (![(W s).toNat] : Fin 1 → ℕ) = ![s] := by rw [toNat_W h]
theorem off3 {s : ℕ} (h : s < 2 ^ 32) : (![(W s).toNat, 0, 0] : Fin 3 → ℕ) = ![s, 0, 0] := by rw [toNat_W h]
theorem offL {b : ℕ} (h : b ≤ 4) : (![(Scalar.minsi (W b) 3#32).toNat] : Fin 1 → ℕ) = ![min b 3] := by rw [lenN h]
theorem sz2 {x L : ℕ} (hL : L ≤ 32768) (hc : x < nchOf L) : (![160, (k0_mult1 (W x) (W L)).toNat] : Fin 2 → ℕ) = ![160, szOf x L] := by rw [szN hL hc]
theorem sz3 {x L : ℕ} (hL : L ≤ 32768) (hc : x < nchOf L) : (![1, 160, (k0_mult1 (W x) (W L)).toNat] : Fin 3 → ℕ) = ![1, 160, szOf x L] := by rw [szN hL hc]
theorem offP {b g x : ℕ} (hb : b ≤ 4) (hg : g < 6) (hx : x < 8) :
    (![(Scalar.addi (Scalar.muli (W b) 6#32) (W g)).toNat, 0, (Scalar.muli (W x) 4096#32).toNat] : Fin 3 → ℕ) = ![b * 6 + g, 0, x * 4096] := by
  rw [pairN hb hg, colN hx]

section

variable (c : Dev nD) (bd : Option Variants.nat.V) (a0 : Memref sig .tc .smem S4 .i32) (p0 : a0.IsWhole) (a1 : Memref sig .tc .vmem S24x8x160 .bf16) (p1 : a1.IsWhole) (a12 : Memref sig .tc .vmem S16x8x4096 .f32) (p12 : a12.IsWhole) (a13 : Memref sig .tc .vmem S8x128 .f32) (p13 : a13.IsWhole) (a14 : Memref sig .tc .vmem S24x8x128 .f32) (p14 : a14.IsWhole) (a15 : Memref sig .tc .vmem S8x128 .f32) (p15 : a15.IsWhole) (a16 : Memref sig .tc .vmem S8x160 .f32) (p16 : a16.IsWhole) (a17 : Memref sig .tc .vmem S6x4x160 .f32) (p17 : a17.IsWhole) (a4 : Memref sig .tc .vmem S6x4x160 .f32) (p4 : a4.IsWhole) (a8 : Memref sig .tc .vmem S24x8x160 .f32) (p8 : a8.IsWhole) (a18 : Memref sig .tc .vmem S6x4x160 .f32) (p18 : a18.IsWhole) (a7 : Memref sig .tc .vmem S24x8x160 .bf16) (p7 : a7.IsWhole)
variable {f0 : Buf (Elt F) (a0.view.loc (c : Thread nD τ))} {f1 : Buf (Elt F) (a1.view.loc (c : Thread nD τ))} {f4 : Buf (Elt F) (a4.view.loc (c : Thread nD τ))}

theorem ldB13 {α : Type} {Q : α → sProp 𝕄} {σ : St F} {o : Fin S8x128.rank → ℕ} {inb : ∀ a, o a + S8x128.size a ≤ S8x128.size a} {hl : a13.view.LoadsAt (Rect.unit (s := S8x128) o S8x128.size inb).toLoadRect} {k : ((Rect.unit (s := S8x128) o S8x128.size inb).toLoadRect.shape.Idx → Elt F .f32) → Prog (TpuEff nD τ sig (Elt F) (Λ₀ F) .tc) α} :
    Bufs c a0 a1 a4 a12 a13 a14 a15 a16 a17 a18 a8 a7 f0 f1 f4 σ ⊢ iprop((Bufs c a0 a1 a4 a12 a13 a14 a15 a16 a17 a18 a8 a7 f0 f1 f4 σ -∗ wp frame (wpE (defs₀ (F := F)) Variants.nat c.tc bd) Set.univ (k σ.mr) Q) -∗ wp frame (wpE (defs₀ (F := F)) Variants.nat c.tc bd) Set.univ (.op (.load a13 ((Rect.unit (s := S8x128) o S8x128.size inb).toLoadRect) hl) k) Q) := by
  unfold Bufs
  iintro ⟨H0, H1, H4, H12, H13, H14, H15, H16, H17, H18, H8, H7⟩ Hk
  iapply (ldF c bd) $$ H13; iintro H13
  iapply Hk
  isplitl [H0]; · iexact H0
  isplitl [H1]; · iexact H1
  isplitl [H4]; · iexact H4
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H8]; · iexact H8
  iexact H7

theorem ldB16 {α : Type} {Q : α → sProp 𝕄} {σ : St F} {o : Fin S8x160.rank → ℕ} {inb : ∀ a, o a + S8x160.size a ≤ S8x160.size a} {hl : a16.view.LoadsAt (Rect.unit (s := S8x160) o S8x160.size inb).toLoadRect} {k : ((Rect.unit (s := S8x160) o S8x160.size inb).toLoadRect.shape.Idx → Elt F .f32) → Prog (TpuEff nD τ sig (Elt F) (Λ₀ F) .tc) α} :
    Bufs c a0 a1 a4 a12 a13 a14 a15 a16 a17 a18 a8 a7 f0 f1 f4 σ ⊢ iprop((Bufs c a0 a1 a4 a12 a13 a14 a15 a16 a17 a18 a8 a7 f0 f1 f4 σ -∗ wp frame (wpE (defs₀ (F := F)) Variants.nat c.tc bd) Set.univ (k σ.acc) Q) -∗ wp frame (wpE (defs₀ (F := F)) Variants.nat c.tc bd) Set.univ (.op (.load a16 ((Rect.unit (s := S8x160) o S8x160.size inb).toLoadRect) hl) k) Q) := by
  unfold Bufs
  iintro ⟨H0, H1, H4, H12, H13, H14, H15, H16, H17, H18, H8, H7⟩ Hk
  iapply (ldF c bd) $$ H16; iintro H16
  iapply Hk
  isplitl [H0]; · iexact H0
  isplitl [H1]; · iexact H1
  isplitl [H4]; · iexact H4
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H8]; · iexact H8
  iexact H7

theorem ldB1 {α : Type} {Q : α → sProp 𝕄} {σ : St F} {o z : Fin S24x8x160.rank → ℕ} {inb : ∀ a, o a + z a ≤ S24x8x160.size a} {hl : a1.view.LoadsAt (Rect.unit (s := S24x8x160) o z inb).toLoadRect} {k : ((Rect.unit (s := S24x8x160) o z inb).toLoadRect.shape.Idx → Elt F .bf16) → Prog (TpuEff nD τ sig (Elt F) (Λ₀ F) .tc) α} :
    Bufs c a0 a1 a4 a12 a13 a14 a15 a16 a17 a18 a8 a7 f0 f1 f4 σ ⊢ iprop((Bufs c a0 a1 a4 a12 a13 a14 a15 a16 a17 a18 a8 a7 f0 f1 f4 σ -∗ wp frame (wpE (defs₀ (F := F)) Variants.nat c.tc bd) Set.univ (k (tile (a1.view.read (Elt F) f1) o z)) Q) -∗ wp frame (wpE (defs₀ (F := F)) Variants.nat c.tc bd) Set.univ (.op (.load a1 ((Rect.unit (s := S24x8x160) o z inb).toLoadRect) hl) k) Q) := by
  unfold Bufs
  iintro ⟨H0, H1, H4, H12, H13, H14, H15, H16, H17, H18, H8, H7⟩ Hk
  iapply (ldT c bd) $$ H1; iintro H1
  iapply Hk
  isplitl [H0]; · iexact H0
  isplitl [H1]; · iexact H1
  isplitl [H4]; · iexact H4
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H8]; · iexact H8
  iexact H7

theorem ldB17 {α : Type} {Q : α → sProp 𝕄} {σ : St F} {o z : Fin S6x4x160.rank → ℕ} {inb : ∀ a, o a + z a ≤ S6x4x160.size a} {hl : a17.view.LoadsAt (Rect.unit (s := S6x4x160) o z inb).toLoadRect} {k : ((Rect.unit (s := S6x4x160) o z inb).toLoadRect.shape.Idx → Elt F .f32) → Prog (TpuEff nD τ sig (Elt F) (Λ₀ F) .tc) α} :
    Bufs c a0 a1 a4 a12 a13 a14 a15 a16 a17 a18 a8 a7 f0 f1 f4 σ ⊢ iprop((Bufs c a0 a1 a4 a12 a13 a14 a15 a16 a17 a18 a8 a7 f0 f1 f4 σ -∗ wp frame (wpE (defs₀ (F := F)) Variants.nat c.tc bd) Set.univ (k (tile σ.kn o z)) Q) -∗ wp frame (wpE (defs₀ (F := F)) Variants.nat c.tc bd) Set.univ (.op (.load a17 ((Rect.unit (s := S6x4x160) o z inb).toLoadRect) hl) k) Q) := by
  unfold Bufs
  iintro ⟨H0, H1, H4, H12, H13, H14, H15, H16, H17, H18, H8, H7⟩ Hk
  iapply (ldH c bd) $$ H17; iintro H17
  iapply Hk
  isplitl [H0]; · iexact H0
  isplitl [H1]; · iexact H1
  isplitl [H4]; · iexact H4
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H8]; · iexact H8
  iexact H7

theorem ldB14 {α : Type} {Q : α → sProp 𝕄} {σ : St F} {o z : Fin S24x8x128.rank → ℕ} {inb : ∀ a, o a + z a ≤ S24x8x128.size a} {hl : a14.view.LoadsAt (Rect.unit (s := S24x8x128) o z inb).toLoadRect} {k : ((Rect.unit (s := S24x8x128) o z inb).toLoadRect.shape.Idx → Elt F .f32) → Prog (TpuEff nD τ sig (Elt F) (Λ₀ F) .tc) α} :
    Bufs c a0 a1 a4 a12 a13 a14 a15 a16 a17 a18 a8 a7 f0 f1 f4 σ ⊢ iprop((Bufs c a0 a1 a4 a12 a13 a14 a15 a16 a17 a18 a8 a7 f0 f1 f4 σ -∗ wp frame (wpE (defs₀ (F := F)) Variants.nat c.tc bd) Set.univ (k (tile σ.mf o z)) Q) -∗ wp frame (wpE (defs₀ (F := F)) Variants.nat c.tc bd) Set.univ (.op (.load a14 ((Rect.unit (s := S24x8x128) o z inb).toLoadRect) hl) k) Q) := by
  unfold Bufs
  iintro ⟨H0, H1, H4, H12, H13, H14, H15, H16, H17, H18, H8, H7⟩ Hk
  iapply (ldH c bd) $$ H14; iintro H14
  iapply Hk
  isplitl [H0]; · iexact H0
  isplitl [H1]; · iexact H1
  isplitl [H4]; · iexact H4
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H8]; · iexact H8
  iexact H7

theorem ldB18 {α : Type} {Q : α → sProp 𝕄} {σ : St F} {o z : Fin S6x4x160.rank → ℕ} {inb : ∀ a, o a + z a ≤ S6x4x160.size a} {hl : a18.view.LoadsAt (Rect.unit (s := S6x4x160) o z inb).toLoadRect} {k : ((Rect.unit (s := S6x4x160) o z inb).toLoadRect.shape.Idx → Elt F .f32) → Prog (TpuEff nD τ sig (Elt F) (Λ₀ F) .tc) α} :
    Bufs c a0 a1 a4 a12 a13 a14 a15 a16 a17 a18 a8 a7 f0 f1 f4 σ ⊢ iprop((Bufs c a0 a1 a4 a12 a13 a14 a15 a16 a17 a18 a8 a7 f0 f1 f4 σ -∗ wp frame (wpE (defs₀ (F := F)) Variants.nat c.tc bd) Set.univ (k (tile σ.vd o z)) Q) -∗ wp frame (wpE (defs₀ (F := F)) Variants.nat c.tc bd) Set.univ (.op (.load a18 ((Rect.unit (s := S6x4x160) o z inb).toLoadRect) hl) k) Q) := by
  unfold Bufs
  iintro ⟨H0, H1, H4, H12, H13, H14, H15, H16, H17, H18, H8, H7⟩ Hk
  iapply (ldH c bd) $$ H18; iintro H18
  iapply Hk
  isplitl [H0]; · iexact H0
  isplitl [H1]; · iexact H1
  isplitl [H4]; · iexact H4
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H8]; · iexact H8
  iexact H7

theorem ldB8 {α : Type} {Q : α → sProp 𝕄} {σ : St F} {o z : Fin S24x8x160.rank → ℕ} {inb : ∀ a, o a + z a ≤ S24x8x160.size a} {hl : a8.view.LoadsAt (Rect.unit (s := S24x8x160) o z inb).toLoadRect} {k : ((Rect.unit (s := S24x8x160) o z inb).toLoadRect.shape.Idx → Elt F .f32) → Prog (TpuEff nD τ sig (Elt F) (Λ₀ F) .tc) α} :
    Bufs c a0 a1 a4 a12 a13 a14 a15 a16 a17 a18 a8 a7 f0 f1 f4 σ ⊢ iprop((Bufs c a0 a1 a4 a12 a13 a14 a15 a16 a17 a18 a8 a7 f0 f1 f4 σ -∗ wp frame (wpE (defs₀ (F := F)) Variants.nat c.tc bd) Set.univ (k (tile σ.oc o z)) Q) -∗ wp frame (wpE (defs₀ (F := F)) Variants.nat c.tc bd) Set.univ (.op (.load a8 ((Rect.unit (s := S24x8x160) o z inb).toLoadRect) hl) k) Q) := by
  unfold Bufs
  iintro ⟨H0, H1, H4, H12, H13, H14, H15, H16, H17, H18, H8, H7⟩ Hk
  iapply (ldH c bd) $$ H8; iintro H8
  iapply Hk
  isplitl [H0]; · iexact H0
  isplitl [H1]; · iexact H1
  isplitl [H4]; · iexact H4
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H8]; · iexact H8
  iexact H7

theorem ldB7 {α : Type} {Q : α → sProp 𝕄} {σ : St F} {o z : Fin S24x8x160.rank → ℕ} {inb : ∀ a, o a + z a ≤ S24x8x160.size a} {hl : a7.view.LoadsAt (Rect.unit (s := S24x8x160) o z inb).toLoadRect} {k : ((Rect.unit (s := S24x8x160) o z inb).toLoadRect.shape.Idx → Elt F .bf16) → Prog (TpuEff nD τ sig (Elt F) (Λ₀ F) .tc) α} :
    Bufs c a0 a1 a4 a12 a13 a14 a15 a16 a17 a18 a8 a7 f0 f1 f4 σ ⊢ iprop((Bufs c a0 a1 a4 a12 a13 a14 a15 a16 a17 a18 a8 a7 f0 f1 f4 σ -∗ wp frame (wpE (defs₀ (F := F)) Variants.nat c.tc bd) Set.univ (k (tile σ.ou o z)) Q) -∗ wp frame (wpE (defs₀ (F := F)) Variants.nat c.tc bd) Set.univ (.op (.load a7 ((Rect.unit (s := S24x8x160) o z inb).toLoadRect) hl) k) Q) := by
  unfold Bufs
  iintro ⟨H0, H1, H4, H12, H13, H14, H15, H16, H17, H18, H8, H7⟩ Hk
  iapply (ldH c bd) $$ H7; iintro H7
  iapply Hk
  isplitl [H0]; · iexact H0
  isplitl [H1]; · iexact H1
  isplitl [H4]; · iexact H4
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H8]; · iexact H8
  iexact H7

theorem stB13 {α : Type} {Q : α → sProp 𝕄} {σ : St F} {o : Fin S8x128.rank → ℕ} {inb : ∀ a, o a + S8x128.size a ≤ S8x128.size a} {w : (Rect.unit (s := S8x128) o S8x128.size inb).shape.Idx → Elt F .f32} {hx : (a13.access (Rect.unit (s := S8x128) o S8x128.size inb)).Stores Finset.univ} {hm : Finset.univ = Finset.univ ∨ ∀ a, (Rect.unit (s := S8x128) o S8x128.size inb).stride a = 1}
    {k : PUnit → Prog (TpuEff nD τ sig (Elt F) (Λ₀ F) .tc) α} :
    Bufs c a0 a1 a4 a12 a13 a14 a15 a16 a17 a18 a8 a7 f0 f1 f4 σ ⊢ iprop((Bufs c a0 a1 a4 a12 a13 a14 a15 a16 a17 a18 a8 a7 f0 f1 f4 { σ with mr := w } -∗ wp frame (wpE (defs₀ (F := F)) Variants.nat c.tc bd) Set.univ (k ⟨⟩) Q) -∗ wp frame (wpE (defs₀ (F := F)) Variants.nat c.tc bd) Set.univ (.op (.store a13 (Rect.unit (s := S8x128) o S8x128.size inb) w Finset.univ hx hm) k) Q) := by
  unfold Bufs
  iintro ⟨H0, H1, H4, H12, H13, H14, H15, H16, H17, H18, H8, H7⟩ Hk
  iapply (stF c bd) $$ H13; iintro H13
  iapply Hk
  isplitl [H0]; · iexact H0
  isplitl [H1]; · iexact H1
  isplitl [H4]; · iexact H4
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H8]; · iexact H8
  iexact H7

theorem stB16 {α : Type} {Q : α → sProp 𝕄} {σ : St F} {o : Fin S8x160.rank → ℕ} {inb : ∀ a, o a + S8x160.size a ≤ S8x160.size a} {w : (Rect.unit (s := S8x160) o S8x160.size inb).shape.Idx → Elt F .f32} {hx : (a16.access (Rect.unit (s := S8x160) o S8x160.size inb)).Stores Finset.univ} {hm : Finset.univ = Finset.univ ∨ ∀ a, (Rect.unit (s := S8x160) o S8x160.size inb).stride a = 1}
    {k : PUnit → Prog (TpuEff nD τ sig (Elt F) (Λ₀ F) .tc) α} :
    Bufs c a0 a1 a4 a12 a13 a14 a15 a16 a17 a18 a8 a7 f0 f1 f4 σ ⊢ iprop((Bufs c a0 a1 a4 a12 a13 a14 a15 a16 a17 a18 a8 a7 f0 f1 f4 { σ with acc := w } -∗ wp frame (wpE (defs₀ (F := F)) Variants.nat c.tc bd) Set.univ (k ⟨⟩) Q) -∗ wp frame (wpE (defs₀ (F := F)) Variants.nat c.tc bd) Set.univ (.op (.store a16 (Rect.unit (s := S8x160) o S8x160.size inb) w Finset.univ hx hm) k) Q) := by
  unfold Bufs
  iintro ⟨H0, H1, H4, H12, H13, H14, H15, H16, H17, H18, H8, H7⟩ Hk
  iapply (stF c bd) $$ H16; iintro H16
  iapply Hk
  isplitl [H0]; · iexact H0
  isplitl [H1]; · iexact H1
  isplitl [H4]; · iexact H4
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H8]; · iexact H8
  iexact H7

theorem stB14 {α : Type} {Q : α → sProp 𝕄} {σ : St F} {o z : Fin S24x8x128.rank → ℕ} {inb : ∀ a, o a + z a ≤ S24x8x128.size a} {w : (Rect.unit (s := S24x8x128) o z inb).shape.Idx → Elt F .f32} {hx : (a14.access (Rect.unit (s := S24x8x128) o z inb)).Stores Finset.univ} {hm : Finset.univ = Finset.univ ∨ ∀ a, (Rect.unit (s := S24x8x128) o z inb).stride a = 1}
    {k : PUnit → Prog (TpuEff nD τ sig (Elt F) (Λ₀ F) .tc) α} :
    Bufs c a0 a1 a4 a12 a13 a14 a15 a16 a17 a18 a8 a7 f0 f1 f4 σ ⊢ iprop((Bufs c a0 a1 a4 a12 a13 a14 a15 a16 a17 a18 a8 a7 f0 f1 f4 { σ with mf := VecWindow.put σ.mf o z w } -∗ wp frame (wpE (defs₀ (F := F)) Variants.nat c.tc bd) Set.univ (k ⟨⟩) Q) -∗ wp frame (wpE (defs₀ (F := F)) Variants.nat c.tc bd) Set.univ (.op (.store a14 (Rect.unit (s := S24x8x128) o z inb) w Finset.univ hx hm) k) Q) := by
  unfold Bufs
  iintro ⟨H0, H1, H4, H12, H13, H14, H15, H16, H17, H18, H8, H7⟩ Hk
  iapply (stH c bd) $$ H14; iintro H14
  iapply Hk
  isplitl [H0]; · iexact H0
  isplitl [H1]; · iexact H1
  isplitl [H4]; · iexact H4
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H8]; · iexact H8
  iexact H7

theorem stB8 {α : Type} {Q : α → sProp 𝕄} {σ : St F} {o z : Fin S24x8x160.rank → ℕ} {inb : ∀ a, o a + z a ≤ S24x8x160.size a} {w : (Rect.unit (s := S24x8x160) o z inb).shape.Idx → Elt F .f32} {hx : (a8.access (Rect.unit (s := S24x8x160) o z inb)).Stores Finset.univ} {hm : Finset.univ = Finset.univ ∨ ∀ a, (Rect.unit (s := S24x8x160) o z inb).stride a = 1}
    {k : PUnit → Prog (TpuEff nD τ sig (Elt F) (Λ₀ F) .tc) α} :
    Bufs c a0 a1 a4 a12 a13 a14 a15 a16 a17 a18 a8 a7 f0 f1 f4 σ ⊢ iprop((Bufs c a0 a1 a4 a12 a13 a14 a15 a16 a17 a18 a8 a7 f0 f1 f4 { σ with oc := VecWindow.put σ.oc o z w } -∗ wp frame (wpE (defs₀ (F := F)) Variants.nat c.tc bd) Set.univ (k ⟨⟩) Q) -∗ wp frame (wpE (defs₀ (F := F)) Variants.nat c.tc bd) Set.univ (.op (.store a8 (Rect.unit (s := S24x8x160) o z inb) w Finset.univ hx hm) k) Q) := by
  unfold Bufs
  iintro ⟨H0, H1, H4, H12, H13, H14, H15, H16, H17, H18, H8, H7⟩ Hk
  iapply (stH c bd) $$ H8; iintro H8
  iapply Hk
  isplitl [H0]; · iexact H0
  isplitl [H1]; · iexact H1
  isplitl [H4]; · iexact H4
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H8]; · iexact H8
  iexact H7

theorem stB7 {α : Type} {Q : α → sProp 𝕄} {σ : St F} {o z : Fin S24x8x160.rank → ℕ} {inb : ∀ a, o a + z a ≤ S24x8x160.size a} {w : (Rect.unit (s := S24x8x160) o z inb).shape.Idx → Elt F .bf16} {hx : (a7.access (Rect.unit (s := S24x8x160) o z inb)).Stores Finset.univ} {hm : Finset.univ = Finset.univ ∨ ∀ a, (Rect.unit (s := S24x8x160) o z inb).stride a = 1}
    {k : PUnit → Prog (TpuEff nD τ sig (Elt F) (Λ₀ F) .tc) α} :
    Bufs c a0 a1 a4 a12 a13 a14 a15 a16 a17 a18 a8 a7 f0 f1 f4 σ ⊢ iprop((Bufs c a0 a1 a4 a12 a13 a14 a15 a16 a17 a18 a8 a7 f0 f1 f4 { σ with ou := VecWindow.put σ.ou o z w } -∗ wp frame (wpE (defs₀ (F := F)) Variants.nat c.tc bd) Set.univ (k ⟨⟩) Q) -∗ wp frame (wpE (defs₀ (F := F)) Variants.nat c.tc bd) Set.univ (.op (.store a7 (Rect.unit (s := S24x8x160) o z inb) w Finset.univ hx hm) k) Q) := by
  unfold Bufs
  iintro ⟨H0, H1, H4, H12, H13, H14, H15, H16, H17, H18, H8, H7⟩ Hk
  iapply (stH c bd) $$ H7; iintro H7
  iapply Hk
  isplitl [H0]; · iexact H0
  isplitl [H1]; · iexact H1
  isplitl [H4]; · iexact H4
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H8]; · iexact H8
  iexact H7

theorem lenB {α : Type} {Q : α → sProp 𝕄} {σ : St F} {L : ℕ → ℕ} (hL : LensOk a0 c f0 L)
    {o : Fin 1 → ℕ} {inb : ∀ a, o a + S1.size a ≤ S4.size a} {h1 : (Rect.unit (s := S4) o S1.size inb).shape.numel = 1} {hp : EltTy.packing .i32 = 1}
    (b : ℕ) (hb : o = ![min b 3]) {k : Elt F .i32 → Prog (TpuEff nD τ sig (Elt F) (Λ₀ F) .tc) α} :
    Bufs c a0 a1 a4 a12 a13 a14 a15 a16 a17 a18 a8 a7 f0 f1 f4 σ ⊢ iprop((Bufs c a0 a1 a4 a12 a13 a14 a15 a16 a17 a18 a8 a7 f0 f1 f4 σ -∗ wp frame (wpE (defs₀ (F := F)) Variants.nat c.tc bd) Set.univ (k (W (lw L b))) Q) -∗ wp frame (wpE (defs₀ (F := F)) Variants.nat c.tc bd) Set.univ (smemLoad a0 (Rect.unit (s := S4) o S1.size inb) h1 hp >>= k) Q) := by
  unfold Bufs
  iintro ⟨H0, H1, H4, H12, H13, H14, H15, H16, H17, H18, H8, H7⟩ Hk
  iapply (ldLen c bd hL (min b 3) hb) $$ H0; iintro H0
  iapply Hk
  isplitl [H0]; · iexact H0
  isplitl [H1]; · iexact H1
  isplitl [H4]; · iexact H4
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H8]; · iexact H8
  iexact H7

end

/-! What one trip does to the buffers: `i` the key item it takes, `j` the value item. -/

/-- `Kb` is what a slot filled with item `i`'s keys holds. -/
def OkK (c : Dev nD) (f5 : Buf (Elt F) (hbmK c)) (L : ℕ → ℕ) (i : ℕ) (Kb : Vec F S1x160x4096 .bf16) : Prop :=
  ∃ fK : Buf (Elt F) (locK c), hasK c f5 (i % 6) (cu L i).b (cu L i).g (cu L i).c (szOf (cu L i).c (lw L (cu L i).b)) fK ∧ Kb = tile (s := S6x160x4096) fK ![i % 6, 0, 0] S1x160x4096.size
/-- `Vb` is what a slot filled with item `j`'s values holds. -/
def OkV (c : Dev nD) (f6 : Buf (Elt F) (hbmV c)) (L : ℕ → ℕ) (j : ℕ) (Vb : Vec F S1x160x4096 .fp8e4m3) : Prop :=
  ∃ fV : Buf (Elt F) (locV c), hasV c f6 (j % 8) (cu L j).b (cu L j).g (cu L j).c (szOf (cu L j).c (lw L (cu L j).b)) fV ∧ Vb = tile (s := S8x160x4096) fV ![j % 8, 0, 0] S1x160x4096.size
/-- The K pass over item `i`. -/
def nxK (c : Dev nD) (f5 : Buf (Elt F) (hbmK c)) (q : S24x8x160.Idx → Elt F .bf16) (L : ℕ → ℕ) (i : ℕ) (σ σ' : St F) : Prop :=
  ∃ Kb, OkK c f5 L i Kb ∧ σ' = opK σ q (W (cu L i).b) (W (cu L i).g) (W (cu L i).c) (W (i % 16)) Kb (W (lw L (cu L i).b))
/-- The V pass over item `j`. -/
def nxV (c : Dev nD) (f6 : Buf (Elt F) (hbmV c)) (L : ℕ → ℕ) (j : ℕ) (σ σ' : St F) : Prop :=
  ∃ Vb, OkV c f6 L j Vb ∧ σ' = opV σ (W (cu L j).b) (W (cu L j).g) (W (cu L j).c) (W (j % 16)) Vb
/-- The final maximum, at a pair's last key item. -/
def nxM (q : S24x8x160.Idx → Elt F .bf16) (L : ℕ → ℕ) (i : ℕ) (σ : St F) : St F :=
  if k0_cond10 (W (cu L i).b) (W (cu L i).c) (W (lw L (cu L i).b)) = 1#1 then opM σ q (W (cu L i).b) (W (cu L i).g) else σ
/-- The results, at a pair's last value item. -/
def nxO (q : S24x8x160.Idx → Elt F .bf16) (vs : S6x4x160.Idx → Elt F .f32) (L : ℕ → ℕ) (i j : ℕ) (σ : St F) : St F :=
  if k0_cond11 (W (cu L i).b) (W (cu L i).g) (W (cu L j).b) (W (cu L j).g) (W (cu L j).c) (W (lw L (cu L j).b)) = 1#1 then opO σ q vs (W (cu L j).b) (W (cu L j).g) else σ

end Cert.KernelIdeal.Hand
-- ==== Proof.KI.Issue.lean ====
module

public import proofs.«01_k».proof.Proof.KI.Acc
public import Idealize.ShloMosaic.Lib.Pipeline.FrameBody
public import Idealize.ShloMosaic.Lib.Pipeline.DatRel
public import Idealize.ShloMosaic.Lib.Ring
public import Idealize.ShloMosaic.Lib.Tactic
public import Idealize.ShloMosaic.Lib.WordCmp

@[expose] public section

set_option maxRecDepth 16384

/-!
The four places a transfer is started, in the words the program uses.
-/

noncomputable section

namespace Cert.KernelIdeal.Hand

open Cert.KernelIdeal Cert.KernelIdeal.Gen Cert.Words
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-- The transfer as the program writes it (`k0_off97 (W x) (W s) (W l)` into the slot, `k0_off98 (W b) (W g) (W x) (W l)` of the operand). -/
theorem issue_K8 {α : Type} (c : Dev nD) (bd : Option Variants.nat.V) (s : ℕ) (hs : s < 6) (b g x l : ℕ)  (hl : l ≤ 32768) (hx : x < nchOf l) (hb : b < 4) (hg : g < 6)
    (winb : ∀ a, (k0_off96 (W s)) a + S1.size a ≤ S6.size a)
    (inb : ∀ a, (k0_off97 (W x) (W s) (W l)).2 a = 0 ∨ (k0_off97 (W x) (W s) (W l)).1 a + (k0_off97 (W x) (W s) (W l)).2 a ≤ S6x160x4096.size a) (hq : (⟨3, (k0_off97 (W x) (W s) (W l)).2⟩ : Shape).Squeezes ⟨2, k0_sz9 (W x) (W l)⟩)
    (inb' : ∀ a, (k0_off98 (W b) (W g) (W x) (W l)).2 a = 0 ∨ (k0_off98 (W b) (W g) (W x) (W l)).1 a + (k0_off98 (W b) (W g) (W x) (W l)).2 a ≤ S24x160x32768.size a) (hq' : (⟨3, (k0_off98 (W b) (W g) (W x) (W l)).2⟩ : Shape).Squeezes ⟨2, k0_sz10 (W x) (W l)⟩)
    (fs : Buf (Elt F) (hbmK c))
    {hsrc : (((Memref.whole main_v2).slice (Rect.unitDyn (s := S24x160x32768) (k0_off98 (W b) (W g) (W x) (W l)).1 (k0_off98 (W b) (W g) (W x) (W l)).2 inb') (fun _ => rfl)).squeeze (⟨2, k0_sz10 (W x) (W l)⟩ : Shape) hq').view.WordExact}
    {hdst : (((Memref.whole cc0_scratch0).slice (Rect.unitDyn (s := S6x160x4096) (k0_off97 (W x) (W s) (W l)).1 (k0_off97 (W x) (W s) (W l)).2 inb) (fun _ => rfl)).squeeze (⟨2, k0_sz9 (W x) (W l)⟩ : Shape) hq).view.WordExact}
    {hsem} {kk : PUnit → Prog (TpuEff nD τ sig (Elt F) (Λ₀ F) .tc) α} {Q : α → sProp 𝕄} :
    freeK c fs ⟨s, hs⟩ ⊢ iprop((flyK c fs ⟨s, hs⟩ b g x (szOf x l) -∗ wp frame (wpE (defs₀ (F := F)) Variants.nat c.tc bd) Set.univ (kk ⟨⟩) Q)
      -∗ wp frame (wpE (defs₀ (F := F)) Variants.nat c.tc bd) Set.univ (.op (.enqueueDma (((Memref.whole main_v2).slice (Rect.unitDyn (s := S24x160x32768) (k0_off98 (W b) (W g) (W x) (W l)).1 (k0_off98 (W b) (W g) (W x) (W l)).2 inb') (fun _ => rfl)).squeeze (⟨2, k0_sz10 (W x) (W l)⟩ : Shape) hq')
          (.here (((Memref.whole cc0_scratch0).slice (Rect.unitDyn (s := S6x160x4096) (k0_off97 (W x) (W s) (W l)).1 (k0_off97 (W x) (W s) (W l)).2 inb) (fun _ => rfl)).squeeze (⟨2, k0_sz9 (W x) (W l)⟩ : Shape) hq))
          (.dma ((cc0_scratch9.slice (Rect.unit (s := S6) (k0_off96 (W s)) S1.size winb)).squeeze S_ squeezes_S1_S_).sem) hsrc hdst hsem) kk) Q) :=
  issueK c bd ⟨s, hs⟩ b g x (szOf x l) (by have := szOf_pos x l; omega) (k0_off96 (W s)) (off1 (by omega)) winb
    (k0_off97 (W x) (W s) (W l)).1 (k0_off97 (W x) (W s) (W l)).2 (k0_sz9 (W x) (W l)) (off3 (by omega)) (sz3 hl hx) (sz2 hl hx) inb hq (k0_off98 (W b) (W g) (W x) (W l)).1 (offP (by omega) hg (by have := nchOf_le hl; omega)) inb' fs

/-- The transfer as the program writes it (`k0_off101 (W x) (W s) (W l)` into the slot, `k0_off102 (W b) (W g) (W x) (W l)` of the operand). -/
theorem issue_V9 {α : Type} (c : Dev nD) (bd : Option Variants.nat.V) (s : ℕ) (hs : s < 8) (b g x l : ℕ)  (hl : l ≤ 32768) (hx : x < nchOf l) (hb : b < 4) (hg : g < 6)
    (winb : ∀ a, (k0_off100 (W s)) a + S1.size a ≤ S8.size a)
    (inb : ∀ a, (k0_off101 (W x) (W s) (W l)).2 a = 0 ∨ (k0_off101 (W x) (W s) (W l)).1 a + (k0_off101 (W x) (W s) (W l)).2 a ≤ S8x160x4096.size a) (hq : (⟨3, (k0_off101 (W x) (W s) (W l)).2⟩ : Shape).Squeezes ⟨2, k0_sz11 (W x) (W l)⟩)
    (inb' : ∀ a, (k0_off102 (W b) (W g) (W x) (W l)).2 a = 0 ∨ (k0_off102 (W b) (W g) (W x) (W l)).1 a + (k0_off102 (W b) (W g) (W x) (W l)).2 a ≤ S24x160x32768.size a) (hq' : (⟨3, (k0_off102 (W b) (W g) (W x) (W l)).2⟩ : Shape).Squeezes ⟨2, k0_sz12 (W x) (W l)⟩)
    (fs : Buf (Elt F) (hbmV c))
    {hsrc : (((Memref.whole main_v4).slice (Rect.unitDyn (s := S24x160x32768) (k0_off102 (W b) (W g) (W x) (W l)).1 (k0_off102 (W b) (W g) (W x) (W l)).2 inb') (fun _ => rfl)).squeeze (⟨2, k0_sz12 (W x) (W l)⟩ : Shape) hq').view.WordExact}
    {hdst : (((Memref.whole cc0_scratch1).slice (Rect.unitDyn (s := S8x160x4096) (k0_off101 (W x) (W s) (W l)).1 (k0_off101 (W x) (W s) (W l)).2 inb) (fun _ => rfl)).squeeze (⟨2, k0_sz11 (W x) (W l)⟩ : Shape) hq).view.WordExact}
    {hsem} {kk : PUnit → Prog (TpuEff nD τ sig (Elt F) (Λ₀ F) .tc) α} {Q : α → sProp 𝕄} :
    freeV c fs ⟨s, hs⟩ ⊢ iprop((flyV c fs ⟨s, hs⟩ b g x (szOf x l) -∗ wp frame (wpE (defs₀ (F := F)) Variants.nat c.tc bd) Set.univ (kk ⟨⟩) Q)
      -∗ wp frame (wpE (defs₀ (F := F)) Variants.nat c.tc bd) Set.univ (.op (.enqueueDma (((Memref.whole main_v4).slice (Rect.unitDyn (s := S24x160x32768) (k0_off102 (W b) (W g) (W x) (W l)).1 (k0_off102 (W b) (W g) (W x) (W l)).2 inb') (fun _ => rfl)).squeeze (⟨2, k0_sz12 (W x) (W l)⟩ : Shape) hq')
          (.here (((Memref.whole cc0_scratch1).slice (Rect.unitDyn (s := S8x160x4096) (k0_off101 (W x) (W s) (W l)).1 (k0_off101 (W x) (W s) (W l)).2 inb) (fun _ => rfl)).squeeze (⟨2, k0_sz11 (W x) (W l)⟩ : Shape) hq))
          (.dma ((cc0_scratch10.slice (Rect.unit (s := S8) (k0_off100 (W s)) S1.size winb)).squeeze S_ squeezes_S1_S_).sem) hsrc hdst hsem) kk) Q) :=
  issueV c bd ⟨s, hs⟩ b g x (szOf x l) (by have := szOf_pos x l; omega) (k0_off100 (W s)) (off1 (by omega)) winb
    (k0_off101 (W x) (W s) (W l)).1 (k0_off101 (W x) (W s) (W l)).2 (k0_sz11 (W x) (W l)) (off3 (by omega)) (sz3 hl hx) (sz2 hl hx) inb hq (k0_off102 (W b) (W g) (W x) (W l)).1 (offP (by omega) hg (by have := nchOf_le hl; omega)) inb' fs

/-- The transfer as the program writes it (`k0_off3 t (W x) (W l)` into the slot, `k0_off4 (W b) (W g) (W x) (W l)` of the operand). -/
theorem issue_PK {α : Type} (c : Dev nD) (bd : Option Variants.nat.V) (s : ℕ) (hs : s < 6) (b g x l : ℕ) (t : Fin k0_t1_loop.trips) (ht : t.val = s) (hl : l ≤ 32768) (hx : x < nchOf l) (hb : b < 4) (hg : g < 6)
    (winb : ∀ a, (k0_off2 t) a + S1.size a ≤ S6.size a)
    (inb : ∀ a, (k0_off3 t (W x) (W l)).2 a = 0 ∨ (k0_off3 t (W x) (W l)).1 a + (k0_off3 t (W x) (W l)).2 a ≤ S6x160x4096.size a) (hq : (⟨3, (k0_off3 t (W x) (W l)).2⟩ : Shape).Squeezes ⟨2, k0_sz1 (W x) (W l)⟩)
    (inb' : ∀ a, (k0_off4 (W b) (W g) (W x) (W l)).2 a = 0 ∨ (k0_off4 (W b) (W g) (W x) (W l)).1 a + (k0_off4 (W b) (W g) (W x) (W l)).2 a ≤ S24x160x32768.size a) (hq' : (⟨3, (k0_off4 (W b) (W g) (W x) (W l)).2⟩ : Shape).Squeezes ⟨2, k0_sz2 (W x) (W l)⟩)
    (fs : Buf (Elt F) (hbmK c))
    {hsrc : (((Memref.whole main_v2).slice (Rect.unitDyn (s := S24x160x32768) (k0_off4 (W b) (W g) (W x) (W l)).1 (k0_off4 (W b) (W g) (W x) (W l)).2 inb') (fun _ => rfl)).squeeze (⟨2, k0_sz2 (W x) (W l)⟩ : Shape) hq').view.WordExact}
    {hdst : (((Memref.whole cc0_scratch0).slice (Rect.unitDyn (s := S6x160x4096) (k0_off3 t (W x) (W l)).1 (k0_off3 t (W x) (W l)).2 inb) (fun _ => rfl)).squeeze (⟨2, k0_sz1 (W x) (W l)⟩ : Shape) hq).view.WordExact}
    {hsem} {kk : PUnit → Prog (TpuEff nD τ sig (Elt F) (Λ₀ F) .tc) α} {Q : α → sProp 𝕄} :
    freeK c fs ⟨s, hs⟩ ⊢ iprop((flyK c fs ⟨s, hs⟩ b g x (szOf x l) -∗ wp frame (wpE (defs₀ (F := F)) Variants.nat c.tc bd) Set.univ (kk ⟨⟩) Q)
      -∗ wp frame (wpE (defs₀ (F := F)) Variants.nat c.tc bd) Set.univ (.op (.enqueueDma (((Memref.whole main_v2).slice (Rect.unitDyn (s := S24x160x32768) (k0_off4 (W b) (W g) (W x) (W l)).1 (k0_off4 (W b) (W g) (W x) (W l)).2 inb') (fun _ => rfl)).squeeze (⟨2, k0_sz2 (W x) (W l)⟩ : Shape) hq')
          (.here (((Memref.whole cc0_scratch0).slice (Rect.unitDyn (s := S6x160x4096) (k0_off3 t (W x) (W l)).1 (k0_off3 t (W x) (W l)).2 inb) (fun _ => rfl)).squeeze (⟨2, k0_sz1 (W x) (W l)⟩ : Shape) hq))
          (.dma ((cc0_scratch9.slice (Rect.unit (s := S6) (k0_off2 t) S1.size winb)).squeeze S_ squeezes_S1_S_).sem) hsrc hdst hsem) kk) Q) :=
  issueK c bd ⟨s, hs⟩ b g x (szOf x l) (by have := szOf_pos x l; omega) (k0_off2 t) (by show (![(Scf.iv 0#32 1#32 t.val).toNat] : Fin 1 → ℕ) = _; rw [iv1N, ht]) winb
    (k0_off3 t (W x) (W l)).1 (k0_off3 t (W x) (W l)).2 (k0_sz1 (W x) (W l)) (by show (![(Scf.iv 0#32 1#32 t.val).toNat, 0, 0] : Fin 3 → ℕ) = _; rw [iv1N, ht]) (sz3 hl hx) (sz2 hl hx) inb hq (k0_off4 (W b) (W g) (W x) (W l)).1 (offP (by omega) hg (by have := nchOf_le hl; omega)) inb' fs

/-- The transfer as the program writes it (`k0_off8 t (W x) (W l)` into the slot, `k0_off9 (W b) (W g) (W x) (W l)` of the operand). -/
theorem issue_PV {α : Type} (c : Dev nD) (bd : Option Variants.nat.V) (s : ℕ) (hs : s < 8) (b g x l : ℕ) (t : Fin k0_t2_loop.trips) (ht : t.val = s) (hl : l ≤ 32768) (hx : x < nchOf l) (hb : b < 4) (hg : g < 6)
    (winb : ∀ a, (k0_off7 t) a + S1.size a ≤ S8.size a)
    (inb : ∀ a, (k0_off8 t (W x) (W l)).2 a = 0 ∨ (k0_off8 t (W x) (W l)).1 a + (k0_off8 t (W x) (W l)).2 a ≤ S8x160x4096.size a) (hq : (⟨3, (k0_off8 t (W x) (W l)).2⟩ : Shape).Squeezes ⟨2, k0_sz3 (W x) (W l)⟩)
    (inb' : ∀ a, (k0_off9 (W b) (W g) (W x) (W l)).2 a = 0 ∨ (k0_off9 (W b) (W g) (W x) (W l)).1 a + (k0_off9 (W b) (W g) (W x) (W l)).2 a ≤ S24x160x32768.size a) (hq' : (⟨3, (k0_off9 (W b) (W g) (W x) (W l)).2⟩ : Shape).Squeezes ⟨2, k0_sz4 (W x) (W l)⟩)
    (fs : Buf (Elt F) (hbmV c))
    {hsrc : (((Memref.whole main_v4).slice (Rect.unitDyn (s := S24x160x32768) (k0_off9 (W b) (W g) (W x) (W l)).1 (k0_off9 (W b) (W g) (W x) (W l)).2 inb') (fun _ => rfl)).squeeze (⟨2, k0_sz4 (W x) (W l)⟩ : Shape) hq').view.WordExact}
    {hdst : (((Memref.whole cc0_scratch1).slice (Rect.unitDyn (s := S8x160x4096) (k0_off8 t (W x) (W l)).1 (k0_off8 t (W x) (W l)).2 inb) (fun _ => rfl)).squeeze (⟨2, k0_sz3 (W x) (W l)⟩ : Shape) hq).view.WordExact}
    {hsem} {kk : PUnit → Prog (TpuEff nD τ sig (Elt F) (Λ₀ F) .tc) α} {Q : α → sProp 𝕄} :
    freeV c fs ⟨s, hs⟩ ⊢ iprop((flyV c fs ⟨s, hs⟩ b g x (szOf x l) -∗ wp frame (wpE (defs₀ (F := F)) Variants.nat c.tc bd) Set.univ (kk ⟨⟩) Q)
      -∗ wp frame (wpE (defs₀ (F := F)) Variants.nat c.tc bd) Set.univ (.op (.enqueueDma (((Memref.whole main_v4).slice (Rect.unitDyn (s := S24x160x32768) (k0_off9 (W b) (W g) (W x) (W l)).1 (k0_off9 (W b) (W g) (W x) (W l)).2 inb') (fun _ => rfl)).squeeze (⟨2, k0_sz4 (W x) (W l)⟩ : Shape) hq')
          (.here (((Memref.whole cc0_scratch1).slice (Rect.unitDyn (s := S8x160x4096) (k0_off8 t (W x) (W l)).1 (k0_off8 t (W x) (W l)).2 inb) (fun _ => rfl)).squeeze (⟨2, k0_sz3 (W x) (W l)⟩ : Shape) hq))
          (.dma ((cc0_scratch10.slice (Rect.unit (s := S8) (k0_off7 t) S1.size winb)).squeeze S_ squeezes_S1_S_).sem) hsrc hdst hsem) kk) Q) :=
  issueV c bd ⟨s, hs⟩ b g x (szOf x l) (by have := szOf_pos x l; omega) (k0_off7 t) (by show (![(Scf.iv 0#32 1#32 t.val).toNat] : Fin 1 → ℕ) = _; rw [iv2N, ht]) winb
    (k0_off8 t (W x) (W l)).1 (k0_off8 t (W x) (W l)).2 (k0_sz3 (W x) (W l)) (by show (![(Scf.iv 0#32 1#32 t.val).toNat, 0, 0] : Fin 3 → ℕ) = _; rw [iv2N, ht]) (sz3 hl hx) (sz2 hl hx) inb hq (k0_off9 (W b) (W g) (W x) (W l)).1 (offP (by omega) hg (by have := nchOf_le hl; omega)) inb' fs

end Cert.KernelIdeal.Hand
-- ==== Proof.KI.Adv.lean ====
module

public import proofs.«01_k».proof.Proof.KI.State
public import Idealize.ShloMosaic.Lib.Pipeline.FrameBody
public import Idealize.ShloMosaic.Lib.Pipeline.DatRel
public import Idealize.ShloMosaic.Lib.Ring
public import Idealize.ShloMosaic.Lib.Tactic
public import Idealize.ShloMosaic.Lib.WordCmp

@[expose] public section

set_option maxRecDepth 16384

/-!
The cursors after a trip, in the words the program computes.
-/

noncomputable section

namespace Cert.KernelIdeal.Hand

open Cert.KernelIdeal Cert.KernelIdeal.Gen Cert.Words
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-- One step of a cursor, in words. -/
theorem adv_cur {L : ℕ → ℕ} (hL : ∀ b, L b ≤ 32768) (p : Bool) (x : Cur) (hb : x.b ≤ 4) (hg : x.g < 6) (hc : x.c < 8) :
    advW (Scalar.andi (BitVec.ofBool p) (Scalar.cmpi .slt (W x.b) 4#32)) (W (lw L x.b)) (W x.b) (W x.g) (W x.c) =
      (W (if p then x.next (nL L) else x).b, W (if p then x.next (nL L) else x).g, W (if p then x.next (nL L) else x).c) := by
  rw [kbit_W hb, andi_b, advW_W _ (lw_le hL _) hb hg hc]
  cases p
  · simp
  · by_cases h : x.b < 4
    · simp only [h, decide_true, Bool.and_self, if_true, Cur.next]
      show (if nL L x.b ≤ x.c + 1 then _ else _) = _
      split
      · split <;> rfl
      · rfl
    · simp [h, Cur.next]

/-- The cursor of the next item, in words. -/
theorem adv_cu {L : ℕ → ℕ} (hL : ∀ b, L b ≤ 32768) (p : Bool) (i : ℕ) :
    advW (Scalar.andi (BitVec.ofBool p) (Scalar.cmpi .slt (W (cu L i).b) 4#32)) (W (lw L (cu L i).b)) (W (cu L i).b) (W (cu L i).g) (W (cu L i).c) =
      (W (cu L (if p then i + 1 else i)).b, W (cu L (if p then i + 1 else i)).g, W (cu L (if p then i + 1 else i)).c) := by
  obtain ⟨h1, h2, h3⟩ := cur_bounds (nL_ok hL) i
  rw [adv_cur hL p _ h1 h2 h3]
  cases p <;> rfl

theorem adv_to {L : ℕ → ℕ} (hL : ∀ b, L b ≤ 32768) (p : Bool) (i i' : ℕ) (h : i' = if p then i + 1 else i) (act : BitVec 1) (ha : act = BitVec.ofBool p) :
    advW (Scalar.andi act (Scalar.cmpi .slt (W (cu L i).b) 4#32)) (W (lw L (cu L i).b)) (W (cu L i).b) (W (cu L i).g) (W (cu L i).c) =
      (W (cu L i').b, W (cu L i').g, W (cu L i').c) := by
  subst h ha; exact adv_cu hL p i
theorem adv_pre {L : ℕ → ℕ} (hL : ∀ b, L b ≤ 32768) (i : ℕ) :
    advW (Scalar.cmpi .slt (W (cu L i).b) 4#32) (W (lw L (cu L i).b)) (W (cu L i).b) (W (cu L i).g) (W (cu L i).c) =
      (W (cu L (i + 1)).b, W (cu L (i + 1)).g, W (cu L (i + 1)).c) := by
  have h := adv_cu hL true i
  have e : ∀ x : BitVec 1, Scalar.andi (BitVec.ofBool true) x = x := by decide
  rw [e] at h; exact h
theorem cu_zero (L : ℕ → ℕ) : (W (cu L 0).b, W (cu L 0).g, W (cu L 0).c) = (0#32, 0#32, 0#32) := rfl
theorem slot_to (m : ℕ) (hm : m < 2 ^ 30) (h0 : 0 < m) (p : Bool) (i i' : ℕ) (h : i' = if p then i + 1 else i) (act : BitVec 1) (ha : act = BitVec.ofBool p) :
    slotW act (W m) (W (i % m)) = W (i' % m) := by
  subst h ha; rw [slotW_W p hm h0]; cases p <;> rfl

end Cert.KernelIdeal.Hand
-- ==== Proof.KI.Pre.lean ====
module

public import proofs.«01_k».proof.Proof.KI.Issue
public import proofs.«01_k».proof.Proof.KI.Adv
public import Idealize.ShloMosaic.Lib.Pipeline.FrameBody
public import Idealize.ShloMosaic.Lib.Pipeline.DatRel
public import Idealize.ShloMosaic.Lib.Ring
public import Idealize.ShloMosaic.Lib.Tactic
public import Idealize.ShloMosaic.Lib.WordCmp

@[expose] public section

set_option maxRecDepth 16384

/-!
The two prefetch loops.
-/

noncomputable section

namespace Cert.KernelIdeal.Hand

open Cert.KernelIdeal Cert.KernelIdeal.Gen Cert.Words
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

attribute [local irreducible] cur

variable (c : Dev nD) (bd : Option Variants.nat.V) (a0 : Memref sig .tc .smem S4 .i32) (p0 : a0.IsWhole) (a1 : Memref sig .tc .vmem S24x8x160 .bf16) (p1 : a1.IsWhole) (a12 : Memref sig .tc .vmem S16x8x4096 .f32) (p12 : a12.IsWhole) (a13 : Memref sig .tc .vmem S8x128 .f32) (p13 : a13.IsWhole) (a14 : Memref sig .tc .vmem S24x8x128 .f32) (p14 : a14.IsWhole) (a15 : Memref sig .tc .vmem S8x128 .f32) (p15 : a15.IsWhole) (a16 : Memref sig .tc .vmem S8x160 .f32) (p16 : a16.IsWhole) (a17 : Memref sig .tc .vmem S6x4x160 .f32) (p17 : a17.IsWhole) (a4 : Memref sig .tc .vmem S6x4x160 .f32) (p4 : a4.IsWhole) (a8 : Memref sig .tc .vmem S24x8x160 .f32) (p8 : a8.IsWhole) (a18 : Memref sig .tc .vmem S6x4x160 .f32) (p18 : a18.IsWhole) (a7 : Memref sig .tc .vmem S24x8x160 .bf16) (p7 : a7.IsWhole)
variable {f0 : Buf (Elt F) (a0.view.loc (c : Thread nD τ))} {f1 : Buf (Elt F) (a1.view.loc (c : Thread nD τ))} {f4 : Buf (Elt F) (a4.view.loc (c : Thread nD τ))}
variable {σ : St F}

variable (a2 : Memref sig .tc .vmem S6x4x160 .bf16) (p2 : a2.IsWhole)
variable (a3 : Memref sig .tc .vmem S6x4x160 .bf16) (p3 : a3.IsWhole)
variable (a9 : Memref sig .tc .vmem S6x4x160 .fp8e4m3) (p9 : a9.IsWhole)
variable {L : ℕ → ℕ}

/-- The prefetch loop's invariant: the carried words are the cursor of the trip, and the slots of the earlier trips are in flight. -/
def invK (L : ℕ → ℕ) (f : Buf (Elt F) (hbmK c)) (t : ℕ) (a : BitVec 32 × BitVec 32 × BitVec 32) : sProp 𝕄 :=
  iprop(⌜a = (W (cu L t).b, W (cu L t).g, W (cu L t).c)⌝ ∗ RingK c L f (preK L t) ∗ Bufs c a0 a1 a4 a12 a13 a14 a15 a16 a17 a18 a8 a7 f0 f1 f4 σ)

theorem stepK (hL : LensOk a0 c f0 L) (f : Buf (Elt F) (hbmK c)) (t : Fin k0_t1_loop.trips) (a : BitVec 32 × BitVec 32 × BitVec 32) :
    invK (f0 := f0) (σ := σ) (f1 := f1) (f4 := f4) c a0 a1 a12 a13 a14 a15 a16 a17 a4 a8 a18 a7 L f t.val a ⊢ wp frame (wpE (defs₀ (F := F)) Variants.nat c.tc bd) Set.univ ((k0_t1_body (F := F) a0 p0 a1 p1 a2 p2 a3 p3 a4 p4 (Memref.whole main_v2) (isW _) (Memref.whole main_v4) (isW _) a7 p7 a8 p8 a9 p9 (Memref.whole cc0_scratch0) (isW _) (Memref.whole cc0_scratch1) (isW _) a12 p12 a13 p13 a14 p14 a15 p15 a16 p16 a17 p17 a18 p18 cc0_scratch9 cc0_scratch10) t a) (invK (f0 := f0) (σ := σ) (f1 := f1) (f4 := f4) c a0 a1 a12 a13 a14 a15 a16 a17 a4 a8 a18 a7 L f (t.val + 1)) := by
  have hn := nL_ok hL.1
  have hn1 := fun b => (hn b).1
  obtain ⟨ab, ag, ac⟩ := cur_bounds hn t.val
  have ht : t.val < 6 := t.isLt
  have c3 : k0_chk3 (W (cu L t.val).b) (W (cu L t.val).c) := chk3_W ac
  have c1 : k0_chk1 (W (cu L t.val).b) := chk1_W ab
  have E' := adv_pre hL.1 t.val
  unfold invK k0_t1_body
  iintro ⟨%ea, HR, HB⟩
  subst ea
  by_cases hk : (cu L t.val).b < 4
  · have h1 : k0_cond1 (W (cu L t.val).b) = 1#1 := by rw [cond1_W ab, ofBool_one]; simp [hk]
    have ib := cur_in hn1 ((cur_lt_iff hn1 t.val).1 hk)
    have c2 : k0_chk2 t (W (cu L t.val).b) (W (cu L t.val).g) (W (cu L t.val).c) (W (lw L (cu L t.val).b)) := chk2_W t ab ag (lw_le hL.1 _) (fun _ => ib.2.2)
    simp only [dif_pos h1, Prog.lift, Prog.bind_op, Prog.bind_ret, Prog.pure_eq_ret, Prog.bind_assoc]
    iapply (wp_assume Variants.nat c.tc bd Set.univ c3)
    iapply (wp_assume Variants.nat c.tc bd Set.univ c1)
    iapply (lenB c bd a0 a1 a12 a13 a14 a15 a16 a17 a4 a8 a18 a7 hL (cu L t.val).b (offL ab)) $$ HB; iintro HB
    iapply (wp_assume Variants.nat c.tc bd Set.univ c2)
    icases (preK_open c L f ⟨t.val, ht⟩) $$ HR with ⟨HF, HR⟩
    iapply (issue_PK c bd t.val ht (cu L t.val).b (cu L t.val).g (cu L t.val).c (lw L (cu L t.val).b) t rfl (lw_le hL.1 _) ib.2.2 ib.1 ib.2.1 _ _ _ _ _ f) $$ HF
    iintro HF
    iapply (lenB c bd a0 a1 a12 a13 a14 a15 a16 a17 a4 a8 a18 a7 hL (cu L t.val).b (offL ab)) $$ HB; iintro HB
    rw [wp_ret]; imodintro
    isplitr
    · ipureintro
      exact E'
    isplitr [HB]
    · iapply (preK_issue c L f ⟨t.val, ht⟩ hk)
      isplitl [HF]; · iexact HF
      iexact HR
    iexact HB
  · have h1 : ¬ k0_cond1 (W (cu L t.val).b) = 1#1 := by rw [cond1_W ab, ofBool_one]; simp [hk]
    simp only [dif_neg h1, Prog.lift, Prog.bind_op, Prog.bind_ret, Prog.pure_eq_ret, Prog.bind_assoc]
    iapply (wp_assume Variants.nat c.tc bd Set.univ c3)
    iapply (wp_assume Variants.nat c.tc bd Set.univ c1)
    iapply (lenB c bd a0 a1 a12 a13 a14 a15 a16 a17 a4 a8 a18 a7 hL (cu L t.val).b (offL ab)) $$ HB; iintro HB
    rw [wp_ret]; imodintro
    isplitr
    · ipureintro
      exact E'
    isplitr [HB]
    · iapply (preK_skip c L f ⟨t.val, ht⟩ hk); iexact HR
    iexact HB

theorem loopK {α : Type} (hL : LensOk a0 c f0 L) (f : Buf (Elt F) (hbmK c)) {kk} {Q : α → sProp 𝕄} :
    iprop(RingK c L f (fun _ => none) ∗ Bufs c a0 a1 a4 a12 a13 a14 a15 a16 a17 a18 a8 a7 f0 f1 f4 σ) ⊢ iprop(((RingK c L f (stK L 0) ∗ Bufs c a0 a1 a4 a12 a13 a14 a15 a16 a17 a18 a8 a7 f0 f1 f4 σ) -∗ wp frame (wpE (defs₀ (F := F)) Variants.nat c.tc bd) Set.univ (kk (W (cu L 6).b, W (cu L 6).g, W (cu L 6).c)) Q)
      -∗ wp frame (wpE (defs₀ (F := F)) Variants.nat c.tc bd) Set.univ (Scf.Loop.for k0_t1_loop k0_t1_ok (0#32, 0#32, 0#32) (k0_t1_body (F := F) a0 p0 a1 p1 a2 p2 a3 p3 a4 p4 (Memref.whole main_v2) (isW _) (Memref.whole main_v4) (isW _) a7 p7 a8 p8 a9 p9 (Memref.whole cc0_scratch0) (isW _) (Memref.whole cc0_scratch1) (isW _) a12 p12 a13 p13 a14 p14 a15 p15 a16 p16 a17 p17 a18 p18 cc0_scratch9 cc0_scratch10) >>= kk) Q) := by
  iintro ⟨HR, HB⟩ Hk
  iapply (Scf.wp_for_bind _ _ _ _ _ _ k0_t1_ok (0#32, 0#32, 0#32) (k0_t1_body (F := F) a0 p0 a1 p1 a2 p2 a3 p3 a4 p4 (Memref.whole main_v2) (isW _) (Memref.whole main_v4) (isW _) a7 p7 a8 p8 a9 p9 (Memref.whole cc0_scratch0) (isW _) (Memref.whole cc0_scratch1) (isW _) a12 p12 a13 p13 a14 p14 a15 p15 a16 p16 a17 p17 a18 p18 cc0_scratch9 cc0_scratch10) (invK (f0 := f0) (σ := σ) (f1 := f1) (f4 := f4) c a0 a1 a12 a13 a14 a15 a16 a17 a4 a8 a18 a7 L f) (stepK (f0 := f0) (f1 := f1) (f4 := f4) c bd a0 p0 a1 p1 a12 p12 a13 p13 a14 p14 a15 p15 a16 p16 a17 p17 a4 p4 a8 p8 a18 p18 a7 p7 a2 p2 a3 p3 a9 p9 hL f)) $$ [HR HB]
  · unfold invK
    isplitr
    · ipureintro; exact (cu_zero L).symm
    isplitr [HB]
    · rw [preK_zero]; iexact HR
    iexact HB
  iintro %a HI
  unfold invK
  icases HI with ⟨%ea, HR, HB⟩
  have ea' : a = (W (cu L 6).b, W (cu L 6).g, W (cu L 6).c) := ea
  subst ea'
  iapply Hk
  isplitr [HB]
  · iapply (BIBase.Entails.of_eq (congrArg (RingK c L f) (preK_full L))); iexact HR
  iexact HB

/-- The prefetch loop's invariant: the carried words are the cursor of the trip, and the slots of the earlier trips are in flight. -/
def invV (L : ℕ → ℕ) (f : Buf (Elt F) (hbmV c)) (t : ℕ) (a : BitVec 32 × BitVec 32 × BitVec 32) : sProp 𝕄 :=
  iprop(⌜a = (W (cu L t).b, W (cu L t).g, W (cu L t).c)⌝ ∗ RingV c L f (preV L t) ∗ Bufs c a0 a1 a4 a12 a13 a14 a15 a16 a17 a18 a8 a7 f0 f1 f4 σ)

theorem stepV (hL : LensOk a0 c f0 L) (f : Buf (Elt F) (hbmV c)) (t : Fin k0_t2_loop.trips) (a : BitVec 32 × BitVec 32 × BitVec 32) :
    invV (f0 := f0) (σ := σ) (f1 := f1) (f4 := f4) c a0 a1 a12 a13 a14 a15 a16 a17 a4 a8 a18 a7 L f t.val a ⊢ wp frame (wpE (defs₀ (F := F)) Variants.nat c.tc bd) Set.univ ((k0_t2_body (F := F) a0 p0 a1 p1 a2 p2 a3 p3 a4 p4 (Memref.whole main_v2) (isW _) (Memref.whole main_v4) (isW _) a7 p7 a8 p8 a9 p9 (Memref.whole cc0_scratch0) (isW _) (Memref.whole cc0_scratch1) (isW _) a12 p12 a13 p13 a14 p14 a15 p15 a16 p16 a17 p17 a18 p18 cc0_scratch9 cc0_scratch10) t a) (invV (f0 := f0) (σ := σ) (f1 := f1) (f4 := f4) c a0 a1 a12 a13 a14 a15 a16 a17 a4 a8 a18 a7 L f (t.val + 1)) := by
  have hn := nL_ok hL.1
  have hn1 := fun b => (hn b).1
  obtain ⟨ab, ag, ac⟩ := cur_bounds hn t.val
  have ht : t.val < 8 := t.isLt
  have c3 : k0_chk6 (W (cu L t.val).b) (W (cu L t.val).c) := chk6_W ac
  have c1 : k0_chk4 (W (cu L t.val).b) := chk4_W ab
  have E' := adv_pre hL.1 t.val
  unfold invV k0_t2_body
  iintro ⟨%ea, HR, HB⟩
  subst ea
  by_cases hk : (cu L t.val).b < 4
  · have h1 : k0_cond2 (W (cu L t.val).b) = 1#1 := by rw [cond2_W ab, ofBool_one]; simp [hk]
    have ib := cur_in hn1 ((cur_lt_iff hn1 t.val).1 hk)
    have c2 : k0_chk5 t (W (cu L t.val).b) (W (cu L t.val).g) (W (cu L t.val).c) (W (lw L (cu L t.val).b)) := chk5_W t ab ag (lw_le hL.1 _) (fun _ => ib.2.2)
    simp only [dif_pos h1, Prog.lift, Prog.bind_op, Prog.bind_ret, Prog.pure_eq_ret, Prog.bind_assoc]
    iapply (wp_assume Variants.nat c.tc bd Set.univ c3)
    iapply (wp_assume Variants.nat c.tc bd Set.univ c1)
    iapply (lenB c bd a0 a1 a12 a13 a14 a15 a16 a17 a4 a8 a18 a7 hL (cu L t.val).b (offL ab)) $$ HB; iintro HB
    iapply (wp_assume Variants.nat c.tc bd Set.univ c2)
    icases (preV_open c L f ⟨t.val, ht⟩) $$ HR with ⟨HF, HR⟩
    iapply (issue_PV c bd t.val ht (cu L t.val).b (cu L t.val).g (cu L t.val).c (lw L (cu L t.val).b) t rfl (lw_le hL.1 _) ib.2.2 ib.1 ib.2.1 _ _ _ _ _ f) $$ HF
    iintro HF
    iapply (lenB c bd a0 a1 a12 a13 a14 a15 a16 a17 a4 a8 a18 a7 hL (cu L t.val).b (offL ab)) $$ HB; iintro HB
    rw [wp_ret]; imodintro
    isplitr
    · ipureintro
      exact E'
    isplitr [HB]
    · iapply (preV_issue c L f ⟨t.val, ht⟩ hk)
      isplitl [HF]; · iexact HF
      iexact HR
    iexact HB
  · have h1 : ¬ k0_cond2 (W (cu L t.val).b) = 1#1 := by rw [cond2_W ab, ofBool_one]; simp [hk]
    simp only [dif_neg h1, Prog.lift, Prog.bind_op, Prog.bind_ret, Prog.pure_eq_ret, Prog.bind_assoc]
    iapply (wp_assume Variants.nat c.tc bd Set.univ c3)
    iapply (wp_assume Variants.nat c.tc bd Set.univ c1)
    iapply (lenB c bd a0 a1 a12 a13 a14 a15 a16 a17 a4 a8 a18 a7 hL (cu L t.val).b (offL ab)) $$ HB; iintro HB
    rw [wp_ret]; imodintro
    isplitr
    · ipureintro
      exact E'
    isplitr [HB]
    · iapply (preV_skip c L f ⟨t.val, ht⟩ hk); iexact HR
    iexact HB

theorem loopV {α : Type} (hL : LensOk a0 c f0 L) (f : Buf (Elt F) (hbmV c)) {kk} {Q : α → sProp 𝕄} :
    iprop(RingV c L f (fun _ => none) ∗ Bufs c a0 a1 a4 a12 a13 a14 a15 a16 a17 a18 a8 a7 f0 f1 f4 σ) ⊢ iprop(((RingV c L f (stV L 0) ∗ Bufs c a0 a1 a4 a12 a13 a14 a15 a16 a17 a18 a8 a7 f0 f1 f4 σ) -∗ wp frame (wpE (defs₀ (F := F)) Variants.nat c.tc bd) Set.univ (kk (W (cu L 8).b, W (cu L 8).g, W (cu L 8).c)) Q)
      -∗ wp frame (wpE (defs₀ (F := F)) Variants.nat c.tc bd) Set.univ (Scf.Loop.for k0_t2_loop k0_t2_ok (0#32, 0#32, 0#32) (k0_t2_body (F := F) a0 p0 a1 p1 a2 p2 a3 p3 a4 p4 (Memref.whole main_v2) (isW _) (Memref.whole main_v4) (isW _) a7 p7 a8 p8 a9 p9 (Memref.whole cc0_scratch0) (isW _) (Memref.whole cc0_scratch1) (isW _) a12 p12 a13 p13 a14 p14 a15 p15 a16 p16 a17 p17 a18 p18 cc0_scratch9 cc0_scratch10) >>= kk) Q) := by
  iintro ⟨HR, HB⟩ Hk
  iapply (Scf.wp_for_bind _ _ _ _ _ _ k0_t2_ok (0#32, 0#32, 0#32) (k0_t2_body (F := F) a0 p0 a1 p1 a2 p2 a3 p3 a4 p4 (Memref.whole main_v2) (isW _) (Memref.whole main_v4) (isW _) a7 p7 a8 p8 a9 p9 (Memref.whole cc0_scratch0) (isW _) (Memref.whole cc0_scratch1) (isW _) a12 p12 a13 p13 a14 p14 a15 p15 a16 p16 a17 p17 a18 p18 cc0_scratch9 cc0_scratch10) (invV (f0 := f0) (σ := σ) (f1 := f1) (f4 := f4) c a0 a1 a12 a13 a14 a15 a16 a17 a4 a8 a18 a7 L f) (stepV (f0 := f0) (f1 := f1) (f4 := f4) c bd a0 p0 a1 p1 a12 p12 a13 p13 a14 p14 a15 p15 a16 p16 a17 p17 a4 p4 a8 p8 a18 p18 a7 p7 a2 p2 a3 p3 a9 p9 hL f)) $$ [HR HB]
  · unfold invV
    isplitr
    · ipureintro; exact (cu_zero L).symm
    isplitr [HB]
    · rw [preV_zero]; iexact HR
    iexact HB
  iintro %a HI
  unfold invV
  icases HI with ⟨%ea, HR, HB⟩
  have ea' : a = (W (cu L 8).b, W (cu L 8).g, W (cu L 8).c) := ea
  subst ea'
  iapply Hk
  isplitr [HB]
  · iapply (BIBase.Entails.of_eq (congrArg (RingV c L f) (preV_full L))); iexact HR
  iexact HB

end Cert.KernelIdeal.Hand
-- ==== Proof.KI.FragB.lean ====
module

public import proofs.«01_k».proof.Proof.KI.FragA
public import Idealize.ShloMosaic.Lib.Pipeline.FrameBody
public import Idealize.ShloMosaic.Lib.Pipeline.DatRel
public import Idealize.ShloMosaic.Lib.Ring
public import Idealize.ShloMosaic.Lib.Tactic
public import Idealize.ShloMosaic.Lib.WordCmp

@[expose] public section

set_option maxRecDepth 16384

/-!
The arithmetic parts of the loop body: each loads and stores its buffers and goes on, with what it returns and leaves.
-/

noncomputable section

namespace Cert.KernelIdeal.Hand

open Cert.KernelIdeal Cert.KernelIdeal.Gen Cert.Words
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (c : Dev nD) (bd : Option Variants.nat.V) (a0 : Memref sig .tc .smem S4 .i32) (p0 : a0.IsWhole) (a1 : Memref sig .tc .vmem S24x8x160 .bf16) (p1 : a1.IsWhole) (a12 : Memref sig .tc .vmem S16x8x4096 .f32) (p12 : a12.IsWhole) (a13 : Memref sig .tc .vmem S8x128 .f32) (p13 : a13.IsWhole) (a14 : Memref sig .tc .vmem S24x8x128 .f32) (p14 : a14.IsWhole) (a15 : Memref sig .tc .vmem S8x128 .f32) (p15 : a15.IsWhole) (a16 : Memref sig .tc .vmem S8x160 .f32) (p16 : a16.IsWhole) (a17 : Memref sig .tc .vmem S6x4x160 .f32) (p17 : a17.IsWhole) (a4 : Memref sig .tc .vmem S6x4x160 .f32) (p4 : a4.IsWhole) (a8 : Memref sig .tc .vmem S24x8x160 .f32) (p8 : a8.IsWhole) (a18 : Memref sig .tc .vmem S6x4x160 .f32) (p18 : a18.IsWhole) (a7 : Memref sig .tc .vmem S24x8x160 .bf16) (p7 : a7.IsWhole)
variable (a21 a22 a23 a24 a25 a26 a27 a28 a29 a30 a31 a32 a33 a34 a35 a36 : BitVec 32)
variable {f0 : Buf (Elt F) (a0.view.loc (c : Thread nD τ))} {f1 : Buf (Elt F) (a1.view.loc (c : Thread nD τ))} {f4 : Buf (Elt F) (a4.view.loc (c : Thread nD τ))}

theorem part8_wp {α : Type} (k0_hw16 : k0_chk16 a21 a22 a24 a25 a36) (k0_h5 : k0_cond5 a21 a22 a24 a25 = 1#1) (m : FVec F S8x128 .f32) (σ : St F)
    {kk} {Q : α → sProp 𝕄} :
    Bufs c a0 a1 a4 a12 a13 a14 a15 a16 a17 a18 a8 a7 f0 f1 f4 σ ⊢ iprop((∀ r, ⌜r = ⟨(tC σ m a36.toNat 16), (tC σ m a36.toNat 17), (tC σ m a36.toNat 18), (tC σ m a36.toNat 19), (tE σ m a36.toNat 20), (tL σ a26 m a36.toNat 21), (broadcast S8x128 (Scalar.ofBits .f32 0x43E00000#32))⟩⌝ -∗ Bufs c a0 a1 a4 a12 a13 a14 a15 a16 a17 a18 a8 a7 f0 f1 f4 σ -∗ wp frame (wpE (defs₀ (F := F)) Variants.nat c.tc bd) Set.univ (kk r) Q)
      -∗ wp frame (wpE (defs₀ (F := F)) Variants.nat c.tc bd) Set.univ (k0_part8 (F := F) a0 p0 cc0_scratch9 (Memref.whole cc0_scratch0) (isW _) (Memref.whole main_v2) (isW _) cc0_scratch10 (Memref.whole cc0_scratch1) (isW _) (Memref.whole main_v4) (isW _) a1 p1 a12 p12 a13 p13 a14 p14 a15 p15 a16 p16 a17 p17 a4 p4 a8 p8 a18 p18 a7 p7 a21 a22 a23 a24 a25 a26 a27 a28 a29 a30 a31 a32 a33 a34 a35 a36 k0_hw16 k0_h5 m (tL σ a26 m a36.toNat 16) (tS σ m a36.toNat 16) >>= kk) Q) := by
  rw [k0_part8_eq_skeleton]; unfold k0_part8_skel Bufs
  simp only [Prog.lift, Prog.bind_op, Prog.bind_ret, Prog.pure_eq_ret, Prog.bind_assoc]
  iintro ⟨H0, H1, H4, H12, H13, H14, H15, H16, H17, H18, H8, H7⟩ Hk
  iapply (ldH c bd) $$ H12; iintro H12
  iapply (ldH c bd) $$ H12; iintro H12
  iapply (ldH c bd) $$ H12; iintro H12
  iapply (ldH c bd) $$ H12; iintro H12
  iapply Hk $$ %_ []
  · ipureintro; rfl
  isplitl [H0]; · iexact H0
  isplitl [H1]; · iexact H1
  isplitl [H4]; · iexact H4
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H8]; · iexact H8
  iexact H7

theorem part9_wp {α : Type} (k0_hw16 : k0_chk16 a21 a22 a24 a25 a36) (k0_h5 : k0_cond5 a21 a22 a24 a25 = 1#1) (m : FVec F S8x128 .f32) (σ : St F)
    {kk} {Q : α → sProp 𝕄} :
    Bufs c a0 a1 a4 a12 a13 a14 a15 a16 a17 a18 a8 a7 f0 f1 f4 σ ⊢ iprop((∀ r, ⌜r = ⟨(tC σ m a36.toNat 20), (tC σ m a36.toNat 21), (tC σ m a36.toNat 22), (tC σ m a36.toNat 23), (tL σ a26 m a36.toNat 25), (tC σ m a36.toNat 24)⟩⌝ -∗ Bufs c a0 a1 a4 a12 a13 a14 a15 a16 a17 a18 a8 a7 f0 f1 f4 σ -∗ wp frame (wpE (defs₀ (F := F)) Variants.nat c.tc bd) Set.univ (kk r) Q)
      -∗ wp frame (wpE (defs₀ (F := F)) Variants.nat c.tc bd) Set.univ (k0_part9 (F := F) a0 p0 cc0_scratch9 (Memref.whole cc0_scratch0) (isW _) (Memref.whole main_v2) (isW _) cc0_scratch10 (Memref.whole cc0_scratch1) (isW _) (Memref.whole main_v4) (isW _) a1 p1 a12 p12 a13 p13 a14 p14 a15 p15 a16 p16 a17 p17 a4 p4 a8 p8 a18 p18 a7 p7 a21 a22 a23 a24 a25 a26 a27 a28 a29 a30 a31 a32 a33 a34 a35 a36 k0_hw16 k0_h5 m (tE σ m a36.toNat 20) (tL σ a26 m a36.toNat 21) (broadcast S8x128 (Scalar.ofBits .f32 0x43E00000#32)) >>= kk) Q) := by
  rw [k0_part9_eq_skeleton]; unfold k0_part9_skel Bufs
  simp only [Prog.lift, Prog.bind_op, Prog.bind_ret, Prog.pure_eq_ret, Prog.bind_assoc]
  iintro ⟨H0, H1, H4, H12, H13, H14, H15, H16, H17, H18, H8, H7⟩ Hk
  iapply (ldH c bd) $$ H12; iintro H12
  iapply (ldH c bd) $$ H12; iintro H12
  iapply (ldH c bd) $$ H12; iintro H12
  iapply (ldH c bd) $$ H12; iintro H12
  iapply Hk $$ %_ []
  · ipureintro; rfl
  isplitl [H0]; · iexact H0
  isplitl [H1]; · iexact H1
  isplitl [H4]; · iexact H4
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H8]; · iexact H8
  iexact H7

theorem part10_wp {α : Type} (k0_hw16 : k0_chk16 a21 a22 a24 a25 a36) (k0_h5 : k0_cond5 a21 a22 a24 a25 = 1#1) (m : FVec F S8x128 .f32) (σ : St F)
    {kk} {Q : α → sProp 𝕄} :
    Bufs c a0 a1 a4 a12 a13 a14 a15 a16 a17 a18 a8 a7 f0 f1 f4 σ ⊢ iprop((∀ r, ⌜r = ⟨(tC σ m a36.toNat 25), (tC σ m a36.toNat 26), (tC σ m a36.toNat 27), (tL σ a26 m a36.toNat 29), (tC σ m a36.toNat 28), (tT σ a36.toNat 29)⟩⌝ -∗ Bufs c a0 a1 a4 a12 a13 a14 a15 a16 a17 a18 a8 a7 f0 f1 f4 σ -∗ wp frame (wpE (defs₀ (F := F)) Variants.nat c.tc bd) Set.univ (kk r) Q)
      -∗ wp frame (wpE (defs₀ (F := F)) Variants.nat c.tc bd) Set.univ (k0_part10 (F := F) a0 p0 cc0_scratch9 (Memref.whole cc0_scratch0) (isW _) (Memref.whole main_v2) (isW _) cc0_scratch10 (Memref.whole cc0_scratch1) (isW _) (Memref.whole main_v4) (isW _) a1 p1 a12 p12 a13 p13 a14 p14 a15 p15 a16 p16 a17 p17 a4 p4 a8 p8 a18 p18 a7 p7 a21 a22 a23 a24 a25 a26 a27 a28 a29 a30 a31 a32 a33 a34 a35 a36 k0_hw16 k0_h5 m (tL σ a26 m a36.toNat 25) >>= kk) Q) := by
  rw [k0_part10_eq_skeleton]; unfold k0_part10_skel Bufs
  simp only [Prog.lift, Prog.bind_op, Prog.bind_ret, Prog.pure_eq_ret, Prog.bind_assoc]
  iintro ⟨H0, H1, H4, H12, H13, H14, H15, H16, H17, H18, H8, H7⟩ Hk
  iapply (ldH c bd) $$ H12; iintro H12
  iapply (ldH c bd) $$ H12; iintro H12
  iapply (ldH c bd) $$ H12; iintro H12
  iapply (ldH c bd) $$ H12; iintro H12
  iapply (ldH c bd) $$ H12; iintro H12
  iapply Hk $$ %_ []
  · ipureintro; rfl
  isplitl [H0]; · iexact H0
  isplitl [H1]; · iexact H1
  isplitl [H4]; · iexact H4
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H8]; · iexact H8
  iexact H7

theorem part11_wp {α : Type} (k0_hw16 : k0_chk16 a21 a22 a24 a25 a36) (k0_hw14 : k0_chk14 a21 a22 a24 a25 a30 a34) (k0_h5 : k0_cond5 a21 a22 a24 a25 = 1#1) (m : FVec F S8x128 .f32) (σ : St F) (k' : Fin 8) (hk : k0_off56 a34 = ![k'.val, 0, 0]) (fS : Buf (Elt F) (locV c))
    {kk} {Q : α → sProp 𝕄} :
    iprop(Bufs c a0 a1 a4 a12 a13 a14 a15 a16 a17 a18 a8 a7 f0 f1 f4 σ ∗ (locV c ↦[slotV c k'.val]{fullShare} fS)) ⊢ iprop((∀ r (σ' : St F), ⌜r = tA σ a26 m a36.toNat (tile (s := S8x160x4096) fS ![k'.val, 0, 0] S1x160x4096.size) ∧ σ' = { σ with l := tN σ a26 m a36.toNat }⌝ -∗ iprop(Bufs c a0 a1 a4 a12 a13 a14 a15 a16 a17 a18 a8 a7 f0 f1 f4 σ' ∗ (locV c ↦[slotV c k'.val]{fullShare} fS)) -∗ wp frame (wpE (defs₀ (F := F)) Variants.nat c.tc bd) Set.univ (kk r) Q)
      -∗ wp frame (wpE (defs₀ (F := F)) Variants.nat c.tc bd) Set.univ (k0_part11 (F := F) a0 p0 cc0_scratch9 (Memref.whole cc0_scratch0) (isW _) (Memref.whole main_v2) (isW _) cc0_scratch10 (Memref.whole cc0_scratch1) (isW _) (Memref.whole main_v4) (isW _) a1 p1 a12 p12 a13 p13 a14 p14 a15 p15 a16 p16 a17 p17 a4 p4 a8 p8 a18 p18 a7 p7 a21 a22 a23 a24 a25 a26 a27 a28 a29 a30 a31 a32 a33 a34 a35 a36 k0_hw16 k0_hw14 k0_h5 m (tC σ m a36.toNat 0) (tC σ m a36.toNat 1) (tC σ m a36.toNat 2) (tC σ m a36.toNat 3) (tC σ m a36.toNat 4) (tC σ m a36.toNat 5) (tC σ m a36.toNat 6) (tC σ m a36.toNat 7) (tC σ m a36.toNat 8) (tC σ m a36.toNat 9) (tC σ m a36.toNat 10) (tC σ m a36.toNat 11) (tC σ m a36.toNat 12) (tC σ m a36.toNat 13) (tC σ m a36.toNat 14) (tC σ m a36.toNat 15) (tC σ m a36.toNat 16) (tC σ m a36.toNat 17) (tC σ m a36.toNat 18) (tC σ m a36.toNat 19) (tC σ m a36.toNat 20) (tC σ m a36.toNat 21) (tC σ m a36.toNat 22) (tC σ m a36.toNat 23) (tC σ m a36.toNat 24) (tC σ m a36.toNat 25) (tC σ m a36.toNat 26) (tC σ m a36.toNat 27) (tL σ a26 m a36.toNat 29) (tC σ m a36.toNat 28) (tT σ a36.toNat 29) >>= kk) Q) := by
  rw [k0_part11_eq_skeleton]; unfold k0_part11_skel Bufs
  simp only [Prog.lift, Prog.bind_op, Prog.bind_ret, Prog.pure_eq_ret, Prog.bind_assoc]
  iintro ⟨⟨H0, H1, H4, H12, H13, H14, H15, H16, H17, H18, H8, H7⟩, HS⟩ Hk
  iapply (ldH c bd) $$ H12; iintro H12
  iapply (ldH c bd) $$ H12; iintro H12
  iapply (ldF c bd) $$ H15; iintro H15
  iapply (stF c bd) $$ H15; iintro H15
  iapply (ldVT c bd hk) $$ HS; iintro HS
  iapply (ldF c bd) $$ H16; iintro H16
  iapply Hk $$ %_ %_ []
  · ipureintro; exact ⟨rfl, rfl⟩
  isplitr [HS]
  · isplitl [H0]; · iexact H0
    isplitl [H1]; · iexact H1
    isplitl [H4]; · iexact H4
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H8]; · iexact H8
    iexact H7
  · iexact HS

theorem part12_wp {α : Type} (k0_hw15 : k0_chk15 a21 a22 a24 a25 a35) (k0_hw11 : k0_chk11 a21 a22 a24 a25) (k0_hw10 : k0_chk10 a21 a22 a24 a25 a27 a33) (k0_h6 : k0_cond6 a21 a22 a24 a25 = 1#1) (σ : St F) {L : ℕ → ℕ} (hL : LensOk a0 c f0 L) (b0 : ℕ) (hb : k0_off59 a21 = ![b0]) (k' : Fin 6) (hk : k0_off58 a33 = ![k'.val, 0, 0]) (fS : Buf (Elt F) (locK c))
    {kk} {Q : α → sProp 𝕄} :
    iprop(Bufs c a0 a1 a4 a12 a13 a14 a15 a16 a17 a18 a8 a7 f0 f1 f4 σ ∗ (locK c ↦[slotK c k'.val]{fullShare} fS)) ⊢ iprop((∀ r (σ' : St F), ⌜r = ⟨(kS (a1.view.read (Elt F) f1) a21 a22 a23 (tile (s := S6x160x4096) fS ![k'.val, 0, 0] S1x160x4096.size) (W (L b0))), k0_pay8 a23 (tile (a1.view.read (Elt F) f1) (rowOf a21 a22) S1x8x160.size) (tile (s := S6x160x4096) fS ![k'.val, 0, 0] S1x160x4096.size) (W (L b0)), k0_pay9 a23 (tile (a1.view.read (Elt F) f1) (rowOf a21 a22) S1x8x160.size) (tile (s := S6x160x4096) fS ![k'.val, 0, 0] S1x160x4096.size) (W (L b0))⟩ ∧ σ' = { σ with s := VecWindow.put σ.s ![a35.toNat, 0, 0] S1x8x4096.size (shapeCast S1x8x4096 (kS (a1.view.read (Elt F) f1) a21 a22 a23 (tile (s := S6x160x4096) fS ![k'.val, 0, 0] S1x160x4096.size) (W (L b0))) shapeCasts_S8x4096_S1x8x4096) }⌝ -∗ iprop(Bufs c a0 a1 a4 a12 a13 a14 a15 a16 a17 a18 a8 a7 f0 f1 f4 σ' ∗ (locK c ↦[slotK c k'.val]{fullShare} fS)) -∗ wp frame (wpE (defs₀ (F := F)) Variants.nat c.tc bd) Set.univ (kk r) Q)
      -∗ wp frame (wpE (defs₀ (F := F)) Variants.nat c.tc bd) Set.univ (k0_part12 (F := F) a0 p0 cc0_scratch9 (Memref.whole cc0_scratch0) (isW _) (Memref.whole main_v2) (isW _) cc0_scratch10 (Memref.whole cc0_scratch1) (isW _) (Memref.whole main_v4) (isW _) a1 p1 a12 p12 a13 p13 a14 p14 a15 p15 a16 p16 a17 p17 a4 p4 a8 p8 a18 p18 a7 p7 a21 a22 a23 a24 a25 a26 a27 a28 a29 a30 a31 a32 a33 a34 a35 a36 k0_hw15 k0_hw11 k0_hw10 k0_h6 >>= kk) Q) := by
  rw [k0_part12_eq_skeleton]; unfold k0_part12_skel Bufs
  simp only [Prog.lift, Prog.bind_op, Prog.bind_ret, Prog.pure_eq_ret, Prog.bind_assoc]
  iintro ⟨⟨H0, H1, H4, H12, H13, H14, H15, H16, H17, H18, H8, H7⟩, HS⟩ Hk
  iapply (ldT c bd) $$ H1; iintro H1
  iapply (ldKT c bd hk) $$ HS; iintro HS
  iapply (ldLen c bd hL b0 hb) $$ H0; iintro H0
  iapply (ldH c bd) $$ H12; iintro H12
  iapply (stH c bd) $$ H12; iintro H12
  iapply Hk $$ %_ %_ []
  · ipureintro; exact ⟨rfl, rfl⟩
  isplitr [HS]
  · isplitl [H0]; · iexact H0
    isplitl [H1]; · iexact H1
    isplitl [H4]; · iexact H4
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H8]; · iexact H8
    iexact H7
  · iexact HS

end Cert.KernelIdeal.Hand
-- ==== Proof.KI.FragC.lean ====
module

public import proofs.«01_k».proof.Proof.KI.FragA
public import Idealize.ShloMosaic.Lib.Pipeline.FrameBody
public import Idealize.ShloMosaic.Lib.Pipeline.DatRel
public import Idealize.ShloMosaic.Lib.Ring
public import Idealize.ShloMosaic.Lib.Tactic
public import Idealize.ShloMosaic.Lib.WordCmp

@[expose] public section

set_option maxRecDepth 16384

/-!
The arithmetic parts of the loop body: each loads and stores its buffers and goes on, with what it returns and leaves.
-/

noncomputable section

namespace Cert.KernelIdeal.Hand

open Cert.KernelIdeal Cert.KernelIdeal.Gen Cert.Words
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (c : Dev nD) (bd : Option Variants.nat.V) (a0 : Memref sig .tc .smem S4 .i32) (p0 : a0.IsWhole) (a1 : Memref sig .tc .vmem S24x8x160 .bf16) (p1 : a1.IsWhole) (a12 : Memref sig .tc .vmem S16x8x4096 .f32) (p12 : a12.IsWhole) (a13 : Memref sig .tc .vmem S8x128 .f32) (p13 : a13.IsWhole) (a14 : Memref sig .tc .vmem S24x8x128 .f32) (p14 : a14.IsWhole) (a15 : Memref sig .tc .vmem S8x128 .f32) (p15 : a15.IsWhole) (a16 : Memref sig .tc .vmem S8x160 .f32) (p16 : a16.IsWhole) (a17 : Memref sig .tc .vmem S6x4x160 .f32) (p17 : a17.IsWhole) (a4 : Memref sig .tc .vmem S6x4x160 .f32) (p4 : a4.IsWhole) (a8 : Memref sig .tc .vmem S24x8x160 .f32) (p8 : a8.IsWhole) (a18 : Memref sig .tc .vmem S6x4x160 .f32) (p18 : a18.IsWhole) (a7 : Memref sig .tc .vmem S24x8x160 .bf16) (p7 : a7.IsWhole)
variable (a21 a22 a23 a24 a25 a26 a27 a28 a29 a30 a31 a32 a33 a34 a35 a36 : BitVec 32)
variable {f0 : Buf (Elt F) (a0.view.loc (c : Thread nD τ))} {f1 : Buf (Elt F) (a1.view.loc (c : Thread nD τ))} {f4 : Buf (Elt F) (a4.view.loc (c : Thread nD τ))}

theorem part13_wp {α : Type} (k0_hw16 : k0_chk16 a21 a22 a24 a25 a36) (k0_hw11 : k0_chk11 a21 a22 a24 a25) (k0_h7 : k0_cond7 a21 = 1#1) (σ : St F)
    {kk} {Q : α → sProp 𝕄} :
    Bufs c a0 a1 a4 a12 a13 a14 a15 a16 a17 a18 a8 a7 f0 f1 f4 σ ⊢ iprop((∀ r, ⌜r = ⟨(tM σ a24 a25), (tC σ (tM σ a24 a25) a36.toNat 0), (tC σ (tM σ a24 a25) a36.toNat 1), (tL σ a26 (tM σ a24 a25) a36.toNat 3), (tC σ (tM σ a24 a25) a36.toNat 2)⟩⌝ -∗ Bufs c a0 a1 a4 a12 a13 a14 a15 a16 a17 a18 a8 a7 f0 f1 f4 σ -∗ wp frame (wpE (defs₀ (F := F)) Variants.nat c.tc bd) Set.univ (kk r) Q)
      -∗ wp frame (wpE (defs₀ (F := F)) Variants.nat c.tc bd) Set.univ (k0_part13 (F := F) a0 p0 cc0_scratch9 (Memref.whole cc0_scratch0) (isW _) (Memref.whole main_v2) (isW _) cc0_scratch10 (Memref.whole cc0_scratch1) (isW _) (Memref.whole main_v4) (isW _) a1 p1 a12 p12 a13 p13 a14 p14 a15 p15 a16 p16 a17 p17 a4 p4 a8 p8 a18 p18 a7 p7 a21 a22 a23 a24 a25 a26 a27 a28 a29 a30 a31 a32 a33 a34 a35 a36 k0_hw16 k0_hw11 k0_h7 >>= kk) Q) := by
  rw [k0_part13_eq_skeleton]; unfold k0_part13_skel Bufs
  simp only [Prog.lift, Prog.bind_op, Prog.bind_ret, Prog.pure_eq_ret, Prog.bind_assoc]
  iintro ⟨H0, H1, H4, H12, H13, H14, H15, H16, H17, H18, H8, H7⟩ Hk
  iapply (ldH c bd) $$ H14; iintro H14
  iapply (ldF c bd) $$ H15; iintro H15
  iapply (ldH c bd) $$ H12; iintro H12
  iapply (ldH c bd) $$ H12; iintro H12
  iapply (ldH c bd) $$ H12; iintro H12
  iapply Hk $$ %_ []
  · ipureintro; rfl
  isplitl [H0]; · iexact H0
  isplitl [H1]; · iexact H1
  isplitl [H4]; · iexact H4
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H8]; · iexact H8
  iexact H7

theorem part14_wp {α : Type} (k0_hw16 : k0_chk16 a21 a22 a24 a25 a36) (k0_h7 : k0_cond7 a21 = 1#1) (m : FVec F S8x128 .f32) (σ : St F)
    {kk} {Q : α → sProp 𝕄} :
    Bufs c a0 a1 a4 a12 a13 a14 a15 a16 a17 a18 a8 a7 f0 f1 f4 σ ⊢ iprop((∀ r, ⌜r = ⟨(tC σ m a36.toNat 3), (tC σ m a36.toNat 4), (tC σ m a36.toNat 5), (tL σ a26 m a36.toNat 7), (tC σ m a36.toNat 6), (tS σ m a36.toNat 7)⟩⌝ -∗ Bufs c a0 a1 a4 a12 a13 a14 a15 a16 a17 a18 a8 a7 f0 f1 f4 σ -∗ wp frame (wpE (defs₀ (F := F)) Variants.nat c.tc bd) Set.univ (kk r) Q)
      -∗ wp frame (wpE (defs₀ (F := F)) Variants.nat c.tc bd) Set.univ (k0_part14 (F := F) a0 p0 cc0_scratch9 (Memref.whole cc0_scratch0) (isW _) (Memref.whole main_v2) (isW _) cc0_scratch10 (Memref.whole cc0_scratch1) (isW _) (Memref.whole main_v4) (isW _) a1 p1 a12 p12 a13 p13 a14 p14 a15 p15 a16 p16 a17 p17 a4 p4 a8 p8 a18 p18 a7 p7 a21 a22 a23 a24 a25 a26 a27 a28 a29 a30 a31 a32 a33 a34 a35 a36 k0_hw16 k0_h7 m (tL σ a26 m a36.toNat 3) >>= kk) Q) := by
  rw [k0_part14_eq_skeleton]; unfold k0_part14_skel Bufs
  simp only [Prog.lift, Prog.bind_op, Prog.bind_ret, Prog.pure_eq_ret, Prog.bind_assoc]
  iintro ⟨H0, H1, H4, H12, H13, H14, H15, H16, H17, H18, H8, H7⟩ Hk
  iapply (ldH c bd) $$ H12; iintro H12
  iapply (ldH c bd) $$ H12; iintro H12
  iapply (ldH c bd) $$ H12; iintro H12
  iapply (ldH c bd) $$ H12; iintro H12
  iapply (ldH c bd) $$ H12; iintro H12
  iapply Hk $$ %_ []
  · ipureintro; rfl
  isplitl [H0]; · iexact H0
  isplitl [H1]; · iexact H1
  isplitl [H4]; · iexact H4
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H8]; · iexact H8
  iexact H7

theorem part15_wp {α : Type} (k0_hw16 : k0_chk16 a21 a22 a24 a25 a36) (k0_h7 : k0_cond7 a21 = 1#1) (m : FVec F S8x128 .f32) (σ : St F)
    {kk} {Q : α → sProp 𝕄} :
    Bufs c a0 a1 a4 a12 a13 a14 a15 a16 a17 a18 a8 a7 f0 f1 f4 σ ⊢ iprop((∀ r, ⌜r = ⟨(tC σ m a36.toNat 7), (tC σ m a36.toNat 8), (tC σ m a36.toNat 9), (tC σ m a36.toNat 10), (tE σ m a36.toNat 11), (tL σ a26 m a36.toNat 12), (broadcast S8x128 (Scalar.ofBits .f32 0x43E00000#32))⟩⌝ -∗ Bufs c a0 a1 a4 a12 a13 a14 a15 a16 a17 a18 a8 a7 f0 f1 f4 σ -∗ wp frame (wpE (defs₀ (F := F)) Variants.nat c.tc bd) Set.univ (kk r) Q)
      -∗ wp frame (wpE (defs₀ (F := F)) Variants.nat c.tc bd) Set.univ (k0_part15 (F := F) a0 p0 cc0_scratch9 (Memref.whole cc0_scratch0) (isW _) (Memref.whole main_v2) (isW _) cc0_scratch10 (Memref.whole cc0_scratch1) (isW _) (Memref.whole main_v4) (isW _) a1 p1 a12 p12 a13 p13 a14 p14 a15 p15 a16 p16 a17 p17 a4 p4 a8 p8 a18 p18 a7 p7 a21 a22 a23 a24 a25 a26 a27 a28 a29 a30 a31 a32 a33 a34 a35 a36 k0_hw16 k0_h7 m (tL σ a26 m a36.toNat 7) (tS σ m a36.toNat 7) >>= kk) Q) := by
  rw [k0_part15_eq_skeleton]; unfold k0_part15_skel Bufs
  simp only [Prog.lift, Prog.bind_op, Prog.bind_ret, Prog.pure_eq_ret, Prog.bind_assoc]
  iintro ⟨H0, H1, H4, H12, H13, H14, H15, H16, H17, H18, H8, H7⟩ Hk
  iapply (ldH c bd) $$ H12; iintro H12
  iapply (ldH c bd) $$ H12; iintro H12
  iapply (ldH c bd) $$ H12; iintro H12
  iapply (ldH c bd) $$ H12; iintro H12
  iapply Hk $$ %_ []
  · ipureintro; rfl
  isplitl [H0]; · iexact H0
  isplitl [H1]; · iexact H1
  isplitl [H4]; · iexact H4
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H8]; · iexact H8
  iexact H7

theorem part16_wp {α : Type} (k0_hw16 : k0_chk16 a21 a22 a24 a25 a36) (k0_h7 : k0_cond7 a21 = 1#1) (m : FVec F S8x128 .f32) (σ : St F)
    {kk} {Q : α → sProp 𝕄} :
    Bufs c a0 a1 a4 a12 a13 a14 a15 a16 a17 a18 a8 a7 f0 f1 f4 σ ⊢ iprop((∀ r, ⌜r = ⟨(tC σ m a36.toNat 11), (tC σ m a36.toNat 12), (tC σ m a36.toNat 13), (tC σ m a36.toNat 14), (tL σ a26 m a36.toNat 16), (tC σ m a36.toNat 15)⟩⌝ -∗ Bufs c a0 a1 a4 a12 a13 a14 a15 a16 a17 a18 a8 a7 f0 f1 f4 σ -∗ wp frame (wpE (defs₀ (F := F)) Variants.nat c.tc bd) Set.univ (kk r) Q)
      -∗ wp frame (wpE (defs₀ (F := F)) Variants.nat c.tc bd) Set.univ (k0_part16 (F := F) a0 p0 cc0_scratch9 (Memref.whole cc0_scratch0) (isW _) (Memref.whole main_v2) (isW _) cc0_scratch10 (Memref.whole cc0_scratch1) (isW _) (Memref.whole main_v4) (isW _) a1 p1 a12 p12 a13 p13 a14 p14 a15 p15 a16 p16 a17 p17 a4 p4 a8 p8 a18 p18 a7 p7 a21 a22 a23 a24 a25 a26 a27 a28 a29 a30 a31 a32 a33 a34 a35 a36 k0_hw16 k0_h7 m (tE σ m a36.toNat 11) (tL σ a26 m a36.toNat 12) (broadcast S8x128 (Scalar.ofBits .f32 0x43E00000#32)) >>= kk) Q) := by
  rw [k0_part16_eq_skeleton]; unfold k0_part16_skel Bufs
  simp only [Prog.lift, Prog.bind_op, Prog.bind_ret, Prog.pure_eq_ret, Prog.bind_assoc]
  iintro ⟨H0, H1, H4, H12, H13, H14, H15, H16, H17, H18, H8, H7⟩ Hk
  iapply (ldH c bd) $$ H12; iintro H12
  iapply (ldH c bd) $$ H12; iintro H12
  iapply (ldH c bd) $$ H12; iintro H12
  iapply (ldH c bd) $$ H12; iintro H12
  iapply Hk $$ %_ []
  · ipureintro; rfl
  isplitl [H0]; · iexact H0
  isplitl [H1]; · iexact H1
  isplitl [H4]; · iexact H4
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H8]; · iexact H8
  iexact H7

theorem part17_wp {α : Type} (k0_hw16 : k0_chk16 a21 a22 a24 a25 a36) (k0_h7 : k0_cond7 a21 = 1#1) (m : FVec F S8x128 .f32) (σ : St F)
    {kk} {Q : α → sProp 𝕄} :
    Bufs c a0 a1 a4 a12 a13 a14 a15 a16 a17 a18 a8 a7 f0 f1 f4 σ ⊢ iprop((∀ r, ⌜r = ⟨(tC σ m a36.toNat 16), (tC σ m a36.toNat 17), (tC σ m a36.toNat 18), (tL σ a26 m a36.toNat 20), (tC σ m a36.toNat 19), (tT σ a36.toNat 20)⟩⌝ -∗ Bufs c a0 a1 a4 a12 a13 a14 a15 a16 a17 a18 a8 a7 f0 f1 f4 σ -∗ wp frame (wpE (defs₀ (F := F)) Variants.nat c.tc bd) Set.univ (kk r) Q)
      -∗ wp frame (wpE (defs₀ (F := F)) Variants.nat c.tc bd) Set.univ (k0_part17 (F := F) a0 p0 cc0_scratch9 (Memref.whole cc0_scratch0) (isW _) (Memref.whole main_v2) (isW _) cc0_scratch10 (Memref.whole cc0_scratch1) (isW _) (Memref.whole main_v4) (isW _) a1 p1 a12 p12 a13 p13 a14 p14 a15 p15 a16 p16 a17 p17 a4 p4 a8 p8 a18 p18 a7 p7 a21 a22 a23 a24 a25 a26 a27 a28 a29 a30 a31 a32 a33 a34 a35 a36 k0_hw16 k0_h7 m (tL σ a26 m a36.toNat 16) >>= kk) Q) := by
  rw [k0_part17_eq_skeleton]; unfold k0_part17_skel Bufs
  simp only [Prog.lift, Prog.bind_op, Prog.bind_ret, Prog.pure_eq_ret, Prog.bind_assoc]
  iintro ⟨H0, H1, H4, H12, H13, H14, H15, H16, H17, H18, H8, H7⟩ Hk
  iapply (ldH c bd) $$ H12; iintro H12
  iapply (ldH c bd) $$ H12; iintro H12
  iapply (ldH c bd) $$ H12; iintro H12
  iapply (ldH c bd) $$ H12; iintro H12
  iapply (ldH c bd) $$ H12; iintro H12
  iapply Hk $$ %_ []
  · ipureintro; rfl
  isplitl [H0]; · iexact H0
  isplitl [H1]; · iexact H1
  isplitl [H4]; · iexact H4
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H8]; · iexact H8
  iexact H7

theorem part18_wp {α : Type} (k0_hw16 : k0_chk16 a21 a22 a24 a25 a36) (k0_h7 : k0_cond7 a21 = 1#1) (m : FVec F S8x128 .f32) (σ : St F)
    {kk} {Q : α → sProp 𝕄} :
    Bufs c a0 a1 a4 a12 a13 a14 a15 a16 a17 a18 a8 a7 f0 f1 f4 σ ⊢ iprop((∀ r, ⌜r = ⟨(tC σ m a36.toNat 20), (tC σ m a36.toNat 21), (tC σ m a36.toNat 22), (tC σ m a36.toNat 23), (tE σ m a36.toNat 24), (tL σ a26 m a36.toNat 25)⟩⌝ -∗ Bufs c a0 a1 a4 a12 a13 a14 a15 a16 a17 a18 a8 a7 f0 f1 f4 σ -∗ wp frame (wpE (defs₀ (F := F)) Variants.nat c.tc bd) Set.univ (kk r) Q)
      -∗ wp frame (wpE (defs₀ (F := F)) Variants.nat c.tc bd) Set.univ (k0_part18 (F := F) a0 p0 cc0_scratch9 (Memref.whole cc0_scratch0) (isW _) (Memref.whole main_v2) (isW _) cc0_scratch10 (Memref.whole cc0_scratch1) (isW _) (Memref.whole main_v4) (isW _) a1 p1 a12 p12 a13 p13 a14 p14 a15 p15 a16 p16 a17 p17 a4 p4 a8 p8 a18 p18 a7 p7 a21 a22 a23 a24 a25 a26 a27 a28 a29 a30 a31 a32 a33 a34 a35 a36 k0_hw16 k0_h7 m (tL σ a26 m a36.toNat 20) (tT σ a36.toNat 20) >>= kk) Q) := by
  rw [k0_part18_eq_skeleton]; unfold k0_part18_skel Bufs
  simp only [Prog.lift, Prog.bind_op, Prog.bind_ret, Prog.pure_eq_ret, Prog.bind_assoc]
  iintro ⟨H0, H1, H4, H12, H13, H14, H15, H16, H17, H18, H8, H7⟩ Hk
  iapply (ldH c bd) $$ H12; iintro H12
  iapply (ldH c bd) $$ H12; iintro H12
  iapply (ldH c bd) $$ H12; iintro H12
  iapply (ldH c bd) $$ H12; iintro H12
  iapply Hk $$ %_ []
  · ipureintro; rfl
  isplitl [H0]; · iexact H0
  isplitl [H1]; · iexact H1
  isplitl [H4]; · iexact H4
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H8]; · iexact H8
  iexact H7

theorem part19_wp {α : Type} (k0_hw16 : k0_chk16 a21 a22 a24 a25 a36) (k0_h7 : k0_cond7 a21 = 1#1) (m : FVec F S8x128 .f32) (σ : St F)
    {kk} {Q : α → sProp 𝕄} :
    Bufs c a0 a1 a4 a12 a13 a14 a15 a16 a17 a18 a8 a7 f0 f1 f4 σ ⊢ iprop((∀ r, ⌜r = ⟨(tC σ m a36.toNat 24), (tC σ m a36.toNat 25), (tC σ m a36.toNat 26), (tC σ m a36.toNat 27), (tL σ a26 m a36.toNat 29), (tU σ m a36.toNat 28), (Scalar.ofBits .f32 0x43E00000#32)⟩⌝ -∗ Bufs c a0 a1 a4 a12 a13 a14 a15 a16 a17 a18 a8 a7 f0 f1 f4 σ -∗ wp frame (wpE (defs₀ (F := F)) Variants.nat c.tc bd) Set.univ (kk r) Q)
      -∗ wp frame (wpE (defs₀ (F := F)) Variants.nat c.tc bd) Set.univ (k0_part19 (F := F) a0 p0 cc0_scratch9 (Memref.whole cc0_scratch0) (isW _) (Memref.whole main_v2) (isW _) cc0_scratch10 (Memref.whole cc0_scratch1) (isW _) (Memref.whole main_v4) (isW _) a1 p1 a12 p12 a13 p13 a14 p14 a15 p15 a16 p16 a17 p17 a4 p4 a8 p8 a18 p18 a7 p7 a21 a22 a23 a24 a25 a26 a27 a28 a29 a30 a31 a32 a33 a34 a35 a36 k0_hw16 k0_h7 m (tE σ m a36.toNat 24) (tL σ a26 m a36.toNat 25) >>= kk) Q) := by
  rw [k0_part19_eq_skeleton]; unfold k0_part19_skel Bufs
  simp only [Prog.lift, Prog.bind_op, Prog.bind_ret, Prog.pure_eq_ret, Prog.bind_assoc]
  iintro ⟨H0, H1, H4, H12, H13, H14, H15, H16, H17, H18, H8, H7⟩ Hk
  iapply (ldH c bd) $$ H12; iintro H12
  iapply (ldH c bd) $$ H12; iintro H12
  iapply (ldH c bd) $$ H12; iintro H12
  iapply (ldH c bd) $$ H12; iintro H12
  iapply Hk $$ %_ []
  · ipureintro; rfl
  isplitl [H0]; · iexact H0
  isplitl [H1]; · iexact H1
  isplitl [H4]; · iexact H4
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H8]; · iexact H8
  iexact H7

theorem part20_wp {α : Type} (k0_hw16 : k0_chk16 a21 a22 a24 a25 a36) (k0_hw14 : k0_chk14 a21 a22 a24 a25 a30 a34) (k0_h7 : k0_cond7 a21 = 1#1) (m : FVec F S8x128 .f32) (σ : St F) (k' : Fin 8) (hk : k0_off94 a34 = ![k'.val, 0, 0]) (fS : Buf (Elt F) (locV c))
    {kk} {Q : α → sProp 𝕄} :
    iprop(Bufs c a0 a1 a4 a12 a13 a14 a15 a16 a17 a18 a8 a7 f0 f1 f4 σ ∗ (locV c ↦[slotV c k'.val]{fullShare} fS)) ⊢ iprop((∀ r (σ' : St F), ⌜r = ⟨tV σ m a36.toNat (tile (s := S8x160x4096) fS ![k'.val, 0, 0] S1x160x4096.size), 0#32⟩ ∧ σ' = { σ with l := tN σ a26 m a36.toNat }⌝ -∗ iprop(Bufs c a0 a1 a4 a12 a13 a14 a15 a16 a17 a18 a8 a7 f0 f1 f4 σ' ∗ (locV c ↦[slotV c k'.val]{fullShare} fS)) -∗ wp frame (wpE (defs₀ (F := F)) Variants.nat c.tc bd) Set.univ (kk r) Q)
      -∗ wp frame (wpE (defs₀ (F := F)) Variants.nat c.tc bd) Set.univ (k0_part20 (F := F) a0 p0 cc0_scratch9 (Memref.whole cc0_scratch0) (isW _) (Memref.whole main_v2) (isW _) cc0_scratch10 (Memref.whole cc0_scratch1) (isW _) (Memref.whole main_v4) (isW _) a1 p1 a12 p12 a13 p13 a14 p14 a15 p15 a16 p16 a17 p17 a4 p4 a8 p8 a18 p18 a7 p7 a21 a22 a23 a24 a25 a26 a27 a28 a29 a30 a31 a32 a33 a34 a35 a36 k0_hw16 k0_hw14 k0_h7 m (tC σ m a36.toNat 0) (tC σ m a36.toNat 1) (tC σ m a36.toNat 2) (tC σ m a36.toNat 3) (tC σ m a36.toNat 4) (tC σ m a36.toNat 5) (tC σ m a36.toNat 6) (tC σ m a36.toNat 7) (tC σ m a36.toNat 8) (tC σ m a36.toNat 9) (tC σ m a36.toNat 10) (tC σ m a36.toNat 11) (tC σ m a36.toNat 12) (tC σ m a36.toNat 13) (tC σ m a36.toNat 14) (tC σ m a36.toNat 15) (tC σ m a36.toNat 16) (tC σ m a36.toNat 17) (tC σ m a36.toNat 18) (tC σ m a36.toNat 19) (tC σ m a36.toNat 20) (tC σ m a36.toNat 21) (tC σ m a36.toNat 22) (tC σ m a36.toNat 23) (tC σ m a36.toNat 24) (tC σ m a36.toNat 25) (tC σ m a36.toNat 26) (tC σ m a36.toNat 27) (tL σ a26 m a36.toNat 29) (tU σ m a36.toNat 28) (Scalar.ofBits .f32 0x43E00000#32) >>= kk) Q) := by
  rw [k0_part20_eq_skeleton]; unfold k0_part20_skel Bufs
  simp only [Prog.lift, Prog.bind_op, Prog.bind_ret, Prog.pure_eq_ret, Prog.bind_assoc]
  iintro ⟨⟨H0, H1, H4, H12, H13, H14, H15, H16, H17, H18, H8, H7⟩, HS⟩ Hk
  iapply (ldH c bd) $$ H12; iintro H12
  iapply (ldH c bd) $$ H12; iintro H12
  iapply (ldH c bd) $$ H12; iintro H12
  iapply (ldF c bd) $$ H15; iintro H15
  iapply (stF c bd) $$ H15; iintro H15
  iapply (ldVT c bd hk) $$ HS; iintro HS
  iapply Hk $$ %_ %_ []
  · ipureintro; exact ⟨rfl, rfl⟩
  isplitr [HS]
  · isplitl [H0]; · iexact H0
    isplitl [H1]; · iexact H1
    isplitl [H4]; · iexact H4
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H8]; · iexact H8
    iexact H7
  · iexact HS

theorem part21_wp {α : Type} (v92 : Elt F .i32) (k0_hw25 : k0_chk25 a21 a22 a24 a25 a26 v92) (k0_h11 : k0_cond11 a21 a22 a24 a25 a26 v92 = 1#1) (σ : St F)
    {kk} {Q : α → sProp 𝕄} :
    Bufs c a0 a1 a4 a12 a13 a14 a15 a16 a17 a18 a8 a7 f0 f1 f4 σ ⊢ iprop((∀ r, ⌜r = ⟨fP σ (a1.view.read (Elt F) f1) a24 a25, fL σ (a1.view.read (Elt F) f1) a24 a25, fO σ (a1.view.read (Elt F) f1) (a4.view.read (Elt F) f4) a24 a25⟩⌝ -∗ Bufs c a0 a1 a4 a12 a13 a14 a15 a16 a17 a18 a8 a7 f0 f1 f4 σ -∗ wp frame (wpE (defs₀ (F := F)) Variants.nat c.tc bd) Set.univ (kk r) Q)
      -∗ wp frame (wpE (defs₀ (F := F)) Variants.nat c.tc bd) Set.univ (k0_part21 (F := F) a0 p0 cc0_scratch9 (Memref.whole cc0_scratch0) (isW _) (Memref.whole main_v2) (isW _) cc0_scratch10 (Memref.whole cc0_scratch1) (isW _) (Memref.whole main_v4) (isW _) a1 p1 a12 p12 a13 p13 a14 p14 a15 p15 a16 p16 a17 p17 a4 p4 a8 p8 a18 p18 a7 p7 a21 a22 a23 a24 a25 a26 a27 a28 a29 a30 a31 a32 a33 a34 a35 a36 v92 k0_hw25 k0_h11 >>= kk) Q) := by
  rw [k0_part21_eq_skeleton]; unfold k0_part21_skel Bufs
  simp only [Prog.lift, Prog.bind_op, Prog.bind_ret, Prog.pure_eq_ret, Prog.bind_assoc]
  iintro ⟨H0, H1, H4, H12, H13, H14, H15, H16, H17, H18, H8, H7⟩ Hk
  iapply (ldH c bd) $$ H14; iintro H14
  iapply (ldT c bd) $$ H1; iintro H1
  iapply (ldH c bd) $$ H17; iintro H17
  iapply (ldF c bd) $$ H15; iintro H15
  iapply (ldF c bd) $$ H16; iintro H16
  iapply (ldT c bd) $$ H4; iintro H4
  iapply Hk $$ %_ []
  · ipureintro; rfl
  isplitl [H0]; · iexact H0
  isplitl [H1]; · iexact H1
  isplitl [H4]; · iexact H4
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H8]; · iexact H8
  iexact H7

end Cert.KernelIdeal.Hand
-- ==== Proof.KI.StepA.lean ====
module

public import proofs.«01_k».proof.Proof.KI.Issue
public import proofs.«01_k».proof.Proof.KI.FragB
public import proofs.«01_k».proof.Proof.KI.FragC
public import Idealize.ShloMosaic.Lib.Pipeline.FrameBody
public import Idealize.ShloMosaic.Lib.Pipeline.DatRel
public import Idealize.ShloMosaic.Lib.Ring
public import Idealize.ShloMosaic.Lib.Tactic
public import Idealize.ShloMosaic.Lib.WordCmp

@[expose] public section

set_option maxRecDepth 16384

/-!
The first half of a trip: the waits, the arithmetic, the next K transfer.
-/

noncomputable section

namespace Cert.KernelIdeal.Hand

open Cert.KernelIdeal Cert.KernelIdeal.Gen Cert.Words
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

attribute [local irreducible] cur

variable (c : Dev nD) (bd : Option Variants.nat.V) (a0 : Memref sig .tc .smem S4 .i32) (p0 : a0.IsWhole) (a1 : Memref sig .tc .vmem S24x8x160 .bf16) (p1 : a1.IsWhole) (a12 : Memref sig .tc .vmem S16x8x4096 .f32) (p12 : a12.IsWhole) (a13 : Memref sig .tc .vmem S8x128 .f32) (p13 : a13.IsWhole) (a14 : Memref sig .tc .vmem S24x8x128 .f32) (p14 : a14.IsWhole) (a15 : Memref sig .tc .vmem S8x128 .f32) (p15 : a15.IsWhole) (a16 : Memref sig .tc .vmem S8x160 .f32) (p16 : a16.IsWhole) (a17 : Memref sig .tc .vmem S6x4x160 .f32) (p17 : a17.IsWhole) (a4 : Memref sig .tc .vmem S6x4x160 .f32) (p4 : a4.IsWhole) (a8 : Memref sig .tc .vmem S24x8x160 .f32) (p8 : a8.IsWhole) (a18 : Memref sig .tc .vmem S6x4x160 .f32) (p18 : a18.IsWhole) (a7 : Memref sig .tc .vmem S24x8x160 .bf16) (p7 : a7.IsWhole)
variable {f0 : Buf (Elt F) (a0.view.loc (c : Thread nD τ))} {f1 : Buf (Elt F) (a1.view.loc (c : Thread nD τ))} {f4 : Buf (Elt F) (a4.view.loc (c : Thread nD τ))}

variable {L : ℕ → ℕ} {i j : ℕ} {σ : St F}

theorem part22_A {α : Type} (hL : LensOk a0 c f0 L) (hj : j < total (nL L)) (hk : (cu L i).b < 4) (hv : doV (nL L) i j)
    (f5 : Buf (Elt F) (hbmK c)) (f6 : Buf (Elt F) (hbmV c))
    {kk} {Q : α → sProp 𝕄} :
    iprop(RingK c L f5 (stK L i) ∗ RingV c L f6 (stV L j) ∗ Bufs c a0 a1 a4 a12 a13 a14 a15 a16 a17 a18 a8 a7 f0 f1 f4 σ ∗ (∃ W0, owes c 0 W0)) ⊢ iprop((∀ (h24 : k0_chk24 (W (cu L j).b)) (h20 : k0_chk20 (W (cu L i).b) (W (cu L i).g) (W (cu L j).b) (W (cu L j).g) (W (cu L (j + 8)).b)) (h17 : k0_chk17 (W (cu L i).b) (W (cu L (i + 6)).b)) (h14 : k0_chk14 (W (cu L i).b) (W (cu L i).g) (W (cu L j).b) (W (cu L j).g) (W (cu L (j + 8)).b) (W (j % 8))) (h7 : k0_chk7 (W (cu L i).b)) (v60 x0 : BitVec 32), iprop(RingK c L f5 (stK L (i + 1)) ∗ (gotV c f6 (atV j) (cu L j).b (cu L j).g (cu L j).c (szOf (cu L j).c (lw L (cu L j).b)) ∗ RestV c L f6 (stV L j) (atV j)) ∗ (∃ σ' : St F, ⌜(∃ σ1, nxK c f5 (a1.view.read (Elt F) f1) L i σ σ1 ∧ nxV c f6 L j σ1 σ')⌝ ∗ Bufs c a0 a1 a4 a12 a13 a14 a15 a16 a17 a18 a8 a7 f0 f1 f4 σ') ∗ (∃ W0, owes c 0 W0)) -∗
        wp frame (wpE (defs₀ (F := F)) Variants.nat c.tc bd) Set.univ (kk ⟨h24, h20, h17, h14, h7, Scalar.cmpi .slt (W (cu L i).b) 4#32,
          Scalar.cmpi .sgt (Scalar.addi (Scalar.muli (W (cu L i).b) 6#32) (W (cu L i).g)) (Scalar.addi (Scalar.muli (W (cu L j).b) 6#32) (W (cu L j).g)), v60, x0⟩) Q)
      -∗ wp frame (wpE (defs₀ (F := F)) Variants.nat c.tc bd) Set.univ (k0_part22 (F := F) a0 p0 cc0_scratch9 (Memref.whole cc0_scratch0) (isW _) (Memref.whole main_v2) (isW _) cc0_scratch10 (Memref.whole cc0_scratch1) (isW _) (Memref.whole main_v4) (isW _) a1 p1 a12 p12 a13 p13 a14 p14 a15 p15 a16 p16 a17 p17 a4 p4 a8 p8 a18 p18 a7 p7 (W (cu L i).b) (W (cu L i).g) (W (cu L i).c) (W (cu L j).b) (W (cu L j).g) (W (cu L j).c) (W (cu L (i + 6)).b) (W (cu L (i + 6)).g) (W (cu L (i + 6)).c) (W (cu L (j + 8)).b) (W (cu L (j + 8)).g) (W (cu L (j + 8)).c) (W (i % 6)) (W (j % 8)) (W (i % 16)) (W (j % 16)) >>= kk) Q) := by
  have hn := nL_ok hL.1
  have hn1 := fun b => (hn b).1
  obtain ⟨ab, ag, ac⟩ := cur_bounds hn i
  obtain ⟨bb, bg, bc⟩ := cur_bounds hn j
  obtain ⟨eb, eg, ec⟩ := cur_bounds hn (i + 6)
  obtain ⟨pb, pg, pc⟩ := cur_bounds hn (j + 8)
  have m6 : i % 6 < 6 := Nat.mod_lt _ (by decide)
  have m8 : j % 8 < 8 := Nat.mod_lt _ (by decide)
  have m16 : i % 16 < 16 := Nat.mod_lt _ (by decide)
  have m16' : j % 16 < 16 := Nat.mod_lt _ (by decide)
  have ib := cur_in hn1 hj
  have hv' : (cu L j).b * 6 + (cu L j).g < (cu L i).b * 6 + (cu L i).g := hv
  have h3 : k0_cond3 (W (cu L i).b) = 1#1 := by rw [cond3_W ab, ofBool_one]; simp [hk, hv']
  have h4 : k0_cond4 (W (cu L i).b) (W (cu L i).g) (W (cu L j).b) (W (cu L j).g) = 1#1 := by rw [cond4_W ab ag bb bg, ofBool_one]; simp [hk, hv']
  have h5 : k0_cond5 (W (cu L i).b) (W (cu L i).g) (W (cu L j).b) (W (cu L j).g) = 1#1 := by rw [cond5_W ab ag bb bg, ofBool_one]; simp [hk, hv']
  have h6 : ¬ k0_cond6 (W (cu L i).b) (W (cu L i).g) (W (cu L j).b) (W (cu L j).g) = 1#1 := by rw [cond6_W ab ag bb bg, ofBool_one]; simp [hk, hv']
  have h7 : ¬ k0_cond7 (W (cu L i).b) = 1#1 := by rw [cond7_W ab, ofBool_one]; simp [hk, hv']
  have c24 : k0_chk24 (W (cu L j).b) := chk24_W bb
  have c22 : k0_chk22 (W (cu L i).b) (W (cu L i).g) (W (cu L j).b) (W (cu L j).g) (W (cu L (j + 8)).b) (W (cu L (j + 8)).c) := chk22_W pc
  have c20 : k0_chk20 (W (cu L i).b) (W (cu L i).g) (W (cu L j).b) (W (cu L j).g) (W (cu L (j + 8)).b) := chk20_W pb
  have c19 : k0_chk19 (W (cu L i).b) (W (cu L (i + 6)).b) (W (cu L (i + 6)).c) := chk19_W ec
  have c17 : k0_chk17 (W (cu L i).b) (W (cu L (i + 6)).b) := chk17_W eb
  have c16 : k0_chk16 (W (cu L i).b) (W (cu L i).g) (W (cu L j).b) (W (cu L j).g) (W (j % 16)) := chk16_W m16'
  have c15 : k0_chk15 (W (cu L i).b) (W (cu L i).g) (W (cu L j).b) (W (cu L j).g) (W (i % 16)) := chk15_W m16
  have c14 : k0_chk14 (W (cu L i).b) (W (cu L i).g) (W (cu L j).b) (W (cu L j).g) (W (cu L (j + 8)).b) (W (j % 8)) := chk14_W m8
  have c13 : k0_chk13 (W (cu L i).b) (W (cu L i).g) (W (cu L j).b) (W (cu L j).g) (W (cu L j).c) := chk13_W bc
  have c11 : k0_chk11 (W (cu L i).b) (W (cu L i).g) (W (cu L j).b) (W (cu L j).g) := chk11_W ab ag bb bg (fun _ => ib.1) (fun _ => ib.1)
  have c10 : k0_chk10 (W (cu L i).b) (W (cu L i).g) (W (cu L j).b) (W (cu L j).g) (W (cu L (i + 6)).b) (W (i % 6)) := chk10_W m6
  have c9 : k0_chk9 (W (cu L i).b) (W (cu L i).c) := chk9_W ac
  have c7 : k0_chk7 (W (cu L i).b) := chk7_W ab
  have ia := cur_in hn1 ((cur_lt_iff hn1 i).1 hk)
  have c8 : k0_chk8 (W (cu L i).b) (W (cu L i).g) (W (cu L i).c) (W (i % 6)) (W (lw L (cu L i).b)) := chk8_W ag ab (lw_le hL.1 _) (fun _ => ia.2.2)
  have c12 : k0_chk12 (W (cu L i).b) (W (cu L i).g) (W (cu L j).b) (W (cu L j).g) (W (cu L j).c) (W (j % 8)) (W (lw L (cu L j).b)) := chk12_W (lw_le hL.1 _) (fun _ => ib.2.2)
  by_cases hh : (cu L (i + 6)).b < 4
  · have h8 : k0_cond8 (W (cu L i).b) (W (cu L (i + 6)).b) = 1#1 := by rw [cond8_W ab eb, ofBool_one]; simp [hk, hh]
    have ie := cur_in hn1 ((cur_lt_iff hn1 _).1 hh)
    have c18 : k0_chk18 (W (cu L i).b) (W (cu L (i + 6)).b) (W (cu L (i + 6)).g) (W (cu L (i + 6)).c) (W (i % 6)) (W (lw L (cu L (i + 6)).b)) := chk18_W ab eb eg (lw_le hL.1 _) (fun _ => ie.2.2) m6
    rw [k0_part22_eq_skeleton]; unfold k0_part22_skel
    simp only [dif_pos h3, dif_pos h4, dif_pos h5, dif_neg h6, dif_neg h7, dif_pos h8, Prog.lift, Prog.bind_op, Prog.bind_ret, Prog.pure_eq_ret, Prog.bind_assoc]
    iintro ⟨HK, HV, HB, ⟨%W0, HW⟩⟩ Hk
    iapply (wp_assume Variants.nat c.tc bd Set.univ c24)
    iapply (wp_assume Variants.nat c.tc bd Set.univ c22)
    iapply (wp_assume Variants.nat c.tc bd Set.univ c20)
    iapply (wp_assume Variants.nat c.tc bd Set.univ c19)
    iapply (wp_assume Variants.nat c.tc bd Set.univ c17)
    iapply (wp_assume Variants.nat c.tc bd Set.univ c16)
    iapply (wp_assume Variants.nat c.tc bd Set.univ c15)
    iapply (wp_assume Variants.nat c.tc bd Set.univ c14)
    iapply (wp_assume Variants.nat c.tc bd Set.univ c13)
    iapply (wp_assume Variants.nat c.tc bd Set.univ c11)
    iapply (wp_assume Variants.nat c.tc bd Set.univ c10)
    iapply (wp_assume Variants.nat c.tc bd Set.univ c9)
    iapply (wp_assume Variants.nat c.tc bd Set.univ c7)
    iapply (lenB c bd a0 a1 a12 a13 a14 a15 a16 a17 a4 a8 a18 a7 hL (cu L i).b (offL ab)) $$ HB; iintro HB
    iapply (wp_assume Variants.nat c.tc bd Set.univ c8)
    icases (openK c L f5 i hk) $$ HK with ⟨HF, HR⟩
    iapply (waitK c bd (atK i) (cu L i).b (cu L i).g (cu L i).c (szOf (cu L i).c (lw L (cu L i).b)) _ (off1 (by omega)) _ _ (sz2 (lw_le hL.1 _) ia.2.2) f5 W0) $$ [HF HW]
    · isplitl [HF]; · iexact HF
      iexact HW
    iintro ⟨⟨HS, HH, %fK, %hfK, HM⟩, ⟨%W1, HW⟩⟩
    iapply (lenB c bd a0 a1 a12 a13 a14 a15 a16 a17 a4 a8 a18 a7 hL (cu L j).b (offL bb)) $$ HB; iintro HB
    iapply (wp_assume Variants.nat c.tc bd Set.univ c12)
    icases (openV c L f6 j ib.1) $$ HV with ⟨HF, HRV⟩
    iapply (waitV c bd (atV j) (cu L j).b (cu L j).g (cu L j).c (szOf (cu L j).c (lw L (cu L j).b)) _ (off1 (by omega)) _ _ (sz2 (lw_le hL.1 _) ib.2.2) f6 _) $$ [HF HW]
    · isplitl [HF]; · iexact HF
      iexact HW
    iintro ⟨⟨HSV, HHV, %fV, %hfV, HMV⟩, ⟨%W2, HW⟩⟩
    iapply (part2_wp c bd a0 p0 a1 p1 a12 p12 a13 p13 a14 p14 a15 p15 a16 p16 a17 p17 a4 p4 a8 p8 a18 p18 a7 p7 (W (cu L i).b) (W (cu L i).g) (W (cu L i).c) (W (cu L j).b) (W (cu L j).g) (W (cu L j).c) (W (cu L (i + 6)).b) (W (cu L (i + 6)).g) (W (cu L (i + 6)).c) (W (cu L (j + 8)).b) (W (cu L (j + 8)).g) (W (cu L (j + 8)).c) (W (i % 6)) (W (j % 8)) (W (i % 16)) (W (j % 16)) _ _ _ _ _ hL (min (cu L i).b 3) (offL ab) (atK i) (off3 (by omega)) fK) $$ [HB HM]
    · isplitl [HB]; · iexact HB
      iexact HM
    iintro %r2 %σ1 %e2 ⟨HB, HM⟩; obtain ⟨e2, s2⟩ := e2; subst e2
    iapply (part3_wp c bd a0 p0 a1 p1 a12 p12 a13 p13 a14 p14 a15 p15 a16 p16 a17 p17 a4 p4 a8 p8 a18 p18 a7 p7 (W (cu L i).b) (W (cu L i).g) (W (cu L i).c) (W (cu L j).b) (W (cu L j).g) (W (cu L j).c) (W (cu L (i + 6)).b) (W (cu L (i + 6)).g) (W (cu L (i + 6)).c) (W (cu L (j + 8)).b) (W (cu L (j + 8)).g) (W (cu L (j + 8)).c) (W (i % 6)) (W (j % 8)) (W (i % 16)) (W (j % 16)) _ _ _ _) $$ HB; iintro %r3 %σ2 %s3 HB
    iapply (part4_wp c bd a0 p0 a1 p1 a12 p12 a13 p13 a14 p14 a15 p15 a16 p16 a17 p17 a4 p4 a8 p8 a18 p18 a7 p7 (W (cu L i).b) (W (cu L i).g) (W (cu L i).c) (W (cu L j).b) (W (cu L j).g) (W (cu L j).c) (W (cu L (i + 6)).b) (W (cu L (i + 6)).g) (W (cu L (i + 6)).c) (W (cu L (j + 8)).b) (W (cu L (j + 8)).g) (W (cu L (j + 8)).c) (W (i % 6)) (W (j % 8)) (W (i % 16)) (W (j % 16)) _ _ _ σ2) $$ HB; iintro %r4 %e4 HB; subst e4
    iapply (part5_wp c bd a0 p0 a1 p1 a12 p12 a13 p13 a14 p14 a15 p15 a16 p16 a17 p17 a4 p4 a8 p8 a18 p18 a7 p7 (W (cu L i).b) (W (cu L i).g) (W (cu L i).c) (W (cu L j).b) (W (cu L j).g) (W (cu L j).c) (W (cu L (i + 6)).b) (W (cu L (i + 6)).g) (W (cu L (i + 6)).c) (W (cu L (j + 8)).b) (W (cu L (j + 8)).g) (W (cu L (j + 8)).c) (W (i % 6)) (W (j % 8)) (W (i % 16)) (W (j % 16)) _ _ (tM σ2 (W (cu L j).b) (W (cu L j).g)) σ2) $$ HB; iintro %r5 %e5 HB; subst e5
    iapply (part6_wp c bd a0 p0 a1 p1 a12 p12 a13 p13 a14 p14 a15 p15 a16 p16 a17 p17 a4 p4 a8 p8 a18 p18 a7 p7 (W (cu L i).b) (W (cu L i).g) (W (cu L i).c) (W (cu L j).b) (W (cu L j).g) (W (cu L j).c) (W (cu L (i + 6)).b) (W (cu L (i + 6)).g) (W (cu L (i + 6)).c) (W (cu L (j + 8)).b) (W (cu L (j + 8)).g) (W (cu L (j + 8)).c) (W (i % 6)) (W (j % 8)) (W (i % 16)) (W (j % 16)) _ _ (tM σ2 (W (cu L j).b) (W (cu L j).g)) σ2) $$ HB; iintro %r6 %e6 HB; subst e6
    iapply (part7_wp c bd a0 p0 a1 p1 a12 p12 a13 p13 a14 p14 a15 p15 a16 p16 a17 p17 a4 p4 a8 p8 a18 p18 a7 p7 (W (cu L i).b) (W (cu L i).g) (W (cu L i).c) (W (cu L j).b) (W (cu L j).g) (W (cu L j).c) (W (cu L (i + 6)).b) (W (cu L (i + 6)).g) (W (cu L (i + 6)).c) (W (cu L (j + 8)).b) (W (cu L (j + 8)).g) (W (cu L (j + 8)).c) (W (i % 6)) (W (j % 8)) (W (i % 16)) (W (j % 16)) _ _ (tM σ2 (W (cu L j).b) (W (cu L j).g)) σ2) $$ HB; iintro %r7 %e7 HB; subst e7
    iapply (part8_wp c bd a0 p0 a1 p1 a12 p12 a13 p13 a14 p14 a15 p15 a16 p16 a17 p17 a4 p4 a8 p8 a18 p18 a7 p7 (W (cu L i).b) (W (cu L i).g) (W (cu L i).c) (W (cu L j).b) (W (cu L j).g) (W (cu L j).c) (W (cu L (i + 6)).b) (W (cu L (i + 6)).g) (W (cu L (i + 6)).c) (W (cu L (j + 8)).b) (W (cu L (j + 8)).g) (W (cu L (j + 8)).c) (W (i % 6)) (W (j % 8)) (W (i % 16)) (W (j % 16)) _ _ (tM σ2 (W (cu L j).b) (W (cu L j).g)) σ2) $$ HB; iintro %r8 %e8 HB; subst e8
    iapply (part9_wp c bd a0 p0 a1 p1 a12 p12 a13 p13 a14 p14 a15 p15 a16 p16 a17 p17 a4 p4 a8 p8 a18 p18 a7 p7 (W (cu L i).b) (W (cu L i).g) (W (cu L i).c) (W (cu L j).b) (W (cu L j).g) (W (cu L j).c) (W (cu L (i + 6)).b) (W (cu L (i + 6)).g) (W (cu L (i + 6)).c) (W (cu L (j + 8)).b) (W (cu L (j + 8)).g) (W (cu L (j + 8)).c) (W (i % 6)) (W (j % 8)) (W (i % 16)) (W (j % 16)) _ _ (tM σ2 (W (cu L j).b) (W (cu L j).g)) σ2) $$ HB; iintro %r9 %e9 HB; subst e9
    iapply (part10_wp c bd a0 p0 a1 p1 a12 p12 a13 p13 a14 p14 a15 p15 a16 p16 a17 p17 a4 p4 a8 p8 a18 p18 a7 p7 (W (cu L i).b) (W (cu L i).g) (W (cu L i).c) (W (cu L j).b) (W (cu L j).g) (W (cu L j).c) (W (cu L (i + 6)).b) (W (cu L (i + 6)).g) (W (cu L (i + 6)).c) (W (cu L (j + 8)).b) (W (cu L (j + 8)).g) (W (cu L (j + 8)).c) (W (i % 6)) (W (j % 8)) (W (i % 16)) (W (j % 16)) _ _ (tM σ2 (W (cu L j).b) (W (cu L j).g)) σ2) $$ HB; iintro %r10 %e10 HB; subst e10
    iapply (part11_wp c bd a0 p0 a1 p1 a12 p12 a13 p13 a14 p14 a15 p15 a16 p16 a17 p17 a4 p4 a8 p8 a18 p18 a7 p7 (W (cu L i).b) (W (cu L i).g) (W (cu L i).c) (W (cu L j).b) (W (cu L j).g) (W (cu L j).c) (W (cu L (i + 6)).b) (W (cu L (i + 6)).g) (W (cu L (i + 6)).c) (W (cu L (j + 8)).b) (W (cu L (j + 8)).g) (W (cu L (j + 8)).c) (W (i % 6)) (W (j % 8)) (W (i % 16)) (W (j % 16)) _ _ _ (tM σ2 (W (cu L j).b) (W (cu L j).g)) σ2 (atV j) (off3 (by omega)) fV) $$ [HB HMV]
    · isplitl [HB]; · iexact HB
      iexact HMV
    iintro %r11 %σ3 %e11 ⟨HB, HMV⟩; obtain ⟨e11, s11⟩ := e11; subst e11
    iapply (ldB16 c bd a0 a1 a12 a13 a14 a15 a16 a17 a4 a8 a18 a7) $$ HB; iintro HB
    iapply (stB16 c bd a0 a1 a12 a13 a14 a15 a16 a17 a4 a8 a18 a7) $$ HB; iintro HB
    iapply (lenB c bd a0 a1 a12 a13 a14 a15 a16 a17 a4 a8 a18 a7 hL (cu L (i + 6)).b (offL eb)) $$ HB; iintro HB
    iapply (wp_assume Variants.nat c.tc bd Set.univ c18)
    iapply (issue_K8 c bd (i % 6) m6 (cu L (i + 6)).b (cu L (i + 6)).g (cu L (i + 6)).c (lw L (cu L (i + 6)).b) (lw_le hL.1 _) ie.2.2 ie.1 ie.2.1 _ _ _ _ _ f5) $$ [HS HH HM]
    · isplitl [HS]; · iexact HS
      isplitl [HH]; · iexact HH
      iexists _; iexact HM
    iintro HF
    iapply Hk
    isplitl [HF HR]
    · iapply (issueK_close c L f5 i hh)
      isplitl [HF]; · iexact HF
      iexact HR
    isplitl [HSV HHV HMV HRV]
    · isplitr [HRV]
      · isplitl [HSV]; · iexact HSV
        isplitl [HHV]; · iexact HHV
        iexists _; isplitr; · ipureintro; exact hfV
        iexact HMV
      iexact HRV
    isplitl [HB]
    · iexists _; isplitr [HB]; rotate_left
      · iexact HB
      · ipureintro; exact ⟨σ2, ⟨_, ⟨fK, hfK, rfl⟩, by rw [s3, s2]; rfl⟩, ⟨_, ⟨fV, hfV, rfl⟩, by rw [s11]; rfl⟩⟩
    iexists _; iexact HW
  · have h8 : ¬ k0_cond8 (W (cu L i).b) (W (cu L (i + 6)).b) = 1#1 := by rw [cond8_W ab eb, ofBool_one]; simp [hk, hh]
    rw [k0_part22_eq_skeleton]; unfold k0_part22_skel
    simp only [dif_pos h3, dif_pos h4, dif_pos h5, dif_neg h6, dif_neg h7, dif_neg h8, Prog.lift, Prog.bind_op, Prog.bind_ret, Prog.pure_eq_ret, Prog.bind_assoc]
    iintro ⟨HK, HV, HB, ⟨%W0, HW⟩⟩ Hk
    iapply (wp_assume Variants.nat c.tc bd Set.univ c24)
    iapply (wp_assume Variants.nat c.tc bd Set.univ c22)
    iapply (wp_assume Variants.nat c.tc bd Set.univ c20)
    iapply (wp_assume Variants.nat c.tc bd Set.univ c19)
    iapply (wp_assume Variants.nat c.tc bd Set.univ c17)
    iapply (wp_assume Variants.nat c.tc bd Set.univ c16)
    iapply (wp_assume Variants.nat c.tc bd Set.univ c15)
    iapply (wp_assume Variants.nat c.tc bd Set.univ c14)
    iapply (wp_assume Variants.nat c.tc bd Set.univ c13)
    iapply (wp_assume Variants.nat c.tc bd Set.univ c11)
    iapply (wp_assume Variants.nat c.tc bd Set.univ c10)
    iapply (wp_assume Variants.nat c.tc bd Set.univ c9)
    iapply (wp_assume Variants.nat c.tc bd Set.univ c7)
    iapply (lenB c bd a0 a1 a12 a13 a14 a15 a16 a17 a4 a8 a18 a7 hL (cu L i).b (offL ab)) $$ HB; iintro HB
    iapply (wp_assume Variants.nat c.tc bd Set.univ c8)
    icases (openK c L f5 i hk) $$ HK with ⟨HF, HR⟩
    iapply (waitK c bd (atK i) (cu L i).b (cu L i).g (cu L i).c (szOf (cu L i).c (lw L (cu L i).b)) _ (off1 (by omega)) _ _ (sz2 (lw_le hL.1 _) ia.2.2) f5 W0) $$ [HF HW]
    · isplitl [HF]; · iexact HF
      iexact HW
    iintro ⟨⟨HS, HH, %fK, %hfK, HM⟩, ⟨%W1, HW⟩⟩
    iapply (lenB c bd a0 a1 a12 a13 a14 a15 a16 a17 a4 a8 a18 a7 hL (cu L j).b (offL bb)) $$ HB; iintro HB
    iapply (wp_assume Variants.nat c.tc bd Set.univ c12)
    icases (openV c L f6 j ib.1) $$ HV with ⟨HF, HRV⟩
    iapply (waitV c bd (atV j) (cu L j).b (cu L j).g (cu L j).c (szOf (cu L j).c (lw L (cu L j).b)) _ (off1 (by omega)) _ _ (sz2 (lw_le hL.1 _) ib.2.2) f6 _) $$ [HF HW]
    · isplitl [HF]; · iexact HF
      iexact HW
    iintro ⟨⟨HSV, HHV, %fV, %hfV, HMV⟩, ⟨%W2, HW⟩⟩
    iapply (part2_wp c bd a0 p0 a1 p1 a12 p12 a13 p13 a14 p14 a15 p15 a16 p16 a17 p17 a4 p4 a8 p8 a18 p18 a7 p7 (W (cu L i).b) (W (cu L i).g) (W (cu L i).c) (W (cu L j).b) (W (cu L j).g) (W (cu L j).c) (W (cu L (i + 6)).b) (W (cu L (i + 6)).g) (W (cu L (i + 6)).c) (W (cu L (j + 8)).b) (W (cu L (j + 8)).g) (W (cu L (j + 8)).c) (W (i % 6)) (W (j % 8)) (W (i % 16)) (W (j % 16)) _ _ _ _ _ hL (min (cu L i).b 3) (offL ab) (atK i) (off3 (by omega)) fK) $$ [HB HM]
    · isplitl [HB]; · iexact HB
      iexact HM
    iintro %r2 %σ1 %e2 ⟨HB, HM⟩; obtain ⟨e2, s2⟩ := e2; subst e2
    iapply (part3_wp c bd a0 p0 a1 p1 a12 p12 a13 p13 a14 p14 a15 p15 a16 p16 a17 p17 a4 p4 a8 p8 a18 p18 a7 p7 (W (cu L i).b) (W (cu L i).g) (W (cu L i).c) (W (cu L j).b) (W (cu L j).g) (W (cu L j).c) (W (cu L (i + 6)).b) (W (cu L (i + 6)).g) (W (cu L (i + 6)).c) (W (cu L (j + 8)).b) (W (cu L (j + 8)).g) (W (cu L (j + 8)).c) (W (i % 6)) (W (j % 8)) (W (i % 16)) (W (j % 16)) _ _ _ _) $$ HB; iintro %r3 %σ2 %s3 HB
    iapply (part4_wp c bd a0 p0 a1 p1 a12 p12 a13 p13 a14 p14 a15 p15 a16 p16 a17 p17 a4 p4 a8 p8 a18 p18 a7 p7 (W (cu L i).b) (W (cu L i).g) (W (cu L i).c) (W (cu L j).b) (W (cu L j).g) (W (cu L j).c) (W (cu L (i + 6)).b) (W (cu L (i + 6)).g) (W (cu L (i + 6)).c) (W (cu L (j + 8)).b) (W (cu L (j + 8)).g) (W (cu L (j + 8)).c) (W (i % 6)) (W (j % 8)) (W (i % 16)) (W (j % 16)) _ _ _ σ2) $$ HB; iintro %r4 %e4 HB; subst e4
    iapply (part5_wp c bd a0 p0 a1 p1 a12 p12 a13 p13 a14 p14 a15 p15 a16 p16 a17 p17 a4 p4 a8 p8 a18 p18 a7 p7 (W (cu L i).b) (W (cu L i).g) (W (cu L i).c) (W (cu L j).b) (W (cu L j).g) (W (cu L j).c) (W (cu L (i + 6)).b) (W (cu L (i + 6)).g) (W (cu L (i + 6)).c) (W (cu L (j + 8)).b) (W (cu L (j + 8)).g) (W (cu L (j + 8)).c) (W (i % 6)) (W (j % 8)) (W (i % 16)) (W (j % 16)) _ _ (tM σ2 (W (cu L j).b) (W (cu L j).g)) σ2) $$ HB; iintro %r5 %e5 HB; subst e5
    iapply (part6_wp c bd a0 p0 a1 p1 a12 p12 a13 p13 a14 p14 a15 p15 a16 p16 a17 p17 a4 p4 a8 p8 a18 p18 a7 p7 (W (cu L i).b) (W (cu L i).g) (W (cu L i).c) (W (cu L j).b) (W (cu L j).g) (W (cu L j).c) (W (cu L (i + 6)).b) (W (cu L (i + 6)).g) (W (cu L (i + 6)).c) (W (cu L (j + 8)).b) (W (cu L (j + 8)).g) (W (cu L (j + 8)).c) (W (i % 6)) (W (j % 8)) (W (i % 16)) (W (j % 16)) _ _ (tM σ2 (W (cu L j).b) (W (cu L j).g)) σ2) $$ HB; iintro %r6 %e6 HB; subst e6
    iapply (part7_wp c bd a0 p0 a1 p1 a12 p12 a13 p13 a14 p14 a15 p15 a16 p16 a17 p17 a4 p4 a8 p8 a18 p18 a7 p7 (W (cu L i).b) (W (cu L i).g) (W (cu L i).c) (W (cu L j).b) (W (cu L j).g) (W (cu L j).c) (W (cu L (i + 6)).b) (W (cu L (i + 6)).g) (W (cu L (i + 6)).c) (W (cu L (j + 8)).b) (W (cu L (j + 8)).g) (W (cu L (j + 8)).c) (W (i % 6)) (W (j % 8)) (W (i % 16)) (W (j % 16)) _ _ (tM σ2 (W (cu L j).b) (W (cu L j).g)) σ2) $$ HB; iintro %r7 %e7 HB; subst e7
    iapply (part8_wp c bd a0 p0 a1 p1 a12 p12 a13 p13 a14 p14 a15 p15 a16 p16 a17 p17 a4 p4 a8 p8 a18 p18 a7 p7 (W (cu L i).b) (W (cu L i).g) (W (cu L i).c) (W (cu L j).b) (W (cu L j).g) (W (cu L j).c) (W (cu L (i + 6)).b) (W (cu L (i + 6)).g) (W (cu L (i + 6)).c) (W (cu L (j + 8)).b) (W (cu L (j + 8)).g) (W (cu L (j + 8)).c) (W (i % 6)) (W (j % 8)) (W (i % 16)) (W (j % 16)) _ _ (tM σ2 (W (cu L j).b) (W (cu L j).g)) σ2) $$ HB; iintro %r8 %e8 HB; subst e8
    iapply (part9_wp c bd a0 p0 a1 p1 a12 p12 a13 p13 a14 p14 a15 p15 a16 p16 a17 p17 a4 p4 a8 p8 a18 p18 a7 p7 (W (cu L i).b) (W (cu L i).g) (W (cu L i).c) (W (cu L j).b) (W (cu L j).g) (W (cu L j).c) (W (cu L (i + 6)).b) (W (cu L (i + 6)).g) (W (cu L (i + 6)).c) (W (cu L (j + 8)).b) (W (cu L (j + 8)).g) (W (cu L (j + 8)).c) (W (i % 6)) (W (j % 8)) (W (i % 16)) (W (j % 16)) _ _ (tM σ2 (W (cu L j).b) (W (cu L j).g)) σ2) $$ HB; iintro %r9 %e9 HB; subst e9
    iapply (part10_wp c bd a0 p0 a1 p1 a12 p12 a13 p13 a14 p14 a15 p15 a16 p16 a17 p17 a4 p4 a8 p8 a18 p18 a7 p7 (W (cu L i).b) (W (cu L i).g) (W (cu L i).c) (W (cu L j).b) (W (cu L j).g) (W (cu L j).c) (W (cu L (i + 6)).b) (W (cu L (i + 6)).g) (W (cu L (i + 6)).c) (W (cu L (j + 8)).b) (W (cu L (j + 8)).g) (W (cu L (j + 8)).c) (W (i % 6)) (W (j % 8)) (W (i % 16)) (W (j % 16)) _ _ (tM σ2 (W (cu L j).b) (W (cu L j).g)) σ2) $$ HB; iintro %r10 %e10 HB; subst e10
    iapply (part11_wp c bd a0 p0 a1 p1 a12 p12 a13 p13 a14 p14 a15 p15 a16 p16 a17 p17 a4 p4 a8 p8 a18 p18 a7 p7 (W (cu L i).b) (W (cu L i).g) (W (cu L i).c) (W (cu L j).b) (W (cu L j).g) (W (cu L j).c) (W (cu L (i + 6)).b) (W (cu L (i + 6)).g) (W (cu L (i + 6)).c) (W (cu L (j + 8)).b) (W (cu L (j + 8)).g) (W (cu L (j + 8)).c) (W (i % 6)) (W (j % 8)) (W (i % 16)) (W (j % 16)) _ _ _ (tM σ2 (W (cu L j).b) (W (cu L j).g)) σ2 (atV j) (off3 (by omega)) fV) $$ [HB HMV]
    · isplitl [HB]; · iexact HB
      iexact HMV
    iintro %r11 %σ3 %e11 ⟨HB, HMV⟩; obtain ⟨e11, s11⟩ := e11; subst e11
    iapply (ldB16 c bd a0 a1 a12 a13 a14 a15 a16 a17 a4 a8 a18 a7) $$ HB; iintro HB
    iapply (stB16 c bd a0 a1 a12 a13 a14 a15 a16 a17 a4 a8 a18 a7) $$ HB; iintro HB
    iapply Hk
    isplitl [HS HH HM HR]
    · iapply (skipK_close c L f5 i hh)
      isplitr [HR]
      · isplitl [HS]; · iexact HS
        isplitl [HH]; · iexact HH
        iexists _; iexact HM
      iexact HR
    isplitl [HSV HHV HMV HRV]
    · isplitr [HRV]
      · isplitl [HSV]; · iexact HSV
        isplitl [HHV]; · iexact HHV
        iexists _; isplitr; · ipureintro; exact hfV
        iexact HMV
      iexact HRV
    isplitl [HB]
    · iexists _; isplitr [HB]; rotate_left
      · iexact HB
      · ipureintro; exact ⟨σ2, ⟨_, ⟨fK, hfK, rfl⟩, by rw [s3, s2]; rfl⟩, ⟨_, ⟨fV, hfV, rfl⟩, by rw [s11]; rfl⟩⟩
    iexists _; iexact HW

end Cert.KernelIdeal.Hand
-- ==== Proof.KI.StepB.lean ====
module

public import proofs.«01_k».proof.Proof.KI.Issue
public import proofs.«01_k».proof.Proof.KI.FragB
public import proofs.«01_k».proof.Proof.KI.FragC
public import Idealize.ShloMosaic.Lib.Pipeline.FrameBody
public import Idealize.ShloMosaic.Lib.Pipeline.DatRel
public import Idealize.ShloMosaic.Lib.Ring
public import Idealize.ShloMosaic.Lib.Tactic
public import Idealize.ShloMosaic.Lib.WordCmp

@[expose] public section

set_option maxRecDepth 16384

/-!
The first half of a trip: the waits, the arithmetic, the next K transfer.
-/

noncomputable section

namespace Cert.KernelIdeal.Hand

open Cert.KernelIdeal Cert.KernelIdeal.Gen Cert.Words
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

attribute [local irreducible] cur

variable (c : Dev nD) (bd : Option Variants.nat.V) (a0 : Memref sig .tc .smem S4 .i32) (p0 : a0.IsWhole) (a1 : Memref sig .tc .vmem S24x8x160 .bf16) (p1 : a1.IsWhole) (a12 : Memref sig .tc .vmem S16x8x4096 .f32) (p12 : a12.IsWhole) (a13 : Memref sig .tc .vmem S8x128 .f32) (p13 : a13.IsWhole) (a14 : Memref sig .tc .vmem S24x8x128 .f32) (p14 : a14.IsWhole) (a15 : Memref sig .tc .vmem S8x128 .f32) (p15 : a15.IsWhole) (a16 : Memref sig .tc .vmem S8x160 .f32) (p16 : a16.IsWhole) (a17 : Memref sig .tc .vmem S6x4x160 .f32) (p17 : a17.IsWhole) (a4 : Memref sig .tc .vmem S6x4x160 .f32) (p4 : a4.IsWhole) (a8 : Memref sig .tc .vmem S24x8x160 .f32) (p8 : a8.IsWhole) (a18 : Memref sig .tc .vmem S6x4x160 .f32) (p18 : a18.IsWhole) (a7 : Memref sig .tc .vmem S24x8x160 .bf16) (p7 : a7.IsWhole)
variable {f0 : Buf (Elt F) (a0.view.loc (c : Thread nD τ))} {f1 : Buf (Elt F) (a1.view.loc (c : Thread nD τ))} {f4 : Buf (Elt F) (a4.view.loc (c : Thread nD τ))}

variable {L : ℕ → ℕ} {i j : ℕ} {σ : St F}

theorem part22_B {α : Type} (hL : LensOk a0 c f0 L) (hj : j < total (nL L)) (hk : (cu L i).b < 4) (hv : ¬ doV (nL L) i j)
    (f5 : Buf (Elt F) (hbmK c)) (f6 : Buf (Elt F) (hbmV c))
    {kk} {Q : α → sProp 𝕄} :
    iprop(RingK c L f5 (stK L i) ∗ RingV c L f6 (stV L j) ∗ Bufs c a0 a1 a4 a12 a13 a14 a15 a16 a17 a18 a8 a7 f0 f1 f4 σ ∗ (∃ W0, owes c 0 W0)) ⊢ iprop((∀ (h24 : k0_chk24 (W (cu L j).b)) (h20 : k0_chk20 (W (cu L i).b) (W (cu L i).g) (W (cu L j).b) (W (cu L j).g) (W (cu L (j + 8)).b)) (h17 : k0_chk17 (W (cu L i).b) (W (cu L (i + 6)).b)) (h14 : k0_chk14 (W (cu L i).b) (W (cu L i).g) (W (cu L j).b) (W (cu L j).g) (W (cu L (j + 8)).b) (W (j % 8))) (h7 : k0_chk7 (W (cu L i).b)) (v60 x0 : BitVec 32), iprop(RingK c L f5 (stK L (i + 1)) ∗ RingV c L f6 (stV L j) ∗ (∃ σ' : St F, ⌜nxK c f5 (a1.view.read (Elt F) f1) L i σ σ'⌝ ∗ Bufs c a0 a1 a4 a12 a13 a14 a15 a16 a17 a18 a8 a7 f0 f1 f4 σ') ∗ (∃ W0, owes c 0 W0)) -∗
        wp frame (wpE (defs₀ (F := F)) Variants.nat c.tc bd) Set.univ (kk ⟨h24, h20, h17, h14, h7, Scalar.cmpi .slt (W (cu L i).b) 4#32,
          Scalar.cmpi .sgt (Scalar.addi (Scalar.muli (W (cu L i).b) 6#32) (W (cu L i).g)) (Scalar.addi (Scalar.muli (W (cu L j).b) 6#32) (W (cu L j).g)), v60, x0⟩) Q)
      -∗ wp frame (wpE (defs₀ (F := F)) Variants.nat c.tc bd) Set.univ (k0_part22 (F := F) a0 p0 cc0_scratch9 (Memref.whole cc0_scratch0) (isW _) (Memref.whole main_v2) (isW _) cc0_scratch10 (Memref.whole cc0_scratch1) (isW _) (Memref.whole main_v4) (isW _) a1 p1 a12 p12 a13 p13 a14 p14 a15 p15 a16 p16 a17 p17 a4 p4 a8 p8 a18 p18 a7 p7 (W (cu L i).b) (W (cu L i).g) (W (cu L i).c) (W (cu L j).b) (W (cu L j).g) (W (cu L j).c) (W (cu L (i + 6)).b) (W (cu L (i + 6)).g) (W (cu L (i + 6)).c) (W (cu L (j + 8)).b) (W (cu L (j + 8)).g) (W (cu L (j + 8)).c) (W (i % 6)) (W (j % 8)) (W (i % 16)) (W (j % 16)) >>= kk) Q) := by
  have hn := nL_ok hL.1
  have hn1 := fun b => (hn b).1
  obtain ⟨ab, ag, ac⟩ := cur_bounds hn i
  obtain ⟨bb, bg, bc⟩ := cur_bounds hn j
  obtain ⟨eb, eg, ec⟩ := cur_bounds hn (i + 6)
  obtain ⟨pb, pg, pc⟩ := cur_bounds hn (j + 8)
  have m6 : i % 6 < 6 := Nat.mod_lt _ (by decide)
  have m8 : j % 8 < 8 := Nat.mod_lt _ (by decide)
  have m16 : i % 16 < 16 := Nat.mod_lt _ (by decide)
  have m16' : j % 16 < 16 := Nat.mod_lt _ (by decide)
  have ib := cur_in hn1 hj
  have hv' : ¬ (cu L j).b * 6 + (cu L j).g < (cu L i).b * 6 + (cu L i).g := hv
  have h3 : k0_cond3 (W (cu L i).b) = 1#1 := by rw [cond3_W ab, ofBool_one]; simp [hk, hv']
  have h4 : ¬ k0_cond4 (W (cu L i).b) (W (cu L i).g) (W (cu L j).b) (W (cu L j).g) = 1#1 := by rw [cond4_W ab ag bb bg, ofBool_one]; simp [hk, hv']
  have h5 : ¬ k0_cond5 (W (cu L i).b) (W (cu L i).g) (W (cu L j).b) (W (cu L j).g) = 1#1 := by rw [cond5_W ab ag bb bg, ofBool_one]; simp [hk, hv']
  have h6 : k0_cond6 (W (cu L i).b) (W (cu L i).g) (W (cu L j).b) (W (cu L j).g) = 1#1 := by rw [cond6_W ab ag bb bg, ofBool_one]; simp [hk, hv']
  have h7 : ¬ k0_cond7 (W (cu L i).b) = 1#1 := by rw [cond7_W ab, ofBool_one]; simp [hk, hv']
  have c24 : k0_chk24 (W (cu L j).b) := chk24_W bb
  have c22 : k0_chk22 (W (cu L i).b) (W (cu L i).g) (W (cu L j).b) (W (cu L j).g) (W (cu L (j + 8)).b) (W (cu L (j + 8)).c) := chk22_W pc
  have c20 : k0_chk20 (W (cu L i).b) (W (cu L i).g) (W (cu L j).b) (W (cu L j).g) (W (cu L (j + 8)).b) := chk20_W pb
  have c19 : k0_chk19 (W (cu L i).b) (W (cu L (i + 6)).b) (W (cu L (i + 6)).c) := chk19_W ec
  have c17 : k0_chk17 (W (cu L i).b) (W (cu L (i + 6)).b) := chk17_W eb
  have c16 : k0_chk16 (W (cu L i).b) (W (cu L i).g) (W (cu L j).b) (W (cu L j).g) (W (j % 16)) := chk16_W m16'
  have c15 : k0_chk15 (W (cu L i).b) (W (cu L i).g) (W (cu L j).b) (W (cu L j).g) (W (i % 16)) := chk15_W m16
  have c14 : k0_chk14 (W (cu L i).b) (W (cu L i).g) (W (cu L j).b) (W (cu L j).g) (W (cu L (j + 8)).b) (W (j % 8)) := chk14_W m8
  have c13 : k0_chk13 (W (cu L i).b) (W (cu L i).g) (W (cu L j).b) (W (cu L j).g) (W (cu L j).c) := chk13_W bc
  have c11 : k0_chk11 (W (cu L i).b) (W (cu L i).g) (W (cu L j).b) (W (cu L j).g) := chk11_W ab ag bb bg (fun _ => ib.1) (fun _ => ib.1)
  have c10 : k0_chk10 (W (cu L i).b) (W (cu L i).g) (W (cu L j).b) (W (cu L j).g) (W (cu L (i + 6)).b) (W (i % 6)) := chk10_W m6
  have c9 : k0_chk9 (W (cu L i).b) (W (cu L i).c) := chk9_W ac
  have c7 : k0_chk7 (W (cu L i).b) := chk7_W ab
  have ia := cur_in hn1 ((cur_lt_iff hn1 i).1 hk)
  have c8 : k0_chk8 (W (cu L i).b) (W (cu L i).g) (W (cu L i).c) (W (i % 6)) (W (lw L (cu L i).b)) := chk8_W ag ab (lw_le hL.1 _) (fun _ => ia.2.2)
  by_cases hh : (cu L (i + 6)).b < 4
  · have h8 : k0_cond8 (W (cu L i).b) (W (cu L (i + 6)).b) = 1#1 := by rw [cond8_W ab eb, ofBool_one]; simp [hk, hh]
    have ie := cur_in hn1 ((cur_lt_iff hn1 _).1 hh)
    have c18 : k0_chk18 (W (cu L i).b) (W (cu L (i + 6)).b) (W (cu L (i + 6)).g) (W (cu L (i + 6)).c) (W (i % 6)) (W (lw L (cu L (i + 6)).b)) := chk18_W ab eb eg (lw_le hL.1 _) (fun _ => ie.2.2) m6
    rw [k0_part22_eq_skeleton]; unfold k0_part22_skel
    simp only [dif_pos h3, dif_neg h4, dif_neg h5, dif_pos h6, dif_neg h7, dif_pos h8, Prog.lift, Prog.bind_op, Prog.bind_ret, Prog.pure_eq_ret, Prog.bind_assoc]
    iintro ⟨HK, HV, HB, ⟨%W0, HW⟩⟩ Hk
    iapply (wp_assume Variants.nat c.tc bd Set.univ c24)
    iapply (wp_assume Variants.nat c.tc bd Set.univ c22)
    iapply (wp_assume Variants.nat c.tc bd Set.univ c20)
    iapply (wp_assume Variants.nat c.tc bd Set.univ c19)
    iapply (wp_assume Variants.nat c.tc bd Set.univ c17)
    iapply (wp_assume Variants.nat c.tc bd Set.univ c16)
    iapply (wp_assume Variants.nat c.tc bd Set.univ c15)
    iapply (wp_assume Variants.nat c.tc bd Set.univ c14)
    iapply (wp_assume Variants.nat c.tc bd Set.univ c13)
    iapply (wp_assume Variants.nat c.tc bd Set.univ c11)
    iapply (wp_assume Variants.nat c.tc bd Set.univ c10)
    iapply (wp_assume Variants.nat c.tc bd Set.univ c9)
    iapply (wp_assume Variants.nat c.tc bd Set.univ c7)
    iapply (lenB c bd a0 a1 a12 a13 a14 a15 a16 a17 a4 a8 a18 a7 hL (cu L i).b (offL ab)) $$ HB; iintro HB
    iapply (wp_assume Variants.nat c.tc bd Set.univ c8)
    icases (openK c L f5 i hk) $$ HK with ⟨HF, HR⟩
    iapply (waitK c bd (atK i) (cu L i).b (cu L i).g (cu L i).c (szOf (cu L i).c (lw L (cu L i).b)) _ (off1 (by omega)) _ _ (sz2 (lw_le hL.1 _) ia.2.2) f5 W0) $$ [HF HW]
    · isplitl [HF]; · iexact HF
      iexact HW
    iintro ⟨⟨HS, HH, %fK, %hfK, HM⟩, ⟨%W1, HW⟩⟩
    iapply (part12_wp c bd a0 p0 a1 p1 a12 p12 a13 p13 a14 p14 a15 p15 a16 p16 a17 p17 a4 p4 a8 p8 a18 p18 a7 p7 (W (cu L i).b) (W (cu L i).g) (W (cu L i).c) (W (cu L j).b) (W (cu L j).g) (W (cu L j).c) (W (cu L (i + 6)).b) (W (cu L (i + 6)).g) (W (cu L (i + 6)).c) (W (cu L (j + 8)).b) (W (cu L (j + 8)).g) (W (cu L (j + 8)).c) (W (i % 6)) (W (j % 8)) (W (i % 16)) (W (j % 16)) _ _ _ _ _ hL (min (cu L i).b 3) (offL ab) (atK i) (off3 (by omega)) fK) $$ [HB HM]
    · isplitl [HB]; · iexact HB
      iexact HM
    iintro %r12 %σ1 %e12 ⟨HB, HM⟩; obtain ⟨e12, s12⟩ := e12; subst e12
    iapply (ldB13 c bd a0 a1 a12 a13 a14 a15 a16 a17 a4 a8 a18 a7) $$ HB; iintro HB
    iapply (ldB13 c bd a0 a1 a12 a13 a14 a15 a16 a17 a4 a8 a18 a7) $$ HB; iintro HB
    iapply (stB13 c bd a0 a1 a12 a13 a14 a15 a16 a17 a4 a8 a18 a7) $$ HB; iintro HB
    iapply (lenB c bd a0 a1 a12 a13 a14 a15 a16 a17 a4 a8 a18 a7 hL (cu L (i + 6)).b (offL eb)) $$ HB; iintro HB
    iapply (wp_assume Variants.nat c.tc bd Set.univ c18)
    iapply (issue_K8 c bd (i % 6) m6 (cu L (i + 6)).b (cu L (i + 6)).g (cu L (i + 6)).c (lw L (cu L (i + 6)).b) (lw_le hL.1 _) ie.2.2 ie.1 ie.2.1 _ _ _ _ _ f5) $$ [HS HH HM]
    · isplitl [HS]; · iexact HS
      isplitl [HH]; · iexact HH
      iexists _; iexact HM
    iintro HF
    iapply Hk
    isplitl [HF HR]
    · iapply (issueK_close c L f5 i hh)
      isplitl [HF]; · iexact HF
      iexact HR
    isplitl [HV]; · iexact HV
    isplitl [HB]
    · iexists _; isplitr [HB]; rotate_left
      · iexact HB
      · ipureintro; exact ⟨_, ⟨fK, hfK, rfl⟩, by rw [s12]; rfl⟩
    iexists _; iexact HW
  · have h8 : ¬ k0_cond8 (W (cu L i).b) (W (cu L (i + 6)).b) = 1#1 := by rw [cond8_W ab eb, ofBool_one]; simp [hk, hh]
    rw [k0_part22_eq_skeleton]; unfold k0_part22_skel
    simp only [dif_pos h3, dif_neg h4, dif_neg h5, dif_pos h6, dif_neg h7, dif_neg h8, Prog.lift, Prog.bind_op, Prog.bind_ret, Prog.pure_eq_ret, Prog.bind_assoc]
    iintro ⟨HK, HV, HB, ⟨%W0, HW⟩⟩ Hk
    iapply (wp_assume Variants.nat c.tc bd Set.univ c24)
    iapply (wp_assume Variants.nat c.tc bd Set.univ c22)
    iapply (wp_assume Variants.nat c.tc bd Set.univ c20)
    iapply (wp_assume Variants.nat c.tc bd Set.univ c19)
    iapply (wp_assume Variants.nat c.tc bd Set.univ c17)
    iapply (wp_assume Variants.nat c.tc bd Set.univ c16)
    iapply (wp_assume Variants.nat c.tc bd Set.univ c15)
    iapply (wp_assume Variants.nat c.tc bd Set.univ c14)
    iapply (wp_assume Variants.nat c.tc bd Set.univ c13)
    iapply (wp_assume Variants.nat c.tc bd Set.univ c11)
    iapply (wp_assume Variants.nat c.tc bd Set.univ c10)
    iapply (wp_assume Variants.nat c.tc bd Set.univ c9)
    iapply (wp_assume Variants.nat c.tc bd Set.univ c7)
    iapply (lenB c bd a0 a1 a12 a13 a14 a15 a16 a17 a4 a8 a18 a7 hL (cu L i).b (offL ab)) $$ HB; iintro HB
    iapply (wp_assume Variants.nat c.tc bd Set.univ c8)
    icases (openK c L f5 i hk) $$ HK with ⟨HF, HR⟩
    iapply (waitK c bd (atK i) (cu L i).b (cu L i).g (cu L i).c (szOf (cu L i).c (lw L (cu L i).b)) _ (off1 (by omega)) _ _ (sz2 (lw_le hL.1 _) ia.2.2) f5 W0) $$ [HF HW]
    · isplitl [HF]; · iexact HF
      iexact HW
    iintro ⟨⟨HS, HH, %fK, %hfK, HM⟩, ⟨%W1, HW⟩⟩
    iapply (part12_wp c bd a0 p0 a1 p1 a12 p12 a13 p13 a14 p14 a15 p15 a16 p16 a17 p17 a4 p4 a8 p8 a18 p18 a7 p7 (W (cu L i).b) (W (cu L i).g) (W (cu L i).c) (W (cu L j).b) (W (cu L j).g) (W (cu L j).c) (W (cu L (i + 6)).b) (W (cu L (i + 6)).g) (W (cu L (i + 6)).c) (W (cu L (j + 8)).b) (W (cu L (j + 8)).g) (W (cu L (j + 8)).c) (W (i % 6)) (W (j % 8)) (W (i % 16)) (W (j % 16)) _ _ _ _ _ hL (min (cu L i).b 3) (offL ab) (atK i) (off3 (by omega)) fK) $$ [HB HM]
    · isplitl [HB]; · iexact HB
      iexact HM
    iintro %r12 %σ1 %e12 ⟨HB, HM⟩; obtain ⟨e12, s12⟩ := e12; subst e12
    iapply (ldB13 c bd a0 a1 a12 a13 a14 a15 a16 a17 a4 a8 a18 a7) $$ HB; iintro HB
    iapply (ldB13 c bd a0 a1 a12 a13 a14 a15 a16 a17 a4 a8 a18 a7) $$ HB; iintro HB
    iapply (stB13 c bd a0 a1 a12 a13 a14 a15 a16 a17 a4 a8 a18 a7) $$ HB; iintro HB
    iapply Hk
    isplitl [HS HH HM HR]
    · iapply (skipK_close c L f5 i hh)
      isplitr [HR]
      · isplitl [HS]; · iexact HS
        isplitl [HH]; · iexact HH
        iexists _; iexact HM
      iexact HR
    isplitl [HV]; · iexact HV
    isplitl [HB]
    · iexists _; isplitr [HB]; rotate_left
      · iexact HB
      · ipureintro; exact ⟨_, ⟨fK, hfK, rfl⟩, by rw [s12]; rfl⟩
    iexists _; iexact HW

end Cert.KernelIdeal.Hand
-- ==== Proof.KI.StepC.lean ====
module

public import proofs.«01_k».proof.Proof.KI.Issue
public import proofs.«01_k».proof.Proof.KI.FragB
public import proofs.«01_k».proof.Proof.KI.FragC
public import Idealize.ShloMosaic.Lib.Pipeline.FrameBody
public import Idealize.ShloMosaic.Lib.Pipeline.DatRel
public import Idealize.ShloMosaic.Lib.Ring
public import Idealize.ShloMosaic.Lib.Tactic
public import Idealize.ShloMosaic.Lib.WordCmp

@[expose] public section

set_option maxRecDepth 16384

/-!
The first half of a trip: the waits, the arithmetic, the next K transfer.
-/

noncomputable section

namespace Cert.KernelIdeal.Hand

open Cert.KernelIdeal Cert.KernelIdeal.Gen Cert.Words
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

attribute [local irreducible] cur

variable (c : Dev nD) (bd : Option Variants.nat.V) (a0 : Memref sig .tc .smem S4 .i32) (p0 : a0.IsWhole) (a1 : Memref sig .tc .vmem S24x8x160 .bf16) (p1 : a1.IsWhole) (a12 : Memref sig .tc .vmem S16x8x4096 .f32) (p12 : a12.IsWhole) (a13 : Memref sig .tc .vmem S8x128 .f32) (p13 : a13.IsWhole) (a14 : Memref sig .tc .vmem S24x8x128 .f32) (p14 : a14.IsWhole) (a15 : Memref sig .tc .vmem S8x128 .f32) (p15 : a15.IsWhole) (a16 : Memref sig .tc .vmem S8x160 .f32) (p16 : a16.IsWhole) (a17 : Memref sig .tc .vmem S6x4x160 .f32) (p17 : a17.IsWhole) (a4 : Memref sig .tc .vmem S6x4x160 .f32) (p4 : a4.IsWhole) (a8 : Memref sig .tc .vmem S24x8x160 .f32) (p8 : a8.IsWhole) (a18 : Memref sig .tc .vmem S6x4x160 .f32) (p18 : a18.IsWhole) (a7 : Memref sig .tc .vmem S24x8x160 .bf16) (p7 : a7.IsWhole)
variable {f0 : Buf (Elt F) (a0.view.loc (c : Thread nD τ))} {f1 : Buf (Elt F) (a1.view.loc (c : Thread nD τ))} {f4 : Buf (Elt F) (a4.view.loc (c : Thread nD τ))}

variable {L : ℕ → ℕ} {i j : ℕ} {σ : St F}

theorem part22_C {α : Type} (hL : LensOk a0 c f0 L) (hj : j < total (nL L)) (hk : ¬ (cu L i).b < 4) (hv : doV (nL L) i j)
    (f5 : Buf (Elt F) (hbmK c)) (f6 : Buf (Elt F) (hbmV c))
    {kk} {Q : α → sProp 𝕄} :
    iprop(RingK c L f5 (stK L i) ∗ RingV c L f6 (stV L j) ∗ Bufs c a0 a1 a4 a12 a13 a14 a15 a16 a17 a18 a8 a7 f0 f1 f4 σ ∗ (∃ W0, owes c 0 W0)) ⊢ iprop((∀ (h24 : k0_chk24 (W (cu L j).b)) (h20 : k0_chk20 (W (cu L i).b) (W (cu L i).g) (W (cu L j).b) (W (cu L j).g) (W (cu L (j + 8)).b)) (h17 : k0_chk17 (W (cu L i).b) (W (cu L (i + 6)).b)) (h14 : k0_chk14 (W (cu L i).b) (W (cu L i).g) (W (cu L j).b) (W (cu L j).g) (W (cu L (j + 8)).b) (W (j % 8))) (h7 : k0_chk7 (W (cu L i).b)) (v60 x0 : BitVec 32), iprop(RingK c L f5 (stK L i) ∗ (gotV c f6 (atV j) (cu L j).b (cu L j).g (cu L j).c (szOf (cu L j).c (lw L (cu L j).b)) ∗ RestV c L f6 (stV L j) (atV j)) ∗ (∃ σ' : St F, ⌜nxV c f6 L j σ σ'⌝ ∗ Bufs c a0 a1 a4 a12 a13 a14 a15 a16 a17 a18 a8 a7 f0 f1 f4 σ') ∗ (∃ W0, owes c 0 W0)) -∗
        wp frame (wpE (defs₀ (F := F)) Variants.nat c.tc bd) Set.univ (kk ⟨h24, h20, h17, h14, h7, Scalar.cmpi .slt (W (cu L i).b) 4#32,
          Scalar.cmpi .sgt (Scalar.addi (Scalar.muli (W (cu L i).b) 6#32) (W (cu L i).g)) (Scalar.addi (Scalar.muli (W (cu L j).b) 6#32) (W (cu L j).g)), v60, x0⟩) Q)
      -∗ wp frame (wpE (defs₀ (F := F)) Variants.nat c.tc bd) Set.univ (k0_part22 (F := F) a0 p0 cc0_scratch9 (Memref.whole cc0_scratch0) (isW _) (Memref.whole main_v2) (isW _) cc0_scratch10 (Memref.whole cc0_scratch1) (isW _) (Memref.whole main_v4) (isW _) a1 p1 a12 p12 a13 p13 a14 p14 a15 p15 a16 p16 a17 p17 a4 p4 a8 p8 a18 p18 a7 p7 (W (cu L i).b) (W (cu L i).g) (W (cu L i).c) (W (cu L j).b) (W (cu L j).g) (W (cu L j).c) (W (cu L (i + 6)).b) (W (cu L (i + 6)).g) (W (cu L (i + 6)).c) (W (cu L (j + 8)).b) (W (cu L (j + 8)).g) (W (cu L (j + 8)).c) (W (i % 6)) (W (j % 8)) (W (i % 16)) (W (j % 16)) >>= kk) Q) := by
  have hn := nL_ok hL.1
  have hn1 := fun b => (hn b).1
  obtain ⟨ab, ag, ac⟩ := cur_bounds hn i
  obtain ⟨bb, bg, bc⟩ := cur_bounds hn j
  obtain ⟨eb, eg, ec⟩ := cur_bounds hn (i + 6)
  obtain ⟨pb, pg, pc⟩ := cur_bounds hn (j + 8)
  have m6 : i % 6 < 6 := Nat.mod_lt _ (by decide)
  have m8 : j % 8 < 8 := Nat.mod_lt _ (by decide)
  have m16 : i % 16 < 16 := Nat.mod_lt _ (by decide)
  have m16' : j % 16 < 16 := Nat.mod_lt _ (by decide)
  have ib := cur_in hn1 hj
  have hv' : (cu L j).b * 6 + (cu L j).g < (cu L i).b * 6 + (cu L i).g := hv
  have h3 : ¬ k0_cond3 (W (cu L i).b) = 1#1 := by rw [cond3_W ab, ofBool_one]; simp [hk, hv']
  have h4 : k0_cond4 (W (cu L i).b) (W (cu L i).g) (W (cu L j).b) (W (cu L j).g) = 1#1 := by rw [cond4_W ab ag bb bg, ofBool_one]; simp [hk, hv']
  have h5 : ¬ k0_cond5 (W (cu L i).b) (W (cu L i).g) (W (cu L j).b) (W (cu L j).g) = 1#1 := by rw [cond5_W ab ag bb bg, ofBool_one]; simp [hk, hv']
  have h6 : ¬ k0_cond6 (W (cu L i).b) (W (cu L i).g) (W (cu L j).b) (W (cu L j).g) = 1#1 := by rw [cond6_W ab ag bb bg, ofBool_one]; simp [hk, hv']
  have h7 : k0_cond7 (W (cu L i).b) = 1#1 := by rw [cond7_W ab, ofBool_one]; simp [hk, hv']
  have c24 : k0_chk24 (W (cu L j).b) := chk24_W bb
  have c22 : k0_chk22 (W (cu L i).b) (W (cu L i).g) (W (cu L j).b) (W (cu L j).g) (W (cu L (j + 8)).b) (W (cu L (j + 8)).c) := chk22_W pc
  have c20 : k0_chk20 (W (cu L i).b) (W (cu L i).g) (W (cu L j).b) (W (cu L j).g) (W (cu L (j + 8)).b) := chk20_W pb
  have c19 : k0_chk19 (W (cu L i).b) (W (cu L (i + 6)).b) (W (cu L (i + 6)).c) := chk19_W ec
  have c17 : k0_chk17 (W (cu L i).b) (W (cu L (i + 6)).b) := chk17_W eb
  have c16 : k0_chk16 (W (cu L i).b) (W (cu L i).g) (W (cu L j).b) (W (cu L j).g) (W (j % 16)) := chk16_W m16'
  have c15 : k0_chk15 (W (cu L i).b) (W (cu L i).g) (W (cu L j).b) (W (cu L j).g) (W (i % 16)) := chk15_W m16
  have c14 : k0_chk14 (W (cu L i).b) (W (cu L i).g) (W (cu L j).b) (W (cu L j).g) (W (cu L (j + 8)).b) (W (j % 8)) := chk14_W m8
  have c13 : k0_chk13 (W (cu L i).b) (W (cu L i).g) (W (cu L j).b) (W (cu L j).g) (W (cu L j).c) := chk13_W bc
  have c11 : k0_chk11 (W (cu L i).b) (W (cu L i).g) (W (cu L j).b) (W (cu L j).g) := chk11_W ab ag bb bg (fun _ => ib.1) (fun _ => ib.1)
  have c10 : k0_chk10 (W (cu L i).b) (W (cu L i).g) (W (cu L j).b) (W (cu L j).g) (W (cu L (i + 6)).b) (W (i % 6)) := chk10_W m6
  have c9 : k0_chk9 (W (cu L i).b) (W (cu L i).c) := chk9_W ac
  have c7 : k0_chk7 (W (cu L i).b) := chk7_W ab
  have c12 : k0_chk12 (W (cu L i).b) (W (cu L i).g) (W (cu L j).b) (W (cu L j).g) (W (cu L j).c) (W (j % 8)) (W (lw L (cu L j).b)) := chk12_W (lw_le hL.1 _) (fun _ => ib.2.2)
  have h8 : ¬ k0_cond8 (W (cu L i).b) (W (cu L (i + 6)).b) = 1#1 := by rw [cond8_W ab eb, ofBool_one]; simp [hk]
  rw [k0_part22_eq_skeleton]; unfold k0_part22_skel
  simp only [dif_neg h3, dif_pos h4, dif_neg h5, dif_neg h6, dif_pos h7, dif_neg h8, Prog.lift, Prog.bind_op, Prog.bind_ret, Prog.pure_eq_ret, Prog.bind_assoc]
  iintro ⟨HK, HV, HB, ⟨%W0, HW⟩⟩ Hk
  iapply (wp_assume Variants.nat c.tc bd Set.univ c24)
  iapply (wp_assume Variants.nat c.tc bd Set.univ c22)
  iapply (wp_assume Variants.nat c.tc bd Set.univ c20)
  iapply (wp_assume Variants.nat c.tc bd Set.univ c19)
  iapply (wp_assume Variants.nat c.tc bd Set.univ c17)
  iapply (wp_assume Variants.nat c.tc bd Set.univ c16)
  iapply (wp_assume Variants.nat c.tc bd Set.univ c15)
  iapply (wp_assume Variants.nat c.tc bd Set.univ c14)
  iapply (wp_assume Variants.nat c.tc bd Set.univ c13)
  iapply (wp_assume Variants.nat c.tc bd Set.univ c11)
  iapply (wp_assume Variants.nat c.tc bd Set.univ c10)
  iapply (wp_assume Variants.nat c.tc bd Set.univ c9)
  iapply (wp_assume Variants.nat c.tc bd Set.univ c7)
  iapply (lenB c bd a0 a1 a12 a13 a14 a15 a16 a17 a4 a8 a18 a7 hL (cu L j).b (offL bb)) $$ HB; iintro HB
  iapply (wp_assume Variants.nat c.tc bd Set.univ c12)
  icases (openV c L f6 j ib.1) $$ HV with ⟨HF, HRV⟩
  iapply (waitV c bd (atV j) (cu L j).b (cu L j).g (cu L j).c (szOf (cu L j).c (lw L (cu L j).b)) _ (off1 (by omega)) _ _ (sz2 (lw_le hL.1 _) ib.2.2) f6 _) $$ [HF HW]
  · isplitl [HF]; · iexact HF
    iexact HW
  iintro ⟨⟨HSV, HHV, %fV, %hfV, HMV⟩, ⟨%W2, HW⟩⟩
  iapply (part13_wp c bd a0 p0 a1 p1 a12 p12 a13 p13 a14 p14 a15 p15 a16 p16 a17 p17 a4 p4 a8 p8 a18 p18 a7 p7 (W (cu L i).b) (W (cu L i).g) (W (cu L i).c) (W (cu L j).b) (W (cu L j).g) (W (cu L j).c) (W (cu L (i + 6)).b) (W (cu L (i + 6)).g) (W (cu L (i + 6)).c) (W (cu L (j + 8)).b) (W (cu L (j + 8)).g) (W (cu L (j + 8)).c) (W (i % 6)) (W (j % 8)) (W (i % 16)) (W (j % 16)) _ _ _ σ) $$ HB; iintro %r13 %e13 HB; subst e13
  iapply (part14_wp c bd a0 p0 a1 p1 a12 p12 a13 p13 a14 p14 a15 p15 a16 p16 a17 p17 a4 p4 a8 p8 a18 p18 a7 p7 (W (cu L i).b) (W (cu L i).g) (W (cu L i).c) (W (cu L j).b) (W (cu L j).g) (W (cu L j).c) (W (cu L (i + 6)).b) (W (cu L (i + 6)).g) (W (cu L (i + 6)).c) (W (cu L (j + 8)).b) (W (cu L (j + 8)).g) (W (cu L (j + 8)).c) (W (i % 6)) (W (j % 8)) (W (i % 16)) (W (j % 16)) _ _ (tM σ (W (cu L j).b) (W (cu L j).g)) σ) $$ HB; iintro %r14 %e14 HB; subst e14
  iapply (part15_wp c bd a0 p0 a1 p1 a12 p12 a13 p13 a14 p14 a15 p15 a16 p16 a17 p17 a4 p4 a8 p8 a18 p18 a7 p7 (W (cu L i).b) (W (cu L i).g) (W (cu L i).c) (W (cu L j).b) (W (cu L j).g) (W (cu L j).c) (W (cu L (i + 6)).b) (W (cu L (i + 6)).g) (W (cu L (i + 6)).c) (W (cu L (j + 8)).b) (W (cu L (j + 8)).g) (W (cu L (j + 8)).c) (W (i % 6)) (W (j % 8)) (W (i % 16)) (W (j % 16)) _ _ (tM σ (W (cu L j).b) (W (cu L j).g)) σ) $$ HB; iintro %r15 %e15 HB; subst e15
  iapply (part16_wp c bd a0 p0 a1 p1 a12 p12 a13 p13 a14 p14 a15 p15 a16 p16 a17 p17 a4 p4 a8 p8 a18 p18 a7 p7 (W (cu L i).b) (W (cu L i).g) (W (cu L i).c) (W (cu L j).b) (W (cu L j).g) (W (cu L j).c) (W (cu L (i + 6)).b) (W (cu L (i + 6)).g) (W (cu L (i + 6)).c) (W (cu L (j + 8)).b) (W (cu L (j + 8)).g) (W (cu L (j + 8)).c) (W (i % 6)) (W (j % 8)) (W (i % 16)) (W (j % 16)) _ _ (tM σ (W (cu L j).b) (W (cu L j).g)) σ) $$ HB; iintro %r16 %e16 HB; subst e16
  iapply (part17_wp c bd a0 p0 a1 p1 a12 p12 a13 p13 a14 p14 a15 p15 a16 p16 a17 p17 a4 p4 a8 p8 a18 p18 a7 p7 (W (cu L i).b) (W (cu L i).g) (W (cu L i).c) (W (cu L j).b) (W (cu L j).g) (W (cu L j).c) (W (cu L (i + 6)).b) (W (cu L (i + 6)).g) (W (cu L (i + 6)).c) (W (cu L (j + 8)).b) (W (cu L (j + 8)).g) (W (cu L (j + 8)).c) (W (i % 6)) (W (j % 8)) (W (i % 16)) (W (j % 16)) _ _ (tM σ (W (cu L j).b) (W (cu L j).g)) σ) $$ HB; iintro %r17 %e17 HB; subst e17
  iapply (part18_wp c bd a0 p0 a1 p1 a12 p12 a13 p13 a14 p14 a15 p15 a16 p16 a17 p17 a4 p4 a8 p8 a18 p18 a7 p7 (W (cu L i).b) (W (cu L i).g) (W (cu L i).c) (W (cu L j).b) (W (cu L j).g) (W (cu L j).c) (W (cu L (i + 6)).b) (W (cu L (i + 6)).g) (W (cu L (i + 6)).c) (W (cu L (j + 8)).b) (W (cu L (j + 8)).g) (W (cu L (j + 8)).c) (W (i % 6)) (W (j % 8)) (W (i % 16)) (W (j % 16)) _ _ (tM σ (W (cu L j).b) (W (cu L j).g)) σ) $$ HB; iintro %r18 %e18 HB; subst e18
  iapply (part19_wp c bd a0 p0 a1 p1 a12 p12 a13 p13 a14 p14 a15 p15 a16 p16 a17 p17 a4 p4 a8 p8 a18 p18 a7 p7 (W (cu L i).b) (W (cu L i).g) (W (cu L i).c) (W (cu L j).b) (W (cu L j).g) (W (cu L j).c) (W (cu L (i + 6)).b) (W (cu L (i + 6)).g) (W (cu L (i + 6)).c) (W (cu L (j + 8)).b) (W (cu L (j + 8)).g) (W (cu L (j + 8)).c) (W (i % 6)) (W (j % 8)) (W (i % 16)) (W (j % 16)) _ _ (tM σ (W (cu L j).b) (W (cu L j).g)) σ) $$ HB; iintro %r19 %e19 HB; subst e19
  iapply (part20_wp c bd a0 p0 a1 p1 a12 p12 a13 p13 a14 p14 a15 p15 a16 p16 a17 p17 a4 p4 a8 p8 a18 p18 a7 p7 (W (cu L i).b) (W (cu L i).g) (W (cu L i).c) (W (cu L j).b) (W (cu L j).g) (W (cu L j).c) (W (cu L (i + 6)).b) (W (cu L (i + 6)).g) (W (cu L (i + 6)).c) (W (cu L (j + 8)).b) (W (cu L (j + 8)).g) (W (cu L (j + 8)).c) (W (i % 6)) (W (j % 8)) (W (i % 16)) (W (j % 16)) _ _ _ (tM σ (W (cu L j).b) (W (cu L j).g)) σ (atV j) (off3 (by omega)) fV) $$ [HB HMV]
  · isplitl [HB]; · iexact HB
    iexact HMV
  iintro %r20 %σ3 %e20 ⟨HB, HMV⟩; obtain ⟨e20, s20⟩ := e20; subst e20
  iapply (ldB16 c bd a0 a1 a12 a13 a14 a15 a16 a17 a4 a8 a18 a7) $$ HB; iintro HB
  iapply (ldB16 c bd a0 a1 a12 a13 a14 a15 a16 a17 a4 a8 a18 a7) $$ HB; iintro HB
  iapply (stB16 c bd a0 a1 a12 a13 a14 a15 a16 a17 a4 a8 a18 a7) $$ HB; iintro HB
  iapply Hk
  isplitl [HK]; · iexact HK
  isplitl [HSV HHV HMV HRV]
  · isplitr [HRV]
    · isplitl [HSV]; · iexact HSV
      isplitl [HHV]; · iexact HHV
      iexists _; isplitr; · ipureintro; exact hfV
      iexact HMV
    iexact HRV
  isplitl [HB]
  · iexists _; isplitr [HB]; rotate_left
    · iexact HB
    · ipureintro; exact ⟨_, ⟨fV, hfV, rfl⟩, by rw [s20]; rfl⟩
  iexists _; iexact HW

end Cert.KernelIdeal.Hand
-- ==== Proof.KI.Mid.lean ====
module

public import proofs.«01_k».proof.Proof.KI.Issue
public import Idealize.ShloMosaic.Lib.Pipeline.FrameBody
public import Idealize.ShloMosaic.Lib.Pipeline.DatRel
public import Idealize.ShloMosaic.Lib.Ring
public import Idealize.ShloMosaic.Lib.Tactic
public import Idealize.ShloMosaic.Lib.WordCmp

@[expose] public section

set_option maxRecDepth 16384

/-!
The middle of a trip: the next V transfer and the end of a pair of keys.
-/

noncomputable section

namespace Cert.KernelIdeal.Hand

open Cert.KernelIdeal Cert.KernelIdeal.Gen Cert.Words
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

attribute [local irreducible] cur

variable (c : Dev nD) (bd : Option Variants.nat.V) (a0 : Memref sig .tc .smem S4 .i32) (p0 : a0.IsWhole) (a1 : Memref sig .tc .vmem S24x8x160 .bf16) (p1 : a1.IsWhole) (a12 : Memref sig .tc .vmem S16x8x4096 .f32) (p12 : a12.IsWhole) (a13 : Memref sig .tc .vmem S8x128 .f32) (p13 : a13.IsWhole) (a14 : Memref sig .tc .vmem S24x8x128 .f32) (p14 : a14.IsWhole) (a15 : Memref sig .tc .vmem S8x128 .f32) (p15 : a15.IsWhole) (a16 : Memref sig .tc .vmem S8x160 .f32) (p16 : a16.IsWhole) (a17 : Memref sig .tc .vmem S6x4x160 .f32) (p17 : a17.IsWhole) (a4 : Memref sig .tc .vmem S6x4x160 .f32) (p4 : a4.IsWhole) (a8 : Memref sig .tc .vmem S24x8x160 .f32) (p8 : a8.IsWhole) (a18 : Memref sig .tc .vmem S6x4x160 .f32) (p18 : a18.IsWhole) (a7 : Memref sig .tc .vmem S24x8x160 .bf16) (p7 : a7.IsWhole)
variable {f0 : Buf (Elt F) (a0.view.loc (c : Thread nD τ))} {f1 : Buf (Elt F) (a1.view.loc (c : Thread nD τ))} {f4 : Buf (Elt F) (a4.view.loc (c : Thread nD τ))}

variable {L : ℕ → ℕ} {i j : ℕ} {σ : St F}

theorem part23_V {α : Type} (hL : LensOk a0 c f0 L) (hj : j < total (nL L)) (hv : doV (nL L) i j) (f6 : Buf (Elt F) (hbmV c))
    (k0_hw24 : k0_chk24 (W (cu L j).b)) (k0_hw20 : k0_chk20 (W (cu L i).b) (W (cu L i).g) (W (cu L j).b) (W (cu L j).g) (W (cu L (j + 8)).b)) (k0_hw14 : k0_chk14 (W (cu L i).b) (W (cu L i).g) (W (cu L j).b) (W (cu L j).g) (W (cu L (j + 8)).b) (W (j % 8))) (k0_hw7 : k0_chk7 (W (cu L i).b)) (v34 : BitVec 1) (v60 x0 : BitVec 32)
    {kk} {Q : α → sProp 𝕄} :
    ((gotV c f6 (atV j) (cu L j).b (cu L j).g (cu L j).c (szOf (cu L j).c (lw L (cu L j).b)) ∗ RestV c L f6 (stV L j) (atV j)) ∗ Bufs c a0 a1 a4 a12 a13 a14 a15 a16 a17 a18 a8 a7 f0 f1 f4 σ) ⊢ iprop((∀ r, ⌜r.2.1 = W (lw L (cu L j).b)⌝ -∗ (RingV c L f6 (stV L (j + 1)) ∗ Bufs c a0 a1 a4 a12 a13 a14 a15 a16 a17 a18 a8 a7 f0 f1 f4 (nxM (a1.view.read (Elt F) f1) L i σ)) -∗ wp frame (wpE (defs₀ (F := F)) Variants.nat c.tc bd) Set.univ (kk r) Q)
      -∗ wp frame (wpE (defs₀ (F := F)) Variants.nat c.tc bd) Set.univ (k0_part23 (F := F) a0 p0 cc0_scratch9 (Memref.whole cc0_scratch0) (isW _) (Memref.whole main_v2) (isW _) cc0_scratch10 (Memref.whole cc0_scratch1) (isW _) (Memref.whole main_v4) (isW _) a1 p1 a12 p12 a13 p13 a14 p14 a15 p15 a16 p16 a17 p17 a4 p4 a8 p8 a18 p18 a7 p7 (W (cu L i).b) (W (cu L i).g) (W (cu L i).c) (W (cu L j).b) (W (cu L j).g) (W (cu L j).c) (W (cu L (i + 6)).b) (W (cu L (i + 6)).g) (W (cu L (i + 6)).c) (W (cu L (j + 8)).b) (W (cu L (j + 8)).g) (W (cu L (j + 8)).c) (W (i % 6)) (W (j % 8)) (W (i % 16)) (W (j % 16)) k0_hw24 k0_hw20 k0_hw14 k0_hw7 v34 v60 x0 >>= kk) Q) := by
  have hn := nL_ok hL.1
  have hn1 := fun b => (hn b).1
  obtain ⟨ab, ag, ac⟩ := cur_bounds hn i
  obtain ⟨bb, bg, bc⟩ := cur_bounds hn j
  obtain ⟨eb, eg, ec⟩ := cur_bounds hn (i + 6)
  obtain ⟨pb, pg, pc⟩ := cur_bounds hn (j + 8)
  have m6 : i % 6 < 6 := Nat.mod_lt _ (by decide)
  have m8 : j % 8 < 8 := Nat.mod_lt _ (by decide)
  have m16 : i % 16 < 16 := Nat.mod_lt _ (by decide)
  have m16' : j % 16 < 16 := Nat.mod_lt _ (by decide)
  have ib := cur_in hn1 hj
  have hv' : (cu L j).b * 6 + (cu L j).g < (cu L i).b * 6 + (cu L i).g := hv
  have c23 : k0_chk23 (W (cu L i).b) (W (cu L i).g) (W (cu L i).c) (W (lw L (cu L i).b)) := chk23_W ab ag ac (lw_le hL.1 _)
  have c25 : k0_chk25 (W (cu L i).b) (W (cu L i).g) (W (cu L j).b) (W (cu L j).g) (W (cu L j).c) (W (lw L (cu L j).b)) := chk25_W bg (fun _ => ib.1)
  rw [k0_part23_eq_skeleton]; unfold k0_part23_skel
  by_cases h10 : k0_cond10 (W (cu L i).b) (W (cu L i).c) (W (lw L (cu L i).b)) = 1#1
  · by_cases hh : (cu L (j + 8)).b < 4
    · have h9 : k0_cond9 (W (cu L i).b) (W (cu L i).g) (W (cu L j).b) (W (cu L j).g) (W (cu L (j + 8)).b) = 1#1 := by rw [cond9_W ab ag bb bg pb, ofBool_one]; simp [hv', hh]
      have ip := cur_in hn1 ((cur_lt_iff hn1 _).1 hh)
      have c21 : k0_chk21 (W (cu L i).b) (W (cu L i).g) (W (cu L j).b) (W (cu L j).g) (W (cu L (j + 8)).b) (W (cu L (j + 8)).g) (W (cu L (j + 8)).c) (W (j % 8)) (W (lw L (cu L (j + 8)).b)) := chk21_W ab ag bb bg pb pg (lw_le hL.1 _) (fun _ => ip.2.2) m8
      rw [show nxM (a1.view.read (Elt F) f1) L i σ = opM σ (a1.view.read (Elt F) f1) (W (cu L i).b) (W (cu L i).g) from if_pos h10]
      simp only [dif_pos h9, dif_pos h10, Prog.lift, Prog.bind_op, Prog.bind_ret, Prog.pure_eq_ret, Prog.bind_assoc]
      iintro ⟨⟨⟨HSV, HHV, %fV, %hfV, HMV⟩, HRV⟩, HB⟩ Hk
      iapply (lenB c bd a0 a1 a12 a13 a14 a15 a16 a17 a4 a8 a18 a7 hL (cu L (j + 8)).b (offL pb)) $$ HB; iintro HB
      iapply (wp_assume Variants.nat c.tc bd Set.univ c21)
      iapply (issue_V9 c bd (j % 8) m8 (cu L (j + 8)).b (cu L (j + 8)).g (cu L (j + 8)).c (lw L (cu L (j + 8)).b) (lw_le hL.1 _) ip.2.2 ip.1 ip.2.1 _ _ _ _ _ f6) $$ [HSV HHV HMV]
      · isplitl [HSV]; · iexact HSV
        isplitl [HHV]; · iexact HHV
        iexists _; iexact HMV
      iintro HF
      iapply (lenB c bd a0 a1 a12 a13 a14 a15 a16 a17 a4 a8 a18 a7 hL (cu L i).b (offL ab)) $$ HB; iintro HB
      iapply (wp_assume Variants.nat c.tc bd Set.univ c23)
      rw [dif_pos h10]
      simp only [Prog.bind_op, Prog.bind_ret, Prog.bind_assoc]
      iapply (ldB13 c bd a0 a1 a12 a13 a14 a15 a16 a17 a4 a8 a18 a7) $$ HB; iintro HB
      iapply (ldB1 c bd a0 a1 a12 a13 a14 a15 a16 a17 a4 a8 a18 a7) $$ HB; iintro HB
      iapply (ldB17 c bd a0 a1 a12 a13 a14 a15 a16 a17 a4 a8 a18 a7) $$ HB; iintro HB
      iapply (ldB14 c bd a0 a1 a12 a13 a14 a15 a16 a17 a4 a8 a18 a7) $$ HB; iintro HB
      iapply (stB14 c bd a0 a1 a12 a13 a14 a15 a16 a17 a4 a8 a18 a7) $$ HB; iintro HB
      iapply (lenB c bd a0 a1 a12 a13 a14 a15 a16 a17 a4 a8 a18 a7 hL (cu L j).b (offL bb)) $$ HB; iintro HB
      iapply (wp_assume Variants.nat c.tc bd Set.univ c25)
      iapply Hk $$ %_ []
      · ipureintro; rfl
      isplitr [HB]
      · iapply (issueV_close c L f6 j hh)
        isplitl [HF]; · iexact HF
        iexact HRV
      iexact HB
    · have h9 : ¬ k0_cond9 (W (cu L i).b) (W (cu L i).g) (W (cu L j).b) (W (cu L j).g) (W (cu L (j + 8)).b) = 1#1 := by rw [cond9_W ab ag bb bg pb, ofBool_one]; simp [hv', hh]
      rw [show nxM (a1.view.read (Elt F) f1) L i σ = opM σ (a1.view.read (Elt F) f1) (W (cu L i).b) (W (cu L i).g) from if_pos h10]
      simp only [dif_neg h9, dif_pos h10, Prog.lift, Prog.bind_op, Prog.bind_ret, Prog.pure_eq_ret, Prog.bind_assoc]
      iintro ⟨⟨⟨HSV, HHV, %fV, %hfV, HMV⟩, HRV⟩, HB⟩ Hk
      iapply (lenB c bd a0 a1 a12 a13 a14 a15 a16 a17 a4 a8 a18 a7 hL (cu L i).b (offL ab)) $$ HB; iintro HB
      iapply (wp_assume Variants.nat c.tc bd Set.univ c23)
      rw [dif_pos h10]
      simp only [Prog.bind_op, Prog.bind_ret, Prog.bind_assoc]
      iapply (ldB13 c bd a0 a1 a12 a13 a14 a15 a16 a17 a4 a8 a18 a7) $$ HB; iintro HB
      iapply (ldB1 c bd a0 a1 a12 a13 a14 a15 a16 a17 a4 a8 a18 a7) $$ HB; iintro HB
      iapply (ldB17 c bd a0 a1 a12 a13 a14 a15 a16 a17 a4 a8 a18 a7) $$ HB; iintro HB
      iapply (ldB14 c bd a0 a1 a12 a13 a14 a15 a16 a17 a4 a8 a18 a7) $$ HB; iintro HB
      iapply (stB14 c bd a0 a1 a12 a13 a14 a15 a16 a17 a4 a8 a18 a7) $$ HB; iintro HB
      iapply (lenB c bd a0 a1 a12 a13 a14 a15 a16 a17 a4 a8 a18 a7 hL (cu L j).b (offL bb)) $$ HB; iintro HB
      iapply (wp_assume Variants.nat c.tc bd Set.univ c25)
      iapply Hk $$ %_ []
      · ipureintro; rfl
      isplitr [HB]
      · iapply (skipV_close c L f6 j hh)
        isplitr [HRV]
        · isplitl [HSV]; · iexact HSV
          isplitl [HHV]; · iexact HHV
          iexists _; iexact HMV
        iexact HRV
      iexact HB
  · by_cases hh : (cu L (j + 8)).b < 4
    · have h9 : k0_cond9 (W (cu L i).b) (W (cu L i).g) (W (cu L j).b) (W (cu L j).g) (W (cu L (j + 8)).b) = 1#1 := by rw [cond9_W ab ag bb bg pb, ofBool_one]; simp [hv', hh]
      have ip := cur_in hn1 ((cur_lt_iff hn1 _).1 hh)
      have c21 : k0_chk21 (W (cu L i).b) (W (cu L i).g) (W (cu L j).b) (W (cu L j).g) (W (cu L (j + 8)).b) (W (cu L (j + 8)).g) (W (cu L (j + 8)).c) (W (j % 8)) (W (lw L (cu L (j + 8)).b)) := chk21_W ab ag bb bg pb pg (lw_le hL.1 _) (fun _ => ip.2.2) m8
      rw [show nxM (a1.view.read (Elt F) f1) L i σ = σ from if_neg h10]
      simp only [dif_pos h9, dif_neg h10, Prog.lift, Prog.bind_op, Prog.bind_ret, Prog.pure_eq_ret, Prog.bind_assoc]
      iintro ⟨⟨⟨HSV, HHV, %fV, %hfV, HMV⟩, HRV⟩, HB⟩ Hk
      iapply (lenB c bd a0 a1 a12 a13 a14 a15 a16 a17 a4 a8 a18 a7 hL (cu L (j + 8)).b (offL pb)) $$ HB; iintro HB
      iapply (wp_assume Variants.nat c.tc bd Set.univ c21)
      iapply (issue_V9 c bd (j % 8) m8 (cu L (j + 8)).b (cu L (j + 8)).g (cu L (j + 8)).c (lw L (cu L (j + 8)).b) (lw_le hL.1 _) ip.2.2 ip.1 ip.2.1 _ _ _ _ _ f6) $$ [HSV HHV HMV]
      · isplitl [HSV]; · iexact HSV
        isplitl [HHV]; · iexact HHV
        iexists _; iexact HMV
      iintro HF
      iapply (lenB c bd a0 a1 a12 a13 a14 a15 a16 a17 a4 a8 a18 a7 hL (cu L i).b (offL ab)) $$ HB; iintro HB
      iapply (wp_assume Variants.nat c.tc bd Set.univ c23)
      rw [dif_neg h10]
      simp only [Prog.bind_op, Prog.bind_ret, Prog.bind_assoc]
      iapply (lenB c bd a0 a1 a12 a13 a14 a15 a16 a17 a4 a8 a18 a7 hL (cu L j).b (offL bb)) $$ HB; iintro HB
      iapply (wp_assume Variants.nat c.tc bd Set.univ c25)
      iapply Hk $$ %_ []
      · ipureintro; rfl
      isplitr [HB]
      · iapply (issueV_close c L f6 j hh)
        isplitl [HF]; · iexact HF
        iexact HRV
      iexact HB
    · have h9 : ¬ k0_cond9 (W (cu L i).b) (W (cu L i).g) (W (cu L j).b) (W (cu L j).g) (W (cu L (j + 8)).b) = 1#1 := by rw [cond9_W ab ag bb bg pb, ofBool_one]; simp [hv', hh]
      rw [show nxM (a1.view.read (Elt F) f1) L i σ = σ from if_neg h10]
      simp only [dif_neg h9, dif_neg h10, Prog.lift, Prog.bind_op, Prog.bind_ret, Prog.pure_eq_ret, Prog.bind_assoc]
      iintro ⟨⟨⟨HSV, HHV, %fV, %hfV, HMV⟩, HRV⟩, HB⟩ Hk
      iapply (lenB c bd a0 a1 a12 a13 a14 a15 a16 a17 a4 a8 a18 a7 hL (cu L i).b (offL ab)) $$ HB; iintro HB
      iapply (wp_assume Variants.nat c.tc bd Set.univ c23)
      rw [dif_neg h10]
      simp only [Prog.bind_op, Prog.bind_ret, Prog.bind_assoc]
      iapply (lenB c bd a0 a1 a12 a13 a14 a15 a16 a17 a4 a8 a18 a7 hL (cu L j).b (offL bb)) $$ HB; iintro HB
      iapply (wp_assume Variants.nat c.tc bd Set.univ c25)
      iapply Hk $$ %_ []
      · ipureintro; rfl
      isplitr [HB]
      · iapply (skipV_close c L f6 j hh)
        isplitr [HRV]
        · isplitl [HSV]; · iexact HSV
          isplitl [HHV]; · iexact HHV
          iexists _; iexact HMV
        iexact HRV
      iexact HB

theorem part23_N {α : Type} (hL : LensOk a0 c f0 L) (hj : j < total (nL L)) (hv : ¬ doV (nL L) i j) (f6 : Buf (Elt F) (hbmV c))
    (k0_hw24 : k0_chk24 (W (cu L j).b)) (k0_hw20 : k0_chk20 (W (cu L i).b) (W (cu L i).g) (W (cu L j).b) (W (cu L j).g) (W (cu L (j + 8)).b)) (k0_hw14 : k0_chk14 (W (cu L i).b) (W (cu L i).g) (W (cu L j).b) (W (cu L j).g) (W (cu L (j + 8)).b) (W (j % 8))) (k0_hw7 : k0_chk7 (W (cu L i).b)) (v34 : BitVec 1) (v60 x0 : BitVec 32)
    {kk} {Q : α → sProp 𝕄} :
    Bufs c a0 a1 a4 a12 a13 a14 a15 a16 a17 a18 a8 a7 f0 f1 f4 σ ⊢ iprop((∀ r, ⌜r.2.1 = W (lw L (cu L j).b)⌝ -∗ Bufs c a0 a1 a4 a12 a13 a14 a15 a16 a17 a18 a8 a7 f0 f1 f4 (nxM (a1.view.read (Elt F) f1) L i σ) -∗ wp frame (wpE (defs₀ (F := F)) Variants.nat c.tc bd) Set.univ (kk r) Q)
      -∗ wp frame (wpE (defs₀ (F := F)) Variants.nat c.tc bd) Set.univ (k0_part23 (F := F) a0 p0 cc0_scratch9 (Memref.whole cc0_scratch0) (isW _) (Memref.whole main_v2) (isW _) cc0_scratch10 (Memref.whole cc0_scratch1) (isW _) (Memref.whole main_v4) (isW _) a1 p1 a12 p12 a13 p13 a14 p14 a15 p15 a16 p16 a17 p17 a4 p4 a8 p8 a18 p18 a7 p7 (W (cu L i).b) (W (cu L i).g) (W (cu L i).c) (W (cu L j).b) (W (cu L j).g) (W (cu L j).c) (W (cu L (i + 6)).b) (W (cu L (i + 6)).g) (W (cu L (i + 6)).c) (W (cu L (j + 8)).b) (W (cu L (j + 8)).g) (W (cu L (j + 8)).c) (W (i % 6)) (W (j % 8)) (W (i % 16)) (W (j % 16)) k0_hw24 k0_hw20 k0_hw14 k0_hw7 v34 v60 x0 >>= kk) Q) := by
  have hn := nL_ok hL.1
  have hn1 := fun b => (hn b).1
  obtain ⟨ab, ag, ac⟩ := cur_bounds hn i
  obtain ⟨bb, bg, bc⟩ := cur_bounds hn j
  obtain ⟨eb, eg, ec⟩ := cur_bounds hn (i + 6)
  obtain ⟨pb, pg, pc⟩ := cur_bounds hn (j + 8)
  have m6 : i % 6 < 6 := Nat.mod_lt _ (by decide)
  have m8 : j % 8 < 8 := Nat.mod_lt _ (by decide)
  have m16 : i % 16 < 16 := Nat.mod_lt _ (by decide)
  have m16' : j % 16 < 16 := Nat.mod_lt _ (by decide)
  have ib := cur_in hn1 hj
  have hv' : ¬ (cu L j).b * 6 + (cu L j).g < (cu L i).b * 6 + (cu L i).g := hv
  have c23 : k0_chk23 (W (cu L i).b) (W (cu L i).g) (W (cu L i).c) (W (lw L (cu L i).b)) := chk23_W ab ag ac (lw_le hL.1 _)
  have c25 : k0_chk25 (W (cu L i).b) (W (cu L i).g) (W (cu L j).b) (W (cu L j).g) (W (cu L j).c) (W (lw L (cu L j).b)) := chk25_W bg (fun _ => ib.1)
  rw [k0_part23_eq_skeleton]; unfold k0_part23_skel
  have h9 : ¬ k0_cond9 (W (cu L i).b) (W (cu L i).g) (W (cu L j).b) (W (cu L j).g) (W (cu L (j + 8)).b) = 1#1 := by rw [cond9_W ab ag bb bg pb, ofBool_one]; simp [hv']
  by_cases h10 : k0_cond10 (W (cu L i).b) (W (cu L i).c) (W (lw L (cu L i).b)) = 1#1
  · rw [show nxM (a1.view.read (Elt F) f1) L i σ = opM σ (a1.view.read (Elt F) f1) (W (cu L i).b) (W (cu L i).g) from if_pos h10]
    simp only [dif_neg h9, dif_pos h10, Prog.lift, Prog.bind_op, Prog.bind_ret, Prog.pure_eq_ret, Prog.bind_assoc]
    iintro HB Hk
    iapply (lenB c bd a0 a1 a12 a13 a14 a15 a16 a17 a4 a8 a18 a7 hL (cu L i).b (offL ab)) $$ HB; iintro HB
    iapply (wp_assume Variants.nat c.tc bd Set.univ c23)
    rw [dif_pos h10]
    simp only [Prog.bind_op, Prog.bind_ret, Prog.bind_assoc]
    iapply (ldB13 c bd a0 a1 a12 a13 a14 a15 a16 a17 a4 a8 a18 a7) $$ HB; iintro HB
    iapply (ldB1 c bd a0 a1 a12 a13 a14 a15 a16 a17 a4 a8 a18 a7) $$ HB; iintro HB
    iapply (ldB17 c bd a0 a1 a12 a13 a14 a15 a16 a17 a4 a8 a18 a7) $$ HB; iintro HB
    iapply (ldB14 c bd a0 a1 a12 a13 a14 a15 a16 a17 a4 a8 a18 a7) $$ HB; iintro HB
    iapply (stB14 c bd a0 a1 a12 a13 a14 a15 a16 a17 a4 a8 a18 a7) $$ HB; iintro HB
    iapply (lenB c bd a0 a1 a12 a13 a14 a15 a16 a17 a4 a8 a18 a7 hL (cu L j).b (offL bb)) $$ HB; iintro HB
    iapply (wp_assume Variants.nat c.tc bd Set.univ c25)
    iapply Hk $$ %_ []
    · ipureintro; rfl
    iexact HB
  · rw [show nxM (a1.view.read (Elt F) f1) L i σ = σ from if_neg h10]
    simp only [dif_neg h9, dif_neg h10, Prog.lift, Prog.bind_op, Prog.bind_ret, Prog.pure_eq_ret, Prog.bind_assoc]
    iintro HB Hk
    iapply (lenB c bd a0 a1 a12 a13 a14 a15 a16 a17 a4 a8 a18 a7 hL (cu L i).b (offL ab)) $$ HB; iintro HB
    iapply (wp_assume Variants.nat c.tc bd Set.univ c23)
    rw [dif_neg h10]
    simp only [Prog.bind_op, Prog.bind_ret, Prog.bind_assoc]
    iapply (lenB c bd a0 a1 a12 a13 a14 a15 a16 a17 a4 a8 a18 a7 hL (cu L j).b (offL bb)) $$ HB; iintro HB
    iapply (wp_assume Variants.nat c.tc bd Set.univ c25)
    iapply Hk $$ %_ []
    · ipureintro; rfl
    iexact HB

end Cert.KernelIdeal.Hand
-- ==== Proof.KI.Tail.lean ====
module

public import proofs.«01_k».proof.Proof.KI.Acc
public import proofs.«01_k».proof.Proof.KI.FragC
public import Idealize.ShloMosaic.Lib.Pipeline.FrameBody
public import Idealize.ShloMosaic.Lib.Pipeline.DatRel
public import Idealize.ShloMosaic.Lib.Ring
public import Idealize.ShloMosaic.Lib.Tactic
public import Idealize.ShloMosaic.Lib.WordCmp

@[expose] public section

set_option maxRecDepth 16384

/-!
The end of a trip: the finished pair and the advanced cursors.
-/

noncomputable section

namespace Cert.KernelIdeal.Hand

open Cert.KernelIdeal Cert.KernelIdeal.Gen Cert.Words
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (c : Dev nD) (bd : Option Variants.nat.V) (a0 : Memref sig .tc .smem S4 .i32) (p0 : a0.IsWhole) (a1 : Memref sig .tc .vmem S24x8x160 .bf16) (p1 : a1.IsWhole) (a12 : Memref sig .tc .vmem S16x8x4096 .f32) (p12 : a12.IsWhole) (a13 : Memref sig .tc .vmem S8x128 .f32) (p13 : a13.IsWhole) (a14 : Memref sig .tc .vmem S24x8x128 .f32) (p14 : a14.IsWhole) (a15 : Memref sig .tc .vmem S8x128 .f32) (p15 : a15.IsWhole) (a16 : Memref sig .tc .vmem S8x160 .f32) (p16 : a16.IsWhole) (a17 : Memref sig .tc .vmem S6x4x160 .f32) (p17 : a17.IsWhole) (a4 : Memref sig .tc .vmem S6x4x160 .f32) (p4 : a4.IsWhole) (a8 : Memref sig .tc .vmem S24x8x160 .f32) (p8 : a8.IsWhole) (a18 : Memref sig .tc .vmem S6x4x160 .f32) (p18 : a18.IsWhole) (a7 : Memref sig .tc .vmem S24x8x160 .bf16) (p7 : a7.IsWhole)
variable (a21 a22 a23 a24 a25 a26 a27 a28 a29 a30 a31 a32 a33 a34 a35 a36 : BitVec 32)
variable {f0 : Buf (Elt F) (a0.view.loc (c : Thread nD τ))} {f1 : Buf (Elt F) (a1.view.loc (c : Thread nD τ))} {f4 : Buf (Elt F) (a4.view.loc (c : Thread nD τ))}

variable {L : ℕ → ℕ} {σ : St F}

theorem part24_wp {α : Type} (hL : LensOk a0 c f0 L) (k0_hw7 : k0_chk7 a21) (v34 v39 : BitVec 1) (v89 : BitVec 32) (v92 : Elt F .i32) (k0_hw25 : k0_chk25 a21 a22 a24 a25 a26 v92) (v93 x0 v94 v96 v98 : BitVec 32)  (b : ℕ) (hb : k0_off111 a21 = ![min b 3])
    {kk} {Q : α → sProp 𝕄} :
    Bufs c a0 a1 a4 a12 a13 a14 a15 a16 a17 a18 a8 a7 f0 f1 f4 σ ⊢ iprop((Bufs c a0 a1 a4 a12 a13 a14 a15 a16 a17 a18 a8 a7 f0 f1 f4 (if k0_cond11 a21 a22 a24 a25 a26 v92 = 1#1 then opO σ (a1.view.read (Elt F) f1) (a4.view.read (Elt F) f4) a24 a25 else σ) -∗ wp frame (wpE (defs₀ (F := F)) Variants.nat c.tc bd) Set.univ (
        let v116 : BitVec 1 := Scalar.cmpi .slt a21 4#32
        let v117 : BitVec 1 := Scalar.andi v34 v116
        let v118 : BitVec 32 := Scalar.addi a23 1#32
        let v121 : BitVec 32 := W (lw L b)
        let v122 : BitVec 32 := Scalar.addi v121 4095#32
        let v123 : BitVec 32 := Scalar.divsi v122 4096#32
        let v124 : BitVec 1 := Scalar.cmpi .sgt v122 0#32
        let v125 : BitVec 32 := Scalar.extui v124
        let v126 : BitVec 1 := Scalar.cmpi .slt v122 0#32
        let v127 : BitVec 32 := Scalar.extui v126
        let v128 : BitVec 32 := Scalar.subi v125 v127
        let v129 : BitVec 1 := Scalar.cmpi .sgt 4096#32 0#32
        let v130 : BitVec 32 := Scalar.extui v129
        let v131 : BitVec 1 := Scalar.cmpi .slt 4096#32 0#32
        let v132 : BitVec 32 := Scalar.extui v131
        let v133 : BitVec 32 := Scalar.subi v130 v132
        let v134 : BitVec 1 := Scalar.cmpi .ne v128 v133
        let v135 : BitVec 32 := Scalar.remsi v122 4096#32
        let v136 : BitVec 1 := Scalar.cmpi .ne v135 0#32
        let v137 : BitVec 1 := Scalar.andi v134 v136
        let v138 : BitVec 32 := Scalar.subi v123 1#32
        let v139 : BitVec 32 := Scalar.select v137 v138 v123
        kk ⟨v117, v118, v139, 1#32⟩) Q)
      -∗ wp frame (wpE (defs₀ (F := F)) Variants.nat c.tc bd) Set.univ (k0_part24 (F := F) a0 p0 cc0_scratch9 (Memref.whole cc0_scratch0) (isW _) (Memref.whole main_v2) (isW _) cc0_scratch10 (Memref.whole cc0_scratch1) (isW _) (Memref.whole main_v4) (isW _) a1 p1 a12 p12 a13 p13 a14 p14 a15 p15 a16 p16 a17 p17 a4 p4 a8 p8 a18 p18 a7 p7 a21 a22 a23 a24 a25 a26 a27 a28 a29 a30 a31 a32 a33 a34 a35 a36 k0_hw7 v34 v39 v89 v92 k0_hw25 v93 x0 v94 v96 v98 >>= kk) Q) := by
  rw [k0_part24_eq_skeleton]; unfold k0_part24_skel
  by_cases h11 : k0_cond11 a21 a22 a24 a25 a26 v92 = 1#1
  · rw [if_pos h11]
    simp only [dif_pos h11, Prog.lift, Prog.bind_op, Prog.bind_ret, Prog.pure_eq_ret, Prog.bind_assoc]
    iintro HB Hk
    iapply (part21_wp c bd a0 p0 a1 p1 a12 p12 a13 p13 a14 p14 a15 p15 a16 p16 a17 p17 a4 p4 a8 p8 a18 p18 a7 p7 a21 a22 a23 a24 a25 a26 a27 a28 a29 a30 a31 a32 a33 a34 a35 a36 _ _ _ σ) $$ HB; iintro %r21 %e21 HB; subst e21
    iapply (ldB8 c bd a0 a1 a12 a13 a14 a15 a16 a17 a4 a8 a18 a7) $$ HB; iintro HB
    iapply (stB8 c bd a0 a1 a12 a13 a14 a15 a16 a17 a4 a8 a18 a7) $$ HB; iintro HB
    iapply (ldB18 c bd a0 a1 a12 a13 a14 a15 a16 a17 a4 a8 a18 a7) $$ HB; iintro HB
    iapply (ldB7 c bd a0 a1 a12 a13 a14 a15 a16 a17 a4 a8 a18 a7) $$ HB; iintro HB
    iapply (stB7 c bd a0 a1 a12 a13 a14 a15 a16 a17 a4 a8 a18 a7) $$ HB; iintro HB
    iapply (lenB c bd a0 a1 a12 a13 a14 a15 a16 a17 a4 a8 a18 a7 hL b hb) $$ HB; iintro HB
    iapply Hk; iexact HB
  · rw [if_neg h11]
    simp only [dif_neg h11, Prog.lift, Prog.bind_op, Prog.bind_ret, Prog.pure_eq_ret, Prog.bind_assoc]
    iintro HB Hk
    iapply (lenB c bd a0 a1 a12 a13 a14 a15 a16 a17 a4 a8 a18 a7 hL b hb) $$ HB; iintro HB
    iapply Hk; iexact HB

theorem part25_wp {α : Type} (hL : LensOk a0 c f0 L) (k0_hw24 : k0_chk24 a24) (v39 v117 : BitVec 1) (v118 v139 c1_i32_89 : BitVec 32)  (b : ℕ) (hb : k0_off112 a24 = ![min b 3])
    {kk} {Q : α → sProp 𝕄} :
    Bufs c a0 a1 a4 a12 a13 a14 a15 a16 a17 a18 a8 a7 f0 f1 f4 σ ⊢ iprop((Bufs c a0 a1 a4 a12 a13 a14 a15 a16 a17 a18 a8 a7 f0 f1 f4 σ -∗ wp frame (wpE (defs₀ (F := F)) Variants.nat c.tc bd) Set.univ (
        let v140 : BitVec 32 := Scalar.maxsi v139 c1_i32_89
        let v141 : BitVec 1 := Scalar.cmpi .sge v118 v140
        let v142 : BitVec 32 := Scalar.select v141 0#32 v118
        let v143 : BitVec 32 := Scalar.extui v141
        let v144 : BitVec 32 := Scalar.addi a22 v143
        let v145 : BitVec 1 := Scalar.cmpi .sge v144 6#32
        let v146 : BitVec 32 := Scalar.select v145 0#32 v144
        let v147 : BitVec 32 := Scalar.extui v145
        let v148 : BitVec 32 := Scalar.addi a21 v147
        let v149 : BitVec 32 := Scalar.select v117 v148 a21
        let v150 : BitVec 32 := Scalar.select v117 v146 a22
        let v151 : BitVec 32 := Scalar.select v117 v142 a23
        let v152 : BitVec 1 := Scalar.cmpi .slt a24 4#32
        let v153 : BitVec 1 := Scalar.andi v39 v152
        let v154 : BitVec 32 := Scalar.addi a26 1#32
        let v157 : BitVec 32 := W (lw L b)
        let v158 : BitVec 32 := Scalar.addi v157 4095#32
        let v159 : BitVec 32 := Scalar.divsi v158 4096#32
        let v160 : BitVec 1 := Scalar.cmpi .sgt v158 0#32
        let v161 : BitVec 32 := Scalar.extui v160
        let v162 : BitVec 1 := Scalar.cmpi .slt v158 0#32
        let v163 : BitVec 32 := Scalar.extui v162
        let v164 : BitVec 32 := Scalar.subi v161 v163
        let v165 : BitVec 1 := Scalar.cmpi .sgt 4096#32 0#32
        let v166 : BitVec 32 := Scalar.extui v165
        let v167 : BitVec 1 := Scalar.cmpi .slt 4096#32 0#32
        let v168 : BitVec 32 := Scalar.extui v167
        let v169 : BitVec 32 := Scalar.subi v166 v168
        let v170 : BitVec 1 := Scalar.cmpi .ne v164 v169
        let v171 : BitVec 32 := Scalar.remsi v158 4096#32
        let v172 : BitVec 1 := Scalar.cmpi .ne v171 0#32
        let v173 : BitVec 1 := Scalar.andi v170 v172
        let v174 : BitVec 32 := Scalar.subi v159 1#32
        let v175 : BitVec 32 := Scalar.select v173 v174 v159
        let v176 : BitVec 32 := Scalar.maxsi v175 1#32
        let v177 : BitVec 1 := Scalar.cmpi .sge v154 v176
        let v178 : BitVec 32 := Scalar.select v177 0#32 v154
        let v179 : BitVec 32 := Scalar.extui v177
        let v180 : BitVec 32 := Scalar.addi a25 v179
        let v181 : BitVec 1 := Scalar.cmpi .sge v180 6#32
        kk ⟨v149, v150, v151, v153, v178, v180, v181, 0#32⟩) Q)
      -∗ wp frame (wpE (defs₀ (F := F)) Variants.nat c.tc bd) Set.univ (k0_part25 (F := F) a0 p0 cc0_scratch9 (Memref.whole cc0_scratch0) (isW _) (Memref.whole main_v2) (isW _) cc0_scratch10 (Memref.whole cc0_scratch1) (isW _) (Memref.whole main_v4) (isW _) a1 p1 a12 p12 a13 p13 a14 p14 a15 p15 a16 p16 a17 p17 a4 p4 a8 p8 a18 p18 a7 p7 a21 a22 a23 a24 a25 a26 a27 a28 a29 a30 a31 a32 a33 a34 a35 a36 k0_hw24 v39 v117 v118 v139 c1_i32_89 >>= kk) Q) := by
  rw [k0_part25_eq_skeleton]; unfold k0_part25_skel
  simp only [Prog.lift, Prog.bind_op, Prog.bind_ret, Prog.pure_eq_ret, Prog.bind_assoc]
  iintro HB Hk
  iapply (lenB c bd a0 a1 a12 a13 a14 a15 a16 a17 a4 a8 a18 a7 hL b hb) $$ HB; iintro HB
  iapply Hk; iexact HB

theorem part26_wp {α : Type} (hL : LensOk a0 c f0 L) (k0_hw17 : k0_chk17 a21 a27) (v34 v39 v153 : BitVec 1) (v178 v180 : BitVec 32) (v181 : BitVec 1) (c0_i32_107 : BitVec 32)  (b : ℕ) (hb : k0_off113 a27 = ![min b 3])
    {kk} {Q : α → sProp 𝕄} :
    Bufs c a0 a1 a4 a12 a13 a14 a15 a16 a17 a18 a8 a7 f0 f1 f4 σ ⊢ iprop((Bufs c a0 a1 a4 a12 a13 a14 a15 a16 a17 a18 a8 a7 f0 f1 f4 σ -∗ wp frame (wpE (defs₀ (F := F)) Variants.nat c.tc bd) Set.univ (
        let v182 : BitVec 32 := Scalar.select v181 c0_i32_107 v180
        let v183 : BitVec 32 := Scalar.extui v181
        let v184 : BitVec 32 := Scalar.addi a24 v183
        let v185 : BitVec 32 := Scalar.select v153 v184 a24
        let v186 : BitVec 32 := Scalar.select v153 v182 a25
        let v187 : BitVec 32 := Scalar.select v153 v178 a26
        let v188 : BitVec 1 := Scalar.cmpi .slt a27 4#32
        let v189 : BitVec 1 := Scalar.andi v34 v188
        let v190 : BitVec 32 := Scalar.addi a29 1#32
        let v193 : BitVec 32 := W (lw L b)
        let v194 : BitVec 32 := Scalar.addi v193 4095#32
        let v195 : BitVec 32 := Scalar.divsi v194 4096#32
        let v196 : BitVec 1 := Scalar.cmpi .sgt v194 0#32
        let v197 : BitVec 32 := Scalar.extui v196
        let v198 : BitVec 1 := Scalar.cmpi .slt v194 0#32
        let v199 : BitVec 32 := Scalar.extui v198
        let v200 : BitVec 32 := Scalar.subi v197 v199
        let v201 : BitVec 1 := Scalar.cmpi .sgt 4096#32 0#32
        let v202 : BitVec 32 := Scalar.extui v201
        let v203 : BitVec 1 := Scalar.cmpi .slt 4096#32 0#32
        let v204 : BitVec 32 := Scalar.extui v203
        let v205 : BitVec 32 := Scalar.subi v202 v204
        let v206 : BitVec 1 := Scalar.cmpi .ne v200 v205
        let v207 : BitVec 32 := Scalar.remsi v194 4096#32
        let v208 : BitVec 1 := Scalar.cmpi .ne v207 0#32
        let v209 : BitVec 1 := Scalar.andi v206 v208
        let v210 : BitVec 32 := Scalar.subi v195 1#32
        let v211 : BitVec 32 := Scalar.select v209 v210 v195
        let v212 : BitVec 32 := Scalar.maxsi v211 1#32
        let v213 : BitVec 1 := Scalar.cmpi .sge v190 v212
        let v214 : BitVec 32 := Scalar.select v213 0#32 v190
        let v215 : BitVec 32 := Scalar.extui v213
        let v216 : BitVec 32 := Scalar.addi a28 v215
        let v217 : BitVec 1 := Scalar.cmpi .sge v216 6#32
        let v218 : BitVec 32 := Scalar.select v217 0#32 v216
        let v219 : BitVec 32 := Scalar.extui v217
        let v220 : BitVec 32 := Scalar.addi a27 v219
        let v221 : BitVec 32 := Scalar.select v189 v220 a27
        let v222 : BitVec 32 := Scalar.select v189 v218 a28
        let v223 : BitVec 32 := Scalar.select v189 v214 a29
        let v224 : BitVec 1 := Scalar.cmpi .slt a30 4#32
        let v225 : BitVec 1 := Scalar.andi v39 v224
        kk ⟨v185, v186, v187, v221, v222, v223, v225⟩) Q)
      -∗ wp frame (wpE (defs₀ (F := F)) Variants.nat c.tc bd) Set.univ (k0_part26 (F := F) a0 p0 cc0_scratch9 (Memref.whole cc0_scratch0) (isW _) (Memref.whole main_v2) (isW _) cc0_scratch10 (Memref.whole cc0_scratch1) (isW _) (Memref.whole main_v4) (isW _) a1 p1 a12 p12 a13 p13 a14 p14 a15 p15 a16 p16 a17 p17 a4 p4 a8 p8 a18 p18 a7 p7 a21 a22 a23 a24 a25 a26 a27 a28 a29 a30 a31 a32 a33 a34 a35 a36 k0_hw17 v34 v39 v153 v178 v180 v181 c0_i32_107 >>= kk) Q) := by
  rw [k0_part26_eq_skeleton]; unfold k0_part26_skel
  simp only [Prog.lift, Prog.bind_op, Prog.bind_ret, Prog.pure_eq_ret, Prog.bind_assoc]
  iintro HB Hk
  iapply (lenB c bd a0 a1 a12 a13 a14 a15 a16 a17 a4 a8 a18 a7 hL b hb) $$ HB; iintro HB
  iapply Hk; iexact HB

theorem part27_wp {α : Type} (hL : LensOk a0 c f0 L) (k0_hw20 : k0_chk20 a21 a22 a24 a25 a30) (v34 v225 : BitVec 1)  (b : ℕ) (hb : k0_off114 a30 = ![min b 3])
    {kk} {Q : α → sProp 𝕄} :
    Bufs c a0 a1 a4 a12 a13 a14 a15 a16 a17 a18 a8 a7 f0 f1 f4 σ ⊢ iprop((Bufs c a0 a1 a4 a12 a13 a14 a15 a16 a17 a18 a8 a7 f0 f1 f4 σ -∗ wp frame (wpE (defs₀ (F := F)) Variants.nat c.tc bd) Set.univ (
        let v226 : BitVec 32 := Scalar.addi a32 1#32
        let v229 : BitVec 32 := W (lw L b)
        let v230 : BitVec 32 := Scalar.addi v229 4095#32
        let v231 : BitVec 32 := Scalar.divsi v230 4096#32
        let v232 : BitVec 1 := Scalar.cmpi .sgt v230 0#32
        let v233 : BitVec 32 := Scalar.extui v232
        let v234 : BitVec 1 := Scalar.cmpi .slt v230 0#32
        let v235 : BitVec 32 := Scalar.extui v234
        let v236 : BitVec 32 := Scalar.subi v233 v235
        let v237 : BitVec 1 := Scalar.cmpi .sgt 4096#32 0#32
        let v238 : BitVec 32 := Scalar.extui v237
        let v239 : BitVec 1 := Scalar.cmpi .slt 4096#32 0#32
        let v240 : BitVec 32 := Scalar.extui v239
        let v241 : BitVec 32 := Scalar.subi v238 v240
        let v242 : BitVec 1 := Scalar.cmpi .ne v236 v241
        let v243 : BitVec 32 := Scalar.remsi v230 4096#32
        let v244 : BitVec 1 := Scalar.cmpi .ne v243 0#32
        let v245 : BitVec 1 := Scalar.andi v242 v244
        let v246 : BitVec 32 := Scalar.subi v231 1#32
        let v247 : BitVec 32 := Scalar.select v245 v246 v231
        let v248 : BitVec 32 := Scalar.maxsi v247 1#32
        let v249 : BitVec 1 := Scalar.cmpi .sge v226 v248
        let v250 : BitVec 32 := Scalar.select v249 0#32 v226
        let v251 : BitVec 32 := Scalar.extui v249
        let v252 : BitVec 32 := Scalar.addi a31 v251
        let v253 : BitVec 1 := Scalar.cmpi .sge v252 6#32
        let v254 : BitVec 32 := Scalar.select v253 0#32 v252
        let v255 : BitVec 32 := Scalar.extui v253
        let v256 : BitVec 32 := Scalar.addi a30 v255
        let v257 : BitVec 32 := Scalar.select v225 v256 a30
        let v258 : BitVec 32 := Scalar.select v225 v254 a31
        let v259 : BitVec 32 := Scalar.select v225 v250 a32
        let v260 : BitVec 32 := Scalar.addi a33 1#32
        let v261 : BitVec 1 := Scalar.cmpi .eq v260 6#32
        let v262 : BitVec 32 := Scalar.addi a33 1#32
        let v263 : BitVec 32 := Scalar.select v261 0#32 v262
        let v264 : BitVec 32 := Scalar.select v34 v263 a33
        let v265 : BitVec 32 := Scalar.addi a34 1#32
        kk ⟨v257, v258, v259, v264, v265, 8#32⟩) Q)
      -∗ wp frame (wpE (defs₀ (F := F)) Variants.nat c.tc bd) Set.univ (k0_part27 (F := F) a0 p0 cc0_scratch9 (Memref.whole cc0_scratch0) (isW _) (Memref.whole main_v2) (isW _) cc0_scratch10 (Memref.whole cc0_scratch1) (isW _) (Memref.whole main_v4) (isW _) a1 p1 a12 p12 a13 p13 a14 p14 a15 p15 a16 p16 a17 p17 a4 p4 a8 p8 a18 p18 a7 p7 a21 a22 a23 a24 a25 a26 a27 a28 a29 a30 a31 a32 a33 a34 a35 a36 k0_hw20 v34 v225 >>= kk) Q) := by
  rw [k0_part27_eq_skeleton]; unfold k0_part27_skel
  simp only [Prog.lift, Prog.bind_op, Prog.bind_ret, Prog.pure_eq_ret, Prog.bind_assoc]
  iintro HB Hk
  iapply (lenB c bd a0 a1 a12 a13 a14 a15 a16 a17 a4 a8 a18 a7 hL b hb) $$ HB; iintro HB
  iapply Hk; iexact HB

end Cert.KernelIdeal.Hand
-- ==== Proof.KI.While.lean ====
module

public import proofs.«01_k».proof.Proof.KI.StepA
public import proofs.«01_k».proof.Proof.KI.StepB
public import proofs.«01_k».proof.Proof.KI.StepC
public import proofs.«01_k».proof.Proof.KI.Mid
public import proofs.«01_k».proof.Proof.KI.Tail
public import proofs.«01_k».proof.Proof.KI.Adv
public import Idealize.ShloMosaic.Lib.Pipeline.FrameBody
public import Idealize.ShloMosaic.Lib.Pipeline.DatRel
public import Idealize.ShloMosaic.Lib.Ring
public import Idealize.ShloMosaic.Lib.Tactic
public import Idealize.ShloMosaic.Lib.WordCmp

@[expose] public section

set_option maxRecDepth 16384

/-!
The loop over the items: one trip, and all of them.
-/

noncomputable section

namespace Cert.KernelIdeal.Hand

open Cert.KernelIdeal Cert.KernelIdeal.Gen Cert.Words
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

attribute [local irreducible] cur

variable (c : Dev nD) (a0 : Memref sig .tc .smem S4 .i32) (p0 : a0.IsWhole) (a1 : Memref sig .tc .vmem S24x8x160 .bf16) (p1 : a1.IsWhole) (a12 : Memref sig .tc .vmem S16x8x4096 .f32) (p12 : a12.IsWhole) (a13 : Memref sig .tc .vmem S8x128 .f32) (p13 : a13.IsWhole) (a14 : Memref sig .tc .vmem S24x8x128 .f32) (p14 : a14.IsWhole) (a15 : Memref sig .tc .vmem S8x128 .f32) (p15 : a15.IsWhole) (a16 : Memref sig .tc .vmem S8x160 .f32) (p16 : a16.IsWhole) (a17 : Memref sig .tc .vmem S6x4x160 .f32) (p17 : a17.IsWhole) (a4 : Memref sig .tc .vmem S6x4x160 .f32) (p4 : a4.IsWhole) (a8 : Memref sig .tc .vmem S24x8x160 .f32) (p8 : a8.IsWhole) (a18 : Memref sig .tc .vmem S6x4x160 .f32) (p18 : a18.IsWhole) (a7 : Memref sig .tc .vmem S24x8x160 .bf16) (p7 : a7.IsWhole)
variable {f0 : Buf (Elt F) (a0.view.loc (c : Thread nD τ))} {f1 : Buf (Elt F) (a1.view.loc (c : Thread nD τ))} {f4 : Buf (Elt F) (a4.view.loc (c : Thread nD τ))}

variable (L : ℕ → ℕ) (I : ℕ → ℕ → St F → Prop)

/-- What the loop holds with `i` items of keys and `j` items of values consumed. -/
def held (f5 : Buf (Elt F) (hbmK c)) (f6 : Buf (Elt F) (hbmV c)) (i j : ℕ) : sProp 𝕄 :=
  iprop(RingK c L f5 (stK L i) ∗ RingV c L f6 (stV L j) ∗ (∃ σ : St F, ⌜I i j σ⌝ ∗ Bufs c a0 a1 a4 a12 a13 a14 a15 a16 a17 a18 a8 a7 f0 f1 f4 σ) ∗ (∃ W0, owes c 0 W0))
/-- What it leaves. -/
def left (f5 : Buf (Elt F) (hbmK c)) (f6 : Buf (Elt F) (hbmV c)) : sProp 𝕄 :=
  iprop(RingK c L f5 (fun _ => none) ∗ RingV c L f6 (fun _ => none) ∗ (∃ σ : St F, ⌜∃ i j, Ctl (nL L) i j ∧ ¬ j < total (nL L) ∧ I i j σ⌝ ∗ Bufs c a0 a1 a4 a12 a13 a14 a15 a16 a17 a18 a8 a7 f0 f1 f4 σ) ∗ (∃ W0, owes c 0 W0))

def spec (f5 : Buf (Elt F) (hbmK c)) (f6 : Buf (Elt F) (hbmV c)) (i j : ℕ) : sWPT 𝕄 (BitVec 32 × BitVec 32 × BitVec 32 × BitVec 32 × BitVec 32 × BitVec 32 × BitVec 32 × BitVec 32 × BitVec 32 × BitVec 32 × BitVec 32 × BitVec 32 × BitVec 32 × BitVec 32 × BitVec 32 × BitVec 32) := do
  sWPT.consume (held (f0 := f0) (f1 := f1) (f4 := f4) c a0 a1 a12 a13 a14 a15 a16 a17 a4 a8 a18 a7 L I f5 f6 i j)
  let r ← sWPT.arbitrary
  sWPT.produce (left (f0 := f0) (f1 := f1) (f4 := f4) c a0 a1 a12 a13 a14 a15 a16 a17 a4 a8 a18 a7 L I f5 f6)
  pure r

theorem spec_apply (f5 : Buf (Elt F) (hbmK c)) (f6 : Buf (Elt F) (hbmV c)) (i j : ℕ) (K : BitVec 32 × BitVec 32 × BitVec 32 × BitVec 32 × BitVec 32 × BitVec 32 × BitVec 32 × BitVec 32 × BitVec 32 × BitVec 32 × BitVec 32 × BitVec 32 × BitVec 32 × BitVec 32 × BitVec 32 × BitVec 32 → sProp 𝕄) :
    spec (f0 := f0) (f1 := f1) (f4 := f4) c a0 a1 a12 a13 a14 a15 a16 a17 a4 a8 a18 a7 L I f5 f6 i j K = iprop(held (f0 := f0) (f1 := f1) (f4 := f4) c a0 a1 a12 a13 a14 a15 a16 a17 a4 a8 a18 a7 L I f5 f6 i j ∗ ∀ r : BitVec 32 × BitVec 32 × BitVec 32 × BitVec 32 × BitVec 32 × BitVec 32 × BitVec 32 × BitVec 32 × BitVec 32 × BitVec 32 × BitVec 32 × BitVec 32 × BitVec 32 × BitVec 32 × BitVec 32 × BitVec 32, (left (f0 := f0) (f1 := f1) (f4 := f4) c a0 a1 a12 a13 a14 a15 a16 a17 a4 a8 a18 a7 L I f5 f6 -∗ K r)) := rfl

theorem spec_le (hL : LensOk a0 c f0 L) (f5 : Buf (Elt F) (hbmK c)) (f6 : Buf (Elt F) (hbmV c))
    (hA : ∀ i j σ σ1 σ2, Ctl (nL L) i j → j < total (nL L) → doK (nL L) i → doV (nL L) i j → I i j σ → nxK c f5 (a1.view.read (Elt F) f1) L i σ σ1 → nxV c f6 L j σ1 σ2 → I (i + 1) (j + 1) (nxO (a1.view.read (Elt F) f1) (a4.view.read (Elt F) f4) L i j (nxM (a1.view.read (Elt F) f1) L i σ2)))
    (hB : ∀ i j σ σ1, Ctl (nL L) i j → j < total (nL L) → doK (nL L) i → ¬ doV (nL L) i j → I i j σ → nxK c f5 (a1.view.read (Elt F) f1) L i σ σ1 → I (i + 1) j (nxO (a1.view.read (Elt F) f1) (a4.view.read (Elt F) f4) L i j (nxM (a1.view.read (Elt F) f1) L i σ1)))
    (hC : ∀ i j σ σ1, Ctl (nL L) i j → j < total (nL L) → ¬ doK (nL L) i → doV (nL L) i j → I i j σ → nxV c f6 L j σ σ1 → I i (j + 1) (nxO (a1.view.read (Elt F) f1) (a4.view.read (Elt F) f4) L i j (nxM (a1.view.read (Elt F) f1) L i σ1))) :
    ∀ k i j, Ctl (nL L) i j → (total (nL L) - i) + (total (nL L) - j) ≤ k → ∀ K, spec (f0 := f0) (f1 := f1) (f4 := f4) c a0 a1 a12 a13 a14 a15 a16 a17 a4 a8 a18 a7 L I f5 f6 i j K
      ⊢ wp frame (wpE (defs₀ (F := F)) Variants.nat c.tc (some k)) Set.univ (defs₀ (F := F) .tc 1 ⟨a0, p0, cc0_scratch9, Memref.whole cc0_scratch0, Memref.isWhole_whole _, Memref.whole main_v2, Memref.isWhole_whole _, cc0_scratch10, Memref.whole cc0_scratch1, Memref.isWhole_whole _, Memref.whole main_v4, Memref.isWhole_whole _, a1, p1, a12, p12, a13, p13, a14, p14, a15, p15, a16, p16, a17, p17, a4, p4, a8, p8, a18, p18, a7, p7, (W (cu L i).b), (W (cu L i).g), (W (cu L i).c), (W (cu L j).b), (W (cu L j).g), (W (cu L j).c), (W (cu L (i + 6)).b), (W (cu L (i + 6)).g), (W (cu L (i + 6)).c), (W (cu L (j + 8)).b), (W (cu L (j + 8)).g), (W (cu L (j + 8)).c), (W (i % 6)), (W (j % 8)), (W (i % 16)), (W (j % 16))⟩) K := by
  have hn := nL_ok hL.1
  have hn1 := fun b => (hn b).1
  have exit_ : ∀ k i j, Ctl (nL L) i j → ¬ j < total (nL L) → ∀ K, spec (f0 := f0) (f1 := f1) (f4 := f4) c a0 a1 a12 a13 a14 a15 a16 a17 a4 a8 a18 a7 L I f5 f6 i j K ⊢ wp frame (wpE (defs₀ (F := F)) Variants.nat c.tc (some k)) Set.univ (defs₀ (F := F) .tc 1 ⟨a0, p0, cc0_scratch9, Memref.whole cc0_scratch0, Memref.isWhole_whole _, Memref.whole main_v2, Memref.isWhole_whole _, cc0_scratch10, Memref.whole cc0_scratch1, Memref.isWhole_whole _, Memref.whole main_v4, Memref.isWhole_whole _, a1, p1, a12, p12, a13, p13, a14, p14, a15, p15, a16, p16, a17, p17, a4, p4, a8, p8, a18, p18, a7, p7, (W (cu L i).b), (W (cu L i).g), (W (cu L i).c), (W (cu L j).b), (W (cu L j).g), (W (cu L j).c), (W (cu L (i + 6)).b), (W (cu L (i + 6)).g), (W (cu L (i + 6)).c), (W (cu L (j + 8)).b), (W (cu L (j + 8)).g), (W (cu L (j + 8)).c), (W (i % 6)), (W (j % 8)), (W (i % 16)), (W (j % 16))⟩) K := by
    intro k i j hctl hj K
    rw [spec_apply]
    show _ ⊢ wp frame (wpE (defs₀ (F := F)) Variants.nat c.tc (some k)) Set.univ (cc0_while1 (F := F) a0 p0 cc0_scratch9 (Memref.whole cc0_scratch0) (isW _) (Memref.whole main_v2) (isW _) cc0_scratch10 (Memref.whole cc0_scratch1) (isW _) (Memref.whole main_v4) (isW _) a1 p1 a12 p12 a13 p13 a14 p14 a15 p15 a16 p16 a17 p17 a4 p4 a8 p8 a18 p18 a7 p7 (W (cu L i).b) (W (cu L i).g) (W (cu L i).c) (W (cu L j).b) (W (cu L j).g) (W (cu L j).c) (W (cu L (i + 6)).b) (W (cu L (i + 6)).g) (W (cu L (i + 6)).c) (W (cu L (j + 8)).b) (W (cu L (j + 8)).g) (W (cu L (j + 8)).c) (W (i % 6)) (W (j % 8)) (W (i % 16)) (W (j % 16))) K
    have e : (cu L j).b = 4 := by rw [show cu L j = _ from cur_end hn1 (by omega)]
    have ht : ¬ Scalar.cmpi .slt (W (cu L j).b) 4#32 = 1#1 := by rw [kbit_W (by omega), ofBool_one]; simp; omega
    unfold cc0_while1
    simp only [ht, ↓reduceIte, Prog.pure_eq_ret]
    unfold held left
    rw [stK_end L hL.1 i (by have := hctl.le; omega), stV_end L hL.1 j (by omega)]
    iintro ⟨⟨HK, HV, ⟨%σ, %hσ, HB⟩, HW⟩, Hk⟩
    rw [wp_ret]; imodintro
    iapply Hk
    isplitl [HK]; · iexact HK
    isplitl [HV]; · iexact HV
    isplitl [HB]
    · iexists σ; isplitr [HB]; rotate_left
      · iexact HB
      · ipureintro; exact ⟨i, j, hctl, hj, hσ⟩
    iexact HW
  intro k
  induction k with
  | zero =>
    intro i j hctl hm K
    exact exit_ 0 i j hctl (by have := hctl.le; have := hctl.iT; omega) K
  | succ k ih =>
    intro i j hctl hm K
    by_cases hj : j < total (nL L)
    swap
    · exact exit_ (k + 1) i j hctl hj K
    have ih' : ∀ i j, Ctl (nL L) i j → (total (nL L) - i) + (total (nL L) - j) ≤ k → ∀ (a21 : BitVec 32) (a22 : BitVec 32) (a23 : BitVec 32) (a24 : BitVec 32) (a25 : BitVec 32) (a26 : BitVec 32) (a27 : BitVec 32) (a28 : BitVec 32) (a29 : BitVec 32) (a30 : BitVec 32) (a31 : BitVec 32) (a32 : BitVec 32) (a33 : BitVec 32) (a34 : BitVec 32) (a35 : BitVec 32) (a36 : BitVec 32), a21 = (W (cu L i).b) → a22 = (W (cu L i).g) → a23 = (W (cu L i).c) → a24 = (W (cu L j).b) → a25 = (W (cu L j).g) → a26 = (W (cu L j).c) → a27 = (W (cu L (i + 6)).b) → a28 = (W (cu L (i + 6)).g) → a29 = (W (cu L (i + 6)).c) → a30 = (W (cu L (j + 8)).b) → a31 = (W (cu L (j + 8)).g) → a32 = (W (cu L (j + 8)).c) → a33 = (W (i % 6)) → a34 = (W (j % 8)) → a35 = (W (i % 16)) → a36 = (W (j % 16)) →
        spec (f0 := f0) (f1 := f1) (f4 := f4) c a0 a1 a12 a13 a14 a15 a16 a17 a4 a8 a18 a7 L I f5 f6 i j ≤ wp frame (wpE (defs₀ (F := F)) Variants.nat c.tc (some k)) Set.univ (defs₀ (F := F) .tc 1 ⟨a0, p0, cc0_scratch9, Memref.whole cc0_scratch0, Memref.isWhole_whole _, Memref.whole main_v2, Memref.isWhole_whole _, cc0_scratch10, Memref.whole cc0_scratch1, Memref.isWhole_whole _, Memref.whole main_v4, Memref.isWhole_whole _, a1, p1, a12, p12, a13, p13, a14, p14, a15, p15, a16, p16, a17, p17, a4, p4, a8, p8, a18, p18, a7, p7, a21, a22, a23, a24, a25, a26, a27, a28, a29, a30, a31, a32, a33, a34, a35, a36⟩) := by
      intro i j h1 h2
      intro a21 a22 a23 a24 a25 a26 a27 a28 a29 a30 a31 a32 a33 a34 a35 a36 e21 e22 e23 e24 e25 e26 e27 e28 e29 e30 e31 e32 e33 e34 e35 e36
      subst e21 e22 e23 e24 e25 e26 e27 e28 e29 e30 e31 e32 e33 e34 e35 e36
      exact ih i j h1 h2
    rw [spec_apply]
    show _ ⊢ wp frame (wpE (defs₀ (F := F)) Variants.nat c.tc (some (k + 1))) Set.univ (cc0_while1 (F := F) a0 p0 cc0_scratch9 (Memref.whole cc0_scratch0) (isW _) (Memref.whole main_v2) (isW _) cc0_scratch10 (Memref.whole cc0_scratch1) (isW _) (Memref.whole main_v4) (isW _) a1 p1 a12 p12 a13 p13 a14 p14 a15 p15 a16 p16 a17 p17 a4 p4 a8 p8 a18 p18 a7 p7 (W (cu L i).b) (W (cu L i).g) (W (cu L i).c) (W (cu L j).b) (W (cu L j).g) (W (cu L j).c) (W (cu L (i + 6)).b) (W (cu L (i + 6)).g) (W (cu L (i + 6)).c) (W (cu L (j + 8)).b) (W (cu L (j + 8)).g) (W (cu L (j + 8)).c) (W (i % 6)) (W (j % 8)) (W (i % 16)) (W (j % 16))) K
    obtain ⟨ab, ag, ac⟩ := cur_bounds hn i
    obtain ⟨bb, bg, bc⟩ := cur_bounds hn j
    obtain ⟨eb, eg, ec⟩ := cur_bounds hn (i + 6)
    obtain ⟨pb, pg, pc⟩ := cur_bounds hn (j + 8)
    have m6 : i % 6 < 6 := Nat.mod_lt _ (by decide)
    have m8 : j % 8 < 8 := Nat.mod_lt _ (by decide)
    have m16 : i % 16 < 16 := Nat.mod_lt _ (by decide)
    have m16' : j % 16 < 16 := Nat.mod_lt _ (by decide)
    have ib := cur_in hn1 hj
    have ht : Scalar.cmpi .slt (W (cu L j).b) 4#32 = 1#1 := by rw [kbit_W bb, ofBool_one]; simpa using ib.1
    simp only [cc0_while1_eq_skeleton]; unfold cc0_while1_skel
    simp only [ht, ↓reduceIte, Prog.lift, Prog.bind_op, Prog.bind_ret, Prog.pure_eq_ret, Prog.bind_assoc]
    have hlt := hctl.iT
    by_cases hkk : doK (nL L) i
    · have hi := (cur_lt_iff hn1 i).1 hkk
      by_cases hvv : doV (nL L) i j
      · have hji := hctl.lt_of_doV hn1 hvv
        have ek : Scalar.cmpi .slt (W (cu L i).b) 4#32 = BitVec.ofBool true := by rw [kbit_W ab]; simp [hkk]
        have hv' : (cu L j).b * 6 + (cu L j).g < (cu L i).b * 6 + (cu L i).g := hvv
        have ev : Scalar.cmpi .sgt (Scalar.addi (Scalar.muli (W (cu L i).b) 6#32) (W (cu L i).g)) (Scalar.addi (Scalar.muli (W (cu L j).b) 6#32) (W (cu L j).g)) = BitVec.ofBool true := by
          rw [vbit_W ab ag bb bg]; simp [hv']
        have E1 := adv_to hL.1 true i (i + 1) rfl _ ek
        have E2 := adv_to hL.1 true j (j + 1) rfl _ ev
        have E3 := adv_to hL.1 true (i + 6) (i + 1 + 6) (by simp; try omega) _ ek
        have E4 := adv_to hL.1 true (j + 8) (j + 1 + 8) (by simp; try omega) _ ev
        have F1 := slot_to 6 (by decide) (by decide) true i (i + 1) rfl _ ek
        have F2 := slot_to 8 (by decide) (by decide) true j (j + 1) rfl _ ev
        have F3 := slot_to 16 (by decide) (by decide) true i (i + 1) rfl _ ek
        have F4 := slot_to 16 (by decide) (by decide) true j (j + 1) rfl _ ev
        unfold held
        iintro ⟨⟨HK, HV, ⟨%σ, %hσ, HB⟩, HW⟩, Hk⟩
        iapply (part22_A (f1 := f1) (f4 := f4) c (some (k + 1)) a0 p0 a1 p1 a12 p12 a13 p13 a14 p14 a15 p15 a16 p16 a17 p17 a4 p4 a8 p8 a18 p18 a7 p7 hL hj hkk hvv f5 f6) $$ [HK HV HB HW]
        · isplitl [HK]; · iexact HK
          isplitl [HV]; · iexact HV
          isplitl [HB]; · iexact HB
          iexact HW
        iintro %h24 %h20 %h17 %h14 %h7 %v60 %x0 ⟨HK, HV, ⟨%σ', %hs, HB⟩, HW⟩
        iapply (part23_V (f1 := f1) (f4 := f4) c (some (k + 1)) a0 p0 a1 p1 a12 p12 a13 p13 a14 p14 a15 p15 a16 p16 a17 p17 a4 p4 a8 p8 a18 p18 a7 p7 hL hj hvv f6 h24 h20 h14 h7 _ v60 x0) $$ [HV HB]
        · isplitl [HV]; · iexact HV
          iexact HB
        iintro %r23 %e23 ⟨HV, HB⟩
        iapply (part24_wp (f1 := f1) (f4 := f4) c (some (k + 1)) a0 p0 a1 p1 a12 p12 a13 p13 a14 p14 a15 p15 a16 p16 a17 p17 a4 p4 a8 p8 a18 p18 a7 p7 (W (cu L i).b) (W (cu L i).g) (W (cu L i).c) (W (cu L j).b) (W (cu L j).g) (W (cu L j).c) (W (cu L (i + 6)).b) (W (cu L (i + 6)).g) (W (cu L (i + 6)).c) (W (cu L (j + 8)).b) (W (cu L (j + 8)).g) (W (cu L (j + 8)).c) (W (i % 6)) (W (j % 8)) (W (i % 16)) (W (j % 16)) hL h7 _ _ r23.1 r23.2.1 r23.2.2.1 r23.2.2.2.1 r23.2.2.2.2.1 r23.2.2.2.2.2.1 r23.2.2.2.2.2.2.1 r23.2.2.2.2.2.2.2 (cu L i).b (offL ab)) $$ HB
        iintro HB
        iapply (part25_wp (f1 := f1) (f4 := f4) c (some (k + 1)) a0 p0 a1 p1 a12 p12 a13 p13 a14 p14 a15 p15 a16 p16 a17 p17 a4 p4 a8 p8 a18 p18 a7 p7 (W (cu L i).b) (W (cu L i).g) (W (cu L i).c) (W (cu L j).b) (W (cu L j).g) (W (cu L j).c) (W (cu L (i + 6)).b) (W (cu L (i + 6)).g) (W (cu L (i + 6)).c) (W (cu L (j + 8)).b) (W (cu L (j + 8)).g) (W (cu L (j + 8)).c) (W (i % 6)) (W (j % 8)) (W (i % 16)) (W (j % 16)) hL h24 _ _ _ _ _ (cu L j).b (offL bb)) $$ HB
        iintro HB
        iapply (part26_wp (f1 := f1) (f4 := f4) c (some (k + 1)) a0 p0 a1 p1 a12 p12 a13 p13 a14 p14 a15 p15 a16 p16 a17 p17 a4 p4 a8 p8 a18 p18 a7 p7 (W (cu L i).b) (W (cu L i).g) (W (cu L i).c) (W (cu L j).b) (W (cu L j).g) (W (cu L j).c) (W (cu L (i + 6)).b) (W (cu L (i + 6)).g) (W (cu L (i + 6)).c) (W (cu L (j + 8)).b) (W (cu L (j + 8)).g) (W (cu L (j + 8)).c) (W (i % 6)) (W (j % 8)) (W (i % 16)) (W (j % 16)) hL h17 _ _ _ _ _ _ _ (cu L (i + 6)).b (offL eb)) $$ HB
        iintro HB
        iapply (part27_wp (f1 := f1) (f4 := f4) c (some (k + 1)) a0 p0 a1 p1 a12 p12 a13 p13 a14 p14 a15 p15 a16 p16 a17 p17 a4 p4 a8 p8 a18 p18 a7 p7 (W (cu L i).b) (W (cu L i).g) (W (cu L i).c) (W (cu L j).b) (W (cu L j).g) (W (cu L j).c) (W (cu L (i + 6)).b) (W (cu L (i + 6)).g) (W (cu L (i + 6)).c) (W (cu L (j + 8)).b) (W (cu L (j + 8)).g) (W (cu L (j + 8)).c) (W (i % 6)) (W (j % 8)) (W (i % 16)) (W (j % 16)) hL h20 _ _ (cu L (j + 8)).b (offL pb)) $$ HB
        iintro HB
        iapply (wp_call_spec Variants.nat c.tc (some (k + 1)) Set.univ (spec (f0 := f0) (f1 := f1) (f4 := f4) c a0 a1 a12 a13 a14 a15 a16 a17 a4 a8 a18 a7 L I f5 f6 (i + 1) (j + 1)) k (fun u hu => by cases hu; exact Nat.lt_succ_self k)
          (ih' (i + 1) (j + 1) (hctl.stepKV hn hkk hvv) (by omega) _ _ _ _ _ _ _ _ _ _ _ _ _ _ _ _
            (congrArg Prod.fst E1) (congrArg (fun x => x.2.1) E1) (congrArg (fun x => x.2.2) E1) (congrArg Prod.fst E2) (congrArg (fun x => x.2.1) E2) (congrArg (fun x => x.2.2) E2)
            (congrArg Prod.fst E3) (congrArg (fun x => x.2.1) E3) (congrArg (fun x => x.2.2) E3) (congrArg Prod.fst E4) (congrArg (fun x => x.2.1) E4) (congrArg (fun x => x.2.2) E4)
            F1 F2 F3 F4))
        rw [spec_apply]
        isplitr [Hk]
        · unfold held
          isplitl [HK]; · iexact HK
          isplitl [HV]; · iexact HV
          isplitl [HB]
          · iexists _; isplitr [HB]; rotate_left
            · iexact HB
            · ipureintro; obtain ⟨σ1, h1, h2⟩ := hs; have h := hA i j σ σ1 σ' hctl hj hkk hvv hσ h1 h2; unfold nxO at h; rw [e23]; exact h
          iexact HW
        iintro %r HL
        rw [wp_ret]; imodintro
        iapply Hk; iexact HL
      · skip
        have ek : Scalar.cmpi .slt (W (cu L i).b) 4#32 = BitVec.ofBool true := by rw [kbit_W ab]; simp [hkk]
        have hv' : ¬ (cu L j).b * 6 + (cu L j).g < (cu L i).b * 6 + (cu L i).g := hvv
        have ev : Scalar.cmpi .sgt (Scalar.addi (Scalar.muli (W (cu L i).b) 6#32) (W (cu L i).g)) (Scalar.addi (Scalar.muli (W (cu L j).b) 6#32) (W (cu L j).g)) = BitVec.ofBool false := by
          rw [vbit_W ab ag bb bg]; simp [hv']
        have E1 := adv_to hL.1 true i (i + 1) rfl _ ek
        have E2 := adv_to hL.1 false j (j) rfl _ ev
        have E3 := adv_to hL.1 true (i + 6) (i + 1 + 6) (by simp; try omega) _ ek
        have E4 := adv_to hL.1 false (j + 8) (j + 8) (by simp) _ ev
        have F1 := slot_to 6 (by decide) (by decide) true i (i + 1) rfl _ ek
        have F2 := slot_to 8 (by decide) (by decide) false j (j) rfl _ ev
        have F3 := slot_to 16 (by decide) (by decide) true i (i + 1) rfl _ ek
        have F4 := slot_to 16 (by decide) (by decide) false j (j) rfl _ ev
        unfold held
        iintro ⟨⟨HK, HV, ⟨%σ, %hσ, HB⟩, HW⟩, Hk⟩
        iapply (part22_B (f1 := f1) (f4 := f4) c (some (k + 1)) a0 p0 a1 p1 a12 p12 a13 p13 a14 p14 a15 p15 a16 p16 a17 p17 a4 p4 a8 p8 a18 p18 a7 p7 hL hj hkk hvv f5 f6) $$ [HK HV HB HW]
        · isplitl [HK]; · iexact HK
          isplitl [HV]; · iexact HV
          isplitl [HB]; · iexact HB
          iexact HW
        iintro %h24 %h20 %h17 %h14 %h7 %v60 %x0 ⟨HK, HV, ⟨%σ', %hs, HB⟩, HW⟩
        iapply (part23_N (f1 := f1) (f4 := f4) c (some (k + 1)) a0 p0 a1 p1 a12 p12 a13 p13 a14 p14 a15 p15 a16 p16 a17 p17 a4 p4 a8 p8 a18 p18 a7 p7 hL hj hvv f6 h24 h20 h14 h7 _ v60 x0) $$ HB
        iintro %r23 %e23 HB
        iapply (part24_wp (f1 := f1) (f4 := f4) c (some (k + 1)) a0 p0 a1 p1 a12 p12 a13 p13 a14 p14 a15 p15 a16 p16 a17 p17 a4 p4 a8 p8 a18 p18 a7 p7 (W (cu L i).b) (W (cu L i).g) (W (cu L i).c) (W (cu L j).b) (W (cu L j).g) (W (cu L j).c) (W (cu L (i + 6)).b) (W (cu L (i + 6)).g) (W (cu L (i + 6)).c) (W (cu L (j + 8)).b) (W (cu L (j + 8)).g) (W (cu L (j + 8)).c) (W (i % 6)) (W (j % 8)) (W (i % 16)) (W (j % 16)) hL h7 _ _ r23.1 r23.2.1 r23.2.2.1 r23.2.2.2.1 r23.2.2.2.2.1 r23.2.2.2.2.2.1 r23.2.2.2.2.2.2.1 r23.2.2.2.2.2.2.2 (cu L i).b (offL ab)) $$ HB
        iintro HB
        iapply (part25_wp (f1 := f1) (f4 := f4) c (some (k + 1)) a0 p0 a1 p1 a12 p12 a13 p13 a14 p14 a15 p15 a16 p16 a17 p17 a4 p4 a8 p8 a18 p18 a7 p7 (W (cu L i).b) (W (cu L i).g) (W (cu L i).c) (W (cu L j).b) (W (cu L j).g) (W (cu L j).c) (W (cu L (i + 6)).b) (W (cu L (i + 6)).g) (W (cu L (i + 6)).c) (W (cu L (j + 8)).b) (W (cu L (j + 8)).g) (W (cu L (j + 8)).c) (W (i % 6)) (W (j % 8)) (W (i % 16)) (W (j % 16)) hL h24 _ _ _ _ _ (cu L j).b (offL bb)) $$ HB
        iintro HB
        iapply (part26_wp (f1 := f1) (f4 := f4) c (some (k + 1)) a0 p0 a1 p1 a12 p12 a13 p13 a14 p14 a15 p15 a16 p16 a17 p17 a4 p4 a8 p8 a18 p18 a7 p7 (W (cu L i).b) (W (cu L i).g) (W (cu L i).c) (W (cu L j).b) (W (cu L j).g) (W (cu L j).c) (W (cu L (i + 6)).b) (W (cu L (i + 6)).g) (W (cu L (i + 6)).c) (W (cu L (j + 8)).b) (W (cu L (j + 8)).g) (W (cu L (j + 8)).c) (W (i % 6)) (W (j % 8)) (W (i % 16)) (W (j % 16)) hL h17 _ _ _ _ _ _ _ (cu L (i + 6)).b (offL eb)) $$ HB
        iintro HB
        iapply (part27_wp (f1 := f1) (f4 := f4) c (some (k + 1)) a0 p0 a1 p1 a12 p12 a13 p13 a14 p14 a15 p15 a16 p16 a17 p17 a4 p4 a8 p8 a18 p18 a7 p7 (W (cu L i).b) (W (cu L i).g) (W (cu L i).c) (W (cu L j).b) (W (cu L j).g) (W (cu L j).c) (W (cu L (i + 6)).b) (W (cu L (i + 6)).g) (W (cu L (i + 6)).c) (W (cu L (j + 8)).b) (W (cu L (j + 8)).g) (W (cu L (j + 8)).c) (W (i % 6)) (W (j % 8)) (W (i % 16)) (W (j % 16)) hL h20 _ _ (cu L (j + 8)).b (offL pb)) $$ HB
        iintro HB
        iapply (wp_call_spec Variants.nat c.tc (some (k + 1)) Set.univ (spec (f0 := f0) (f1 := f1) (f4 := f4) c a0 a1 a12 a13 a14 a15 a16 a17 a4 a8 a18 a7 L I f5 f6 (i + 1) (j)) k (fun u hu => by cases hu; exact Nat.lt_succ_self k)
          (ih' (i + 1) (j) (hctl.stepK hn hj hkk hvv) (by omega) _ _ _ _ _ _ _ _ _ _ _ _ _ _ _ _
            (congrArg Prod.fst E1) (congrArg (fun x => x.2.1) E1) (congrArg (fun x => x.2.2) E1) (congrArg Prod.fst E2) (congrArg (fun x => x.2.1) E2) (congrArg (fun x => x.2.2) E2)
            (congrArg Prod.fst E3) (congrArg (fun x => x.2.1) E3) (congrArg (fun x => x.2.2) E3) (congrArg Prod.fst E4) (congrArg (fun x => x.2.1) E4) (congrArg (fun x => x.2.2) E4)
            F1 F2 F3 F4))
        rw [spec_apply]
        isplitr [Hk]
        · unfold held
          isplitl [HK]; · iexact HK
          isplitl [HV]; · iexact HV
          isplitl [HB]
          · iexists _; isplitr [HB]; rotate_left
            · iexact HB
            · ipureintro; have h := hB i j σ σ' hctl hj hkk hvv hσ hs; unfold nxO at h; rw [e23]; exact h
          iexact HW
        iintro %r HL
        rw [wp_ret]; imodintro
        iapply Hk; iexact HL
    · have hvv := hctl.doV_of hn1 hj hkk
      have ek : Scalar.cmpi .slt (W (cu L i).b) 4#32 = BitVec.ofBool false := by rw [kbit_W ab]; simp [hkk]
      have hv' : (cu L j).b * 6 + (cu L j).g < (cu L i).b * 6 + (cu L i).g := hvv
      have ev : Scalar.cmpi .sgt (Scalar.addi (Scalar.muli (W (cu L i).b) 6#32) (W (cu L i).g)) (Scalar.addi (Scalar.muli (W (cu L j).b) 6#32) (W (cu L j).g)) = BitVec.ofBool true := by
        rw [vbit_W ab ag bb bg]; simp [hv']
      have E1 := adv_to hL.1 false i (i) rfl _ ek
      have E2 := adv_to hL.1 true j (j + 1) rfl _ ev
      have E3 := adv_to hL.1 false (i + 6) (i + 6) (by simp) _ ek
      have E4 := adv_to hL.1 true (j + 8) (j + 1 + 8) (by simp; try omega) _ ev
      have F1 := slot_to 6 (by decide) (by decide) false i (i) rfl _ ek
      have F2 := slot_to 8 (by decide) (by decide) true j (j + 1) rfl _ ev
      have F3 := slot_to 16 (by decide) (by decide) false i (i) rfl _ ek
      have F4 := slot_to 16 (by decide) (by decide) true j (j + 1) rfl _ ev
      unfold held
      iintro ⟨⟨HK, HV, ⟨%σ, %hσ, HB⟩, HW⟩, Hk⟩
      iapply (part22_C (f1 := f1) (f4 := f4) c (some (k + 1)) a0 p0 a1 p1 a12 p12 a13 p13 a14 p14 a15 p15 a16 p16 a17 p17 a4 p4 a8 p8 a18 p18 a7 p7 hL hj hkk hvv f5 f6) $$ [HK HV HB HW]
      · isplitl [HK]; · iexact HK
        isplitl [HV]; · iexact HV
        isplitl [HB]; · iexact HB
        iexact HW
      iintro %h24 %h20 %h17 %h14 %h7 %v60 %x0 ⟨HK, HV, ⟨%σ', %hs, HB⟩, HW⟩
      iapply (part23_V (f1 := f1) (f4 := f4) c (some (k + 1)) a0 p0 a1 p1 a12 p12 a13 p13 a14 p14 a15 p15 a16 p16 a17 p17 a4 p4 a8 p8 a18 p18 a7 p7 hL hj hvv f6 h24 h20 h14 h7 _ v60 x0) $$ [HV HB]
      · isplitl [HV]; · iexact HV
        iexact HB
      iintro %r23 %e23 ⟨HV, HB⟩
      iapply (part24_wp (f1 := f1) (f4 := f4) c (some (k + 1)) a0 p0 a1 p1 a12 p12 a13 p13 a14 p14 a15 p15 a16 p16 a17 p17 a4 p4 a8 p8 a18 p18 a7 p7 (W (cu L i).b) (W (cu L i).g) (W (cu L i).c) (W (cu L j).b) (W (cu L j).g) (W (cu L j).c) (W (cu L (i + 6)).b) (W (cu L (i + 6)).g) (W (cu L (i + 6)).c) (W (cu L (j + 8)).b) (W (cu L (j + 8)).g) (W (cu L (j + 8)).c) (W (i % 6)) (W (j % 8)) (W (i % 16)) (W (j % 16)) hL h7 _ _ r23.1 r23.2.1 r23.2.2.1 r23.2.2.2.1 r23.2.2.2.2.1 r23.2.2.2.2.2.1 r23.2.2.2.2.2.2.1 r23.2.2.2.2.2.2.2 (cu L i).b (offL ab)) $$ HB
      iintro HB
      iapply (part25_wp (f1 := f1) (f4 := f4) c (some (k + 1)) a0 p0 a1 p1 a12 p12 a13 p13 a14 p14 a15 p15 a16 p16 a17 p17 a4 p4 a8 p8 a18 p18 a7 p7 (W (cu L i).b) (W (cu L i).g) (W (cu L i).c) (W (cu L j).b) (W (cu L j).g) (W (cu L j).c) (W (cu L (i + 6)).b) (W (cu L (i + 6)).g) (W (cu L (i + 6)).c) (W (cu L (j + 8)).b) (W (cu L (j + 8)).g) (W (cu L (j + 8)).c) (W (i % 6)) (W (j % 8)) (W (i % 16)) (W (j % 16)) hL h24 _ _ _ _ _ (cu L j).b (offL bb)) $$ HB
      iintro HB
      iapply (part26_wp (f1 := f1) (f4 := f4) c (some (k + 1)) a0 p0 a1 p1 a12 p12 a13 p13 a14 p14 a15 p15 a16 p16 a17 p17 a4 p4 a8 p8 a18 p18 a7 p7 (W (cu L i).b) (W (cu L i).g) (W (cu L i).c) (W (cu L j).b) (W (cu L j).g) (W (cu L j).c) (W (cu L (i + 6)).b) (W (cu L (i + 6)).g) (W (cu L (i + 6)).c) (W (cu L (j + 8)).b) (W (cu L (j + 8)).g) (W (cu L (j + 8)).c) (W (i % 6)) (W (j % 8)) (W (i % 16)) (W (j % 16)) hL h17 _ _ _ _ _ _ _ (cu L (i + 6)).b (offL eb)) $$ HB
      iintro HB
      iapply (part27_wp (f1 := f1) (f4 := f4) c (some (k + 1)) a0 p0 a1 p1 a12 p12 a13 p13 a14 p14 a15 p15 a16 p16 a17 p17 a4 p4 a8 p8 a18 p18 a7 p7 (W (cu L i).b) (W (cu L i).g) (W (cu L i).c) (W (cu L j).b) (W (cu L j).g) (W (cu L j).c) (W (cu L (i + 6)).b) (W (cu L (i + 6)).g) (W (cu L (i + 6)).c) (W (cu L (j + 8)).b) (W (cu L (j + 8)).g) (W (cu L (j + 8)).c) (W (i % 6)) (W (j % 8)) (W (i % 16)) (W (j % 16)) hL h20 _ _ (cu L (j + 8)).b (offL pb)) $$ HB
      iintro HB
      iapply (wp_call_spec Variants.nat c.tc (some (k + 1)) Set.univ (spec (f0 := f0) (f1 := f1) (f4 := f4) c a0 a1 a12 a13 a14 a15 a16 a17 a4 a8 a18 a7 L I f5 f6 (i) (j + 1)) k (fun u hu => by cases hu; exact Nat.lt_succ_self k)
        (ih' (i) (j + 1) (hctl.stepV hn hj hkk) (by omega) _ _ _ _ _ _ _ _ _ _ _ _ _ _ _ _
          (congrArg Prod.fst E1) (congrArg (fun x => x.2.1) E1) (congrArg (fun x => x.2.2) E1) (congrArg Prod.fst E2) (congrArg (fun x => x.2.1) E2) (congrArg (fun x => x.2.2) E2)
          (congrArg Prod.fst E3) (congrArg (fun x => x.2.1) E3) (congrArg (fun x => x.2.2) E3) (congrArg Prod.fst E4) (congrArg (fun x => x.2.1) E4) (congrArg (fun x => x.2.2) E4)
          F1 F2 F3 F4))
      rw [spec_apply]
      isplitr [Hk]
      · unfold held
        isplitl [HK]; · iexact HK
        isplitl [HV]; · iexact HV
        isplitl [HB]
        · iexists _; isplitr [HB]; rotate_left
          · iexact HB
          · ipureintro; have h := hC i j σ σ' hctl hj hkk hvv hσ hs; unfold nxO at h; rw [e23]; exact h
        iexact HW
      iintro %r HL
      rw [wp_ret]; imodintro
      iapply Hk; iexact HL

end Cert.KernelIdeal.Hand
-- ==== Proof.KI.Main.lean ====
module

public import proofs.«01_k».proof.Proof.KI.Pre
public import proofs.«01_k».proof.Proof.KI.While
public import Idealize.ShloMosaic.Lib.Pipeline.FrameBody
public import Idealize.ShloMosaic.Lib.Pipeline.DatRel
public import Idealize.ShloMosaic.Lib.Ring
public import Idealize.ShloMosaic.Lib.Tactic
public import Idealize.ShloMosaic.Lib.WordCmp
public import Idealize.ShloMosaic.Lib.VecWindow

@[expose] public section

set_option maxRecDepth 16384

/-!
The whole body: the prefetch loops, the codes, the loop over the items.
-/

noncomputable section

namespace Cert.KernelIdeal.Hand

open Cert.KernelIdeal Cert.KernelIdeal.Gen Cert.Words
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

attribute [local irreducible] cur

variable (c : Dev nD) (bd : Option Variants.nat.V) (a0 : Memref sig .tc .smem S4 .i32) (p0 : a0.IsWhole) (a1 : Memref sig .tc .vmem S24x8x160 .bf16) (p1 : a1.IsWhole) (a12 : Memref sig .tc .vmem S16x8x4096 .f32) (p12 : a12.IsWhole) (a13 : Memref sig .tc .vmem S8x128 .f32) (p13 : a13.IsWhole) (a14 : Memref sig .tc .vmem S24x8x128 .f32) (p14 : a14.IsWhole) (a15 : Memref sig .tc .vmem S8x128 .f32) (p15 : a15.IsWhole) (a16 : Memref sig .tc .vmem S8x160 .f32) (p16 : a16.IsWhole) (a17 : Memref sig .tc .vmem S6x4x160 .f32) (p17 : a17.IsWhole) (a4 : Memref sig .tc .vmem S6x4x160 .f32) (p4 : a4.IsWhole) (a8 : Memref sig .tc .vmem S24x8x160 .f32) (p8 : a8.IsWhole) (a18 : Memref sig .tc .vmem S6x4x160 .f32) (p18 : a18.IsWhole) (a7 : Memref sig .tc .vmem S24x8x160 .bf16) (p7 : a7.IsWhole)
variable {f0 : Buf (Elt F) (a0.view.loc (c : Thread nD τ))} {f1 : Buf (Elt F) (a1.view.loc (c : Thread nD τ))} {f4 : Buf (Elt F) (a4.view.loc (c : Thread nD τ))}
variable {σ : St F}

variable (a2 : Memref sig .tc .vmem S6x4x160 .bf16) (p2 : a2.IsWhole)
variable (a3 : Memref sig .tc .vmem S6x4x160 .bf16) (p3 : a3.IsWhole)
variable (a9 : Memref sig .tc .vmem S6x4x160 .fp8e4m3) (p9 : a9.IsWhole)
variable {L : ℕ → ℕ}

/-- A whole buffer held through its memref is held at every index. -/
theorem pt_whole (b : Ref sig .tc) {sp : CoreSpace} (f : Buf (Elt F) ((View.whole b).loc (c : Thread nD τ))) :
    (((View.whole b).loc (c : Thread nD τ) ↦[(View.whole b).set]{fullShare} f : sProp 𝕄)) = ((View.whole b).loc (c : Thread nD τ) ↦[Finset.univ]{fullShare} f) := by rw [View.set_whole]

/-- The transfers' side of the K operand: its cells at zero, the operand whole, the ring's buffer. -/
def sideK (f : Buf (Elt F) (hbmK c)) : sProp 𝕄 :=
  iprop((bigSep Finset.univ fun k : Fin 6 => (semVal ((c : Thread nD τ), cellK k) 0 : sProp 𝕄)) ∗ (hbmK c ↦[Finset.univ]{fullShare} f) ∗ ∃ g, (locK c ↦[Finset.univ]{fullShare} g))

/-- The transfers' side of the V operand: its cells at zero, the operand whole, the ring's buffer. -/
def sideV (f : Buf (Elt F) (hbmV c)) : sProp 𝕄 :=
  iprop((bigSep Finset.univ fun k : Fin 8 => (semVal ((c : Thread nD τ), cellV k) 0 : sProp 𝕄)) ∗ (hbmV c ↦[Finset.univ]{fullShare} f) ∗ ∃ g, (locV c ↦[Finset.univ]{fullShare} g))

/-- Loading the scales. -/
theorem ldB4 {α : Type} {Q : α → sProp 𝕄} {r : LoadRect S6x4x160} {hl : a4.view.LoadsAt r} {k : (r.shape.Idx → Elt F .f32) → Prog (TpuEff nD τ sig (Elt F) (Λ₀ F) .tc) α} :
    Bufs c a0 a1 a4 a12 a13 a14 a15 a16 a17 a18 a8 a7 f0 f1 f4 σ ⊢ iprop((Bufs c a0 a1 a4 a12 a13 a14 a15 a16 a17 a18 a8 a7 f0 f1 f4 σ -∗ wp frame (wpE (defs₀ (F := F)) Variants.nat (c : Thread nD τ) bd) Set.univ (k (a4.view.readAt (Elt F) r f4)) Q) -∗ wp frame (wpE (defs₀ (F := F)) Variants.nat (c : Thread nD τ) bd) Set.univ (.op (.load a4 r hl) k) Q) := by
  unfold Bufs
  iintro ⟨H0, H1, H4, H12, H13, H14, H15, H16, H17, H18, H8, H7⟩ Hk
  iapply (ld c bd) $$ H4; iintro H4
  iapply Hk
  isplitl [H0]; · iexact H0
  isplitl [H1]; · iexact H1
  isplitl [H4]; · iexact H4
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H8]; · iexact H8
  iexact H7

/-- Storing into buffer 17. -/
theorem stB17 {α : Type} {Q : α → sProp 𝕄} {o : Fin S6x4x160.rank → ℕ} {inb : ∀ a, o a + S6x4x160.size a ≤ S6x4x160.size a} {w : (Rect.unit (s := S6x4x160) o S6x4x160.size inb).shape.Idx → Elt F .f32} {hx : (a17.access (Rect.unit (s := S6x4x160) o S6x4x160.size inb)).Stores Finset.univ} {hm : Finset.univ = Finset.univ ∨ ∀ a, (Rect.unit (s := S6x4x160) o S6x4x160.size inb).stride a = 1} {k : PUnit → Prog (TpuEff nD τ sig (Elt F) (Λ₀ F) .tc) α} :
    Bufs c a0 a1 a4 a12 a13 a14 a15 a16 a17 a18 a8 a7 f0 f1 f4 σ ⊢ iprop((Bufs c a0 a1 a4 a12 a13 a14 a15 a16 a17 a18 a8 a7 f0 f1 f4 { σ with kn := w } -∗ wp frame (wpE (defs₀ (F := F)) Variants.nat (c : Thread nD τ) bd) Set.univ (k ⟨⟩) Q) -∗ wp frame (wpE (defs₀ (F := F)) Variants.nat (c : Thread nD τ) bd) Set.univ (.op (.store a17 (Rect.unit (s := S6x4x160) o S6x4x160.size inb) w Finset.univ hx hm) k) Q) := by
  unfold Bufs
  iintro ⟨H0, H1, H4, H12, H13, H14, H15, H16, H17, H18, H8, H7⟩ Hk
  iapply (stF c bd) $$ H17; iintro H17
  iapply Hk
  isplitl [H0]; · iexact H0
  isplitl [H1]; · iexact H1
  isplitl [H4]; · iexact H4
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H8]; · iexact H8
  iexact H7

/-- Storing into buffer 18. -/
theorem stB18 {α : Type} {Q : α → sProp 𝕄} {o : Fin S6x4x160.rank → ℕ} {inb : ∀ a, o a + S6x4x160.size a ≤ S6x4x160.size a} {w : (Rect.unit (s := S6x4x160) o S6x4x160.size inb).shape.Idx → Elt F .f32} {hx : (a18.access (Rect.unit (s := S6x4x160) o S6x4x160.size inb)).Stores Finset.univ} {hm : Finset.univ = Finset.univ ∨ ∀ a, (Rect.unit (s := S6x4x160) o S6x4x160.size inb).stride a = 1} {k : PUnit → Prog (TpuEff nD τ sig (Elt F) (Λ₀ F) .tc) α} :
    Bufs c a0 a1 a4 a12 a13 a14 a15 a16 a17 a18 a8 a7 f0 f1 f4 σ ⊢ iprop((Bufs c a0 a1 a4 a12 a13 a14 a15 a16 a17 a18 a8 a7 f0 f1 f4 { σ with vd := w } -∗ wp frame (wpE (defs₀ (F := F)) Variants.nat (c : Thread nD τ) bd) Set.univ (k ⟨⟩) Q) -∗ wp frame (wpE (defs₀ (F := F)) Variants.nat (c : Thread nD τ) bd) Set.univ (.op (.store a18 (Rect.unit (s := S6x4x160) o S6x4x160.size inb) w Finset.univ hx hm) k) Q) := by
  unfold Bufs
  iintro ⟨H0, H1, H4, H12, H13, H14, H15, H16, H17, H18, H8, H7⟩ Hk
  iapply (stF c bd) $$ H18; iintro H18
  iapply Hk
  isplitl [H0]; · iexact H0
  isplitl [H1]; · iexact H1
  isplitl [H4]; · iexact H4
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H8]; · iexact H8
  iexact H7

theorem part1_wp {α : Type} (hL : LensOk a0 c f0 L) (f5 : Buf (Elt F) (hbmK c)) (f6 : Buf (Elt F) (hbmV c)) (f3 : Buf (Elt F) (a3.view.loc (c : Thread nD τ)))
    {kk} {Q : α → sProp 𝕄} :
    iprop(sideK c f5 ∗ sideV c f6 ∗ Bufs c a0 a1 a4 a12 a13 a14 a15 a16 a17 a18 a8 a7 f0 f1 f4 σ ∗ pt c a3 f3 ∗ (∃ f9, pt c a9 f9)) ⊢ iprop((∀ x, ⌜x = k0_pay5 (F := F) (a3.view.read (Elt F) f3) (a4.view.read (Elt F) f4) (a4.view.read (Elt F) f4)⌝ -∗ ((RingK c L f5 (stK L 0) ∗ (hbmK c ↦[Finset.univ]{Transfers.shareDrop fullShare 6} f5)) ∗ (RingV c L f6 (stV L 0) ∗ (hbmV c ↦[Finset.univ]{Transfers.shareDrop fullShare 8} f6)) ∗ Bufs c a0 a1 a4 a12 a13 a14 a15 a16 a17 a18 a8 a7 f0 f1 f4 σ ∗ pt c a3 f3 ∗ (∃ f9, ⌜(a9.view.read (Elt F) f9 : S6x4x160.Idx → Elt F .fp8e4m3) = k0_pay4 (F := F) (a3.view.read (Elt F) f3) (a4.view.read (Elt F) f4)⌝ ∗ pt c a9 f9)) -∗
        wp frame (wpE (defs₀ (F := F)) Variants.nat (c : Thread nD τ) bd) Set.univ (kk ⟨W (cu L 6).b, W (cu L 6).g, W (cu L 6).c, W (cu L 8).b, W (cu L 8).g, W (cu L 8).c, x⟩) Q)
      -∗ wp frame (wpE (defs₀ (F := F)) Variants.nat (c : Thread nD τ) bd) Set.univ (k0_part1 (F := F) a0 p0 a1 p1 a2 p2 a3 p3 a4 p4 (Memref.whole main_v2) (isW _) (Memref.whole main_v4) (isW _) a7 p7 a8 p8 a9 p9 (Memref.whole cc0_scratch0) (isW _) (Memref.whole cc0_scratch1) (isW _) a12 p12 a13 p13 a14 p14 a15 p15 a16 p16 a17 p17 a18 p18 cc0_scratch9 cc0_scratch10 >>= kk) Q) := by
  rw [k0_part1_eq_skeleton]; unfold k0_part1_skel
  simp only [Prog.lift, Prog.bind_op, Prog.bind_ret, Prog.pure_eq_ret, Prog.bind_assoc]
  unfold sideK sideV
  iintro ⟨⟨HsK, HhK, %gK, HlK⟩, ⟨HsV, HhV, %gV, HlV⟩, HB, H3, ⟨%f9, H9⟩⟩ Hk
  icases (ringK_in c L f5 gK) $$ [HsK HhK HlK] with ⟨HR, HdK⟩
  · isplitl [HsK]; · iexact HsK
    isplitl [HhK]; · iexact HhK
    iexact HlK
  iapply (loopK (f0 := f0) (f1 := f1) (f4 := f4) c bd a0 p0 a1 p1 a12 p12 a13 p13 a14 p14 a15 p15 a16 p16 a17 p17 a4 p4 a8 p8 a18 p18 a7 p7 a2 p2 a3 p3 a9 p9 hL f5) $$ [HR HB]
  · isplitl [HR]; · iexact HR
    iexact HB
  iintro ⟨HRK, HB⟩
  ihave HlV := (BIBase.Entails.of_eq (pt_whole c cc0_scratch1 (sp := .vmem) gV).symm) $$ HlV
  iapply (ld c bd (m := Memref.whole cc0_scratch1)) $$ HlV; iintro HlV
  iapply (st c bd (m := Memref.whole cc0_scratch1)) $$ HlV; iintro HlV
  ihave HlV := (BIBase.Entails.of_eq (pt_whole c cc0_scratch1 (sp := .vmem) _)) $$ HlV
  icases (ringV_in c L f6 _) $$ [HsV HhV HlV] with ⟨HR, HdV⟩
  · isplitl [HsV]; · iexact HsV
    isplitl [HhV]; · iexact HhV
    iexact HlV
  iapply (loopV (f0 := f0) (f1 := f1) (f4 := f4) c bd a0 p0 a1 p1 a12 p12 a13 p13 a14 p14 a15 p15 a16 p16 a17 p17 a4 p4 a8 p8 a18 p18 a7 p7 a2 p2 a3 p3 a9 p9 hL f6) $$ [HR HB]
  · isplitl [HR]; · iexact HR
    iexact HB
  iintro ⟨HRV, HB⟩
  iapply (ld c bd (m := a3)) $$ H3; iintro H3
  iapply (ldB4 c bd a0 a1 a12 a13 a14 a15 a16 a17 a4 a8 a18 a7) $$ HB; iintro HB
  iapply (ld c bd (m := a9)) $$ H9; iintro H9
  iapply (st c bd (m := a9)) $$ H9; iintro H9
  iapply (ldB4 c bd a0 a1 a12 a13 a14 a15 a16 a17 a4 a8 a18 a7) $$ HB; iintro HB
  iapply Hk $$ %_ []
  · ipureintro; rw [View.readAt_full, View.readAt_full]
  isplitl [HRK HdK]
  · isplitl [HRK]; · iexact HRK
    iexact HdK
  isplitl [HRV HdV]
  · isplitl [HRV]; · iexact HRV
    iexact HdV
  isplitl [HB]; · iexact HB
  isplitl [H3]; · iexact H3
  iexists _
  isplitr
  rotate_left
  · iexact H9
  · ipureintro
    refine (View.read_writes_full a9.view f9 inb_S6x4x160_S6x4x160_0_0_0 _ []).trans ?_
    rw [View.readAt_full, View.readAt_full]; rfl

theorem spec_zero (I : ℕ → ℕ → St F → Prop) (hL : LensOk a0 c f0 L) (f5 : Buf (Elt F) (hbmK c)) (f6 : Buf (Elt F) (hbmV c))
    (hA : ∀ i j σ σ1 σ2, Ctl (nL L) i j → j < total (nL L) → doK (nL L) i → doV (nL L) i j → I i j σ → nxK c f5 (a1.view.read (Elt F) f1) L i σ σ1 → nxV c f6 L j σ1 σ2 → I (i + 1) (j + 1) (nxO (a1.view.read (Elt F) f1) (a4.view.read (Elt F) f4) L i j (nxM (a1.view.read (Elt F) f1) L i σ2)))
    (hB : ∀ i j σ σ1, Ctl (nL L) i j → j < total (nL L) → doK (nL L) i → ¬ doV (nL L) i j → I i j σ → nxK c f5 (a1.view.read (Elt F) f1) L i σ σ1 → I (i + 1) j (nxO (a1.view.read (Elt F) f1) (a4.view.read (Elt F) f4) L i j (nxM (a1.view.read (Elt F) f1) L i σ1)))
    (hC : ∀ i j σ σ1, Ctl (nL L) i j → j < total (nL L) → ¬ doK (nL L) i → doV (nL L) i j → I i j σ → nxV c f6 L j σ σ1 → I i (j + 1) (nxO (a1.view.read (Elt F) f1) (a4.view.read (Elt F) f4) L i j (nxM (a1.view.read (Elt F) f1) L i σ1))) (k : ℕ) (hk : total (nL L) + total (nL L) ≤ k) (K) :
    spec (f0 := f0) (f1 := f1) (f4 := f4) c a0 a1 a12 a13 a14 a15 a16 a17 a4 a8 a18 a7 L I f5 f6 0 0 K ⊢ wp frame (wpE (defs₀ (F := F)) Variants.nat (c : Thread nD τ) (some k)) Set.univ (defs₀ (F := F) .tc 1 ⟨a0, p0, cc0_scratch9, Memref.whole cc0_scratch0, Memref.isWhole_whole _, Memref.whole main_v2, Memref.isWhole_whole _, cc0_scratch10, Memref.whole cc0_scratch1, Memref.isWhole_whole _, Memref.whole main_v4, Memref.isWhole_whole _, a1, p1, a12, p12, a13, p13, a14, p14, a15, p15, a16, p16, a17, p17, a4, p4, a8, p8, a18, p18, a7, p7, 0#32, 0#32, 0#32, 0#32, 0#32, 0#32, (W (cu L 6).b), (W (cu L 6).g), (W (cu L 6).c), (W (cu L 8).b), (W (cu L 8).g), (W (cu L 8).c), 0#32, 0#32, 0#32, 0#32⟩) K := by
  have h := spec_le (f1 := f1) (f4 := f4) c a0 p0 a1 p1 a12 p12 a13 p13 a14 p14 a15 p15 a16 p16 a17 p17 a4 p4 a8 p8 a18 p18 a7 p7 L I hL f5 f6 hA hB hC k 0 0 Ctl.zero (by omega) K
  have e1 : W (cu L 0).b = 0#32 := congrArg Prod.fst (cu_zero L)
  have e2 : W (cu L 0).g = 0#32 := congrArg (fun x => x.2.1) (cu_zero L)
  have e3 : W (cu L 0).c = 0#32 := congrArg (fun x => x.2.2) (cu_zero L)
  simp only [e1, e2, e3, Nat.zero_add, Nat.zero_mod] at h
  exact h

theorem body_wp (I : ℕ → ℕ → St F → Prop) (hL : LensOk a0 c f0 L) (f5 : Buf (Elt F) (hbmK c)) (f6 : Buf (Elt F) (hbmV c)) (f2 : Buf (Elt F) (a2.view.loc (c : Thread nD τ))) (f3 : Buf (Elt F) (a3.view.loc (c : Thread nD τ)))
    (hA : ∀ i j σ σ1 σ2, Ctl (nL L) i j → j < total (nL L) → doK (nL L) i → doV (nL L) i j → I i j σ → nxK c f5 (a1.view.read (Elt F) f1) L i σ σ1 → nxV c f6 L j σ1 σ2 → I (i + 1) (j + 1) (nxO (a1.view.read (Elt F) f1) (a4.view.read (Elt F) f4) L i j (nxM (a1.view.read (Elt F) f1) L i σ2)))
    (hB : ∀ i j σ σ1, Ctl (nL L) i j → j < total (nL L) → doK (nL L) i → ¬ doV (nL L) i j → I i j σ → nxK c f5 (a1.view.read (Elt F) f1) L i σ σ1 → I (i + 1) j (nxO (a1.view.read (Elt F) f1) (a4.view.read (Elt F) f4) L i j (nxM (a1.view.read (Elt F) f1) L i σ1)))
    (hC : ∀ i j σ σ1, Ctl (nL L) i j → j < total (nL L) → ¬ doK (nL L) i → doV (nL L) i j → I i j σ → nxV c f6 L j σ σ1 → I i (j + 1) (nxO (a1.view.read (Elt F) f1) (a4.view.read (Elt F) f4) L i j (nxM (a1.view.read (Elt F) f1) L i σ1)))
    (h0 : I 0 0 { σ with vd := k0_pay1 (F := F) (k0_pay5 (F := F) (a3.view.read (Elt F) f3) (a4.view.read (Elt F) f4) (a4.view.read (Elt F) f4)), kn := k0_pay2 (F := F) (a2.view.read (Elt F) f2) }) :
    iprop(sideK c f5 ∗ sideV c f6 ∗ Bufs c a0 a1 a4 a12 a13 a14 a15 a16 a17 a18 a8 a7 f0 f1 f4 σ ∗ pt c a2 f2 ∗ pt c a3 f3 ∗ (∃ f9, pt c a9 f9) ∗ (∃ W0, owes c 0 W0)) ⊢ wp frame (wpE (defs₀ (F := F)) Variants.nat (c : Thread nD τ) none) Set.univ (cc0_gqa_decode (F := F) a0 p0 a1 p1 a2 p2 a3 p3 a4 p4 (Memref.whole main_v2) (isW _) (Memref.whole main_v4) (isW _) a7 p7 a8 p8 a9 p9 (Memref.whole cc0_scratch0) (isW _) (Memref.whole cc0_scratch1) (isW _) a12 p12 a13 p13 a14 p14 a15 p15 a16 p16 a17 p17 a18 p18 cc0_scratch9 cc0_scratch10)
      fun _ => iprop(sideK c f5 ∗ sideV c f6 ∗ (∃ σ : St F, ⌜∃ i j, Ctl (nL L) i j ∧ ¬ j < total (nL L) ∧ I i j σ⌝ ∗ Bufs c a0 a1 a4 a12 a13 a14 a15 a16 a17 a18 a8 a7 f0 f1 f4 σ) ∗ pt c a2 f2 ∗ pt c a3 f3 ∗ (∃ f9, ⌜(a9.view.read (Elt F) f9 : S6x4x160.Idx → Elt F .fp8e4m3) = k0_pay4 (F := F) (a3.view.read (Elt F) f3) (a4.view.read (Elt F) f4)⌝ ∗ pt c a9 f9) ∗ (∃ W0, owes c 0 W0)) := by
  rw [cc0_gqa_decode_eq_skeleton]; unfold cc0_gqa_decode_skel
  simp only [Prog.lift, Prog.bind_op, Prog.bind_ret, Prog.pure_eq_ret, Prog.bind_assoc]
  iintro ⟨HK, HV, HB, H2, H3, H9, HW⟩
  iapply (part1_wp (f0 := f0) (f1 := f1) (f4 := f4) c none a0 p0 a1 p1 a12 p12 a13 p13 a14 p14 a15 p15 a16 p16 a17 p17 a4 p4 a8 p8 a18 p18 a7 p7 a2 p2 a3 p3 a9 p9 hL f5 f6 f3) $$ [HK HV HB H3 H9]
  · isplitl [HK]; · iexact HK
    isplitl [HV]; · iexact HV
    isplitl [HB]; · iexact HB
    isplitl [H3]; · iexact H3
    iexact H9
  iintro %x %ex ⟨⟨HK, HdK⟩, ⟨HV, HdV⟩, HB, H3, H9⟩
  iapply (ldB18 c none a0 a1 a12 a13 a14 a15 a16 a17 a4 a8 a18 a7) $$ HB; iintro HB
  iapply (stB18 c none a0 a1 a12 a13 a14 a15 a16 a17 a4 a8 a18 a7) $$ HB; iintro HB
  iapply (ld c none (m := a2)) $$ H2; iintro H2
  iapply (ldB17 c none a0 a1 a12 a13 a14 a15 a16 a17 a4 a8 a18 a7) $$ HB; iintro HB
  iapply (stB17 c none a0 a1 a12 a13 a14 a15 a16 a17 a4 a8 a18 a7) $$ HB; iintro HB
  iapply (wp_call_spec Variants.nat (c : Thread nD τ) none Set.univ (spec (f0 := f0) (f1 := f1) (f4 := f4) c a0 a1 a12 a13 a14 a15 a16 a17 a4 a8 a18 a7 L I f5 f6 0 0) (total (nL L) + total (nL L)) (fun u hu => nomatch hu)
    (spec_zero (f1 := f1) (f4 := f4) c a0 p0 a1 p1 a12 p12 a13 p13 a14 p14 a15 p15 a16 p16 a17 p17 a4 p4 a8 p8 a18 p18 a7 p7 I hL f5 f6 hA hB hC _ le_rfl))
  rw [spec_apply]
  isplitl [HK HV HB HW]
  · unfold held
    isplitl [HK]; · iexact HK
    isplitl [HV]; · iexact HV
    isplitl [HB]
    · iexists _; isplitr [HB]; rotate_left
      · iexact HB
      · ipureintro; rw [ex, View.readAt_full]; exact h0
    iexact HW
  iintro %r HL
  unfold left
  icases HL with ⟨HK, HV, HB, HW⟩
  rw [wp_ret]; imodintro
  unfold sideK sideV
  isplitl [HK HdK]
  · iapply (ringK_out c L f5 (fun _ => default))
    isplitl [HK]; · iexact HK
    iexact HdK
  isplitl [HV HdV]
  · iapply (ringV_out c L f6 (fun _ => default))
    isplitl [HV]; · iexact HV
    iexact HdV
  isplitl [HB]; · iexact HB
  isplitl [H2]; · iexact H2
  isplitl [H3]; · iexact H3
  isplitl [H9]; · iexact H9
  iexact HW

end Cert.KernelIdeal.Hand
-- ==== Proof.Sums.lean ====
module

public import Mathlib.Data.EReal.Operations
public import Idealize.ShloMosaic.PureOps.Ideal

@[expose] public section

set_option maxRecDepth 16384

/-!
Sums and maxima over the extended reals, regrouped.

-/

noncomputable section

namespace Cert.Sums

open Idealize.ShloMosaic

open Finset

/-- The maximum of the first `k + 1` of a family, taken from the left. -/
def mxT (T : ℕ → EReal) : ℕ → EReal
  | 0 => T 0
  | k + 1 => max (mxT T k) (T (k + 1))

theorem mxT_sup (T : ℕ → EReal) (k : ℕ) : mxT T k = (range (k + 1)).sup T := by
  induction k with
  | zero => simp [mxT]
  | succ k ih => rw [mxT, ih, range_add_one (n := k + 1), sup_insert, sup_comm]

theorem sup_app (f : ℕ → EReal) (a b : ℕ) : (range (a + b)).sup f = max ((range a).sup f) ((range b).sup fun x => f (a + x)) := by
  refine le_antisymm (Finset.sup_le fun x hx => ?_) (max_le (Finset.sup_le fun x hx => ?_) (Finset.sup_le fun x hx => ?_))
  · rcases Nat.lt_or_ge x a with h | h
    · exact le_max_of_le_left (Finset.le_sup (f := f) (mem_range.2 h))
    · refine le_max_of_le_right ?_
      have := Finset.le_sup (f := fun x => f (a + x)) (s := range b) (b := x - a) (mem_range.2 (by have := mem_range.1 hx; omega))
      simpa [Nat.add_sub_cancel' h] using this
  · exact Finset.le_sup (f := f) (mem_range.2 (by have := mem_range.1 hx; omega))
  · exact Finset.le_sup (f := f) (b := a + x) (mem_range.2 (by have := mem_range.1 hx; omega))

/-- A maximum over lanes of maxima over tiles is one maximum. -/
theorem sup_tiles (f : ℕ → EReal) (n : ℕ) : ((univ : Finset (Fin 128)).sup fun l => (range n).sup fun t => f (128 * t + l.val)) = (range (128 * n)).sup f := by
  refine le_antisymm (Finset.sup_le fun l _ => Finset.sup_le fun t ht => ?_) (Finset.sup_le fun x hx => ?_)
  · exact Finset.le_sup (f := f) (mem_range.2 (by have := mem_range.1 ht; have := l.isLt; omega))
  · have hx := mem_range.1 hx
    have h1 := Finset.le_sup (f := fun t => f (128 * t + x % 128)) (s := range n) (b := x / 128) (mem_range.2 (by omega))
    have h2 := Finset.le_sup (f := fun l : Fin 128 => (range n).sup fun t => f (128 * t + l.val)) (s := univ) (b := ⟨x % 128, Nat.mod_lt _ (by omega)⟩) (mem_univ _)
    have h3 : 128 * (x / 128) + x % 128 = x := Nat.div_add_mod x 128
    simp only [h3] at h1
    exact h1.trans h2

/-- A sum over lanes of sums over tiles is one sum. -/
theorem sum_tiles (f : ℕ → EReal) (n : ℕ) : (∑ l : Fin 128, ∑ t ∈ range n, f (128 * t + l.val)) = ∑ x ∈ range (128 * n), f x := by
  induction n with
  | zero => simp
  | succ n ih =>
    rw [Nat.mul_succ, sum_range_add, ← ih, sum_range (fun x => f (128 * n + x)), ← sum_add_distrib]
    exact sum_congr rfl fun l _ => sum_range_succ _ _

/-- A fold of maxima from nothing is the least upper bound. -/
theorem fold_sup {n : ℕ} (f : Fin n → EReal) : (univ : Finset (Fin n)).fold max ⊥ f = univ.sup f := rfl

theorem sup_fin (f : ℕ → EReal) (n : ℕ) : ((univ : Finset (Fin n)).sup fun x => f x.val) = (range n).sup f := by
  refine le_antisymm (Finset.sup_le fun x _ => Finset.le_sup (f := f) (mem_range.2 x.isLt)) (Finset.sup_le fun x hx => ?_)
  exact Finset.le_sup (f := fun x : Fin n => f x.val) (b := ⟨x, mem_range.1 hx⟩) (mem_univ _)

/-- Past the end of what counts, a maximum stays. -/
theorem sup_ext (f : ℕ → EReal) {a b : ℕ} (h : a ≤ b) (hf : ∀ x, a ≤ x → f x = ⊥) : (range a).sup f = (range b).sup f := by
  obtain ⟨k, rfl⟩ := Nat.exists_eq_add_of_le h
  rw [sup_app, show ((range k).sup fun x => f (a + x)) = ⊥ from Finset.sup_eq_bot_iff _ _ |>.2 fun x _ => hf _ (by omega)]
  simp

/-- Past the end of what counts, a sum stays. -/
theorem sum_ext (f : ℕ → EReal) {a b : ℕ} (h : a ≤ b) (hf : ∀ x, a ≤ x → f x = 0) : (∑ x ∈ range a, f x) = ∑ x ∈ range b, f x := by
  obtain ⟨k, rfl⟩ := Nat.exists_eq_add_of_le h
  rw [sum_range_add, sum_eq_zero (s := range k) fun x _ => hf _ (by omega), add_zero]

theorem bits_bot : Ideal.ofBits .f32 0xFF800000#32 = ⊥ := by simp [Ideal.ofBits, Ideal.ieee]

theorem bits_zero : Ideal.ofBits .f32 0x00000000#32 = 0 := by simp [Ideal.ofBits, Ideal.ieee]

theorem bits_448 : (0 : EReal) ≤ Ideal.ofBits .f32 0x43E00000#32 := by
  simp [Ideal.ofBits, Ideal.ieee]
  try positivity

theorem exp_bot (x : EReal) : Ideal.exp (⊥ - x) = 0 := by
  rw [EReal.bot_sub]; rfl

theorem clip_zero : min (0 * Ideal.ofBits .f32 0x43E00000#32) (Ideal.ofBits .f32 0x43E00000#32) = 0 := by
  rw [zero_mul]; exact min_eq_left bits_448

end Cert.Sums
-- ==== Proof.KI.Pay.lean ====
module

public import proofs.«01_k».proof.Proof.KI.Acc
public import proofs.«01_k».proof.Proof.Sums
public import Idealize.ShloMosaic.Lib.Pointwise
public import Idealize.ShloMosaic.Lib.Pipeline.Value
public import Idealize.ShloMosaic.PureOps.Ideal.Laws

@[expose] public section

set_option maxRecDepth 16384

/-!
The body's arithmetic over the extended reals, element by element.

-/

noncomputable section

namespace Cert.KernelIdeal.Hand

open Cert.KernelIdeal Cert.KernelIdeal.Gen Cert.Words
open Idealize.ShloMosaic Idealize.ShloMosaic.TcCoe Idealize.ShloMosaic.Tactic

open Cert.Sums

/-- The scale of the scores. -/
abbrev cS : EReal := Ideal.ofBits .f32 0x3DA1E89B#32
/-- The weights' scale and their bound. -/
abbrev cP : EReal := Ideal.ofBits .f32 0x43E00000#32
/-- One over the weights' scale. -/
abbrev cI : EReal := Ideal.ofBits .f32 0x3B124925#32

theorem pay6_at (a : BitVec 32) (q : S1x8x160.Idx → EReal) (kb : S1x160x4096.Idx → EReal) (n : BitVec 32) (r : Fin 8) (x : Fin 4096) :
    k0_pay6 (F := Ideal) a q kb n (ix2 r x) = Scalar.select (Scalar.cmpi .slt (BitVec.ofNat 32 x.val) (Scalar.subi n (Scalar.muli a 4096#32)))
      ((∑ d, q (ix3 0 r d) * kb (ix3 0 d x)) * cS) ⊥ := by
  rw [← bits_bot]
  unfold k0_pay6
  pointwise
  rfl

/-- Tile `t` of a row of scores at a lane. -/
def tl (s : S8x4096.Idx → EReal) (r : Fin 8) (l : Fin 128) (t : ℕ) : EReal :=
  if h : t < 32 then s (ix2 r ⟨128 * t + l.val, by have := l.isLt; omega⟩) else ⊥

theorem pay8_at (a : BitVec 32) (q : S1x8x160.Idx → EReal) (kb : S1x160x4096.Idx → EReal) (n : BitVec 32) (r : Fin 8) (l : Fin 128) :
    k0_pay8 (F := Ideal) a q kb n (ix2 r l) = mxT (tl (k0_pay6 (F := Ideal) a q kb n) r l) 10 := by
  unfold k0_pay8
  generalize k0_pay6 (F := Ideal) a q kb n = s
  pointwise
  simp only [mxT, tl]
  simp only [Nat.zero_add, Nat.reduceLT, Nat.reduceMul, Nat.reduceAdd, dite_true, dif_pos]
  try rfl

theorem pay9_at (a : BitVec 32) (q : S1x8x160.Idx → EReal) (kb : S1x160x4096.Idx → EReal) (n : BitVec 32) (r : Fin 8) (l : Fin 128) :
    k0_pay9 (F := Ideal) a q kb n (ix2 r l) = tl (k0_pay6 (F := Ideal) a q kb n) r l 11 := by
  unfold k0_pay9
  generalize k0_pay6 (F := Ideal) a q kb n = s
  pointwise
  rfl

theorem pay10_at (a : BitVec 32) (s : S8x4096.Idx → EReal) (u v w : S8x128.Idx → EReal) (r : Fin 8) (l : Fin 128)
    (hu : u (ix2 r l) = mxT (tl s r l) 10) (hv : v (ix2 r l) = tl s r l 11) :
    k0_pay10 (F := Ideal) a s u v w (ix2 r l) = Scalar.select (Scalar.cmpi .eq a 0#32) ((Finset.range 32).sup (tl s r l)) (max ((Finset.range 32).sup (tl s r l)) (w (ix2 r l))) := by
  rw [← mxT_sup (tl s r l) 31]
  unfold k0_pay10
  pointwise
  rw [hu, hv]
  rfl

theorem pay162_at (a : S1x8x128.Idx → EReal) (q : S1x8x160.Idx → EReal) (k : S1x1x160.Idx → EReal) (r : Fin 8) :
    k0_pay162 (F := Ideal) a q k (ix2 r 0) = Ideal.exp ((∑ d, q (ix3 0 r d) * k (ix3 0 0 d)) * cS - a (ix3 0 r 0)) := by
  unfold k0_pay162
  pointwise

theorem pay163_at (a : S1x8x128.Idx → EReal) (q : S1x8x160.Idx → EReal) (k : S1x1x160.Idx → EReal) (l : S8x128.Idx → EReal) (r : Fin 8) :
    k0_pay163 (F := Ideal) a q k l (ix2 r 0) = (∑ x, l (ix2 r x)) + k0_pay162 (F := Ideal) a q k (ix2 r 0) := by
  unfold k0_pay163
  generalize k0_pay162 (F := Ideal) a q k = y
  pointwise

theorem pay164_at (a : S1x8x128.Idx → EReal) (q : S1x8x160.Idx → EReal) (k : S1x1x160.Idx → EReal) (l : S8x128.Idx → EReal) (acc : S8x160.Idx → EReal) (vs : S1x1x160.Idx → EReal) (r : Fin 8) (d : Fin 160) :
    k0_pay164 (F := Ideal) a q k l acc vs (ix2 r d) = Ideal.div (acc (ix2 r d) * cI * vs (ix3 0 0 d)) (k0_pay163 (F := Ideal) a q k l (ix2 r 0)) := by
  unfold k0_pay164
  generalize k0_pay163 (F := Ideal) a q k l = y
  pointwise

theorem pay168_at (a : S8x128.Idx → EReal) (q : S1x8x160.Idx → EReal) (k : S1x1x160.Idx → EReal) (r : Fin 8) (x : Fin 128) :
    k0_pay168 (F := Ideal) a q k (ix3 0 r x) = max (Finset.univ.sup fun l : Fin 128 => a (ix2 r l)) ((∑ d, q (ix3 0 r d) * k (ix3 0 0 d)) * cS) := by
  rw [← fold_sup, ← bits_bot]
  unfold k0_pay168
  pointwise

theorem pay169_at (a : S8x160.Idx → EReal) (r : Fin 8) (d : Fin 160) : k0_pay169 (F := Ideal) a (ix3 0 r d) = a (ix2 r d) := by
  unfold k0_pay169
  pointwise

theorem pay170_at (a b : S8x1.Idx → EReal) (o : S8x160.Idx → EReal) (v : S1x1x160.Idx → EReal) (r : Fin 8) (d : Fin 160) :
    k0_pay170 (F := Ideal) a b o v (ix3 0 r d) = o (ix2 r d) + Ideal.div (a (ix2 r 0) * v (ix3 0 0 d)) (b (ix2 r 0)) := by
  unfold k0_pay170
  pointwise

/-- A tile's weights. -/
theorem tE_at (σ : St Ideal) (m : S8x128.Idx → EReal) (w t : ℕ) (r : Fin 8) (l : Fin 128) :
    tE (F := Ideal) σ m w t (ix2 r l) = Ideal.exp (tT σ w t (ix3 0 r l) - m (ix2 r l)) := by
  unfold tE tS
  pointwise

theorem tC_at (σ : St Ideal) (m : S8x128.Idx → EReal) (w t : ℕ) (r : Fin 8) (l : Fin 128) :
    tC (F := Ideal) σ m w t (ix2 r l) = min (Ideal.exp (tT σ w t (ix3 0 r l) - m (ix2 r l)) * cP) cP := by
  unfold tC tU tE tS
  pointwise

/-- The lane sums grow by the tiles' weights. -/
theorem tL_at (σ : St Ideal) (a : BitVec 32) (m : S8x128.Idx → EReal) (w k : ℕ) (r : Fin 8) (l : Fin 128) :
    tL (F := Ideal) σ a m w k (ix2 r l) = Scalar.select (Scalar.cmpi .eq a 0#32) 0 (σ.l (ix2 r l)) + ∑ t ∈ Finset.range k, tE (F := Ideal) σ m w t (ix2 r l) := by
  induction k with
  | zero =>
    rw [Finset.range_zero, Finset.sum_empty, add_zero, ← bits_zero]
    unfold tL tZ
    pointwise
  | succ k ih =>
    rw [Finset.sum_range_succ, ← add_assoc, ← ih]
    rfl

theorem tN_at (σ : St Ideal) (a : BitVec 32) (m : S8x128.Idx → EReal) (w : ℕ) (r : Fin 8) (l : Fin 128) :
    tN (F := Ideal) σ a m w (ix2 r l) = tL (F := Ideal) σ a m w 32 (ix2 r l) := by
  unfold tN
  generalize tL (F := Ideal) σ a m w 32 = y
  pointwise

theorem tW_at (σ : St Ideal) (m : S8x128.Idx → EReal) (w : ℕ) (r : Fin 8) (x : Fin 4096) :
    tW (F := Ideal) σ m w (ix2 r x) = tC (F := Ideal) σ m w (x.val / 128) (ix2 r ⟨x.val % 128, Nat.mod_lt _ (by omega)⟩) := by
  unfold tW
  exact concatenate_ofFn_apply (t := S8x4096) (s₁ := S8x128) 1 (N := 32) (fun t : Fin 32 => tC (F := Ideal) σ m w t.val) _ rfl 128 rfl (ix2 r x)
    ⟨x.val / 128, by have := x.isLt; omega⟩ rfl (ix2 r ⟨x.val % 128, Nat.mod_lt _ (by omega)⟩) rfl (fun b hb => by fin_cases b; · rfl
                                                                                                                   · exact absurd rfl hb)

theorem tV_at (σ : St Ideal) (m : S8x128.Idx → EReal) (w : ℕ) (Vb : S1x160x4096.Idx → EReal) (r : Fin 8) (d : Fin 160) :
    tV (F := Ideal) σ m w Vb (ix2 r d) = ∑ x : Fin 4096, tW (F := Ideal) σ m w (ix2 r x) * Vb (ix3 0 d x) := by
  unfold tV
  generalize tW (F := Ideal) σ m w = y
  pointwise

theorem tA_at (σ : St Ideal) (a : BitVec 32) (m : S8x128.Idx → EReal) (w : ℕ) (Vb : S1x160x4096.Idx → EReal) (r : Fin 8) (d : Fin 160) :
    shapeCast S8x160 (tA (F := Ideal) σ a m w Vb) shapeCasts_S8x160_S8x160 (ix2 r d)
      = Scalar.select (Scalar.cmpi .eq a 0#32) (tV (F := Ideal) σ m w Vb (ix2 r d)) (σ.acc (ix2 r d) + tV (F := Ideal) σ m w Vb (ix2 r d)) := by
  unfold tA
  generalize tV (F := Ideal) σ m w Vb = y
  pointwise

theorem pay2_at (k : S6x4x160.Idx → EReal) (j : S6x4x160.Idx) : k0_pay2 (F := Ideal) k j = k j := by
  unfold k0_pay2
  pointwise

theorem pay15_at (v s : S6x4x160.Idx → EReal) (j : S6x4x160.Idx) : k0_pay1 (F := Ideal) (k0_pay5 (F := Ideal) v s s) j = k0_pay4 (F := Ideal) v s j * s j := by
  unfold k0_pay1 k0_pay5
  generalize k0_pay4 (F := Ideal) v s = y
  pointwise

end Cert.KernelIdeal.Hand
-- ==== Proof.Spec.lean ====
module

public import proofs.«01_k».proof.Proof.Sums

@[expose] public section

set_option maxRecDepth 16384

/-!
The attention both programs compute, pair by pair, over the extended reals.

-/

noncomputable section

namespace Cert.Spec

open Idealize.ShloMosaic Cert.Sums

/-- The scale of the scores. -/
abbrev cS : EReal := Ideal.ofBits .f32 0x3DA1E89B#32
/-- The weights' scale and their bound. -/
abbrev cP : EReal := Ideal.ofBits .f32 0x43E00000#32
/-- One over the weights' scale. -/
abbrev cI : EReal := Ideal.ofBits .f32 0x3B124925#32

/-- The head of a pair. -/
abbrev pH (p : Fin 24) : Fin 6 := ⟨p.val % 6, Nat.mod_lt _ (by omega)⟩
/-- The sequence of a pair. -/
abbrev pS (p : Fin 24) : Fin 4 := ⟨p.val / 6, by have := p.isLt; omega⟩

/-- What a pair of sequence and key head is given: queries, cached keys and value codes, the new key, the new value, the value scales, and the sequence's length. -/
@[ext] structure Env where
  q : Fin 24 → Fin 8 → Fin 160 → EReal
  k : Fin 24 → Fin 160 → Fin 32768 → EReal
  v : Fin 24 → Fin 160 → Fin 32768 → EReal
  kn : Fin 24 → Fin 160 → EReal
  vd : Fin 24 → Fin 160 → EReal
  vs : Fin 24 → Fin 160 → EReal
  L : Fin 24 → ℕ

/-- A position of the cache. -/
abbrev px (x : ℕ) : Fin 32768 := ⟨x % 32768, Nat.mod_lt _ (by omega)⟩

namespace Env

variable (E : Env) (p : Fin 24) (r : Fin 8)

/-- The score of position `x`: nothing past the end. -/
def Sc (x : ℕ) : EReal := if x < E.L p then (∑ d, E.q p r d * E.k p d (px x)) * cS else ⊥
/-- The new token's score. -/
def N : EReal := (∑ d, E.q p r d * E.kn p d) * cS
/-- The greatest score. -/
def M : EReal := max ((Finset.range 32768).sup (E.Sc p r)) (E.N p r)
/-- The weight of position `x`. -/
def Ex (x : ℕ) : EReal := Ideal.exp (E.Sc p r x - E.M p r)
/-- The weight scaled and clipped. -/
def Cw (x : ℕ) : EReal := min (E.Ex p r x * cP) cP
/-- The new token's weight. -/
def En : EReal := Ideal.exp (E.N p r - E.M p r)
/-- The sum of the weights. -/
def Ls : EReal := (∑ x ∈ Finset.range 32768, E.Ex p r x) + E.En p r
/-- The weighted sum of the value codes. -/
def Ac (d : Fin 160) : EReal := ∑ x ∈ Finset.range 32768, E.Cw p r x * E.v p d (px x)
/-- The cache's share of the result. -/
def OC (d : Fin 160) : EReal := Ideal.div (E.Ac p r d * cI * E.vs p d) (E.Ls p r)
/-- The result. -/
def OU (d : Fin 160) : EReal := E.OC p r d + Ideal.div (E.En p r * E.vd p d) (E.Ls p r)

variable {E p r}

theorem Sc_end {x : ℕ} (h : E.L p ≤ x) : E.Sc p r x = ⊥ := if_neg (by omega)
theorem Ex_end {x : ℕ} (h : E.L p ≤ x) : E.Ex p r x = 0 := by unfold Ex; rw [Sc_end h]; exact exp_bot _
theorem Cw_end {x : ℕ} (h : E.L p ≤ x) : E.Cw p r x = 0 := by unfold Cw; rw [Ex_end h]; exact clip_zero

end Env

end Cert.Spec
-- ==== Proof.KI.Inv.lean ====
module

public import proofs.«01_k».proof.Proof.KI.Pay
public import proofs.«01_k».proof.Proof.Spec

@[expose] public section

set_option maxRecDepth 16384

/-!
What the walk over the items has computed, over the extended reals, and that each trip keeps it.

-/

noncomputable section

namespace Cert.KernelIdeal.Hand

open Cert.KernelIdeal Cert.KernelIdeal.Gen Cert.Words
open Idealize.ShloMosaic Idealize.ShloMosaic.TcCoe Idealize.ShloMosaic.Tactic

open Cert.Sums Cert.Spec

/-- The head of a pair. -/
abbrev hd (p : Fin 24) : Fin 6 := ⟨p.val % 6, Nat.mod_lt _ (by omega)⟩
/-- The sequence of a pair. -/
abbrev sq (p : Fin 24) : Fin 4 := ⟨p.val / 6, by have := p.isLt; omega⟩

/-- The operands are what the pairs are given. -/
structure Ok (c : Dev nD) (E : Env) (q : S24x8x160.Idx → EReal) (f5 : Buf (Elt Ideal) (hbmK c)) (f6 : Buf (Elt Ideal) (hbmV c)) (vs : S6x4x160.Idx → EReal) (L : ℕ → ℕ) : Prop where
  q : ∀ p r d, q (ix3 p r d) = E.q p r d
  k : ∀ p d x, (f5 : S24x160x32768.Idx → EReal) (ix3 p d x) = E.k p d x
  v : ∀ p d x, (f6 : S24x160x32768.Idx → EReal) (ix3 p d x) = E.v p d x
  vs : ∀ p d, vs (ix3 (hd p) (sq p) d) = E.vs p d
  len : ∀ p, E.L p = lw L (sq p).val
  le : ∀ b, L b ≤ 32768

/-- The running maximum after `n` chunks of pair `p`. -/
def PM (E : Env) (p : Fin 24) (n : ℕ) (σ : St Ideal) : Prop :=
  ∀ r, (Finset.univ.sup fun l : Fin 128 => σ.mr (ix2 r l)) = (Finset.range (4096 * n)).sup (E.Sc p r)
/-- The running sums after `n` chunks of pair `p`. -/
def PL (E : Env) (p : Fin 24) (n : ℕ) (σ : St Ideal) : Prop :=
  ∀ r, (∑ l : Fin 128, σ.l (ix2 r l)) = ∑ x ∈ Finset.range (4096 * n), E.Ex p r x
/-- The running products after `n` chunks of pair `p`. -/
def PA (E : Env) (p : Fin 24) (n : ℕ) (σ : St Ideal) : Prop :=
  ∀ r d, σ.acc (ix2 r d) = ∑ x ∈ Finset.range (4096 * n), E.Cw p r x * E.v p d (px x)
/-- The row of the score ring that item `k` fills. -/
def PS (E : Env) (L : ℕ → ℕ) (k : ℕ) (σ : St Ideal) : Prop :=
  ∀ p : Fin 24, p.val = (cu L k).pair → ∀ r (x : Fin 4096), σ.s (ix3 ⟨k % 16, Nat.mod_lt _ (by omega)⟩ r x) = E.Sc p r (4096 * (cu L k).c + x.val)

/-- What has been computed after `i` key items and `j` value items. -/
structure Inv (E : Env) (L : ℕ → ℕ) (i j : ℕ) (σ : St Ideal) : Prop where
  s : ∀ k, j ≤ k → k < i → PS E L k σ
  mr : ∀ p : Fin 24, p.val = (cu L i).pair → 1 ≤ (cu L i).c → PM E p (cu L i).c σ
  mf : ∀ p : Fin 24, p.val < (cu L i).pair → ∀ r (l : Fin 128), σ.mf (ix3 p r l) = E.M p r
  la : ∀ p : Fin 24, p.val = (cu L j).pair → 1 ≤ (cu L j).c → PL E p (cu L j).c σ ∧ PA E p (cu L j).c σ
  kn : ∀ (p : Fin 24) d, σ.kn (ix3 (hd p) (sq p) d) = E.kn p d
  vd : ∀ (p : Fin 24) d, σ.vd (ix3 (hd p) (sq p) d) = E.vd p d
  o : ∀ p : Fin 24, p.val < (cu L j).pair → ∀ r d, σ.oc (ix3 p r d) = E.OC p r d ∧ σ.ou (ix3 p r d) = E.OU p r d

/-! Where the boxes lie. -/

theorem row_W {b g : ℕ} {p : Fin 24} (h : p.val = b * 6 + g) : rowOf (W b) (W g) = ![p.val, 0, 0] := by
  unfold rowOf
  have := p.isLt
  rw [show (6#32 : BitVec 32) = W 6 from rfl, muli_W, addi_W, toNat_W (by omega), h]

theorem col_W {b g : ℕ} {p : Fin 24} (h : p.val = b * 6 + g) (hg : g < 6) : colOf (W b) (W g) = ![(hd p).val, (sq p).val, 0] := by
  unfold colOf
  have := p.isLt
  rw [toNat_W (by omega), toNat_W (by omega)]
  have e1 : g = p.val % 6 := by omega
  have e2 : b = p.val / 6 := by omega
  show ![g, b, 0] = ![p.val % 6, p.val / 6, 0]
  rw [← e1, ← e2]

theorem tile_q {α : Type} (v : S24x8x160.Idx → α) (p : Fin 24) (r : Fin 8) (d : Fin 160) : tile v ![p.val, 0, 0] S1x8x160.size (ix3 0 r d) = v (ix3 p r d) := by
  unfold tile
  refine congrArg v (funext fun a => Fin.ext ?_)
  have h1 := p.isLt; have h2 := r.isLt; have h3 := d.isLt
  fin_cases a
  · show (p.val + 0) % 24 = p.val; omega
  · show (0 + r.val) % 8 = r.val; omega
  · show (0 + d.val) % 160 = d.val; omega

theorem tile_m {α : Type} (v : S24x8x128.Idx → α) (p : Fin 24) (r : Fin 8) (d : Fin 128) : tile v ![p.val, 0, 0] S1x8x128.size (ix3 0 r d) = v (ix3 p r d) := by
  unfold tile
  refine congrArg v (funext fun a => Fin.ext ?_)
  have h1 := p.isLt; have h2 := r.isLt; have h3 := d.isLt
  fin_cases a
  · show (p.val + 0) % 24 = p.val; omega
  · show (0 + r.val) % 8 = r.val; omega
  · show (0 + d.val) % 128 = d.val; omega

theorem tile_n {α : Type} (v : S6x4x160.Idx → α) (g : Fin 6) (b : Fin 4) (d : Fin 160) : tile v ![g.val, b.val, 0] S1x1x160.size (ix3 0 0 d) = v (ix3 g b d) := by
  unfold tile
  refine congrArg v (funext fun a => Fin.ext ?_)
  have h1 := g.isLt; have h2 := b.isLt; have h3 := d.isLt
  fin_cases a
  · show (g.val + 0) % 6 = g.val; omega
  · show (b.val + 0) % 4 = b.val; omega
  · show (0 + d.val) % 160 = d.val; omega

theorem tile_s {α : Type} (v : S16x8x4096.Idx → α) (w : Fin 16) {t : ℕ} (ht : t < 32) (r : Fin 8) (l : Fin 128) : tile v ![w.val, 0, 128 * t] S1x8x128.size (ix3 0 r l) = v (ix3 w r ⟨128 * t + l.val, by have := l.isLt; omega⟩) := by
  unfold tile
  refine congrArg v (funext fun a => Fin.ext ?_)
  have h1 := w.isLt; have h2 := r.isLt; have h3 := l.isLt
  fin_cases a
  · show (w.val + 0) % 16 = w.val; omega
  · show (0 + r.val) % 8 = r.val; omega
  · show (128 * t + l.val) % 4096 = 128 * t + l.val; omega

theorem tile_K {α : Type} (v : S6x160x4096.Idx → α) (w : Fin 6) (d : Fin 160) (x : Fin 4096) : tile v ![w.val, 0, 0] S1x160x4096.size (ix3 0 d x) = v (ix3 w d x) := by
  unfold tile
  refine congrArg v (funext fun a => Fin.ext ?_)
  have h1 := w.isLt; have h2 := d.isLt; have h3 := x.isLt
  fin_cases a
  · show (w.val + 0) % 6 = w.val; omega
  · show (0 + d.val) % 160 = d.val; omega
  · show (0 + x.val) % 4096 = x.val; omega

theorem tile_V {α : Type} (v : S8x160x4096.Idx → α) (w : Fin 8) (d : Fin 160) (x : Fin 4096) : tile v ![w.val, 0, 0] S1x160x4096.size (ix3 0 d x) = v (ix3 w d x) := by
  unfold tile
  refine congrArg v (funext fun a => Fin.ext ?_)
  have h1 := w.isLt; have h2 := d.isLt; have h3 := x.isLt
  fin_cases a
  · show (w.val + 0) % 8 = w.val; omega
  · show (0 + d.val) % 160 = d.val; omega
  · show (0 + x.val) % 4096 = x.val; omega

/-- A row written, read back. -/
theorem put_row {α : Type} {A B C : ℕ} (v : (Shape.mk 3 ![A, B, C]).Idx → α) (o : ℕ) (w : ((a : Fin 3) → Fin ((Shape.mk 3 ![1, B, C]).size a)) → α) (p : Fin A) (r : Fin B) (d : Fin C) :
    VecWindow.put v ![o, 0, 0] (Shape.mk 3 ![1, B, C]).size w (ix3 p r d) = if p.val = o then w (ix3 (n0 := 1) 0 r d) else v (ix3 p r d) := by
  unfold VecWindow.put
  by_cases h : p.val = o
  · rw [if_pos h, dif_pos]
    · refine congrArg w (funext fun a => Fin.ext ?_)
      fin_cases a
      · show p.val - o = 0; omega
      · show r.val - 0 = r.val; omega
      · show d.val - 0 = d.val; omega
    · intro a
      have h1 := p.isLt; have h2 := r.isLt; have h3 := d.isLt
      fin_cases a
      · show o ≤ p.val ∧ p.val < o + 1; omega
      · show 0 ≤ r.val ∧ r.val < 0 + B; omega
      · show 0 ≤ d.val ∧ d.val < 0 + C; omega
  · rw [if_neg h, dif_neg]
    intro hh
    have h0 : o ≤ p.val ∧ p.val < o + 1 := hh 0
    omega

end Cert.KernelIdeal.Hand
-- ==== Proof.KI.InvStep.lean ====
module

public import proofs.«01_k».proof.Proof.KI.Inv

@[expose] public section

set_option maxRecDepth 16384

/-!
Each trip keeps what the walk has computed.

-/

noncomputable section

namespace Cert.KernelIdeal.Hand

open Cert.KernelIdeal Cert.KernelIdeal.Gen Cert.Words
open Idealize.ShloMosaic Idealize.ShloMosaic.TcCoe Idealize.ShloMosaic.Tactic

open Cert.Sums Cert.Spec

variable {c : Dev nD} {E : Env} {q : S24x8x160.Idx → EReal} {f5 : Buf (Elt Ideal) (hbmK c)} {f6 : Buf (Elt Ideal) (hbmV c)} {vs : S6x4x160.Idx → EReal} {L : ℕ → ℕ}

theorem sup_max {n : ℕ} (f g : Fin n → EReal) : (Finset.univ.sup fun l => max (f l) (g l)) = max (Finset.univ.sup f) (Finset.univ.sup g) := Finset.sup_sup

theorem mod_px {ch : ℕ} (hc : ch < 8) (x : Fin 4096) : (⟨4096 * ch + x.val, by have := x.isLt; omega⟩ : Fin 32768) = px (4096 * ch + x.val) :=
  Fin.ext (by have := x.isLt; show 4096 * ch + x.val = (4096 * ch + x.val) % 32768; omega)

/-- The scores of item `i`. -/
theorem kS_at (O : Ok c E q f5 f6 vs L) {i : ℕ} (hi : i < total (nL L)) {Kb : S1x160x4096.Idx → EReal} (hK : OkK (F := Ideal) c f5 L i Kb) {p : Fin 24} (hp : p.val = (cu L i).pair)
    (r : Fin 8) (x : Fin 4096) :
    kS (F := Ideal) q (W (cu L i).b) (W (cu L i).g) (W (cu L i).c) Kb (W (lw L (cu L i).b)) (ix2 r x) = E.Sc p r (4096 * (cu L i).c + x.val) := by
  obtain ⟨hb, hg, hc⟩ : (cu L i).b < 4 ∧ (cu L i).g < 6 ∧ (cu L i).c < nL L (cu L i).b := cur_in (fun b => (nL_ok O.le b).1) hi
  have hl := lw_le O.le (cu L i).b
  have h8 := (nL_ok O.le (cu L i).b).2
  have hx := x.isLt
  have hsq : (sq p).val = (cu L i).b := by show p.val / 6 = _; rw [hp]; unfold Cur.pair; omega
  have hcc : (cu L i).c * 4096 ≤ lw L (cu L i).b := by
    have h : (cu L i).c < nchOf (lw L (cu L i).b) := hc
    unfold nchOf at h; omega
  unfold kS
  rw [row_W (p := p) hp, pay6_at, show (4096#32 : BitVec 32) = W 4096 from rfl, muli_W, subi_W hcc (by omega),
    show BitVec.ofNat 32 x.val = W x.val from rfl, slt_W (by omega) (by omega), select_b]
  unfold Env.Sc
  rw [O.len p, hsq]
  by_cases h : 4096 * (cu L i).c + x.val < lw L (cu L i).b
  · rw [if_pos h, if_pos (decide_eq_true (by omega))]
    refine congrArg (· * cS) (Finset.sum_congr rfl fun d _ => ?_)
    rw [tile_q, O.q]
    refine congrArg (E.q p r d * ·) ?_
    obtain ⟨fK, hf, rfl⟩ := hK
    rw [tile_K (α := EReal) fK ⟨i % 6, Nat.mod_lt _ (by omega)⟩ d x, ← O.k, ← mod_px (by omega)]
    exact hf (ix3 ⟨i % 6, Nat.mod_lt _ (by omega)⟩ d x) (ix3 p d ⟨4096 * (cu L i).c + x.val, by omega⟩) rfl (show x.val < szOf (cu L i).c (lw L (cu L i).b) from szOf_cover hx (by omega)) hp rfl
      (by show 4096 * (cu L i).c + x.val = (cu L i).c * 4096 + x.val; omega)
  · rw [if_neg h, if_neg (by simpa using by omega)]

/-- What the K pass over item `i` leaves. -/
theorem stepK_inv (O : Ok c E q f5 f6 vs L) {i j : ℕ} (C : Ctl (nL L) i j) (hi : i < total (nL L)) {σ σ' : St Ideal} (H : nxK (F := Ideal) c f5 q L i σ σ') (I : Inv E L i j σ) :
    (∀ k, j ≤ k → k < i + 1 → PS E L k σ') ∧ (∀ p : Fin 24, p.val = (cu L i).pair → PM E p ((cu L i).c + 1) σ')
      ∧ σ'.mf = σ.mf ∧ σ'.l = σ.l ∧ σ'.acc = σ.acc ∧ σ'.kn = σ.kn ∧ σ'.vd = σ.vd ∧ σ'.oc = σ.oc ∧ σ'.ou = σ.ou := by
  obtain ⟨Kb, hK, rfl⟩ := H
  obtain ⟨hb, hg, hc⟩ : (cu L i).b < 4 ∧ (cu L i).g < 6 ∧ (cu L i).c < nL L (cu L i).b := cur_in (fun b => (nL_ok O.le b).1) hi
  have h8 := (nL_ok O.le (cu L i).b).2
  refine ⟨fun k hj hk p hp r x => ?_, fun p hp r => ?_, rfl, rfl, rfl, rfl, rfl, rfl, rfl⟩
  · have hd := C.diff
    have e : (opK (F := Ideal) σ q (W (cu L i).b) (W (cu L i).g) (W (cu L i).c) (W (i % 16)) Kb (W (lw L (cu L i).b))).s
        = VecWindow.put σ.s ![i % 16, 0, 0] S1x8x4096.size (shapeCast S1x8x4096 (kS (F := Ideal) q (W (cu L i).b) (W (cu L i).g) (W (cu L i).c) Kb (W (lw L (cu L i).b))) shapeCasts_S8x4096_S1x8x4096) := by
      unfold opK; rw [toNat_W (by omega)]
    rw [e]
    refine (put_row (A := 16) (B := 8) (C := 4096) σ.s (i % 16) _ ⟨k % 16, Nat.mod_lt _ (by omega)⟩ r x).trans ?_
    by_cases hki : k = i
    · subst hki
      rw [if_pos rfl, ← kS_at O hi hK hp r x]
      generalize kS (F := Ideal) q _ _ _ Kb _ = y
      pointwise
    · rw [if_neg (by show ¬ k % 16 = i % 16; omega)]
      exact I.s k hj (by omega) p hp r x
  · have e : ∀ l : Fin 128, (opK (F := Ideal) σ q (W (cu L i).b) (W (cu L i).g) (W (cu L i).c) (W (i % 16)) Kb (W (lw L (cu L i).b))).mr (ix2 r l)
        = if (cu L i).c = 0 then ((Finset.range 32).sup fun t => E.Sc p r (4096 * (cu L i).c + (128 * t + l.val)))
          else max ((Finset.range 32).sup fun t => E.Sc p r (4096 * (cu L i).c + (128 * t + l.val))) (σ.mr (ix2 r l)) := by
      intro l
      have e2 : (Finset.range 32).sup (tl (kS (F := Ideal) q (W (cu L i).b) (W (cu L i).g) (W (cu L i).c) Kb (W (lw L (cu L i).b))) r l)
          = (Finset.range 32).sup fun t => E.Sc p r (4096 * (cu L i).c + (128 * t + l.val)) :=
        Finset.sup_congr rfl fun t ht => by
          unfold tl
          rw [dif_pos (Finset.mem_range.1 ht)]
          exact kS_at O hi hK hp r _
      rw [← e2]
      unfold opK
      show k0_pay10 (F := Ideal) _ _ _ _ _ (ix2 r l) = _
      refine (pay10_at _ _ _ _ _ r l (pay8_at _ _ _ _ r l) (pay9_at _ _ _ _ r l)).trans ?_
      rw [show (0#32 : BitVec 32) = W 0 from rfl, eq_W (by omega) (by omega), select_b]
      by_cases h0 : (cu L i).c = 0
      · rw [if_pos (decide_eq_true h0), if_pos h0]; rfl
      · rw [if_neg (by simpa using h0), if_neg h0]; rfl
    rw [Finset.sup_congr rfl fun l _ => e l, Nat.mul_succ, sup_app, ← sup_tiles (fun x => E.Sc p r (4096 * (cu L i).c + x)) 32]
    by_cases h0 : (cu L i).c = 0
    · simp only [if_pos h0]
      rw [h0]; simp
    · simp only [if_neg h0]
      rw [sup_max, max_comm, I.mr p hp (by omega) r]

/-- What the V pass over item `j` leaves. -/
theorem stepV_inv (O : Ok c E q f5 f6 vs L) {j : ℕ} (hj : j < total (nL L)) {σ σ' : St Ideal} (H : nxV (F := Ideal) c f6 L j σ σ') (hs : PS E L j σ)
    (hm : ∀ p : Fin 24, p.val = (cu L j).pair → ∀ r (l : Fin 128), σ.mf (ix3 p r l) = E.M p r)
    (hla : ∀ p : Fin 24, p.val = (cu L j).pair → 1 ≤ (cu L j).c → PL E p (cu L j).c σ ∧ PA E p (cu L j).c σ) :
    (∀ p : Fin 24, p.val = (cu L j).pair → PL E p ((cu L j).c + 1) σ' ∧ PA E p ((cu L j).c + 1) σ')
      ∧ σ'.s = σ.s ∧ σ'.mr = σ.mr ∧ σ'.mf = σ.mf ∧ σ'.kn = σ.kn ∧ σ'.vd = σ.vd ∧ σ'.oc = σ.oc ∧ σ'.ou = σ.ou := by
  obtain ⟨Vb, hV, rfl⟩ := H
  obtain ⟨hb, hg, hc⟩ : (cu L j).b < 4 ∧ (cu L j).g < 6 ∧ (cu L j).c < nL L (cu L j).b := cur_in (fun b => (nL_ok O.le b).1) hj
  have h8 := (nL_ok O.le (cu L j).b).2
  refine ⟨fun p hp => ?_, rfl, rfl, rfl, rfl, rfl, rfl, rfl⟩
  have hsq : (sq p).val = (cu L j).b := by show p.val / 6 = _; rw [hp]; unfold Cur.pair; omega
  have hw : (W (j % 16)).toNat = j % 16 := toNat_W (by omega)
  have em : ∀ r (l : Fin 128), tM (F := Ideal) σ (W (cu L j).b) (W (cu L j).g) (ix2 r l) = E.M p r := by
    intro r l
    rw [← hm p hp r l, ← tile_m σ.mf p r l]
    unfold tM
    rw [show ![(Scalar.addi (Scalar.muli (W (cu L j).b) 6#32) (W (cu L j).g)).toNat, 0, 0] = ![p.val, 0, 0] from row_W hp]
    generalize tile σ.mf _ _ = y
    pointwise
  have eT : ∀ t, t < 32 → ∀ r (l : Fin 128), tT (F := Ideal) σ (j % 16) t (ix3 0 r l) = E.Sc p r (4096 * (cu L j).c + (128 * t + l.val)) := by
    intro t ht r l
    unfold tT
    rw [tile_s σ.s ⟨j % 16, Nat.mod_lt _ (by omega)⟩ ht r l, hs p hp]
  have eE : ∀ t, t < 32 → ∀ r (l : Fin 128), tE (F := Ideal) σ (tM (F := Ideal) σ (W (cu L j).b) (W (cu L j).g)) (j % 16) t (ix2 r l) = E.Ex p r (4096 * (cu L j).c + (128 * t + l.val)) := by
    intro t ht r l
    rw [tE_at, em, eT t ht]; rfl
  have eW : ∀ r (x : Fin 4096), tW (F := Ideal) σ (tM (F := Ideal) σ (W (cu L j).b) (W (cu L j).g)) (j % 16) (ix2 r x) = E.Cw p r (4096 * (cu L j).c + x.val) := by
    intro r x
    have hx := x.isLt
    rw [tW_at, tC_at, em, eT _ (by omega)]
    show min (Ideal.exp (E.Sc p r (4096 * (cu L j).c + (128 * (x.val / 128) + x.val % 128)) - E.M p r) * cP) cP = _
    rw [Nat.div_add_mod]; rfl
  have eV : ∀ r d, tV (F := Ideal) σ (tM (F := Ideal) σ (W (cu L j).b) (W (cu L j).g)) (j % 16) Vb (ix2 r d)
      = ∑ x ∈ Finset.range 4096, E.Cw p r (4096 * (cu L j).c + x) * E.v p d (px (4096 * (cu L j).c + x)) := by
    intro r d
    rw [tV_at, Finset.sum_range]
    refine Finset.sum_congr rfl fun x _ => ?_
    have hx := x.isLt
    rw [eW]
    by_cases h : 4096 * (cu L j).c + x.val < lw L (cu L j).b
    · refine congrArg (E.Cw p r (4096 * (cu L j).c + x.val) * ·) ?_
      obtain ⟨fV, hf, rfl⟩ := hV
      rw [tile_V (α := EReal) fV ⟨j % 8, Nat.mod_lt _ (by omega)⟩ d x, ← O.v, ← mod_px (by omega)]
      exact hf (ix3 ⟨j % 8, Nat.mod_lt _ (by omega)⟩ d x) (ix3 p d ⟨4096 * (cu L j).c + x.val, by omega⟩) rfl (show x.val < szOf (cu L j).c (lw L (cu L j).b) from szOf_cover hx (by omega)) hp rfl
        (by show 4096 * (cu L j).c + x.val = (cu L j).c * 4096 + x.val; omega)
    · rw [Env.Cw_end (by rw [O.len p, hsq]; omega), zero_mul, zero_mul]
  constructor
  · intro r
    have e : ∀ l : Fin 128, (opV (F := Ideal) σ (W (cu L j).b) (W (cu L j).g) (W (cu L j).c) (W (j % 16)) Vb).l (ix2 r l)
        = (if (cu L j).c = 0 then 0 else σ.l (ix2 r l)) + ∑ t ∈ Finset.range 32, E.Ex p r (4096 * (cu L j).c + (128 * t + l.val)) := by
      intro l
      unfold opV
      show tN (F := Ideal) _ _ _ _ (ix2 r l) = _
      rw [tN_at, tL_at, hw, show (0#32 : BitVec 32) = W 0 from rfl, eq_W (by omega) (by omega), select_b]
      rw [Finset.sum_congr rfl fun t ht => eE t (Finset.mem_range.1 ht) r l]
      by_cases h0 : (cu L j).c = 0
      · rw [if_pos (decide_eq_true h0), if_pos h0]
      · rw [if_neg (by simpa using h0), if_neg h0]
    refine (Finset.sum_congr rfl fun l _ => e l).trans ?_
    rw [Finset.sum_add_distrib, Nat.mul_succ, Finset.sum_range_add, ← sum_tiles (fun x => E.Ex p r (4096 * (cu L j).c + x)) 32]
    refine congrArg (· + _) ?_
    by_cases h0 : (cu L j).c = 0
    · simp only [if_pos h0]; rw [h0]; simp
    · simp only [if_neg h0]; exact (hla p hp (by omega)).1 r
  · intro r d
    unfold opV
    show shapeCast S8x160 (tA (F := Ideal) _ _ _ _ _) _ (ix2 r d) = _
    rw [tA_at, hw, eV, show (0#32 : BitVec 32) = W 0 from rfl, eq_W (by omega) (by omega), select_b, Nat.mul_succ, Finset.sum_range_add]
    by_cases h0 : (cu L j).c = 0
    · rw [if_pos (decide_eq_true h0), h0]; simp
    · rw [if_neg (by simpa using h0), (hla p hp (by omega)).2 r d]

/-- The new token's score. -/
theorem new_at (O : Ok c E q f5 f6 vs L) {kn : S6x4x160.Idx → EReal} (hk : ∀ (p : Fin 24) d, kn (ix3 (hd p) (sq p) d) = E.kn p d) {b g : ℕ} {p : Fin 24} (hp : p.val = b * 6 + g) (hg : g < 6) (r : Fin 8) :
    (∑ d, tile q (rowOf (W b) (W g)) S1x8x160.size (ix3 0 r d) * tile kn (colOf (W b) (W g)) S1x1x160.size (ix3 0 0 d)) * cS = E.N p r := by
  rw [row_W hp, col_W hp hg]
  unfold Env.N
  refine congrArg (· * cS) (Finset.sum_congr rfl fun d _ => ?_)
  rw [tile_q, tile_n, O.q, hk]

/-- The final maximum. -/
theorem opM_at (O : Ok c E q f5 f6 vs L) {i : ℕ} (hi : i < total (nL L)) (hl : (cu L i).c + 1 = nL L (cu L i).b) {σ : St Ideal} {p : Fin 24} (hp : p.val = (cu L i).pair) (h : PM E p ((cu L i).c + 1) σ)
    (hk : ∀ (p : Fin 24) d, σ.kn (ix3 (hd p) (sq p) d) = E.kn p d) (p' : Fin 24) (r : Fin 8) (l : Fin 128) :
    (opM (F := Ideal) σ q (W (cu L i).b) (W (cu L i).g)).mf (ix3 p' r l) = if p' = p then E.M p r else σ.mf (ix3 p' r l) := by
  obtain ⟨hb, hg, hc⟩ : (cu L i).b < 4 ∧ (cu L i).g < 6 ∧ (cu L i).c < nL L (cu L i).b := cur_in (fun b => (nL_ok O.le b).1) hi
  have h8 := (nL_ok O.le (cu L i).b).2
  have hsq : (sq p).val = (cu L i).b := by show p.val / 6 = _; rw [hp]; unfold Cur.pair; omega
  have e : (opM (F := Ideal) σ q (W (cu L i).b) (W (cu L i).g)).mf = VecWindow.put σ.mf ![p.val, 0, 0] S1x8x128.size
      (k0_pay168 (F := Ideal) σ.mr (tile q (rowOf (W (cu L i).b) (W (cu L i).g)) S1x8x160.size) (tile σ.kn (colOf (W (cu L i).b) (W (cu L i).g)) S1x1x160.size)) := by
    rw [← row_W (p := p) hp]; rfl
  rw [e]
  refine (put_row (A := 24) (B := 8) (C := 128) σ.mf p.val _ p' r l).trans ?_
  by_cases hpp : p' = p
  · subst hpp
    rw [if_pos rfl, if_pos rfl]
    refine (pay168_at _ _ _ r l).trans ?_
    rw [new_at O hk hp hg, h r]
    unfold Env.M
    rw [sup_ext (E.Sc p' r) (a := 4096 * ((cu L i).c + 1)) (b := 32768) (by omega) fun x hx => Env.Sc_end ?_]
    rw [O.len, hsq]
    have : nL L (cu L i).b = nchOf (lw L (cu L i).b) := rfl
    unfold nchOf at this
    omega
  · rw [if_neg hpp, if_neg fun h => hpp (Fin.ext h)]

/-- The results. -/
theorem opO_at (O : Ok c E q f5 f6 vs L) {j : ℕ} (hj : j < total (nL L)) (hl : (cu L j).c + 1 = nL L (cu L j).b) {σ : St Ideal} {p : Fin 24} (hp : p.val = (cu L j).pair) (h : PL E p ((cu L j).c + 1) σ ∧ PA E p ((cu L j).c + 1) σ)
    (hm : ∀ r (l : Fin 128), σ.mf (ix3 p r l) = E.M p r)
    (hk : ∀ (p : Fin 24) d, σ.kn (ix3 (hd p) (sq p) d) = E.kn p d) (hv : ∀ (p : Fin 24) d, σ.vd (ix3 (hd p) (sq p) d) = E.vd p d) (p' : Fin 24) (r : Fin 8) (d : Fin 160) :
    (opO (F := Ideal) σ q vs (W (cu L j).b) (W (cu L j).g)).oc (ix3 p' r d) = (if p' = p then E.OC p r d else σ.oc (ix3 p' r d))
      ∧ (opO (F := Ideal) σ q vs (W (cu L j).b) (W (cu L j).g)).ou (ix3 p' r d) = (if p' = p then E.OU p r d else σ.ou (ix3 p' r d)) := by
  obtain ⟨hb, hg, hc⟩ : (cu L j).b < 4 ∧ (cu L j).g < 6 ∧ (cu L j).c < nL L (cu L j).b := cur_in (fun b => (nL_ok O.le b).1) hj
  have h8 := (nL_ok O.le (cu L j).b).2
  have hsq : (sq p).val = (cu L j).b := by show p.val / 6 = _; rw [hp]; unfold Cur.pair; omega
  have hend : ∀ x, 4096 * ((cu L j).c + 1) ≤ x → E.L p ≤ x := by
    intro x hx
    rw [O.len, hsq]
    have : nL L (cu L j).b = nchOf (lw L (cu L j).b) := rfl
    unfold nchOf at this
    omega
  have eP : ∀ r, fP (F := Ideal) σ q (W (cu L j).b) (W (cu L j).g) (ix2 r 0) = E.En p r := by
    intro r
    unfold fP
    rw [pay162_at, new_at O hk hp hg, row_W (p := p) hp, tile_m, hm]; rfl
  have eL : ∀ r, fL (F := Ideal) σ q (W (cu L j).b) (W (cu L j).g) (ix2 r 0) = E.Ls p r := by
    intro r
    unfold fL
    rw [pay163_at, h.1 r]
    unfold Env.Ls
    exact congrArg₂ (· + ·) (sum_ext _ (by omega) fun x hx => Env.Ex_end (hend x hx)) (eP r)
  have eO : ∀ r d, fO (F := Ideal) σ q vs (W (cu L j).b) (W (cu L j).g) (ix2 r d) = E.OC p r d := by
    intro r d
    unfold fO
    rw [pay164_at, h.2 r d, col_W (p := p) hp hg, tile_n, O.vs]
    unfold Env.OC Env.Ac
    refine congrArg₂ Ideal.div (congrArg (· * cI * E.vs p d) (sum_ext (fun x => E.Cw p r x * E.v p d (px x)) (by omega) fun x hx => ?_)) ?_
    · show E.Cw p r x * _ = 0
      rw [Env.Cw_end (hend x hx), zero_mul]
    · rw [← eL r]; unfold fL; rw [col_W (p := p) hp hg]
  have e1 : (opO (F := Ideal) σ q vs (W (cu L j).b) (W (cu L j).g)).oc = VecWindow.put σ.oc ![p.val, 0, 0] S1x8x160.size
      (k0_pay169 (F := Ideal) (fO (F := Ideal) σ q vs (W (cu L j).b) (W (cu L j).g))) := by
    rw [← row_W (p := p) hp]; rfl
  have e2 : (opO (F := Ideal) σ q vs (W (cu L j).b) (W (cu L j).g)).ou = VecWindow.put σ.ou ![p.val, 0, 0] S1x8x160.size
      (k0_pay170 (F := Ideal) (fP (F := Ideal) σ q (W (cu L j).b) (W (cu L j).g)) (fL (F := Ideal) σ q (W (cu L j).b) (W (cu L j).g)) (fO (F := Ideal) σ q vs (W (cu L j).b) (W (cu L j).g)) (tile σ.vd (colOf (W (cu L j).b) (W (cu L j).g)) S1x1x160.size)) := by
    rw [← row_W (p := p) hp]; rfl
  rw [e1, e2]
  constructor
  · refine (put_row (A := 24) (B := 8) (C := 160) σ.oc p.val _ p' r d).trans ?_
    by_cases hpp : p' = p
    · subst hpp
      rw [if_pos rfl, if_pos rfl]
      exact (pay169_at _ r d).trans (eO r d)
    · rw [if_neg hpp, if_neg fun h => hpp (Fin.ext h)]
  · refine (put_row (A := 24) (B := 8) (C := 160) σ.ou p.val _ p' r d).trans ?_
    by_cases hpp : p' = p
    · subst hpp
      rw [if_pos rfl, if_pos rfl]
      refine (pay170_at _ _ _ _ r d).trans ?_
      rw [eO, eP, eL, col_W (p := p') hp hg, tile_n, hv]; rfl
    · rw [if_neg hpp, if_neg fun h => hpp (Fin.ext h)]

end Cert.KernelIdeal.Hand
-- ==== Proof.KI.Trips.lean ====
module

public import proofs.«01_k».proof.Proof.KI.InvStep

@[expose] public section

set_option maxRecDepth 16384

/-!
The trips of the loop over what the walk has computed.

-/

noncomputable section

namespace Cert.KernelIdeal.Hand

open Cert.KernelIdeal Cert.KernelIdeal.Gen Cert.Words
open Idealize.ShloMosaic Idealize.ShloMosaic.TcCoe Idealize.ShloMosaic.Tactic

open Cert.Sums Cert.Spec

variable {c : Dev nD} {E : Env} {q : S24x8x160.Idx → EReal} {f5 : Buf (Elt Ideal) (hbmK c)} {f6 : Buf (Elt Ideal) (hbmV c)} {vs : S6x4x160.Idx → EReal} {L : ℕ → ℕ}

theorem cu_next (hL : ∀ b, L b ≤ 32768) {i : ℕ} (hi : i < total (nL L)) :
    ((cu L i).c + 1 < nL L (cu L i).b ∧ (cu L (i + 1)).pair = (cu L i).pair ∧ (cu L (i + 1)).c = (cu L i).c + 1)
      ∨ ((cu L i).c + 1 = nL L (cu L i).b ∧ (cu L (i + 1)).pair = (cu L i).pair + 1 ∧ (cu L (i + 1)).c = 0) := by
  obtain ⟨hb, hg, hc⟩ : (cu L i).b < 4 ∧ (cu L i).g < 6 ∧ (cu L i).c < nL L (cu L i).b := cur_in (fun b => (nL_ok hL b).1) hi
  have e : cu L (i + 1) = (cu L i).next (nL L) := rfl
  rw [e]
  unfold Cur.next
  rw [if_pos hb]
  by_cases h : nL L (cu L i).b ≤ (cu L i).c + 1
  · rw [if_pos h]
    refine Or.inr ⟨by omega, ?_⟩
    by_cases h6 : 6 ≤ (cu L i).g + 1
    · rw [if_pos h6]; refine ⟨?_, rfl⟩; simp only [Cur.pair]; omega
    · rw [if_neg h6]; refine ⟨?_, rfl⟩; simp only [Cur.pair]; omega
  · rw [if_neg h]
    exact Or.inl ⟨by omega, rfl, rfl⟩

theorem PS.of {k : ℕ} {σ σ' : St Ideal} (h : PS E L k σ) (e : σ'.s = σ.s) : PS E L k σ' := fun p hp r x => by rw [e]; exact h p hp r x
theorem PM.of {p : Fin 24} {n : ℕ} {σ σ' : St Ideal} (h : PM E p n σ) (e : σ'.mr = σ.mr) : PM E p n σ' := fun r => by rw [e]; exact h r
theorem PLA.of {p : Fin 24} {n : ℕ} {σ σ' : St Ideal} (h : PL E p n σ ∧ PA E p n σ) (e : σ'.l = σ.l) (e' : σ'.acc = σ.acc) : PL E p n σ' ∧ PA E p n σ' :=
  ⟨fun r => by rw [e]; exact h.1 r, fun r d => by rw [e']; exact h.2 r d⟩

/-- The final maximum is written at a pair's last key item, and nothing else is touched. -/
theorem nxM_inv (O : Ok c E q f5 f6 vs L) {i : ℕ} (hi : i < total (nL L)) {σ : St Ideal} (hP : ∀ p : Fin 24, p.val = (cu L i).pair → PM E p ((cu L i).c + 1) σ)
    (hm : ∀ p : Fin 24, p.val < (cu L i).pair → ∀ r (l : Fin 128), σ.mf (ix3 p r l) = E.M p r) (hk : ∀ (p : Fin 24) d, σ.kn (ix3 (hd p) (sq p) d) = E.kn p d) :
    (∀ p : Fin 24, p.val < (cu L (i + 1)).pair → ∀ r (l : Fin 128), (nxM (F := Ideal) q L i σ).mf (ix3 p r l) = E.M p r) ∧ (nxM (F := Ideal) q L i σ).s = σ.s ∧ (nxM (F := Ideal) q L i σ).mr = σ.mr
      ∧ (nxM (F := Ideal) q L i σ).l = σ.l ∧ (nxM (F := Ideal) q L i σ).acc = σ.acc ∧ (nxM (F := Ideal) q L i σ).kn = σ.kn ∧ (nxM (F := Ideal) q L i σ).vd = σ.vd ∧ (nxM (F := Ideal) q L i σ).oc = σ.oc
      ∧ (nxM (F := Ideal) q L i σ).ou = σ.ou := by
  obtain ⟨hb, hg, hc⟩ : (cu L i).b < 4 ∧ (cu L i).g < 6 ∧ (cu L i).c < nL L (cu L i).b := cur_in (fun b => (nL_ok O.le b).1) hi
  have h8 := (nL_ok O.le (cu L i).b).2
  have hc10 := cond10_W (a := (cu L i).b) (c := (cu L i).c) (L := lw L (cu L i).b) (by omega) (by omega) (lw_le O.le _)
  rcases cu_next O.le hi with ⟨h1, h2, h3⟩ | ⟨h1, h2, h3⟩
  · have e : nxM (F := Ideal) q L i σ = σ := by
      unfold nxM
      rw [if_neg]
      rw [hc10, ofBool_one]
      have : ¬ (cu L i).c + 1 = nchOf (lw L (cu L i).b) := fun h => by unfold nL at h1; omega
      simp [this]
    rw [e, h2]
    exact ⟨hm, rfl, rfl, rfl, rfl, rfl, rfl, rfl, rfl⟩
  · have e : nxM (F := Ideal) q L i σ = opM (F := Ideal) σ q (W (cu L i).b) (W (cu L i).g) := by
      unfold nxM
      rw [if_pos]
      rw [hc10, ofBool_one]
      have : (cu L i).c + 1 = nchOf (lw L (cu L i).b) := h1
      simp [this, hb]
    rw [e, h2]
    refine ⟨fun p hp r l => ?_, rfl, rfl, rfl, rfl, rfl, rfl, rfl, rfl⟩
    have hpl : (cu L i).pair < 24 := by unfold Cur.pair; omega
    rw [opM_at O hi h1 (p := ⟨(cu L i).pair, hpl⟩) rfl (hP _ rfl) hk p r l]
    by_cases hpp : p = ⟨(cu L i).pair, hpl⟩
    · rw [if_pos hpp, hpp]
    · rw [if_neg hpp]
      exact hm p (by have : p.val ≠ (cu L i).pair := fun h => hpp (Fin.ext h); omega) r l

theorem nxM_stay (hL : ∀ b, L b ≤ 32768) {i : ℕ} (hk : ¬ doK (nL L) i) (σ : St Ideal) : nxM (F := Ideal) q L i σ = σ := by
  have hB : (cu L i).b ≤ 4 ∧ (cu L i).g < 6 ∧ (cu L i).c < 8 := cur_bounds (nL_ok hL) i
  unfold nxM
  rw [if_neg]
  rw [cond10_W hB.1 hB.2.2 (lw_le hL _), ofBool_one]
  have : ¬ (cu L i).b < 4 := hk
  simp [this]

/-- The results are written at a pair's last value item, and nothing else is touched. -/
theorem nxO_inv (O : Ok c E q f5 f6 vs L) {i j : ℕ} (hj : j < total (nL L)) (hv : doV (nL L) i j) {σ : St Ideal} (hP : ∀ p : Fin 24, p.val = (cu L j).pair → PL E p ((cu L j).c + 1) σ ∧ PA E p ((cu L j).c + 1) σ)
    (hm : ∀ p : Fin 24, p.val = (cu L j).pair → ∀ r (l : Fin 128), σ.mf (ix3 p r l) = E.M p r) (hk : ∀ (p : Fin 24) d, σ.kn (ix3 (hd p) (sq p) d) = E.kn p d) (hvd : ∀ (p : Fin 24) d, σ.vd (ix3 (hd p) (sq p) d) = E.vd p d)
    (ho : ∀ p : Fin 24, p.val < (cu L j).pair → ∀ r d, σ.oc (ix3 p r d) = E.OC p r d ∧ σ.ou (ix3 p r d) = E.OU p r d) :
    (∀ p : Fin 24, p.val < (cu L (j + 1)).pair → ∀ r d, (nxO (F := Ideal) q vs L i j σ).oc (ix3 p r d) = E.OC p r d ∧ (nxO (F := Ideal) q vs L i j σ).ou (ix3 p r d) = E.OU p r d) ∧ (nxO (F := Ideal) q vs L i j σ).s = σ.s ∧ (nxO (F := Ideal) q vs L i j σ).mr = σ.mr
      ∧ (nxO (F := Ideal) q vs L i j σ).mf = σ.mf ∧ (nxO (F := Ideal) q vs L i j σ).l = σ.l ∧ (nxO (F := Ideal) q vs L i j σ).acc = σ.acc ∧ (nxO (F := Ideal) q vs L i j σ).kn = σ.kn ∧ (nxO (F := Ideal) q vs L i j σ).vd = σ.vd := by
  obtain ⟨hb, hg, hc⟩ : (cu L j).b < 4 ∧ (cu L j).g < 6 ∧ (cu L j).c < nL L (cu L j).b := cur_in (fun b => (nL_ok O.le b).1) hj
  have h8 := (nL_ok O.le (cu L j).b).2
  have hB : (cu L i).b ≤ 4 ∧ (cu L i).g < 6 ∧ (cu L i).c < 8 := cur_bounds (nL_ok O.le) i
  have hc11 := cond11_W (a := (cu L i).b) (g := (cu L i).g) (b := (cu L j).b) (h := (cu L j).g) (c := (cu L j).c) (L := lw L (cu L j).b) hB.1 hB.2.1 (by omega) hg (by omega) (lw_le O.le _)
  have hv' : (cu L j).b * 6 + (cu L j).g < (cu L i).b * 6 + (cu L i).g := hv
  rcases cu_next O.le hj with ⟨h1, h2, h3⟩ | ⟨h1, h2, h3⟩
  · have e : nxO (F := Ideal) q vs L i j σ = σ := by
      unfold nxO
      rw [if_neg]
      rw [hc11, ofBool_one]
      have : ¬ (cu L j).c + 1 = nchOf (lw L (cu L j).b) := fun h => by unfold nL at h1; omega
      simp [this]
    rw [e, h2]
    exact ⟨ho, rfl, rfl, rfl, rfl, rfl, rfl, rfl⟩
  · have e : nxO (F := Ideal) q vs L i j σ = opO (F := Ideal) σ q vs (W (cu L j).b) (W (cu L j).g) := by
      unfold nxO
      rw [if_pos]
      rw [hc11, ofBool_one]
      have : (cu L j).c + 1 = nchOf (lw L (cu L j).b) := h1
      rw [decide_eq_true hv', decide_eq_true this]; rfl
    rw [e, h2]
    refine ⟨fun p hp r d => ?_, rfl, rfl, rfl, rfl, rfl, rfl, rfl⟩
    have hpl : (cu L j).pair < 24 := by unfold Cur.pair; omega
    have h := opO_at O hj h1 (p := ⟨(cu L j).pair, hpl⟩) rfl (hP _ rfl) (hm _ rfl) hk hvd p r d
    rw [h.1, h.2]
    by_cases hpp : p = ⟨(cu L j).pair, hpl⟩
    · rw [if_pos hpp, if_pos hpp, hpp]; exact ⟨rfl, rfl⟩
    · rw [if_neg hpp, if_neg hpp]
      exact ho p (by have : p.val ≠ (cu L j).pair := fun h => hpp (Fin.ext h); omega) r d

theorem nxO_stay (hL : ∀ b, L b ≤ 32768) {i j : ℕ} (hj : j < total (nL L)) (hv : ¬ doV (nL L) i j) (σ : St Ideal) : nxO (F := Ideal) q vs L i j σ = σ := by
  obtain ⟨hb, hg, hc⟩ : (cu L j).b < 4 ∧ (cu L j).g < 6 ∧ (cu L j).c < nL L (cu L j).b := cur_in (fun b => (nL_ok hL b).1) hj
  have h8 := (nL_ok hL (cu L j).b).2
  have hB : (cu L i).b ≤ 4 ∧ (cu L i).g < 6 ∧ (cu L i).c < 8 := cur_bounds (nL_ok hL) i
  have hv' : ¬ (cu L j).b * 6 + (cu L j).g < (cu L i).b * 6 + (cu L i).g := hv
  unfold nxO
  rw [if_neg]
  rw [cond11_W hB.1 hB.2.1 (by omega) hg (by omega) (lw_le hL _), ofBool_one]
  rw [decide_eq_false hv']; simp

theorem PM_next (hL : ∀ b, L b ≤ 32768) {i : ℕ} (hi : i < total (nL L)) {σ : St Ideal} (h : ∀ p : Fin 24, p.val = (cu L i).pair → PM E p ((cu L i).c + 1) σ) :
    ∀ p : Fin 24, p.val = (cu L (i + 1)).pair → 1 ≤ (cu L (i + 1)).c → PM E p (cu L (i + 1)).c σ := by
  intro p hp hc
  rcases cu_next hL hi with ⟨h1, h2, h3⟩ | ⟨h1, h2, h3⟩
  · rw [h3]; exact h p (by rw [hp, h2])
  · omega
theorem PLA_next (hL : ∀ b, L b ≤ 32768) {i : ℕ} (hi : i < total (nL L)) {σ : St Ideal} (h : ∀ p : Fin 24, p.val = (cu L i).pair → PL E p ((cu L i).c + 1) σ ∧ PA E p ((cu L i).c + 1) σ) :
    ∀ p : Fin 24, p.val = (cu L (i + 1)).pair → 1 ≤ (cu L (i + 1)).c → PL E p (cu L (i + 1)).c σ ∧ PA E p (cu L (i + 1)).c σ := by
  intro p hp hc
  rcases cu_next hL hi with ⟨h1, h2, h3⟩ | ⟨h1, h2, h3⟩
  · rw [h3]; exact h p (by rw [hp, h2])
  · omega

/-- A trip that does both. -/
theorem inv_A (O : Ok c E q f5 f6 vs L) (i j : ℕ) (σ σ1 σ2 : St Ideal) (C : Ctl (nL L) i j) (hj : j < total (nL L)) (hk : doK (nL L) i) (hv : doV (nL L) i j) (I : Inv E L i j σ)
    (h1 : nxK (F := Ideal) c f5 q L i σ σ1) (h2 : nxV (F := Ideal) c f6 L j σ1 σ2) : Inv E L (i + 1) (j + 1) (nxO (F := Ideal) q vs L i j (nxM (F := Ideal) q L i σ2)) := by
  have hi := (cur_lt_iff (fun b => (nL_ok O.le b).1) i).1 hk
  have hlt := C.lt_of_doV (fun b => (nL_ok O.le b).1) hv
  obtain ⟨ks, am, amf, al, aacc, akn, avd, aoc, aou⟩ := stepK_inv O C hi h1 I
  have hm1 : ∀ p : Fin 24, p.val < (cu L i).pair → ∀ r (l : Fin 128), σ1.mf (ix3 p r l) = E.M p r := by rw [amf]; exact I.mf
  obtain ⟨bla, bs, bm, bmf, bkn, bvd, boc, bou⟩ := stepV_inv O hj h2 (ks j le_rfl (by omega)) (fun p hp => hm1 p (by rw [hp]; exact hv))
    (fun p hp hc => PLA.of (I.la p hp hc) al aacc)
  obtain ⟨dmf, ds, dm, dl, dacc, dkn, dvd, doc, dou⟩ := nxM_inv O hi (σ := σ2) (fun p hp => (am p hp).of bm) (by rw [bmf]; exact hm1) (by rw [bkn, akn]; exact I.kn)
  have hmono := cur_pair_mono (fun b => (nL_ok O.le b).1) (show i ≤ i + 1 by omega)
  obtain ⟨eo, es, em, emf, el, eacc, ekn, evd⟩ := nxO_inv O hj hv (σ := nxM (F := Ideal) q L i σ2) (fun p hp => PLA.of (bla p hp) dl dacc)
    (fun p hp => dmf p (by have : (cu L j).pair < (cu L i).pair := hv; have : (cu L i).pair ≤ (cu L (i + 1)).pair := hmono; omega)) (by rw [dkn, bkn, akn]; exact I.kn) (by rw [dvd, bvd, avd]; exact I.vd)
    (by rw [doc, dou, boc, bou, aoc, aou]; exact I.o)
  refine ⟨fun k h h' => (ks k (by omega) h').of (by rw [es, ds, bs]), PM_next O.le hi fun p hp => (am p hp).of (by rw [em, dm, bm]), by rw [emf]; exact dmf,
    PLA_next O.le hj fun p hp => PLA.of (bla p hp) (by rw [el, dl]) (by rw [eacc, dacc]), by rw [ekn, dkn, bkn, akn]; exact I.kn, by rw [evd, dvd, bvd, avd]; exact I.vd, eo⟩

/-- A trip that only scores keys. -/
theorem inv_B (O : Ok c E q f5 f6 vs L) (i j : ℕ) (σ σ1 : St Ideal) (C : Ctl (nL L) i j) (hj : j < total (nL L)) (hk : doK (nL L) i) (hv : ¬ doV (nL L) i j) (I : Inv E L i j σ)
    (h1 : nxK (F := Ideal) c f5 q L i σ σ1) : Inv E L (i + 1) j (nxO (F := Ideal) q vs L i j (nxM (F := Ideal) q L i σ1)) := by
  have hi := (cur_lt_iff (fun b => (nL_ok O.le b).1) i).1 hk
  obtain ⟨ks, am, amf, al, aacc, akn, avd, aoc, aou⟩ := stepK_inv O C hi h1 I
  have hm1 : ∀ p : Fin 24, p.val < (cu L i).pair → ∀ r (l : Fin 128), σ1.mf (ix3 p r l) = E.M p r := by rw [amf]; exact I.mf
  obtain ⟨dmf, ds, dm, dl, dacc, dkn, dvd, doc, dou⟩ := nxM_inv O hi (σ := σ1) am hm1 (by rw [akn]; exact I.kn)
  rw [nxO_stay O.le hj hv]
  refine ⟨fun k h h' => (ks k h h').of ds, PM_next O.le hi fun p hp => (am p hp).of dm, dmf,
    fun p hp hc => PLA.of (I.la p hp hc) (by rw [dl, al]) (by rw [dacc, aacc]), by rw [dkn, akn]; exact I.kn, by rw [dvd, avd]; exact I.vd, by rw [doc, dou, aoc, aou]; exact I.o⟩

/-- A trip that only weighs values. -/
theorem inv_C (O : Ok c E q f5 f6 vs L) (i j : ℕ) (σ σ1 : St Ideal) (C : Ctl (nL L) i j) (hj : j < total (nL L)) (hk : ¬ doK (nL L) i) (hv : doV (nL L) i j) (I : Inv E L i j σ)
    (h2 : nxV (F := Ideal) c f6 L j σ σ1) : Inv E L i (j + 1) (nxO (F := Ideal) q vs L i j (nxM (F := Ideal) q L i σ1)) := by
  have hlt := C.lt_of_doV (fun b => (nL_ok O.le b).1) hv
  obtain ⟨bla, bs, bm, bmf, bkn, bvd, boc, bou⟩ := stepV_inv O hj h2 (I.s j le_rfl (by omega)) (fun p hp => I.mf p (by rw [hp]; exact hv)) I.la
  rw [nxM_stay O.le hk]
  obtain ⟨eo, es, em, emf, el, eacc, ekn, evd⟩ := nxO_inv O hj hv (σ := σ1) bla
    (fun p hp => by rw [bmf]; exact I.mf p (by rw [hp]; exact hv)) (by rw [bkn]; exact I.kn) (by rw [bvd]; exact I.vd) (by rw [boc, bou]; exact I.o)
  refine ⟨fun k h h' => (I.s k (by omega) h').of (by rw [es, bs]), fun p hp hc => (I.mr p hp hc).of (by rw [em, bm]), by rw [emf, bmf]; exact I.mf,
    PLA_next O.le hj fun p hp => PLA.of (bla p hp) el eacc, by rw [ekn, bkn]; exact I.kn, by rw [evd, bvd]; exact I.vd, eo⟩

/-- At the start nothing has been computed. -/
theorem inv_0 {σ : St Ideal} (hk : ∀ (p : Fin 24) d, σ.kn (ix3 (hd p) (sq p) d) = E.kn p d) (hv : ∀ (p : Fin 24) d, σ.vd (ix3 (hd p) (sq p) d) = E.vd p d) : Inv E L 0 0 σ :=
  ⟨fun k h h' => absurd h' (by omega), fun p _ h => absurd (show 1 ≤ 0 from h) (by decide), fun p h => absurd h (by show ¬ p.val < 0 * 6 + 0; omega), fun p _ h => absurd (show 1 ≤ 0 from h) (by decide), hk, hv, fun p h => absurd h (by show ¬ p.val < 0 * 6 + 0; omega)⟩

/-- At the end the results are complete. -/
theorem inv_end (hL : ∀ b, L b ≤ 32768) {i j : ℕ} {σ : St Ideal} (hj : ¬ j < total (nL L)) (I : Inv E L i j σ) (p : Fin 24) (r : Fin 8) (d : Fin 160) : σ.oc (ix3 p r d) = E.OC p r d ∧ σ.ou (ix3 p r d) = E.OU p r d := by
  refine I.o p ?_ r d
  rw [show cu L j = _ from cur_end (fun b => (nL_ok hL b).1) (by omega)]
  exact p.isLt

end Cert.KernelIdeal.Hand
-- ==== Proof.KI.Host.lean ====
module

public import proofs.«01_k».proof.Proof.KI.Words
public import proofs.«01_k».proof.Proof.Gen.KernelIdeal.Launch
public import Idealize.ShloMosaic.Lib.Pipeline.FrameBody
public import Idealize.ShloMosaic.Lib.Pipeline.DatRel
public import Idealize.ShloMosaic.Lib.Ring
public import Idealize.ShloMosaic.Lib.Claim
public import Idealize.ShloMosaic.Lib.Tactic
public import Idealize.ShloMosaic.Lib.WordCmp

@[expose] public section

set_option maxRecDepth 16384

/-!
The host's operations before the kernel, and what they leave in its operands.
-/

noncomputable section

namespace Cert.KernelIdeal.Hand

open Cert.KernelIdeal Cert.KernelIdeal.Gen Cert.Words
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ)

/-- A core's buffers when the kernel is entered: after the host's operations. -/
def V (c : Dev nD) (b : Ref sig .tc) : Buf (Elt F) ((c : Thread nD τ).loc b) :=
  StableHlo.after (List.flatten [hostOps0, hostOps0_1]) (fun b => m (c, b)) b
theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor

set_option maxHeartbeats 800000 in
/-- The program is its host operations, then the kernel. -/
theorem hmain (𝒱₀ : Variants) :
    Pipeline.HMain (Ix := Unit) (Name := ℕ) (U := Pipeline.UD sig nD τ) (Lvl := ℕ) cfgs 0 defs₀ 𝒱₀ m (main (F := F)) (V m) :=
  Pipeline.hmain_prefixes cfgs 0 defs₀ 𝒱₀ m main [hostOps0, hostOps0_1] (by simp only [List.Forall]; exact ⟨hostOps0_sub, hostOps0_1_sub⟩)
    (by simp only [List.Forall]; exact ⟨hostOps0_fresh, hostOps0_1_fresh⟩) main_chain

/-- No host operation writes the buffers named here. -/
theorem V_of_arg (c : Dev nD) (b : Ref sig .tc) (hb : b ∈ [main_arg0, main_arg1, main_arg2, main_arg3, main_arg4, main_arg5, main_arg6]) :
    V m c b = m ((c : Thread nD τ).loc b) := by
  simp only [List.mem_cons, List.not_mem_nil, or_false] at hb
  unfold V
  refine StableHlo.after_of_forall_not_mem (b := Proc.devRef .tc b) _ _ (List.forall_iff_forall_mem.mp ?_)
  simp only [hostOps0, hostOps0_1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals
    refine StableHlo.devRef_ne_of_ne ?_
    rintro rfl
    revert hb; decide

/-- The lengths the kernel is given are the argument's, clipped. -/
theorem V_lens (c : Dev nD) (i : S4.Idx) :
    (V m c main_v10 : S4.Idx → BitVec 32) i = Scalar.minsi 32768#32 (Scalar.maxsi 0#32 ((m ((c : Thread nD τ).loc main_arg6) : S4.Idx → BitVec 32) i)) := by
  unfold V
  simp only [hostOps0, hostOps0_1, List.flatten_cons, List.flatten_nil, List.append_nil, List.cons_append, List.nil_append]
  after_results
  rfl

/-- A clipped word is at most 32768. -/
theorem clip_le (x : BitVec 32) : (Scalar.minsi 32768#32 (Scalar.maxsi 0#32 x)).toNat ≤ 32768 := by
  have h : Scalar.minsi 32768#32 (Scalar.maxsi 0#32 x) = if (32768#32).slt (if x.slt 0#32 then 0#32 else x) then 32768#32 else (if x.slt 0#32 then 0#32 else x) := rfl
  rw [h]
  simp only [BitVec.slt_eq_decide, decide_eq_true_eq]
  have hx : x.toInt = if 2 * x.toNat < 2 ^ 32 then (x.toNat : ℤ) else (x.toNat : ℤ) - 2 ^ 32 := by rw [BitVec.toInt_eq_toNat_cond]; rfl
  have h0 : (0#32 : BitVec 32).toInt = 0 := by decide
  have h3 : (32768#32 : BitVec 32).toInt = 32768 := by decide
  by_cases hn : x.toInt < (0#32 : BitVec 32).toInt
  · simp only [if_pos hn]; rw [h0, h3]; decide
  · simp only [if_neg hn]; rw [h3]
    by_cases hb : (32768 : ℤ) < x.toInt
    · rw [if_pos hb]; decide
    · rw [if_neg hb]; rw [h0] at hn; have := x.isLt; split at hx <;> omega

theorem lt4 {b : ℕ} (hb : b < 4) (a : Fin S4.rank) : b < S4.size a := by
  obtain rfl : a = (0 : Fin 1) := Subsingleton.elim _ _
  exact hb

/-- Words bounded by 32768, as lengths. -/
theorem lens_exists (X : S4.Idx → BitVec 32) (h : ∀ i, (X i).toNat ≤ 32768) :
    ∃ L : ℕ → ℕ, (∀ b, L b ≤ 32768) ∧ ∀ i : S4.Idx, X i = W (L (i 0).val) := by
  refine ⟨fun b => if hb : b < 4 then (X (fun a => ⟨b, lt4 hb a⟩)).toNat else 0, fun b => ?_, fun i => ?_⟩
  · show (if hb : b < 4 then _ else _) ≤ _
    split
    · exact h _
    · omega
  · have hi : (i 0).val < 4 := (i 0).isLt
    show X i = W (if hb : (i 0).val < 4 then _ else _)
    rw [dif_pos hi]
    have e : (fun a => ⟨(i 0).val, lt4 hi a⟩ : S4.Idx) = i := by
      funext a; obtain rfl : a = (0 : Fin 1) := Subsingleton.elim _ _; rfl
    rw [e]; simp [W]

end Cert.KernelIdeal.Hand
-- ==== Proof.KI.Frame.lean ====
module

public import proofs.«01_k».proof.Proof.KI.Main
public import proofs.«01_k».proof.Proof.KI.Trips
public import proofs.«01_k».proof.Proof.KI.Host
public import proofs.«01_k».proof.Proof.Gen.KernelIdeal.Points
public import Idealize.ShloMosaic.Lib.Pipeline.FrameBody
public import Idealize.ShloMosaic.Lib.Pipeline.DatRel
public import Idealize.ShloMosaic.Lib.Ring
public import Idealize.ShloMosaic.Lib.Tactic
public import Idealize.ShloMosaic.Lib.WordCmp

@[expose] public section

set_option maxRecDepth 16384

/-!
The launch: the proof data, the body's obligation, the run and the frame.
-/

noncomputable section

namespace Cert.KernelIdeal.Hand

open Cert.KernelIdeal Cert.KernelIdeal.Gen Cert.Words Cert.Spec
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

attribute [local irreducible] cur V

section Generic

variable (m : (ℓ : Loc nD τ sig) → Buf (Elt F) ℓ)

/-- The kernel's own transfer semaphores: the K ring's six, the V ring's eight. -/
abbrev osem0 : Fin 14 → SemLoc sig := fun j => (![SemLoc.dma 8, SemLoc.dma 9, SemLoc.dma 10, SemLoc.dma 11, SemLoc.dma 12, SemLoc.dma 13, SemLoc.dma 14, SemLoc.dma 15, SemLoc.dma 16, SemLoc.dma 17, SemLoc.dma 18, SemLoc.dma 19, SemLoc.dma 20, SemLoc.dma 21] : Fin 14 → SemLoc sig) j
theorem ownSemFacts0 : Pipeline.OwnSemFacts spec0 osem0 := by decide
/-- The operands the kernel's transfers read. -/
def H0 : Finset (Ref sig .tc) := {main_v2, main_v4}
theorem H0_sub : H0 ⊆ Pipeline.restRefs sig spec0 := by decide

theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0) := by
  rw [Pipeline.ownSems0_eq_of_list c osem0 [0, 1, 2, 3, 4, 5, 6, 7, 8, 9, 10, 11, 12, 13] (by decide) (by decide)]; rfl
theorem hbmPts0_eq (c : Dev nD) :
    (bigSep H0 fun b => (((c : Thread nD τ).loc b) ↦{fullShare} V m c b : sProp 𝕄))
      = iprop((hbmK c ↦[Finset.univ]{fullShare} V m c main_v2) ∗ (hbmV c ↦[Finset.univ]{fullShare} V m c main_v4)) := by
  rw [BI.bigSep_eq_bigSepL_of_eq [main_v2, main_v4] (by decide) (by decide)]; rfl
theorem bigK (c : Dev nD) : (bigSep Finset.univ fun k : Fin 6 => (semVal ((c : Thread nD τ), cellK k) 0 : sProp 𝕄)) = iprop(semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0) := by
  rw [bigSep_univ_eq_bigSepL [0, 1, 2, 3, 4, 5] (by decide) (by decide)]; rfl
theorem bigV (c : Dev nD) : (bigSep Finset.univ fun k : Fin 8 => (semVal ((c : Thread nD τ), cellV k) 0 : sProp 𝕄)) = iprop(semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0) := by
  rw [bigSep_univ_eq_bigSepL [0, 1, 2, 3, 4, 5, 6, 7] (by decide) (by decide)]; rfl

theorem scr_eq (c : Dev nD) :
    (Pipeline.scopedRest (Ix := Unit) (Name := ℕ) (U := Pipeline.UD sig nD τ) (Lvl := ℕ) (Val := Elt F) spec0 c : sProp 𝕄)
      = iprop((∃ g, (locK c ↦[Finset.univ]{fullShare} g)) ∗ (∃ g, (locV c ↦[Finset.univ]{fullShare} g)) ∗ (∃ f, pt c (Memref.whole cc0_scratch2) f) ∗ (∃ f, pt c (Memref.whole cc0_scratch3) f) ∗ (∃ f, pt c (Memref.whole cc0_scratch4) f) ∗ (∃ f, pt c (Memref.whole cc0_scratch5) f) ∗ (∃ f, pt c (Memref.whole cc0_scratch6) f) ∗ (∃ f, pt c (Memref.whole cc0_scratch7) f) ∗ (∃ f, pt c (Memref.whole cc0_scratch8) f)) := by
  rw [scopedRest0_eq]; simp only [pt, Memref.whole, View.set_whole]

/-- What the launch hands the body, resource by resource. -/
theorem phi_open (c : Dev nD) : (Pipeline.ΦD osem0 spec0 H0 (V m) c : sProp 𝕄) ⊢ iprop((∃ r, prngReg c r) ∗ sideK c (V m c main_v2) ∗ sideV c (V m c main_v4) ∗ (∃ f, pt c (Memref.whole cc0_scratch2) f) ∗ (∃ f, pt c (Memref.whole cc0_scratch3) f) ∗ (∃ f, pt c (Memref.whole cc0_scratch4) f) ∗ (∃ f, pt c (Memref.whole cc0_scratch5) f) ∗ (∃ f, pt c (Memref.whole cc0_scratch6) f) ∗ (∃ f, pt c (Memref.whole cc0_scratch7) f) ∗ (∃ f, pt c (Memref.whole cc0_scratch8) f)) := by
  rw [Pipeline.ΦD_eq, scr_eq, ownSems00_eq, hbmPts0_eq]
  unfold sideK sideV
  rw [bigK, bigV]
  iintro ⟨⟨K, Vr, S2, S3, S4, S5, S6, S7, S8⟩, Hg, ⟨q8, q9, q10, q11, q12, q13, q14, q15, q16, q17, q18, q19, q20, q21⟩, ⟨HK, HV⟩⟩
  isplitl [Hg]; · iexact Hg
  isplitl [q8 q9 q10 q11 q12 q13 HK K]
  · isplitl [q8 q9 q10 q11 q12 q13]
    · isplitl [q8]; · iexact q8
      isplitl [q9]; · iexact q9
      isplitl [q10]; · iexact q10
      isplitl [q11]; · iexact q11
      isplitl [q12]; · iexact q12
      iexact q13
    isplitl [HK]; · iexact HK
    iexact K
  isplitl [q14 q15 q16 q17 q18 q19 q20 q21 HV Vr]
  · isplitl [q14 q15 q16 q17 q18 q19 q20 q21]
    · isplitl [q14]; · iexact q14
      isplitl [q15]; · iexact q15
      isplitl [q16]; · iexact q16
      isplitl [q17]; · iexact q17
      isplitl [q18]; · iexact q18
      isplitl [q19]; · iexact q19
      isplitl [q20]; · iexact q20
      iexact q21
    isplitl [HV]; · iexact HV
    iexact Vr
  isplitl [S2]; · iexact S2
  isplitl [S3]; · iexact S3
  isplitl [S4]; · iexact S4
  isplitl [S5]; · iexact S5
  isplitl [S6]; · iexact S6
  isplitl [S7]; · iexact S7
  iexact S8

theorem phi_close (c : Dev nD) : iprop((∃ r, prngReg c r) ∗ sideK c (V m c main_v2) ∗ sideV c (V m c main_v4) ∗ (∃ f, pt c (Memref.whole cc0_scratch2) f) ∗ (∃ f, pt c (Memref.whole cc0_scratch3) f) ∗ (∃ f, pt c (Memref.whole cc0_scratch4) f) ∗ (∃ f, pt c (Memref.whole cc0_scratch5) f) ∗ (∃ f, pt c (Memref.whole cc0_scratch6) f) ∗ (∃ f, pt c (Memref.whole cc0_scratch7) f) ∗ (∃ f, pt c (Memref.whole cc0_scratch8) f)) ⊢ (Pipeline.ΦD osem0 spec0 H0 (V m) c : sProp 𝕄) := by
  rw [Pipeline.ΦD_eq, scr_eq, ownSems00_eq, hbmPts0_eq]
  unfold sideK sideV
  rw [bigK, bigV]
  iintro ⟨Hg, ⟨⟨q8, q9, q10, q11, q12, q13⟩, HK, K⟩, ⟨⟨q14, q15, q16, q17, q18, q19, q20, q21⟩, HV, Vr⟩, S2, S3, S4, S5, S6, S7, S8⟩
  isplitl [K Vr S2 S3 S4 S5 S6 S7 S8]
  · isplitl [K]; · iexact K
    isplitl [Vr]; · iexact Vr
    isplitl [S2]; · iexact S2
    isplitl [S3]; · iexact S3
    isplitl [S4]; · iexact S4
    isplitl [S5]; · iexact S5
    isplitl [S6]; · iexact S6
    isplitl [S7]; · iexact S7
    iexact S8
  isplitl [Hg]; · iexact Hg
  isplitl [q8 q9 q10 q11 q12 q13 q14 q15 q16 q17 q18 q19 q20 q21]
  · isplitl [q8]; · iexact q8
    isplitl [q9]; · iexact q9
    isplitl [q10]; · iexact q10
    isplitl [q11]; · iexact q11
    isplitl [q12]; · iexact q12
    isplitl [q13]; · iexact q13
    isplitl [q14]; · iexact q14
    isplitl [q15]; · iexact q15
    isplitl [q16]; · iexact q16
    isplitl [q17]; · iexact q17
    isplitl [q18]; · iexact q18
    isplitl [q19]; · iexact q19
    isplitl [q20]; · iexact q20
    iexact q21
  isplitl [HK]; · iexact HK
  iexact HV

/-- The results whose final contents this data does not name: none. -/
def forgets0 : Fin 8 → Bool := fun _ => false

/-- An operand's block as the body finds it. -/
def blkIn (c : Dev nD) (w : Fin (cfg0 (F := F)).W) (t : Fin (cfg0 (F := F)).N) : (((cfg0 (F := F)).win w).xblock ((cfg0 (F := F)).grid.coords t)).Idx → Elt F ((cfg0 (F := F)).win w).elt :=
  (((cfg0 (F := F)).win w).blk t).view.read (Elt F) (V m c (Pipeline.arrRef spec0 w))

/-- The codes: the new values over their scales, clipped and rounded. -/
def codesAt (c : Dev nD) (t : Fin (cfg0 (F := F)).N) : S6x4x160.Idx → Elt F .fp8e4m3 :=
  k0_pay4 (F := F) (blkIn m c 3 t) (blkIn m c 4 t)

variable (oU : Dev nD → Fin (cfg0 (F := F)).N → S24x8x160.Idx → Elt F .bf16) (oC : Dev nD → Fin (cfg0 (F := F)).N → S24x8x160.Idx → Elt F .f32)

/-- The proof data: the operands as they were, the two attention results, the codes' value. -/
def dats (_ : Fin 1) (c : Dev nD) : Dat τ (Elt F) Unit ℕ (Pipeline.UD sig nD τ) ℕ (cfg0 (F := F)) c where
  A w := V m c (Pipeline.arrRef spec0 w)
  after w t := match w with
    | ⟨0, _⟩ => blkIn m c 0 t
    | ⟨1, _⟩ => blkIn m c 1 t
    | ⟨2, _⟩ => blkIn m c 2 t
    | ⟨3, _⟩ => blkIn m c 3 t
    | ⟨4, _⟩ => blkIn m c 4 t
    | ⟨5, _⟩ => oU c t
    | ⟨6, _⟩ => oC c t
    | ⟨7, _⟩ => codesAt m c t
  Φ _ := Pipeline.ΦD osem0 spec0 H0 (V m) c
  q _ := fullShare
  owed _ := 0

theorem A_eq (c : Dev nD) (w : Fin (cfg0 (F := F)).W) : (dats m oU oC 0 c).A w = V m c (Pipeline.arrRef spec0 w) := by dsimp only [dats]
set_option maxHeartbeats 1000000 in
theorem before0_0 (c : Dev nD) (t : Fin (cfg0 (F := F)).N) (d) : (dats m oU oC 0 c).before 0 t d = blkIn m c 0 t :=
  ((dats m oU oC 0 c).before_fetched 0 t (fetch0_0 t) d).trans rfl
set_option maxHeartbeats 1000000 in
theorem before0_1 (c : Dev nD) (t : Fin (cfg0 (F := F)).N) (d) : (dats m oU oC 0 c).before 1 t d = blkIn m c 1 t :=
  ((dats m oU oC 0 c).before_fetched 1 t (fetch0_1 t) d).trans rfl
set_option maxHeartbeats 1000000 in
theorem before0_2 (c : Dev nD) (t : Fin (cfg0 (F := F)).N) (d) : (dats m oU oC 0 c).before 2 t d = blkIn m c 2 t :=
  ((dats m oU oC 0 c).before_fetched 2 t (fetch0_2 t) d).trans rfl
set_option maxHeartbeats 1000000 in
theorem before0_3 (c : Dev nD) (t : Fin (cfg0 (F := F)).N) (d) : (dats m oU oC 0 c).before 3 t d = blkIn m c 3 t :=
  ((dats m oU oC 0 c).before_fetched 3 t (fetch0_3 t) d).trans rfl
set_option maxHeartbeats 1000000 in
theorem before0_4 (c : Dev nD) (t : Fin (cfg0 (F := F)).N) (d) : (dats m oU oC 0 c).before 4 t d = blkIn m c 4 t :=
  ((dats m oU oC 0 c).before_fetched 4 t (fetch0_4 t) d).trans rfl

/-- The lengths the body reads are bounded by the caches' length. -/
theorem lens_blk (c : Dev nD) (t : Fin (cfg0 (F := F)).N) (i : S4.Idx) : ((blkIn m c 0 t : S4.Idx → BitVec 32) i).toNat ≤ 32768 := by
  have e : ∃ j : S4.Idx, (blkIn m c 0 t : S4.Idx → BitVec 32) i = (V m c main_v10 : S4.Idx → BitVec 32) j := ⟨_, rfl⟩
  obtain ⟨j, e⟩ := e
  rw [e, V_lens]
  exact clip_le _

attribute [local irreducible] blkIn
theorem after0_0 (c : Dev nD) (t : Fin (cfg0 (F := F)).N) : (dats m oU oC 0 c).after 0 t = blkIn m c 0 t := rfl
theorem after0_1 (c : Dev nD) (t : Fin (cfg0 (F := F)).N) : (dats m oU oC 0 c).after 1 t = blkIn m c 1 t := rfl
theorem after0_2 (c : Dev nD) (t : Fin (cfg0 (F := F)).N) : (dats m oU oC 0 c).after 2 t = blkIn m c 2 t := rfl
theorem after0_3 (c : Dev nD) (t : Fin (cfg0 (F := F)).N) : (dats m oU oC 0 c).after 3 t = blkIn m c 3 t := rfl
theorem after0_4 (c : Dev nD) (t : Fin (cfg0 (F := F)).N) : (dats m oU oC 0 c).after 4 t = blkIn m c 4 t := rfl
theorem after0_5 (c : Dev nD) (t : Fin (cfg0 (F := F)).N) : (dats m oU oC 0 c).after 5 t = oU c t := rfl
theorem after0_6 (c : Dev nD) (t : Fin (cfg0 (F := F)).N) : (dats m oU oC 0 c).after 6 t = oC c t := rfl
theorem after0_7 (c : Dev nD) (t : Fin (cfg0 (F := F)).N) : (dats m oU oC 0 c).after 7 t = codesAt m c t := rfl

def bodyPre (c : Dev nD) (t : Fin (cfg0 (F := F)).N) : sProp 𝕄 :=
  iprop((dats m oU oC 0 c).Φ t.castSucc ∗ (dats m oU oC 0 c).owesAt () t.castSucc ∗ (∃ d, owns (c : Thread nD τ) (st0_0 t) fullShare ((dats m oU oC 0 c).before 0 t d)) ∗ (∃ d, owns (c : Thread nD τ) (st0_1 t) fullShare ((dats m oU oC 0 c).before 1 t d)) ∗ (∃ d, owns (c : Thread nD τ) (st0_2 t) fullShare ((dats m oU oC 0 c).before 2 t d)) ∗ (∃ d, owns (c : Thread nD τ) (st0_3 t) fullShare ((dats m oU oC 0 c).before 3 t d)) ∗ (∃ d, owns (c : Thread nD τ) (st0_4 t) fullShare ((dats m oU oC 0 c).before 4 t d)) ∗ (∃ d, owns (c : Thread nD τ) (st0_5 t) fullShare ((dats m oU oC 0 c).before 5 t d)) ∗ (∃ d, owns (c : Thread nD τ) (st0_6 t) fullShare ((dats m oU oC 0 c).before 6 t d)) ∗ (∃ d, owns (c : Thread nD τ) (st0_7 t) fullShare ((dats m oU oC 0 c).before 7 t d)))
def bodyPost (c : Dev nD) (t : Fin (cfg0 (F := F)).N) : sProp 𝕄 :=
  iprop((dats m oU oC 0 c).Φ t.succ ∗ (dats m oU oC 0 c).owesAt () t.succ ∗ owns (c : Thread nD τ) (st0_0 t) fullShare ((dats m oU oC 0 c).after 0 t) ∗ owns (c : Thread nD τ) (st0_1 t) fullShare ((dats m oU oC 0 c).after 1 t) ∗ owns (c : Thread nD τ) (st0_2 t) fullShare ((dats m oU oC 0 c).after 2 t) ∗ owns (c : Thread nD τ) (st0_3 t) fullShare ((dats m oU oC 0 c).after 3 t) ∗ owns (c : Thread nD τ) (st0_4 t) fullShare ((dats m oU oC 0 c).after 4 t) ∗ owns (c : Thread nD τ) (st0_5 t) fullShare ((dats m oU oC 0 c).after 5 t) ∗ owns (c : Thread nD τ) (st0_6 t) fullShare ((dats m oU oC 0 c).after 6 t) ∗ owns (c : Thread nD τ) (st0_7 t) fullShare ((dats m oU oC 0 c).after 7 t))

theorem defs₀_row (t : Fin (cfg0 (F := F)).N) : defs₀ (F := F) .tc (cfg0 (F := F)).body ((cfg0 (F := F)).bodyArgs t ((cfg0 (F := F)).slots t)) = bodyAt0 t := by
  unfold defs₀; rw [Defs.onTc_tc]

end Generic

variable (m : (ℓ : Loc nD τ sig) → Buf (Elt Ideal) ℓ)

/-- What the kernel is given, pair by pair. -/
def envOf (c : Dev nD) (t : Fin (cfg0 (F := Ideal)).N) : Env where
  q p r d := (blkIn (F := Ideal) m c 1 t : S24x8x160.Idx → EReal) (ix3 p r d)
  k p d x := (V m c main_v2 : S24x160x32768.Idx → EReal) (ix3 p d x)
  v p d x := (V m c main_v4 : S24x160x32768.Idx → EReal) (ix3 p d x)
  kn p d := (blkIn (F := Ideal) m c 2 t : S6x4x160.Idx → EReal) (ix3 (hd p) (sq p) d)
  vd p d := codesAt (F := Ideal) m c t (ix3 (hd p) (sq p) d) * (blkIn (F := Ideal) m c 4 t : S6x4x160.Idx → EReal) (ix3 (hd p) (sq p) d)
  vs p d := (blkIn (F := Ideal) m c 4 t : S6x4x160.Idx → EReal) (ix3 (hd p) (sq p) d)
  L p := ((blkIn (F := Ideal) m c 0 t : S4.Idx → BitVec 32) (fun _ => ⟨(sq p).val, lt4 (sq p).isLt _⟩)).toNat

/-- The attention with the new token. -/
def outU (c : Dev nD) (t : Fin (cfg0 (F := Ideal)).N) : S24x8x160.Idx → Elt Ideal .bf16 := fun j => (envOf m c t).OU (j 0) (j 1) (j 2)
/-- The cache's part of it. -/
def outC (c : Dev nD) (t : Fin (cfg0 (F := Ideal)).N) : S24x8x160.Idx → Elt Ideal .f32 := fun j => (envOf m c t).OC (j 0) (j 1) (j 2)

theorem ix3_self (j : S24x8x160.Idx) : (ix3 (j 0) (j 1) (j 2) : S24x8x160.Idx) = j := by
  funext a; fin_cases a <;> rfl

/-- The operands, read through the body's staging buffers, are what the kernel is given. -/
theorem ok_of (c : Dev nD) (t : Fin (cfg0 (F := Ideal)).N) {L : ℕ → ℕ} (hL : ∀ b, L b ≤ 32768) (hW : ∀ i : S4.Idx, (blkIn (F := Ideal) m c 0 t : S4.Idx → BitVec 32) i = W (L (i 0).val))
    {q : S24x8x160.Idx → EReal} (hq : q = blkIn (F := Ideal) m c 1 t) {vs : S6x4x160.Idx → EReal} (hvs : vs = blkIn (F := Ideal) m c 4 t) :
    Ok c (envOf m c t) q (V m c main_v2) (V m c main_v4) vs L :=
  ⟨fun p r d => congrFun hq _, fun _ _ _ => rfl, fun _ _ _ => rfl, fun p d => congrFun hvs _, fun p => by
    show ((blkIn (F := Ideal) m c 0 t : S4.Idx → BitVec 32) _).toNat = L (min (sq p).val 3)
    rw [hW, show min (sq p).val 3 = (sq p).val from by have := (sq p).isLt; omega]
    have := hL (sq p).val
    show (BitVec.ofNat 32 (L (sq p).val)).toNat = _
    rw [BitVec.toNat_ofNat]
    omega, hL⟩

/-- Before the loop the new keys and the new values are in place. -/
theorem inv_start (c : Dev nD) (t : Fin (cfg0 (F := Ideal)).N) (L : ℕ → ℕ) {σ : St Ideal} {w2 : S6x4x160.Idx → Elt Ideal .bf16} (h2 : w2 = blkIn (F := Ideal) m c 2 t) {w3 : S6x4x160.Idx → Elt Ideal .bf16} (h3 : w3 = blkIn (F := Ideal) m c 3 t)
    {w4 : S6x4x160.Idx → Elt Ideal .f32} (h4 : w4 = blkIn (F := Ideal) m c 4 t) (hk : σ.kn = k0_pay2 (F := Ideal) w2) (hv : σ.vd = k0_pay1 (F := Ideal) (k0_pay5 (F := Ideal) w3 w4 w4)) : Inv (envOf m c t) L 0 0 σ := by
  refine inv_0 (fun p d => ?_) (fun p d => ?_)
  · rw [hk]
    refine (pay2_at _ _).trans ?_
    rw [h2]; rfl
  · rw [hv]
    refine (pay15_at _ _ _).trans ?_
    rw [h3, h4]; rfl

set_option maxHeartbeats 2000000 in
/-- The body runs from what the pipeline hands it to what it hands back. -/
theorem sound_body (c : Dev nD) (t : Fin (cfg0 (F := Ideal)).N) :
    bodyPre m (outU m) (outC m) c t ⊢ wp frame (wpE (defs₀ (F := Ideal)) Variants.nat c none) Set.univ (bodyAt0 t) (fun _ => bodyPost m (outU m) (outC m) c t) := by
  unfold bodyPre bodyPost bodyAt0
  rw [show (dats m (outU m) (outC m) 0 c).Φ t.succ = Pipeline.ΦD osem0 spec0 H0 (V m) c from rfl, show (dats m (outU m) (outC m) 0 c).Φ t.castSucc = Pipeline.ΦD osem0 spec0 H0 (V m) c from rfl]
  unfold Dat.owesAt Pipeline.owesWithin
  rw [show (dats m (outU m) (outC m) 0 c).owed t.castSucc = 0 from rfl, show (dats m (outU m) (outC m) 0 c).owed t.succ = 0 from rfl]
  simp only [before0_0, before0_1, before0_2, before0_3, before0_4]
  rw [after0_0, after0_1, after0_2, after0_3, after0_4, after0_5, after0_6, after0_7]
  obtain ⟨L, hL, hW⟩ := lens_exists (blkIn m c 0 t) (lens_blk m c t)
  unfold owns
  iintro ⟨HΦ, ⟨%W0, -, HW⟩, ⟨%d0, %f0, %e0, H0⟩, ⟨%d1, %f1, %e1, H1⟩, ⟨%d2, %f2, %e2, H2⟩, ⟨%d3, %f3, %e3, H3⟩, ⟨%d4, %f4, %e4, H4⟩, ⟨%d5, %f5, -, H5⟩, ⟨%d6, %f6, -, H6⟩, ⟨%d7, %f7, -, H7⟩⟩
  ihave HΦ := (phi_open m c) $$ HΦ
  icases HΦ with ⟨Hg, HK, HV, ⟨%g2, S2⟩, ⟨%g3, S3⟩, ⟨%g4, S4⟩, ⟨%g5, S5⟩, ⟨%g6, S6⟩, ⟨%g7, S7⟩, ⟨%g8, S8⟩⟩
  have hOk : LensOk (st0_0 t) c f0 L := ⟨hL, fun i => by rw [← hW i]; exact congrFun e0 i⟩
  have O := ok_of m c t hL hW e1 e4
  let σ0 : St Ideal := { s := (Memref.whole cc0_scratch2).view.read (Elt Ideal) g2, mr := (Memref.whole cc0_scratch3).view.read (Elt Ideal) g3, mf := (Memref.whole cc0_scratch4).view.read (Elt Ideal) g4, l := (Memref.whole cc0_scratch5).view.read (Elt Ideal) g5, acc := (Memref.whole cc0_scratch6).view.read (Elt Ideal) g6, kn := (Memref.whole cc0_scratch7).view.read (Elt Ideal) g7, vd := (Memref.whole cc0_scratch8).view.read (Elt Ideal) g8, oc := (st0_6 t).view.read (Elt Ideal) f6, ou := (st0_5 t).view.read (Elt Ideal) f5 }
  have h0 : Inv (envOf m c t) L 0 0 { σ0 with vd := k0_pay1 (F := Ideal) (k0_pay5 (F := Ideal) ((st0_3 t).view.read (Elt Ideal) f3) ((st0_4 t).view.read (Elt Ideal) f4) ((st0_4 t).view.read (Elt Ideal) f4)), kn := k0_pay2 (F := Ideal) ((st0_2 t).view.read (Elt Ideal) f2) } := inv_start m c t L e2 e3 e4 rfl rfl
  have hbw := body_wp (F := Ideal) (σ := σ0) (f0 := f0) (f1 := f1) (f4 := f4) c (st0_0 t) (hstage0_0 0) (st0_1 t) (hstage0_1 0) (Memref.whole cc0_scratch2) (isW _) (Memref.whole cc0_scratch3) (isW _) (Memref.whole cc0_scratch4) (isW _) (Memref.whole cc0_scratch5) (isW _) (Memref.whole cc0_scratch6) (isW _) (Memref.whole cc0_scratch7) (isW _) (st0_4 t) (hstage0_4 0) (st0_6 t) (hstage0_6 0) (Memref.whole cc0_scratch8) (isW _) (st0_5 t) (hstage0_5 0) (st0_2 t) (hstage0_2 0) (st0_3 t) (hstage0_3 0) (st0_7 t) (hstage0_7 0) (Inv (envOf m c t) L) hOk (V m c main_v2) (V m c main_v4) f2 f3
    (inv_A O) (inv_B O) (inv_C O) h0
  iapply (hbw.trans (Idealize.SL.Sem.wp_wand frame (wpE (defs₀ (F := Ideal)) Variants.nat (c : Thread nD τ) none) Set.univ)) $$ [HK HV H0 H1 H4 S2 S3 S4 S5 S6 S7 S8 H6 H5 H2 H3 H7 HW]
  · isplitl [HK]; · iexact HK
    isplitl [HV]; · iexact HV
    isplitl [H0 H1 H4 S2 S3 S4 S5 S6 S7 S8 H6 H5]
    · unfold Bufs
      isplitl [H0]; · iexact H0
      isplitl [H1]; · iexact H1
      isplitl [H4]; · iexact H4
      isplitl [S2]
      · unfold hb; iexists g2; isplitr; · ipureintro; rfl
        iexact S2
      isplitl [S3]
      · unfold hb; iexists g3; isplitr; · ipureintro; rfl
        iexact S3
      isplitl [S4]
      · unfold hb; iexists g4; isplitr; · ipureintro; rfl
        iexact S4
      isplitl [S5]
      · unfold hb; iexists g5; isplitr; · ipureintro; rfl
        iexact S5
      isplitl [S6]
      · unfold hb; iexists g6; isplitr; · ipureintro; rfl
        iexact S6
      isplitl [S7]
      · unfold hb; iexists g7; isplitr; · ipureintro; rfl
        iexact S7
      isplitl [S8]
      · unfold hb; iexists g8; isplitr; · ipureintro; rfl
        iexact S8
      isplitl [H6]
      · unfold hb; iexists f6; isplitr; · ipureintro; rfl
        iexact H6
      unfold hb; iexists f5; isplitr; · ipureintro; rfl
      iexact H5
    isplitl [H2]; · iexact H2
    isplitl [H3]; · iexact H3
    isplitl [H7]; · iexists _; iexact H7
    iexists _; iexact HW
  iintro %u ⟨HK, HV, ⟨%σ, %hσ, HB⟩, H2, H3, ⟨%f9, %e9, H7⟩, ⟨%W1, HW⟩⟩
  obtain ⟨i, j, -, hj, hI⟩ := hσ
  unfold Bufs hb
  icases HB with ⟨H0, H1, H4, ⟨%h2, -, S2⟩, ⟨%h3, -, S3⟩, ⟨%h4, -, S4⟩, ⟨%h5, -, S5⟩, ⟨%h6, -, S6⟩, ⟨%h7, -, S7⟩, ⟨%h8, -, S8⟩, ⟨%k6, %ek6, H6⟩, ⟨%k5, %ek5, H5⟩⟩
  isplitl [Hg HK HV S2 S3 S4 S5 S6 S7 S8]
  · iapply (phi_close m c)
    isplitl [Hg]; · iexact Hg
    isplitl [HK]; · iexact HK
    isplitl [HV]; · iexact HV
    isplitl [S2]; · iexists h2; iexact S2
    isplitl [S3]; · iexists h3; iexact S3
    isplitl [S4]; · iexists h4; iexact S4
    isplitl [S5]; · iexists h5; iexact S5
    isplitl [S6]; · iexists h6; iexact S6
    isplitl [S7]; · iexists h7; iexact S7
    iexists h8; iexact S8
  isplitl [HW]
  · iexists W1; isplitr; · ipureintro; exact fun _ _ => Or.inl trivial
    iexact HW
  isplitl [H0]
  · iexists f0; isplitr; · ipureintro; exact e0
    iexact H0
  isplitl [H1]
  · iexists f1; isplitr; · ipureintro; exact e1
    iexact H1
  isplitl [H2]
  · iexists f2; isplitr; · ipureintro; exact e2
    iexact H2
  isplitl [H3]
  · iexists f3; isplitr; · ipureintro; exact e3
    iexact H3
  isplitl [H4]
  · iexists f4; isplitr; · ipureintro; exact e4
    iexact H4
  isplitl [H5]
  · iexists k5; isplitr
    · ipureintro
      refine ek5.trans (funext fun a => ?_)
      exact (congrArg σ.ou (ix3_self a).symm).trans (inv_end hL hj hI (a 0) (a 1) (a 2)).2
    iexact H5
  isplitl [H6]
  · iexists k6; isplitr
    · ipureintro
      refine ek6.trans (funext fun a => ?_)
      exact (congrArg σ.oc (ix3_self a).symm).trans (inv_end hL hj hI (a 0) (a 1) (a 2)).1
    iexact H6
  iexists f9; isplitr
  · ipureintro
    refine e9.trans ?_
    unfold codesAt
    exact congrArg₂ (k0_pay4 (F := Ideal)) e3 e4
  iexact H7

theorem body_obligation (c : Dev nD) : BodyObligation (dats (F := Ideal) m (outU m) (outC m) 0 c) (defs₀ (F := Ideal)) Variants.nat () Set.univ forgets0 := fun t => by
  rw [bigSep_W0, bigSep_W0, defs₀_row]
  exact triple_restated (sound_body m c t) rfl .rfl fun _ => .rfl

variable (g : Dev nD → PrngReg)

set_option backward.isDefEq.respectTransparency.types false in
/-- Every run terminates with the counters at zero and the buffers as the proof data says. -/
theorem run_main :
    θ_run defs (onTc (τ := τ) (main (F := Ideal))) (s₀ m g)
      (fun r => Pipeline.RDat.FramePost (cfgs 0) (fun c => (dats m (outU m) (outC m) 0 c).toRForget forgets0) (V m) r ∧ r.2.sem = fun _ => 0) :=
  Pipeline.θ_run_frame_dma_forget (Q' := _) cfgs (dats m (outU m) (outC m)) (0 : Fin 1) launch0 osem0 defs₀ Variants.nat forgets0 ownSemFacts0 H0 H0_sub m g main
    (hbody := fun c => (body_obligation m c).loose) (hshare := fun c => (dats m (outU m) (outC m) 0 c).share_full fun _ => rfl)
    (howed := fun _ _ => rfl) (V := V m) (hmain := hmain m Variants.nat) (hA := A_eq m (outU m) (outC m))
    (hin := fun _ => .rfl) (hout := fun _ => .rfl)

/-- The arguments end as they were. -/
theorem final_arg {r : PUnit × MemSt nD τ sig (Elt Ideal)}
    (h : Pipeline.RDat.FramePost (cfgs 0) (fun c => (dats (F := Ideal) m (outU m) (outC m) 0 c).toRForget forgets0) (V m) r) (c : Dev nD) (b : Ref sig .tc)
    (hb : b ∈ [main_arg0, main_arg1, main_arg2, main_arg3, main_arg4, main_arg5, main_arg6]) (hr : b ∈ Pipeline.restRefs sig spec0) :
    r.2.mem ((c : Thread nD τ).loc b) = m ((c : Thread nD τ).loc b) :=
  ((h c).2 b hr).trans (V_of_arg m c b hb)

/-- The frame. -/
theorem frame : θ_run defs (onTc (τ := τ) (main (F := Ideal))) ⟨m, fun _ => 0, g⟩
    (fun r => (∀ c : Dev nD, r.2.mem ((c.tc : Thread nD τ).loc main_arg0) = m ((c.tc : Thread nD τ).loc main_arg0) ∧ r.2.mem ((c.tc : Thread nD τ).loc main_arg1) = m ((c.tc : Thread nD τ).loc main_arg1) ∧ r.2.mem ((c.tc : Thread nD τ).loc main_arg2) = m ((c.tc : Thread nD τ).loc main_arg2) ∧ r.2.mem ((c.tc : Thread nD τ).loc main_arg3) = m ((c.tc : Thread nD τ).loc main_arg3) ∧ r.2.mem ((c.tc : Thread nD τ).loc main_arg4) = m ((c.tc : Thread nD τ).loc main_arg4) ∧ r.2.mem ((c.tc : Thread nD τ).loc main_arg5) = m ((c.tc : Thread nD τ).loc main_arg5) ∧ r.2.mem ((c.tc : Thread nD τ).loc main_arg6) = m ((c.tc : Thread nD τ).loc main_arg6)) ∧ r.2.sem = fun _ => 0) :=
  (θ_run defs _ _).mono (fun r (h : _ ∧ _) => ⟨fun c => ⟨final_arg m h.1 c main_arg0 (by decide) (Pipeline.mem_restRefs_of main_arg0 (by decide) (by decide)), final_arg m h.1 c main_arg1 (by decide) (Pipeline.mem_restRefs_of main_arg1 (by decide) (by decide)), final_arg m h.1 c main_arg2 (by decide) (Pipeline.mem_restRefs_of main_arg2 (by decide) (by decide)), final_arg m h.1 c main_arg3 (by decide) (Pipeline.mem_restRefs_of main_arg3 (by decide) (by decide)), final_arg m h.1 c main_arg4 (by decide) (Pipeline.mem_restRefs_of main_arg4 (by decide) (by decide)), final_arg m h.1 c main_arg5 (by decide) (Pipeline.mem_restRefs_of main_arg5 (by decide) (by decide)), final_arg m h.1 c main_arg6 (by decide) (Pipeline.mem_restRefs_of main_arg6 (by decide) (by decide))⟩, h.2⟩) (run_main m g)

end Cert.KernelIdeal.Hand
-- ==== Proof.Args.lean ====
module

public import proofs.«01_k».proof.Proof.Spec
public import Idealize.ShloMosaic.Lib.Pointwise

@[expose] public section

/-!
What the pairs are given, from the arguments.
-/

noncomputable section

namespace Cert.Spec

open Idealize.ShloMosaic

/-- The quotient of a new value and its scale, clipped. -/
def codeE (v s : EReal) : EReal := min cP (max (Ideal.ofBits .f32 0xC3E00000#32) (Ideal.div v s))

/-- A length argument, as a number of cached positions. -/
def lenOf (n : BitVec 32) : ℕ := min n.toInt.toNat 32768

/-- What the pairs are given, from the arguments. -/
def envArg (x : Fin 4 → Fin 7680 → EReal) (kn vn : Fin 4 → Fin 6 → Fin 160 → EReal) (k v : Fin 4 → Fin 32768 → Fin 6 → Fin 160 → EReal) (s : Fin 4 → Fin 6 → Fin 160 → EReal) (n : Fin 4 → BitVec 32) : Env where
  q p r d := x (pS p) ⟨(pH p).val * 1280 + r.val * 160 + d.val, by have := (pH p).isLt; omega⟩
  k p d t := k (pS p) t (pH p) d
  v p d t := v (pS p) t (pH p) d
  kn p d := kn (pS p) (pH p) d
  vd p d := codeE (vn (pS p) (pH p) d) (s (pS p) (pH p) d) * s (pS p) (pH p) d
  vs p d := s (pS p) (pH p) d
  L p := lenOf (n (pS p))

/-- The clipped length, as the kernel computes it. -/
theorem clip_len (x : BitVec 32) : (Scalar.minsi 32768#32 (Scalar.maxsi 0#32 x)).toNat = lenOf x := by
  have h : Scalar.minsi 32768#32 (Scalar.maxsi 0#32 x) = if (32768#32).slt (if x.slt 0#32 then 0#32 else x) then 32768#32 else (if x.slt 0#32 then 0#32 else x) := rfl
  rw [h]
  simp only [BitVec.slt_eq_decide, decide_eq_true_eq]
  have hx : x.toInt = if 2 * x.toNat < 2 ^ 32 then (x.toNat : ℤ) else (x.toNat : ℤ) - 2 ^ 32 := by rw [BitVec.toInt_eq_toNat_cond]; rfl
  have h0 : (0#32 : BitVec 32).toInt = 0 := by decide
  have h3 : (32768#32 : BitVec 32).toInt = 32768 := by decide
  have n0 : (0#32 : BitVec 32).toNat = 0 := rfl
  have n3 : (32768#32 : BitVec 32).toNat = 32768 := rfl
  unfold lenOf
  by_cases hn : x.toInt < (0#32 : BitVec 32).toInt
  · simp only [if_pos hn]; rw [h0, h3, if_neg (by omega), n0]; rw [h0] at hn; omega
  · simp only [if_neg hn]; rw [h3]
    by_cases hb : (32768 : ℤ) < x.toInt
    · rw [if_pos hb, n3]; omega
    · rw [if_neg hb]; rw [h0] at hn; have := x.isLt; split at hx <;> omega

/-- The mask of a position, as the reference computes it. -/
theorem mask_len (x : Fin 32768) (n : BitVec 32) (a : EReal) : Scalar.select (Scalar.cmpi .slt (BitVec.ofNat 32 x.val) n) a ⊥ = if x.val < lenOf n then a else ⊥ := by
  have h : Scalar.select (Scalar.cmpi .slt (BitVec.ofNat 32 x.val) n) a ⊥ = if (BitVec.ofNat 32 x.val).slt n then a else (⊥ : EReal) := by
    cases hs : (BitVec.ofNat 32 x.val).slt n <;> simp [Scalar.select, Scalar.cmpi, IntOp.cmpi, hs]
  rw [h]
  have hx : (BitVec.ofNat 32 x.val).toInt = x.val := by
    rw [BitVec.toInt_eq_toNat_cond, BitVec.toNat_ofNat]
    have := x.isLt
    rw [Nat.mod_eq_of_lt (by omega), if_pos (by omega)]
  simp only [BitVec.slt_eq_decide, decide_eq_true_eq, hx]
  unfold lenOf
  have := x.isLt
  by_cases hl : (x.val : ℤ) < n.toInt
  · rw [if_pos hl, if_pos (by omega)]
  · rw [if_neg hl, if_neg (by omega)]

end Cert.Spec
-- ==== Proof.KI.Codes.lean ====
module

public import proofs.«01_k».proof.Proof.KI.Frame
public import proofs.«01_k».proof.Proof.Args
public import Idealize.ShloMosaic.Lib.Pointwise
public import Idealize.ShloMosaic.Lib.Claim
public import Idealize.ShloMosaic.Lib.Pipeline.ValueKit

@[expose] public section

/-!
The results, as the kernel leaves them.
-/

noncomputable section

namespace Cert.KernelIdeal.Hand

open Cert.KernelIdeal Cert.KernelIdeal.Gen Cert.Spec Cert.Words
open Idealize.ShloMosaic Idealize.ShloMosaic.TcCoe Idealize.ShloMosaic.Tactic
open Idealize.SL Idealize.SL.Sem
open Idealize.ShloMosaic.Pipeline (Dat Cfg Window)

variable {F : FTy → Type} [FloatOps F]
variable (m : (ℓ : Loc nD τ sig) → Buf (Elt F) ℓ)

/-- The code of a new value `v` at scale `s`: the quotient, clipped and rounded. -/
def codeOf (v : F .bf16) (s : F .f32) : F .fp8e4m3 :=
  FloatOps.truncf .fp8e4m3 bitsLt_fp8e4m3_f32 (FloatOps.minimumf (Scalar.ofBits .f32 0x43E00000#32)
    (FloatOps.maximumf (Scalar.ofBits .f32 0xC3E00000#32) (FloatOps.divf (FloatOps.extf .f32 bitsLt_bf16_f32 v) s)))

/-- The new values as the kernel is given them: heads first. -/
theorem vn_at (c : Dev nD) (j : S6x4x160.Idx) :
    (V m c main_v8 : S6x4x160.Idx → F .bf16) j = (m ((c : Thread nD τ).loc main_arg2) : S4x1x6x160.Idx → F .bf16) (ix4 (j 1) 0 (j 0) (j 2)) := by
  unfold V
  simp only [hostOps0, hostOps0_1, List.flatten_cons, List.flatten_nil, List.append_nil, List.cons_append, List.nil_append]
  after_results
  pointwise

/-- The scales as the kernel is given them: heads first. -/
theorem vs_at (c : Dev nD) (j : S6x4x160.Idx) :
    (V m c main_v9 : S6x4x160.Idx → F .f32) j = (m ((c : Thread nD τ).loc main_arg5) : S4x6x160.Idx → F .f32) (ix3 (j 1) (j 0) (j 2)) := by
  unfold V
  simp only [hostOps0, hostOps0_1, List.flatten_cons, List.flatten_nil, List.append_nil, List.cons_append, List.nil_append]
  after_results
  pointwise

/-- The queries as the kernel is given them: pair by pair. -/
theorem kq_at (c : Dev nD) (p : Fin 24) (r : Fin 8) (d : Fin 160) :
    (V m c main_v0 : S24x8x160.Idx → F .bf16) (ix3 p r d) = (m ((c : Thread nD τ).loc main_arg0) : S4x1x7680.Idx → F .bf16) (ix3 (sq p) 0 ⟨(hd p).val * 1280 + r.val * 160 + d.val, by have := (hd p).isLt; omega⟩) := by
  unfold V
  simp only [hostOps0, hostOps0_1, List.flatten_cons, List.flatten_nil, List.append_nil, List.cons_append, List.nil_append]
  after_results
  pointwise

/-- The cached keys as the kernel is given them: pair by pair, positions last. -/
theorem kk_at (c : Dev nD) (p : Fin 24) (d : Fin 160) (x : Fin 32768) :
    (V m c main_v2 : S24x160x32768.Idx → F .bf16) (ix3 p d x) = (m ((c : Thread nD τ).loc main_arg3) : S4x32768x6x160.Idx → F .bf16) (ix4 (sq p) x (hd p) d) := by
  unfold V
  simp only [hostOps0, hostOps0_1, List.flatten_cons, List.flatten_nil, List.append_nil, List.cons_append, List.nil_append]
  after_results
  pointwise

/-- The cached value codes as the kernel is given them: pair by pair, positions last. -/
theorem kv_at (c : Dev nD) (p : Fin 24) (d : Fin 160) (x : Fin 32768) :
    (V m c main_v4 : S24x160x32768.Idx → F .fp8e4m3) (ix3 p d x) = (m ((c : Thread nD τ).loc main_arg4) : S4x32768x6x160.Idx → F .fp8e4m3) (ix4 (sq p) x (hd p) d) := by
  unfold V
  simp only [hostOps0, hostOps0_1, List.flatten_cons, List.flatten_nil, List.append_nil, List.cons_append, List.nil_append]
  after_results
  pointwise

/-- The new keys as the kernel is given them: heads first. -/
theorem kn_at (c : Dev nD) (j : S6x4x160.Idx) :
    (V m c main_v6 : S6x4x160.Idx → F .bf16) j = (m ((c : Thread nD τ).loc main_arg1) : S4x1x6x160.Idx → F .bf16) (ix4 (j 1) 0 (j 0) (j 2)) := by
  unfold V
  simp only [hostOps0, hostOps0_1, List.flatten_cons, List.flatten_nil, List.append_nil, List.cons_append, List.nil_append]
  after_results
  pointwise

/-- The body's codes, element by element. -/
theorem pay4_at (v : S6x4x160.Idx → F .bf16) (s : S6x4x160.Idx → F .f32) (j : S6x4x160.Idx) : k0_pay4 (F := F) v s j = codeOf (v j) (s j) := by
  unfold k0_pay4 codeOf
  pointwise

/-- The kernel's block of new values is the whole operand. -/
theorem blkIn3_at (c : Dev nD) (t : Fin (cfg0 (F := F)).N) (j : S6x4x160.Idx) : (blkIn m c 3 t : S6x4x160.Idx → F .bf16) j = (V m c main_v8 : S6x4x160.Idx → F .bf16) j := by
  rw [fin_N0 t]
  have hi : ∀ a, ((cfg0 (F := F)).win 3).index t0_0 a = 0 := (by decide +kernel : ∀ a, win0_3.index t0_0 a = 0)
  unfold blkIn
  refine congrArg (V m c main_v8 : S6x4x160.Idx → F .bf16) (funext fun a => Fin.ext ?_)
  have h0 := hi (0 : Fin 3); have h1 := hi (1 : Fin 3); have h2 := hi (2 : Fin 3)
  fin_cases a <;> (blk_simp; omega)

/-- The kernel's block of scales is the whole operand. -/
theorem blkIn4_at (c : Dev nD) (t : Fin (cfg0 (F := F)).N) (j : S6x4x160.Idx) : (blkIn m c 4 t : S6x4x160.Idx → F .f32) j = (V m c main_v9 : S6x4x160.Idx → F .f32) j := by
  rw [fin_N0 t]
  have hi : ∀ a, ((cfg0 (F := F)).win 4).index t0_0 a = 0 := (by decide +kernel : ∀ a, win0_4.index t0_0 a = 0)
  unfold blkIn
  refine congrArg (V m c main_v9 : S6x4x160.Idx → F .f32) (funext fun a => Fin.ext ?_)
  have h0 := hi (0 : Fin 3); have h1 := hi (1 : Fin 3); have h2 := hi (2 : Fin 3)
  fin_cases a <;> (blk_simp; omega)

/-- The kernel's block of queries is the whole operand. -/
theorem blkIn1_at (c : Dev nD) (t : Fin (cfg0 (F := F)).N) (j : S24x8x160.Idx) : (blkIn m c 1 t : S24x8x160.Idx → F .bf16) j = (V m c main_v0 : S24x8x160.Idx → F .bf16) j := by
  rw [fin_N0 t]
  have hi : ∀ a, ((cfg0 (F := F)).win 1).index t0_0 a = 0 := (by decide +kernel : ∀ a, win0_1.index t0_0 a = 0)
  unfold blkIn
  refine congrArg (V m c main_v0 : S24x8x160.Idx → F .bf16) (funext fun a => Fin.ext ?_)
  have h0 := hi (0 : Fin 3); have h1 := hi (1 : Fin 3); have h2 := hi (2 : Fin 3)
  fin_cases a <;> (blk_simp; omega)

/-- The kernel's block of new keys is the whole operand. -/
theorem blkIn2_at (c : Dev nD) (t : Fin (cfg0 (F := F)).N) (j : S6x4x160.Idx) : (blkIn m c 2 t : S6x4x160.Idx → F .bf16) j = (V m c main_v6 : S6x4x160.Idx → F .bf16) j := by
  rw [fin_N0 t]
  have hi : ∀ a, ((cfg0 (F := F)).win 2).index t0_0 a = 0 := (by decide +kernel : ∀ a, win0_2.index t0_0 a = 0)
  unfold blkIn
  refine congrArg (V m c main_v6 : S6x4x160.Idx → F .bf16) (funext fun a => Fin.ext ?_)
  have h0 := hi (0 : Fin 3); have h1 := hi (1 : Fin 3); have h2 := hi (2 : Fin 3)
  fin_cases a <;> (blk_simp; omega)

/-- The kernel's block of lengths is the whole operand. -/
theorem blkIn0_at (c : Dev nD) (t : Fin (cfg0 (F := F)).N) (j : S4.Idx) : (blkIn m c 0 t : S4.Idx → BitVec 32) j = (V m c main_v10 : S4.Idx → BitVec 32) j := by
  rw [fin_N0 t]
  have hi : ∀ a, ((cfg0 (F := F)).win 0).index t0_0 a = 0 := (by decide +kernel : ∀ a, win0_0.index t0_0 a = 0)
  unfold blkIn
  refine congrArg (V m c main_v10 : S4.Idx → BitVec 32) (funext fun a => Fin.ext ?_)
  have h0 := hi (0 : Fin 1)
  fin_cases a <;> (blk_simp; omega)

attribute [local irreducible] blkIn codesAt

variable (oU : Dev nD → Fin (cfg0 (F := F)).N → S24x8x160.Idx → Elt F .bf16) (oC : Dev nD → Fin (cfg0 (F := F)).N → S24x8x160.Idx → Elt F .f32)

/-- The codes the kernel leaves. -/
theorem codes_final (c : Dev nD) (G : S6x4x160.Idx → F .fp8e4m3)
    (hG : ((dats m oU oC 0 c).toRForget forgets0).ArrAt 7 (cfg0 (F := F)).N G) (j : S6x4x160.Idx) :
    G j = codeOf ((m ((c : Thread nD τ).loc main_arg2) : S4x1x6x160.Idx → F .bf16) (ix4 (j 1) 0 (j 0) (j 2)))
      ((m ((c : Thread nD τ).loc main_arg5) : S4x6x160.Idx → F .f32) (ix3 (j 1) (j 0) (j 2))) := by
  have e := ((dats m oU oC 0 c).toRForget_arrAt_iff (fgt := forgets0) (w := 7) rfl (cfg0 (F := F)).N G).mp hG
  have e2 : (codesAt m c t0_0 : S6x4x160.Idx → F .fp8e4m3) j = codeOf ((m ((c : Thread nD τ).loc main_arg2) : S4x1x6x160.Idx → F .bf16) (ix4 (j 1) 0 (j 0) (j 2)))
      ((m ((c : Thread nD τ).loc main_arg5) : S4x6x160.Idx → F .f32) (ix3 (j 1) (j 0) (j 2))) := by
    unfold codesAt
    exact (pay4_at _ _ j).trans (congrArg₂ codeOf ((blkIn3_at m c t0_0 j).trans (vn_at m c j)) ((blkIn4_at m c t0_0 j).trans (vs_at m c j)))
  refine (congrFun e j).trans (((dats m oU oC 0 c).arrAt_emb_eq_after_last 7 t0_0 (by decide +kernel : win0_7.WholeAt t0_0) j).trans ?_)
  rw [after0_7]
  exact e2

/-- The attention the kernel leaves. -/
theorem out_final (c : Dev nD) (G : S24x8x160.Idx → F .bf16) (hG : ((dats m oU oC 0 c).toRForget forgets0).ArrAt 5 (cfg0 (F := F)).N G) (j : S24x8x160.Idx) : G j = oU c t0_0 j := by
  have e := ((dats m oU oC 0 c).toRForget_arrAt_iff (fgt := forgets0) (w := 5) rfl (cfg0 (F := F)).N G).mp hG
  refine (congrFun e j).trans (((dats m oU oC 0 c).arrAt_emb_eq_after_last 5 t0_0 (by decide +kernel : win0_5.WholeAt t0_0) j).trans ?_)
  rw [after0_5]
  rfl

/-- The cache's share of it the kernel leaves. -/
theorem outc_final (c : Dev nD) (G : S24x8x160.Idx → F .f32) (hG : ((dats m oU oC 0 c).toRForget forgets0).ArrAt 6 (cfg0 (F := F)).N G) (j : S24x8x160.Idx) : G j = oC c t0_0 j := by
  have e := ((dats m oU oC 0 c).toRForget_arrAt_iff (fgt := forgets0) (w := 6) rfl (cfg0 (F := F)).N G).mp hG
  refine (congrFun e j).trans (((dats m oU oC 0 c).arrAt_emb_eq_after_last 6 t0_0 (by decide +kernel : win0_6.WholeAt t0_0) j).trans ?_)
  rw [after0_6]
  rfl

/-- The code of every new value, heads first. -/
def codesOf (c : Dev nD) : Buf (Elt F) ((c.tc : Thread nD τ).loc main_v11_2) :=
  fun j : S6x4x160.Idx => codeOf ((m ((c : Thread nD τ).loc main_arg2) : S4x1x6x160.Idx → F .bf16) (ix4 (j 1) 0 (j 0) (j 2)))
      ((m ((c : Thread nD τ).loc main_arg5) : S4x6x160.Idx → F .f32) (ix3 (j 1) (j 0) (j 2)))

section Run

variable (m : (ℓ : Loc nD τ sig) → Buf (Elt Ideal) ℓ)

/-- What the pairs are given, from the kernel's arguments. -/
def env (c : Dev nD) : Env := envArg (fun b i => (m ((c : Thread nD τ).loc main_arg0) : S4x1x7680.Idx → EReal) (ix3 b 0 i))
  (fun b g d => (m ((c : Thread nD τ).loc main_arg1) : S4x1x6x160.Idx → EReal) (ix4 b 0 g d)) (fun b g d => (m ((c : Thread nD τ).loc main_arg2) : S4x1x6x160.Idx → EReal) (ix4 b 0 g d))
  (fun b t g d => (m ((c : Thread nD τ).loc main_arg3) : S4x32768x6x160.Idx → EReal) (ix4 b t g d)) (fun b t g d => (m ((c : Thread nD τ).loc main_arg4) : S4x32768x6x160.Idx → EReal) (ix4 b t g d))
  (fun b g d => (m ((c : Thread nD τ).loc main_arg5) : S4x6x160.Idx → EReal) (ix3 b g d)) (fun b => (m ((c : Thread nD τ).loc main_arg6) : S4.Idx → BitVec 32) (ix1 b))

theorem code_eq (v s : EReal) : codeOf (F := Ideal) v s = codeE v s := rfl

theorem env_eq (c : Dev nD) : envOf m c t0_0 = env m c := by
  refine Env.ext ?_ ?_ ?_ ?_ ?_ ?_ ?_
  · funext p r d
    exact (blkIn1_at m c t0_0 _).trans (kq_at m c p r d)
  · funext p d x
    exact kk_at m c p d x
  · funext p d x
    exact kv_at m c p d x
  · funext p d
    exact (blkIn2_at m c t0_0 _).trans (kn_at m c _)
  · funext p d
    have e3 := (blkIn3_at m c t0_0 (ix3 (hd p) (sq p) d)).trans (vn_at m c _)
    have e4 := (blkIn4_at m c t0_0 (ix3 (hd p) (sq p) d)).trans (vs_at m c _)
    have e : codesAt (F := Ideal) m c t0_0 (ix3 (hd p) (sq p) d) = codeOf (F := Ideal) (blkIn m c 3 t0_0 (ix3 (hd p) (sq p) d)) (blkIn m c 4 t0_0 (ix3 (hd p) (sq p) d)) := by unfold codesAt; exact pay4_at _ _ _
    have e := e.trans (congrArg₂ (codeOf (F := Ideal)) e3 e4)
    exact congrArg₂ (· * ·) e e4
  · funext p d
    exact (blkIn4_at m c t0_0 _).trans (vs_at m c _)
  · funext p
    refine ((congrArg BitVec.toNat ((blkIn0_at m c t0_0 _).trans (V_lens m c _))).trans (clip_len _)).trans ?_
    refine congrArg (fun j => lenOf ((m ((c : Thread nD τ).loc main_arg6) : S4.Idx → BitVec 32) j)) (?_ : _ = ix1 (sq p))
    funext a
    fin_cases a
    rfl

/-- The attention, as the kernel's result. -/
def resU (c : Dev nD) : Buf (Elt Ideal) ((c.tc : Thread nD τ).loc main_v11_0) := fun j : S24x8x160.Idx => (env m c).OU (j 0) (j 1) (j 2)
/-- The cache's share of it, as the kernel's result. -/
def resC (c : Dev nD) : Buf (Elt Ideal) ((c.tc : Thread nD τ).loc main_v11_1) := fun j : S24x8x160.Idx => (env m c).OC (j 0) (j 1) (j 2)

theorem outU_eq (c : Dev nD) (j : S24x8x160.Idx) : outU m c t0_0 j = resU m c j := by unfold outU; rw [env_eq]; rfl
theorem outC_eq (c : Dev nD) (j : S24x8x160.Idx) : outC m c t0_0 j = resC m c j := by unfold outC; rw [env_eq]; rfl

/-- The kernel ends with the codes of the new values, the attention and the cache's share of it, and its arguments as they were. -/
theorem run_results (g : Dev nD → PrngReg) : θ_run defs (onTc (τ := τ) (main (F := Ideal))) ⟨m, fun _ => 0, g⟩ (fun r => ∀ c : Dev nD,
    r.2.mem ((c.tc : Thread nD τ).loc main_v11_0) = resU m c ∧ r.2.mem ((c.tc : Thread nD τ).loc main_v11_1) = resC m c ∧ r.2.mem ((c.tc : Thread nD τ).loc main_v11_2) = codesOf m c ∧ r.2.mem ((c.tc : Thread nD τ).loc main_arg0) = m ((c.tc : Thread nD τ).loc main_arg0) ∧ r.2.mem ((c.tc : Thread nD τ).loc main_arg1) = m ((c.tc : Thread nD τ).loc main_arg1) ∧ r.2.mem ((c.tc : Thread nD τ).loc main_arg2) = m ((c.tc : Thread nD τ).loc main_arg2) ∧ r.2.mem ((c.tc : Thread nD τ).loc main_arg3) = m ((c.tc : Thread nD τ).loc main_arg3) ∧ r.2.mem ((c.tc : Thread nD τ).loc main_arg4) = m ((c.tc : Thread nD τ).loc main_arg4) ∧ r.2.mem ((c.tc : Thread nD τ).loc main_arg5) = m ((c.tc : Thread nD τ).loc main_arg5) ∧ r.2.mem ((c.tc : Thread nD τ).loc main_arg6) = m ((c.tc : Thread nD τ).loc main_arg6)) :=
  (θ_run defs _ _).mono (fun r (h : _ ∧ _) c => ⟨funext fun j => (out_final m _ _ c _ ((h.1 c).1 5) j).trans (outU_eq m c j), funext fun j => (outc_final m _ _ c _ ((h.1 c).1 6) j).trans (outC_eq m c j), funext fun j => codes_final m _ _ c _ ((h.1 c).1 7) j, final_arg m h.1 c main_arg0 (by decide) (Pipeline.mem_restRefs_of main_arg0 (by decide) (by decide)), final_arg m h.1 c main_arg1 (by decide) (Pipeline.mem_restRefs_of main_arg1 (by decide) (by decide)), final_arg m h.1 c main_arg2 (by decide) (Pipeline.mem_restRefs_of main_arg2 (by decide) (by decide)), final_arg m h.1 c main_arg3 (by decide) (Pipeline.mem_restRefs_of main_arg3 (by decide) (by decide)), final_arg m h.1 c main_arg4 (by decide) (Pipeline.mem_restRefs_of main_arg4 (by decide) (by decide)), final_arg m h.1 c main_arg5 (by decide) (Pipeline.mem_restRefs_of main_arg5 (by decide) (by decide)), final_arg m h.1 c main_arg6 (by decide) (Pipeline.mem_restRefs_of main_arg6 (by decide) (by decide))⟩) (run_main m g)

end Run

end Cert.KernelIdeal.Hand
-- ==== Proof.RefCodes.lean ====
module

public import proofs.«01_k».proof.Proof.Gen.ReferenceIdeal
public import proofs.«01_k».proof.Proof.Gen.ReferenceIdeal.Value
public import proofs.«01_k».proof.Proof.Args
public import Idealize.ShloMosaic.Lib.Pointwise
public import Idealize.ShloMosaic.Lib.Claim
public import Idealize.ShloMosaic.Lib.Pipeline.ValueKit

@[expose] public section

/-!
What the reference computes, pair by pair, and the codes it leaves.
-/

noncomputable section

namespace Cert.ReferenceIdeal.Hand

open Cert.ReferenceIdeal Cert.ReferenceIdeal.Gen Cert.Sums Cert.Spec
open Idealize.ShloMosaic Idealize.ShloMosaic.TcCoe Idealize.ShloMosaic.Tactic
open Idealize.SL Idealize.SL.Sem
open Idealize.ShloMosaic.Pipeline (Dat Cfg Window)

variable {F : FTy → Type} [FloatOps F]
variable (m : (ℓ : Loc nD τ sig) → Buf (Elt F) ℓ)

/-- The queries, pair by pair. -/
theorem kq_at (c : Dev nD) (p : Fin 24) (r : Fin 8) (d : Fin 160) :
    (V m c main_v0 : S24x8x160.Idx → F .bf16) (ix3 p r d) = (m ((c : Thread nD τ).loc main_arg0) : S4x1x7680.Idx → F .bf16) (ix3 (pS p) 0 ⟨(pH p).val * 1280 + r.val * 160 + d.val, by have := (pH p).isLt; omega⟩) := by
  show StableHlo.after hostOps0 (fun b => m (c, b)) main_v0 _ = _
  simp only [hostOps0]
  after_results
  pointwise

/-- The cached keys, pair by pair. -/
theorem kk_at (c : Dev nD) (p : Fin 24) (d : Fin 160) (x : Fin 32768) :
    (V m c main_v2 : S24x32768x160.Idx → F .bf16) (ix3 p x d) = (m ((c : Thread nD τ).loc main_arg3) : S4x32768x6x160.Idx → F .bf16) (ix4 (pS p) x (pH p) d) := by
  show StableHlo.after hostOps0 (fun b => m (c, b)) main_v2 _ = _
  simp only [hostOps0]
  after_results
  pointwise

/-- The cached value codes, pair by pair. -/
theorem kv_at (c : Dev nD) (p : Fin 24) (d : Fin 160) (x : Fin 32768) :
    (V m c main_v4 : S24x32768x160.Idx → F .fp8e4m3) (ix3 p x d) = (m ((c : Thread nD τ).loc main_arg4) : S4x32768x6x160.Idx → F .fp8e4m3) (ix4 (pS p) x (pH p) d) := by
  show StableHlo.after hostOps0 (fun b => m (c, b)) main_v4 _ = _
  simp only [hostOps0]
  after_results
  pointwise

/-- The lengths, pair by pair. -/
theorem n_at (c : Dev nD) (p : Fin 24)  :
    (V m c main_v7 : S24x1x1.Idx → BitVec 32) (ix3 p 0 0) = (m ((c : Thread nD τ).loc main_arg6) : S4.Idx → BitVec 32) (ix1 (pS p)) := by
  show StableHlo.after hostOps0 (fun b => m (c, b)) main_v7 _ = _
  simp only [hostOps0]
  after_results
  pointwise

/-- The new keys, pair by pair. -/
theorem kn_at (c : Dev nD) (p : Fin 24) (d : Fin 160) :
    (V m c main_v8 : S24x1x160.Idx → F .bf16) (ix3 p 0 d) = (m ((c : Thread nD τ).loc main_arg1) : S4x1x6x160.Idx → F .bf16) (ix4 (pS p) 0 (pH p) d) := by
  show StableHlo.after hostOps0 (fun b => m (c, b)) main_v8 _ = _
  simp only [hostOps0]
  after_results
  pointwise

/-- The new values, pair by pair. -/
theorem vn_at (c : Dev nD) (p : Fin 24) (d : Fin 160) :
    (V m c main_v9 : S24x1x160.Idx → F .bf16) (ix3 p 0 d) = (m ((c : Thread nD τ).loc main_arg2) : S4x1x6x160.Idx → F .bf16) (ix4 (pS p) 0 (pH p) d) := by
  show StableHlo.after hostOps0 (fun b => m (c, b)) main_v9 _ = _
  simp only [hostOps0]
  after_results
  pointwise

/-- The scales, pair by pair. -/
theorem vs_at (c : Dev nD) (p : Fin 24) (d : Fin 160) :
    (V m c main_v10 : S24x1x160.Idx → F .f32) (ix3 p 0 d) = (m ((c : Thread nD τ).loc main_arg5) : S4x6x160.Idx → F .f32) (ix3 (pS p) (pH p) d) := by
  show StableHlo.after hostOps0 (fun b => m (c, b)) main_v10 _ = _
  simp only [hostOps0]
  after_results
  pointwise

/-- The new values, heads first. -/
theorem v_at (c : Dev nD) (j : S6x4x160.Idx) :
    (V m c main_v12 : S6x4x160.Idx → F .bf16) j = (m ((c : Thread nD τ).loc main_arg2) : S4x1x6x160.Idx → F .bf16) (ix4 (j 1) 0 (j 0) (j 2)) := by
  show StableHlo.after hostOps0 (fun b => m (c, b)) main_v12 _ = _
  simp only [hostOps0]
  after_results
  pointwise

/-- The scales, heads first. -/
theorem s_at (c : Dev nD) (j : S6x4x160.Idx) :
    (V m c main_v13 : S6x4x160.Idx → F .f32) j = (m ((c : Thread nD τ).loc main_arg5) : S4x6x160.Idx → F .f32) (ix3 (j 1) (j 0) (j 2)) := by
  show StableHlo.after hostOps0 (fun b => m (c, b)) main_v13 _ = _
  simp only [hostOps0]
  after_results
  pointwise

/-- The one grid point. -/
def t0 : Fin cfg0.N := ⟨0, by show 0 < grid0.N; decide +kernel⟩

/-- A block is its whole operand. -/
theorem iblk0_at (c : Dev nD) (j : S24x8x160.Idx) : (iblk m c 0 t0 : S24x8x160.Idx → F .bf16) j = (V m c main_v0 : S24x8x160.Idx → F .bf16) j := by
  have hi : ∀ a, (cfg0.win 0).index t0 a = 0 := (by decide +kernel : ∀ a, win0_0.index t0 a = 0)
  unfold iblk
  refine congrArg (V m c main_v0 : S24x8x160.Idx → F .bf16) (funext fun a => Fin.ext ?_)
  fin_cases a <;> (blk_simp [hi]; first | rfl | done | omega)

/-- A block is its whole operand. -/
theorem iblk1_at (c : Dev nD) (j : S24x32768x160.Idx) : (iblk m c 1 t0 : S24x32768x160.Idx → F .bf16) j = (V m c main_v2 : S24x32768x160.Idx → F .bf16) j := by
  have hi : ∀ a, (cfg0.win 1).index t0 a = 0 := (by decide +kernel : ∀ a, win0_1.index t0 a = 0)
  unfold iblk
  refine congrArg (V m c main_v2 : S24x32768x160.Idx → F .bf16) (funext fun a => Fin.ext ?_)
  fin_cases a <;> (blk_simp [hi]; first | rfl | done | omega)

/-- A block is its whole operand. -/
theorem iblk2_at (c : Dev nD) (j : S24x32768x160.Idx) : (iblk m c 2 t0 : S24x32768x160.Idx → F .fp8e4m3) j = (V m c main_v4 : S24x32768x160.Idx → F .fp8e4m3) j := by
  have hi : ∀ a, (cfg0.win 2).index t0 a = 0 := (by decide +kernel : ∀ a, win0_2.index t0 a = 0)
  unfold iblk
  refine congrArg (V m c main_v4 : S24x32768x160.Idx → F .fp8e4m3) (funext fun a => Fin.ext ?_)
  fin_cases a <;> (blk_simp [hi]; first | rfl | done | omega)

/-- A block is its whole operand. -/
theorem iblk3_at (c : Dev nD) (j : S24x1x1.Idx) : (iblk m c 3 t0 : S24x1x1.Idx → BitVec 32) j = (V m c main_v7 : S24x1x1.Idx → BitVec 32) j := by
  have hi : ∀ a, (cfg0.win 3).index t0 a = 0 := (by decide +kernel : ∀ a, win0_3.index t0 a = 0)
  unfold iblk
  refine congrArg (V m c main_v7 : S24x1x1.Idx → BitVec 32) (funext fun a => Fin.ext ?_)
  fin_cases a <;> (blk_simp [hi]; first | rfl | done | omega)

/-- A block is its whole operand. -/
theorem iblk4_at (c : Dev nD) (j : S24x1x160.Idx) : (iblk m c 4 t0 : S24x1x160.Idx → F .bf16) j = (V m c main_v8 : S24x1x160.Idx → F .bf16) j := by
  have hi : ∀ a, (cfg0.win 4).index t0 a = 0 := (by decide +kernel : ∀ a, win0_4.index t0 a = 0)
  unfold iblk
  refine congrArg (V m c main_v8 : S24x1x160.Idx → F .bf16) (funext fun a => Fin.ext ?_)
  fin_cases a <;> (blk_simp [hi]; first | rfl | done | omega)

/-- A block is its whole operand. -/
theorem iblk5_at (c : Dev nD) (j : S24x1x160.Idx) : (iblk m c 5 t0 : S24x1x160.Idx → F .bf16) j = (V m c main_v9 : S24x1x160.Idx → F .bf16) j := by
  have hi : ∀ a, (cfg0.win 5).index t0 a = 0 := (by decide +kernel : ∀ a, win0_5.index t0 a = 0)
  unfold iblk
  refine congrArg (V m c main_v9 : S24x1x160.Idx → F .bf16) (funext fun a => Fin.ext ?_)
  fin_cases a <;> (blk_simp [hi]; first | rfl | done | omega)

/-- A block is its whole operand. -/
theorem iblk6_at (c : Dev nD) (j : S24x1x160.Idx) : (iblk m c 6 t0 : S24x1x160.Idx → F .f32) j = (V m c main_v10 : S24x1x160.Idx → F .f32) j := by
  have hi : ∀ a, (cfg0.win 6).index t0 a = 0 := (by decide +kernel : ∀ a, win0_6.index t0 a = 0)
  unfold iblk
  refine congrArg (V m c main_v10 : S24x1x160.Idx → F .f32) (funext fun a => Fin.ext ?_)
  fin_cases a <;> (blk_simp [hi]; first | rfl | done | omega)

/-- A block is its whole operand. -/
theorem iblk7_at (c : Dev nD) (j : S6x4x160.Idx) : (iblk m c 7 t0 : S6x4x160.Idx → F .bf16) j = (V m c main_v12 : S6x4x160.Idx → F .bf16) j := by
  have hi : ∀ a, (cfg0.win 7).index t0 a = 0 := (by decide +kernel : ∀ a, win0_7.index t0 a = 0)
  unfold iblk
  refine congrArg (V m c main_v12 : S6x4x160.Idx → F .bf16) (funext fun a => Fin.ext ?_)
  fin_cases a <;> (blk_simp [hi]; first | rfl | done | omega)

/-- A block is its whole operand. -/
theorem iblk8_at (c : Dev nD) (j : S6x4x160.Idx) : (iblk m c 8 t0 : S6x4x160.Idx → F .f32) j = (V m c main_v13 : S6x4x160.Idx → F .f32) j := by
  have hi : ∀ a, (cfg0.win 8).index t0 a = 0 := (by decide +kernel : ∀ a, win0_8.index t0 a = 0)
  unfold iblk
  refine congrArg (V m c main_v13 : S6x4x160.Idx → F .f32) (funext fun a => Fin.ext ?_)
  fin_cases a <;> (blk_simp [hi]; first | rfl | done | omega)

section Attend

/-- The blocks, as what the pairs are given. -/
structure Rk (E : Env) (x0 : S24x8x160.Idx → EReal) (x1 : S24x32768x160.Idx → EReal) (x2 : S24x32768x160.Idx → EReal) (x3 : S24x1x1.Idx → BitVec 32) (x4 : S24x1x160.Idx → EReal) (x5 : S24x1x160.Idx → EReal) (x6 : S24x1x160.Idx → EReal) : Prop where
  q : ∀ p r d, x0 (ix3 p r d) = E.q p r d
  k : ∀ p x d, x1 (ix3 p x d) = E.k p d x
  v : ∀ p x d, x2 (ix3 p x d) = E.v p d x
  n : ∀ p, lenOf (x3 (ix3 p 0 0)) = E.L p
  kn : ∀ p d, x4 (ix3 p 0 d) = E.kn p d
  vd : ∀ p d, codeE (x5 (ix3 p 0 d)) (x6 (ix3 p 0 d)) * x6 (ix3 p 0 d) = E.vd p d
  vs : ∀ p d, x6 (ix3 p 0 d) = E.vs p d

variable {E : Env} {x0 : S24x8x160.Idx → EReal} {x1 : S24x32768x160.Idx → EReal} {x2 : S24x32768x160.Idx → EReal} {x3 : S24x1x1.Idx → BitVec 32} {x4 : S24x1x160.Idx → EReal} {x5 : S24x1x160.Idx → EReal} {x6 : S24x1x160.Idx → EReal} (R : Rk E x0 x1 x2 x3 x4 x5 x6)

theorem p4_at (x0 : S24x8x160.Idx → EReal) (x1 : S24x32768x160.Idx → EReal) (x3 : S24x1x1.Idx → BitVec 32) (p : Fin 24) (r : Fin 8) (x : Fin 32768) :
    k0_pay4 (F := Ideal) x0 x1 x3 (ix3 p r x) = Scalar.select (Scalar.cmpi .slt (BitVec.ofNat 32 x.val) (x3 (ix3 p 0 0))) ((∑ d, x0 (ix3 p r d) * x1 (ix3 p x d)) * cS) ⊥ := by
  rw [← bits_bot]
  unfold k0_pay4 k0_pay3
  pointwise
  try rfl

theorem p5_at (x0 : S24x8x160.Idx → EReal) (x4 : S24x1x160.Idx → EReal) (p : Fin 24) (r : Fin 8) :
    k0_pay5 (F := Ideal) x0 x4 (ix3 p r 0) = (∑ d, x0 (ix3 p r d) * x4 (ix3 p 0 d)) * cS := by
  unfold k0_pay5 k0_pay3
  pointwise

theorem p6f_at (a : S24x8x32768.Idx → EReal) (p : Fin 24) (r : Fin 8) :
    multiReduction (F := Ideal) (φ := .f32) .maximumf [2] S24x8 a 0xFF800000#32 reduces_S24x8x32768_S24x8 (.inl rfl) rfl (ix2 p r) = Finset.univ.fold max (Ideal.ofBits .f32 0xFF800000#32) fun x : Fin 32768 => a (ix3 p r x) := by
  pointwise

theorem p6s_at (a : S24x8x32768.Idx → EReal) (p : Fin 24) (r : Fin 8) :
    multiReduction (F := Ideal) (φ := .f32) .maximumf [2] S24x8 a 0xFF800000#32 reduces_S24x8x32768_S24x8 (.inl rfl) rfl (ix2 p r) = Finset.univ.sup fun x : Fin 32768 => a (ix3 p r x) :=
  (p6f_at a p r).trans ((congrArg (fun b => Finset.univ.fold max b fun x : Fin 32768 => a (ix3 p r x)) bits_bot).trans (fold_sup _))

theorem p6m_at (u : S24x8.Idx → EReal) (b : S24x8x1.Idx → EReal) (p : Fin 24) (r : Fin 8) :
    maximumf (F := Ideal) (φ := .f32) (shapeCast S24x8x1 u shapeCasts_S24x8_S24x8x1) b (ix3 p r 0) = max (u (ix2 p r)) (b (ix3 p r 0)) := by
  pointwise

theorem p6_at (x0 : S24x8x160.Idx → EReal) (x1 : S24x32768x160.Idx → EReal) (x3 : S24x1x1.Idx → BitVec 32) (x4 : S24x1x160.Idx → EReal) (p : Fin 24) (r : Fin 8) :
    k0_pay6 (F := Ideal) x0 x1 x3 x4 (ix3 p r 0) = max (Finset.univ.sup fun x : Fin 32768 => k0_pay4 (F := Ideal) x0 x1 x3 (ix3 p r x)) (k0_pay5 (F := Ideal) x0 x4 (ix3 p r 0)) :=
  (p6m_at (multiReduction (F := Ideal) (φ := .f32) .maximumf [2] S24x8 (k0_pay4 (F := Ideal) x0 x1 x3) 0xFF800000#32 reduces_S24x8x32768_S24x8 (.inl rfl) rfl) (k0_pay5 (F := Ideal) x0 x4) p r).trans
    (congrArg (fun y => max y (k0_pay5 (F := Ideal) x0 x4 (ix3 p r 0))) (p6s_at (k0_pay4 (F := Ideal) x0 x1 x3) p r))

theorem p7_at (x0 : S24x8x160.Idx → EReal) (x1 : S24x32768x160.Idx → EReal) (x3 : S24x1x1.Idx → BitVec 32) (x4 : S24x1x160.Idx → EReal) (p : Fin 24) (r : Fin 8) (x : Fin 32768) :
    k0_pay7 (F := Ideal) x0 x1 x3 x4 (ix3 p r x) = Ideal.exp (k0_pay4 (F := Ideal) x0 x1 x3 (ix3 p r x) - k0_pay6 (F := Ideal) x0 x1 x3 x4 (ix3 p r 0)) := by
  unfold k0_pay7
  generalize k0_pay4 (F := Ideal) x0 x1 x3 = a
  generalize k0_pay6 (F := Ideal) x0 x1 x3 x4 = b
  pointwise

theorem p8_at (x0 : S24x8x160.Idx → EReal) (x1 : S24x32768x160.Idx → EReal) (x3 : S24x1x1.Idx → BitVec 32) (x4 : S24x1x160.Idx → EReal) (p : Fin 24) (r : Fin 8) :
    k0_pay8 (F := Ideal) x0 x1 x3 x4 (ix3 p r 0) = Ideal.exp (k0_pay5 (F := Ideal) x0 x4 (ix3 p r 0) - k0_pay6 (F := Ideal) x0 x1 x3 x4 (ix3 p r 0)) := by
  unfold k0_pay8
  generalize k0_pay5 (F := Ideal) x0 x4 = a
  generalize k0_pay6 (F := Ideal) x0 x1 x3 x4 = b
  pointwise

theorem p9_at (x0 : S24x8x160.Idx → EReal) (x1 : S24x32768x160.Idx → EReal) (x3 : S24x1x1.Idx → BitVec 32) (x4 : S24x1x160.Idx → EReal) (p : Fin 24) (r : Fin 8) :
    k0_pay9 (F := Ideal) x0 x1 x3 x4 (ix3 p r 0) = (∑ x : Fin 32768, k0_pay7 (F := Ideal) x0 x1 x3 x4 (ix3 p r x)) + k0_pay8 (F := Ideal) x0 x1 x3 x4 (ix3 p r 0) := by
  unfold k0_pay9
  generalize k0_pay7 (F := Ideal) x0 x1 x3 x4 = a
  generalize k0_pay8 (F := Ideal) x0 x1 x3 x4 = b
  pointwise

theorem p10_at (v1 : S24x1x160.Idx → EReal) (w : S24x8x32768.Idx → EReal) (l : S24x8x1.Idx → EReal) (v : S24x32768x160.Idx → EReal) (p : Fin 24) (r : Fin 8) (d : Fin 160) :
    k0_pay10 (F := Ideal) v1 w l cP v (ix3 p r d) = Ideal.div ((∑ x : Fin 32768, min (w (ix3 p r x) * cP) cP * v (ix3 p x d)) * cI * v1 (ix3 p 0 d)) (l (ix3 p r 0)) := by
  unfold k0_pay10
  pointwise

theorem p11_at (v1 : S24x1x160.Idx → EReal) (w : S24x8x32768.Idx → EReal) (e l : S24x8x1.Idx → EReal) (v : S24x32768x160.Idx → EReal) (u : S24x1x160.Idx → EReal) (p : Fin 24) (r : Fin 8) (d : Fin 160) :
    k0_pay11 (F := Ideal) v1 w e l cP v u (ix3 p r d) = k0_pay10 (F := Ideal) v1 w l cP v (ix3 p r d)
      + Ideal.div (e (ix3 p r 0) * (codeE (u (ix3 p 0 d)) (v1 (ix3 p 0 d)) * v1 (ix3 p 0 d))) (l (ix3 p r 0)) := by
  unfold k0_pay11 codeE
  generalize k0_pay10 (F := Ideal) v1 w l cP v = o
  pointwise

include R

theorem r4 (p : Fin 24) (r : Fin 8) (x : Fin 32768) : k0_pay4 (F := Ideal) x0 x1 x3 (ix3 p r x) = E.Sc p r x.val := by
  rw [p4_at, mask_len, R.n]
  unfold Env.Sc
  rw [show px x.val = x from Fin.ext (Nat.mod_eq_of_lt x.isLt)]
  simp only [R.q, R.k]

theorem r5 (p : Fin 24) (r : Fin 8) : k0_pay5 (F := Ideal) x0 x4 (ix3 p r 0) = E.N p r := by
  rw [p5_at]
  unfold Env.N
  simp only [R.q, R.kn]

theorem r6 (p : Fin 24) (r : Fin 8) : k0_pay6 (F := Ideal) x0 x1 x3 x4 (ix3 p r 0) = E.M p r := by
  rw [p6_at, r5 R]
  unfold Env.M
  rw [← sup_fin]
  simp only [r4 R]

theorem r7 (p : Fin 24) (r : Fin 8) (x : Fin 32768) : k0_pay7 (F := Ideal) x0 x1 x3 x4 (ix3 p r x) = E.Ex p r x.val := by
  rw [p7_at, r4 R, r6 R]; rfl

theorem r8 (p : Fin 24) (r : Fin 8) : k0_pay8 (F := Ideal) x0 x1 x3 x4 (ix3 p r 0) = E.En p r := by
  rw [p8_at, r5 R, r6 R]; rfl

theorem r9 (p : Fin 24) (r : Fin 8) : k0_pay9 (F := Ideal) x0 x1 x3 x4 (ix3 p r 0) = E.Ls p r := by
  rw [p9_at, r8 R]
  unfold Env.Ls
  rw [Finset.sum_range (E.Ex p r)]
  simp only [r7 R]

theorem r10 (p : Fin 24) (r : Fin 8) (d : Fin 160) :
    k0_pay10 (F := Ideal) x6 (k0_pay7 (F := Ideal) x0 x1 x3 x4) (k0_pay9 (F := Ideal) x0 x1 x3 x4) cP x2 (ix3 p r d) = E.OC p r d := by
  rw [p10_at, r9 R, R.vs]
  unfold Env.OC Env.Ac
  rw [Finset.sum_range (fun x => E.Cw p r x * E.v p d (px x))]
  have e : ∀ x : Fin 32768, px x.val = x := fun x => Fin.ext (Nat.mod_eq_of_lt x.isLt)
  simp only [r7 R, R.v, e]
  rfl

theorem r11 (p : Fin 24) (r : Fin 8) (d : Fin 160) :
    k0_pay11 (F := Ideal) x6 (k0_pay7 (F := Ideal) x0 x1 x3 x4) (k0_pay8 (F := Ideal) x0 x1 x3 x4) (k0_pay9 (F := Ideal) x0 x1 x3 x4) cP x2 x5 (ix3 p r d) = E.OU p r d := by
  rw [p11_at, r10 R, r8 R, r9 R, R.vd]
  rfl

end Attend

theorem pay2_id (x : S24x1x160.Idx → EReal) : k0_pay2 (F := Ideal) x = x := by
  funext j
  unfold k0_pay2
  pointwise

/-- The result the body leaves. -/
theorem out9_eq (x0 : Vec Ideal S24x8x160 .bf16) (x1 : Vec Ideal S24x32768x160 .bf16) (x2 : Vec Ideal S24x32768x160 .fp8e4m3) (x3 : Vec Ideal S24x1x1 .i32) (x4 : Vec Ideal S24x1x160 .bf16) (x5 : Vec Ideal S24x1x160 .bf16) (x6 : Vec Ideal S24x1x160 .f32) (x7 : Vec Ideal S6x4x160 .bf16) (x8 : Vec Ideal S6x4x160 .f32) : out0_9 (F := Ideal) x0 x1 x2 x3 x4 x5 x6 x7 x8 = k0_pay11 (F := Ideal) x6 (k0_pay7 (F := Ideal) x0 x1 x3 x4) (k0_pay8 (F := Ideal) x0 x1 x3 x4) (k0_pay9 (F := Ideal) x0 x1 x3 x4) cP x2 x5 := by
  unfold out0_9 k0_pay15 k0_pay14 k0_pay13
  refine (View.canon_cons_unit_lit _ _ _ (by decide)).trans ?_
  rw [show View.ld x0 r0_1 = x0 from View.ld_unit_lit _ _ (by decide), show View.ld x1 r0_2 = x1 from View.ld_unit_lit _ _ (by decide), show View.ld x2 r0_2 = x2 from View.ld_unit_lit _ _ (by decide),
    show View.ld x3 r0_3 = x3 from View.ld_unit_lit _ _ (by decide), show View.ld x4 r0_0 = x4 from View.ld_unit_lit _ _ (by decide), show View.ld x5 r0_0 = x5 from View.ld_unit_lit _ _ (by decide),
    show View.ld x6 r0_0 = x6 from View.ld_unit_lit _ _ (by decide), pay2_id]
  rfl

/-- The cache's share the body leaves. -/
theorem out10_eq (x0 : Vec Ideal S24x8x160 .bf16) (x1 : Vec Ideal S24x32768x160 .bf16) (x2 : Vec Ideal S24x32768x160 .fp8e4m3) (x3 : Vec Ideal S24x1x1 .i32) (x4 : Vec Ideal S24x1x160 .bf16) (x5 : Vec Ideal S24x1x160 .bf16) (x6 : Vec Ideal S24x1x160 .f32) (x7 : Vec Ideal S6x4x160 .bf16) (x8 : Vec Ideal S6x4x160 .f32) : out0_10 (F := Ideal) x0 x1 x2 x3 x4 x5 x6 x7 x8 = k0_pay10 (F := Ideal) x6 (k0_pay7 (F := Ideal) x0 x1 x3 x4) (k0_pay9 (F := Ideal) x0 x1 x3 x4) cP x2 := by
  unfold out0_10 k0_pay15 k0_pay14 k0_pay13
  refine (View.canon_cons_unit_lit _ _ _ (by decide)).trans ?_
  rw [show View.ld x0 r0_1 = x0 from View.ld_unit_lit _ _ (by decide), show View.ld x1 r0_2 = x1 from View.ld_unit_lit _ _ (by decide), show View.ld x2 r0_2 = x2 from View.ld_unit_lit _ _ (by decide),
    show View.ld x3 r0_3 = x3 from View.ld_unit_lit _ _ (by decide), show View.ld x4 r0_0 = x4 from View.ld_unit_lit _ _ (by decide),
    show View.ld x6 r0_0 = x6 from View.ld_unit_lit _ _ (by decide), pay2_id]
  rfl

/-- An index is the index of its coordinates. -/
theorem ix11_id (j : S6x4x160.Idx) : Value.ix11_0 j = j := by
  funext a; fin_cases a <;> rfl

/-- The codes the body leaves, element by element. -/
theorem out11_at (x0 : Vec F S24x8x160 .bf16) (x1 : Vec F S24x32768x160 .bf16) (x2 : Vec F S24x32768x160 .fp8e4m3) (x3 : Vec F S24x1x1 .i32) (x4 : Vec F S24x1x160 .bf16) (x5 : Vec F S24x1x160 .bf16) (x6 : Vec F S24x1x160 .f32) (x7 : Vec F S6x4x160 .bf16) (x8 : Vec F S6x4x160 .f32) (j : S6x4x160.Idx) : out0_11 x0 x1 x2 x3 x4 x5 x6 x7 x8 j = Value.E11 x7 x8 j := by
  unfold out0_11
  rw [show View.ld x7 r0_4 = x7 from View.ld_unit_lit _ _ (by decide), show View.ld x8 r0_4 = x8 from View.ld_unit_lit _ _ (by decide)]
  exact Value.canon11_eq x7 x8 j

attribute [local irreducible] iblk out0_9 out0_10 out0_11

/-- The codes the reference leaves: the quotient of value and scale, clipped and rounded. -/
theorem codes_final (c : Dev nD) (j : S6x4x160.Idx) :
    ((dats m 0 c).arrAt 11 cfg0.N : S6x4x160.Idx → F .fp8e4m3) j
      = FloatOps.truncf .fp8e4m3 bitsLt_fp8e4m3_f32 (FloatOps.minimumf (Scalar.ofBits .f32 0x43E00000#32)
          (FloatOps.maximumf (Scalar.ofBits .f32 0xC3E00000#32) (FloatOps.divf (FloatOps.extf .f32 bitsLt_bf16_f32
            ((m ((c : Thread nD τ).loc main_arg2) : S4x1x6x160.Idx → F .bf16) (ix4 (j 1) 0 (j 0) (j 2))))
            ((m ((c : Thread nD τ).loc main_arg5) : S4x6x160.Idx → F .f32) (ix3 (j 1) (j 0) (j 2)))))) := by
  have e0 := (iblk7_at m c (Value.ix11_0 j)).trans ((congrArg (V m c main_v12 : S6x4x160.Idx → F .bf16) (ix11_id j)).trans (v_at m c j))
  have e1 := (iblk8_at m c (Value.ix11_1 j)).trans ((congrArg (V m c main_v13 : S6x4x160.Idx → F .f32) (ix11_id j)).trans (s_at m c j))
  rw [← e0, ← e1]
  refine ((dats m 0 c).arrAt_emb_eq_after_last 11 t0 (by decide +kernel : win0_11.WholeAt t0) j).trans ?_
  rw [after0_11]
  exact out11_at _ _ _ _ _ _ _ _ _ j

section Final

variable (m : (ℓ : Loc nD τ sig) → Buf (Elt Ideal) ℓ)

/-- What the pairs are given, from the reference's arguments. -/
def env (c : Dev nD) : Env := envArg (fun b i => (m ((c : Thread nD τ).loc main_arg0) : S4x1x7680.Idx → EReal) (ix3 b 0 i))
  (fun b g d => (m ((c : Thread nD τ).loc main_arg1) : S4x1x6x160.Idx → EReal) (ix4 b 0 g d)) (fun b g d => (m ((c : Thread nD τ).loc main_arg2) : S4x1x6x160.Idx → EReal) (ix4 b 0 g d))
  (fun b t g d => (m ((c : Thread nD τ).loc main_arg3) : S4x32768x6x160.Idx → EReal) (ix4 b t g d)) (fun b t g d => (m ((c : Thread nD τ).loc main_arg4) : S4x32768x6x160.Idx → EReal) (ix4 b t g d))
  (fun b g d => (m ((c : Thread nD τ).loc main_arg5) : S4x6x160.Idx → EReal) (ix3 b g d)) (fun b => (m ((c : Thread nD τ).loc main_arg6) : S4.Idx → BitVec 32) (ix1 b))

theorem rk (c : Dev nD) : Rk (env m c) (iblk (F := Ideal) m c 0 t0) (iblk (F := Ideal) m c 1 t0) (iblk (F := Ideal) m c 2 t0) (iblk (F := Ideal) m c 3 t0) (iblk (F := Ideal) m c 4 t0) (iblk (F := Ideal) m c 5 t0) (iblk (F := Ideal) m c 6 t0) where
  q p r d := (iblk0_at m c _).trans (kq_at m c p r d)
  k p x d := (iblk1_at m c _).trans (kk_at m c p d x)
  v p x d := (iblk2_at m c _).trans (kv_at m c p d x)
  n p := congrArg lenOf ((iblk3_at m c _).trans (n_at m c p))
  kn p d := (iblk4_at m c _).trans (kn_at m c p d)
  vd p d := congrArg₂ (fun a b => codeE a b * b) ((iblk5_at m c _).trans (vn_at m c p d)) ((iblk6_at m c _).trans (vs_at m c p d))
  vs p d := (iblk6_at m c _).trans (vs_at m c p d)

theorem ix3_self (j : S24x8x160.Idx) : (ix3 (j 0) (j 1) (j 2) : S24x8x160.Idx) = j := by
  funext a; fin_cases a <;> rfl

/-- The attention with the new token, as the reference leaves it. -/
theorem out_final (c : Dev nD) (j : S24x8x160.Idx) : ((dats (F := Ideal) m 0 c).arrAt 9 cfg0.N : S24x8x160.Idx → EReal) j = (env m c).OU (j 0) (j 1) (j 2) := by
  refine ((dats m 0 c).arrAt_emb_eq_after_last 9 t0 (by decide +kernel : win0_9.WholeAt t0) j).trans ?_
  rw [after0_9]
  refine (congrFun (out9_eq _ _ _ _ _ _ _ _ _) j).trans ?_
  exact (congrArg _ (ix3_self j).symm).trans (r11 (rk m c) (j 0) (j 1) (j 2))

/-- The cache's share of it, as the reference leaves it. -/
theorem outc_final (c : Dev nD) (j : S24x8x160.Idx) : ((dats (F := Ideal) m 0 c).arrAt 10 cfg0.N : S24x8x160.Idx → EReal) j = (env m c).OC (j 0) (j 1) (j 2) := by
  refine ((dats m 0 c).arrAt_emb_eq_after_last 10 t0 (by decide +kernel : win0_10.WholeAt t0) j).trans ?_
  rw [after0_10]
  refine (congrFun (out10_eq _ _ _ _ _ _ _ _ _) j).trans ?_
  exact (congrArg _ (ix3_self j).symm).trans (r10 (rk m c) (j 0) (j 1) (j 2))

end Final

end Cert.ReferenceIdeal.Hand
-- ==== Proof.lean ====
module

public import proofs.«01_k».proof.Defs
public import proofs.«01_k».proof.Proof.K.Frame
public import proofs.«01_k».proof.Proof.KI.Codes
public import proofs.«01_k».proof.Proof.RefCodes
public import proofs.«01_k».proof.Proof.Gen.ReferenceIdeal
public import proofs.«01_k».proof.Proof.Gen.ReferenceIdeal.Value
public import Idealize.ShloMosaic.Adequacy
public import Idealize.ShloMosaic.Init

@[expose] public section

noncomputable section

namespace Cert.Proof

open Idealize.ShloMosaic Idealize.ShloMosaic.TcCoe Idealize.SL.Sem

/-- Kernel and reference leave the same results. -/
theorem algebraic : Cert.algebraic_KernelIdeal_ReferenceIdeal (hKernelIdeal := Cert.KernelIdeal.Gen.facts)
    (hReferenceIdeal := Cert.ReferenceIdeal.Gen.facts) := by
  intro m g m' g' _ hm
  refine ⟨Cert.KernelIdeal.Hand.resU m, Cert.KernelIdeal.Hand.resC m, Cert.KernelIdeal.Hand.codesOf (F := Ideal) m, Cert.KernelIdeal.Hand.run_results m g, ?_⟩
  have he : ∀ c, Cert.ReferenceIdeal.Hand.env m' c = Cert.KernelIdeal.Hand.env m c := by
    intro c
    obtain ⟨h0, h1, h2, h3, h4, h5, h6⟩ := hm c
    unfold Cert.ReferenceIdeal.Hand.env
    rw [h0, h1, h2, h3, h4, h5, h6]
    rfl
  refine (θ_run _ _ _).mono (fun r h c => ⟨?_, ?_, ?_, (h c).2.2.2⟩) (Cert.ReferenceIdeal.Value.run_blocks (F := Ideal) m' g')
  · refine (h c).1.trans (funext fun j => (Cert.ReferenceIdeal.Hand.out_final m' c j).trans ?_)
    rw [he]
    rfl
  · refine (h c).2.1.trans (funext fun j => (Cert.ReferenceIdeal.Hand.outc_final m' c j).trans ?_)
    rw [he]
    rfl
  · refine (h c).2.2.1.trans (funext fun j => (Cert.ReferenceIdeal.Hand.codes_final (F := Ideal) m' c j).trans ?_)
    rw [(hm c).2.2.1, (hm c).2.2.2.2.2.1]
    rfl

theorem claim : Cert.Claim := ⟨Cert.Kernel.Gen.facts, Cert.KernelIdeal.Gen.facts, Cert.ReferenceIdeal.Gen.facts,
  fun m g _ => Cert.Kernel.Hand.frame (F := Bits) m g,
  fun m g _ => Cert.KernelIdeal.Hand.frame m g,
  fun m g _ => Cert.ReferenceIdeal.Gen.frame m g,
  trivial, algebraic⟩

end Cert.Proof

end
